-- ==== Defs.lean ====
def Pre_BranchBwd (m : (ℓ : Loc Cert.BranchBwd.nD Cert.BranchBwd.τ Cert.BranchBwd.sig) → Buf (Elt Bits) ℓ) : Prop :=
  True

def Pre_BranchBwdIdeal (m : (ℓ : Loc Cert.BranchBwdIdeal.nD Cert.BranchBwdIdeal.τ Cert.BranchBwdIdeal.sig) → Buf (Elt Ideal) ℓ) : Prop :=
  True

def Pre_BranchBwdIdeal_finite_branch [hPre_finite_branch : Cert.Pre_finite_branch.Facts] (m : (ℓ : Loc Cert.BranchBwdIdeal.nD Cert.BranchBwdIdeal.τ Cert.BranchBwdIdeal.sig) → Buf (Elt Ideal) ℓ) : Prop :=
  ∀ c : Dev Cert.BranchBwdIdeal.nD,
    (Cert.Pre_finite_branch.fn (F := Ideal) (m ((c.tc : Thread Cert.BranchBwdIdeal.nD Cert.BranchBwdIdeal.τ).loc Cert.BranchBwdIdeal.main_arg0)) (m ((c.tc : Thread Cert.BranchBwdIdeal.nD Cert.BranchBwdIdeal.τ).loc Cert.BranchBwdIdeal.main_arg1)) (m ((c.tc : Thread Cert.BranchBwdIdeal.nD Cert.BranchBwdIdeal.τ).loc Cert.BranchBwdIdeal.main_arg2)) (m ((c.tc : Thread Cert.BranchBwdIdeal.nD Cert.BranchBwdIdeal.τ).loc Cert.BranchBwdIdeal.main_arg3)) (m ((c.tc : Thread Cert.BranchBwdIdeal.nD Cert.BranchBwdIdeal.τ).loc Cert.BranchBwdIdeal.main_arg4)) (m ((c.tc : Thread Cert.BranchBwdIdeal.nD Cert.BranchBwdIdeal.τ).loc Cert.BranchBwdIdeal.main_arg5)) (m ((c.tc : Thread Cert.BranchBwdIdeal.nD Cert.BranchBwdIdeal.τ).loc Cert.BranchBwdIdeal.main_arg6)) (m ((c.tc : Thread Cert.BranchBwdIdeal.nD Cert.BranchBwdIdeal.τ).loc Cert.BranchBwdIdeal.main_arg7)) (m ((c.tc : Thread Cert.BranchBwdIdeal.nD Cert.BranchBwdIdeal.τ).loc Cert.BranchBwdIdeal.main_arg8))) = (fun _ => 1#1)

def Pre_BranchBwdRefIdeal (m : (ℓ : Loc Cert.BranchBwdRefIdeal.nD Cert.BranchBwdRefIdeal.τ Cert.BranchBwdRefIdeal.sig) → Buf (Elt Ideal) ℓ) : Prop :=
  True

def Pre_BranchBwdRefIdeal_finite_branch [hPre_finite_branch : Cert.Pre_finite_branch.Facts] (m : (ℓ : Loc Cert.BranchBwdRefIdeal.nD Cert.BranchBwdRefIdeal.τ Cert.BranchBwdRefIdeal.sig) → Buf (Elt Ideal) ℓ) : Prop :=
  ∀ c : Dev Cert.BranchBwdRefIdeal.nD,
    (Cert.Pre_finite_branch.fn (F := Ideal) (m ((c.tc : Thread Cert.BranchBwdRefIdeal.nD Cert.BranchBwdRefIdeal.τ).loc Cert.BranchBwdRefIdeal.main_arg0)) (m ((c.tc : Thread Cert.BranchBwdRefIdeal.nD Cert.BranchBwdRefIdeal.τ).loc Cert.BranchBwdRefIdeal.main_arg1)) (m ((c.tc : Thread Cert.BranchBwdRefIdeal.nD Cert.BranchBwdRefIdeal.τ).loc Cert.BranchBwdRefIdeal.main_arg2)) (m ((c.tc : Thread Cert.BranchBwdRefIdeal.nD Cert.BranchBwdRefIdeal.τ).loc Cert.BranchBwdRefIdeal.main_arg3)) (m ((c.tc : Thread Cert.BranchBwdRefIdeal.nD Cert.BranchBwdRefIdeal.τ).loc Cert.BranchBwdRefIdeal.main_arg4)) (m ((c.tc : Thread Cert.BranchBwdRefIdeal.nD Cert.BranchBwdRefIdeal.τ).loc Cert.BranchBwdRefIdeal.main_arg5)) (m ((c.tc : Thread Cert.BranchBwdRefIdeal.nD Cert.BranchBwdRefIdeal.τ).loc Cert.BranchBwdRefIdeal.main_arg6)) (m ((c.tc : Thread Cert.BranchBwdRefIdeal.nD Cert.BranchBwdRefIdeal.τ).loc Cert.BranchBwdRefIdeal.main_arg7)) (m ((c.tc : Thread Cert.BranchBwdRefIdeal.nD Cert.BranchBwdRefIdeal.τ).loc Cert.BranchBwdRefIdeal.main_arg8))) = (fun _ => 1#1)

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdRefIdeal (m : (ℓ : Loc Cert.MlpDownBwdRefIdeal.nD Cert.MlpDownBwdRefIdeal.τ Cert.MlpDownBwdRefIdeal.sig) → Buf (Elt Ideal) ℓ) : Prop :=
  True

def Pre_RmsTop (m : (ℓ : Loc Cert.RmsTop.nD Cert.RmsTop.τ Cert.RmsTop.sig) → Buf (Elt Bits) ℓ) : Prop :=
  True

def Pre_RmsTopIdeal (m : (ℓ : Loc Cert.RmsTopIdeal.nD Cert.RmsTopIdeal.τ Cert.RmsTopIdeal.sig) → Buf (Elt Ideal) ℓ) : Prop :=
  True

def Pre_RmsTopIdeal_finite_rms [hPre_finite_rms : Cert.Pre_finite_rms.Facts] (m : (ℓ : Loc Cert.RmsTopIdeal.nD Cert.RmsTopIdeal.τ Cert.RmsTopIdeal.sig) → Buf (Elt Ideal) ℓ) : Prop :=
  ∀ c : Dev Cert.RmsTopIdeal.nD,
    (Cert.Pre_finite_rms.fn (F := Ideal) (m ((c.tc : Thread Cert.RmsTopIdeal.nD Cert.RmsTopIdeal.τ).loc Cert.RmsTopIdeal.main_arg0)) (m ((c.tc : Thread Cert.RmsTopIdeal.nD Cert.RmsTopIdeal.τ).loc Cert.RmsTopIdeal.main_arg1)) (m ((c.tc : Thread Cert.RmsTopIdeal.nD Cert.RmsTopIdeal.τ).loc Cert.RmsTopIdeal.main_arg2))) = (fun _ => 1#1)

def Pre_RmsTopRefIdeal (m : (ℓ : Loc Cert.RmsTopRefIdeal.nD Cert.RmsTopRefIdeal.τ Cert.RmsTopRefIdeal.sig) → Buf (Elt Ideal) ℓ) : Prop :=
  True

def Pre_RmsTopRefIdeal_finite_rms [hPre_finite_rms : Cert.Pre_finite_rms.Facts] (m : (ℓ : Loc Cert.RmsTopRefIdeal.nD Cert.RmsTopRefIdeal.τ Cert.RmsTopRefIdeal.sig) → Buf (Elt Ideal) ℓ) : Prop :=
  ∀ c : Dev Cert.RmsTopRefIdeal.nD,
    (Cert.Pre_finite_rms.fn (F := Ideal) (m ((c.tc : Thread Cert.RmsTopRefIdeal.nD Cert.RmsTopRefIdeal.τ).loc Cert.RmsTopRefIdeal.main_arg0)) (m ((c.tc : Thread Cert.RmsTopRefIdeal.nD Cert.RmsTopRefIdeal.τ).loc Cert.RmsTopRefIdeal.main_arg1)) (m ((c.tc : Thread Cert.RmsTopRefIdeal.nD Cert.RmsTopRefIdeal.τ).loc Cert.RmsTopRefIdeal.main_arg2))) = (fun _ => 1#1)

def Pre_RmsPre (m : (ℓ : Loc Cert.RmsPre.nD Cert.RmsPre.τ Cert.RmsPre.sig) → Buf (Elt Bits) ℓ) : Prop :=
  True

def Pre_RmsPreIdeal (m : (ℓ : Loc Cert.RmsPreIdeal.nD Cert.RmsPreIdeal.τ Cert.RmsPreIdeal.sig) → Buf (Elt Ideal) ℓ) : Prop :=
  True

def Pre_RmsPreIdeal_finite_pre [hPre_finite_pre : Cert.Pre_finite_pre.Facts] (m : (ℓ : Loc Cert.RmsPreIdeal.nD Cert.RmsPreIdeal.τ Cert.RmsPreIdeal.sig) → Buf (Elt Ideal) ℓ) : Prop :=
  ∀ c : Dev Cert.RmsPreIdeal.nD,
    (Cert.Pre_finite_pre.fn (F := Ideal) (m ((c.tc : Thread Cert.RmsPreIdeal.nD Cert.RmsPreIdeal.τ).loc Cert.RmsPreIdeal.main_arg0)) (m ((c.tc : Thread Cert.RmsPreIdeal.nD Cert.RmsPreIdeal.τ).loc Cert.RmsPreIdeal.main_arg1)) (m ((c.tc : Thread Cert.RmsPreIdeal.nD Cert.RmsPreIdeal.τ).loc Cert.RmsPreIdeal.main_arg2)) (m ((c.tc : Thread Cert.RmsPreIdeal.nD Cert.RmsPreIdeal.τ).loc Cert.RmsPreIdeal.main_arg3)) (m ((c.tc : Thread Cert.RmsPreIdeal.nD Cert.RmsPreIdeal.τ).loc Cert.RmsPreIdeal.main_arg4)) (m ((c.tc : Thread Cert.RmsPreIdeal.nD Cert.RmsPreIdeal.τ).loc Cert.RmsPreIdeal.main_arg5))) = (fun _ => 1#1)

def Pre_RmsPreRefIdeal (m : (ℓ : Loc Cert.RmsPreRefIdeal.nD Cert.RmsPreRefIdeal.τ Cert.RmsPreRefIdeal.sig) → Buf (Elt Ideal) ℓ) : Prop :=
  True

def Pre_RmsPreRefIdeal_finite_pre [hPre_finite_pre : Cert.Pre_finite_pre.Facts] (m : (ℓ : Loc Cert.RmsPreRefIdeal.nD Cert.RmsPreRefIdeal.τ Cert.RmsPreRefIdeal.sig) → Buf (Elt Ideal) ℓ) : Prop :=
  ∀ c : Dev Cert.RmsPreRefIdeal.nD,
    (Cert.Pre_finite_pre.fn (F := Ideal) (m ((c.tc : Thread Cert.RmsPreRefIdeal.nD Cert.RmsPreRefIdeal.τ).loc Cert.RmsPreRefIdeal.main_arg0)) (m ((c.tc : Thread Cert.RmsPreRefIdeal.nD Cert.RmsPreRefIdeal.τ).loc Cert.RmsPreRefIdeal.main_arg1)) (m ((c.tc : Thread Cert.RmsPreRefIdeal.nD Cert.RmsPreRefIdeal.τ).loc Cert.RmsPreRefIdeal.main_arg2)) (m ((c.tc : Thread Cert.RmsPreRefIdeal.nD Cert.RmsPreRefIdeal.τ).loc Cert.RmsPreRefIdeal.main_arg3)) (m ((c.tc : Thread Cert.RmsPreRefIdeal.nD Cert.RmsPreRefIdeal.τ).loc Cert.RmsPreRefIdeal.main_arg4)) (m ((c.tc : Thread Cert.RmsPreRefIdeal.nD Cert.RmsPreRefIdeal.τ).loc Cert.RmsPreRefIdeal.main_arg5))) = (fun _ => 1#1)

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixIdeal_finite_mix [hPre_finite_mix : Cert.Pre_finite_mix.Facts] (m : (ℓ : Loc Cert.RmsMixIdeal.nD Cert.RmsMixIdeal.τ Cert.RmsMixIdeal.sig) → Buf (Elt Ideal) ℓ) : Prop :=
  ∀ c : Dev Cert.RmsMixIdeal.nD,
    (Cert.Pre_finite_mix.fn (F := Ideal) (m ((c.tc : Thread Cert.RmsMixIdeal.nD Cert.RmsMixIdeal.τ).loc Cert.RmsMixIdeal.main_arg0)) (m ((c.tc : Thread Cert.RmsMixIdeal.nD Cert.RmsMixIdeal.τ).loc Cert.RmsMixIdeal.main_arg1)) (m ((c.tc : Thread Cert.RmsMixIdeal.nD Cert.RmsMixIdeal.τ).loc Cert.RmsMixIdeal.main_arg2)) (m ((c.tc : Thread Cert.RmsMixIdeal.nD Cert.RmsMixIdeal.τ).loc Cert.RmsMixIdeal.main_arg3))) = (fun _ => 1#1)

def Pre_RmsMixRefIdeal (m : (ℓ : Loc Cert.RmsMixRefIdeal.nD Cert.RmsMixRefIdeal.τ Cert.RmsMixRefIdeal.sig) → Buf (Elt Ideal) ℓ) : Prop :=
  True

def Pre_RmsMixRefIdeal_finite_mix [hPre_finite_mix : Cert.Pre_finite_mix.Facts] (m : (ℓ : Loc Cert.RmsMixRefIdeal.nD Cert.RmsMixRefIdeal.τ Cert.RmsMixRefIdeal.sig) → Buf (Elt Ideal) ℓ) : Prop :=
  ∀ c : Dev Cert.RmsMixRefIdeal.nD,
    (Cert.Pre_finite_mix.fn (F := Ideal) (m ((c.tc : Thread Cert.RmsMixRefIdeal.nD Cert.RmsMixRefIdeal.τ).loc Cert.RmsMixRefIdeal.main_arg0)) (m ((c.tc : Thread Cert.RmsMixRefIdeal.nD Cert.RmsMixRefIdeal.τ).loc Cert.RmsMixRefIdeal.main_arg1)) (m ((c.tc : Thread Cert.RmsMixRefIdeal.nD Cert.RmsMixRefIdeal.τ).loc Cert.RmsMixRefIdeal.main_arg2)) (m ((c.tc : Thread Cert.RmsMixRefIdeal.nD Cert.RmsMixRefIdeal.τ).loc Cert.RmsMixRefIdeal.main_arg3))) = (fun _ => 1#1)

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemIdeal_finite_mem [hPre_finite_mem : Cert.Pre_finite_mem.Facts] (m : (ℓ : Loc Cert.RmsMemIdeal.nD Cert.RmsMemIdeal.τ Cert.RmsMemIdeal.sig) → Buf (Elt Ideal) ℓ) : Prop :=
  ∀ c : Dev Cert.RmsMemIdeal.nD,
    (Cert.Pre_finite_mem.fn (F := Ideal) (m ((c.tc : Thread Cert.RmsMemIdeal.nD Cert.RmsMemIdeal.τ).loc Cert.RmsMemIdeal.main_arg0)) (m ((c.tc : Thread Cert.RmsMemIdeal.nD Cert.RmsMemIdeal.τ).loc Cert.RmsMemIdeal.main_arg1)) (m ((c.tc : Thread Cert.RmsMemIdeal.nD Cert.RmsMemIdeal.τ).loc Cert.RmsMemIdeal.main_arg2))) = (fun _ => 1#1)

def Pre_RmsMemRefIdeal (m : (ℓ : Loc Cert.RmsMemRefIdeal.nD Cert.RmsMemRefIdeal.τ Cert.RmsMemRefIdeal.sig) → Buf (Elt Ideal) ℓ) : Prop :=
  True

def Pre_RmsMemRefIdeal_finite_mem [hPre_finite_mem : Cert.Pre_finite_mem.Facts] (m : (ℓ : Loc Cert.RmsMemRefIdeal.nD Cert.RmsMemRefIdeal.τ Cert.RmsMemRefIdeal.sig) → Buf (Elt Ideal) ℓ) : Prop :=
  ∀ c : Dev Cert.RmsMemRefIdeal.nD,
    (Cert.Pre_finite_mem.fn (F := Ideal) (m ((c.tc : Thread Cert.RmsMemRefIdeal.nD Cert.RmsMemRefIdeal.τ).loc Cert.RmsMemRefIdeal.main_arg0)) (m ((c.tc : Thread Cert.RmsMemRefIdeal.nD Cert.RmsMemRefIdeal.τ).loc Cert.RmsMemRefIdeal.main_arg1)) (m ((c.tc : Thread Cert.RmsMemRefIdeal.nD Cert.RmsMemRefIdeal.τ).loc Cert.RmsMemRefIdeal.main_arg2))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_RmsNorm (m : (ℓ : Loc Cert.RmsNorm.nD Cert.RmsNorm.τ Cert.RmsNorm.sig) → Buf (Elt Bits) ℓ) : Prop :=
  True

def Pre_RmsNormIdeal (m : (ℓ : Loc Cert.RmsNormIdeal.nD Cert.RmsNormIdeal.τ Cert.RmsNormIdeal.sig) → Buf (Elt Ideal) ℓ) : Prop :=
  True

def Pre_RmsNormRefIdeal (m : (ℓ : Loc Cert.RmsNormRefIdeal.nD Cert.RmsNormRefIdeal.τ Cert.RmsNormRefIdeal.sig) → Buf (Elt Ideal) ℓ) : Prop :=
  True

def Pre_ResNext (m : (ℓ : Loc Cert.ResNext.nD Cert.ResNext.τ Cert.ResNext.sig) → Buf (Elt Bits) ℓ) : Prop :=
  True

def Pre_ResNextIdeal (m : (ℓ : Loc Cert.ResNextIdeal.nD Cert.ResNextIdeal.τ Cert.ResNextIdeal.sig) → Buf (Elt Ideal) ℓ) : Prop :=
  True

def Pre_ResNextRefIdeal (m : (ℓ : Loc Cert.ResNextRefIdeal.nD Cert.ResNextRefIdeal.τ Cert.ResNextRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_BranchBwd [hBranchBwd : Cert.BranchBwd.Facts] : Prop :=
  ∀ (m : (ℓ : Loc Cert.BranchBwd.nD Cert.BranchBwd.τ Cert.BranchBwd.sig) → Buf (Elt Bits) ℓ) (g : Dev Cert.BranchBwd.nD → PrngReg), Pre_BranchBwd m →
    θ_run (Cert.BranchBwd.defs (F := Bits)) (onTc (τ := Cert.BranchBwd.τ) (Cert.BranchBwd.main (F := Bits))) ⟨m, fun _ => 0, g⟩ (fun r => (∀ c : Dev Cert.BranchBwd.nD,
      r.2.mem ((c.tc : Thread Cert.BranchBwd.nD Cert.BranchBwd.τ).loc Cert.BranchBwd.main_arg0) = m ((c.tc : Thread Cert.BranchBwd.nD Cert.BranchBwd.τ).loc Cert.BranchBwd.main_arg0)
      ∧ r.2.mem ((c.tc : Thread Cert.BranchBwd.nD Cert.BranchBwd.τ).loc Cert.BranchBwd.main_arg1) = m ((c.tc : Thread Cert.BranchBwd.nD Cert.BranchBwd.τ).loc Cert.BranchBwd.main_arg1)
      ∧ r.2.mem ((c.tc : Thread Cert.BranchBwd.nD Cert.BranchBwd.τ).loc Cert.BranchBwd.main_arg2) = m ((c.tc : Thread Cert.BranchBwd.nD Cert.BranchBwd.τ).loc Cert.BranchBwd.main_arg2)
      ∧ r.2.mem ((c.tc : Thread Cert.BranchBwd.nD Cert.BranchBwd.τ).loc Cert.BranchBwd.main_arg3) = m ((c.tc : Thread Cert.BranchBwd.nD Cert.BranchBwd.τ).loc Cert.BranchBwd.main_arg3)
      ∧ r.2.mem ((c.tc : Thread Cert.BranchBwd.nD Cert.BranchBwd.τ).loc Cert.BranchBwd.main_arg4) = m ((c.tc : Thread Cert.BranchBwd.nD Cert.BranchBwd.τ).loc Cert.BranchBwd.main_arg4)
      ∧ r.2.mem ((c.tc : Thread Cert.BranchBwd.nD Cert.BranchBwd.τ).loc Cert.BranchBwd.main_arg5) = m ((c.tc : Thread Cert.BranchBwd.nD Cert.BranchBwd.τ).loc Cert.BranchBwd.main_arg5)
      ∧ r.2.mem ((c.tc : Thread Cert.BranchBwd.nD Cert.BranchBwd.τ).loc Cert.BranchBwd.main_arg6) = m ((c.tc : Thread Cert.BranchBwd.nD Cert.BranchBwd.τ).loc Cert.BranchBwd.main_arg6)
      ∧ r.2.mem ((c.tc : Thread Cert.BranchBwd.nD Cert.BranchBwd.τ).loc Cert.BranchBwd.main_arg7) = m ((c.tc : Thread Cert.BranchBwd.nD Cert.BranchBwd.τ).loc Cert.BranchBwd.main_arg7)
      ∧ r.2.mem ((c.tc : Thread Cert.BranchBwd.nD Cert.BranchBwd.τ).loc Cert.BranchBwd.main_arg8) = m ((c.tc : Thread Cert.BranchBwd.nD Cert.BranchBwd.τ).loc Cert.BranchBwd.main_arg8))
      ∧ r.2.sem = fun _ => 0)

def quiescent_BranchBwdIdeal [hBranchBwdIdeal : Cert.BranchBwdIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1)
      ∧ r.2.mem ((c.tc : Thread Cert.BranchBwdIdeal.nD Cert.BranchBwdIdeal.τ).loc Cert.BranchBwdIdeal.main_arg2) = m ((c.tc : Thread Cert.BranchBwdIdeal.nD Cert.BranchBwdIdeal.τ).loc Cert.BranchBwdIdeal.main_arg2)
      ∧ r.2.mem ((c.tc : Thread Cert.BranchBwdIdeal.nD Cert.BranchBwdIdeal.τ).loc Cert.BranchBwdIdeal.main_arg3) = m ((c.tc : Thread Cert.BranchBwdIdeal.nD Cert.BranchBwdIdeal.τ).loc Cert.BranchBwdIdeal.main_arg3)
      ∧ r.2.mem ((c.tc : Thread Cert.BranchBwdIdeal.nD Cert.BranchBwdIdeal.τ).loc Cert.BranchBwdIdeal.main_arg4) = m ((c.tc : Thread Cert.BranchBwdIdeal.nD Cert.BranchBwdIdeal.τ).loc Cert.BranchBwdIdeal.main_arg4)
      ∧ r.2.mem ((c.tc : Thread Cert.BranchBwdIdeal.nD Cert.BranchBwdIdeal.τ).loc Cert.BranchBwdIdeal.main_arg5) = m ((c.tc : Thread Cert.BranchBwdIdeal.nD Cert.BranchBwdIdeal.τ).loc Cert.BranchBwdIdeal.main_arg5)
      ∧ r.2.mem ((c.tc : Thread Cert.BranchBwdIdeal.nD Cert.BranchBwdIdeal.τ).loc Cert.BranchBwdIdeal.main_arg6) = m ((c.tc : Thread Cert.BranchBwdIdeal.nD Cert.BranchBwdIdeal.τ).loc Cert.BranchBwdIdeal.main_arg6)
      ∧ r.2.mem ((c.tc : Thread Cert.BranchBwdIdeal.nD Cert.BranchBwdIdeal.τ).loc Cert.BranchBwdIdeal.main_arg7) = m ((c.tc : Thread Cert.BranchBwdIdeal.nD Cert.BranchBwdIdeal.τ).loc Cert.BranchBwdIdeal.main_arg7)
      ∧ r.2.mem ((c.tc : Thread Cert.BranchBwdIdeal.nD Cert.BranchBwdIdeal.τ).loc Cert.BranchBwdIdeal.main_arg8) = m ((c.tc : Thread Cert.BranchBwdIdeal.nD Cert.BranchBwdIdeal.τ).loc Cert.BranchBwdIdeal.main_arg8))
      ∧ r.2.sem = fun _ => 0)

def quiescent_BranchBwdIdeal_pre_finite_branch [hBranchBwdIdeal : Cert.BranchBwdIdeal.Facts] [hPre_finite_branch : Cert.Pre_finite_branch.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal_finite_branch m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1)
      ∧ r.2.mem ((c.tc : Thread Cert.BranchBwdIdeal.nD Cert.BranchBwdIdeal.τ).loc Cert.BranchBwdIdeal.main_arg2) = m ((c.tc : Thread Cert.BranchBwdIdeal.nD Cert.BranchBwdIdeal.τ).loc Cert.BranchBwdIdeal.main_arg2)
      ∧ r.2.mem ((c.tc : Thread Cert.BranchBwdIdeal.nD Cert.BranchBwdIdeal.τ).loc Cert.BranchBwdIdeal.main_arg3) = m ((c.tc : Thread Cert.BranchBwdIdeal.nD Cert.BranchBwdIdeal.τ).loc Cert.BranchBwdIdeal.main_arg3)
      ∧ r.2.mem ((c.tc : Thread Cert.BranchBwdIdeal.nD Cert.BranchBwdIdeal.τ).loc Cert.BranchBwdIdeal.main_arg4) = m ((c.tc : Thread Cert.BranchBwdIdeal.nD Cert.BranchBwdIdeal.τ).loc Cert.BranchBwdIdeal.main_arg4)
      ∧ r.2.mem ((c.tc : Thread Cert.BranchBwdIdeal.nD Cert.BranchBwdIdeal.τ).loc Cert.BranchBwdIdeal.main_arg5) = m ((c.tc : Thread Cert.BranchBwdIdeal.nD Cert.BranchBwdIdeal.τ).loc Cert.BranchBwdIdeal.main_arg5)
      ∧ r.2.mem ((c.tc : Thread Cert.BranchBwdIdeal.nD Cert.BranchBwdIdeal.τ).loc Cert.BranchBwdIdeal.main_arg6) = m ((c.tc : Thread Cert.BranchBwdIdeal.nD Cert.BranchBwdIdeal.τ).loc Cert.BranchBwdIdeal.main_arg6)
      ∧ r.2.mem ((c.tc : Thread Cert.BranchBwdIdeal.nD Cert.BranchBwdIdeal.τ).loc Cert.BranchBwdIdeal.main_arg7) = m ((c.tc : Thread Cert.BranchBwdIdeal.nD Cert.BranchBwdIdeal.τ).loc Cert.BranchBwdIdeal.main_arg7)
      ∧ r.2.mem ((c.tc : Thread Cert.BranchBwdIdeal.nD Cert.BranchBwdIdeal.τ).loc Cert.BranchBwdIdeal.main_arg8) = m ((c.tc : Thread Cert.BranchBwdIdeal.nD Cert.BranchBwdIdeal.τ).loc Cert.BranchBwdIdeal.main_arg8))
      ∧ r.2.sem = fun _ => 0)

def quiescent_BranchBwdRefIdeal [hBranchBwdRefIdeal : Cert.BranchBwdRefIdeal.Facts] : Prop :=
  ∀ (m : (ℓ : Loc Cert.BranchBwdRefIdeal.nD Cert.BranchBwdRefIdeal.τ Cert.BranchBwdRefIdeal.sig) → Buf (Elt Ideal) ℓ) (g : Dev Cert.BranchBwdRefIdeal.nD → PrngReg), Pre_BranchBwdRefIdeal m →
    θ_run (Cert.BranchBwdRefIdeal.defs (F := Ideal)) (onTc (τ := Cert.BranchBwdRefIdeal.τ) (Cert.BranchBwdRefIdeal.main (F := Ideal))) ⟨m, fun _ => 0, g⟩ (fun r => (∀ c : Dev Cert.BranchBwdRefIdeal.nD,
      r.2.mem ((c.tc : Thread Cert.BranchBwdRefIdeal.nD Cert.BranchBwdRefIdeal.τ).loc Cert.BranchBwdRefIdeal.main_arg0) = m ((c.tc : Thread Cert.BranchBwdRefIdeal.nD Cert.BranchBwdRefIdeal.τ).loc Cert.BranchBwdRefIdeal.main_arg0)
      ∧ r.2.mem ((c.tc : Thread Cert.BranchBwdRefIdeal.nD Cert.BranchBwdRefIdeal.τ).loc Cert.BranchBwdRefIdeal.main_arg1) = m ((c.tc : Thread Cert.BranchBwdRefIdeal.nD Cert.BranchBwdRefIdeal.τ).loc Cert.BranchBwdRefIdeal.main_arg1)
      ∧ r.2.mem ((c.tc : Thread Cert.BranchBwdRefIdeal.nD Cert.BranchBwdRefIdeal.τ).loc Cert.BranchBwdRefIdeal.main_arg2) = m ((c.tc : Thread Cert.BranchBwdRefIdeal.nD Cert.BranchBwdRefIdeal.τ).loc Cert.BranchBwdRefIdeal.main_arg2)
      ∧ r.2.mem ((c.tc : Thread Cert.BranchBwdRefIdeal.nD Cert.BranchBwdRefIdeal.τ).loc Cert.BranchBwdRefIdeal.main_arg3) = m ((c.tc : Thread Cert.BranchBwdRefIdeal.nD Cert.BranchBwdRefIdeal.τ).loc Cert.BranchBwdRefIdeal.main_arg3)
      ∧ r.2.mem ((c.tc : Thread Cert.BranchBwdRefIdeal.nD Cert.BranchBwdRefIdeal.τ).loc Cert.BranchBwdRefIdeal.main_arg4) = m ((c.tc : Thread Cert.BranchBwdRefIdeal.nD Cert.BranchBwdRefIdeal.τ).loc Cert.BranchBwdRefIdeal.main_arg4)
      ∧ r.2.mem ((c.tc : Thread Cert.BranchBwdRefIdeal.nD Cert.BranchBwdRefIdeal.τ).loc Cert.BranchBwdRefIdeal.main_arg5) = m ((c.tc : Thread Cert.BranchBwdRefIdeal.nD Cert.BranchBwdRefIdeal.τ).loc Cert.BranchBwdRefIdeal.main_arg5)
      ∧ r.2.mem ((c.tc : Thread Cert.BranchBwdRefIdeal.nD Cert.BranchBwdRefIdeal.τ).loc Cert.BranchBwdRefIdeal.main_arg6) = m ((c.tc : Thread Cert.BranchBwdRefIdeal.nD Cert.BranchBwdRefIdeal.τ).loc Cert.BranchBwdRefIdeal.main_arg6)
      ∧ r.2.mem ((c.tc : Thread Cert.BranchBwdRefIdeal.nD Cert.BranchBwdRefIdeal.τ).loc Cert.BranchBwdRefIdeal.main_arg7) = m ((c.tc : Thread Cert.BranchBwdRefIdeal.nD Cert.BranchBwdRefIdeal.τ).loc Cert.BranchBwdRefIdeal.main_arg7)
      ∧ r.2.mem ((c.tc : Thread Cert.BranchBwdRefIdeal.nD Cert.BranchBwdRefIdeal.τ).loc Cert.BranchBwdRefIdeal.main_arg8) = m ((c.tc : Thread Cert.BranchBwdRefIdeal.nD Cert.BranchBwdRefIdeal.τ).loc Cert.BranchBwdRefIdeal.main_arg8))
      ∧ r.2.sem = fun _ => 0)

def quiescent_BranchBwdRefIdeal_pre_finite_branch [hBranchBwdRefIdeal : Cert.BranchBwdRefIdeal.Facts] [hPre_finite_branch : Cert.Pre_finite_branch.Facts] : Prop :=
  ∀ (m : (ℓ : Loc Cert.BranchBwdRefIdeal.nD Cert.BranchBwdRefIdeal.τ Cert.BranchBwdRefIdeal.sig) → Buf (Elt Ideal) ℓ) (g : Dev Cert.BranchBwdRefIdeal.nD → PrngReg), Pre_BranchBwdRefIdeal_finite_branch m →
    θ_run (Cert.BranchBwdRefIdeal.defs (F := Ideal)) (onTc (τ := Cert.BranchBwdRefIdeal.τ) (Cert.BranchBwdRefIdeal.main (F := Ideal))) ⟨m, fun _ => 0, g⟩ (fun r => (∀ c : Dev Cert.BranchBwdRefIdeal.nD,
      r.2.mem ((c.tc : Thread Cert.BranchBwdRefIdeal.nD Cert.BranchBwdRefIdeal.τ).loc Cert.BranchBwdRefIdeal.main_arg0) = m ((c.tc : Thread Cert.BranchBwdRefIdeal.nD Cert.BranchBwdRefIdeal.τ).loc Cert.BranchBwdRefIdeal.main_arg0)
      ∧ r.2.mem ((c.tc : Thread Cert.BranchBwdRefIdeal.nD Cert.BranchBwdRefIdeal.τ).loc Cert.BranchBwdRefIdeal.main_arg1) = m ((c.tc : Thread Cert.BranchBwdRefIdeal.nD Cert.BranchBwdRefIdeal.τ).loc Cert.BranchBwdRefIdeal.main_arg1)
      ∧ r.2.mem ((c.tc : Thread Cert.BranchBwdRefIdeal.nD Cert.BranchBwdRefIdeal.τ).loc Cert.BranchBwdRefIdeal.main_arg2) = m ((c.tc : Thread Cert.BranchBwdRefIdeal.nD Cert.BranchBwdRefIdeal.τ).loc Cert.BranchBwdRefIdeal.main_arg2)
      ∧ r.2.mem ((c.tc : Thread Cert.BranchBwdRefIdeal.nD Cert.BranchBwdRefIdeal.τ).loc Cert.BranchBwdRefIdeal.main_arg3) = m ((c.tc : Thread Cert.BranchBwdRefIdeal.nD Cert.BranchBwdRefIdeal.τ).loc Cert.BranchBwdRefIdeal.main_arg3)
      ∧ r.2.mem ((c.tc : Thread Cert.BranchBwdRefIdeal.nD Cert.BranchBwdRefIdeal.τ).loc Cert.BranchBwdRefIdeal.main_arg4) = m ((c.tc : Thread Cert.BranchBwdRefIdeal.nD Cert.BranchBwdRefIdeal.τ).loc Cert.BranchBwdRefIdeal.main_arg4)
      ∧ r.2.mem ((c.tc : Thread Cert.BranchBwdRefIdeal.nD Cert.BranchBwdRefIdeal.τ).loc Cert.BranchBwdRefIdeal.main_arg5) = m ((c.tc : Thread Cert.BranchBwdRefIdeal.nD Cert.BranchBwdRefIdeal.τ).loc Cert.BranchBwdRefIdeal.main_arg5)
      ∧ r.2.mem ((c.tc : Thread Cert.BranchBwdRefIdeal.nD Cert.BranchBwdRefIdeal.τ).loc Cert.BranchBwdRefIdeal.main_arg6) = m ((c.tc : Thread Cert.BranchBwdRefIdeal.nD Cert.BranchBwdRefIdeal.τ).loc Cert.BranchBwdRefIdeal.main_arg6)
      ∧ r.2.mem ((c.tc : Thread Cert.BranchBwdRefIdeal.nD Cert.BranchBwdRefIdeal.τ).loc Cert.BranchBwdRefIdeal.main_arg7) = m ((c.tc : Thread Cert.BranchBwdRefIdeal.nD Cert.BranchBwdRefIdeal.τ).loc Cert.BranchBwdRefIdeal.main_arg7)
      ∧ r.2.mem ((c.tc : Thread Cert.BranchBwdRefIdeal.nD Cert.BranchBwdRefIdeal.τ).loc Cert.BranchBwdRefIdeal.main_arg8) = m ((c.tc : Thread Cert.BranchBwdRefIdeal.nD Cert.BranchBwdRefIdeal.τ).loc Cert.BranchBwdRefIdeal.main_arg8))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1)
      ∧ r.2.mem ((c.tc : Thread Cert.BranchFwd.nD Cert.BranchFwd.τ).loc Cert.BranchFwd.main_arg2) = m ((c.tc : Thread Cert.BranchFwd.nD Cert.BranchFwd.τ).loc Cert.BranchFwd.main_arg2)
      ∧ r.2.mem ((c.tc : Thread Cert.BranchFwd.nD Cert.BranchFwd.τ).loc Cert.BranchFwd.main_arg3) = m ((c.tc : Thread Cert.BranchFwd.nD Cert.BranchFwd.τ).loc Cert.BranchFwd.main_arg3)
      ∧ r.2.mem ((c.tc : Thread Cert.BranchFwd.nD Cert.BranchFwd.τ).loc Cert.BranchFwd.main_arg4) = m ((c.tc : Thread Cert.BranchFwd.nD Cert.BranchFwd.τ).loc Cert.BranchFwd.main_arg4)
      ∧ r.2.mem ((c.tc : Thread Cert.BranchFwd.nD Cert.BranchFwd.τ).loc Cert.BranchFwd.main_arg5) = m ((c.tc : Thread Cert.BranchFwd.nD Cert.BranchFwd.τ).loc Cert.BranchFwd.main_arg5)
      ∧ r.2.mem ((c.tc : Thread Cert.BranchFwd.nD Cert.BranchFwd.τ).loc Cert.BranchFwd.main_arg6) = m ((c.tc : Thread Cert.BranchFwd.nD Cert.BranchFwd.τ).loc Cert.BranchFwd.main_arg6))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
      ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
      ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
      ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4)
      ∧ r.2.mem ((c.tc : Thread Cert.BranchFwdIdeal.nD Cert.BranchFwdIdeal.τ).loc Cert.BranchFwdIdeal.main_arg5) = m ((c.tc : Thread Cert.BranchFwdIdeal.nD Cert.BranchFwdIdeal.τ).loc Cert.BranchFwdIdeal.main_arg5)
      ∧ r.2.mem ((c.tc : Thread Cert.BranchFwdIdeal.nD Cert.BranchFwdIdeal.τ).loc Cert.BranchFwdIdeal.main_arg6) = m ((c.tc : Thread Cert.BranchFwdIdeal.nD Cert.BranchFwdIdeal.τ).loc Cert.BranchFwdIdeal.main_arg6))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1)
      ∧ r.2.mem ((c.tc : Thread Cert.BranchFwdRefIdeal.nD Cert.BranchFwdRefIdeal.τ).loc Cert.BranchFwdRefIdeal.main_arg2) = m ((c.tc : Thread Cert.BranchFwdRefIdeal.nD Cert.BranchFwdRefIdeal.τ).loc Cert.BranchFwdRefIdeal.main_arg2)
      ∧ r.2.mem ((c.tc : Thread Cert.BranchFwdRefIdeal.nD Cert.BranchFwdRefIdeal.τ).loc Cert.BranchFwdRefIdeal.main_arg3) = m ((c.tc : Thread Cert.BranchFwdRefIdeal.nD Cert.BranchFwdRefIdeal.τ).loc Cert.BranchFwdRefIdeal.main_arg3)
      ∧ r.2.mem ((c.tc : Thread Cert.BranchFwdRefIdeal.nD Cert.BranchFwdRefIdeal.τ).loc Cert.BranchFwdRefIdeal.main_arg4) = m ((c.tc : Thread Cert.BranchFwdRefIdeal.nD Cert.BranchFwdRefIdeal.τ).loc Cert.BranchFwdRefIdeal.main_arg4)
      ∧ r.2.mem ((c.tc : Thread Cert.BranchFwdRefIdeal.nD Cert.BranchFwdRefIdeal.τ).loc Cert.BranchFwdRefIdeal.main_arg5) = m ((c.tc : Thread Cert.BranchFwdRefIdeal.nD Cert.BranchFwdRefIdeal.τ).loc Cert.BranchFwdRefIdeal.main_arg5)
      ∧ r.2.mem ((c.tc : Thread Cert.BranchFwdRefIdeal.nD Cert.BranchFwdRefIdeal.τ).loc Cert.BranchFwdRefIdeal.main_arg6) = m ((c.tc : Thread Cert.BranchFwdRefIdeal.nD Cert.BranchFwdRefIdeal.τ).loc Cert.BranchFwdRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ r.2.sem = fun _ => 0)

def quiescent_MlpDownBwdRefIdeal [hMlpDownBwdRefIdeal : Cert.MlpDownBwdRefIdeal.Facts] : Prop :=
  ∀ (m : (ℓ : Loc Cert.MlpDownBwdRefIdeal.nD Cert.MlpDownBwdRefIdeal.τ Cert.MlpDownBwdRefIdeal.sig) → Buf (Elt Ideal) ℓ) (g : Dev Cert.MlpDownBwdRefIdeal.nD → PrngReg), Pre_MlpDownBwdRefIdeal m →
    θ_run (Cert.MlpDownBwdRefIdeal.defs (F := Ideal)) (onTc (τ := Cert.MlpDownBwdRefIdeal.τ) (Cert.MlpDownBwdRefIdeal.main (F := Ideal))) ⟨m, fun _ => 0, g⟩ (fun r => (∀ c : Dev Cert.MlpDownBwdRefIdeal.nD,
      r.2.mem ((c.tc : Thread Cert.MlpDownBwdRefIdeal.nD Cert.MlpDownBwdRefIdeal.τ).loc Cert.MlpDownBwdRefIdeal.main_arg0) = m ((c.tc : Thread Cert.MlpDownBwdRefIdeal.nD Cert.MlpDownBwdRefIdeal.τ).loc Cert.MlpDownBwdRefIdeal.main_arg0)
      ∧ r.2.mem ((c.tc : Thread Cert.MlpDownBwdRefIdeal.nD Cert.MlpDownBwdRefIdeal.τ).loc Cert.MlpDownBwdRefIdeal.main_arg1) = m ((c.tc : Thread Cert.MlpDownBwdRefIdeal.nD Cert.MlpDownBwdRefIdeal.τ).loc Cert.MlpDownBwdRefIdeal.main_arg1)
      ∧ r.2.mem ((c.tc : Thread Cert.MlpDownBwdRefIdeal.nD Cert.MlpDownBwdRefIdeal.τ).loc Cert.MlpDownBwdRefIdeal.main_arg2) = m ((c.tc : Thread Cert.MlpDownBwdRefIdeal.nD Cert.MlpDownBwdRefIdeal.τ).loc Cert.MlpDownBwdRefIdeal.main_arg2))
      ∧ r.2.sem = fun _ => 0)

def quiescent_RmsTop [hRmsTop : Cert.RmsTop.Facts] : Prop :=
  ∀ (m : (ℓ : Loc Cert.RmsTop.nD Cert.RmsTop.τ Cert.RmsTop.sig) → Buf (Elt Bits) ℓ) (g : Dev Cert.RmsTop.nD → PrngReg), Pre_RmsTop m →
    θ_run (Cert.RmsTop.defs (F := Bits)) (onTc (τ := Cert.RmsTop.τ) (Cert.RmsTop.main (F := Bits))) ⟨m, fun _ => 0, g⟩ (fun r => (∀ c : Dev Cert.RmsTop.nD,
      r.2.mem ((c.tc : Thread Cert.RmsTop.nD Cert.RmsTop.τ).loc Cert.RmsTop.main_arg0) = m ((c.tc : Thread Cert.RmsTop.nD Cert.RmsTop.τ).loc Cert.RmsTop.main_arg0)
      ∧ r.2.mem ((c.tc : Thread Cert.RmsTop.nD Cert.RmsTop.τ).loc Cert.RmsTop.main_arg1) = m ((c.tc : Thread Cert.RmsTop.nD Cert.RmsTop.τ).loc Cert.RmsTop.main_arg1)
      ∧ r.2.mem ((c.tc : Thread Cert.RmsTop.nD Cert.RmsTop.τ).loc Cert.RmsTop.main_arg2) = m ((c.tc : Thread Cert.RmsTop.nD Cert.RmsTop.τ).loc Cert.RmsTop.main_arg2))
      ∧ r.2.sem = fun _ => 0)

def quiescent_RmsTopIdeal [hRmsTopIdeal : Cert.RmsTopIdeal.Facts] : Prop :=
  ∀ (m : (ℓ : Loc Cert.RmsTopIdeal.nD Cert.RmsTopIdeal.τ Cert.RmsTopIdeal.sig) → Buf (Elt Ideal) ℓ) (g : Dev Cert.RmsTopIdeal.nD → PrngReg), Pre_RmsTopIdeal m →
    θ_run (Cert.RmsTopIdeal.defs (F := Ideal)) (onTc (τ := Cert.RmsTopIdeal.τ) (Cert.RmsTopIdeal.main (F := Ideal))) ⟨m, fun _ => 0, g⟩ (fun r => (∀ c : Dev Cert.RmsTopIdeal.nD,
      r.2.mem ((c.tc : Thread Cert.RmsTopIdeal.nD Cert.RmsTopIdeal.τ).loc Cert.RmsTopIdeal.main_arg0) = m ((c.tc : Thread Cert.RmsTopIdeal.nD Cert.RmsTopIdeal.τ).loc Cert.RmsTopIdeal.main_arg0)
      ∧ r.2.mem ((c.tc : Thread Cert.RmsTopIdeal.nD Cert.RmsTopIdeal.τ).loc Cert.RmsTopIdeal.main_arg1) = m ((c.tc : Thread Cert.RmsTopIdeal.nD Cert.RmsTopIdeal.τ).loc Cert.RmsTopIdeal.main_arg1)
      ∧ r.2.mem ((c.tc : Thread Cert.RmsTopIdeal.nD Cert.RmsTopIdeal.τ).loc Cert.RmsTopIdeal.main_arg2) = m ((c.tc : Thread Cert.RmsTopIdeal.nD Cert.RmsTopIdeal.τ).loc Cert.RmsTopIdeal.main_arg2))
      ∧ r.2.sem = fun _ => 0)

def quiescent_RmsTopIdeal_pre_finite_rms [hRmsTopIdeal : Cert.RmsTopIdeal.Facts] [hPre_finite_rms : Cert.Pre_finite_rms.Facts] : Prop :=
  ∀ (m : (ℓ : Loc Cert.RmsTopIdeal.nD Cert.RmsTopIdeal.τ Cert.RmsTopIdeal.sig) → Buf (Elt Ideal) ℓ) (g : Dev Cert.RmsTopIdeal.nD → PrngReg), Pre_RmsTopIdeal_finite_rms m →
    θ_run (Cert.RmsTopIdeal.defs (F := Ideal)) (onTc (τ := Cert.RmsTopIdeal.τ) (Cert.RmsTopIdeal.main (F := Ideal))) ⟨m, fun _ => 0, g⟩ (fun r => (∀ c : Dev Cert.RmsTopIdeal.nD,
      r.2.mem ((c.tc : Thread Cert.RmsTopIdeal.nD Cert.RmsTopIdeal.τ).loc Cert.RmsTopIdeal.main_arg0) = m ((c.tc : Thread Cert.RmsTopIdeal.nD Cert.RmsTopIdeal.τ).loc Cert.RmsTopIdeal.main_arg0)
      ∧ r.2.mem ((c.tc : Thread Cert.RmsTopIdeal.nD Cert.RmsTopIdeal.τ).loc Cert.RmsTopIdeal.main_arg1) = m ((c.tc : Thread Cert.RmsTopIdeal.nD Cert.RmsTopIdeal.τ).loc Cert.RmsTopIdeal.main_arg1)
      ∧ r.2.mem ((c.tc : Thread Cert.RmsTopIdeal.nD Cert.RmsTopIdeal.τ).loc Cert.RmsTopIdeal.main_arg2) = m ((c.tc : Thread Cert.RmsTopIdeal.nD Cert.RmsTopIdeal.τ).loc Cert.RmsTopIdeal.main_arg2))
      ∧ r.2.sem = fun _ => 0)

def quiescent_RmsTopRefIdeal [hRmsTopRefIdeal : Cert.RmsTopRefIdeal.Facts] : Prop :=
  ∀ (m : (ℓ : Loc Cert.RmsTopRefIdeal.nD Cert.RmsTopRefIdeal.τ Cert.RmsTopRefIdeal.sig) → Buf (Elt Ideal) ℓ) (g : Dev Cert.RmsTopRefIdeal.nD → PrngReg), Pre_RmsTopRefIdeal m →
    θ_run (Cert.RmsTopRefIdeal.defs (F := Ideal)) (onTc (τ := Cert.RmsTopRefIdeal.τ) (Cert.RmsTopRefIdeal.main (F := Ideal))) ⟨m, fun _ => 0, g⟩ (fun r => (∀ c : Dev Cert.RmsTopRefIdeal.nD,
      r.2.mem ((c.tc : Thread Cert.RmsTopRefIdeal.nD Cert.RmsTopRefIdeal.τ).loc Cert.RmsTopRefIdeal.main_arg0) = m ((c.tc : Thread Cert.RmsTopRefIdeal.nD Cert.RmsTopRefIdeal.τ).loc Cert.RmsTopRefIdeal.main_arg0)
      ∧ r.2.mem ((c.tc : Thread Cert.RmsTopRefIdeal.nD Cert.RmsTopRefIdeal.τ).loc Cert.RmsTopRefIdeal.main_arg1) = m ((c.tc : Thread Cert.RmsTopRefIdeal.nD Cert.RmsTopRefIdeal.τ).loc Cert.RmsTopRefIdeal.main_arg1)
      ∧ r.2.mem ((c.tc : Thread Cert.RmsTopRefIdeal.nD Cert.RmsTopRefIdeal.τ).loc Cert.RmsTopRefIdeal.main_arg2) = m ((c.tc : Thread Cert.RmsTopRefIdeal.nD Cert.RmsTopRefIdeal.τ).loc Cert.RmsTopRefIdeal.main_arg2))
      ∧ r.2.sem = fun _ => 0)

def quiescent_RmsTopRefIdeal_pre_finite_rms [hRmsTopRefIdeal : Cert.RmsTopRefIdeal.Facts] [hPre_finite_rms : Cert.Pre_finite_rms.Facts] : Prop :=
  ∀ (m : (ℓ : Loc Cert.RmsTopRefIdeal.nD Cert.RmsTopRefIdeal.τ Cert.RmsTopRefIdeal.sig) → Buf (Elt Ideal) ℓ) (g : Dev Cert.RmsTopRefIdeal.nD → PrngReg), Pre_RmsTopRefIdeal_finite_rms m →
    θ_run (Cert.RmsTopRefIdeal.defs (F := Ideal)) (onTc (τ := Cert.RmsTopRefIdeal.τ) (Cert.RmsTopRefIdeal.main (F := Ideal))) ⟨m, fun _ => 0, g⟩ (fun r => (∀ c : Dev Cert.RmsTopRefIdeal.nD,
      r.2.mem ((c.tc : Thread Cert.RmsTopRefIdeal.nD Cert.RmsTopRefIdeal.τ).loc Cert.RmsTopRefIdeal.main_arg0) = m ((c.tc : Thread Cert.RmsTopRefIdeal.nD Cert.RmsTopRefIdeal.τ).loc Cert.RmsTopRefIdeal.main_arg0)
      ∧ r.2.mem ((c.tc : Thread Cert.RmsTopRefIdeal.nD Cert.RmsTopRefIdeal.τ).loc Cert.RmsTopRefIdeal.main_arg1) = m ((c.tc : Thread Cert.RmsTopRefIdeal.nD Cert.RmsTopRefIdeal.τ).loc Cert.RmsTopRefIdeal.main_arg1)
      ∧ r.2.mem ((c.tc : Thread Cert.RmsTopRefIdeal.nD Cert.RmsTopRefIdeal.τ).loc Cert.RmsTopRefIdeal.main_arg2) = m ((c.tc : Thread Cert.RmsTopRefIdeal.nD Cert.RmsTopRefIdeal.τ).loc Cert.RmsTopRefIdeal.main_arg2))
      ∧ r.2.sem = fun _ => 0)

def quiescent_RmsPre [hRmsPre : Cert.RmsPre.Facts] : Prop :=
  ∀ (m : (ℓ : Loc Cert.RmsPre.nD Cert.RmsPre.τ Cert.RmsPre.sig) → Buf (Elt Bits) ℓ) (g : Dev Cert.RmsPre.nD → PrngReg), Pre_RmsPre m →
    θ_run (Cert.RmsPre.defs (F := Bits)) (onTc (τ := Cert.RmsPre.τ) (Cert.RmsPre.main (F := Bits))) ⟨m, fun _ => 0, g⟩ (fun r => (∀ c : Dev Cert.RmsPre.nD,
      r.2.mem ((c.tc : Thread Cert.RmsPre.nD Cert.RmsPre.τ).loc Cert.RmsPre.main_arg0) = m ((c.tc : Thread Cert.RmsPre.nD Cert.RmsPre.τ).loc Cert.RmsPre.main_arg0)
      ∧ r.2.mem ((c.tc : Thread Cert.RmsPre.nD Cert.RmsPre.τ).loc Cert.RmsPre.main_arg1) = m ((c.tc : Thread Cert.RmsPre.nD Cert.RmsPre.τ).loc Cert.RmsPre.main_arg1)
      ∧ r.2.mem ((c.tc : Thread Cert.RmsPre.nD Cert.RmsPre.τ).loc Cert.RmsPre.main_arg2) = m ((c.tc : Thread Cert.RmsPre.nD Cert.RmsPre.τ).loc Cert.RmsPre.main_arg2)
      ∧ r.2.mem ((c.tc : Thread Cert.RmsPre.nD Cert.RmsPre.τ).loc Cert.RmsPre.main_arg3) = m ((c.tc : Thread Cert.RmsPre.nD Cert.RmsPre.τ).loc Cert.RmsPre.main_arg3)
      ∧ r.2.mem ((c.tc : Thread Cert.RmsPre.nD Cert.RmsPre.τ).loc Cert.RmsPre.main_arg4) = m ((c.tc : Thread Cert.RmsPre.nD Cert.RmsPre.τ).loc Cert.RmsPre.main_arg4)
      ∧ r.2.mem ((c.tc : Thread Cert.RmsPre.nD Cert.RmsPre.τ).loc Cert.RmsPre.main_arg5) = m ((c.tc : Thread Cert.RmsPre.nD Cert.RmsPre.τ).loc Cert.RmsPre.main_arg5))
      ∧ r.2.sem = fun _ => 0)

def quiescent_RmsPreIdeal [hRmsPreIdeal : Cert.RmsPreIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg), Pre_RmsPreIdeal m →
    θ_run (Cert.RmsPreIdeal.defs (F := Ideal)) (onTc (τ := Cert.RmsPreIdeal.τ) (Cert.RmsPreIdeal.main (F := Ideal))) ⟨m, fun _ => 0, g⟩ (fun r => (∀ c : Dev Cert.RmsPreIdeal.nD,
      r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
      ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
      ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
      ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3)
      ∧ r.2.mem ((c.tc : Thread Cert.RmsPreIdeal.nD Cert.RmsPreIdeal.τ).loc Cert.RmsPreIdeal.main_arg4) = m ((c.tc : Thread Cert.RmsPreIdeal.nD Cert.RmsPreIdeal.τ).loc Cert.RmsPreIdeal.main_arg4)
      ∧ r.2.mem ((c.tc : Thread Cert.RmsPreIdeal.nD Cert.RmsPreIdeal.τ).loc Cert.RmsPreIdeal.main_arg5) = m ((c.tc : Thread Cert.RmsPreIdeal.nD Cert.RmsPreIdeal.τ).loc Cert.RmsPreIdeal.main_arg5))
      ∧ r.2.sem = fun _ => 0)

def quiescent_RmsPreIdeal_pre_finite_pre [hRmsPreIdeal : Cert.RmsPreIdeal.Facts] [hPre_finite_pre : Cert.Pre_finite_pre.Facts] : Prop :=
  ∀ (m : (ℓ : Loc Cert.RmsPreIdeal.nD Cert.RmsPreIdeal.τ Cert.RmsPreIdeal.sig) → Buf (Elt Ideal) ℓ) (g : Dev Cert.RmsPreIdeal.nD → PrngReg), Pre_RmsPreIdeal_finite_pre m →
    θ_run (Cert.RmsPreIdeal.defs (F := Ideal)) (onTc (τ := Cert.RmsPreIdeal.τ) (Cert.RmsPreIdeal.main (F := Ideal))) ⟨m, fun _ => 0, g⟩ (fun r => (∀ c : Dev Cert.RmsPreIdeal.nD,
      r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
      ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
      ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
      ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3)
      ∧ r.2.mem ((c.tc : Thread Cert.RmsPreIdeal.nD Cert.RmsPreIdeal.τ).loc Cert.RmsPreIdeal.main_arg4) = m ((c.tc : Thread Cert.RmsPreIdeal.nD Cert.RmsPreIdeal.τ).loc Cert.RmsPreIdeal.main_arg4)
      ∧ r.2.mem ((c.tc : Thread Cert.RmsPreIdeal.nD Cert.RmsPreIdeal.τ).loc Cert.RmsPreIdeal.main_arg5) = m ((c.tc : Thread Cert.RmsPreIdeal.nD Cert.RmsPreIdeal.τ).loc Cert.RmsPreIdeal.main_arg5))
      ∧ r.2.sem = fun _ => 0)

def quiescent_RmsPreRefIdeal [hRmsPreRefIdeal : Cert.RmsPreRefIdeal.Facts] : Prop :=
  ∀ (m : (ℓ : Loc Cert.RmsPreRefIdeal.nD Cert.RmsPreRefIdeal.τ Cert.RmsPreRefIdeal.sig) → Buf (Elt Ideal) ℓ) (g : Dev Cert.RmsPreRefIdeal.nD → PrngReg), Pre_RmsPreRefIdeal m →
    θ_run (Cert.RmsPreRefIdeal.defs (F := Ideal)) (onTc (τ := Cert.RmsPreRefIdeal.τ) (Cert.RmsPreRefIdeal.main (F := Ideal))) ⟨m, fun _ => 0, g⟩ (fun r => (∀ c : Dev Cert.RmsPreRefIdeal.nD,
      r.2.mem ((c.tc : Thread Cert.RmsPreRefIdeal.nD Cert.RmsPreRefIdeal.τ).loc Cert.RmsPreRefIdeal.main_arg0) = m ((c.tc : Thread Cert.RmsPreRefIdeal.nD Cert.RmsPreRefIdeal.τ).loc Cert.RmsPreRefIdeal.main_arg0)
      ∧ r.2.mem ((c.tc : Thread Cert.RmsPreRefIdeal.nD Cert.RmsPreRefIdeal.τ).loc Cert.RmsPreRefIdeal.main_arg1) = m ((c.tc : Thread Cert.RmsPreRefIdeal.nD Cert.RmsPreRefIdeal.τ).loc Cert.RmsPreRefIdeal.main_arg1)
      ∧ r.2.mem ((c.tc : Thread Cert.RmsPreRefIdeal.nD Cert.RmsPreRefIdeal.τ).loc Cert.RmsPreRefIdeal.main_arg2) = m ((c.tc : Thread Cert.RmsPreRefIdeal.nD Cert.RmsPreRefIdeal.τ).loc Cert.RmsPreRefIdeal.main_arg2)
      ∧ r.2.mem ((c.tc : Thread Cert.RmsPreRefIdeal.nD Cert.RmsPreRefIdeal.τ).loc Cert.RmsPreRefIdeal.main_arg3) = m ((c.tc : Thread Cert.RmsPreRefIdeal.nD Cert.RmsPreRefIdeal.τ).loc Cert.RmsPreRefIdeal.main_arg3)
      ∧ r.2.mem ((c.tc : Thread Cert.RmsPreRefIdeal.nD Cert.RmsPreRefIdeal.τ).loc Cert.RmsPreRefIdeal.main_arg4) = m ((c.tc : Thread Cert.RmsPreRefIdeal.nD Cert.RmsPreRefIdeal.τ).loc Cert.RmsPreRefIdeal.main_arg4)
      ∧ r.2.mem ((c.tc : Thread Cert.RmsPreRefIdeal.nD Cert.RmsPreRefIdeal.τ).loc Cert.RmsPreRefIdeal.main_arg5) = m ((c.tc : Thread Cert.RmsPreRefIdeal.nD Cert.RmsPreRefIdeal.τ).loc Cert.RmsPreRefIdeal.main_arg5))
      ∧ r.2.sem = fun _ => 0)

def quiescent_RmsPreRefIdeal_pre_finite_pre [hRmsPreRefIdeal : Cert.RmsPreRefIdeal.Facts] [hPre_finite_pre : Cert.Pre_finite_pre.Facts] : Prop :=
  ∀ (m : (ℓ : Loc Cert.RmsPreRefIdeal.nD Cert.RmsPreRefIdeal.τ Cert.RmsPreRefIdeal.sig) → Buf (Elt Ideal) ℓ) (g : Dev Cert.RmsPreRefIdeal.nD → PrngReg), Pre_RmsPreRefIdeal_finite_pre m →
    θ_run (Cert.RmsPreRefIdeal.defs (F := Ideal)) (onTc (τ := Cert.RmsPreRefIdeal.τ) (Cert.RmsPreRefIdeal.main (F := Ideal))) ⟨m, fun _ => 0, g⟩ (fun r => (∀ c : Dev Cert.RmsPreRefIdeal.nD,
      r.2.mem ((c.tc : Thread Cert.RmsPreRefIdeal.nD Cert.RmsPreRefIdeal.τ).loc Cert.RmsPreRefIdeal.main_arg0) = m ((c.tc : Thread Cert.RmsPreRefIdeal.nD Cert.RmsPreRefIdeal.τ).loc Cert.RmsPreRefIdeal.main_arg0)
      ∧ r.2.mem ((c.tc : Thread Cert.RmsPreRefIdeal.nD Cert.RmsPreRefIdeal.τ).loc Cert.RmsPreRefIdeal.main_arg1) = m ((c.tc : Thread Cert.RmsPreRefIdeal.nD Cert.RmsPreRefIdeal.τ).loc Cert.RmsPreRefIdeal.main_arg1)
      ∧ r.2.mem ((c.tc : Thread Cert.RmsPreRefIdeal.nD Cert.RmsPreRefIdeal.τ).loc Cert.RmsPreRefIdeal.main_arg2) = m ((c.tc : Thread Cert.RmsPreRefIdeal.nD Cert.RmsPreRefIdeal.τ).loc Cert.RmsPreRefIdeal.main_arg2)
      ∧ r.2.mem ((c.tc : Thread Cert.RmsPreRefIdeal.nD Cert.RmsPreRefIdeal.τ).loc Cert.RmsPreRefIdeal.main_arg3) = m ((c.tc : Thread Cert.RmsPreRefIdeal.nD Cert.RmsPreRefIdeal.τ).loc Cert.RmsPreRefIdeal.main_arg3)
      ∧ r.2.mem ((c.tc : Thread Cert.RmsPreRefIdeal.nD Cert.RmsPreRefIdeal.τ).loc Cert.RmsPreRefIdeal.main_arg4) = m ((c.tc : Thread Cert.RmsPreRefIdeal.nD Cert.RmsPreRefIdeal.τ).loc Cert.RmsPreRefIdeal.main_arg4)
      ∧ r.2.mem ((c.tc : Thread Cert.RmsPreRefIdeal.nD Cert.RmsPreRefIdeal.τ).loc Cert.RmsPreRefIdeal.main_arg5) = m ((c.tc : Thread Cert.RmsPreRefIdeal.nD Cert.RmsPreRefIdeal.τ).loc Cert.RmsPreRefIdeal.main_arg5))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1)
      ∧ r.2.mem ((c.tc : Thread Cert.RmsMix.nD Cert.RmsMix.τ).loc Cert.RmsMix.main_arg2) = m ((c.tc : Thread Cert.RmsMix.nD Cert.RmsMix.τ).loc Cert.RmsMix.main_arg2)
      ∧ r.2.mem ((c.tc : Thread Cert.RmsMix.nD Cert.RmsMix.τ).loc Cert.RmsMix.main_arg3) = m ((c.tc : Thread Cert.RmsMix.nD Cert.RmsMix.τ).loc Cert.RmsMix.main_arg3))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
      ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2)
      ∧ r.2.mem ((c.tc : Thread Cert.RmsMixIdeal.nD Cert.RmsMixIdeal.τ).loc Cert.RmsMixIdeal.main_arg3) = m ((c.tc : Thread Cert.RmsMixIdeal.nD Cert.RmsMixIdeal.τ).loc Cert.RmsMixIdeal.main_arg3))
      ∧ r.2.sem = fun _ => 0)

def quiescent_RmsMixIdeal_pre_finite_mix [hRmsMixIdeal : Cert.RmsMixIdeal.Facts] [hPre_finite_mix : Cert.Pre_finite_mix.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal_finite_mix m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
      ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2)
      ∧ r.2.mem ((c.tc : Thread Cert.RmsMixIdeal.nD Cert.RmsMixIdeal.τ).loc Cert.RmsMixIdeal.main_arg3) = m ((c.tc : Thread Cert.RmsMixIdeal.nD Cert.RmsMixIdeal.τ).loc Cert.RmsMixIdeal.main_arg3))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1)
      ∧ r.2.mem ((c.tc : Thread Cert.RmsMixRefIdeal.nD Cert.RmsMixRefIdeal.τ).loc Cert.RmsMixRefIdeal.main_arg2) = m ((c.tc : Thread Cert.RmsMixRefIdeal.nD Cert.RmsMixRefIdeal.τ).loc Cert.RmsMixRefIdeal.main_arg2)
      ∧ r.2.mem ((c.tc : Thread Cert.RmsMixRefIdeal.nD Cert.RmsMixRefIdeal.τ).loc Cert.RmsMixRefIdeal.main_arg3) = m ((c.tc : Thread Cert.RmsMixRefIdeal.nD Cert.RmsMixRefIdeal.τ).loc Cert.RmsMixRefIdeal.main_arg3))
      ∧ r.2.sem = fun _ => 0)

def quiescent_RmsMixRefIdeal_pre_finite_mix [hRmsMixRefIdeal : Cert.RmsMixRefIdeal.Facts] [hPre_finite_mix : Cert.Pre_finite_mix.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal_finite_mix m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1)
      ∧ r.2.mem ((c.tc : Thread Cert.RmsMixRefIdeal.nD Cert.RmsMixRefIdeal.τ).loc Cert.RmsMixRefIdeal.main_arg2) = m ((c.tc : Thread Cert.RmsMixRefIdeal.nD Cert.RmsMixRefIdeal.τ).loc Cert.RmsMixRefIdeal.main_arg2)
      ∧ r.2.mem ((c.tc : Thread Cert.RmsMixRefIdeal.nD Cert.RmsMixRefIdeal.τ).loc Cert.RmsMixRefIdeal.main_arg3) = m ((c.tc : Thread Cert.RmsMixRefIdeal.nD Cert.RmsMixRefIdeal.τ).loc Cert.RmsMixRefIdeal.main_arg3))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1)
      ∧ r.2.mem ((c.tc : Thread Cert.RmsMem.nD Cert.RmsMem.τ).loc Cert.RmsMem.main_arg2) = m ((c.tc : Thread Cert.RmsMem.nD Cert.RmsMem.τ).loc Cert.RmsMem.main_arg2))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemIdeal_pre_finite_mem [hRmsMemIdeal : Cert.RmsMemIdeal.Facts] [hPre_finite_mem : Cert.Pre_finite_mem.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal_finite_mem m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_RmsMemRefIdeal_pre_finite_mem [hRmsMemRefIdeal : Cert.RmsMemRefIdeal.Facts] [hPre_finite_mem : Cert.Pre_finite_mem.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal_finite_mem m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_RmsNorm [hRmsNorm : Cert.RmsNorm.Facts] : Prop :=
  ∀ (m : (ℓ : Loc Cert.RmsNorm.nD Cert.RmsNorm.τ Cert.RmsNorm.sig) → Buf (Elt Bits) ℓ) (g : Dev Cert.RmsNorm.nD → PrngReg), Pre_RmsNorm m →
    θ_run (Cert.RmsNorm.defs (F := Bits)) (onTc (τ := Cert.RmsNorm.τ) (Cert.RmsNorm.main (F := Bits))) ⟨m, fun _ => 0, g⟩ (fun r => (∀ c : Dev Cert.RmsNorm.nD,
      r.2.mem ((c.tc : Thread Cert.RmsNorm.nD Cert.RmsNorm.τ).loc Cert.RmsNorm.main_arg0) = m ((c.tc : Thread Cert.RmsNorm.nD Cert.RmsNorm.τ).loc Cert.RmsNorm.main_arg0)
      ∧ r.2.mem ((c.tc : Thread Cert.RmsNorm.nD Cert.RmsNorm.τ).loc Cert.RmsNorm.main_arg1) = m ((c.tc : Thread Cert.RmsNorm.nD Cert.RmsNorm.τ).loc Cert.RmsNorm.main_arg1))
      ∧ r.2.sem = fun _ => 0)

def quiescent_RmsNormIdeal [hRmsNormIdeal : Cert.RmsNormIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg), Pre_RmsNormIdeal m →
    θ_run (Cert.RmsNormIdeal.defs (F := Ideal)) (onTc (τ := Cert.RmsNormIdeal.τ) (Cert.RmsNormIdeal.main (F := Ideal))) ⟨m, fun _ => 0, g⟩ (fun r => (∀ c : Dev Cert.RmsNormIdeal.nD,
      r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
      ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ r.2.sem = fun _ => 0)

def quiescent_RmsNormRefIdeal [hRmsNormRefIdeal : Cert.RmsNormRefIdeal.Facts] : Prop :=
  ∀ (m : (ℓ : Loc Cert.RmsNormRefIdeal.nD Cert.RmsNormRefIdeal.τ Cert.RmsNormRefIdeal.sig) → Buf (Elt Ideal) ℓ) (g : Dev Cert.RmsNormRefIdeal.nD → PrngReg), Pre_RmsNormRefIdeal m →
    θ_run (Cert.RmsNormRefIdeal.defs (F := Ideal)) (onTc (τ := Cert.RmsNormRefIdeal.τ) (Cert.RmsNormRefIdeal.main (F := Ideal))) ⟨m, fun _ => 0, g⟩ (fun r => (∀ c : Dev Cert.RmsNormRefIdeal.nD,
      r.2.mem ((c.tc : Thread Cert.RmsNormRefIdeal.nD Cert.RmsNormRefIdeal.τ).loc Cert.RmsNormRefIdeal.main_arg0) = m ((c.tc : Thread Cert.RmsNormRefIdeal.nD Cert.RmsNormRefIdeal.τ).loc Cert.RmsNormRefIdeal.main_arg0)
      ∧ r.2.mem ((c.tc : Thread Cert.RmsNormRefIdeal.nD Cert.RmsNormRefIdeal.τ).loc Cert.RmsNormRefIdeal.main_arg1) = m ((c.tc : Thread Cert.RmsNormRefIdeal.nD Cert.RmsNormRefIdeal.τ).loc Cert.RmsNormRefIdeal.main_arg1))
      ∧ r.2.sem = fun _ => 0)

def quiescent_ResNext [hResNext : Cert.ResNext.Facts] : Prop :=
  ∀ (m : (ℓ : Loc Cert.ResNext.nD Cert.ResNext.τ Cert.ResNext.sig) → Buf (Elt Bits) ℓ) (g : Dev Cert.ResNext.nD → PrngReg), Pre_ResNext m →
    θ_run (Cert.ResNext.defs (F := Bits)) (onTc (τ := Cert.ResNext.τ) (Cert.ResNext.main (F := Bits))) ⟨m, fun _ => 0, g⟩ (fun r => (∀ c : Dev Cert.ResNext.nD,
      r.2.mem ((c.tc : Thread Cert.ResNext.nD Cert.ResNext.τ).loc Cert.ResNext.main_arg0) = m ((c.tc : Thread Cert.ResNext.nD Cert.ResNext.τ).loc Cert.ResNext.main_arg0)
      ∧ r.2.mem ((c.tc : Thread Cert.ResNext.nD Cert.ResNext.τ).loc Cert.ResNext.main_arg1) = m ((c.tc : Thread Cert.ResNext.nD Cert.ResNext.τ).loc Cert.ResNext.main_arg1)
      ∧ r.2.mem ((c.tc : Thread Cert.ResNext.nD Cert.ResNext.τ).loc Cert.ResNext.main_arg2) = m ((c.tc : Thread Cert.ResNext.nD Cert.ResNext.τ).loc Cert.ResNext.main_arg2)
      ∧ r.2.mem ((c.tc : Thread Cert.ResNext.nD Cert.ResNext.τ).loc Cert.ResNext.main_arg3) = m ((c.tc : Thread Cert.ResNext.nD Cert.ResNext.τ).loc Cert.ResNext.main_arg3))
      ∧ r.2.sem = fun _ => 0)

def quiescent_ResNextIdeal [hResNextIdeal : Cert.ResNextIdeal.Facts] : Prop :=
  ∀ (m : (ℓ : Loc Cert.ResNextIdeal.nD Cert.ResNextIdeal.τ Cert.ResNextIdeal.sig) → Buf (Elt Ideal) ℓ) (g : Dev Cert.ResNextIdeal.nD → PrngReg), Pre_ResNextIdeal m →
    θ_run (Cert.ResNextIdeal.defs (F := Ideal)) (onTc (τ := Cert.ResNextIdeal.τ) (Cert.ResNextIdeal.main (F := Ideal))) ⟨m, fun _ => 0, g⟩ (fun r => (∀ c : Dev Cert.ResNextIdeal.nD,
      r.2.mem ((c.tc : Thread Cert.ResNextIdeal.nD Cert.ResNextIdeal.τ).loc Cert.ResNextIdeal.main_arg0) = m ((c.tc : Thread Cert.ResNextIdeal.nD Cert.ResNextIdeal.τ).loc Cert.ResNextIdeal.main_arg0)
      ∧ r.2.mem ((c.tc : Thread Cert.ResNextIdeal.nD Cert.ResNextIdeal.τ).loc Cert.ResNextIdeal.main_arg1) = m ((c.tc : Thread Cert.ResNextIdeal.nD Cert.ResNextIdeal.τ).loc Cert.ResNextIdeal.main_arg1)
      ∧ r.2.mem ((c.tc : Thread Cert.ResNextIdeal.nD Cert.ResNextIdeal.τ).loc Cert.ResNextIdeal.main_arg2) = m ((c.tc : Thread Cert.ResNextIdeal.nD Cert.ResNextIdeal.τ).loc Cert.ResNextIdeal.main_arg2)
      ∧ r.2.mem ((c.tc : Thread Cert.ResNextIdeal.nD Cert.ResNextIdeal.τ).loc Cert.ResNextIdeal.main_arg3) = m ((c.tc : Thread Cert.ResNextIdeal.nD Cert.ResNextIdeal.τ).loc Cert.ResNextIdeal.main_arg3))
      ∧ r.2.sem = fun _ => 0)

def quiescent_ResNextRefIdeal [hResNextRefIdeal : Cert.ResNextRefIdeal.Facts] : Prop :=
  ∀ (m : (ℓ : Loc Cert.ResNextRefIdeal.nD Cert.ResNextRefIdeal.τ Cert.ResNextRefIdeal.sig) → Buf (Elt Ideal) ℓ) (g : Dev Cert.ResNextRefIdeal.nD → PrngReg), Pre_ResNextRefIdeal m →
    θ_run (Cert.ResNextRefIdeal.defs (F := Ideal)) (onTc (τ := Cert.ResNextRefIdeal.τ) (Cert.ResNextRefIdeal.main (F := Ideal))) ⟨m, fun _ => 0, g⟩ (fun r => (∀ c : Dev Cert.ResNextRefIdeal.nD,
      r.2.mem ((c.tc : Thread Cert.ResNextRefIdeal.nD Cert.ResNextRefIdeal.τ).loc Cert.ResNextRefIdeal.main_arg0) = m ((c.tc : Thread Cert.ResNextRefIdeal.nD Cert.ResNextRefIdeal.τ).loc Cert.ResNextRefIdeal.main_arg0)
      ∧ r.2.mem ((c.tc : Thread Cert.ResNextRefIdeal.nD Cert.ResNextRefIdeal.τ).loc Cert.ResNextRefIdeal.main_arg1) = m ((c.tc : Thread Cert.ResNextRefIdeal.nD Cert.ResNextRefIdeal.τ).loc Cert.ResNextRefIdeal.main_arg1)
      ∧ r.2.mem ((c.tc : Thread Cert.ResNextRefIdeal.nD Cert.ResNextRefIdeal.τ).loc Cert.ResNextRefIdeal.main_arg2) = m ((c.tc : Thread Cert.ResNextRefIdeal.nD Cert.ResNextRefIdeal.τ).loc Cert.ResNextRefIdeal.main_arg2)
      ∧ r.2.mem ((c.tc : Thread Cert.ResNextRefIdeal.nD Cert.ResNextRefIdeal.τ).loc Cert.ResNextRefIdeal.main_arg3) = m ((c.tc : Thread Cert.ResNextRefIdeal.nD Cert.ResNextRefIdeal.τ).loc Cert.ResNextRefIdeal.main_arg3))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7))
      ∧ r.2.sem = fun _ => 0)

def preserves_BranchBwd_BranchBwdIdeal : Prop :=
  True

def algebraic_BranchBwdIdeal_BranchBwdRefIdeal_pre_finite_branch [hBranchBwdIdeal : Cert.BranchBwdIdeal.Facts] [hBranchBwdRefIdeal : Cert.BranchBwdRefIdeal.Facts] [hPre_finite_branch : Cert.Pre_finite_branch.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg)
    (m' : (ℓ : Loc Cert.BranchBwdRefIdeal.nD Cert.BranchBwdRefIdeal.τ Cert.BranchBwdRefIdeal.sig) → Buf (Elt Ideal) ℓ) (g' : Dev Cert.BranchBwdRefIdeal.nD → PrngReg), Pre_BranchBwdIdeal_finite_branch m →
    (∀ c : Dev Cert.BranchBwdIdeal.nD,
      m' ((c.tc : Thread Cert.BranchBwdRefIdeal.nD Cert.BranchBwdRefIdeal.τ).loc Cert.BranchBwdRefIdeal.main_arg0) = m ((c.tc : Thread Cert.BranchBwdIdeal.nD Cert.BranchBwdIdeal.τ).loc Cert.BranchBwdIdeal.main_arg0)
      ∧ m' ((c.tc : Thread Cert.BranchBwdRefIdeal.nD Cert.BranchBwdRefIdeal.τ).loc Cert.BranchBwdRefIdeal.main_arg1) = m ((c.tc : Thread Cert.BranchBwdIdeal.nD Cert.BranchBwdIdeal.τ).loc Cert.BranchBwdIdeal.main_arg1)
      ∧ m' ((c.tc : Thread Cert.BranchBwdRefIdeal.nD Cert.BranchBwdRefIdeal.τ).loc Cert.BranchBwdRefIdeal.main_arg2) = m ((c.tc : Thread Cert.BranchBwdIdeal.nD Cert.BranchBwdIdeal.τ).loc Cert.BranchBwdIdeal.main_arg2)
      ∧ m' ((c.tc : Thread Cert.BranchBwdRefIdeal.nD Cert.BranchBwdRefIdeal.τ).loc Cert.BranchBwdRefIdeal.main_arg3) = m ((c.tc : Thread Cert.BranchBwdIdeal.nD Cert.BranchBwdIdeal.τ).loc Cert.BranchBwdIdeal.main_arg3)
      ∧ m' ((c.tc : Thread Cert.BranchBwdRefIdeal.nD Cert.BranchBwdRefIdeal.τ).loc Cert.BranchBwdRefIdeal.main_arg4) = m ((c.tc : Thread Cert.BranchBwdIdeal.nD Cert.BranchBwdIdeal.τ).loc Cert.BranchBwdIdeal.main_arg4)
      ∧ m' ((c.tc : Thread Cert.BranchBwdRefIdeal.nD Cert.BranchBwdRefIdeal.τ).loc Cert.BranchBwdRefIdeal.main_arg5) = m ((c.tc : Thread Cert.BranchBwdIdeal.nD Cert.BranchBwdIdeal.τ).loc Cert.BranchBwdIdeal.main_arg5)
      ∧ m' ((c.tc : Thread Cert.BranchBwdRefIdeal.nD Cert.BranchBwdRefIdeal.τ).loc Cert.BranchBwdRefIdeal.main_arg6) = m ((c.tc : Thread Cert.BranchBwdIdeal.nD Cert.BranchBwdIdeal.τ).loc Cert.BranchBwdIdeal.main_arg6)
      ∧ m' ((c.tc : Thread Cert.BranchBwdRefIdeal.nD Cert.BranchBwdRefIdeal.τ).loc Cert.BranchBwdRefIdeal.main_arg7) = m ((c.tc : Thread Cert.BranchBwdIdeal.nD Cert.BranchBwdIdeal.τ).loc Cert.BranchBwdIdeal.main_arg7)
      ∧ m' ((c.tc : Thread Cert.BranchBwdRefIdeal.nD Cert.BranchBwdRefIdeal.τ).loc Cert.BranchBwdRefIdeal.main_arg8) = m ((c.tc : Thread Cert.BranchBwdIdeal.nD Cert.BranchBwdIdeal.τ).loc Cert.BranchBwdIdeal.main_arg8)) →
    ∃ (v0 : (c : Dev Cert.BranchBwdIdeal.nD) → Buf (Elt Ideal) ((c.tc : Thread Cert.BranchBwdIdeal.nD Cert.BranchBwdIdeal.τ).loc Cert.BranchBwdIdeal.main_v37_0)) (v1 : (c : Dev Cert.BranchBwdIdeal.nD) → Buf (Elt Ideal) ((c.tc : Thread Cert.BranchBwdIdeal.nD Cert.BranchBwdIdeal.τ).loc Cert.BranchBwdIdeal.main_v37_1)) (v2 : (c : Dev Cert.BranchBwdIdeal.nD) → Buf (Elt Ideal) ((c.tc : Thread Cert.BranchBwdIdeal.nD Cert.BranchBwdIdeal.τ).loc Cert.BranchBwdIdeal.main_v39)) (v3 : (c : Dev Cert.BranchBwdIdeal.nD) → Buf (Elt Ideal) ((c.tc : Thread Cert.BranchBwdIdeal.nD Cert.BranchBwdIdeal.τ).loc Cert.BranchBwdIdeal.main_v37_3)),
      θ_run (Cert.BranchBwdIdeal.defs (F := Ideal)) (onTc (τ := Cert.BranchBwdIdeal.τ) (Cert.BranchBwdIdeal.main (F := Ideal))) ⟨m, fun _ => 0, g⟩ (fun r => ∀ c : Dev Cert.BranchBwdIdeal.nD,
          r.2.mem ((c.tc : Thread Cert.BranchBwdIdeal.nD Cert.BranchBwdIdeal.τ).loc Cert.BranchBwdIdeal.main_v37_0) = v0 c
          ∧ r.2.mem ((c.tc : Thread Cert.BranchBwdIdeal.nD Cert.BranchBwdIdeal.τ).loc Cert.BranchBwdIdeal.main_v37_1) = v1 c
          ∧ r.2.mem ((c.tc : Thread Cert.BranchBwdIdeal.nD Cert.BranchBwdIdeal.τ).loc Cert.BranchBwdIdeal.main_v39) = v2 c
          ∧ r.2.mem ((c.tc : Thread Cert.BranchBwdIdeal.nD Cert.BranchBwdIdeal.τ).loc Cert.BranchBwdIdeal.main_v37_3) = v3 c
          ∧ r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
          ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1)
          ∧ r.2.mem ((c.tc : Thread Cert.BranchBwdIdeal.nD Cert.BranchBwdIdeal.τ).loc Cert.BranchBwdIdeal.main_arg2) = m ((c.tc : Thread Cert.BranchBwdIdeal.nD Cert.BranchBwdIdeal.τ).loc Cert.BranchBwdIdeal.main_arg2)
          ∧ r.2.mem ((c.tc : Thread Cert.BranchBwdIdeal.nD Cert.BranchBwdIdeal.τ).loc Cert.BranchBwdIdeal.main_arg3) = m ((c.tc : Thread Cert.BranchBwdIdeal.nD Cert.BranchBwdIdeal.τ).loc Cert.BranchBwdIdeal.main_arg3)
          ∧ r.2.mem ((c.tc : Thread Cert.BranchBwdIdeal.nD Cert.BranchBwdIdeal.τ).loc Cert.BranchBwdIdeal.main_arg4) = m ((c.tc : Thread Cert.BranchBwdIdeal.nD Cert.BranchBwdIdeal.τ).loc Cert.BranchBwdIdeal.main_arg4)
          ∧ r.2.mem ((c.tc : Thread Cert.BranchBwdIdeal.nD Cert.BranchBwdIdeal.τ).loc Cert.BranchBwdIdeal.main_arg5) = m ((c.tc : Thread Cert.BranchBwdIdeal.nD Cert.BranchBwdIdeal.τ).loc Cert.BranchBwdIdeal.main_arg5)
          ∧ r.2.mem ((c.tc : Thread Cert.BranchBwdIdeal.nD Cert.BranchBwdIdeal.τ).loc Cert.BranchBwdIdeal.main_arg6) = m ((c.tc : Thread Cert.BranchBwdIdeal.nD Cert.BranchBwdIdeal.τ).loc Cert.BranchBwdIdeal.main_arg6)
          ∧ r.2.mem ((c.tc : Thread Cert.BranchBwdIdeal.nD Cert.BranchBwdIdeal.τ).loc Cert.BranchBwdIdeal.main_arg7) = m ((c.tc : Thread Cert.BranchBwdIdeal.nD Cert.BranchBwdIdeal.τ).loc Cert.BranchBwdIdeal.main_arg7)
          ∧ r.2.mem ((c.tc : Thread Cert.BranchBwdIdeal.nD Cert.BranchBwdIdeal.τ).loc Cert.BranchBwdIdeal.main_arg8) = m ((c.tc : Thread Cert.BranchBwdIdeal.nD Cert.BranchBwdIdeal.τ).loc Cert.BranchBwdIdeal.main_arg8))
      ∧ θ_run (Cert.BranchBwdRefIdeal.defs (F := Ideal)) (onTc (τ := Cert.BranchBwdRefIdeal.τ) (Cert.BranchBwdRefIdeal.main (F := Ideal))) ⟨m', fun _ => 0, g'⟩ (fun r => ∀ c : Dev Cert.BranchBwdRefIdeal.nD,
          r.2.mem ((c.tc : Thread Cert.BranchBwdRefIdeal.nD Cert.BranchBwdRefIdeal.τ).loc Cert.BranchBwdRefIdeal.main_v239) = v0 c
          ∧ r.2.mem ((c.tc : Thread Cert.BranchBwdRefIdeal.nD Cert.BranchBwdRefIdeal.τ).loc Cert.BranchBwdRefIdeal.main_v165) = v1 c
          ∧ r.2.mem ((c.tc : Thread Cert.BranchBwdRefIdeal.nD Cert.BranchBwdRefIdeal.τ).loc Cert.BranchBwdRefIdeal.main_v245) = v2 c
          ∧ r.2.mem ((c.tc : Thread Cert.BranchBwdRefIdeal.nD Cert.BranchBwdRefIdeal.τ).loc Cert.BranchBwdRefIdeal.main_v244) = v3 c
          ∧ r.2.mem ((c.tc : Thread Cert.BranchBwdRefIdeal.nD Cert.BranchBwdRefIdeal.τ).loc Cert.BranchBwdRefIdeal.main_arg0) = m' ((c.tc : Thread Cert.BranchBwdRefIdeal.nD Cert.BranchBwdRefIdeal.τ).loc Cert.BranchBwdRefIdeal.main_arg0)
          ∧ r.2.mem ((c.tc : Thread Cert.BranchBwdRefIdeal.nD Cert.BranchBwdRefIdeal.τ).loc Cert.BranchBwdRefIdeal.main_arg1) = m' ((c.tc : Thread Cert.BranchBwdRefIdeal.nD Cert.BranchBwdRefIdeal.τ).loc Cert.BranchBwdRefIdeal.main_arg1)
          ∧ r.2.mem ((c.tc : Thread Cert.BranchBwdRefIdeal.nD Cert.BranchBwdRefIdeal.τ).loc Cert.BranchBwdRefIdeal.main_arg2) = m' ((c.tc : Thread Cert.BranchBwdRefIdeal.nD Cert.BranchBwdRefIdeal.τ).loc Cert.BranchBwdRefIdeal.main_arg2)
          ∧ r.2.mem ((c.tc : Thread Cert.BranchBwdRefIdeal.nD Cert.BranchBwdRefIdeal.τ).loc Cert.BranchBwdRefIdeal.main_arg3) = m' ((c.tc : Thread Cert.BranchBwdRefIdeal.nD Cert.BranchBwdRefIdeal.τ).loc Cert.BranchBwdRefIdeal.main_arg3)
          ∧ r.2.mem ((c.tc : Thread Cert.BranchBwdRefIdeal.nD Cert.BranchBwdRefIdeal.τ).loc Cert.BranchBwdRefIdeal.main_arg4) = m' ((c.tc : Thread Cert.BranchBwdRefIdeal.nD Cert.BranchBwdRefIdeal.τ).loc Cert.BranchBwdRefIdeal.main_arg4)
          ∧ r.2.mem ((c.tc : Thread Cert.BranchBwdRefIdeal.nD Cert.BranchBwdRefIdeal.τ).loc Cert.BranchBwdRefIdeal.main_arg5) = m' ((c.tc : Thread Cert.BranchBwdRefIdeal.nD Cert.BranchBwdRefIdeal.τ).loc Cert.BranchBwdRefIdeal.main_arg5)
          ∧ r.2.mem ((c.tc : Thread Cert.BranchBwdRefIdeal.nD Cert.BranchBwdRefIdeal.τ).loc Cert.BranchBwdRefIdeal.main_arg6) = m' ((c.tc : Thread Cert.BranchBwdRefIdeal.nD Cert.BranchBwdRefIdeal.τ).loc Cert.BranchBwdRefIdeal.main_arg6)
          ∧ r.2.mem ((c.tc : Thread Cert.BranchBwdRefIdeal.nD Cert.BranchBwdRefIdeal.τ).loc Cert.BranchBwdRefIdeal.main_arg7) = m' ((c.tc : Thread Cert.BranchBwdRefIdeal.nD Cert.BranchBwdRefIdeal.τ).loc Cert.BranchBwdRefIdeal.main_arg7)
          ∧ r.2.mem ((c.tc : Thread Cert.BranchBwdRefIdeal.nD Cert.BranchBwdRefIdeal.τ).loc Cert.BranchBwdRefIdeal.main_arg8) = m' ((c.tc : Thread Cert.BranchBwdRefIdeal.nD Cert.BranchBwdRefIdeal.τ).loc Cert.BranchBwdRefIdeal.main_arg8))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)
      ∧ m' ((c.tc : Thread Cert.BranchFwdRefIdeal.nD Cert.BranchFwdRefIdeal.τ).loc Cert.BranchFwdRefIdeal.main_arg2) = m ((c.tc : Thread Cert.BranchFwdIdeal.nD Cert.BranchFwdIdeal.τ).loc Cert.BranchFwdIdeal.main_arg2)
      ∧ m' ((c.tc : Thread Cert.BranchFwdRefIdeal.nD Cert.BranchFwdRefIdeal.τ).loc Cert.BranchFwdRefIdeal.main_arg3) = m ((c.tc : Thread Cert.BranchFwdIdeal.nD Cert.BranchFwdIdeal.τ).loc Cert.BranchFwdIdeal.main_arg3)
      ∧ m' ((c.tc : Thread Cert.BranchFwdRefIdeal.nD Cert.BranchFwdRefIdeal.τ).loc Cert.BranchFwdRefIdeal.main_arg4) = m ((c.tc : Thread Cert.BranchFwdIdeal.nD Cert.BranchFwdIdeal.τ).loc Cert.BranchFwdIdeal.main_arg4)
      ∧ m' ((c.tc : Thread Cert.BranchFwdRefIdeal.nD Cert.BranchFwdRefIdeal.τ).loc Cert.BranchFwdRefIdeal.main_arg5) = m ((c.tc : Thread Cert.BranchFwdIdeal.nD Cert.BranchFwdIdeal.τ).loc Cert.BranchFwdIdeal.main_arg5)
      ∧ m' ((c.tc : Thread Cert.BranchFwdRefIdeal.nD Cert.BranchFwdRefIdeal.τ).loc Cert.BranchFwdRefIdeal.main_arg6) = m ((c.tc : Thread Cert.BranchFwdIdeal.nD Cert.BranchFwdIdeal.τ).loc Cert.BranchFwdIdeal.main_arg6)) →
    ∃ (v0 : (c : Dev Cert.BranchFwdIdeal.nD) → Buf (Elt Ideal) ((c.tc : Thread Cert.BranchFwdIdeal.nD Cert.BranchFwdIdeal.τ).loc Cert.BranchFwdIdeal.main_v6_0)) (v1 : (c : Dev Cert.BranchFwdIdeal.nD) → Buf (Elt Ideal) ((c.tc : Thread Cert.BranchFwdIdeal.nD Cert.BranchFwdIdeal.τ).loc Cert.BranchFwdIdeal.main_v6_1)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v6_0) = v0 c
          ∧ r.2.mem ((c.tc : Thread Cert.BranchFwdIdeal.nD Cert.BranchFwdIdeal.τ).loc Cert.BranchFwdIdeal.main_v6_1) = v1 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
          ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
          ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
          ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4)
          ∧ r.2.mem ((c.tc : Thread Cert.BranchFwdIdeal.nD Cert.BranchFwdIdeal.τ).loc Cert.BranchFwdIdeal.main_arg5) = m ((c.tc : Thread Cert.BranchFwdIdeal.nD Cert.BranchFwdIdeal.τ).loc Cert.BranchFwdIdeal.main_arg5)
          ∧ r.2.mem ((c.tc : Thread Cert.BranchFwdIdeal.nD Cert.BranchFwdIdeal.τ).loc Cert.BranchFwdIdeal.main_arg6) = m ((c.tc : Thread Cert.BranchFwdIdeal.nD Cert.BranchFwdIdeal.τ).loc Cert.BranchFwdIdeal.main_arg6))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v135) = v0 c
          ∧ r.2.mem ((c.tc : Thread Cert.BranchFwdRefIdeal.nD Cert.BranchFwdRefIdeal.τ).loc Cert.BranchFwdRefIdeal.main_v140) = v1 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1)
          ∧ r.2.mem ((c.tc : Thread Cert.BranchFwdRefIdeal.nD Cert.BranchFwdRefIdeal.τ).loc Cert.BranchFwdRefIdeal.main_arg2) = m' ((c.tc : Thread Cert.BranchFwdRefIdeal.nD Cert.BranchFwdRefIdeal.τ).loc Cert.BranchFwdRefIdeal.main_arg2)
          ∧ r.2.mem ((c.tc : Thread Cert.BranchFwdRefIdeal.nD Cert.BranchFwdRefIdeal.τ).loc Cert.BranchFwdRefIdeal.main_arg3) = m' ((c.tc : Thread Cert.BranchFwdRefIdeal.nD Cert.BranchFwdRefIdeal.τ).loc Cert.BranchFwdRefIdeal.main_arg3)
          ∧ r.2.mem ((c.tc : Thread Cert.BranchFwdRefIdeal.nD Cert.BranchFwdRefIdeal.τ).loc Cert.BranchFwdRefIdeal.main_arg4) = m' ((c.tc : Thread Cert.BranchFwdRefIdeal.nD Cert.BranchFwdRefIdeal.τ).loc Cert.BranchFwdRefIdeal.main_arg4)
          ∧ r.2.mem ((c.tc : Thread Cert.BranchFwdRefIdeal.nD Cert.BranchFwdRefIdeal.τ).loc Cert.BranchFwdRefIdeal.main_arg5) = m' ((c.tc : Thread Cert.BranchFwdRefIdeal.nD Cert.BranchFwdRefIdeal.τ).loc Cert.BranchFwdRefIdeal.main_arg5)
          ∧ r.2.mem ((c.tc : Thread Cert.BranchFwdRefIdeal.nD Cert.BranchFwdRefIdeal.τ).loc Cert.BranchFwdRefIdeal.main_arg6) = m' ((c.tc : Thread Cert.BranchFwdRefIdeal.nD Cert.BranchFwdRefIdeal.τ).loc Cert.BranchFwdRefIdeal.main_arg6))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v2)) (v1 : (c : Dev Cert.LossHeadIdeal.nD) → Buf (Elt Ideal) ((c.tc : Thread Cert.LossHeadIdeal.nD Cert.LossHeadIdeal.τ).loc Cert.LossHeadIdeal.main_v0_0)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v8) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v3_0)) (v1 : (c : Dev Cert.MergeBwdIdeal.nD) → Buf (Elt Ideal) ((c.tc : Thread Cert.MergeBwdIdeal.nD Cert.MergeBwdIdeal.τ).loc Cert.MergeBwdIdeal.main_v4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v3_0) = v0 c
          ∧ r.2.mem ((c.tc : Thread Cert.MergeBwdIdeal.nD Cert.MergeBwdIdeal.τ).loc Cert.MergeBwdIdeal.main_v4) = v1 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v54) = v0 c
          ∧ r.2.mem ((c.tc : Thread Cert.MergeBwdRefIdeal.nD Cert.MergeBwdRefIdeal.τ).loc Cert.MergeBwdRefIdeal.main_v55) = v1 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_MlpDownBwd_MlpDownBwdIdeal : Prop :=
  True

def algebraic_MlpDownBwdIdeal_MlpDownBwdRefIdeal [hMlpDownBwdIdeal : Cert.MlpDownBwdIdeal.Facts] [hMlpDownBwdRefIdeal : Cert.MlpDownBwdRefIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdRefIdeal.nD Cert.MlpDownBwdRefIdeal.τ Cert.MlpDownBwdRefIdeal.sig) → Buf (Elt Ideal) ℓ) (g' : Dev Cert.MlpDownBwdRefIdeal.nD → PrngReg), Pre_MlpDownBwdIdeal m →
    (∀ c : Dev Cert.MlpDownBwdIdeal.nD,
      m' ((c.tc : Thread Cert.MlpDownBwdRefIdeal.nD Cert.MlpDownBwdRefIdeal.τ).loc Cert.MlpDownBwdRefIdeal.main_arg0) = m ((c.tc : Thread Cert.MlpDownBwdIdeal.nD Cert.MlpDownBwdIdeal.τ).loc Cert.MlpDownBwdIdeal.main_arg0)
      ∧ m' ((c.tc : Thread Cert.MlpDownBwdRefIdeal.nD Cert.MlpDownBwdRefIdeal.τ).loc Cert.MlpDownBwdRefIdeal.main_arg1) = m ((c.tc : Thread Cert.MlpDownBwdIdeal.nD Cert.MlpDownBwdIdeal.τ).loc Cert.MlpDownBwdIdeal.main_arg1)
      ∧ m' ((c.tc : Thread Cert.MlpDownBwdRefIdeal.nD Cert.MlpDownBwdRefIdeal.τ).loc Cert.MlpDownBwdRefIdeal.main_arg2) = m ((c.tc : Thread Cert.MlpDownBwdIdeal.nD Cert.MlpDownBwdIdeal.τ).loc Cert.MlpDownBwdIdeal.main_arg2)) →
    ∃ (v0 : (c : Dev Cert.MlpDownBwdIdeal.nD) → Buf (Elt Ideal) ((c.tc : Thread Cert.MlpDownBwdIdeal.nD Cert.MlpDownBwdIdeal.τ).loc Cert.MlpDownBwdIdeal.main_v5)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v5) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ θ_run (Cert.MlpDownBwdRefIdeal.defs (F := Ideal)) (onTc (τ := Cert.MlpDownBwdRefIdeal.τ) (Cert.MlpDownBwdRefIdeal.main (F := Ideal))) ⟨m', fun _ => 0, g'⟩ (fun r => ∀ c : Dev Cert.MlpDownBwdRefIdeal.nD,
          r.2.mem ((c.tc : Thread Cert.MlpDownBwdRefIdeal.nD Cert.MlpDownBwdRefIdeal.τ).loc Cert.MlpDownBwdRefIdeal.main_v12) = v0 c
          ∧ r.2.mem ((c.tc : Thread Cert.MlpDownBwdRefIdeal.nD Cert.MlpDownBwdRefIdeal.τ).loc Cert.MlpDownBwdRefIdeal.main_arg0) = m' ((c.tc : Thread Cert.MlpDownBwdRefIdeal.nD Cert.MlpDownBwdRefIdeal.τ).loc Cert.MlpDownBwdRefIdeal.main_arg0)
          ∧ r.2.mem ((c.tc : Thread Cert.MlpDownBwdRefIdeal.nD Cert.MlpDownBwdRefIdeal.τ).loc Cert.MlpDownBwdRefIdeal.main_arg1) = m' ((c.tc : Thread Cert.MlpDownBwdRefIdeal.nD Cert.MlpDownBwdRefIdeal.τ).loc Cert.MlpDownBwdRefIdeal.main_arg1)
          ∧ r.2.mem ((c.tc : Thread Cert.MlpDownBwdRefIdeal.nD Cert.MlpDownBwdRefIdeal.τ).loc Cert.MlpDownBwdRefIdeal.main_arg2) = m' ((c.tc : Thread Cert.MlpDownBwdRefIdeal.nD Cert.MlpDownBwdRefIdeal.τ).loc Cert.MlpDownBwdRefIdeal.main_arg2))

def preserves_RmsTop_RmsTopIdeal : Prop :=
  True

def algebraic_RmsTopIdeal_RmsTopRefIdeal_pre_finite_rms [hRmsTopIdeal : Cert.RmsTopIdeal.Facts] [hRmsTopRefIdeal : Cert.RmsTopRefIdeal.Facts] [hPre_finite_rms : Cert.Pre_finite_rms.Facts] : Prop :=
  ∀ (m : (ℓ : Loc Cert.RmsTopIdeal.nD Cert.RmsTopIdeal.τ Cert.RmsTopIdeal.sig) → Buf (Elt Ideal) ℓ) (g : Dev Cert.RmsTopIdeal.nD → PrngReg)
    (m' : (ℓ : Loc Cert.RmsTopRefIdeal.nD Cert.RmsTopRefIdeal.τ Cert.RmsTopRefIdeal.sig) → Buf (Elt Ideal) ℓ) (g' : Dev Cert.RmsTopRefIdeal.nD → PrngReg), Pre_RmsTopIdeal_finite_rms m →
    (∀ c : Dev Cert.RmsTopIdeal.nD,
      m' ((c.tc : Thread Cert.RmsTopRefIdeal.nD Cert.RmsTopRefIdeal.τ).loc Cert.RmsTopRefIdeal.main_arg0) = m ((c.tc : Thread Cert.RmsTopIdeal.nD Cert.RmsTopIdeal.τ).loc Cert.RmsTopIdeal.main_arg0)
      ∧ m' ((c.tc : Thread Cert.RmsTopRefIdeal.nD Cert.RmsTopRefIdeal.τ).loc Cert.RmsTopRefIdeal.main_arg1) = m ((c.tc : Thread Cert.RmsTopIdeal.nD Cert.RmsTopIdeal.τ).loc Cert.RmsTopIdeal.main_arg1)
      ∧ m' ((c.tc : Thread Cert.RmsTopRefIdeal.nD Cert.RmsTopRefIdeal.τ).loc Cert.RmsTopRefIdeal.main_arg2) = m ((c.tc : Thread Cert.RmsTopIdeal.nD Cert.RmsTopIdeal.τ).loc Cert.RmsTopIdeal.main_arg2)) →
    ∃ (v0 : (c : Dev Cert.RmsTopIdeal.nD) → Buf (Elt Ideal) ((c.tc : Thread Cert.RmsTopIdeal.nD Cert.RmsTopIdeal.τ).loc Cert.RmsTopIdeal.main_v2_0)) (v1 : (c : Dev Cert.RmsTopIdeal.nD) → Buf (Elt Ideal) ((c.tc : Thread Cert.RmsTopIdeal.nD Cert.RmsTopIdeal.τ).loc Cert.RmsTopIdeal.main_v2_1)),
      θ_run (Cert.RmsTopIdeal.defs (F := Ideal)) (onTc (τ := Cert.RmsTopIdeal.τ) (Cert.RmsTopIdeal.main (F := Ideal))) ⟨m, fun _ => 0, g⟩ (fun r => ∀ c : Dev Cert.RmsTopIdeal.nD,
          r.2.mem ((c.tc : Thread Cert.RmsTopIdeal.nD Cert.RmsTopIdeal.τ).loc Cert.RmsTopIdeal.main_v2_0) = v0 c
          ∧ r.2.mem ((c.tc : Thread Cert.RmsTopIdeal.nD Cert.RmsTopIdeal.τ).loc Cert.RmsTopIdeal.main_v2_1) = v1 c
          ∧ r.2.mem ((c.tc : Thread Cert.RmsTopIdeal.nD Cert.RmsTopIdeal.τ).loc Cert.RmsTopIdeal.main_arg0) = m ((c.tc : Thread Cert.RmsTopIdeal.nD Cert.RmsTopIdeal.τ).loc Cert.RmsTopIdeal.main_arg0)
          ∧ r.2.mem ((c.tc : Thread Cert.RmsTopIdeal.nD Cert.RmsTopIdeal.τ).loc Cert.RmsTopIdeal.main_arg1) = m ((c.tc : Thread Cert.RmsTopIdeal.nD Cert.RmsTopIdeal.τ).loc Cert.RmsTopIdeal.main_arg1)
          ∧ r.2.mem ((c.tc : Thread Cert.RmsTopIdeal.nD Cert.RmsTopIdeal.τ).loc Cert.RmsTopIdeal.main_arg2) = m ((c.tc : Thread Cert.RmsTopIdeal.nD Cert.RmsTopIdeal.τ).loc Cert.RmsTopIdeal.main_arg2))
      ∧ θ_run (Cert.RmsTopRefIdeal.defs (F := Ideal)) (onTc (τ := Cert.RmsTopRefIdeal.τ) (Cert.RmsTopRefIdeal.main (F := Ideal))) ⟨m', fun _ => 0, g'⟩ (fun r => ∀ c : Dev Cert.RmsTopRefIdeal.nD,
          r.2.mem ((c.tc : Thread Cert.RmsTopRefIdeal.nD Cert.RmsTopRefIdeal.τ).loc Cert.RmsTopRefIdeal.main_v36) = v0 c
          ∧ r.2.mem ((c.tc : Thread Cert.RmsTopRefIdeal.nD Cert.RmsTopRefIdeal.τ).loc Cert.RmsTopRefIdeal.main_v37) = v1 c
          ∧ r.2.mem ((c.tc : Thread Cert.RmsTopRefIdeal.nD Cert.RmsTopRefIdeal.τ).loc Cert.RmsTopRefIdeal.main_arg0) = m' ((c.tc : Thread Cert.RmsTopRefIdeal.nD Cert.RmsTopRefIdeal.τ).loc Cert.RmsTopRefIdeal.main_arg0)
          ∧ r.2.mem ((c.tc : Thread Cert.RmsTopRefIdeal.nD Cert.RmsTopRefIdeal.τ).loc Cert.RmsTopRefIdeal.main_arg1) = m' ((c.tc : Thread Cert.RmsTopRefIdeal.nD Cert.RmsTopRefIdeal.τ).loc Cert.RmsTopRefIdeal.main_arg1)
          ∧ r.2.mem ((c.tc : Thread Cert.RmsTopRefIdeal.nD Cert.RmsTopRefIdeal.τ).loc Cert.RmsTopRefIdeal.main_arg2) = m' ((c.tc : Thread Cert.RmsTopRefIdeal.nD Cert.RmsTopRefIdeal.τ).loc Cert.RmsTopRefIdeal.main_arg2))

def preserves_RmsPre_RmsPreIdeal : Prop :=
  True

def algebraic_RmsPreIdeal_RmsPreRefIdeal_pre_finite_pre [hRmsPreIdeal : Cert.RmsPreIdeal.Facts] [hRmsPreRefIdeal : Cert.RmsPreRefIdeal.Facts] [hPre_finite_pre : Cert.Pre_finite_pre.Facts] : Prop :=
  ∀ (m : (ℓ : Loc Cert.RmsPreIdeal.nD Cert.RmsPreIdeal.τ Cert.RmsPreIdeal.sig) → Buf (Elt Ideal) ℓ) (g : Dev Cert.RmsPreIdeal.nD → PrngReg)
    (m' : (ℓ : Loc Cert.RmsPreRefIdeal.nD Cert.RmsPreRefIdeal.τ Cert.RmsPreRefIdeal.sig) → Buf (Elt Ideal) ℓ) (g' : Dev Cert.RmsPreRefIdeal.nD → PrngReg), Pre_RmsPreIdeal_finite_pre m →
    (∀ c : Dev Cert.RmsPreIdeal.nD,
      m' ((c.tc : Thread Cert.RmsPreRefIdeal.nD Cert.RmsPreRefIdeal.τ).loc Cert.RmsPreRefIdeal.main_arg0) = m ((c.tc : Thread Cert.RmsPreIdeal.nD Cert.RmsPreIdeal.τ).loc Cert.RmsPreIdeal.main_arg0)
      ∧ m' ((c.tc : Thread Cert.RmsPreRefIdeal.nD Cert.RmsPreRefIdeal.τ).loc Cert.RmsPreRefIdeal.main_arg1) = m ((c.tc : Thread Cert.RmsPreIdeal.nD Cert.RmsPreIdeal.τ).loc Cert.RmsPreIdeal.main_arg1)
      ∧ m' ((c.tc : Thread Cert.RmsPreRefIdeal.nD Cert.RmsPreRefIdeal.τ).loc Cert.RmsPreRefIdeal.main_arg2) = m ((c.tc : Thread Cert.RmsPreIdeal.nD Cert.RmsPreIdeal.τ).loc Cert.RmsPreIdeal.main_arg2)
      ∧ m' ((c.tc : Thread Cert.RmsPreRefIdeal.nD Cert.RmsPreRefIdeal.τ).loc Cert.RmsPreRefIdeal.main_arg3) = m ((c.tc : Thread Cert.RmsPreIdeal.nD Cert.RmsPreIdeal.τ).loc Cert.RmsPreIdeal.main_arg3)
      ∧ m' ((c.tc : Thread Cert.RmsPreRefIdeal.nD Cert.RmsPreRefIdeal.τ).loc Cert.RmsPreRefIdeal.main_arg4) = m ((c.tc : Thread Cert.RmsPreIdeal.nD Cert.RmsPreIdeal.τ).loc Cert.RmsPreIdeal.main_arg4)
      ∧ m' ((c.tc : Thread Cert.RmsPreRefIdeal.nD Cert.RmsPreRefIdeal.τ).loc Cert.RmsPreRefIdeal.main_arg5) = m ((c.tc : Thread Cert.RmsPreIdeal.nD Cert.RmsPreIdeal.τ).loc Cert.RmsPreIdeal.main_arg5)) →
    ∃ (v0 : (c : Dev Cert.RmsPreIdeal.nD) → Buf (Elt Ideal) ((c.tc : Thread Cert.RmsPreIdeal.nD Cert.RmsPreIdeal.τ).loc Cert.RmsPreIdeal.main_v17_0)) (v1 : (c : Dev Cert.RmsPreIdeal.nD) → Buf (Elt Ideal) ((c.tc : Thread Cert.RmsPreIdeal.nD Cert.RmsPreIdeal.τ).loc Cert.RmsPreIdeal.main_v17_1)) (v2 : (c : Dev Cert.RmsPreIdeal.nD) → Buf (Elt Ideal) ((c.tc : Thread Cert.RmsPreIdeal.nD Cert.RmsPreIdeal.τ).loc Cert.RmsPreIdeal.main_v17_2)) (v3 : (c : Dev Cert.RmsPreIdeal.nD) → Buf (Elt Ideal) ((c.tc : Thread Cert.RmsPreIdeal.nD Cert.RmsPreIdeal.τ).loc Cert.RmsPreIdeal.main_v17_3)),
      θ_run (Cert.RmsPreIdeal.defs (F := Ideal)) (onTc (τ := Cert.RmsPreIdeal.τ) (Cert.RmsPreIdeal.main (F := Ideal))) ⟨m, fun _ => 0, g⟩ (fun r => ∀ c : Dev Cert.RmsPreIdeal.nD,
          r.2.mem ((c.tc : Thread Cert.RmsPreIdeal.nD Cert.RmsPreIdeal.τ).loc Cert.RmsPreIdeal.main_v17_0) = v0 c
          ∧ r.2.mem ((c.tc : Thread Cert.RmsPreIdeal.nD Cert.RmsPreIdeal.τ).loc Cert.RmsPreIdeal.main_v17_1) = v1 c
          ∧ r.2.mem ((c.tc : Thread Cert.RmsPreIdeal.nD Cert.RmsPreIdeal.τ).loc Cert.RmsPreIdeal.main_v17_2) = v2 c
          ∧ r.2.mem ((c.tc : Thread Cert.RmsPreIdeal.nD Cert.RmsPreIdeal.τ).loc Cert.RmsPreIdeal.main_v17_3) = v3 c
          ∧ r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
          ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
          ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
          ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3)
          ∧ r.2.mem ((c.tc : Thread Cert.RmsPreIdeal.nD Cert.RmsPreIdeal.τ).loc Cert.RmsPreIdeal.main_arg4) = m ((c.tc : Thread Cert.RmsPreIdeal.nD Cert.RmsPreIdeal.τ).loc Cert.RmsPreIdeal.main_arg4)
          ∧ r.2.mem ((c.tc : Thread Cert.RmsPreIdeal.nD Cert.RmsPreIdeal.τ).loc Cert.RmsPreIdeal.main_arg5) = m ((c.tc : Thread Cert.RmsPreIdeal.nD Cert.RmsPreIdeal.τ).loc Cert.RmsPreIdeal.main_arg5))
      ∧ θ_run (Cert.RmsPreRefIdeal.defs (F := Ideal)) (onTc (τ := Cert.RmsPreRefIdeal.τ) (Cert.RmsPreRefIdeal.main (F := Ideal))) ⟨m', fun _ => 0, g'⟩ (fun r => ∀ c : Dev Cert.RmsPreRefIdeal.nD,
          r.2.mem ((c.tc : Thread Cert.RmsPreRefIdeal.nD Cert.RmsPreRefIdeal.τ).loc Cert.RmsPreRefIdeal.main_v53) = v0 c
          ∧ r.2.mem ((c.tc : Thread Cert.RmsPreRefIdeal.nD Cert.RmsPreRefIdeal.τ).loc Cert.RmsPreRefIdeal.main_v75) = v1 c
          ∧ r.2.mem ((c.tc : Thread Cert.RmsPreRefIdeal.nD Cert.RmsPreRefIdeal.τ).loc Cert.RmsPreRefIdeal.main_v76) = v2 c
          ∧ r.2.mem ((c.tc : Thread Cert.RmsPreRefIdeal.nD Cert.RmsPreRefIdeal.τ).loc Cert.RmsPreRefIdeal.main_v77) = v3 c
          ∧ r.2.mem ((c.tc : Thread Cert.RmsPreRefIdeal.nD Cert.RmsPreRefIdeal.τ).loc Cert.RmsPreRefIdeal.main_arg0) = m' ((c.tc : Thread Cert.RmsPreRefIdeal.nD Cert.RmsPreRefIdeal.τ).loc Cert.RmsPreRefIdeal.main_arg0)
          ∧ r.2.mem ((c.tc : Thread Cert.RmsPreRefIdeal.nD Cert.RmsPreRefIdeal.τ).loc Cert.RmsPreRefIdeal.main_arg1) = m' ((c.tc : Thread Cert.RmsPreRefIdeal.nD Cert.RmsPreRefIdeal.τ).loc Cert.RmsPreRefIdeal.main_arg1)
          ∧ r.2.mem ((c.tc : Thread Cert.RmsPreRefIdeal.nD Cert.RmsPreRefIdeal.τ).loc Cert.RmsPreRefIdeal.main_arg2) = m' ((c.tc : Thread Cert.RmsPreRefIdeal.nD Cert.RmsPreRefIdeal.τ).loc Cert.RmsPreRefIdeal.main_arg2)
          ∧ r.2.mem ((c.tc : Thread Cert.RmsPreRefIdeal.nD Cert.RmsPreRefIdeal.τ).loc Cert.RmsPreRefIdeal.main_arg3) = m' ((c.tc : Thread Cert.RmsPreRefIdeal.nD Cert.RmsPreRefIdeal.τ).loc Cert.RmsPreRefIdeal.main_arg3)
          ∧ r.2.mem ((c.tc : Thread Cert.RmsPreRefIdeal.nD Cert.RmsPreRefIdeal.τ).loc Cert.RmsPreRefIdeal.main_arg4) = m' ((c.tc : Thread Cert.RmsPreRefIdeal.nD Cert.RmsPreRefIdeal.τ).loc Cert.RmsPreRefIdeal.main_arg4)
          ∧ r.2.mem ((c.tc : Thread Cert.RmsPreRefIdeal.nD Cert.RmsPreRefIdeal.τ).loc Cert.RmsPreRefIdeal.main_arg5) = m' ((c.tc : Thread Cert.RmsPreRefIdeal.nD Cert.RmsPreRefIdeal.τ).loc Cert.RmsPreRefIdeal.main_arg5))

def preserves_RmsMix_RmsMixIdeal : Prop :=
  True

def algebraic_RmsMixIdeal_RmsMixRefIdeal_pre_finite_mix [hRmsMixIdeal : Cert.RmsMixIdeal.Facts] [hRmsMixRefIdeal : Cert.RmsMixRefIdeal.Facts] [hPre_finite_mix : Cert.Pre_finite_mix.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal_finite_mix m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)
      ∧ m' ((c.tc : Thread Cert.RmsMixRefIdeal.nD Cert.RmsMixRefIdeal.τ).loc Cert.RmsMixRefIdeal.main_arg2) = m ((c.tc : Thread Cert.RmsMixIdeal.nD Cert.RmsMixIdeal.τ).loc Cert.RmsMixIdeal.main_arg2)
      ∧ m' ((c.tc : Thread Cert.RmsMixRefIdeal.nD Cert.RmsMixRefIdeal.τ).loc Cert.RmsMixRefIdeal.main_arg3) = m ((c.tc : Thread Cert.RmsMixIdeal.nD Cert.RmsMixIdeal.τ).loc Cert.RmsMixIdeal.main_arg3)) →
    ∃ (v0 : (c : Dev Cert.RmsMixIdeal.nD) → Buf (Elt Ideal) ((c.tc : Thread Cert.RmsMixIdeal.nD Cert.RmsMixIdeal.τ).loc Cert.RmsMixIdeal.main_v2_0)) (v1 : (c : Dev Cert.RmsMixIdeal.nD) → Buf (Elt Ideal) ((c.tc : Thread Cert.RmsMixIdeal.nD Cert.RmsMixIdeal.τ).loc Cert.RmsMixIdeal.main_v2_1)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v2_0) = v0 c
          ∧ r.2.mem ((c.tc : Thread Cert.RmsMixIdeal.nD Cert.RmsMixIdeal.τ).loc Cert.RmsMixIdeal.main_v2_1) = v1 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
          ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2)
          ∧ r.2.mem ((c.tc : Thread Cert.RmsMixIdeal.nD Cert.RmsMixIdeal.τ).loc Cert.RmsMixIdeal.main_arg3) = m ((c.tc : Thread Cert.RmsMixIdeal.nD Cert.RmsMixIdeal.τ).loc Cert.RmsMixIdeal.main_arg3))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v36) = v0 c
          ∧ r.2.mem ((c.tc : Thread Cert.RmsMixRefIdeal.nD Cert.RmsMixRefIdeal.τ).loc Cert.RmsMixRefIdeal.main_v37) = v1 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1)
          ∧ r.2.mem ((c.tc : Thread Cert.RmsMixRefIdeal.nD Cert.RmsMixRefIdeal.τ).loc Cert.RmsMixRefIdeal.main_arg2) = m' ((c.tc : Thread Cert.RmsMixRefIdeal.nD Cert.RmsMixRefIdeal.τ).loc Cert.RmsMixRefIdeal.main_arg2)
          ∧ r.2.mem ((c.tc : Thread Cert.RmsMixRefIdeal.nD Cert.RmsMixRefIdeal.τ).loc Cert.RmsMixRefIdeal.main_arg3) = m' ((c.tc : Thread Cert.RmsMixRefIdeal.nD Cert.RmsMixRefIdeal.τ).loc Cert.RmsMixRefIdeal.main_arg3))

def preserves_RmsMem_RmsMemIdeal : Prop :=
  True

def algebraic_RmsMemIdeal_RmsMemRefIdeal_pre_finite_mem [hRmsMemIdeal : Cert.RmsMemIdeal.Facts] [hRmsMemRefIdeal : Cert.RmsMemRefIdeal.Facts] [hPre_finite_mem : Cert.Pre_finite_mem.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal_finite_mem m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)
      ∧ m' ((c.tc : Thread Cert.RmsMemRefIdeal.nD Cert.RmsMemRefIdeal.τ).loc Cert.RmsMemRefIdeal.main_arg2) = m ((c.tc : Thread Cert.RmsMemIdeal.nD Cert.RmsMemIdeal.τ).loc Cert.RmsMemIdeal.main_arg2)) →
    ∃ (v0 : (c : Dev Cert.RmsMemIdeal.nD) → Buf (Elt Ideal) ((c.tc : Thread Cert.RmsMemIdeal.nD Cert.RmsMemIdeal.τ).loc Cert.RmsMemIdeal.main_v2_0)) (v1 : (c : Dev Cert.RmsMemIdeal.nD) → Buf (Elt Ideal) ((c.tc : Thread Cert.RmsMemIdeal.nD Cert.RmsMemIdeal.τ).loc Cert.RmsMemIdeal.main_v2_1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v2_0) = v0 c
          ∧ r.2.mem ((c.tc : Thread Cert.RmsMemIdeal.nD Cert.RmsMemIdeal.τ).loc Cert.RmsMemIdeal.main_v2_1) = v1 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
          ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v36) = v0 c
          ∧ r.2.mem ((c.tc : Thread Cert.RmsMemRefIdeal.nD Cert.RmsMemRefIdeal.τ).loc Cert.RmsMemRefIdeal.main_v37) = v1 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1)
          ∧ r.2.mem ((c.tc : Thread Cert.RmsMemRefIdeal.nD Cert.RmsMemRefIdeal.τ).loc Cert.RmsMemRefIdeal.main_arg2) = m' ((c.tc : Thread Cert.RmsMemRefIdeal.nD Cert.RmsMemRefIdeal.τ).loc Cert.RmsMemRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v3_0)) (v1 : (c : Dev Cert.MergeFwdIdeal.nD) → Buf (Elt Ideal) ((c.tc : Thread Cert.MergeFwdIdeal.nD Cert.MergeFwdIdeal.τ).loc Cert.MergeFwdIdeal.main_v3_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3_0) = v0 c
          ∧ r.2.mem ((c.tc : Thread Cert.MergeFwdIdeal.nD Cert.MergeFwdIdeal.τ).loc Cert.MergeFwdIdeal.main_v3_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v38) = v0 c
          ∧ r.2.mem ((c.tc : Thread Cert.MergeFwdRefIdeal.nD Cert.MergeFwdRefIdeal.τ).loc Cert.MergeFwdRefIdeal.main_v39) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2_0)) (v1 : (c : Dev Cert.MlpUpIdeal.nD) → Buf (Elt Ideal) ((c.tc : Thread Cert.MlpUpIdeal.nD Cert.MlpUpIdeal.τ).loc Cert.MlpUpIdeal.main_v2_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2_0) = v0 c
          ∧ r.2.mem ((c.tc : Thread Cert.MlpUpIdeal.nD Cert.MlpUpIdeal.τ).loc Cert.MlpUpIdeal.main_v2_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v4) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_RmsNorm_RmsNormIdeal : Prop :=
  True

def algebraic_RmsNormIdeal_RmsNormRefIdeal [hRmsNormIdeal : Cert.RmsNormIdeal.Facts] [hRmsNormRefIdeal : Cert.RmsNormRefIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg)
    (m' : (ℓ : Loc Cert.RmsNormRefIdeal.nD Cert.RmsNormRefIdeal.τ Cert.RmsNormRefIdeal.sig) → Buf (Elt Ideal) ℓ) (g' : Dev Cert.RmsNormRefIdeal.nD → PrngReg), Pre_RmsNormIdeal m →
    (∀ c : Dev Cert.RmsNormIdeal.nD,
      m' ((c.tc : Thread Cert.RmsNormRefIdeal.nD Cert.RmsNormRefIdeal.τ).loc Cert.RmsNormRefIdeal.main_arg0) = m ((c.tc : Thread Cert.RmsNormIdeal.nD Cert.RmsNormIdeal.τ).loc Cert.RmsNormIdeal.main_arg0)
      ∧ m' ((c.tc : Thread Cert.RmsNormRefIdeal.nD Cert.RmsNormRefIdeal.τ).loc Cert.RmsNormRefIdeal.main_arg1) = m ((c.tc : Thread Cert.RmsNormIdeal.nD Cert.RmsNormIdeal.τ).loc Cert.RmsNormIdeal.main_arg1)) →
    ∃ (v0 : (c : Dev Cert.RmsNormIdeal.nD) → Buf (Elt Ideal) ((c.tc : Thread Cert.RmsNormIdeal.nD Cert.RmsNormIdeal.τ).loc Cert.RmsNormIdeal.main_v2)),
      θ_run (Cert.RmsNormIdeal.defs (F := Ideal)) (onTc (τ := Cert.RmsNormIdeal.τ) (Cert.RmsNormIdeal.main (F := Ideal))) ⟨m, fun _ => 0, g⟩ (fun r => ∀ c : Dev Cert.RmsNormIdeal.nD,
          r.2.mem ((c.tc : Thread Cert.RmsNormIdeal.nD Cert.RmsNormIdeal.τ).loc Cert.RmsNormIdeal.main_v2) = v0 c
          ∧ r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
          ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ θ_run (Cert.RmsNormRefIdeal.defs (F := Ideal)) (onTc (τ := Cert.RmsNormRefIdeal.τ) (Cert.RmsNormRefIdeal.main (F := Ideal))) ⟨m', fun _ => 0, g'⟩ (fun r => ∀ c : Dev Cert.RmsNormRefIdeal.nD,
          r.2.mem ((c.tc : Thread Cert.RmsNormRefIdeal.nD Cert.RmsNormRefIdeal.τ).loc Cert.RmsNormRefIdeal.main_v13) = v0 c
          ∧ r.2.mem ((c.tc : Thread Cert.RmsNormRefIdeal.nD Cert.RmsNormRefIdeal.τ).loc Cert.RmsNormRefIdeal.main_arg0) = m' ((c.tc : Thread Cert.RmsNormRefIdeal.nD Cert.RmsNormRefIdeal.τ).loc Cert.RmsNormRefIdeal.main_arg0)
          ∧ r.2.mem ((c.tc : Thread Cert.RmsNormRefIdeal.nD Cert.RmsNormRefIdeal.τ).loc Cert.RmsNormRefIdeal.main_arg1) = m' ((c.tc : Thread Cert.RmsNormRefIdeal.nD Cert.RmsNormRefIdeal.τ).loc Cert.RmsNormRefIdeal.main_arg1))

def preserves_ResNext_ResNextIdeal : Prop :=
  True

def algebraic_ResNextIdeal_ResNextRefIdeal [hResNextIdeal : Cert.ResNextIdeal.Facts] [hResNextRefIdeal : Cert.ResNextRefIdeal.Facts] : Prop :=
  ∀ (m : (ℓ : Loc Cert.ResNextIdeal.nD Cert.ResNextIdeal.τ Cert.ResNextIdeal.sig) → Buf (Elt Ideal) ℓ) (g : Dev Cert.ResNextIdeal.nD → PrngReg)
    (m' : (ℓ : Loc Cert.ResNextRefIdeal.nD Cert.ResNextRefIdeal.τ Cert.ResNextRefIdeal.sig) → Buf (Elt Ideal) ℓ) (g' : Dev Cert.ResNextRefIdeal.nD → PrngReg), Pre_ResNextIdeal m →
    (∀ c : Dev Cert.ResNextIdeal.nD,
      m' ((c.tc : Thread Cert.ResNextRefIdeal.nD Cert.ResNextRefIdeal.τ).loc Cert.ResNextRefIdeal.main_arg0) = m ((c.tc : Thread Cert.ResNextIdeal.nD Cert.ResNextIdeal.τ).loc Cert.ResNextIdeal.main_arg0)
      ∧ m' ((c.tc : Thread Cert.ResNextRefIdeal.nD Cert.ResNextRefIdeal.τ).loc Cert.ResNextRefIdeal.main_arg1) = m ((c.tc : Thread Cert.ResNextIdeal.nD Cert.ResNextIdeal.τ).loc Cert.ResNextIdeal.main_arg1)
      ∧ m' ((c.tc : Thread Cert.ResNextRefIdeal.nD Cert.ResNextRefIdeal.τ).loc Cert.ResNextRefIdeal.main_arg2) = m ((c.tc : Thread Cert.ResNextIdeal.nD Cert.ResNextIdeal.τ).loc Cert.ResNextIdeal.main_arg2)
      ∧ m' ((c.tc : Thread Cert.ResNextRefIdeal.nD Cert.ResNextRefIdeal.τ).loc Cert.ResNextRefIdeal.main_arg3) = m ((c.tc : Thread Cert.ResNextIdeal.nD Cert.ResNextIdeal.τ).loc Cert.ResNextIdeal.main_arg3)) →
    ∃ (v0 : (c : Dev Cert.ResNextIdeal.nD) → Buf (Elt Ideal) ((c.tc : Thread Cert.ResNextIdeal.nD Cert.ResNextIdeal.τ).loc Cert.ResNextIdeal.main_v2_0)) (v1 : (c : Dev Cert.ResNextIdeal.nD) → Buf (Elt Ideal) ((c.tc : Thread Cert.ResNextIdeal.nD Cert.ResNextIdeal.τ).loc Cert.ResNextIdeal.main_v2_1)),
      θ_run (Cert.ResNextIdeal.defs (F := Ideal)) (onTc (τ := Cert.ResNextIdeal.τ) (Cert.ResNextIdeal.main (F := Ideal))) ⟨m, fun _ => 0, g⟩ (fun r => ∀ c : Dev Cert.ResNextIdeal.nD,
          r.2.mem ((c.tc : Thread Cert.ResNextIdeal.nD Cert.ResNextIdeal.τ).loc Cert.ResNextIdeal.main_v2_0) = v0 c
          ∧ r.2.mem ((c.tc : Thread Cert.ResNextIdeal.nD Cert.ResNextIdeal.τ).loc Cert.ResNextIdeal.main_v2_1) = v1 c
          ∧ r.2.mem ((c.tc : Thread Cert.ResNextIdeal.nD Cert.ResNextIdeal.τ).loc Cert.ResNextIdeal.main_arg0) = m ((c.tc : Thread Cert.ResNextIdeal.nD Cert.ResNextIdeal.τ).loc Cert.ResNextIdeal.main_arg0)
          ∧ r.2.mem ((c.tc : Thread Cert.ResNextIdeal.nD Cert.ResNextIdeal.τ).loc Cert.ResNextIdeal.main_arg1) = m ((c.tc : Thread Cert.ResNextIdeal.nD Cert.ResNextIdeal.τ).loc Cert.ResNextIdeal.main_arg1)
          ∧ r.2.mem ((c.tc : Thread Cert.ResNextIdeal.nD Cert.ResNextIdeal.τ).loc Cert.ResNextIdeal.main_arg2) = m ((c.tc : Thread Cert.ResNextIdeal.nD Cert.ResNextIdeal.τ).loc Cert.ResNextIdeal.main_arg2)
          ∧ r.2.mem ((c.tc : Thread Cert.ResNextIdeal.nD Cert.ResNextIdeal.τ).loc Cert.ResNextIdeal.main_arg3) = m ((c.tc : Thread Cert.ResNextIdeal.nD Cert.ResNextIdeal.τ).loc Cert.ResNextIdeal.main_arg3))
      ∧ θ_run (Cert.ResNextRefIdeal.defs (F := Ideal)) (onTc (τ := Cert.ResNextRefIdeal.τ) (Cert.ResNextRefIdeal.main (F := Ideal))) ⟨m', fun _ => 0, g'⟩ (fun r => ∀ c : Dev Cert.ResNextRefIdeal.nD,
          r.2.mem ((c.tc : Thread Cert.ResNextRefIdeal.nD Cert.ResNextRefIdeal.τ).loc Cert.ResNextRefIdeal.main_v13) = v0 c
          ∧ r.2.mem ((c.tc : Thread Cert.ResNextRefIdeal.nD Cert.ResNextRefIdeal.τ).loc Cert.ResNextRefIdeal.main_v27) = v1 c
          ∧ r.2.mem ((c.tc : Thread Cert.ResNextRefIdeal.nD Cert.ResNextRefIdeal.τ).loc Cert.ResNextRefIdeal.main_arg0) = m' ((c.tc : Thread Cert.ResNextRefIdeal.nD Cert.ResNextRefIdeal.τ).loc Cert.ResNextRefIdeal.main_arg0)
          ∧ r.2.mem ((c.tc : Thread Cert.ResNextRefIdeal.nD Cert.ResNextRefIdeal.τ).loc Cert.ResNextRefIdeal.main_arg1) = m' ((c.tc : Thread Cert.ResNextRefIdeal.nD Cert.ResNextRefIdeal.τ).loc Cert.ResNextRefIdeal.main_arg1)
          ∧ r.2.mem ((c.tc : Thread Cert.ResNextRefIdeal.nD Cert.ResNextRefIdeal.τ).loc Cert.ResNextRefIdeal.main_arg2) = m' ((c.tc : Thread Cert.ResNextRefIdeal.nD Cert.ResNextRefIdeal.τ).loc Cert.ResNextRefIdeal.main_arg2)
          ∧ r.2.mem ((c.tc : Thread Cert.ResNextRefIdeal.nD Cert.ResNextRefIdeal.τ).loc Cert.ResNextRefIdeal.main_arg3) = m' ((c.tc : Thread Cert.ResNextRefIdeal.nD Cert.ResNextRefIdeal.τ).loc Cert.ResNextRefIdeal.main_arg3))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)) →
    ∃ (v0 : (c : Dev Cert.ResNormIdeal.nD) → Buf (Elt Ideal) ((c.tc : Thread Cert.ResNormIdeal.nD Cert.ResNormIdeal.τ).loc Cert.ResNormIdeal.main_v1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v1) = v0 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v13) = v0 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)) →
    ∃ (v0 : (c : Dev Cert.ProjBwdIdeal.nD) → Buf (Elt Ideal) ((c.tc : Thread Cert.ProjBwdIdeal.nD Cert.ProjBwdIdeal.τ).loc Cert.ProjBwdIdeal.main_v3)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v3) = v0 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v2) = v0 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v2)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v2) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v4) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v33) = v0 c
          ∧ r.2.mem ((c.tc : Thread Cert.AdamRefIdeal.nD Cert.AdamRefIdeal.τ).loc Cert.AdamRefIdeal.main_v36) = v1 c
          ∧ r.2.mem ((c.tc : Thread Cert.AdamRefIdeal.nD Cert.AdamRefIdeal.τ).loc Cert.AdamRefIdeal.main_v39) = v2 c
          ∧ r.2.mem ((c.tc : Thread Cert.AdamRefIdeal.nD Cert.AdamRefIdeal.τ).loc Cert.AdamRefIdeal.main_v42) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7))

def Claim : Prop :=
  ∃ (hBranchBwd : Cert.BranchBwd.Facts) (hBranchBwdIdeal : Cert.BranchBwdIdeal.Facts) (hBranchBwdRefIdeal : Cert.BranchBwdRefIdeal.Facts) (hBranchFwd : Cert.BranchFwd.Facts) (hBranchFwdIdeal : Cert.BranchFwdIdeal.Facts) (hBranchFwdRefIdeal : Cert.BranchFwdRefIdeal.Facts) (hLossHead : Cert.LossHead.Facts) (hLossHeadIdeal : Cert.LossHeadIdeal.Facts) (hLossHeadRefIdeal : Cert.LossHeadRefIdeal.Facts) (hMergeBwd : Cert.MergeBwd.Facts) (hMergeBwdIdeal : Cert.MergeBwdIdeal.Facts) (hMergeBwdRefIdeal : Cert.MergeBwdRefIdeal.Facts) (hMlpDownBwd : Cert.MlpDownBwd.Facts) (hMlpDownBwdIdeal : Cert.MlpDownBwdIdeal.Facts) (hMlpDownBwdRefIdeal : Cert.MlpDownBwdRefIdeal.Facts) (hRmsTop : Cert.RmsTop.Facts) (hRmsTopIdeal : Cert.RmsTopIdeal.Facts) (hRmsTopRefIdeal : Cert.RmsTopRefIdeal.Facts) (hRmsPre : Cert.RmsPre.Facts) (hRmsPreIdeal : Cert.RmsPreIdeal.Facts) (hRmsPreRefIdeal : Cert.RmsPreRefIdeal.Facts) (hRmsMix : Cert.RmsMix.Facts) (hRmsMixIdeal : Cert.RmsMixIdeal.Facts) (hRmsMixRefIdeal : Cert.RmsMixRefIdeal.Facts) (hRmsMem : Cert.RmsMem.Facts) (hRmsMemIdeal : Cert.RmsMemIdeal.Facts) (hRmsMemRefIdeal : Cert.RmsMemRefIdeal.Facts) (hMergeFwd : Cert.MergeFwd.Facts) (hMergeFwdIdeal : Cert.MergeFwdIdeal.Facts) (hMergeFwdRefIdeal : Cert.MergeFwdRefIdeal.Facts) (hMlpUp : Cert.MlpUp.Facts) (hMlpUpIdeal : Cert.MlpUpIdeal.Facts) (hMlpUpRefIdeal : Cert.MlpUpRefIdeal.Facts) (hRmsNorm : Cert.RmsNorm.Facts) (hRmsNormIdeal : Cert.RmsNormIdeal.Facts) (hRmsNormRefIdeal : Cert.RmsNormRefIdeal.Facts) (hResNext : Cert.ResNext.Facts) (hResNextIdeal : Cert.ResNextIdeal.Facts) (hResNextRefIdeal : Cert.ResNextRefIdeal.Facts) (hResNorm : Cert.ResNorm.Facts) (hResNormIdeal : Cert.ResNormIdeal.Facts) (hResNormRefIdeal : Cert.ResNormRefIdeal.Facts) (hProj : Cert.Proj.Facts) (hProjIdeal : Cert.ProjIdeal.Facts) (hProjRefIdeal : Cert.ProjRefIdeal.Facts) (hProjBwd : Cert.ProjBwd.Facts) (hProjBwdIdeal : Cert.ProjBwdIdeal.Facts) (hProjBwdRefIdeal : Cert.ProjBwdRefIdeal.Facts) (hGwIn : Cert.GwIn.Facts) (hGwInIdeal : Cert.GwInIdeal.Facts) (hGwInRefIdeal : Cert.GwInRefIdeal.Facts) (hAdam : Cert.Adam.Facts) (hAdamIdeal : Cert.AdamIdeal.Facts) (hAdamRefIdeal : Cert.AdamRefIdeal.Facts) (hPre_finite_branch : Cert.Pre_finite_branch.Facts) (hPre_finite_rms : Cert.Pre_finite_rms.Facts) (hPre_finite_pre : Cert.Pre_finite_pre.Facts) (hPre_finite_mix : Cert.Pre_finite_mix.Facts) (hPre_finite_mem : Cert.Pre_finite_mem.Facts),
    quiescent_BranchBwd (hBranchBwd := hBranchBwd)
    ∧ quiescent_BranchBwdIdeal (hBranchBwdIdeal := hBranchBwdIdeal)
    ∧ quiescent_BranchBwdIdeal_pre_finite_branch (hBranchBwdIdeal := hBranchBwdIdeal) (hPre_finite_branch := hPre_finite_branch)
    ∧ quiescent_BranchBwdRefIdeal (hBranchBwdRefIdeal := hBranchBwdRefIdeal)
    ∧ quiescent_BranchBwdRefIdeal_pre_finite_branch (hBranchBwdRefIdeal := hBranchBwdRefIdeal) (hPre_finite_branch := hPre_finite_branch)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MlpDownBwd (hMlpDownBwd := hMlpDownBwd)
    ∧ quiescent_MlpDownBwdIdeal (hMlpDownBwdIdeal := hMlpDownBwdIdeal)
    ∧ quiescent_MlpDownBwdRefIdeal (hMlpDownBwdRefIdeal := hMlpDownBwdRefIdeal)
    ∧ quiescent_RmsTop (hRmsTop := hRmsTop)
    ∧ quiescent_RmsTopIdeal (hRmsTopIdeal := hRmsTopIdeal)
    ∧ quiescent_RmsTopIdeal_pre_finite_rms (hRmsTopIdeal := hRmsTopIdeal) (hPre_finite_rms := hPre_finite_rms)
    ∧ quiescent_RmsTopRefIdeal (hRmsTopRefIdeal := hRmsTopRefIdeal)
    ∧ quiescent_RmsTopRefIdeal_pre_finite_rms (hRmsTopRefIdeal := hRmsTopRefIdeal) (hPre_finite_rms := hPre_finite_rms)
    ∧ quiescent_RmsPre (hRmsPre := hRmsPre)
    ∧ quiescent_RmsPreIdeal (hRmsPreIdeal := hRmsPreIdeal)
    ∧ quiescent_RmsPreIdeal_pre_finite_pre (hRmsPreIdeal := hRmsPreIdeal) (hPre_finite_pre := hPre_finite_pre)
    ∧ quiescent_RmsPreRefIdeal (hRmsPreRefIdeal := hRmsPreRefIdeal)
    ∧ quiescent_RmsPreRefIdeal_pre_finite_pre (hRmsPreRefIdeal := hRmsPreRefIdeal) (hPre_finite_pre := hPre_finite_pre)
    ∧ quiescent_RmsMix (hRmsMix := hRmsMix)
    ∧ quiescent_RmsMixIdeal (hRmsMixIdeal := hRmsMixIdeal)
    ∧ quiescent_RmsMixIdeal_pre_finite_mix (hRmsMixIdeal := hRmsMixIdeal) (hPre_finite_mix := hPre_finite_mix)
    ∧ quiescent_RmsMixRefIdeal (hRmsMixRefIdeal := hRmsMixRefIdeal)
    ∧ quiescent_RmsMixRefIdeal_pre_finite_mix (hRmsMixRefIdeal := hRmsMixRefIdeal) (hPre_finite_mix := hPre_finite_mix)
    ∧ quiescent_RmsMem (hRmsMem := hRmsMem)
    ∧ quiescent_RmsMemIdeal (hRmsMemIdeal := hRmsMemIdeal)
    ∧ quiescent_RmsMemIdeal_pre_finite_mem (hRmsMemIdeal := hRmsMemIdeal) (hPre_finite_mem := hPre_finite_mem)
    ∧ quiescent_RmsMemRefIdeal (hRmsMemRefIdeal := hRmsMemRefIdeal)
    ∧ quiescent_RmsMemRefIdeal_pre_finite_mem (hRmsMemRefIdeal := hRmsMemRefIdeal) (hPre_finite_mem := hPre_finite_mem)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_RmsNorm (hRmsNorm := hRmsNorm)
    ∧ quiescent_RmsNormIdeal (hRmsNormIdeal := hRmsNormIdeal)
    ∧ quiescent_RmsNormRefIdeal (hRmsNormRefIdeal := hRmsNormRefIdeal)
    ∧ quiescent_ResNext (hResNext := hResNext)
    ∧ quiescent_ResNextIdeal (hResNextIdeal := hResNextIdeal)
    ∧ quiescent_ResNextRefIdeal (hResNextRefIdeal := hResNextRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_Proj (hProj := hProj)
    ∧ quiescent_ProjIdeal (hProjIdeal := hProjIdeal)
    ∧ quiescent_ProjRefIdeal (hProjRefIdeal := hProjRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_Adam (hAdam := hAdam)
    ∧ quiescent_AdamIdeal (hAdamIdeal := hAdamIdeal)
    ∧ quiescent_AdamRefIdeal (hAdamRefIdeal := hAdamRefIdeal)
    ∧ preserves_BranchBwd_BranchBwdIdeal
    ∧ algebraic_BranchBwdIdeal_BranchBwdRefIdeal_pre_finite_branch (hBranchBwdIdeal := hBranchBwdIdeal) (hBranchBwdRefIdeal := hBranchBwdRefIdeal) (hPre_finite_branch := hPre_finite_branch)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MlpDownBwd_MlpDownBwdIdeal
    ∧ algebraic_MlpDownBwdIdeal_MlpDownBwdRefIdeal (hMlpDownBwdIdeal := hMlpDownBwdIdeal) (hMlpDownBwdRefIdeal := hMlpDownBwdRefIdeal)
    ∧ preserves_RmsTop_RmsTopIdeal
    ∧ algebraic_RmsTopIdeal_RmsTopRefIdeal_pre_finite_rms (hRmsTopIdeal := hRmsTopIdeal) (hRmsTopRefIdeal := hRmsTopRefIdeal) (hPre_finite_rms := hPre_finite_rms)
    ∧ preserves_RmsPre_RmsPreIdeal
    ∧ algebraic_RmsPreIdeal_RmsPreRefIdeal_pre_finite_pre (hRmsPreIdeal := hRmsPreIdeal) (hRmsPreRefIdeal := hRmsPreRefIdeal) (hPre_finite_pre := hPre_finite_pre)
    ∧ preserves_RmsMix_RmsMixIdeal
    ∧ algebraic_RmsMixIdeal_RmsMixRefIdeal_pre_finite_mix (hRmsMixIdeal := hRmsMixIdeal) (hRmsMixRefIdeal := hRmsMixRefIdeal) (hPre_finite_mix := hPre_finite_mix)
    ∧ preserves_RmsMem_RmsMemIdeal
    ∧ algebraic_RmsMemIdeal_RmsMemRefIdeal_pre_finite_mem (hRmsMemIdeal := hRmsMemIdeal) (hRmsMemRefIdeal := hRmsMemRefIdeal) (hPre_finite_mem := hPre_finite_mem)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MlpUp_MlpUpIdeal
    ∧ algebraic_MlpUpIdeal_MlpUpRefIdeal (hMlpUpIdeal := hMlpUpIdeal) (hMlpUpRefIdeal := hMlpUpRefIdeal)
    ∧ preserves_RmsNorm_RmsNormIdeal
    ∧ algebraic_RmsNormIdeal_RmsNormRefIdeal (hRmsNormIdeal := hRmsNormIdeal) (hRmsNormRefIdeal := hRmsNormRefIdeal)
    ∧ preserves_ResNext_ResNextIdeal
    ∧ algebraic_ResNextIdeal_ResNextRefIdeal (hResNextIdeal := hResNextIdeal) (hResNextRefIdeal := hResNextRefIdeal)
    ∧ preserves_ResNorm_ResNormIdeal
    ∧ algebraic_ResNormIdeal_ResNormRefIdeal (hResNormIdeal := hResNormIdeal) (hResNormRefIdeal := hResNormRefIdeal)
    ∧ preserves_Proj_ProjIdeal
    ∧ algebraic_ProjIdeal_ProjRefIdeal (hProjIdeal := hProjIdeal) (hProjRefIdeal := hProjRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_GwIn_GwInIdeal
    ∧ algebraic_GwInIdeal_GwInRefIdeal (hGwInIdeal := hGwInIdeal) (hGwInRefIdeal := hGwInRefIdeal)
    ∧ preserves_Adam_AdamIdeal
    ∧ algebraic_AdamIdeal_AdamRefIdeal (hAdamIdeal := hAdamIdeal) (hAdamRefIdeal := hAdamRefIdeal)
-- ==== Pre_finite_branch.lean ====
abbrev S8192x12288 : Shape := ⟨2, ![8192, 12288]⟩
abbrev S256x2048 : Shape := ⟨2, ![256, 2048]⟩
abbrev S31x1024 : Shape := ⟨2, ![31, 1024]⟩
abbrev S1024 : Shape := ⟨1, ![1024]⟩
abbrev S3x1024 : Shape := ⟨2, ![3, 1024]⟩
abbrev S3x8192x1024 : Shape := ⟨3, ![3, 8192, 1024]⟩
abbrev S_ : Shape := ⟨0, ![]⟩

class Facts : Prop where
  bcast_S_S8192x12288 : S_.BroadcastsInDim S8192x12288 (![] : Fin 0 → Fin S8192x12288.rank)
  reducesTo_S8192x12288_S_d0_1 : S8192x12288.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S3x8192x1024 : S_.BroadcastsInDim S3x8192x1024 (![] : Fin 0 → Fin S3x8192x1024.rank)
  reducesTo_S3x8192x1024_S_d0_1_2 : S3x8192x1024.ReducesTo [0, 1, 2] S_
  bcast_S_S31x1024 : S_.BroadcastsInDim S31x1024 (![] : Fin 0 → Fin S31x1024.rank)
  reducesTo_S31x1024_S_d0_1 : S31x1024.ReducesTo [0, 1] S_
  bcast_S_S1024 : S_.BroadcastsInDim S1024 (![] : Fin 0 → Fin S1024.rank)
  reducesTo_S1024_S_d0 : S1024.ReducesTo [0] S_
  bcast_S_S3x1024 : S_.BroadcastsInDim S3x1024 (![] : Fin 0 → Fin S3x1024.rank)
  reducesTo_S3x1024_S_d0_1 : S3x1024.ReducesTo [0, 1] S_

variable [Facts]

def fn_part2 {F : FTy → Type} [FloatOps F] (main_arg6 : FVec F S3x1024 .f32) (main_v33 : IVec S_ 1) : IVec S_ 1 :=
  let main_v34 : FVec F S3x1024 .f32 := Host.absf main_arg6
  let main_cst_12 : FVec F S_ .f32 := constant S_ .f32 0x7F800000#32
  let main_v35 : FVec F S3x1024 .f32 := broadcastInDim S3x1024 ![] bcast_S_S3x1024 main_cst_12
  let main_v36 : IVec S3x1024 1 := cmpf .olt main_v34 main_v35
  let main_c_13 : IVec S_ 1 := constantI S_ 1 1#1
  let main_v37 : IVec S_ 1 := (fun x v => Host.reduce IntOp.andi x v reducesTo_S3x1024_S_d0_1 h_S_) main_v36 main_c_13
  let main_v38 : IVec S_ 1 := andi main_v33 main_v37
  main_v38

def fn_part1 {F : FTy → Type} [FloatOps F] (main_arg3 : FVec F S1024 .f32) (main_arg4 : FVec F S1024 .f32) (main_arg5 : FVec F S1024 .f32) (main_arg6 : FVec F S3x1024 .f32) (main_v13 : IVec S_ 1) (main_v16 : IVec S31x1024 1) : IVec S_ 1 :=
  let main_c_5 : IVec S_ 1 := constantI S_ 1 1#1
  let main_v17 : IVec S_ 1 := (fun x v => Host.reduce IntOp.andi x v reducesTo_S31x1024_S_d0_1 h_S_) main_v16 main_c_5
  let main_v18 : IVec S_ 1 := andi main_v13 main_v17
  let main_v19 : FVec F S1024 .f32 := Host.absf main_arg3
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg4
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg5
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg6 main_v33

def fn {F : FTy → Type} [FloatOps F] (main_arg0 : FVec F S8192x12288 .f32) (main_arg1 : FVec F S256x2048 .f32) (main_arg2 : FVec F S31x1024 .f32) (main_arg3 : FVec F S1024 .f32) (main_arg4 : FVec F S1024 .f32) (main_arg5 : FVec F S1024 .f32) (main_arg6 : FVec F S3x1024 .f32) (main_arg7 : FVec F S3x8192x1024 .f32) (main_arg8 : FVec F S8192x12288 .bf16) : IVec S_ 1 :=
  let main_v0 : FVec F S8192x12288 .f32 := Host.absf main_arg0
  let main_cst : FVec F S_ .f32 := constant S_ .f32 0x7F800000#32
  let main_v1 : FVec F S8192x12288 .f32 := broadcastInDim S8192x12288 ![] bcast_S_S8192x12288 main_cst
  let main_v2 : IVec S8192x12288 1 := cmpf .olt main_v0 main_v1
  let main_c : IVec S_ 1 := constantI S_ 1 1#1
  let main_v3 : IVec S_ 1 := (fun x v => Host.reduce IntOp.andi x v reducesTo_S8192x12288_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S3x8192x1024 .f32 := Host.absf main_arg7
  let main_cst_2 : FVec F S_ .f32 := constant S_ .f32 0x7F800000#32
  let main_v10 : FVec F S3x8192x1024 .f32 := broadcastInDim S3x8192x1024 ![] bcast_S_S3x8192x1024 main_cst_2
  let main_v11 : IVec S3x8192x1024 1 := cmpf .olt main_v9 main_v10
  let main_c_3 : IVec S_ 1 := constantI S_ 1 1#1
  let main_v12 : IVec S_ 1 := (fun x v => Host.reduce IntOp.andi x v reducesTo_S3x8192x1024_S_d0_1_2 h_S_) main_v11 main_c_3
  let main_v13 : IVec S_ 1 := andi main_v8 main_v12
  let main_v14 : FVec F S31x1024 .f32 := Host.absf main_arg2
  let main_cst_4 : FVec F S_ .f32 := constant S_ .f32 0x7F800000#32
  let main_v15 : FVec F S31x1024 .f32 := broadcastInDim S31x1024 ![] bcast_S_S31x1024 main_cst_4
  let main_v16 : IVec S31x1024 1 := cmpf .olt main_v14 main_v15
  fn_part1 (F := F) main_arg3 main_arg4 main_arg5 main_arg6 main_v13 main_v16
-- ==== Pre_finite_mem.lean ====
abbrev S256x2048 : Shape := ⟨2, ![256, 2048]⟩
abbrev S2048 : Shape := ⟨1, ![2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S256x2048 .f32) (main_arg1 : FVec F S2048 .f32) (main_arg2 : FVec F S256x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  main_v13
-- ==== Pre_finite_mix.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S2048 .f32) (main_arg2 : FVec F S8192x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite_pre.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8192x2048 .f32) (main_arg5 : FVec F S8192x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S2048 .f32) (main_arg3 : FVec F S2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Pre_finite_rms.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== BranchBwd.lean ====
abbrev S8192x12288 : Shape := ⟨2, ![8192, 12288]⟩
abbrev S256x2048 : Shape := ⟨2, ![256, 2048]⟩
abbrev S31x1024 : Shape := ⟨2, ![31, 1024]⟩
abbrev S1024 : Shape := ⟨1, ![1024]⟩
abbrev S3x1024 : Shape := ⟨2, ![3, 1024]⟩
abbrev S3x8192x1024 : Shape := ⟨3, ![3, 8192, 1024]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S8192 : Shape := ⟨1, ![8192]⟩
abbrev S1x8192 : Shape := ⟨2, ![1, 8192]⟩
abbrev S31 : Shape := ⟨1, ![31]⟩
abbrev S31x1 : Shape := ⟨2, ![31, 1]⟩
abbrev S31x8192 : Shape := ⟨2, ![31, 8192]⟩
abbrev S31x1x1024 : Shape := ⟨3, ![31, 1, 1024]⟩
abbrev S31x8192x1 : Shape := ⟨3, ![31, 8192, 1]⟩
abbrev S31x8192x1024 : Shape := ⟨3, ![31, 8192, 1024]⟩
abbrev S1x1024 : Shape := ⟨2, ![1, 1024]⟩
abbrev S32x1024 : Shape := ⟨2, ![32, 1024]⟩
abbrev S8x1024 : Shape := ⟨2, ![8, 1024]⟩
abbrev S256x1024 : Shape := ⟨2, ![256, 1024]⟩
abbrev S128x1024 : Shape := ⟨2, ![128, 1024]⟩
abbrev S3x128x1024 : Shape := ⟨3, ![3, 128, 1024]⟩
abbrev S1x32x1024 : Shape := ⟨3, ![1, 32, 1024]⟩
abbrev S1x8x1024 : Shape := ⟨3, ![1, 8, 1024]⟩
abbrev S128x6144 : Shape := ⟨2, ![128, 6144]⟩
abbrev S160x1024 : Shape := ⟨2, ![160, 1024]⟩
abbrev S136x1024 : Shape := ⟨2, ![136, 1024]⟩
abbrev S7x152x1024 : Shape := ⟨3, ![7, 152, 1024]⟩
abbrev S31x8x1024 : Shape := ⟨3, ![31, 8, 1024]⟩
abbrev S1x128x1024 : Shape := ⟨3, ![1, 128, 1024]⟩
abbrev S128 : Shape := ⟨1, ![128]⟩
abbrev S128x1 : Shape := ⟨2, ![128, 1]⟩
abbrev S32 : Shape := ⟨1, ![32]⟩
abbrev S32x1 : Shape := ⟨2, ![32, 1]⟩
abbrev S152x1024 : Shape := ⟨2, ![152, 1024]⟩
abbrev S1x152x1024 : Shape := ⟨3, ![1, 152, 1024]⟩
abbrev S4x8x1024 : Shape := ⟨3, ![4, 8, 1024]⟩
abbrev S128x256 : Shape := ⟨2, ![128, 256]⟩
abbrev S256x256 : Shape := ⟨2, ![256, 256]⟩
abbrev S1x128x256 : Shape := ⟨3, ![1, 128, 256]⟩
abbrev S32x8x1024 : Shape := ⟨3, ![32, 8, 1024]⟩

abbrev nBuf : Space → Nat
  | .hbm => 63
  | .vmem => 49
  | .smem => 0
  | _ => 0

abbrev bufTy : (tb : Table) → Fin (tcTables nBuf tb) → BufTy
  | .hbm, ⟨0, _⟩ => ⟨S8192x12288, .f32⟩
  | .hbm, ⟨1, _⟩ => ⟨S256x2048, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S3x1024, .f32⟩
  | .hbm, ⟨7, _⟩ => ⟨S3x8192x1024, .f32⟩
  | .hbm, ⟨8, _⟩ => ⟨S8192x12288, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S30x1024, .f32⟩
  | .hbm, ⟨22, _⟩ => ⟨S8222x1024, .f32⟩
  | .hbm, ⟨23, _⟩ => ⟨S8192, .i32⟩
  | .hbm, ⟨24, _⟩ => ⟨S1x8192, .i32⟩
  | .hbm, ⟨25, _⟩ => ⟨S31, .i32⟩
  | .hbm, ⟨26, _⟩ => ⟨S31x1, .i32⟩
  | .hbm, ⟨27, _⟩ => ⟨S31x8192, .i32⟩
  | .hbm, ⟨28, _⟩ => ⟨S31x8192, .i32⟩
  | .hbm, ⟨29, _⟩ => ⟨S31x8192, .i32⟩
  | .hbm, ⟨30, _⟩ => ⟨S31x1x1024, .f32⟩
  | .hbm, ⟨31, _⟩ => ⟨S_, .i32⟩
  | .hbm, ⟨32, _⟩ => ⟨S31x8192, .i32⟩
  | .hbm, ⟨33, _⟩ => ⟨S31x8192, .i1⟩
  | .hbm, ⟨34, _⟩ => ⟨S_, .i32⟩
  | .hbm, ⟨35, _⟩ => ⟨S31x8192, .i32⟩
  | .hbm, ⟨36, _⟩ => ⟨S31x8192, .i32⟩
  | .hbm, ⟨37, _⟩ => ⟨S31x8192, .i32⟩
  | .hbm, ⟨38, _⟩ => ⟨S31x8192x1, .i32⟩
  | .hbm, ⟨39, _⟩ => ⟨S31x8192x1024, .f32⟩
  | .hbm, ⟨40, _⟩ => ⟨S31x8192x1024, .f32⟩
  | .hbm, ⟨41, _⟩ => ⟨S31x8192x1024, .f32⟩
  | .hbm, ⟨42, _⟩ => ⟨S_, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .i32⟩
  | .hbm, ⟨48, _⟩ => ⟨S_, .f32⟩
  | .hbm, ⟨49, _⟩ => ⟨S32x1024, .f32⟩
  | .hbm, ⟨50, _⟩ => ⟨S_, .i32⟩
  | .hbm, ⟨51, _⟩ => ⟨S_, .f32⟩
  | .hbm, ⟨52, _⟩ => ⟨S8x1024, .f32⟩
  | .hbm, ⟨53, _⟩ => ⟨S256x2048, .bf16⟩
  | .hbm, ⟨54, _⟩ => ⟨S1x1024, .f32⟩
  | .hbm, ⟨55, _⟩ => ⟨S1x1024, .f32⟩
  | .hbm, ⟨56, _⟩ => ⟨S8192x12288, .bf16⟩
  | .hbm, ⟨57, _⟩ => ⟨S256x2048, .f32⟩
  | .hbm, ⟨58, _⟩ => ⟨S256x1024, .f32⟩
  | .hbm, ⟨59, _⟩ => ⟨S8x1024, .f32⟩
  | .hbm, ⟨60, _⟩ => ⟨S32x8x1024, .f32⟩
  | .hbm, ⟨61, _⟩ => ⟨S_, .f32⟩
  | .hbm, ⟨62, _⟩ => ⟨S32x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S128x1024, .f32⟩
  | .local _ .vmem, ⟨23, _⟩ => ⟨S128x1024, .f32⟩
  | .local _ .vmem, ⟨24, _⟩ => ⟨S32x1024, .f32⟩
  | .local _ .vmem, ⟨25, _⟩ => ⟨S32x1024, .f32⟩
  | .local _ .vmem, ⟨26, _⟩ => ⟨S3x128x1024, .f32⟩
  | .local _ .vmem, ⟨27, _⟩ => ⟨S3x128x1024, .f32⟩
  | .local _ .vmem, ⟨28, _⟩ => ⟨S1x32x1024, .f32⟩
  | .local _ .vmem, ⟨29, _⟩ => ⟨S1x32x1024, .f32⟩
  | .local _ .vmem, ⟨30, _⟩ => ⟨S1x8x1024, .f32⟩
  | .local _ .vmem, ⟨31, _⟩ => ⟨S1x8x1024, .f32⟩
  | .local _ .vmem, ⟨32, _⟩ => ⟨S256x2048, .bf16⟩
  | .local _ .vmem, ⟨33, _⟩ => ⟨S32x1024, .f32⟩
  | .local _ .vmem, ⟨34, _⟩ => ⟨S1x1024, .f32⟩
  | .local _ .vmem, ⟨35, _⟩ => ⟨S1x1024, .f32⟩
  | .local _ .vmem, ⟨36, _⟩ => ⟨S8x1024, .f32⟩
  | .local _ .vmem, ⟨37, _⟩ => ⟨S128x6144, .bf16⟩
  | .local _ .vmem, ⟨38, _⟩ => ⟨S128x6144, .bf16⟩
  | .local _ .vmem, ⟨39, _⟩ => ⟨S256x2048, .f32⟩
  | .local _ .vmem, ⟨40, _⟩ => ⟨S256x1024, .f32⟩
  | .local _ .vmem, ⟨41, _⟩ => ⟨S8x1024, .f32⟩
  | .local _ .vmem, ⟨42, _⟩ => ⟨S160x1024, .f32⟩
  | .local _ .vmem, ⟨43, _⟩ => ⟨S160x1024, .f32⟩
  | .local _ .vmem, ⟨44, _⟩ => ⟨S136x1024, .f32⟩
  | .local _ .vmem, ⟨45, _⟩ => ⟨S136x1024, .f32⟩
  | .local _ .vmem, ⟨46, _⟩ => ⟨S7x152x1024, .f32⟩
  | .local _ .vmem, ⟨47, _⟩ => ⟨S7x152x1024, .f32⟩
  | .local _ .vmem, ⟨48, _⟩ => ⟨S31x8x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_call0_v0 : Ref sig .tc := ⟨.hbm, 48, rfl⟩
abbrev main_v32 : Ref sig .tc := ⟨.hbm, 49, rfl⟩
abbrev main_c_5 : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev main_v37_3 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_scratch6 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem21_1 : DmaSem sig := 38
abbrev cc0_sem22_0 : DmaSem sig := 39
abbrev cc0_sem23_0 : DmaSem sig := 40
abbrev cc0_sem24_0 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c1_i32_0 : BitVec 32 := 1#32
  let c0_i32 : BitVec 32 := 0#32
  let c0_i32_1 : BitVec 32 := 0#32
  ![c1_i32_0.toNat, v2.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x6144 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S256x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== BranchBwdRefIdeal.lean ====
abbrev S8192x12288 : Shape := ⟨2, ![8192, 12288]⟩
abbrev S256x2048 : Shape := ⟨2, ![256, 2048]⟩
abbrev S31x1024 : Shape := ⟨2, ![31, 1024]⟩
abbrev S1024 : Shape := ⟨1, ![1024]⟩
abbrev S3x1024 : Shape := ⟨2, ![3, 1024]⟩
abbrev S3x8192x1024 : Shape := ⟨3, ![3, 8192, 1024]⟩
abbrev S8192x6144 : Shape := ⟨2, ![8192, 6144]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S8192 : Shape := ⟨1, ![8192]⟩
abbrev S1x8192 : Shape := ⟨2, ![1, 8192]⟩
abbrev S31 : Shape := ⟨1, ![31]⟩
abbrev S31x1 : Shape := ⟨2, ![31, 1]⟩
abbrev S31x8192 : Shape := ⟨2, ![31, 8192]⟩
abbrev S31x1x1024 : Shape := ⟨3, ![31, 1, 1024]⟩
abbrev S31x8192x1 : Shape := ⟨3, ![31, 8192, 1]⟩
abbrev S31x8192x1024 : Shape := ⟨3, ![31, 8192, 1024]⟩
abbrev S1x1024 : Shape := ⟨2, ![1, 1024]⟩
abbrev S8192x1 : Shape := ⟨2, ![8192, 1]⟩
abbrev S2x1024 : Shape := ⟨2, ![2, 1024]⟩
abbrev S8194x1024 : Shape := ⟨2, ![8194, 1024]⟩
abbrev S3 : Shape := ⟨1, ![3]⟩
abbrev S3x1 : Shape := ⟨2, ![3, 1]⟩
abbrev S3x8192 : Shape := ⟨2, ![3, 8192]⟩
abbrev S3x1x1024 : Shape := ⟨3, ![3, 1, 1024]⟩
abbrev S3x8192x1 : Shape := ⟨3, ![3, 8192, 1]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S1x8192x1024 : Shape := ⟨3, ![1, 8192, 1024]⟩
abbrev S4x256x256 : Shape := ⟨3, ![4, 256, 256]⟩
abbrev S8x1024 : Shape := ⟨2, ![8, 1024]⟩
abbrev S32x1024 : Shape := ⟨2, ![32, 1024]⟩

abbrev nBuf : Space → Nat
  | .hbm => 326
  | .vmem => 0
  | .smem => 0
  | _ => 0

abbrev hbmTy0_0 (i : Nat) : BufTy := match i % 128 with
  | 0 => ⟨S8192x12288, .f32⟩
  | 1 => ⟨S256x2048, .f32⟩
  | 2 => ⟨S31x1024, .f32⟩
  | 3 => ⟨S1024, .f32⟩
  | 4 => ⟨S1024, .f32⟩
  | 5 => ⟨S1024, .f32⟩
  | 6 => ⟨S3x1024, .f32⟩
  | 7 => ⟨S3x8192x1024, .f32⟩
  | 8 => ⟨S8192x12288, .bf16⟩
  | 9 => ⟨S8192x6144, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S30x1024, .f32⟩
  | 31 => ⟨S8222x1024, .f32⟩
  | 32 => ⟨S_, .f32⟩
  | 33 => ⟨S30x1024, .f32⟩
  | 34 => ⟨S8192, .i32⟩
  | 35 => ⟨S1x8192, .i32⟩
  | 36 => ⟨S31, .i32⟩
  | 37 => ⟨S31x1, .i32⟩
  | 38 => ⟨S31x8192, .i32⟩
  | 39 => ⟨S31x8192, .i32⟩
  | 40 => ⟨S31x8192, .i32⟩
  | 41 => ⟨S31x1x1024, .f32⟩
  | 42 => ⟨S_, .i32⟩
  | 43 => ⟨S31x8192, .i32⟩
  | 44 => ⟨S31x8192, .i1⟩
  | 45 => ⟨S_, .i32⟩
  | 46 => ⟨S31x8192, .i32⟩
  | 47 => ⟨S31x8192, .i32⟩
  | 48 => ⟨S31x8192, .i32⟩
  | 49 => ⟨S31x8192x1, .i32⟩
  | 50 => ⟨S31x8192x1024, .f32⟩
  | 51 => ⟨S31x8192x1024, .f32⟩
  | 52 => ⟨S31x8192x1024, .f32⟩
  | 53 => ⟨S_, .f32⟩
  | 54 => ⟨S8192x1024, .f32⟩
  | 55 => ⟨S1x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S_, .f32⟩
  | 79 => ⟨S8192x1, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S1x1024, .f32⟩
  | 89 => ⟨S8192x1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S2x1024, .f32⟩
  | 110 => ⟨S8194x1024, .f32⟩
  | 111 => ⟨S_, .f32⟩
  | 112 => ⟨S2x1024, .f32⟩
  | 113 => ⟨S8192, .i32⟩
  | 114 => ⟨S1x8192, .i32⟩
  | 115 => ⟨S3, .i32⟩
  | 116 => ⟨S3x1, .i32⟩
  | 117 => ⟨S3x8192, .i32⟩
  | 118 => ⟨S3x8192, .i32⟩
  | 119 => ⟨S3x8192, .i32⟩
  | 120 => ⟨S3x1x1024, .f32⟩
  | 121 => ⟨S_, .i32⟩
  | 122 => ⟨S3x8192, .i32⟩
  | 123 => ⟨S3x8192, .i1⟩
  | 124 => ⟨S_, .i32⟩
  | 125 => ⟨S3x8192, .i32⟩
  | 126 => ⟨S3x8192, .i32⟩
  | 127 => ⟨S3x8192, .i32⟩
  | _ => ⟨S8192x12288, .f32⟩

abbrev hbmTy0_1 (i : Nat) : BufTy := match i % 128 with
  | 0 => ⟨S3x8192x1, .i32⟩
  | 1 => ⟨S3x8192x1024, .f32⟩
  | 2 => ⟨S3x8192x1024, .f32⟩
  | 3 => ⟨S3x8192x1024, .f32⟩
  | 4 => ⟨S_, .f32⟩
  | 5 => ⟨S8192x1024, .f32⟩
  | 6 => ⟨S8192x1024, .f32⟩
  | 7 => ⟨S256x1024, .f32⟩
  | 8 => ⟨S256x1024, .f32⟩
  | 9 => ⟨S8192x4x256, .f32⟩
  | 10 => ⟨S256x4x256, .f32⟩
  | 11 => ⟨S256x4x256, .f32⟩
  | 12 => ⟨S4x8192x256, .f32⟩
  | 13 => ⟨S_, .f32⟩
  | 14 => ⟨S4x8192x256, .f32⟩
  | 15 => ⟨S4x8192x256, .f32⟩
  | 16 => ⟨S_, .f32⟩
  | 17 => ⟨S4x8192, .f32⟩
  | 18 => ⟨S4x8192x1, .f32⟩
  | 19 => ⟨S4x8192x256, .f32⟩
  | 20 => ⟨S4x8192x256, .i1⟩
  | 21 => ⟨S4x8192x256, .f32⟩
  | 22 => ⟨S_, .f32⟩
  | 23 => ⟨S4x8192, .f32⟩
  | 24 => ⟨S_, .f32⟩
  | 25 => ⟨S4x8192, .f32⟩
  | 26 => ⟨S4x8192, .f32⟩
  | 27 => ⟨S_, .f32⟩
  | 28 => ⟨S4x8192, .f32⟩
  | 29 => ⟨S4x8192, .i1⟩
  | 30 => ⟨S_, .f32⟩
  | 31 => ⟨S4x8192, .f32⟩
  | 32 => ⟨S4x8192, .i1⟩
  | 33 => ⟨S_, .f32⟩
  | 34 => ⟨S4x8192, .f32⟩
  | 35 => ⟨S_, .f32⟩
  | 36 => ⟨S4x8192, .f32⟩
  | 37 => ⟨S_, .f32⟩
  | 38 => ⟨S4x8192, .f32⟩
  | 39 => ⟨S4x8192, .f32⟩
  | 40 => ⟨S4x8192, .f32⟩
  | 41 => ⟨S4x8192x1, .f32⟩
  | 42 => ⟨S4x8192x256, .f32⟩
  | 43 => ⟨S4x8192x256, .f32⟩
  | 44 => ⟨S4x8192x256, .f32⟩
  | 45 => ⟨S_, .f32⟩
  | 46 => ⟨S4x8192, .f32⟩
  | 47 => ⟨S4x8192x1, .f32⟩
  | 48 => ⟨S4x8192x256, .f32⟩
  | 49 => ⟨S4x8192x256, .f32⟩
  | 50 => ⟨S4x8192x1, .f32⟩
  | 51 => ⟨S_, .f32⟩
  | 52 => ⟨S4x8192x1, .f32⟩
  | 53 => ⟨S4x8192x1, .f32⟩
  | 54 => ⟨S4x256x8192, .f32⟩
  | 55 => ⟨S8192x4x256, .f32⟩
  | 56 => ⟨S8192x1024, .f32⟩
  | 57 => ⟨S1x8192x1024, .f32⟩
  | 58 => ⟨S8192x1024, .f32⟩
  | 59 => ⟨S1x8192x1024, .f32⟩
  | 60 => ⟨S8192x1024, .f32⟩
  | 61 => ⟨S1x8192x1024, .f32⟩
  | 62 => ⟨S8192x1024, .f32⟩
  | 63 => ⟨S8192x4x256, .f32⟩
  | 64 => ⟨S4x256x8192, .f32⟩
  | 65 => ⟨S4x8192x256, .f32⟩
  | 66 => ⟨S4x256x256, .f32⟩
  | 67 => ⟨S256x4x256, .f32⟩
  | 68 => ⟨S4x8192x256, .f32⟩
  | 69 => ⟨S4x8192x256, .f32⟩
  | 70 => ⟨S4x8192x256, .f32⟩
  | 71 => ⟨S_, .f32⟩
  | 72 => ⟨S4x8192, .f32⟩
  | 73 => ⟨S4x8192x1, .f32⟩
  | 74 => ⟨S4x8192x1, .f32⟩
  | 75 => ⟨S4x8192x256, .f32⟩
  | 76 => ⟨S4x8192x256, .f32⟩
  | 77 => ⟨S_, .f32⟩
  | 78 => ⟨S4x8192, .f32⟩
  | 79 => ⟨S4x8192x256, .f32⟩
  | 80 => ⟨S4x8192x256, .f32⟩
  | 81 => ⟨S4x8192x256, .f32⟩
  | 82 => ⟨S_, .f32⟩
  | 83 => ⟨S4x8192x256, .f32⟩
  | 84 => ⟨S4x8192x256, .f32⟩
  | 85 => ⟨S4x256x256, .f32⟩
  | 86 => ⟨S256x4x256, .f32⟩
  | 87 => ⟨S4x8192x256, .f32⟩
  | 88 => ⟨S8192x4x256, .f32⟩
  | 89 => ⟨S256x1024, .f32⟩
  | 90 => ⟨S256x1024, .f32⟩
  | 91 => ⟨S8192x1024, .f32⟩
  | 92 => ⟨S256x2048, .f32⟩
  | 93 => ⟨S8192x1024, .f32⟩
  | 94 => ⟨S8192x1024, .f32⟩
  | 95 => ⟨S3x8192x1024, .f32⟩
  | 96 => ⟨S3x8192x1024, .f32⟩
  | 97 => ⟨S3x8192x1024, .f32⟩
  | 98 => ⟨S3x8192x1024, .f32⟩
  | 99 => ⟨S_, .f32⟩
  | 100 => ⟨S3x1024, .f32⟩
  | 101 => ⟨S3x1x1024, .f32⟩
  | 102 => ⟨S_, .f32⟩
  | 103 => ⟨S8194x1024, .f32⟩
  | 104 => ⟨S8194x1024, .f32⟩
  | 105 => ⟨S_, .f32⟩
  | 106 => ⟨S3x1024, .f32⟩
  | 107 => ⟨S2x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S_, .f32⟩
  | 119 => ⟨S1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S_, .f32⟩
  | 127 => ⟨S1024, .f32⟩
  | _ => ⟨S8192x12288, .f32⟩

abbrev hbmTy0_2 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S8192x1024, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S_, .f32⟩
  | 32 => ⟨S1024, .f32⟩
  | 33 => ⟨S1x1024, .f32⟩
  | 34 => ⟨S_, .f32⟩
  | 35 => ⟨S1024, .f32⟩
  | 36 => ⟨S31x8192x1024, .f32⟩
  | 37 => ⟨S31x8192x1024, .f32⟩
  | 38 => ⟨S31x8192x1024, .f32⟩
  | 39 => ⟨S31x8192x1024, .f32⟩
  | 40 => ⟨S_, .f32⟩
  | 41 => ⟨S31x1024, .f32⟩
  | 42 => ⟨S31x1x1024, .f32⟩
  | 43 => ⟨S_, .f32⟩
  | 44 => ⟨S8222x1024, .f32⟩
  | 45 => ⟨S8222x1024, .f32⟩
  | 46 => ⟨S_, .f32⟩
  | 47 => ⟨S31x1024, .f32⟩
  | 48 => ⟨S30x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .bf16⟩
  | 54 => ⟨S8192x1024, .bf16⟩
  | 55 => ⟨S8192x1024, .bf16⟩
  | 56 => ⟨S8192x1024, .bf16⟩
  | 57 => ⟨S8192x1024, .bf16⟩
  | 58 => ⟨S8192x1024, .bf16⟩
  | 59 => ⟨S8192x6144, .bf16⟩
  | 60 => ⟨S8192x12288, .bf16⟩
  | 61 => ⟨S1x1024, .f32⟩
  | 62 => ⟨S1x1024, .f32⟩
  | 63 => ⟨S1x1024, .f32⟩
  | 64 => ⟨S_, .f32⟩
  | 65 => ⟨S2x1024, .f32⟩
  | 66 => ⟨S8x1024, .f32⟩
  | 67 => ⟨S_, .i32⟩
  | 68 => ⟨S_, .f32⟩
  | 69 => ⟨S32x1024, .f32⟩
  | _ => ⟨S8192x12288, .f32⟩

abbrev hbmTy (i : Nat) : BufTy := match i / 128 with
  | 0 => hbmTy0_0 i
  | 1 => hbmTy0_1 i
  | 2 => hbmTy0_2 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_v70_2 : Ref sig .tc := ⟨.hbm, 101, rfl⟩
abbrev main_call0_cst_1 : Ref sig .tc := ⟨.hbm, 102, rfl⟩
abbrev main_call0_v6 : Ref sig .tc := ⟨.hbm, 103, rfl⟩
abbrev main_call0_v7 : Ref sig .tc := ⟨.hbm, 104, rfl⟩
abbrev main_v70_1 : Ref sig .tc := ⟨.hbm, 105, rfl⟩
abbrev main_v70_0 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_15 : Ref sig .tc := ⟨.hbm, 121, rfl⟩
abbrev main_v83 : Ref sig .tc := ⟨.hbm, 122, rfl⟩
abbrev main_v84 : Ref sig .tc := ⟨.hbm, 123, rfl⟩
abbrev main_c_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_18 : Ref sig .tc := ⟨.hbm, 141, rfl⟩
abbrev main_v100 : Ref sig .tc := ⟨.hbm, 142, rfl⟩
abbrev main_v101 : Ref sig .tc := ⟨.hbm, 143, rfl⟩
abbrev main_cst_19 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_20 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_v109 : Ref sig .tc := ⟨.hbm, 154, rfl⟩
abbrev main_cst_22 : Ref sig .tc := ⟨.hbm, 155, rfl⟩
abbrev main_v110 : Ref sig .tc := ⟨.hbm, 156, rfl⟩
abbrev main_v111 : Ref sig .tc := ⟨.hbm, 157, rfl⟩
abbrev main_cst_23 : Ref sig .tc := ⟨.hbm, 158, rfl⟩
abbrev main_v112 : Ref sig .tc := ⟨.hbm, 159, rfl⟩
abbrev main_v113 : Ref sig .tc := ⟨.hbm, 160, rfl⟩
abbrev main_cst_24 : Ref sig .tc := ⟨.hbm, 161, rfl⟩
abbrev main_v114 : Ref sig .tc := ⟨.hbm, 162, rfl⟩
abbrev main_cst_25 : Ref sig .tc := ⟨.hbm, 163, rfl⟩
abbrev main_v115 : Ref sig .tc := ⟨.hbm, 164, rfl⟩
abbrev main_cst_26 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_27 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_28 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_29 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_30 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_31 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_cst_32 : Ref sig .tc := ⟨.hbm, 227, rfl⟩
abbrev main_v172 : Ref sig .tc := ⟨.hbm, 228, rfl⟩
abbrev main_v173 : Ref sig .tc := ⟨.hbm, 229, rfl⟩
abbrev main_cst_33 : Ref sig .tc := ⟨.hbm, 230, rfl⟩
abbrev main_v174 : Ref sig .tc := ⟨.hbm, 231, rfl⟩
abbrev main_v175 : Ref sig .tc := ⟨.hbm, 232, rfl⟩
abbrev main_cst_34 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_call1_v0 : Ref sig .tc := ⟨.hbm, 239, rfl⟩
abbrev main_call1_v1 : Ref sig .tc := ⟨.hbm, 240, rfl⟩
abbrev main_call1_v2 : Ref sig .tc := ⟨.hbm, 241, rfl⟩
abbrev main_v181 : Ref sig .tc := ⟨.hbm, 242, rfl⟩
abbrev main_cst_35 : Ref sig .tc := ⟨.hbm, 243, rfl⟩
abbrev main_v182 : Ref sig .tc := ⟨.hbm, 244, rfl⟩
abbrev main_v183 : Ref sig .tc := ⟨.hbm, 245, rfl⟩
abbrev main_cst_36 : Ref sig .tc := ⟨.hbm, 246, rfl⟩
abbrev main_v184 : Ref sig .tc := ⟨.hbm, 247, rfl⟩
abbrev main_v185 : Ref sig .tc := ⟨.hbm, 248, rfl⟩
abbrev main_cst_37 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_cst_38 : Ref sig .tc := ⟨.hbm, 254, rfl⟩
abbrev main_v190 : Ref sig .tc := ⟨.hbm, 255, rfl⟩
abbrev main_v191 : Ref sig .tc := ⟨.hbm, 256, rfl⟩
abbrev main_cst_39 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_cst_40 : Ref sig .tc := ⟨.hbm, 264, rfl⟩
abbrev main_v198 : Ref sig .tc := ⟨.hbm, 265, rfl⟩
abbrev main_v199 : Ref sig .tc := ⟨.hbm, 266, rfl⟩
abbrev main_cst_41 : Ref sig .tc := ⟨.hbm, 267, rfl⟩
abbrev main_v200 : Ref sig .tc := ⟨.hbm, 268, rfl⟩
abbrev main_v201 : Ref sig .tc := ⟨.hbm, 269, rfl⟩
abbrev main_cst_42 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_cst_43 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_44 : Ref sig .tc := ⟨.hbm, 280, rfl⟩
abbrev main_v210 : Ref sig .tc := ⟨.hbm, 281, rfl⟩
abbrev main_v211 : Ref sig .tc := ⟨.hbm, 282, rfl⟩
abbrev main_cst_45 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_cst_46 : Ref sig .tc := ⟨.hbm, 287, rfl⟩
abbrev main_v215 : Ref sig .tc := ⟨.hbm, 288, rfl⟩
abbrev main_v216 : Ref sig .tc := ⟨.hbm, 289, rfl⟩
abbrev main_cst_47 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_48 : Ref sig .tc := ⟨.hbm, 296, rfl⟩
abbrev main_v222 : Ref sig .tc := ⟨.hbm, 297, rfl⟩
abbrev main_v223 : Ref sig .tc := ⟨.hbm, 298, rfl⟩
abbrev main_cst_49 : Ref sig .tc := ⟨.hbm, 299, rfl⟩
abbrev main_v224 : Ref sig .tc := ⟨.hbm, 300, rfl⟩
abbrev main_v225 : Ref sig .tc := ⟨.hbm, 301, rfl⟩
abbrev main_cst_50 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_51 : Ref sig .tc := ⟨.hbm, 320, rfl⟩
abbrev main_v243 : Ref sig .tc := ⟨.hbm, 321, rfl⟩
abbrev main_v244 : Ref sig .tc := ⟨.hbm, 322, rfl⟩
abbrev main_c_52 : Ref sig .tc := ⟨.hbm, 323, rfl⟩
abbrev main_call2_v0 : Ref sig .tc := ⟨.hbm, 324, rfl⟩
abbrev main_v245 : Ref sig .tc := ⟨.hbm, 325, rfl⟩

abbrev nD : Nat := 1
abbrev τ : Topo := Topo.v7x

variable {F : FTy → Type} [FloatOps F]
-- ==== BranchFwd.lean ====
abbrev S8192x12288 : Shape := ⟨2, ![8192, 12288]⟩
abbrev S256x2048 : Shape := ⟨2, ![256, 2048]⟩
abbrev S31x1024 : Shape := ⟨2, ![31, 1024]⟩
abbrev S1024 : Shape := ⟨1, ![1024]⟩
abbrev S3x1024 : Shape := ⟨2, ![3, 1024]⟩
abbrev S_ : Shape := ⟨0, ![]⟩
abbrev S32x1024 : Shape := ⟨2, ![32, 1024]⟩
abbrev S8x1024 : Shape := ⟨2, ![8, 1024]⟩
abbrev S1x1024 : Shape := ⟨2, ![1, 1024]⟩
abbrev S8192x1024 : Shape := ⟨2, ![8192, 1024]⟩
abbrev S3x8192x1024 : Shape := ⟨3, ![3, 8192, 1024]⟩
abbrev S256x1024 : Shape := ⟨2, ![256, 1024]⟩
abbrev S3x256x1024 : Shape := ⟨3, ![3, 256, 1024]⟩
abbrev S288x1024 : Shape := ⟨2, ![288, 1024]⟩
abbrev S264x1024 : Shape := ⟨2, ![264, 1024]⟩
abbrev S7x280x1024 : Shape := ⟨3, ![7, 280, 1024]⟩
abbrev S31x8x1024 : Shape := ⟨3, ![31, 8, 1024]⟩
abbrev S1x8x1024 : Shape := ⟨3, ![1, 8, 1024]⟩
abbrev S280x1024 : Shape := ⟨2, ![280, 1024]⟩
abbrev S1x280x1024 : Shape := ⟨3, ![1, 280, 1024]⟩
abbrev S1x1x1024 : Shape := ⟨3, ![1, 1, 1024]⟩
abbrev S4x8x1024 : Shape := ⟨3, ![4, 8, 1024]⟩
abbrev S1x32x1024 : Shape := ⟨3, ![1, 32, 1024]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩
abbrev S1x256x256 : Shape := ⟨3, ![1, 256, 256]⟩

abbrev nBuf : Space → Nat
  | .hbm => 19
  | .vmem => 34
  | .smem => 0
  | _ => 0

abbrev bufTy : (tb : Table) → Fin (tcTables nBuf tb) → BufTy
  | .hbm, ⟨0, _⟩ => ⟨S8192x12288, .f32⟩
  | .hbm, ⟨1, _⟩ => ⟨S256x2048, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S3x1024, .f32⟩
  | .hbm, ⟨7, _⟩ => ⟨S_, .i32⟩
  | .hbm, ⟨8, _⟩ => ⟨S_, .f32⟩
  | .hbm, ⟨9, _⟩ => ⟨S32x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S256x2048, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S3x8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S256x2048, .bf16⟩
  | .local _ .vmem, ⟨21, _⟩ => ⟨S32x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S8x1024, .f32⟩
  | .local _ .vmem, ⟨26, _⟩ => ⟨S256x1024, .f32⟩
  | .local _ .vmem, ⟨27, _⟩ => ⟨S256x1024, .f32⟩
  | .local _ .vmem, ⟨28, _⟩ => ⟨S3x256x1024, .bf16⟩
  | .local _ .vmem, ⟨29, _⟩ => ⟨S3x256x1024, .bf16⟩
  | .local _ .vmem, ⟨30, _⟩ => ⟨S288x1024, .f32⟩
  | .local _ .vmem, ⟨31, _⟩ => ⟨S264x1024, .f32⟩
  | .local _ .vmem, ⟨32, _⟩ => ⟨S7x280x1024, .f32⟩
  | .local _ .vmem, ⟨33, _⟩ => ⟨S31x8x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S3x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== BranchFwdRefIdeal.lean ====
abbrev S8192x12288 : Shape := ⟨2, ![8192, 12288]⟩
abbrev S256x2048 : Shape := ⟨2, ![256, 2048]⟩
abbrev S31x1024 : Shape := ⟨2, ![31, 1024]⟩
abbrev S1024 : Shape := ⟨1, ![1024]⟩
abbrev S3x1024 : Shape := ⟨2, ![3, 1024]⟩
abbrev S8192x6144 : Shape := ⟨2, ![8192, 6144]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S8192 : Shape := ⟨1, ![8192]⟩
abbrev S1x8192 : Shape := ⟨2, ![1, 8192]⟩
abbrev S31 : Shape := ⟨1, ![31]⟩
abbrev S31x1 : Shape := ⟨2, ![31, 1]⟩
abbrev S31x8192 : Shape := ⟨2, ![31, 8192]⟩
abbrev S31x1x1024 : Shape := ⟨3, ![31, 1, 1024]⟩
abbrev S31x8192x1 : Shape := ⟨3, ![31, 8192, 1]⟩
abbrev S31x8192x1024 : Shape := ⟨3, ![31, 8192, 1024]⟩
abbrev S1x1024 : Shape := ⟨2, ![1, 1024]⟩
abbrev S8192x1 : Shape := ⟨2, ![8192, 1]⟩
abbrev S2x1024 : Shape := ⟨2, ![2, 1024]⟩
abbrev S8194x1024 : Shape := ⟨2, ![8194, 1024]⟩
abbrev S3 : Shape := ⟨1, ![3]⟩
abbrev S3x1 : Shape := ⟨2, ![3, 1]⟩
abbrev S3x8192 : Shape := ⟨2, ![3, 8192]⟩
abbrev S3x1x1024 : Shape := ⟨3, ![3, 1, 1024]⟩
abbrev S3x8192x1 : Shape := ⟨3, ![3, 8192, 1]⟩
abbrev S3x8192x1024 : Shape := ⟨3, ![3, 8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S1x8192x1024 : Shape := ⟨3, ![1, 8192, 1024]⟩

abbrev nBuf : Space → Nat
  | .hbm => 181
  | .vmem => 0
  | .smem => 0
  | _ => 0

abbrev hbmTy0_0 (i : Nat) : BufTy := match i % 128 with
  | 0 => ⟨S8192x12288, .f32⟩
  | 1 => ⟨S256x2048, .f32⟩
  | 2 => ⟨S31x1024, .f32⟩
  | 3 => ⟨S1024, .f32⟩
  | 4 => ⟨S1024, .f32⟩
  | 5 => ⟨S1024, .f32⟩
  | 6 => ⟨S3x1024, .f32⟩
  | 7 => ⟨S8192x6144, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S30x1024, .f32⟩
  | 25 => ⟨S8222x1024, .f32⟩
  | 26 => ⟨S8192, .i32⟩
  | 27 => ⟨S1x8192, .i32⟩
  | 28 => ⟨S31, .i32⟩
  | 29 => ⟨S31x1, .i32⟩
  | 30 => ⟨S31x8192, .i32⟩
  | 31 => ⟨S31x8192, .i32⟩
  | 32 => ⟨S31x8192, .i32⟩
  | 33 => ⟨S31x1x1024, .f32⟩
  | 34 => ⟨S_, .i32⟩
  | 35 => ⟨S31x8192, .i32⟩
  | 36 => ⟨S31x8192, .i1⟩
  | 37 => ⟨S_, .i32⟩
  | 38 => ⟨S31x8192, .i32⟩
  | 39 => ⟨S31x8192, .i32⟩
  | 40 => ⟨S31x8192, .i32⟩
  | 41 => ⟨S31x8192x1, .i32⟩
  | 42 => ⟨S31x8192x1024, .f32⟩
  | 43 => ⟨S31x8192x1024, .f32⟩
  | 44 => ⟨S31x8192x1024, .f32⟩
  | 45 => ⟨S_, .f32⟩
  | 46 => ⟨S8192x1024, .f32⟩
  | 47 => ⟨S1x1024, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S_, .f32⟩
  | 68 => ⟨S8192x1, .f32⟩
  | 69 => ⟨S8192x1, .f32⟩
  | 70 => ⟨S8192x1, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S_, .f32⟩
  | 90 => ⟨S2x1024, .f32⟩
  | 91 => ⟨S8194x1024, .f32⟩
  | 92 => ⟨S8192, .i32⟩
  | 93 => ⟨S1x8192, .i32⟩
  | 94 => ⟨S3, .i32⟩
  | 95 => ⟨S3x1, .i32⟩
  | 96 => ⟨S3x8192, .i32⟩
  | 97 => ⟨S3x8192, .i32⟩
  | 98 => ⟨S3x8192, .i32⟩
  | 99 => ⟨S3x1x1024, .f32⟩
  | 100 => ⟨S_, .i32⟩
  | 101 => ⟨S3x8192, .i32⟩
  | 102 => ⟨S3x8192, .i1⟩
  | 103 => ⟨S_, .i32⟩
  | 104 => ⟨S3x8192, .i32⟩
  | 105 => ⟨S3x8192, .i32⟩
  | 106 => ⟨S3x8192, .i32⟩
  | 107 => ⟨S3x8192x1, .i32⟩
  | 108 => ⟨S3x8192x1024, .f32⟩
  | 109 => ⟨S3x8192x1024, .f32⟩
  | 110 => ⟨S3x8192x1024, .f32⟩
  | 111 => ⟨S_, .f32⟩
  | 112 => ⟨S8192x1024, .f32⟩
  | 113 => ⟨S8192x1024, .f32⟩
  | 114 => ⟨S256x1024, .f32⟩
  | 115 => ⟨S256x1024, .f32⟩
  | 116 => ⟨S8192x4x256, .f32⟩
  | 117 => ⟨S256x4x256, .f32⟩
  | 118 => ⟨S256x4x256, .f32⟩
  | 119 => ⟨S4x8192x256, .f32⟩
  | 120 => ⟨S_, .f32⟩
  | 121 => ⟨S4x8192x256, .f32⟩
  | 122 => ⟨S4x8192x256, .f32⟩
  | 123 => ⟨S_, .f32⟩
  | 124 => ⟨S4x8192, .f32⟩
  | 125 => ⟨S_, .f32⟩
  | 126 => ⟨S4x8192, .f32⟩
  | 127 => ⟨S4x8192, .f32⟩
  | _ => ⟨S8192x12288, .f32⟩

abbrev hbmTy0_1 (i : Nat) : BufTy := match i % 128 with
  | 0 => ⟨S4x8192x1, .f32⟩
  | 1 => ⟨S4x8192x256, .f32⟩
  | 2 => ⟨S4x8192x256, .f32⟩
  | 3 => ⟨S4x8192x256, .f32⟩
  | 4 => ⟨S_, .f32⟩
  | 5 => ⟨S4x8192, .f32⟩
  | 6 => ⟨S4x8192x1, .f32⟩
  | 7 => ⟨S4x8192x256, .f32⟩
  | 8 => ⟨S4x8192x256, .f32⟩
  | 9 => ⟨S4x256x8192, .f32⟩
  | 10 => ⟨S8192x4x256, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S_, .f32⟩
  | 22 => ⟨S30x1024, .f32⟩
  | 23 => ⟨S8222x1024, .f32⟩
  | 24 => ⟨S8192, .i32⟩
  | 25 => ⟨S1x8192, .i32⟩
  | 26 => ⟨S31, .i32⟩
  | 27 => ⟨S31x1, .i32⟩
  | 28 => ⟨S31x8192, .i32⟩
  | 29 => ⟨S31x8192, .i32⟩
  | 30 => ⟨S31x8192, .i32⟩
  | 31 => ⟨S31x1x1024, .f32⟩
  | 32 => ⟨S_, .i32⟩
  | 33 => ⟨S31x8192, .i32⟩
  | 34 => ⟨S31x8192, .i1⟩
  | 35 => ⟨S_, .i32⟩
  | 36 => ⟨S31x8192, .i32⟩
  | 37 => ⟨S31x8192, .i32⟩
  | 38 => ⟨S31x8192, .i32⟩
  | 39 => ⟨S31x8192x1, .i32⟩
  | 40 => ⟨S31x8192x1024, .f32⟩
  | 41 => ⟨S31x8192x1024, .f32⟩
  | 42 => ⟨S31x8192x1024, .f32⟩
  | 43 => ⟨S_, .f32⟩
  | 44 => ⟨S8192x1024, .f32⟩
  | 45 => ⟨S1x1024, .f32⟩
  | 46 => ⟨S8192x1024, .f32⟩
  | 47 => ⟨S8192x1024, .f32⟩
  | 48 => ⟨S1x8192x1024, .f32⟩
  | 49 => ⟨S1x8192x1024, .f32⟩
  | 50 => ⟨S1x8192x1024, .f32⟩
  | 51 => ⟨S3x8192x1024, .f32⟩
  | 52 => ⟨S3x8192x1024, .bf16⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_10 : Ref sig .tc := ⟨.hbm, 100, rfl⟩
abbrev main_v73 : Ref sig .tc := ⟨.hbm, 101, rfl⟩
abbrev main_v74 : Ref sig .tc := ⟨.hbm, 102, rfl⟩
abbrev main_c_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_13 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_cst_15 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_16 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_17 : Ref sig .tc := ⟨.hbm, 142, rfl⟩
abbrev main_v108 : Ref sig .tc := ⟨.hbm, 143, rfl⟩
abbrev main_v109 : Ref sig .tc := ⟨.hbm, 144, rfl⟩
abbrev main_cst_18 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_19 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_20 : Ref sig .tc := ⟨.hbm, 160, rfl⟩
abbrev main_v123 : Ref sig .tc := ⟨.hbm, 161, rfl⟩
abbrev main_v124 : Ref sig .tc := ⟨.hbm, 162, rfl⟩
abbrev main_c_21 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_22 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩

abbrev nD : Nat := 1
abbrev τ : Topo := Topo.v7x

variable {F : FTy → Type} [FloatOps F]
-- ==== LossHead.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S8192x2048 : Shape := ⟨2, ![8192, 2048]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== MergeBwd.lean ====
abbrev S3x8192x2048 : Shape := ⟨3, ![3, 8192, 2048]⟩
abbrev S8192x12288 : Shape := ⟨2, ![8192, 12288]⟩
abbrev S2048x2048 : Shape := ⟨2, ![2048, 2048]⟩
abbrev S8192x2048 : Shape := ⟨2, ![8192, 2048]⟩
abbrev S1024x2048 : Shape := ⟨2, ![1024, 2048]⟩
abbrev S1x1024x1024 : Shape := ⟨3, ![1, 1024, 1024]⟩
abbrev S1024x1024 : Shape := ⟨2, ![1024, 1024]⟩
abbrev S8192x6144 : Shape := ⟨2, ![8192, 6144]⟩

abbrev nBuf : Space → Nat
  | .hbm => 10
  | .vmem => 13
  | .smem => 0
  | _ => 0

abbrev bufTy : (tb : Table) → Fin (tcTables nBuf tb) → BufTy
  | .hbm, ⟨0, _⟩ => ⟨S3x8192x2048, .f32⟩
  | .hbm, ⟨1, _⟩ => ⟨S8192x12288, .f32⟩
  | .hbm, ⟨2, _⟩ => ⟨S2048x2048, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S3x8192x2048, .bf16⟩
  | .hbm, ⟨7, _⟩ => ⟨S3x8192x2048, .bf16⟩
  | .hbm, ⟨8, _⟩ => ⟨S8192x12288, .bf16⟩
  | .hbm, ⟨9, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MergeBwdRefIdeal.lean ====
abbrev S3x8192x2048 : Shape := ⟨3, ![3, 8192, 2048]⟩
abbrev S8192x12288 : Shape := ⟨2, ![8192, 12288]⟩
abbrev S2048x2048 : Shape := ⟨2, ![2048, 2048]⟩
abbrev S8192x2048 : Shape := ⟨2, ![8192, 2048]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩
abbrev S1x8192x2048 : Shape := ⟨3, ![1, 8192, 2048]⟩

abbrev nBuf : Space → Nat
  | .hbm => 69
  | .vmem => 0
  | .smem => 0
  | _ => 0

abbrev bufTy : (tb : Table) → Fin (tcTables nBuf tb) → BufTy
  | .hbm, ⟨0, _⟩ => ⟨S3x8192x2048, .f32⟩
  | .hbm, ⟨1, _⟩ => ⟨S8192x12288, .f32⟩
  | .hbm, ⟨2, _⟩ => ⟨S2048x2048, .f32⟩
  | .hbm, ⟨3, _⟩ => ⟨S8192x2048, .f32⟩
  | .hbm, ⟨4, _⟩ => ⟨S8192x6144, .f32⟩
  | .hbm, ⟨5, _⟩ => ⟨S8192x6144, .f32⟩
  | .hbm, ⟨6, _⟩ => ⟨S8192x6144, .f32⟩
  | .hbm, ⟨7, _⟩ => ⟨S_, .f32⟩
  | .hbm, ⟨8, _⟩ => ⟨S8192x6144, .f32⟩
  | .hbm, ⟨9, _⟩ => ⟨S8192x6144, .f32⟩
  | .hbm, ⟨10, _⟩ => ⟨S_, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S8192x3x2048, .f32⟩
  | .hbm, ⟨18, _⟩ => ⟨S8192x1x2048, .f32⟩
  | .hbm, ⟨19, _⟩ => ⟨S8192x2048, .f32⟩
  | .hbm, ⟨20, _⟩ => ⟨S1x8192x2048, .f32⟩
  | .hbm, ⟨21, _⟩ => ⟨S8192x2048, .f32⟩
  | .hbm, ⟨22, _⟩ => ⟨S8192x2048, .f32⟩
  | .hbm, ⟨23, _⟩ => ⟨S8192x1x2048, .f32⟩
  | .hbm, ⟨24, _⟩ => ⟨S8192x2048, .f32⟩
  | .hbm, ⟨25, _⟩ => ⟨S1x8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S1x8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S1x8192x2048, .f32⟩
  | .hbm, ⟨40, _⟩ => ⟨S_, .f32⟩
  | .hbm, ⟨41, _⟩ => ⟨S3x8192x2048, .f32⟩
  | .hbm, ⟨42, _⟩ => ⟨S8192x1x2048, .f32⟩
  | .hbm, ⟨43, _⟩ => ⟨S_, .f32⟩
  | .hbm, ⟨44, _⟩ => ⟨S8192x3x2048, .f32⟩
  | .hbm, ⟨45, _⟩ => ⟨S8192x2048, .f32⟩
  | .hbm, ⟨46, _⟩ => ⟨S8192x2048, .f32⟩
  | .hbm, ⟨47, _⟩ => ⟨S1x8192x2048, .f32⟩
  | .hbm, ⟨48, _⟩ => ⟨S_, .f32⟩
  | .hbm, ⟨49, _⟩ => ⟨S3x8192x2048, .f32⟩
  | .hbm, ⟨50, _⟩ => ⟨S3x8192x2048, .f32⟩
  | .hbm, ⟨51, _⟩ => ⟨S8192x1x2048, .f32⟩
  | .hbm, ⟨52, _⟩ => ⟨S_, .f32⟩
  | .hbm, ⟨53, _⟩ => ⟨S8192x3x2048, .f32⟩
  | .hbm, ⟨54, _⟩ => ⟨S8192x3x2048, .f32⟩
  | .hbm, ⟨55, _⟩ => ⟨S8192x2048, .f32⟩
  | .hbm, ⟨56, _⟩ => ⟨S8192x2048, .f32⟩
  | .hbm, ⟨57, _⟩ => ⟨S1x8192x2048, .f32⟩
  | .hbm, ⟨58, _⟩ => ⟨S_, .f32⟩
  | .hbm, ⟨59, _⟩ => ⟨S3x8192x2048, .f32⟩
  | .hbm, ⟨60, _⟩ => ⟨S3x8192x2048, .f32⟩
  | .hbm, ⟨61, _⟩ => ⟨S8192x1x2048, .f32⟩
  | .hbm, ⟨62, _⟩ => ⟨S_, .f32⟩
  | .hbm, ⟨63, _⟩ => ⟨S8192x3x2048, .f32⟩
  | .hbm, ⟨64, _⟩ => ⟨S8192x3x2048, .f32⟩
  | .hbm, ⟨65, _⟩ => ⟨S8192x6144, .f32⟩
  | .hbm, ⟨66, _⟩ => ⟨S8192x6144, .f32⟩
  | .hbm, ⟨67, _⟩ => ⟨S3x8192x2048, .bf16⟩
  | .hbm, ⟨68, _⟩ => ⟨S8192x6144, .bf16⟩
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== MlpDownBwd.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x2048, .bf16⟩
  | .hbm, ⟨9, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownBwdRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== RmsTop.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8x128, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsTopRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== RmsPre.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 30
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8x128, .f32⟩
  | .hbm, ⟨25, _⟩ => ⟨S1x2048, .f32⟩
  | .hbm, ⟨26, _⟩ => ⟨S8192x2048, .f32⟩
  | .hbm, ⟨27, _⟩ => ⟨S1x2048, .f32⟩
  | .hbm, ⟨28, _⟩ => ⟨S8192x2048, .bf16⟩
  | .hbm, ⟨29, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsPreRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S2048, .f32⟩
  | .hbm, ⟨82, _⟩ => ⟨S8192x2048, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x2048, .f32⟩
  | .hbm, ⟨87, _⟩ => ⟨S8192x2048, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S1x2048, .f32⟩
  | .hbm, ⟨100, _⟩ => ⟨S8192x2048, .bf16⟩
  | .hbm, ⟨101, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== RmsMix.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8x128, .f32⟩
  | .hbm, ⟨6, _⟩ => ⟨S8192x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsMixRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== RmsMem.lean ====
abbrev S256x2048 : Shape := ⟨2, ![256, 2048]⟩
abbrev S2048 : Shape := ⟨1, ![2048]⟩
abbrev S1x2048 : Shape := ⟨2, ![1, 2048]⟩
abbrev S8x128 : Shape := ⟨2, ![8, 128]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S8x128, .f32⟩
  | .hbm, ⟨5, _⟩ => ⟨S256x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsMemRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .bf16⟩
  | .hbm, ⟨49, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== MergeFwd.lean ====
abbrev S3x8192x1024 : Shape := ⟨3, ![3, 8192, 1024]⟩
abbrev S3x1024x2048 : Shape := ⟨3, ![3, 1024, 2048]⟩
abbrev S8192x12288 : Shape := ⟨2, ![8192, 12288]⟩
abbrev S8x128 : Shape := ⟨2, ![8, 128]⟩
abbrev S3x8192x2048 : Shape := ⟨3, ![3, 8192, 2048]⟩
abbrev S8192x2048 : Shape := ⟨2, ![8192, 2048]⟩
abbrev S1x1024x1024 : Shape := ⟨3, ![1, 1024, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S3x8192x1024, .f32⟩
  | .hbm, ⟨1, _⟩ => ⟨S3x1024x2048, .f32⟩
  | .hbm, ⟨2, _⟩ => ⟨S8192x12288, .f32⟩
  | .hbm, ⟨3, _⟩ => ⟨S3x8192x1024, .bf16⟩
  | .hbm, ⟨4, _⟩ => ⟨S3x1024x2048, .bf16⟩
  | .hbm, ⟨5, _⟩ => ⟨S8x128, .f32⟩
  | .hbm, ⟨6, _⟩ => ⟨S3x8192x2048, .bf16⟩
  | .hbm, ⟨7, _⟩ => ⟨S8192x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S3x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v18 : BitVec 1 := Scalar.cmpi .eq arg2 c2_i32
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MergeFwdRefIdeal.lean ====
abbrev S3x8192x1024 : Shape := ⟨3, ![3, 8192, 1024]⟩
abbrev S3x1024x2048 : Shape := ⟨3, ![3, 1024, 2048]⟩
abbrev S8192x12288 : Shape := ⟨2, ![8192, 12288]⟩
abbrev S1x8192x1024 : Shape := ⟨3, ![1, 8192, 1024]⟩
abbrev S8192x1024 : Shape := ⟨2, ![8192, 1024]⟩
abbrev S1x1024x2048 : Shape := ⟨3, ![1, 1024, 2048]⟩
abbrev S1024x2048 : Shape := ⟨2, ![1024, 2048]⟩
abbrev S8192x2048 : Shape := ⟨2, ![8192, 2048]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩
abbrev S1x8192x2048 : Shape := ⟨3, ![1, 8192, 2048]⟩
abbrev S3x8192x2048 : Shape := ⟨3, ![3, 8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S3x8192x1024, .f32⟩
  | .hbm, ⟨1, _⟩ => ⟨S3x1024x2048, .f32⟩
  | .hbm, ⟨2, _⟩ => ⟨S8192x12288, .f32⟩
  | .hbm, ⟨3, _⟩ => ⟨S1x8192x1024, .f32⟩
  | .hbm, ⟨4, _⟩ => ⟨S8192x1024, .f32⟩
  | .hbm, ⟨5, _⟩ => ⟨S1x1024x2048, .f32⟩
  | .hbm, ⟨6, _⟩ => ⟨S1024x2048, .f32⟩
  | .hbm, ⟨7, _⟩ => ⟨S8192x2048, .f32⟩
  | .hbm, ⟨8, _⟩ => ⟨S1x8192x1024, .f32⟩
  | .hbm, ⟨9, _⟩ => ⟨S8192x1024, .f32⟩
  | .hbm, ⟨10, _⟩ => ⟨S1x1024x2048, .f32⟩
  | .hbm, ⟨11, _⟩ => ⟨S1024x2048, .f32⟩
  | .hbm, ⟨12, _⟩ => ⟨S8192x2048, .f32⟩
  | .hbm, ⟨13, _⟩ => ⟨S1x8192x1024, .f32⟩
  | .hbm, ⟨14, _⟩ => ⟨S8192x1024, .f32⟩
  | .hbm, ⟨15, _⟩ => ⟨S1x1024x2048, .f32⟩
  | .hbm, ⟨16, _⟩ => ⟨S1024x2048, .f32⟩
  | .hbm, ⟨17, _⟩ => ⟨S8192x2048, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S_, .f32⟩
  | .hbm, ⟨25, _⟩ => ⟨S8192x6144, .f32⟩
  | .hbm, ⟨26, _⟩ => ⟨S8192x6144, .f32⟩
  | .hbm, ⟨27, _⟩ => ⟨S8192x3x2048, .f32⟩
  | .hbm, ⟨28, _⟩ => ⟨S8192x1x2048, .f32⟩
  | .hbm, ⟨29, _⟩ => ⟨S8192x2048, .f32⟩
  | .hbm, ⟨30, _⟩ => ⟨S8192x2048, .f32⟩
  | .hbm, ⟨31, _⟩ => ⟨S8192x1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S1x8192x2048, .f32⟩
  | .hbm, ⟨40, _⟩ => ⟨S1x8192x2048, .f32⟩
  | .hbm, ⟨41, _⟩ => ⟨S1x8192x2048, .f32⟩
  | .hbm, ⟨42, _⟩ => ⟨S3x8192x2048, .f32⟩
  | .hbm, ⟨43, _⟩ => ⟨S3x8192x2048, .bf16⟩
  | .hbm, ⟨44, _⟩ => ⟨S8192x2048, .bf16⟩
  | _, _ => ⟨S3x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== MlpUp.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x2048 : Shape := ⟨2, ![2048, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S8192x8192, .bf16⟩
  | .hbm, ⟨5, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .f32⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== RmsNorm.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8x128, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResNext.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNextRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ResNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proj.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x12288, .f32⟩
  | .hbm, ⟨2, _⟩ => ⟨S8192x2048, .bf16⟩
  | .hbm, ⟨3, _⟩ => ⟨S2048x12288, .bf16⟩
  | .hbm, ⟨4, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x12288, .f32⟩
  | .hbm, ⟨2, _⟩ => ⟨S8192x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjBwd.lean ====
abbrev S2048x12288 : Shape := ⟨2, ![2048, 12288]⟩
abbrev S8192x12288 : Shape := ⟨2, ![8192, 12288]⟩
abbrev S8x128 : Shape := ⟨2, ![8, 128]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x12288, .f32⟩
  | .hbm, ⟨1, _⟩ => ⟨S8192x12288, .f32⟩
  | .hbm, ⟨2, _⟩ => ⟨S8192x12288, .bf16⟩
  | .hbm, ⟨3, _⟩ => ⟨S2048x12288, .bf16⟩
  | .hbm, ⟨4, _⟩ => ⟨S8x128, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdRefIdeal.lean ====
abbrev S2048x12288 : Shape := ⟨2, ![2048, 12288]⟩
abbrev S8192x12288 : Shape := ⟨2, ![8192, 12288]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S8192x12288, .f32⟩
  | .hbm, ⟨2, _⟩ => ⟨S_, .f32⟩
  | .hbm, ⟨3, _⟩ => ⟨S8192x2048, .f32⟩
  | .hbm, ⟨4, _⟩ => ⟨S8192x12288, .f32⟩
  | .hbm, ⟨5, _⟩ => ⟨S8192x2048, .f32⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GwIn.lean ====
abbrev S8192x2048 : Shape := ⟨2, ![8192, 2048]⟩
abbrev S8192x12288 : Shape := ⟨2, ![8192, 12288]⟩
abbrev S2048x12288 : Shape := ⟨2, ![2048, 12288]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S8192x2048, .bf16⟩
  | .hbm, ⟨3, _⟩ => ⟨S8192x12288, .bf16⟩
  | .hbm, ⟨4, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S8192x2048 : Shape := ⟨2, ![8192, 2048]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S_, .f32⟩
  | .hbm, ⟨3, _⟩ => ⟨S2048x12288, .f32⟩
  | .hbm, ⟨4, _⟩ => ⟨S8192x12288, .f32⟩
  | .hbm, ⟨5, _⟩ => ⟨S12288x2048, .f32⟩
  | .hbm, ⟨6, _⟩ => ⟨S2048x12288, .f32⟩
  | .hbm, ⟨7, _⟩ => ⟨S2048x12288, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S8x1024x2048 : Shape := ⟨3, ![8, 1024, 2048]⟩
abbrev S4x1024x2048 : Shape := ⟨3, ![4, 1024, 2048]⟩
abbrev S1x8x128 : Shape := ⟨3, ![1, 8, 128]⟩
abbrev S8x128 : Shape := ⟨2, ![8, 128]⟩
abbrev S8x256x2048 : Shape := ⟨3, ![8, 256, 2048]⟩
abbrev S1x256x2048 : Shape := ⟨3, ![1, 256, 2048]⟩
abbrev S256x2048 : Shape := ⟨2, ![256, 2048]⟩

abbrev nBuf : Space → Nat
  | .hbm => 15
  | .vmem => 16
  | .smem => 0
  | _ => 0

abbrev bufTy : (tb : Table) → Fin (tcTables nBuf tb) → BufTy
  | .hbm, ⟨0, _⟩ => ⟨S8x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S8x1024x2048, .bf16⟩
  | .hbm, ⟨9, _⟩ => ⟨S1x8x128, .bf16⟩
  | .hbm, ⟨10, _⟩ => ⟨S8x128, .bf16⟩
  | .hbm, ⟨11, _⟩ => ⟨S4x1024x2048, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x1024x2048 : Shape := ⟨3, ![8, 1024, 2048]⟩
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S_, .f32⟩
  | .hbm, ⟨9, _⟩ => ⟨S1024x2048, .f32⟩
  | .hbm, ⟨10, _⟩ => ⟨S1x1024x2048, .f32⟩
  | .hbm, ⟨11, _⟩ => ⟨S1024x2048, .f32⟩
  | .hbm, ⟨12, _⟩ => ⟨S1x1024x2048, .f32⟩
  | .hbm, ⟨13, _⟩ => ⟨S1024x2048, .f32⟩
  | .hbm, ⟨14, _⟩ => ⟨S1x1024x2048, .f32⟩
  | .hbm, ⟨15, _⟩ => ⟨S1024x2048, .f32⟩
  | .hbm, ⟨16, _⟩ => ⟨S_, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1x1024x2048, .f32⟩
  | .hbm, ⟨50, _⟩ => ⟨S3x1024x2048, .f32⟩
  | .hbm, ⟨51, _⟩ => ⟨S4x1024x2048, .f32⟩
  | .hbm, ⟨52, _⟩ => ⟨S1x1024x2048, .f32⟩
  | .hbm, ⟨53, _⟩ => ⟨S3x1024x2048, .f32⟩
  | .hbm, ⟨54, _⟩ => ⟨S4x1024x2048, .f32⟩
  | .hbm, ⟨55, _⟩ => ⟨S1x1024x2048, .f32⟩
  | .hbm, ⟨56, _⟩ => ⟨S3x1024x2048, .f32⟩
  | .hbm, ⟨57, _⟩ => ⟨S4x1024x2048, .f32⟩
  | .hbm, ⟨58, _⟩ => ⟨S1x1024x2048, .f32⟩
  | .hbm, ⟨59, _⟩ => ⟨S3x1024x2048, .f32⟩
  | .hbm, ⟨60, _⟩ => ⟨S4x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Branch.Frame.lean ====
module

public import proofs.«01_k».proof.Proof.Gen.BranchBwdIdeal.Frame.RunB
public import proofs.«01_k».proof.Proof.Gen.BranchBwdIdeal.Frame.RunA
public import Idealize.ShloMosaic.Lib.Claim

/-! The call `branch_bwd`: its run, at any float values.

The grid has 64 points, one for every tile of 128 rows. At the first point the body fills the scratch that holds the
taps and zeroes the three results that it accumulates; at the others it adds to them. What a point leaves is the
record `Left`; `left` gives it point by point, and the run of the whole program follows from the run of the body at
one point. -/

@[expose] public section

set_option maxRecDepth 16384

noncomputable section

namespace Cert.BranchRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.BranchBwdIdeal Cert.BranchBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves at a point: the tile of the gradient of the projections, the running sums of the gradients
of keys and values, of the taps (eight partial sums for each) and of the other weights, and the taps laid out for
the convolution. -/
structure Left (F : FTy → Type) [FloatOps F] where
  dp : Vec F S128x6144 .bf16
  dkv : Vec F S256x2048 .f32
  dwa : Vec F S256x1024 .f32
  misc : Vec F S8x1024 .f32
  taps : Vec F S31x8x1024 .f32

theorem lt_points {n : ℕ} (h : n < cfg0.N) : n < 64 := lt_of_lt_of_eq h N_0

theorem inner {n : ℕ} (h : n + 1 < cfg0.N) : ¬(n + 1) % 64 = 0 := by have := lt_points h; omega

/-- The body's run at the first point. -/
def runA (c : Dev nD) (t : Fin cfg0.N) (h : t.val % 64 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3
    (Memref.isWhole_whole _) scM0_4 (Memref.isWhole_whole _) scM0_5 (Memref.isWhole_whole _) scM0_6
    (Memref.isWhole_whole _)
    ((hcond0_0 t).mpr h) ((hcond0_1 t).mpr h) (iblk m c 0 t) (iblk m c 1 t) (iblk m c 2 t) (iblk m c 3 t) (iblk m c 4 t) (iblk m c 5 t) (iblk m c 6 t) (iblk m
    c 7 t) (iblk m c 8 t) (iblk m c 9 t) (iblk m c 10 t) (iblk m c 11 t) (iblk m c 12 t) (iblk m c 13 t) (iblk m c
    14 t) (iblk m c 15 t) (iblk m c 16 t) (iblk m c 17 t) (iblk m c 18 t) (iblk m c 19 t) (iblk m c 20 t)

/-- The body's run at a later point, over what the point before left. -/
def runB (c : Dev nD) (t : Fin cfg0.N) (h : ¬t.val % 64 = 0) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3
    (Memref.isWhole_whole _) scM0_4 (Memref.isWhole_whole _) scM0_5 (Memref.isWhole_whole _) scM0_6
    (Memref.isWhole_whole _)
    (mt (hcond0_0 t).mp h) (mt (hcond0_1 t).mp h) (iblk m c 0 t) (iblk m c 1 t) (iblk m c 2 t) (iblk m c 3 t) (iblk m c 4 t) (iblk m c 5 t) (iblk m c 6 t) (iblk m
    c 7 t) (iblk m c 8 t) (iblk m c 9 t) (iblk m c 10 t) (iblk m c 11 t) (iblk m c 12 t) (iblk m c 13 t) (iblk m c
    14 t) (iblk m c 15 t) (iblk m c 16 t) (iblk m c 17 t) (iblk m c 18 t) (iblk m c 19 t) (iblk m c 20 t)
    p.dkv p.dwa p.misc p.taps

/-- What the first point leaves. -/
def leftA (c : Dev nD) (t : Fin cfg0.N) (h : t.val % 64 = 0) : Left F where
  dp := View.canon (runA m c t h).1
  dkv := View.canon (runA m c t h).2.1
  dwa := View.canon (runA m c t h).2.2.1
  misc := View.canon (runA m c t h).2.2.2.1
  taps := View.canon (runA m c t h).2.2.2.2.1

/-- What a later point leaves: the taps' sums and the other weights' keep the rows that the body does not store. -/
def leftB (c : Dev nD) (t : Fin cfg0.N) (h : ¬t.val % 64 = 0) (p : Left F) : Left F where
  dp := View.canon (runB m c t h p).1
  dkv := View.canon (runB m c t h p).2.1
  dwa := (ms0_23 t).view.read (Elt F)
    ((ms0_23 t).view.writes (Elt F) ((hs0_23 t).unread p.dwa) (runB m c t h p).2.2.1)
  misc := (ms0_24 t).view.read (Elt F)
    ((ms0_24 t).view.writes (Elt F) ((hs0_24 t).unread p.misc) (runB m c t h p).2.2.2.1)
  taps := p.taps

/-- What the body leaves, point by point. -/
def left (c : Dev nD) : (n : ℕ) → n < cfg0.N → Left F
  | 0, hn => leftA m c ⟨0, hn⟩ rfl
  | n + 1, hn => leftB m c ⟨n + 1, hn⟩ (inner hn) (left c n (Nat.lt_of_succ_lt hn))

/-- What the point before `t` left. -/
abbrev prev (c : Dev nD) (t : Fin cfg0.N) : Left F :=
  left m c (t.val - 1) (Nat.lt_of_le_of_lt (Nat.sub_le _ _) t.isLt)

theorem left_first (c : Dev nD) (t : Fin cfg0.N) (h : t.val % 64 = 0) :
    left m c t.val t.isLt = leftA m c t h := by
  obtain ⟨n, hn⟩ := t
  cases n with
  | zero => rfl
  | succ n => exact absurd h (inner hn)

theorem left_later (c : Dev nD) (t : Fin cfg0.N) (h : ¬t.val % 64 = 0) :
    left m c t.val t.isLt = leftB m c t h (prev m c t) := by
  obtain ⟨n, hn⟩ := t
  cases n with
  | zero => exact absurd (Nat.zero_mod _) h
  | succ n => rfl

/-- The scratch buffers: all at anything but the taps', which satisfies `P`. -/
@[reducible] def scratch (c : Dev nD) (P : sProp 𝕄) : sProp 𝕄 :=
  iprop(iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)
    ∗ (∃ d, owns (c : Thread nD τ) scM0_4 fullShare d) ∗ (∃ d, owns (c : Thread nD τ) scM0_5 fullShare d) ∗ P)
    ∗ (∃ r, prngReg c r))

/-- The taps' scratch before point `n`: at anything before the first one, at what the point before left later. -/
def tapsAt (c : Dev nD) : (n : ℕ) → n ≤ cfg0.N → sProp 𝕄
  | 0, _ => iprop(∃ d, owns (c : Thread nD τ) scM0_6 fullShare d)
  | n + 1, hn => owns (c : Thread nD τ) scM0_6 fullShare (left m c n hn).taps

/-- The proof data of the region: every input's buffer at its block after the body, the outputs' at what it leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (left m c t.val t.isLt).dp
    | ⟨22, _⟩ => (left m c t.val t.isLt).dkv
    | ⟨23, _⟩ => (left m c t.val t.isLt).dwa
    | ⟨24, _⟩ => (left m c t.val t.isLt).misc
    | ⟨_ + 25, h⟩ => absurd h (Nat.not_lt.2 (Nat.le_add_left _ _))
  Φ t := scratch c (tapsAt m c t.val (Nat.le_of_lt_succ t.isLt))
  q w := Pipeline.shareOf spec0 w
  owed _ := 0

theorem A_eq (c : Dev nD) (w : Fin cfg0.W) : (dats m 0 c).A w = V m c (Pipeline.arrRef spec0 w) := by
  dsimp only [dats]

theorem after_dp (c : Dev nD) (t : Fin cfg0.N) : (dats m 0 c).after 21 t = (left m c t.val t.isLt).dp := by
  dsimp only [dats]
theorem after_dkv (c : Dev nD) (t : Fin cfg0.N) : (dats m 0 c).after 22 t = (left m c t.val t.isLt).dkv := by
  dsimp only [dats]
theorem after_dwa (c : Dev nD) (t : Fin cfg0.N) : (dats m 0 c).after 23 t = (left m c t.val t.isLt).dwa := by
  dsimp only [dats]
theorem after_misc (c : Dev nD) (t : Fin cfg0.N) : (dats m 0 c).after 24 t = (left m c t.val t.isLt).misc := by
  dsimp only [dats]
set_option maxHeartbeats 4000000 in
/-- Every input's buffer holds its block after the body. -/
theorem after_in (c : Dev nD) (t : Fin cfg0.N) :
    ((dats m 0 c).after 0 t = iblk m c 0 t) ∧ ((dats m 0 c).after 1 t = iblk m c 1 t) ∧ ((dats m 0 c).after 2 t =
    iblk m c 2 t) ∧ ((dats m 0 c).after 3 t = iblk m c 3 t) ∧ ((dats m 0 c).after 4 t = iblk m c 4 t) ∧ ((dats m 0
    c).after 5 t = iblk m c 5 t) ∧ ((dats m 0 c).after 6 t = iblk m c 6 t) ∧ ((dats m 0 c).after 7 t = iblk m c 7 t)
    ∧ ((dats m 0 c).after 8 t = iblk m c 8 t) ∧ ((dats m 0 c).after 9 t = iblk m c 9 t) ∧ ((dats m 0 c).after 10 t =
    iblk m c 10 t) ∧ ((dats m 0 c).after 11 t = iblk m c 11 t) ∧ ((dats m 0 c).after 12 t = iblk m c 12 t) ∧ ((dats
    m 0 c).after 13 t = iblk m c 13 t) ∧ ((dats m 0 c).after 14 t = iblk m c 14 t) ∧ ((dats m 0 c).after 15 t = iblk
    m c 15 t) ∧ ((dats m 0 c).after 16 t = iblk m c 16 t) ∧ ((dats m 0 c).after 17 t = iblk m c 17 t) ∧ ((dats m 0
    c).after 18 t = iblk m c 18 t) ∧ ((dats m 0 c).after 19 t = iblk m c 19 t) ∧ ((dats m 0 c).after 20 t = iblk m c
    20 t) :=
  ⟨rfl, rfl, rfl, rfl, rfl, rfl, rfl, rfl, rfl, rfl, rfl, rfl, rfl, rfl, rfl, rfl, rfl, rfl, rfl, rfl, rfl⟩

set_option maxHeartbeats 4000000 in
/-- Every input's buffer holds its block before the body. -/
theorem before_in (c : Dev nD) (t : Fin cfg0.N) :
    (∀ d, (dats m 0 c).before 0 t d = iblk m c 0 t) ∧ (∀ d, (dats m 0 c).before 1 t d = iblk m c 1 t) ∧ (∀ d, (dats
    m 0 c).before 2 t d = iblk m c 2 t) ∧ (∀ d, (dats m 0 c).before 3 t d = iblk m c 3 t) ∧ (∀ d, (dats m 0
    c).before 4 t d = iblk m c 4 t) ∧ (∀ d, (dats m 0 c).before 5 t d = iblk m c 5 t) ∧ (∀ d, (dats m 0 c).before 6
    t d = iblk m c 6 t) ∧ (∀ d, (dats m 0 c).before 7 t d = iblk m c 7 t) ∧ (∀ d, (dats m 0 c).before 8 t d = iblk m
    c 8 t) ∧ (∀ d, (dats m 0 c).before 9 t d = iblk m c 9 t) ∧ (∀ d, (dats m 0 c).before 10 t d = iblk m c 10 t) ∧
    (∀ d, (dats m 0 c).before 11 t d = iblk m c 11 t) ∧ (∀ d, (dats m 0 c).before 12 t d = iblk m c 12 t) ∧ (∀ d,
    (dats m 0 c).before 13 t d = iblk m c 13 t) ∧ (∀ d, (dats m 0 c).before 14 t d = iblk m c 14 t) ∧ (∀ d, (dats m
    0 c).before 15 t d = iblk m c 15 t) ∧ (∀ d, (dats m 0 c).before 16 t d = iblk m c 16 t) ∧ (∀ d, (dats m 0
    c).before 17 t d = iblk m c 17 t) ∧ (∀ d, (dats m 0 c).before 18 t d = iblk m c 18 t) ∧ (∀ d, (dats m 0
    c).before 19 t d = iblk m c 19 t) ∧ (∀ d, (dats m 0 c).before 20 t d = iblk m c 20 t) :=
  ⟨before0_0_of m _ rfl (fun _ => rfl) t, before0_1_of m _ rfl (fun _ => rfl) t, before0_2_of m _ rfl (fun _ =>
    rfl) t, before0_3_of m _ rfl (fun _ => rfl) t, before0_4_of m _ rfl (fun _ => rfl) t, before0_5_of m _ rfl (fun
    _ => rfl) t, before0_6_of m _ rfl (fun _ => rfl) t, before0_7_of m _ rfl (fun _ => rfl) t, before0_8_of m _ rfl
    (fun _ => rfl) t, before0_9_of m _ rfl (fun _ => rfl) t, before0_10_of m _ rfl (fun _ => rfl) t, before0_11_of m
    _ rfl (fun _ => rfl) t, before0_12_of m _ rfl (fun _ => rfl) t, before0_13_of m _ rfl (fun _ => rfl) t,
    before0_14_of m _ rfl (fun _ => rfl) t, before0_15_of m _ rfl (fun _ => rfl) t, before0_16_of m _ rfl (fun _ =>
    rfl) t, before0_17_of m _ rfl (fun _ => rfl) t, before0_18_of m _ rfl (fun _ => rfl) t, before0_19_of m _ rfl
    (fun _ => rfl) t, before0_20_of m _ rfl (fun _ => rfl) t⟩

/-- The results that are accumulated hold, at a later point, what the point before left. -/
theorem before_sums (c : Dev nD) (t : Fin cfg0.N) (h : ¬t.val % 64 = 0) :
    (∀ d, (dats m 0 c).before 22 t d = (prev m c t).dkv) ∧ (∀ d, (dats m 0 c).before 23 t d = (prev m c t).dwa)
      ∧ ∀ d, (dats m 0 c).before 24 t d = (prev m c t).misc := by
  have hN := lt_points t.isLt
  refine ⟨fun d => ?_, fun d => ?_, fun d => ?_⟩
  · rw [Dat.before_out_kept _ 22 rfl t (by omega) (Bool.eq_false_iff.mpr fun h => by
      have := (flush0_22 _).mp h; dsimp only at this; omega) (fun _ => rfl) (fun _ _ => rfl)]
    exact after_dkv m c _
  · rw [Dat.before_out_kept _ 23 rfl t (by omega) (Bool.eq_false_iff.mpr fun h => by
      have := (flush0_23 _).mp h; dsimp only at this; omega) (fun _ => rfl) (fun _ _ => rfl)]
    exact after_dwa m c _
  · rw [Dat.before_out_kept _ 24 rfl t (by omega) (Bool.eq_false_iff.mpr fun h => by
      have := (flush0_24 _).mp h; dsimp only at this; omega) (fun _ => rfl) (fun _ _ => rfl)]
    exact after_misc m c _

theorem owns_of_writes {s : Shape} {e : EltTy} (c : Dev nD) (M : Memref sig .tc .vmem s e) (f) (v : s.Idx → Elt F e)
    (h : M.view.read (Elt F) f = v) :
    (M.view.loc (c : Thread nD τ) ↦[M.view.set]{fullShare} f : sProp 𝕄) ⊢ owns (c : Thread nD τ) M fullShare v := by
  unfold owns
  iintro H
  iexists _
  isplitr
  · ipureintro; exact h
  iexact H

theorem some_owns {s : Shape} {e : EltTy} (c : Dev nD) (M : Memref sig .tc .vmem s e) (v : s.Idx → Elt F e) :
    (owns (c : Thread nD τ) M fullShare v : sProp 𝕄) ⊢ iprop(∃ d, owns (c : Thread nD τ) M fullShare d) := by
  iintro H
  iexists _
  iexact H

theorem some_of_writes {s : Shape} {e : EltTy} (c : Dev nD) (M : Memref sig .tc .vmem s e) (f) :
    (M.view.loc (c : Thread nD τ) ↦[M.view.set]{fullShare} f : sProp 𝕄)
      ⊢ iprop(∃ d, owns (c : Thread nD τ) M fullShare d) :=
  (owns_of_writes c M f _ rfl).trans (some_owns c M _)

theorem taps_first (c : Dev nD) (n : ℕ) (h : n ≤ cfg0.N) (h0 : n = 0) :
    tapsAt m c n h = iprop(∃ d, owns (c : Thread nD τ) scM0_6 fullShare d) := by subst h0; rfl

theorem taps_later (c : Dev nD) (n : ℕ) (h : n ≤ cfg0.N) (h0 : n ≠ 0) :
    tapsAt m c n h = owns (c : Thread nD τ) scM0_6 fullShare (left m c (n - 1) (by omega)).taps := by
  cases n with
  | zero => exact absurd rfl h0
  | succ n => rfl

/-- A point's stores into a result whose every entry it stores leave the canonical contents. -/
theorem read_covered {s : Shape} {e : EltTy} (M : Memref sig .tc .vmem s e) (f) (L : List (View.Piece (Elt F) s e))
    (h : ∀ y, ∃ p ∈ L, y ∈ p.1.set) : M.view.read (Elt F) (M.view.writes (Elt F) f L) = View.canon L := by
  rw [View.read_writes_of_cover _ f M.view M.view.junk L h, View.read_writes_junk_eq_canon]

/-- The stores of the first point cover every result and the taps. -/
theorem coverA (c : Dev nD) (t : Fin cfg0.N) (h : t.val % 64 = 0) :
    (∀ y, ∃ p ∈ (runA m c t h).1, y ∈ p.1.set) ∧ (∀ y, ∃ p ∈ (runA m c t h).2.1, y ∈ p.1.set)
      ∧ (∀ y, ∃ p ∈ (runA m c t h).2.2.1, y ∈ p.1.set) ∧ (∀ y, ∃ p ∈ (runA m c t h).2.2.2.1, y ∈ p.1.set)
      ∧ ∀ y, ∃ p ∈ (runA m c t h).2.2.2.2.1, y ∈ p.1.set :=
  ⟨View.cover_of_tiledBy _ ![32, 256] (by sl_kernel_rfl), View.cover_of_tiledBy _ ![256, 256] (by sl_kernel_rfl),
    View.cover_of_tiledBy _ ![8, 1024] (by sl_kernel_rfl), View.cover_of_tiledBy _ ![1, 1024] (by sl_kernel_rfl),
    View.cover_of_tiledL _ S1x8x1024.size (by sl_kernel_rfl)⟩

/-- Those of a later point cover the tile of the gradient of the projections, and the gradient of keys and values. -/
theorem coverB (c : Dev nD) (t : Fin cfg0.N) (h : ¬t.val % 64 = 0) (p : Left F) :
    (∀ y, ∃ q ∈ (runB m c t h p).1, y ∈ q.1.set) ∧ ∀ y, ∃ q ∈ (runB m c t h p).2.1, y ∈ q.1.set :=
  ⟨View.cover_of_tiledBy _ ![32, 256] (by sl_kernel_rfl), View.cover_of_tiledL _ S256x256.size (by sl_kernel_rfl)⟩

set_option maxHeartbeats 25600000 in
/-- The body at any point: it finds every input at its block and the running results at what the point before left, and
leaves what `left` says. -/
theorem body_triple (c : Dev nD) (t : Fin cfg0.N) :
    iprop((dats m 0 c).Φ t.castSucc ∗ (dats m 0 c).owesAt () t.castSucc
        ∗ (∃ d, owns (c : Thread nD τ) (ms0_0 t) fullShare ((dats m 0 c).before 0 t d)) ∗ (∃ d, owns (c : Thread nD τ)
        (ms0_1 t) fullShare ((dats m 0 c).before 1 t d)) ∗ (∃ d, owns (c : Thread nD τ) (ms0_2 t) fullShare ((dats m
        0 c).before 2 t d)) ∗ (∃ d, owns (c : Thread nD τ) (ms0_3 t) fullShare ((dats m 0 c).before 3 t d)) ∗ (∃ d,
        owns (c : Thread nD τ) (ms0_4 t) fullShare ((dats m 0 c).before 4 t d)) ∗ (∃ d, owns (c : Thread nD τ)
        (ms0_5 t) fullShare ((dats m 0 c).before 5 t d)) ∗ (∃ d, owns (c : Thread nD τ) (ms0_6 t) fullShare ((dats m
        0 c).before 6 t d)) ∗ (∃ d, owns (c : Thread nD τ) (ms0_7 t) fullShare ((dats m 0 c).before 7 t d)) ∗ (∃ d,
        owns (c : Thread nD τ) (ms0_8 t) fullShare ((dats m 0 c).before 8 t d)) ∗ (∃ d, owns (c : Thread nD τ)
        (ms0_9 t) fullShare ((dats m 0 c).before 9 t d)) ∗ (∃ d, owns (c : Thread nD τ) (ms0_10 t) fullShare ((dats
        m 0 c).before 10 t d)) ∗ (∃ d, owns (c : Thread nD τ) (ms0_11 t) fullShare ((dats m 0 c).before 11 t d)) ∗
        (∃ d, owns (c : Thread nD τ) (ms0_12 t) fullShare ((dats m 0 c).before 12 t d)) ∗ (∃ d, owns (c : Thread nD
        τ) (ms0_13 t) fullShare ((dats m 0 c).before 13 t d)) ∗ (∃ d, owns (c : Thread nD τ) (ms0_14 t) fullShare
        ((dats m 0 c).before 14 t d)) ∗ (∃ d, owns (c : Thread nD τ) (ms0_15 t) fullShare ((dats m 0 c).before 15 t
        d)) ∗ (∃ d, owns (c : Thread nD τ) (ms0_16 t) fullShare ((dats m 0 c).before 16 t d)) ∗ (∃ d, owns (c :
        Thread nD τ) (ms0_17 t) fullShare ((dats m 0 c).before 17 t d)) ∗ (∃ d, owns (c : Thread nD τ) (ms0_18 t)
        fullShare ((dats m 0 c).before 18 t d)) ∗ (∃ d, owns (c : Thread nD τ) (ms0_19 t) fullShare ((dats m 0
        c).before 19 t d)) ∗ (∃ d, owns (c : Thread nD τ) (ms0_20 t) fullShare ((dats m 0 c).before 20 t d)) ∗ (∃ d,
        owns (c : Thread nD τ) (ms0_21 t) fullShare ((dats m 0 c).before 21 t d)) ∗ (∃ d, owns (c : Thread nD τ)
        (ms0_22 t) fullShare ((dats m 0 c).before 22 t d)) ∗ (∃ d, owns (c : Thread nD τ) (ms0_23 t) fullShare
        ((dats m 0 c).before 23 t d)) ∗ (∃ d, owns (c : Thread nD τ) (ms0_24 t) fullShare ((dats m 0 c).before 24 t
        d)))
      ⊢ wp frame (wpE (defs₀ (F := F)) Variants.none c none) Set.univ (bodyAt0 t) (fun _ =>
        iprop((dats m 0 c).Φ t.succ ∗ (dats m 0 c).owesAt () t.succ
          ∗ owns (c : Thread nD τ) (ms0_0 t) fullShare ((dats m 0 c).after 0 t) ∗ owns (c : Thread nD τ) (ms0_1 t)
          fullShare ((dats m 0 c).after 1 t) ∗ owns (c : Thread nD τ) (ms0_2 t) fullShare ((dats m 0 c).after 2 t) ∗
          owns (c : Thread nD τ) (ms0_3 t) fullShare ((dats m 0 c).after 3 t) ∗ owns (c : Thread nD τ) (ms0_4 t)
          fullShare ((dats m 0 c).after 4 t) ∗ owns (c : Thread nD τ) (ms0_5 t) fullShare ((dats m 0 c).after 5 t) ∗
          owns (c : Thread nD τ) (ms0_6 t) fullShare ((dats m 0 c).after 6 t) ∗ owns (c : Thread nD τ) (ms0_7 t)
          fullShare ((dats m 0 c).after 7 t) ∗ owns (c : Thread nD τ) (ms0_8 t) fullShare ((dats m 0 c).after 8 t) ∗
          owns (c : Thread nD τ) (ms0_9 t) fullShare ((dats m 0 c).after 9 t) ∗ owns (c : Thread nD τ) (ms0_10 t)
          fullShare ((dats m 0 c).after 10 t) ∗ owns (c : Thread nD τ) (ms0_11 t) fullShare ((dats m 0 c).after 11
          t) ∗ owns (c : Thread nD τ) (ms0_12 t) fullShare ((dats m 0 c).after 12 t) ∗ owns (c : Thread nD τ)
          (ms0_13 t) fullShare ((dats m 0 c).after 13 t) ∗ owns (c : Thread nD τ) (ms0_14 t) fullShare ((dats m 0
          c).after 14 t) ∗ owns (c : Thread nD τ) (ms0_15 t) fullShare ((dats m 0 c).after 15 t) ∗ owns (c : Thread
          nD τ) (ms0_16 t) fullShare ((dats m 0 c).after 16 t) ∗ owns (c : Thread nD τ) (ms0_17 t) fullShare ((dats
          m 0 c).after 17 t) ∗ owns (c : Thread nD τ) (ms0_18 t) fullShare ((dats m 0 c).after 18 t) ∗ owns (c :
          Thread nD τ) (ms0_19 t) fullShare ((dats m 0 c).after 19 t) ∗ owns (c : Thread nD τ) (ms0_20 t) fullShare
          ((dats m 0 c).after 20 t) ∗ owns (c : Thread nD τ) (ms0_21 t) fullShare ((dats m 0 c).after 21 t) ∗ owns
          (c : Thread nD τ) (ms0_22 t) fullShare ((dats m 0 c).after 22 t) ∗ owns (c : Thread nD τ) (ms0_23 t)
          fullShare ((dats m 0 c).after 23 t) ∗ owns (c : Thread nD τ) (ms0_24 t) fullShare ((dats m 0 c).after 24
          t))) := by
  obtain ⟨b0, b1, b2, b3, b4, b5, b6, b7, b8, b9, b10, b11, b12, b13, b14, b15, b16, b17, b18, b19, b20⟩ := before_in m c t
  obtain ⟨a0, a1, a2, a3, a4, a5, a6, a7, a8, a9, a10, a11, a12, a13, a14, a15, a16, a17, a18, a19, a20⟩ := after_in m c t
  rw [show (dats m 0 c).Φ t.castSucc = scratch c (tapsAt m c t.val (Nat.le_of_lt t.isLt)) from rfl,
    show (dats m 0 c).Φ t.succ = scratch c (owns (c : Thread nD τ) scM0_6 fullShare (left m c t.val t.isLt).taps)
      from rfl, show (dats m 0 c).owesAt () t.succ = (dats m 0 c).owesAt () t.castSucc from rfl,
    a0, a1, a2, a3, a4, a5, a6, a7, a8, a9, a10, a11, a12, a13, a14, a15, a16, a17, a18, a19, a20, after_dp, after_dkv, after_dwa, after_misc]
  simp only [b0, b1, b2, b3, b4, b5, b6, b7, b8, b9, b10, b11, b12, b13, b14, b15, b16, b17, b18, b19, b20]
  have hN := lt_points t.isLt
  by_cases h : t.val % 64 = 0
  · rw [taps_first m c _ _ (by omega), left_first m c t h]
    obtain ⟨cp, ckv, cwa, cm, ct⟩ := coverA m c t h
    unfold scratch bodyAt0
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18,
      H18⟩, ⟨%d19, H19⟩, ⟨%d20, H20⟩, ⟨%d21, H21⟩, ⟨%d22, H22⟩, ⟨%d23, H23⟩, ⟨%d24, H24⟩⟩
    ihave H21 := (some_owns c _ _) $$ H21
    ihave H22 := (some_owns c _ _) $$ H22
    ihave H23 := (some_owns c _ _) $$ H23
    ihave H24 := (some_owns c _ _) $$ H24
    iapply ((runA m c t h).2.2.2.2.2.2.2.2.2.2.2 Set.univ _)
    iframe
    iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%f0, HS0⟩, ⟨%f1, HS1⟩, ⟨%f2, HS2⟩, ⟨%f3, HS3⟩,
      ⟨%f4, HS4⟩, ⟨%f5, HS5⟩, ⟨%f6, HS6⟩⟩
    ihave H21 := (owns_of_writes c _ _ _ (read_covered _ e21 _ cp)) $$ H21
    ihave H22 := (owns_of_writes c _ _ _ (read_covered _ e22 _ ckv)) $$ H22
    ihave H23 := (owns_of_writes c _ _ _ (read_covered _ e23 _ cwa)) $$ H23
    ihave H24 := (owns_of_writes c _ _ _ (read_covered _ e24 _ cm)) $$ H24
    ihave HS0 := (some_of_writes c _ _) $$ HS0
    ihave HS1 := (some_of_writes c _ _) $$ HS1
    ihave HS2 := (some_of_writes c _ _) $$ HS2
    ihave HS3 := (some_of_writes c _ _) $$ HS3
    ihave HS4 := (some_of_writes c _ _) $$ HS4
    ihave HS5 := (some_of_writes c _ _) $$ HS5
    ihave HS6 := (owns_of_writes c _ _ _ (read_covered _ f6 _ ct)) $$ HS6
    iframe
    isplitl [HS6]; · iexact HS6
    isplitl [H21]; · iexact H21
    isplitl [H22]; · iexact H22
    isplitl [H23]; · iexact H23
    iexact H24
  · obtain ⟨b22, b23, b24⟩ := before_sums m c t h
    rw [taps_later m c _ _ (fun h0 => h (by omega)), left_later m c t h]
    simp only [b22, b23, b24]
    obtain ⟨cp, ckv⟩ := coverB m c t h (prev m c t)
    unfold scratch bodyAt0
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18,
      H18⟩, ⟨%d19, H19⟩, ⟨%d20, H20⟩, ⟨%d21, H21⟩, ⟨%d22, H22⟩, ⟨%d23, H23⟩, ⟨%d24, H24⟩⟩
    ihave H21 := (some_owns c _ _) $$ H21
    iapply ((runB m c t h (prev m c t)).2.2.2.2.2.2.2.2.2.2.2 Set.univ _)
    iframe
    iintro ⟨H0, H1, H2, H3, H4, H5, H6, H7, H8, H9, H10, H11, H12, H13, H14, H15, H16, H17, H18, H19, H20, ⟨%e21, H21⟩, ⟨%e22, H22⟩, H23, H24, ⟨%f0, HS0⟩, ⟨%f1, HS1⟩, ⟨%f2, HS2⟩, ⟨%f3, HS3⟩,
      ⟨%f4, HS4⟩, ⟨%f5, HS5⟩, HS6⟩
    ihave H21 := (owns_of_writes c _ _ _ (read_covered _ e21 _ cp)) $$ H21
    ihave H22 := (owns_of_writes c _ _ _ (read_covered _ e22 _ ckv)) $$ H22
    ihave H23 := (owns_of_writes c _ _ _ rfl) $$ H23
    ihave H24 := (owns_of_writes c _ _ _ rfl) $$ H24
    ihave HS0 := (some_of_writes c _ _) $$ HS0
    ihave HS1 := (some_of_writes c _ _) $$ HS1
    ihave HS2 := (some_of_writes c _ _) $$ HS2
    ihave HS3 := (some_of_writes c _ _) $$ HS3
    ihave HS4 := (some_of_writes c _ _) $$ HS4
    ihave HS5 := (some_of_writes c _ _) $$ HS5
    iframe
    isplitl [HS6]; · iexact HS6
    isplitl [H21]; · iexact H21
    isplitl [H22]; · iexact H22
    isplitl [H23]; · iexact H23
    iexact H24

theorem body_row (t : Fin cfg0.N) :
    defs₀ (F := F) .tc cfg0.body (cfg0.bodyArgs t (cfg0.slots t)) = bodyAt0 t := by
  unfold defs₀; rw [Defs.onTc_tc]

set_option maxHeartbeats 8000000 in
/-- The library's obligation for the body. -/
theorem body_obligation (c : Dev nD) : BodyObligation (dats (F := F) m 0 c) (defs₀ (F := F)) Variants.none () Set.univ :=
  fun t => by
    rw [bigSep_W0, bigSep_W0, body_row]
    exact triple_restated (body_triple m c t) rfl .rfl fun _ => .rfl

theorem enters (c : Dev nD) : Pipeline.ΦA spec0 c ⊢ (dats m 0 c).Φ 0 := by
  rw [PhiA0_eq]
  exact Entails.refl _

theorem leaves (c : Dev nD) : (dats m 0 c).Φ (Fin.last cfg0.N) ⊢ Pipeline.ΦA spec0 c := by
  rw [PhiA0_eq, show (dats m 0 c).Φ (Fin.last cfg0.N) = scratch c (owns (c : Thread nD τ) scM0_6 fullShare
    (left m c 63 (by decide)).taps) from rfl]
  unfold scratch
  iintro ⟨⟨HS0, HS1, HS2, HS3, HS4, HS5, HS6⟩, Hg⟩
  ihave HS6 := (some_owns c _ _) $$ HS6
  iframe

set_option backward.isDefEq.respectTransparency.types false in
set_option maxHeartbeats 800000 in
/-- The program terminates; every array of the region ends at what the proof data give, every other buffer as the
lines after the region leave it, and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r
      ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m)
    (opss := [hostOps1]) (hsub := sfx_sub) (hfresh := sfx_fresh) (hkeep := sfx_keeps)
    (hmain := hmain m Variants.none) (hA := A_eq m) (hin := enters m) (hout := leaves m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ))
    ((θ_run defs _ _).mono (fun _ h => h.2) (run_quiescent m ρ))

end Cert.BranchRun

end
-- ==== Proof.Branch.Model.lean ====
module

public import proofs.«01_k».proof.Proof.Branch.Frame

/-! The call `branch_bwd`: what its body stores, written with few words.

The body is unrolled: 31 taps for each of four groups of 32 rows, three taps of the short convolution, four heads.
    Here
the same stores are lists built by recursion over taps, groups and heads, of the same vector operations; the two
theorems at the end say that the body's run stores these lists. How the running sums and the taps are read differs
between the first point and the others, so the reads are parameters. -/

@[expose] public section

set_option maxRecDepth 16384

noncomputable section

namespace Cert.BranchRun

open Idealize.ShloMosaic Idealize.ShloMosaic.TcCoe Idealize.ShloMosaic.Tactic Idealize.SL.Sem
open Cert.BranchBwdIdeal Cert.BranchBwdIdeal.Gen

variable {F : FTy → Type} [FloatOps F]
variable (m : (ℓ : Loc nD τ sig) → Buf (Elt F) ℓ) (c : Dev nD) (t : Fin cfg0.N)

/-- A rectangle of a buffer that holds `x`. -/
abbrev part {s : Shape} {e : EltTy} (M : Memref sig .tc .vmem s e) (hM : M.IsWhole) (x : Vec F s e)
    (off size : Fin s.rank → ℕ) (h : ∀ a, off a + size a ≤ s.size a) :=
  View.readAt (Elt F) M.view (Rect.unit off size h).toLoadRect (hM.unread x)

/-- Two numbers on the two axes fit. -/
theorem fits2 {o0 o1 n0 n1 d0 d1 : ℕ} (h0 : o0 + n0 ≤ d0) (h1 : o1 + n1 ≤ d1) :
    ∀ a : Fin 2, (![o0, o1] : Fin 2 → ℕ) a + (![n0, n1] : Fin 2 → ℕ) a ≤ (![d0, d1] : Fin 2 → ℕ) a :=
  Fin.forall_fin_two.mpr ⟨h0, h1⟩

theorem fits3 {o0 o1 o2 n0 n1 n2 d0 d1 d2 : ℕ} (h0 : o0 + n0 ≤ d0) (h1 : o1 + n1 ≤ d1) (h2 : o2 + n2 ≤ d2) :
    ∀ a : Fin 3, (![o0, o1, o2] : Fin 3 → ℕ) a + (![n0, n1, n2] : Fin 3 → ℕ) a ≤ (![d0, d1, d2] : Fin 3 → ℕ) a :=
  Fin.forall_fin_succ.mpr ⟨h0, Fin.forall_fin_two.mpr ⟨h1, h2⟩⟩

/-! ## The rows that the convolutions read -/

/-- The gate's sigmoid. -/
def gate : FVec F S128x1024 .f32 := k0_pay61 (part (ms0_1 t) (hs0_1 t) (iblk m c 1 t) ![0, 0] S128x1024.size
    inb_S128x1024_S128x1024_0_0)

/-- The convolution's input, after the rows before the tile. -/
def extA : List (View.Piece (Elt F) S160x1024 .f32) :=
  [⟨Rect.unit ![32, 0] S128x1024.size (fits2 (by decide) (by decide)), k0_pay64 (gate m c t) (part (ms0_0 t)
      (hs0_0 t) (iblk m c 0 t) ![0, 0] S128x1024.size inb_S128x1024_S128x1024_0_0)⟩,
   ⟨Rect.unit ![0, 0] S32x1024.size (fits2 (by decide) (by decide)), k0_pay63 (k0_pay37 (grid0.coords t))
     (k0_pay62 (part (ms0_6 t) (hs0_6 t) (iblk m c 6 t) ![0, 0] S32x1024.size inb_S32x1024_S32x1024_0_0) (part
         (ms0_7 t) (hs0_7 t) (iblk m c 7 t) ![0, 0] S32x1024.size inb_S32x1024_S32x1024_0_0))⟩]

/-- The gradient at the layer norm's output, after the activation. -/
def dNorm : FVec F S128x1024 .f32 :=
  k0_pay48 (k0_pay42 (part (ms0_13 t) (hs0_13 t) (iblk m c 13 t) ![0, 0, 0] S1x128x1024.size
      inb_S3x128x1024_S1x128x1024_0_0_0)) (k0_pay43 (part (ms0_19 t) (hs0_19 t) (iblk m c 19 t) ![0, 0] S1x1024.size
      inb_S1x1024_S1x1024_0_0)) (k0_pay46 (part (ms0_11 t) (hs0_11 t) (iblk m c 11 t) ![0, 0] S128x1024.size
      inb_S128x1024_S128x1024_0_0)) (k0_pay47 (part (ms0_18 t) (hs0_18 t) (iblk m c 18 t) ![0, 0] S1x1024.size
      inb_S1x1024_S1x1024_0_0))

/-- The gradient at the convolution's output. -/
def dConv : FVec F S128x1024 .f32 :=
  k0_pay49 (k0_pay42 (part (ms0_13 t) (hs0_13 t) (iblk m c 13 t) ![0, 0, 0] S1x128x1024.size
      inb_S3x128x1024_S1x128x1024_0_0_0)) (k0_pay43 (part (ms0_19 t) (hs0_19 t) (iblk m c 19 t) ![0, 0] S1x1024.size
      inb_S1x1024_S1x1024_0_0)) (k0_pay45 (part (ms0_11 t) (hs0_11 t) (iblk m c 11 t) ![0, 0] S128x1024.size
      inb_S128x1024_S128x1024_0_0)) (k0_pay46 (part (ms0_11 t) (hs0_11 t) (iblk m c 11 t) ![0, 0] S128x1024.size
      inb_S128x1024_S128x1024_0_0))
    (k0_pay47 (part (ms0_18 t) (hs0_18 t) (iblk m c 18 t) ![0, 0] S1x1024.size inb_S1x1024_S1x1024_0_0)) (part
        (ms0_18 t) (hs0_18 t) (iblk m c 18 t) ![0, 0] S1x1024.size inb_S1x1024_S1x1024_0_0)

/-- The same for the rows after the tile. -/
def dConvNext : FVec F S32x1024 .f32 :=
  k0_pay60 (k0_pay38 (grid0.coords t)) (k0_pay54 (part (ms0_14 t) (hs0_14 t) (iblk m c 14 t) ![0, 0, 0]
      S1x32x1024.size inb_S1x32x1024_S1x32x1024_0_0_0)) (k0_pay55 (part (ms0_18 t) (hs0_18 t) (iblk m c 18 t) ![0, 0]
      S1x1024.size inb_S1x1024_S1x1024_0_0)) (k0_pay56 (part (ms0_19 t) (hs0_19 t) (iblk m c 19 t) ![0, 0]
      S1x1024.size inb_S1x1024_S1x1024_0_0))
    (k0_pay58 (part (ms0_12 t) (hs0_12 t) (iblk m c 12 t) ![0, 0] S32x1024.size inb_S32x1024_S32x1024_0_0))
        (k0_pay59 (part (ms0_12 t) (hs0_12 t) (iblk m c 12 t) ![0, 0] S32x1024.size inb_S32x1024_S32x1024_0_0)) (part
        (ms0_18 t) (hs0_18 t) (iblk m c 18 t) ![0, 0] S1x1024.size inb_S1x1024_S1x1024_0_0)

/-- The gradient at the convolution's output, before the rows after the tile. -/
def extD : List (View.Piece (Elt F) S160x1024 .f32) :=
  [⟨Rect.unit ![128, 0] S32x1024.size (fits2 (by decide) (by decide)), dConvNext m c t⟩,
   ⟨Rect.unit ![0, 0] S128x1024.size (fits2 (by decide) (by decide)), k0_pay53 (dConv m c t)⟩]

/-- The short convolution's input, after the rows before the tile. -/
def extX : List (View.Piece (Elt F) S136x1024 .f32) :=
  [⟨Rect.unit ![8, 0] S128x1024.size (fits2 (by decide) (by decide)), k0_pay345 (k0_pay344 (part (ms0_3 t) (hs0_3
      t) (iblk m c 3 t) ![0, 0] S128x1024.size inb_S128x1024_S128x1024_0_0) (part (ms0_4 t) (hs0_4 t) (iblk m c 4 t)
      ![0, 0] S128x1024.size inb_S128x1024_S128x1024_0_0))⟩,
   ⟨Rect.unit ![0, 0] S8x1024.size (fits2 (by decide) (by decide)), k0_pay343 (k0_pay37 (grid0.coords t)) (part
       (ms0_8 t) (hs0_8 t) (iblk m c 8 t) ![0, 0] S8x1024.size inb_S8x1024_S8x1024_0_0) (part (ms0_9 t) (hs0_9 t)
       (iblk m c 9 t) ![0, 0] S8x1024.size inb_S8x1024_S8x1024_0_0)⟩]

/-- The gradient at the short convolution's output, before the rows after the tile. -/
def extU : List (View.Piece (Elt F) S136x1024 .f32) :=
  [⟨Rect.unit ![128, 0] S8x1024.size (fits2 (by decide) (by decide)), k0_pay349 (k0_pay38 (grid0.coords t)) (part
      (ms0_15 t) (hs0_15 t) (iblk m c 15 t) ![0, 0, 0] S1x8x1024.size inb_S1x8x1024_S1x8x1024_0_0_0) (part (ms0_10 t)
      (hs0_10 t) (iblk m c 10 t) ![0, 0] S8x1024.size inb_S8x1024_S8x1024_0_0)⟩,
   ⟨Rect.unit ![0, 0] S128x1024.size (fits2 (by decide) (by decide)), k0_pay348 (part (ms0_13 t) (hs0_13 t) (iblk
       m c 13 t) ![1, 0, 0] S1x128x1024.size inb_S3x128x1024_S1x128x1024_1_0_0) (part (ms0_2 t) (hs0_2 t) (iblk m c 2
       t) ![0, 0] S128x1024.size inb_S128x1024_S128x1024_0_0)⟩]

/-- The seven copies of an extended tile, shifted by one to seven rows. -/
def shifts (M : Memref sig .tc .vmem S160x1024 .f32) (L : List (View.Piece (Elt F) S160x1024 .f32)) (n : ℕ) :
    List (View.Piece (Elt F) S7x152x1024 .f32) :=
  Nat.rec [] (fun r acc => ⟨Rect.unit ![r % 7, 0, 0] S1x152x1024.size (fits3 (by omega) (by decide) (by decide)),
    shapeCast S1x152x1024 (M.view.readCov L (Rect.unit (s := S160x1024) ![r % 7 + 1, 0] S152x1024.size
      (fits2 (by omega) (by decide))).toLoadRect) shapeCasts_S152x1024_S1x152x1024⟩ :: acc) n

/-- 32 rows of an extended tile from row `o` on: read from the tile itself where `o` is a multiple of eight, and from
the copy shifted by the remainder otherwise. -/
def rowsAt (M : Memref sig .tc .vmem S160x1024 .f32) (Ms : Memref sig .tc .vmem S7x152x1024 .f32)
    (L : List (View.Piece (Elt F) S160x1024 .f32)) (o : ℕ) (ho : o ≤ 128) : Vec F S32x1024 .f32 :=
  if h : o % 8 = 0 then M.view.readCov L (Rect.unit (s := S160x1024) ![o, 0] S32x1024.size (fits2 (by omega) (by
      decide))).toLoadRect
  else shapeCast S32x1024 (Ms.view.readCov (shifts M L 7) (Rect.unit (s := S7x152x1024) ![o % 8 - 1, 8 * (o / 8),
      0] S1x32x1024.size
    (fits3 (by omega) (by omega) (by decide))).toLoadRect) shapeCasts_S1x32x1024_S32x1024

/-- 32 rows of the convolution's input, for tap `k` and group `q`. -/
def rowsA (q k : ℕ) : Vec F S32x1024 .f32 := rowsAt scM0_0 scM0_4 (extA m c t) (k % 31 + 2 + 32 * (q % 4)) (by omega)

/-- 32 rows of the gradient at its output. -/
def rowsD (q k : ℕ) : Vec F S32x1024 .f32 := rowsAt scM0_1 scM0_5 (extD m c t) (k % 31 + 32 * (q % 4)) (by omega)

/-! ## The stores -/

/-- A way to read a buffer of shape `s`, after the stores `L`. -/
abbrev Reader (F : FTy → Type) (s : Shape) (e : EltTy) :=
  List (View.Piece (Elt F) s e) → (B : LoadRect s) → (B.shape.Idx → Elt F e)

/-- The taps, each repeated on eight rows. -/
def tapsL (n : ℕ) : List (View.Piece (Elt F) S31x8x1024 .f32) :=
  Nat.rec [] (fun k acc => ⟨Rect.unit ![k % 31, 0, 0] S1x8x1024.size (fits3 (by omega) (by decide) (by decide)),
    k0_pay2 (part (ms0_17 t) (hs0_17 t) (iblk m c 17 t) ![k % 31, 0] S1x1024.size (fits2 (by omega) (by decide)))⟩
        :: acc) n

/-- The sums of the taps' gradients after `n` stores. -/
def dwaL (ini : List (View.Piece (Elt F) S256x1024 .f32)) (R : ℕ → Reader F S256x1024 .f32) (n : ℕ) :
    List (View.Piece (Elt F) S256x1024 .f32) :=
  Nat.rec ini (fun n acc => ⟨Rect.unit ![8 * (n % 31), 0] S8x1024.size (fits2 (by omega) (by decide)),
    k0_pay140 (rowsD m c t (n / 31) 0) (rowsA m c t (n / 31) (n % 31))
      (R n acc (Rect.unit (s := S256x1024) ![8 * (n % 31), 0] S8x1024.size (fits2 (by omega) (by
          decide))).toLoadRect)⟩ :: acc) n

/-- The gradient at the convolution's input, 32 rows of group `q`, over `n` taps. -/
def dIn (T : (B : LoadRect S31x8x1024) → (B.shape.Idx → Elt F .f32)) (q n : ℕ) : FVec F S4x8x1024 .f32 :=
  Nat.rec k0_pay79 (fun k acc => addf acc (mulf
    (broadcastTo S4x8x1024 (shapeCast S1x8x1024 (shapeCast S8x1024 (T (Rect.unit (s := S31x8x1024) ![30 - k, 0, 0]
        S1x8x1024.size
      (fits3 (by omega) (by decide) (by decide))).toLoadRect) shapeCasts_S1x8x1024_S8x1024)
          shapeCasts_S8x1024_S1x8x1024)
      broadcasts_S1x8x1024_S4x8x1024)
    (shapeCast S4x8x1024 (rowsD m c t q k) shapeCasts_S32x1024_S4x8x1024))) n

/-- The same as 32 rows. -/
def dInRows (T : (B : LoadRect S31x8x1024) → (B.shape.Idx → Elt F .f32)) (q : ℕ) : FVec F S32x1024 .f32 :=
  shapeCast S32x1024 (dIn m c t T q 31) shapeCasts_S4x8x1024_S32x1024

/-- 32 rows of the gate. -/
def gateRows (q : ℕ) : FVec F S32x1024 .f32 :=
  extractStridedSlice S32x1024 ![32 * (q % 4), 0] (gate m c t)
    ⟨rfl, fits2 (o1 := 0) (n1 := 1024) (d1 := 1024) (by omega) (by decide)⟩

/-- The gradients of the two halves of the gated linear unit. -/
def dpConv (T : (B : LoadRect S31x8x1024) → (B.shape.Idx → Elt F .f32)) (n : ℕ) :
    List (View.Piece (Elt F) S128x6144 .bf16) :=
  Nat.rec [] (fun q acc =>
    ⟨Rect.unit ![32 * (q % 4), 1024] S32x1024.size (fits2 (by omega) (by decide)),
      k0_pay275 (dInRows m c t T q) (gateRows m c t q) (part (ms0_0 t) (hs0_0 t) (iblk m c 0 t) ![32 * (q % 4), 0]
          S32x1024.size
        (fits2 (by omega) (by decide)))⟩ ::
    ⟨Rect.unit ![32 * (q % 4), 0] S32x1024.size (fits2 (by omega) (by decide)),
      k0_pay274 (dInRows m c t T q) (gateRows m c t q)⟩ :: acc) n

/-- The short convolution's input, from row `o` of the extended tile on. -/
def rowsX (o : ℕ) (h : o ≤ 8) : Vec F S128x1024 .f32 :=
  scM0_2.view.readCov (extX m c t) (Rect.unit (s := S136x1024) ![o, 0] S128x1024.size (fits2 (by omega) (by
      decide))).toLoadRect

/-- The gradient at its output, from row `o` of the extended tile on. -/
def rowsU (o : ℕ) (h : o ≤ 8) : Vec F S128x1024 .f32 :=
  scM0_3.view.readCov (extU m c t) (Rect.unit (s := S136x1024) ![o, 0] S128x1024.size (fits2 (by omega) (by
      decide))).toLoadRect

/-- The short convolution's output. -/
def short : FVec F S128x1024 .f32 :=
  k0_pay355 (k0_pay351 (rowsX m c t 6 (by decide)) (part (ms0_20 t) (hs0_20 t) (iblk m c 20 t) ![0, 0]
      S1x1024.size inb_S8x1024_S1x1024_0_0)) (rowsX m c t 7 (by decide)) (part (ms0_20 t) (hs0_20 t) (iblk m c 20 t)
      ![1, 0] S1x1024.size inb_S8x1024_S1x1024_1_0)
    (rowsX m c t 8 (by decide)) (part (ms0_20 t) (hs0_20 t) (iblk m c 20 t) ![2, 0] S1x1024.size
        inb_S8x1024_S1x1024_2_0)

/-- The gradient at its input, before the last tap. -/
def dShort : FVec F S128x1024 .f32 :=
  k0_pay354 k0_pay350 (part (ms0_20 t) (hs0_20 t) (iblk m c 20 t) ![2, 0] S1x1024.size inb_S8x1024_S1x1024_2_0)
      (rowsU m c t 0 (by decide)) (part (ms0_20 t) (hs0_20 t) (iblk m c 20 t) ![1, 0] S1x1024.size
      inb_S8x1024_S1x1024_1_0) (rowsU m c t 1 (by decide))

/-- The queries, keys, values and the output's gradient of a head. -/
def headQ (h : ℕ) : Vec F S128x256 .f32 :=
  part (ms0_5 t) (hs0_5 t) (iblk m c 5 t) ![0, 256 * (h % 4)] S128x256.size (fits2 (by decide) (by omega))
def headK (h : ℕ) : Vec F S256x256 .bf16 :=
  part (ms0_16 t) (hs0_16 t) (iblk m c 16 t) ![0, 256 * (h % 4)] S256x256.size (fits2 (by decide) (by omega))
def headV (h : ℕ) : Vec F S256x256 .bf16 :=
  part (ms0_16 t) (hs0_16 t) (iblk m c 16 t) ![0, 1024 + 256 * (h % 4)] S256x256.size (fits2 (by decide) (by omega))
def headO (h : ℕ) : Vec F S1x128x256 .f32 :=
  part (ms0_13 t) (hs0_13 t) (iblk m c 13 t) ![2, 0, 256 * (h % 4)] S1x128x256.size (fits3 (by decide) (by decide)
      (by omega))

/-- The gradient of a head's queries. -/
def headDq (h : ℕ) : FVec F S128x256 .bf16 :=
  k0_pay371 (k0_pay364 (headK m c t h)) (k0_pay365 (headV m c t h)) (k0_pay366 (headQ m c t h) (headK m c t h))
    (k0_pay367 (headQ m c t h) (headK m c t h)) (headO m c t h)

/-- The gradients of the queries. -/
def dpHeads (ini : List (View.Piece (Elt F) S128x6144 .bf16)) (n : ℕ) : List (View.Piece (Elt F) S128x6144 .bf16) :=
  Nat.rec ini (fun h acc => ⟨Rect.unit ![0, 5120 + 256 * (h % 4)] S128x256.size (fits2 (by decide) (by omega)),
    headDq m c t h⟩ :: acc) n

/-- All that is stored into the tile of the gradient of the projections. -/
def dpL (T : (B : LoadRect S31x8x1024) → (B.shape.Idx → Elt F .f32)) : List (View.Piece (Elt F) S128x6144 .bf16) :=
  dpHeads m c t
    (⟨Rect.unit ![0, 4096] S128x1024.size (fits2 (by decide) (by decide)),
      k0_pay362 (dShort m c t) (part (ms0_20 t) (hs0_20 t) (iblk m c 20 t) ![0, 0] S1x1024.size
          inb_S8x1024_S1x1024_0_0) (rowsU m c t 2 (by decide)) (part (ms0_3 t) (hs0_3 t) (iblk m c 3 t) ![0, 0]
          S128x1024.size inb_S128x1024_S128x1024_0_0)⟩ ::
     ⟨Rect.unit ![0, 3072] S128x1024.size (fits2 (by decide) (by decide)),
      k0_pay361 (dShort m c t) (part (ms0_20 t) (hs0_20 t) (iblk m c 20 t) ![0, 0] S1x1024.size
          inb_S8x1024_S1x1024_0_0) (rowsU m c t 2 (by decide)) (part (ms0_4 t) (hs0_4 t) (iblk m c 4 t) ![0, 0]
          S128x1024.size inb_S128x1024_S128x1024_0_0)⟩ ::
     ⟨Rect.unit ![0, 2048] S128x1024.size (fits2 (by decide) (by decide)),
      k0_pay360 (k0_pay346 (part (ms0_13 t) (hs0_13 t) (iblk m c 13 t) ![1, 0, 0] S1x128x1024.size
          inb_S3x128x1024_S1x128x1024_1_0_0)) (short m c t)⟩ :: dpConv m c t T 4) 4

/-- The sums of the gradients of keys and values. -/
def dkvL (ini : List (View.Piece (Elt F) S256x2048 .f32)) (R : Reader F S256x2048 .f32) (n : ℕ) :
    List (View.Piece (Elt F) S256x2048 .f32) :=
  Nat.rec ini (fun h acc =>
    have dk : View.Piece (Elt F) S256x2048 .f32 :=
      ⟨Rect.unit ![0, 256 * (h % 4)] S256x256.size (fits2 (by decide) (by omega)),
      k0_pay372 (k0_pay363 (headQ m c t h)) (k0_pay365 (headV m c t h)) (k0_pay366 (headQ m c t h) (headK m c t h))
        (k0_pay367 (headQ m c t h) (headK m c t h)) (headO m c t h)
        (R acc (Rect.unit (s := S256x2048) ![0, 256 * (h % 4)] S256x256.size (fits2 (by decide) (by
            omega))).toLoadRect)⟩
    ⟨Rect.unit ![0, 1024 + 256 * (h % 4)] S256x256.size (fits2 (by decide) (by omega)),
      k0_pay373 (k0_pay366 (headQ m c t h) (headK m c t h)) (k0_pay367 (headQ m c t h) (headK m c t h)) (headO m c
          t h)
        (R (dk :: acc) (Rect.unit (s := S256x2048) ![0, 1024 + 256 * (h % 4)] S256x256.size (fits2 (by decide) (by
            omega))).toLoadRect)⟩ ::
    dk :: acc) n

/-- Row `k` of the other weights' gradients, added to `old`. -/
def miscRow (old : Vec F S1x1024 .f32) : ℕ → FVec F S1x1024 .f32
  | 0 => k0_pay50 (k0_pay42 (part (ms0_13 t) (hs0_13 t) (iblk m c 13 t) ![0, 0, 0] S1x128x1024.size
      inb_S3x128x1024_S1x128x1024_0_0_0)) (k0_pay43 (part (ms0_19 t) (hs0_19 t) (iblk m c 19 t) ![0, 0] S1x1024.size
      inb_S1x1024_S1x1024_0_0)) (k0_pay45 (part (ms0_11 t) (hs0_11 t) (iblk m c 11 t) ![0, 0] S128x1024.size
      inb_S128x1024_S128x1024_0_0)) (k0_pay46 (part (ms0_11 t) (hs0_11 t) (iblk m c 11 t) ![0, 0] S128x1024.size
      inb_S128x1024_S128x1024_0_0))
    (k0_pay47 (part (ms0_18 t) (hs0_18 t) (iblk m c 18 t) ![0, 0] S1x1024.size inb_S1x1024_S1x1024_0_0)) (part
        (ms0_18 t) (hs0_18 t) (iblk m c 18 t) ![0, 0] S1x1024.size inb_S1x1024_S1x1024_0_0) old
  | 1 => k0_pay51 (k0_pay42 (part (ms0_13 t) (hs0_13 t) (iblk m c 13 t) ![0, 0, 0] S1x128x1024.size
      inb_S3x128x1024_S1x128x1024_0_0_0)) (k0_pay43 (part (ms0_19 t) (hs0_19 t) (iblk m c 19 t) ![0, 0] S1x1024.size
      inb_S1x1024_S1x1024_0_0)) (k0_pay46 (part (ms0_11 t) (hs0_11 t) (iblk m c 11 t) ![0, 0] S128x1024.size
      inb_S128x1024_S128x1024_0_0)) (k0_pay47 (part (ms0_18 t) (hs0_18 t) (iblk m c 18 t) ![0, 0] S1x1024.size
      inb_S1x1024_S1x1024_0_0)) old
  | 2 => k0_pay52 (dNorm m c t) old
  | 3 => k0_pay352 (part (ms0_13 t) (hs0_13 t) (iblk m c 13 t) ![1, 0, 0] S1x128x1024.size
      inb_S3x128x1024_S1x128x1024_1_0_0) (part (ms0_2 t) (hs0_2 t) (iblk m c 2 t) ![0, 0] S128x1024.size
      inb_S128x1024_S128x1024_0_0) (rowsX m c t 6 (by decide)) old
  | 4 => k0_pay352 (part (ms0_13 t) (hs0_13 t) (iblk m c 13 t) ![1, 0, 0] S1x128x1024.size
      inb_S3x128x1024_S1x128x1024_1_0_0) (part (ms0_2 t) (hs0_2 t) (iblk m c 2 t) ![0, 0] S128x1024.size
      inb_S128x1024_S128x1024_0_0) (rowsX m c t 7 (by decide)) old
  | _ => k0_pay352 (part (ms0_13 t) (hs0_13 t) (iblk m c 13 t) ![1, 0, 0] S1x128x1024.size
      inb_S3x128x1024_S1x128x1024_1_0_0) (part (ms0_2 t) (hs0_2 t) (iblk m c 2 t) ![0, 0] S128x1024.size
      inb_S128x1024_S128x1024_0_0) (rowsX m c t 8 (by decide)) old

/-- The six rows of the other weights' gradients. -/
def miscL (ini : List (View.Piece (Elt F) S8x1024 .f32)) (R : Reader F S8x1024 .f32) (n : ℕ) :
    List (View.Piece (Elt F) S8x1024 .f32) :=
  Nat.rec ini (fun k acc => ⟨Rect.unit ![k % 8, 0] S1x1024.size (fits2 (by omega) (by decide)),
    miscRow m c t (R acc (Rect.unit (s := S8x1024) ![k % 8, 0] S1x1024.size (fits2 (by omega) (by
        decide))).toLoadRect) k⟩ :: acc) n

/-! ## The two cases -/

/-- The reads of a buffer that the stores before cover. -/
abbrev covered {s : Shape} {e : EltTy} (M : Memref sig .tc .vmem s e) : Reader F s e := fun L B => M.view.readCov L B

/-- The reads of a buffer as the point before left it. -/
abbrev before {s : Shape} {e : EltTy} (M : Memref sig .tc .vmem s e) (hM : M.IsWhole) (x : Vec F s e) : Reader F s
    e :=
  fun _ B => M.view.readAt (Elt F) B (hM.unread x)

abbrev zeroDkv : List (View.Piece (Elt F) S256x2048 .f32) :=
  [⟨Rect.unit ![0, 0] S256x2048.size (fits2 (by decide) (by decide)), k0_pay39⟩]
abbrev zeroDwa : List (View.Piece (Elt F) S256x1024 .f32) :=
  [⟨Rect.unit ![0, 0] S256x1024.size (fits2 (by decide) (by decide)), k0_pay40⟩]
abbrev zeroMisc : List (View.Piece (Elt F) S8x1024 .f32) :=
  [⟨Rect.unit ![0, 0] S8x1024.size (fits2 (by decide) (by decide)), k0_pay41⟩]

/-- The taps as the first point reads them. -/
abbrev tapsA : (B : LoadRect S31x8x1024) → (B.shape.Idx → Elt F .f32) := covered scM0_6 (tapsL m c t 31)

/-- The taps as a later point reads them. -/
abbrev tapsB (p : Left F) : (B : LoadRect S31x8x1024) → (B.shape.Idx → Elt F .f32) :=
  before scM0_6 (Memref.isWhole_whole _) p.taps []

/-- The taps' sums as a later point reads them: its first group finds what the point before left. -/
abbrev readB (p : Left F) (n : ℕ) : Reader F S256x1024 .f32 :=
  fun L B => if n < 31 then before (ms0_23 t) (hs0_23 t) p.dwa L B else covered (ms0_23 t) L B

end Cert.BranchRun
-- ==== Proof.Branch.Stores.lean ====
module

public import proofs.«01_k».proof.Proof.Branch.Model

/-! The call `branch_bwd`: the body's run stores the lists of `Model`. -/

@[expose] public section

set_option maxRecDepth 16384

noncomputable section

namespace Cert.BranchRun

open Idealize.ShloMosaic Idealize.ShloMosaic.TcCoe Idealize.ShloMosaic.Tactic Idealize.SL.Sem
open Cert.BranchBwdIdeal Cert.BranchBwdIdeal.Gen

variable {F : FTy → Type} [FloatOps F]
variable (m : (ℓ : Loc nD τ sig) → Buf (Elt F) ℓ) (c : Dev nD) (t : Fin cfg0.N)

theorem runB_misc (h : ¬t.val % 64 = 0) (p : Left F) :
    (runB m c t h p).2.2.2.1 = miscL m c t [] (before (ms0_24 t) (hs0_24 t) p.misc) 6 := by sl_kernel_rfl
theorem runB_dkv (h : ¬t.val % 64 = 0) (p : Left F) :
    (runB m c t h p).2.1 = dkvL m c t [] (before (ms0_22 t) (hs0_22 t) p.dkv) 4 := by sl_kernel_rfl
theorem runB_dwa (h : ¬t.val % 64 = 0) (p : Left F) :
    (runB m c t h p).2.2.1 = dwaL m c t [] (readB t p) 124 := by sl_kernel_rfl
theorem runB_dp (h : ¬t.val % 64 = 0) (p : Left F) : (runB m c t h p).1 = dpL m c t (tapsB p) := by sl_kernel_rfl

theorem runA_misc (h : t.val % 64 = 0) : (runA m c t h).2.2.2.1 = miscL m c t zeroMisc (covered (ms0_24 t)) 6 := by
  sl_kernel_rfl
theorem runA_taps (h : t.val % 64 = 0) : (runA m c t h).2.2.2.2.1 = tapsL m c t 31 := by sl_kernel_rfl
theorem runA_dkv (h : t.val % 64 = 0) : (runA m c t h).2.1 = dkvL m c t zeroDkv (covered (ms0_22 t)) 4 := by
  sl_kernel_rfl
theorem runA_dwa (h : t.val % 64 = 0) :
    (runA m c t h).2.2.1 = dwaL m c t zeroDwa (fun _ => covered (ms0_23 t)) 124 := by sl_kernel_rfl
theorem runA_dp (h : t.val % 64 = 0) : (runA m c t h).1 = dpL m c t (tapsA m c t) := by sl_kernel_rfl

end Cert.BranchRun
-- ==== Proof.Branch.Lists.lean ====
module

public import Idealize.ShloMosaic.Lib.Pipeline.ValueKit
public import Idealize.ShloMosaic.Lib.Pointwise
public import Idealize.ShloMosaic.Lib.WritesUnit
public import Idealize.ShloMosaic.Lib.Claim

/-! What a list of stores leaves at a cell, and what a load of a rectangle reads: at coordinates. -/

@[expose] public section

noncomputable section

namespace Cert.Stores

open Idealize.ShloMosaic Idealize.ShloMosaic.TcCoe Idealize.SL.Sem

variable {Val : EltTy → Type} [∀ e, Nonempty (Val e)] {e : EltTy}

section Two

variable {d0 d1 o0 o1 n0 n1 : ℕ}

/-- The last store holds the cell. -/
theorem in2 (inb : ∀ a, (![o0, o1] : Fin 2 → ℕ) a + (![n0, n1] : Fin 2 → ℕ) a ≤ (⟨2, ![d0, d1]⟩ : Shape).size a)
    (w : (⟨2, ![n0, n1]⟩ : Shape).Idx → Val e) (L : List (View.Piece Val ⟨2, ![d0, d1]⟩ e))
    (y : (⟨2, ![d0, d1]⟩ : Shape).Idx) (i : Fin n0) (j : Fin n1) (h0 : (y 0).val = o0 + i) (h1 : (y 1).val = o1 + j) :
    View.canon (⟨Rect.unit (s := ⟨2, ![d0, d1]⟩) ![o0, o1] ![n0, n1] inb, w⟩ :: L) y = w (ix2 i j) := by
  have hy : (Rect.unit (s := ⟨2, ![d0, d1]⟩) ![o0, o1] ![n0, n1] inb).emb (ix2 i j) = y := by
    funext a; apply Fin.ext
    refine (Rect.idx_unit_val _ _ inb _ a).trans ?_
    fin_cases a
    · exact h0.symm
    · exact h1.symm
  rw [← hy]
  exact View.canon_cons_emb _ _ _ _

/-- The last store misses the cell. -/
theorem out2 (inb : ∀ a, (![o0, o1] : Fin 2 → ℕ) a + (![n0, n1] : Fin 2 → ℕ) a ≤ (⟨2, ![d0, d1]⟩ : Shape).size a)
    (w : (⟨2, ![n0, n1]⟩ : Shape).Idx → Val e) (L : List (View.Piece Val ⟨2, ![d0, d1]⟩ e))
    (y : (⟨2, ![d0, d1]⟩ : Shape).Idx)
    (h : (y 0).val < o0 ∨ o0 + n0 ≤ (y 0).val ∨ (y 1).val < o1 ∨ o1 + n1 ≤ (y 1).val) :
    View.canon (⟨Rect.unit (s := ⟨2, ![d0, d1]⟩) ![o0, o1] ![n0, n1] inb, w⟩ :: L) y = View.canon L y := by
  refine View.canon_cons_of_not_mem _ _ ?_
  rw [Rect.mem_set_unit]
  intro hm
  have a0 : o0 ≤ (y 0).val ∧ (y 0).val < o0 + n0 := hm 0
  have a1 : o1 ≤ (y 1).val ∧ (y 1).val < o1 + n1 := hm 1
  omega

variable {sig : RefSig} {κ : Kind} {sp : Space} (v : View sig κ sp ⟨2, ![d0, d1]⟩ e) (f : v.ty.Contents Val)

/-- The last store holds the cell, over a buffer that held something. -/
theorem over_in2 (inb : ∀ a, (![o0, o1] : Fin 2 → ℕ) a + (![n0, n1] : Fin 2 → ℕ) a ≤ (⟨2, ![d0, d1]⟩ : Shape).size a)
    (w : (⟨2, ![n0, n1]⟩ : Shape).Idx → Val e) (L : List (View.Piece Val ⟨2, ![d0, d1]⟩ e))
    (y : (⟨2, ![d0, d1]⟩ : Shape).Idx) (i : Fin n0) (j : Fin n1) (h0 : (y 0).val = o0 + i) (h1 : (y 1).val = o1 + j) :
    v.read Val (v.writes Val f (⟨Rect.unit (s := ⟨2, ![d0, d1]⟩) ![o0, o1] ![n0, n1] inb, w⟩ :: L)) y
      = w (ix2 i j) := by
  refine View.read_writes_cons_unit_of_mem v f inb w L y (ix2 i j) rfl fun a => ?_
  fin_cases a
  · exact h0
  · exact h1

theorem over_out2 (inb : ∀ a, (![o0, o1] : Fin 2 → ℕ) a + (![n0, n1] : Fin 2 → ℕ) a ≤ (⟨2, ![d0, d1]⟩ : Shape).size a)
    (w : (⟨2, ![n0, n1]⟩ : Shape).Idx → Val e) (L : List (View.Piece Val ⟨2, ![d0, d1]⟩ e))
    (y : (⟨2, ![d0, d1]⟩ : Shape).Idx) (h : (y 0).val < o0 ∨ o0 + n0 ≤ (y 0).val) :
    v.read Val (v.writes Val f (⟨Rect.unit (s := ⟨2, ![d0, d1]⟩) ![o0, o1] ![n0, n1] inb, w⟩ :: L)) y
      = v.read Val (v.writes Val f L) y :=
  View.read_writes_cons_unit_of_not_mem v f inb w L y rfl 0 h

/-- A load after stores reads what they leave. -/
theorem load2 (L : List (View.Piece Val ⟨2, ![d0, d1]⟩ e))
    (inb : ∀ a, (![o0, o1] : Fin 2 → ℕ) a + (![n0, n1] : Fin 2 → ℕ) a ≤ (⟨2, ![d0, d1]⟩ : Shape).size a)
    (i : Fin n0) (j : Fin n1) (h0 : o0 + i.val < d0) (h1 : o1 + j.val < d1) :
    v.readCov L (Rect.unit (s := ⟨2, ![d0, d1]⟩) ![o0, o1] ![n0, n1] inb).toLoadRect (ix2 i j)
      = View.canon L (ix2 ⟨o0 + i, h0⟩ ⟨o1 + j, h1⟩) := by
  rw [View.readCov_eq_canon']
  refine congrArg (View.canon L) (funext fun a => Fin.ext ?_)
  refine (Rect.idx_unit_val _ _ inb _ a).trans ?_
  fin_cases a <;> rfl

end Two

section Three

variable {d0 d1 d2 o0 o1 o2 n0 n1 n2 : ℕ}

theorem in3 (inb : ∀ a, (![o0, o1, o2] : Fin 3 → ℕ) a + (![n0, n1, n2] : Fin 3 → ℕ) a
      ≤ (⟨3, ![d0, d1, d2]⟩ : Shape).size a)
    (w : (⟨3, ![n0, n1, n2]⟩ : Shape).Idx → Val e) (L : List (View.Piece Val ⟨3, ![d0, d1, d2]⟩ e))
    (y : (⟨3, ![d0, d1, d2]⟩ : Shape).Idx) (i : Fin n0) (j : Fin n1) (k : Fin n2)
    (h0 : (y 0).val = o0 + i) (h1 : (y 1).val = o1 + j) (h2 : (y 2).val = o2 + k) :
    View.canon (⟨Rect.unit (s := ⟨3, ![d0, d1, d2]⟩) ![o0, o1, o2] ![n0, n1, n2] inb, w⟩ :: L) y = w (ix3 i j k) := by
  have hy : (Rect.unit (s := ⟨3, ![d0, d1, d2]⟩) ![o0, o1, o2] ![n0, n1, n2] inb).emb (ix3 i j k) = y := by
    funext a; apply Fin.ext
    refine (Rect.idx_unit_val _ _ inb _ a).trans ?_
    fin_cases a
    · exact h0.symm
    · exact h1.symm
    · exact h2.symm
  rw [← hy]
  exact View.canon_cons_emb _ _ _ _

theorem out3 (inb : ∀ a, (![o0, o1, o2] : Fin 3 → ℕ) a + (![n0, n1, n2] : Fin 3 → ℕ) a
      ≤ (⟨3, ![d0, d1, d2]⟩ : Shape).size a)
    (w : (⟨3, ![n0, n1, n2]⟩ : Shape).Idx → Val e) (L : List (View.Piece Val ⟨3, ![d0, d1, d2]⟩ e))
    (y : (⟨3, ![d0, d1, d2]⟩ : Shape).Idx) (h : (y 0).val < o0 ∨ o0 + n0 ≤ (y 0).val) :
    View.canon (⟨Rect.unit (s := ⟨3, ![d0, d1, d2]⟩) ![o0, o1, o2] ![n0, n1, n2] inb, w⟩ :: L) y = View.canon L y := by
  refine View.canon_cons_of_not_mem _ _ ?_
  rw [Rect.mem_set_unit]
  intro hm
  have a0 : o0 ≤ (y 0).val ∧ (y 0).val < o0 + n0 := hm 0
  omega

variable {sig : RefSig} {κ : Kind} {sp : Space} (v : View sig κ sp ⟨3, ![d0, d1, d2]⟩ e)

theorem load3 (L : List (View.Piece Val ⟨3, ![d0, d1, d2]⟩ e))
    (inb : ∀ a, (![o0, o1, o2] : Fin 3 → ℕ) a + (![n0, n1, n2] : Fin 3 → ℕ) a ≤ (⟨3, ![d0, d1, d2]⟩ : Shape).size a)
    (i : Fin n0) (j : Fin n1) (k : Fin n2) (h0 : o0 + i.val < d0) (h1 : o1 + j.val < d1) (h2 : o2 + k.val < d2) :
    v.readCov L (Rect.unit (s := ⟨3, ![d0, d1, d2]⟩) ![o0, o1, o2] ![n0, n1, n2] inb).toLoadRect (ix3 i j k)
      = View.canon L (ix3 ⟨o0 + i, h0⟩ ⟨o1 + j, h1⟩ ⟨o2 + k, h2⟩) := by
  rw [View.readCov_eq_canon']
  refine congrArg (View.canon L) (funext fun a => Fin.ext ?_)
  refine (Rect.idx_unit_val _ _ inb _ a).trans ?_
  fin_cases a <;> rfl

end Three

/-- A load of a rectangle of a buffer that holds `x`. -/
theorem held2 {sig : RefSig} {d0 d1 o0 o1 n0 n1 : ℕ} (M : Memref sig .tc .vmem ⟨2, ![d0, d1]⟩ e) (hM : M.IsWhole)
    (x : (⟨2, ![d0, d1]⟩ : Shape).Idx → Val e)
    (inb : ∀ a, (![o0, o1] : Fin 2 → ℕ) a + (![n0, n1] : Fin 2 → ℕ) a ≤ (⟨2, ![d0, d1]⟩ : Shape).size a)
    (i : Fin n0) (j : Fin n1) (h0 : o0 + i.val < d0) (h1 : o1 + j.val < d1) :
    View.readAt Val M.view (Rect.unit (s := ⟨2, ![d0, d1]⟩) ![o0, o1] ![n0, n1] inb).toLoadRect (hM.unread x) (ix2 i j)
      = x (ix2 ⟨o0 + i, h0⟩ ⟨o1 + j, h1⟩) := by
  rw [View.readAt_eq_ld, hM.read_unread, View.ld_apply]
  refine congrArg x (funext fun a => Fin.ext ?_)
  refine (Rect.idx_unit_val _ _ inb _ a).trans ?_
  fin_cases a <;> rfl

theorem held3 {sig : RefSig} {d0 d1 d2 o0 o1 o2 n0 n1 n2 : ℕ} (M : Memref sig .tc .vmem ⟨3, ![d0, d1, d2]⟩ e)
    (hM : M.IsWhole) (x : (⟨3, ![d0, d1, d2]⟩ : Shape).Idx → Val e)
    (inb : ∀ a, (![o0, o1, o2] : Fin 3 → ℕ) a + (![n0, n1, n2] : Fin 3 → ℕ) a ≤ (⟨3, ![d0, d1, d2]⟩ : Shape).size a)
    (i : Fin n0) (j : Fin n1) (k : Fin n2) (h0 : o0 + i.val < d0) (h1 : o1 + j.val < d1) (h2 : o2 + k.val < d2) :
    View.readAt Val M.view (Rect.unit (s := ⟨3, ![d0, d1, d2]⟩) ![o0, o1, o2] ![n0, n1, n2] inb).toLoadRect
        (hM.unread x) (ix3 i j k)
      = x (ix3 ⟨o0 + i, h0⟩ ⟨o1 + j, h1⟩ ⟨o2 + k, h2⟩) := by
  rw [View.readAt_eq_ld, hM.read_unread, View.ld_apply]
  refine congrArg x (funext fun a => Fin.ext ?_)
  refine (Rect.idx_unit_val _ _ inb _ a).trans ?_
  fin_cases a <;> rfl

/-- A load of the whole buffer. -/
theorem whole2 {sig : RefSig} {d0 d1 : ℕ} (M : Memref sig .tc .vmem ⟨2, ![d0, d1]⟩ e) (hM : M.IsWhole)
    (x : (⟨2, ![d0, d1]⟩ : Shape).Idx → Val e)
    (inb : ∀ a, (![0, 0] : Fin 2 → ℕ) a + (![d0, d1] : Fin 2 → ℕ) a ≤ (⟨2, ![d0, d1]⟩ : Shape).size a)
    (i : Fin d0) (j : Fin d1) :
    View.readAt Val M.view (Rect.unit (s := ⟨2, ![d0, d1]⟩) ![0, 0] ![d0, d1] inb).toLoadRect (hM.unread x) (ix2 i j)
      = x (ix2 i j) := by
  refine (held2 M hM x inb i j (by omega) (by omega)).trans (congrArg x ?_)
  simp only [Nat.zero_add]

theorem whole3 {sig : RefSig} {d0 d1 d2 : ℕ} (M : Memref sig .tc .vmem ⟨3, ![d0, d1, d2]⟩ e) (hM : M.IsWhole)
    (x : (⟨3, ![d0, d1, d2]⟩ : Shape).Idx → Val e)
    (inb : ∀ a, (![0, 0, 0] : Fin 3 → ℕ) a + (![d0, d1, d2] : Fin 3 → ℕ) a ≤ (⟨3, ![d0, d1, d2]⟩ : Shape).size a)
    (i : Fin d0) (j : Fin d1) (k : Fin d2) :
    View.readAt Val M.view (Rect.unit (s := ⟨3, ![d0, d1, d2]⟩) ![0, 0, 0] ![d0, d1, d2] inb).toLoadRect (hM.unread x)
        (ix3 i j k)
      = x (ix3 i j k) := by
  refine (held3 M hM x inb i j k (by omega) (by omega) (by omega)).trans (congrArg x ?_)
  simp only [Nat.zero_add]

end Cert.Stores
-- ==== Proof.Common.Finite.lean ====
/-
  Arguments that are finite: what the preconditions give, an array of reals behind an array of extended reals, and how
  sums, quotients and square roots of reals are read there.
-/
module

public import Idealize.ShloMosaic.Lib.ReduceAll
public import Idealize.ShloMosaic.Lib.IdealHost
public import Idealize.ShloMosaic.Lib.Pointwise

@[expose] public section

noncomputable section

namespace Cert.Common

open Idealize.ShloMosaic

/-- A finite sum of reals, read as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, EReal.coe_add, ih]

/-- The quotient of two reals, the divisor not zero. -/
theorem div_reals (x : ℝ) {y : ℝ} (h : y ≠ 0) : Ideal.div (x : EReal) (y : EReal) = ((x / y : ℝ) : EReal) := by
  rw [Ideal.div_coe h, ← EReal.coe_mul]; congr 1; ring

/-- The reciprocal square root of a positive real. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- An extended real whose absolute value is below infinity is a real. -/
theorem real_of_abs_lt {x : EReal} (h : max x (-x) < ⊤) : ∃ r : ℝ, x = r := by
  induction x using EReal.rec with
  | bot => simp at h
  | top => simp at h
  | coe r => exact ⟨r, rfl⟩

/-- The word `0x7F800000` is infinity. -/
theorem word_inf : Ideal.ofBits .f32 0x7F800000#32 = ⊤ := by
  simp [Ideal.ofBits, Ideal.ieee]

/-- `jnp.all(jnp.abs(x) < jnp.inf)` that came out 1 says that `x` is an array of reals. -/
theorem reals_of_all {s t u : Shape} {axes : List (Fin s.rank)} [Subsingleton t.Idx] (x : FVec Ideal s .f32)
    (hb : (⟨0, ![]⟩ : Shape).BroadcastsInDim s ![]) (init : u.Idx → BitVec 1) (h : s.ReducesTo axes t) (hu : 0 < u.numel) (j : t.Idx)
    (e : Host.reduce IntOp.andi (cmpf .olt (Host.absf x) (broadcastInDim s ![] hb (constant ⟨0, ![]⟩ .f32 0x7F800000#32)))
      init h hu j = 1#1) : ∃ X : s.Idx → ℝ, x = fun i => (X i : EReal) := by
  have key : ∀ i, ∃ r : ℝ, x i = r := fun i => by
    have h1 := Host.reduce_andi_all _ _ _ _ j e i
    have h2 : Ideal.cmp .olt (max (x i) (-(x i))) (Ideal.ofBits .f32 0x7F800000#32) = 1#1 := by
      rw [← h1]
      show _ = Ideal.cmp .olt _ (broadcastInDim s ![] hb (constant (F := Ideal) ⟨0, ![]⟩ .f32 0x7F800000#32) i)
      rw [ValueIdx.broadcastInDim_scalar_apply]
      rfl
    rw [word_inf] at h2
    apply real_of_abs_lt
    by_contra hn
    simp [Ideal.cmp, hn] at h2
  choose X hX using key
  exact ⟨X, funext hX⟩

end Cert.Common

end
-- ==== Proof.Common.Scalars.lean ====
/-
  Scalars that several claims share: the float words of the programs' constants as real numbers, and the laws of the
  extended reals that the proofs use without any finiteness.
-/
module

public import Idealize.ShloMosaic.Lib.Pointwise
public import Idealize.ShloMosaic.Lib.IdealHost

@[expose] public section

noncomputable section

namespace Cert.Common

open Idealize.ShloMosaic

/-- The word `0x3A000000` is 2⁻¹¹. -/
theorem word_inv2048 : Ideal.ofBits .f32 0x3A000000#32 = ((1 / 2048 : ℝ) : EReal) := by
  simp [Ideal.ofBits, Ideal.ieee, -EReal.coe_mul]; norm_num

/-- The word `0x45000000` is 2048. -/
theorem word_2048 : Ideal.ofBits .f32 0x45000000#32 = ((2048 : ℝ) : EReal) := by
  simp [Ideal.ofBits, Ideal.ieee, -EReal.coe_mul]; norm_num

/-- The word `0x3F000000` is one half. -/
theorem word_half : Ideal.ofBits .f32 0x3F000000#32 = ((1 / 2 : ℝ) : EReal) := by
  simp [Ideal.ofBits, Ideal.ieee, -EReal.coe_mul]; norm_num

/-- The word `0x40000000` is two. -/
theorem word_two : Ideal.ofBits .f32 0x40000000#32 = ((2 : ℝ) : EReal) := by
  simp [Ideal.ofBits, Ideal.ieee, -EReal.coe_mul]; norm_num

/-- The word `0x3F800000` is one, as a real. -/
theorem word_one : Ideal.ofBits .f32 0x3F800000#32 = ((1 : ℝ) : EReal) := by
  simp [Ideal.ofBits, Ideal.ieee, -EReal.coe_mul]; norm_num

/-- The word `0xBF000000` is minus one half. -/
theorem word_neg_half : Ideal.ofBits .f32 0xBF000000#32 = ((-(1 / 2) : ℝ) : EReal) := by
  simp [Ideal.ofBits, Ideal.ieee, -EReal.coe_mul, -EReal.coe_neg]; norm_num

/-- A constant that is a nonnegative real may be taken out of a finite sum of extended reals. -/
theorem mul_sum_of_nonneg {ι : Type*} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

end Cert.Common

end
-- ==== Proof.Common.Norm.lean ====
/-
  One row of a root-mean-square normalisation and of its gradient, over 2048 columns: the gradient as the kernels write it
  out, the gradient as the derivative of `x · rsqrt(mean(x²) + ε) · g` prints it, and that the two agree at real numbers.
-/
module

public import proofs.«01_k».proof.Proof.Common.Finite
public import proofs.«01_k».proof.Proof.Common.Scalars

@[expose] public section

noncomputable section

namespace Cert.Common

open Idealize.ShloMosaic

/-- The ε of the normalisations: the float word nearest to 10⁻⁶. -/
def eps : ℝ := 8796093 / 8796093022208

theorem eps_pos : 0 < eps := by unfold eps; norm_num

/-- The word `0x358637BD` is ε. -/
theorem word_eps : Ideal.ofBits .f32 0x358637BD#32 = ((eps : ℝ) : EReal) := by
  simp [Ideal.ofBits, Ideal.ieee, -EReal.coe_mul, eps]; norm_num

/-- The mean square of a row, with ε. -/
def rmsArg (x : Fin 2048 → EReal) : EReal := Ideal.div (∑ k, x k * x k) ((2048 : ℝ) : EReal) + ((eps : ℝ) : EReal)

/-- The row's factor: one over the root of its mean square. -/
def rstd (x : Fin 2048 → EReal) : EReal := Ideal.rsqrt (rmsArg x)

/-- One element of the normalised row. -/
def rmsRow (x g : Fin 2048 → EReal) (j : Fin 2048) : EReal := x j * rstd x * g j

/-- The gradient for the row, as the kernels write it out: `r·(y·g) − x·(r³·mean(x·(y·g)))`. -/
def rmsDx (y x g : Fin 2048 → EReal) (j : Fin 2048) : EReal :=
  rstd x * (y j * g j) - x j * (rstd x * rstd x * rstd x * Ideal.div (∑ k, x k * (y k * g k)) ((2048 : ℝ) : EReal))

/-- The factor by which the derivative of the mean square enters, as the derivative prints it. -/
def rmsPull (y x g : Fin 2048 → EReal) : EReal :=
  Ideal.div ((∑ k, x k * (y k * g k)) * (((-(1 / 2) : ℝ) : EReal) * Ideal.div (rstd x) (rmsArg x))) ((2048 : ℝ) : EReal)

/-- The gradient for the row as the derivative prints it. -/
def rmsDxRef (y x g : Fin 2048 → EReal) (j : Fin 2048) : EReal :=
  y j * g j * rstd x + x j * rmsPull y x g + rmsPull y x g * x j

/-- A row's three summands and what joins them from a residual path, in the two orders that the programs add them. -/
theorem add_row (d a b c : EReal) : d + a + b + c = a + b + c + d := by
  rw [add_assoc, add_assoc, add_comm, ← add_assoc]

/-- The mean square of a row of reals, with ε. -/
def rmsArgR (X : Fin 2048 → ℝ) : ℝ := (∑ k, X k * X k) / 2048 + eps

theorem rmsArgR_pos (X : Fin 2048 → ℝ) : 0 < rmsArgR X :=
  add_pos_of_nonneg_of_pos (div_nonneg (Finset.sum_nonneg fun k _ => mul_self_nonneg (X k)) (by norm_num)) eps_pos

theorem rmsArg_real (X : Fin 2048 → ℝ) : rmsArg (fun k => (X k : EReal)) = (rmsArgR X : EReal) := by
  unfold rmsArg rmsArgR
  simp only [← EReal.coe_mul, coe_sum]
  rw [div_reals _ (by norm_num), ← EReal.coe_add]

theorem rstd_real (X : Fin 2048 → ℝ) : rstd (fun k => (X k : EReal)) = (((Real.sqrt (rmsArgR X))⁻¹ : ℝ) : EReal) := by
  rw [rstd, rmsArg_real, rsqrt_pos (rmsArgR_pos X)]

theorem rmsRow_real (X G : Fin 2048 → ℝ) (j : Fin 2048) : rmsRow (fun k => (X k : EReal)) (fun k => (G k : EReal)) j
    = ((X j * (Real.sqrt (rmsArgR X))⁻¹ * G j : ℝ) : EReal) := by
  unfold rmsRow; simp only [rstd_real, ← EReal.coe_mul]

/-- Over the reals the two gradients of a row agree, and their value is a real. -/
theorem rmsDx_real (Y X G : Fin 2048 → ℝ) (j : Fin 2048) :
    rmsDx (fun k => (Y k : EReal)) (fun k => (X k : EReal)) (fun k => (G k : EReal)) j
      = (((Real.sqrt (rmsArgR X))⁻¹ * (Y j * G j)
          - X j * ((Real.sqrt (rmsArgR X))⁻¹ * (Real.sqrt (rmsArgR X))⁻¹ * (Real.sqrt (rmsArgR X))⁻¹
            * ((∑ k, X k * (Y k * G k)) / 2048)) : ℝ) : EReal) := by
  unfold rmsDx
  simp only [rstd_real, ← EReal.coe_mul, coe_sum]
  rw [div_reals _ (by norm_num)]
  simp only [← EReal.coe_mul, ← EReal.coe_sub]

theorem rmsDxRef_real (Y X G : Fin 2048 → ℝ) (j : Fin 2048) :
    rmsDxRef (fun k => (Y k : EReal)) (fun k => (X k : EReal)) (fun k => (G k : EReal)) j
      = rmsDx (fun k => (Y k : EReal)) (fun k => (X k : EReal)) (fun k => (G k : EReal)) j := by
  rw [rmsDx_real]
  unfold rmsDxRef rmsPull
  simp only [rstd_real, rmsArg_real, ← EReal.coe_mul, coe_sum]
  rw [div_reals _ (rmsArgR_pos X).ne']
  simp only [← EReal.coe_mul]
  rw [div_reals _ (by norm_num)]
  simp only [← EReal.coe_mul, ← EReal.coe_add]
  congr 1
  have h := rmsArgR_pos X
  have hs : Real.sqrt (rmsArgR X) * Real.sqrt (rmsArgR X) = rmsArgR X := Real.mul_self_sqrt h.le
  have h0 : Real.sqrt (rmsArgR X) ≠ 0 := (Real.sqrt_pos.2 h).ne'
  generalize Real.sqrt (rmsArgR X) = s at *
  rw [← hs]
  field_simp
  ring

end Cert.Common

end
-- ==== Proof.Branch.Spec.lean ====
module

public import proofs.«01_k».proof.Proof.Common.Finite
public import proofs.«01_k».proof.Proof.Common.Norm
public import proofs.«01_k».proof.Proof.Common.Scalars

/-! The gradients of the three branches over the reals.

Everything is stated for arrays of reals with whole indices: kernel and reference are both shown to compute these
functions. -/

@[expose] public section

noncomputable section

namespace Cert.Branch

open Idealize.ShloMosaic Cert.Common

/-! ## The activation and the layer norm, one row -/

/-- The logistic function. -/
def sgm (y : ℝ) : ℝ := (1 + Real.exp (-y))⁻¹

/-- The derivative of `y ↦ y·sgm y`. -/
def dact (y : ℝ) : ℝ := sgm y * (1 + y * (1 - sgm y))

def mean (x : Fin 1024 → ℝ) : ℝ := (∑ k, x k) / 1024

def cen (x : Fin 1024 → ℝ) (j : Fin 1024) : ℝ := x j - mean x

def var (x : Fin 1024 → ℝ) : ℝ := mean fun k => cen x k * cen x k

theorem var_pos (x : Fin 1024 → ℝ) : 0 < var x + eps :=
  add_pos_of_nonneg_of_pos (div_nonneg (Finset.sum_nonneg fun k _ => mul_self_nonneg (cen x k)) (by norm_num)) eps_pos

/-- One over the standard deviation. -/
def rstd (x : Fin 1024 → ℝ) : ℝ := (Real.sqrt (var x + eps))⁻¹

/-- The normalised row. -/
def nrm (x : Fin 1024 → ℝ) (j : Fin 1024) : ℝ := cen x j * rstd x

/-- The gradient at the layer norm's output. -/
def dOut (x g b d : Fin 1024 → ℝ) (j : Fin 1024) : ℝ := d j * dact (nrm x j * g j + b j)

/-- The gradient at the layer norm's input. -/
def dIn (x g b d : Fin 1024 → ℝ) (j : Fin 1024) : ℝ :=
  rstd x * (dOut x g b d j * g j - mean (fun k => dOut x g b d k * g k)
    - nrm x j * mean fun k => dOut x g b d k * g k * nrm x k)

theorem logistic_real (y : ℝ) : Ideal.logistic (y : EReal) = (sgm y : EReal) := Ideal.logistic_coe y

/-- The word `0x44800000` is 1024. -/
theorem word_1024 : Ideal.ofBits .f32 0x44800000#32 = ((1024 : ℝ) : EReal) := by
  simp [Ideal.ofBits, Ideal.ieee, -EReal.coe_mul]; norm_num

/-- The word `0x3D800000` is one sixteenth, the scores' scale. -/
theorem word_scale : Ideal.ofBits .f32 0x3D800000#32 = ((1 / 16 : ℝ) : EReal) := by
  simp [Ideal.ofBits, Ideal.ieee, -EReal.coe_mul]; norm_num

/-- The mean of a row of reals. -/
theorem mean_real (x : Fin 1024 → ℝ) : Ideal.div (∑ k, (x k : EReal)) ((1024 : ℝ) : EReal) = (mean x : EReal) := by
  rw [coe_sum, div_reals _ (by norm_num)]; rfl

/-! ## The attention, one row of one head -/

/-- The softmax. -/
def soft (s : Fin 256 → ℝ) (k : Fin 256) : ℝ := Real.exp (s k) / ∑ l, Real.exp (s l)

theorem expSum_pos (s : Fin 256 → ℝ) : 0 < ∑ l, Real.exp (s l) :=
  Finset.sum_pos (fun _ _ => Real.exp_pos _) ⟨0, Finset.mem_univ _⟩

/-- A shift by a real does not change the softmax. -/
theorem soft_shift (s : Fin 256 → ℝ) (M : ℝ) (k : Fin 256) :
    Real.exp (s k - M) / ∑ l, Real.exp (s l - M) = soft s k := by
  have e (l : Fin 256) : Real.exp (s l - M) = Real.exp (s l) * (Real.exp M)⁻¹ := by
    rw [Real.exp_sub, div_eq_mul_inv]
  simp only [e, ← Finset.sum_mul]
  exact mul_div_mul_right _ _ (inv_ne_zero (Real.exp_pos M).ne')

def scores (q : Fin 256 → ℝ) (K : Fin 256 → Fin 256 → ℝ) (k : Fin 256) : ℝ := (∑ d, q d * K k d) * (1 / 16)

def probs (q : Fin 256 → ℝ) (K : Fin 256 → Fin 256 → ℝ) : Fin 256 → ℝ := soft (scores q K)

/-- The gradient at the probabilities. -/
def dProbs (o : Fin 256 → ℝ) (V : Fin 256 → Fin 256 → ℝ) (k : Fin 256) : ℝ := ∑ d, o d * V k d

/-- The gradient at the scores, with their scale. -/
def dScores (q : Fin 256 → ℝ) (K V : Fin 256 → Fin 256 → ℝ) (o : Fin 256 → ℝ) (k : Fin 256) : ℝ :=
  probs q K k * (dProbs o V k - ∑ l, dProbs o V l * probs q K l) * (1 / 16)

/-- The gradient at the queries. -/
def dQuery (q : Fin 256 → ℝ) (K V : Fin 256 → Fin 256 → ℝ) (o : Fin 256 → ℝ) (d : Fin 256) : ℝ :=
  ∑ k, dScores q K V o k * K k d

/-- The maximum of reals, from minus infinity on, is a real. -/
theorem fold_max_real {ι : Type*} (s : Finset ι) (hs : s.Nonempty) (f : ι → ℝ) :
    ∃ M : ℝ, s.fold max (⊥ : EReal) (fun x => (f x : EReal)) = (M : EReal) := by
  classical
  induction hs using Finset.Nonempty.cons_induction with
  | singleton a => exact ⟨f a, by simp⟩
  | cons a s ha _ ih =>
    obtain ⟨M, hM⟩ := ih
    refine ⟨max (f a) M, ?_⟩
    rw [Finset.fold_cons, hM]
    exact (Monotone.map_max EReal.coe_strictMono.monotone).symm

theorem word_ninf : Ideal.ofBits .f32 0xFF800000#32 = ⊥ := by
  simp [Ideal.ofBits, Ideal.ieee]

/-! ## The arrays

Rows and columns are natural numbers, and only those of the arrays matter. -/

/-- Rows of an array with `d` rows of zeros before it and zeros after its 8192 rows. -/
def pre (d : ℕ) (f : ℕ → Fin 1024 → ℝ) (n : ℕ) (j : Fin 1024) : ℝ :=
  if d ≤ n ∧ n - d < 8192 then f (n - d) j else 0

theorem pre_of {d n n' : ℕ} (f : ℕ → Fin 1024 → ℝ) (j : Fin 1024) (h : n = d + n') (h' : n' < 8192) :
    pre d f n j = f n' j := by
  subst h
  have e : d + n' - d = n' := by omega
  unfold pre
  rw [e, if_pos ⟨by omega, h'⟩]

theorem pre_lo {d n : ℕ} (f : ℕ → Fin 1024 → ℝ) (j : Fin 1024) (h : n < d) : pre d f n j = 0 :=
  if_neg fun h' => by omega

theorem pre_hi {d n : ℕ} (f : ℕ → Fin 1024 → ℝ) (j : Fin 1024) (h : d + 8192 ≤ n) : pre d f n j = 0 :=
  if_neg fun h' => by omega

/-- Only how far the row is from the first one matters. -/
theorem pre_shift {d d' n n' : ℕ} (f : ℕ → Fin 1024 → ℝ) (j : Fin 1024) (h : n + d' = n' + d) :
    pre d f n j = pre d' f n' j := by
  unfold pre
  have e : (d ≤ n ∧ n - d < 8192) ↔ (d' ≤ n' ∧ n' - d' < 8192) := by omega
  by_cases hd : d ≤ n
  · rw [if_congr e rfl rfl, show n - d = n' - d' by omega]
  · rw [if_neg fun h' => hd h'.1, if_neg fun h' => by omega]

/-- The arguments: the projections, keys and values, the weights, the gradients of the three outputs. -/
structure Args where
  P : ℕ → ℕ → ℝ
  KV : Fin 256 → ℕ → ℝ
  wa : ℕ → Fin 1024 → ℝ
  ba : Fin 1024 → ℝ
  lg : Fin 1024 → ℝ
  lb : Fin 1024 → ℝ
  wb : ℕ → Fin 1024 → ℝ
  O : ℕ → ℕ → ℕ → ℝ

namespace Args

variable (R : Args) (n : ℕ) (j : Fin 1024)

/-- The gated linear unit. -/
def a : ℝ := R.P n j * sgm (R.P n (1024 + j))

/-- The convolution's output. -/
def a1 : ℝ := (∑ k : Fin 31, R.wa k j * pre 30 R.a (n + k) j) + R.ba j

/-- The gradient at the layer norm's output. -/
def dn : ℝ := dOut (R.a1 n) R.lg R.lb (fun j => R.O 0 n j) j

/-- The gradient at the convolution's output. -/
def dc : ℝ := dIn (R.a1 n) R.lg R.lb (fun j => R.O 0 n j) j

/-- The gradient at the convolution's input. -/
def da : ℝ := ∑ k : Fin 31, R.wa (30 - k) j * pre 0 R.dc (n + k) j

/-- The gradient of tap `k`, one row. -/
def dwa (k : ℕ) : ℝ := R.dc n j * pre 30 R.a (n + k) j

/-- The short convolution's input. -/
def x : ℝ := R.P n (3072 + j) * R.P n (4096 + j)

/-- The short convolution's output. -/
def xc : ℝ := R.wb 0 j * pre 2 R.x n j + R.wb 1 j * pre 2 R.x (n + 1) j + R.wb 2 j * pre 2 R.x (n + 2) j

/-- The gradient at the short convolution's output. -/
def u : ℝ := R.O 1 n j * R.P n (2048 + j)

/-- The gradient at its input. -/
def dx : ℝ := R.wb 2 j * pre 0 R.u n j + R.wb 1 j * pre 0 R.u (n + 1) j + R.wb 0 j * pre 0 R.u (n + 2) j

/-- The rows of the other weights' gradients, one row of the arrays. -/
def dmisc : ℕ → ℝ
  | 0 => R.dc n j
  | 1 => R.dn n j * nrm (R.a1 n) j
  | 2 => R.dn n j
  | k + 3 => R.u n j * pre 2 R.x (n + k) j

variable (h : ℕ)

/-- The queries, keys, values and the output's gradient of head `h`. -/
def q (d : Fin 256) : ℝ := R.P n (5120 + 256 * h + d)
def k (l d : Fin 256) : ℝ := R.KV l (256 * h + d)
def v (l d : Fin 256) : ℝ := R.KV l (1024 + 256 * h + d)
def o (d : Fin 256) : ℝ := R.O 2 n (256 * h + d)

/-- The gradients of the queries, and of keys and values, one row. -/
def dq (d : Fin 256) : ℝ := dQuery (R.q n h) (R.k h) (R.v h) (R.o n h) d
def dk (l d : Fin 256) : ℝ := dScores (R.q n h) (R.k h) (R.v h) (R.o n h) l * R.q n h d
def dv (l d : Fin 256) : ℝ := probs (R.q n h) (R.k h) l * R.o n h d

/-- The gradient of the projections, in the columns that the body stores: column `j` of block `b`. -/
def dpAt : ℕ → ℝ
  | 0 => R.da n j * sgm (R.P n (1024 + j))
  | 1 => R.da n j * R.P n j * sgm (R.P n (1024 + j)) * (1 - sgm (R.P n (1024 + j)))
  | 2 => R.O 1 n j * R.xc n j
  | 3 => R.dx n j * R.P n (4096 + j)
  | 4 => R.dx n j * R.P n (3072 + j)
  | _ => R.dq n (j / 256) ⟨j % 256, Nat.mod_lt _ (by decide)⟩

/-- The same by its column. -/
def dp (col : ℕ) : ℝ := R.dpAt n ⟨col % 1024, Nat.mod_lt _ (by decide)⟩ (col / 1024)

theorem dp_block (b : ℕ) : R.dp n (1024 * b + j) = R.dpAt n j b := by
  unfold dp
  rw [show (1024 * b + j.val) / 1024 = b by omega]
  exact congrArg (fun j => R.dpAt n j b) (Fin.ext (by show (1024 * b + j.val) % 1024 = j.val; omega))

end Args

end Cert.Branch
-- ==== Proof.Branch.Pay.lean ====
module

public import Idealize.ShloMosaic.Lib.Pipeline.ValueKit
public import Idealize.ShloMosaic.Lib.Pointwise
public import Idealize.ShloMosaic.Lib.Claim
public import proofs.«01_k».proof.Proof.Gen.BranchBwdIdeal.Skeleton
public import proofs.«01_k».proof.Proof.Branch.Spec

/-! The call `branch_bwd`: what the operations between loads and stores compute, on reals. -/

@[expose] public section

set_option maxRecDepth 16384

noncomputable section

namespace Cert.Branch

open Idealize.ShloMosaic Idealize.ShloMosaic.TcCoe Idealize.SL.Sem
open Cert.BranchBwdIdeal Cert.BranchBwdIdeal.Gen Cert.Common

/-! ## The layer norm's gradient -/

section Norm

variable {v : Vec Ideal S128x1024 .f32} {A : Fin 128 → Fin 1024 → ℝ} (hv : ∀ i j, v (ix2 i j) = (A i j : EReal))

include hv

theorem pay44 (i : Fin 128) (j : Fin 1024) : k0_pay44 (F := Ideal) v (ix2 i j) = (cen (A i) j : EReal) := by
  pointwise [k0_pay44, word_1024]
  simp only [hv, mean_real, ← EReal.coe_sub, cen]

theorem pay45 (i : Fin 128) (j : Fin 1) : k0_pay45 (F := Ideal) v (ix2 i j) = (rstd (A i) : EReal) := by
  have e : k0_pay45 (F := Ideal) v (ix2 i j)
      = Ideal.rsqrt (Ideal.div (∑ k : Fin 1024, k0_pay44 (F := Ideal) v (ix2 i k) * k0_pay44 (F := Ideal) v (ix2 i k))
          ((1024 : ℝ) : EReal) + ((eps : ℝ) : EReal)) := by
    unfold k0_pay45
    generalize k0_pay44 (F := Ideal) v = w
    pointwise [word_1024, word_eps]
  rw [e]
  simp only [pay44 hv, ← EReal.coe_mul]
  rw [mean_real, ← EReal.coe_add]
  exact rsqrt_pos (var_pos (A i))

theorem pay46 (i : Fin 128) (j : Fin 1024) : k0_pay46 (F := Ideal) v (ix2 i j) = (nrm (A i) j : EReal) := by
  have e : k0_pay46 (F := Ideal) v (ix2 i j)
      = k0_pay44 (F := Ideal) v (ix2 i j) * k0_pay45 (F := Ideal) v (ix2 i 0) := by
    unfold k0_pay46
    generalize k0_pay44 (F := Ideal) v = w
    generalize k0_pay45 (F := Ideal) v = u
    pointwise
  rw [e, pay44 hv, pay45 hv, ← EReal.coe_mul]; rfl

end Norm

section Grad

variable {v d : Vec Ideal S128x1024 .f32} {g b : Vec Ideal S1x1024 .f32}
  {A D : Fin 128 → Fin 1024 → ℝ} {G B : Fin 1024 → ℝ}
  (hv : ∀ i j, v (ix2 i j) = (A i j : EReal)) (hd : ∀ i j, d (ix2 i j) = (D i j : EReal))
  (hg : ∀ j, g (ix2 0 j) = (G j : EReal)) (hb : ∀ j, b (ix2 0 j) = (B j : EReal))

include hv hd hg hb

theorem pay48 (i : Fin 128) (j : Fin 1024) :
    k0_pay48 (F := Ideal) d (k0_pay43 b) (k0_pay46 v) (k0_pay47 g) (ix2 i j)
      = (dOut (A i) G B (D i) j : EReal) := by
  have e : k0_pay48 (F := Ideal) d (k0_pay43 b) (k0_pay46 v) (k0_pay47 g) (ix2 i j)
      = d (ix2 i j) * (Ideal.logistic (k0_pay46 (F := Ideal) v (ix2 i j) * g (ix2 0 j) + b (ix2 0 j))
        * (((1 : ℝ) : EReal) + (k0_pay46 (F := Ideal) v (ix2 i j) * g (ix2 0 j) + b (ix2 0 j))
          * (((1 : ℝ) : EReal) - Ideal.logistic (k0_pay46 (F := Ideal) v (ix2 i j) * g (ix2 0 j) + b (ix2 0 j))))) := by
    unfold k0_pay48
    generalize k0_pay46 (F := Ideal) v = w
    pointwise [k0_pay43, k0_pay47, word_one]
  rw [e, pay46 hv, hd, hg, hb]
  simp only [← EReal.coe_mul, ← EReal.coe_add, logistic_real, ← EReal.coe_sub]
  rfl

theorem pay49 (i : Fin 128) (j : Fin 1024) :
    k0_pay49 (F := Ideal) d (k0_pay43 b) (k0_pay45 v) (k0_pay46 v) (k0_pay47 g) g (ix2 i j)
      = (dIn (A i) G B (D i) j : EReal) := by
  have e : k0_pay49 (F := Ideal) d (k0_pay43 b) (k0_pay45 v) (k0_pay46 v) (k0_pay47 g) g (ix2 i j)
      = k0_pay45 (F := Ideal) v (ix2 i 0)
        * (k0_pay48 (F := Ideal) d (k0_pay43 b) (k0_pay46 v) (k0_pay47 g) (ix2 i j) * g (ix2 0 j)
          - Ideal.div (∑ k : Fin 1024, k0_pay48 (F := Ideal) d (k0_pay43 b) (k0_pay46 v) (k0_pay47 g) (ix2 i k) * g (ix2 0 k))
              ((1024 : ℝ) : EReal)
          - k0_pay46 (F := Ideal) v (ix2 i j)
            * Ideal.div (∑ k : Fin 1024, k0_pay48 (F := Ideal) d (k0_pay43 b) (k0_pay46 v) (k0_pay47 g) (ix2 i k) * g (ix2 0 k)
                * k0_pay46 (F := Ideal) v (ix2 i k)) ((1024 : ℝ) : EReal)) := by
    unfold k0_pay49
    generalize k0_pay48 (F := Ideal) d (k0_pay43 b) (k0_pay46 v) (k0_pay47 g) = w
    generalize k0_pay46 (F := Ideal) v = n
    generalize k0_pay45 (F := Ideal) v = r
    pointwise [word_1024]
  rw [e]
  simp only [pay48 hv hd hg hb, pay46 hv, pay45 hv, hg, ← EReal.coe_mul, mean_real, ← EReal.coe_sub]
  rfl

theorem pay51 {old : Vec Ideal S1x1024 .f32} (j : Fin 1024) :
    k0_pay51 (F := Ideal) d (k0_pay43 b) (k0_pay46 v) (k0_pay47 g) old (ix2 0 j)
      = old (ix2 0 j) + ((∑ i, dOut (A i) G B (D i) j * nrm (A i) j : ℝ) : EReal) := by
  have e : k0_pay51 (F := Ideal) d (k0_pay43 b) (k0_pay46 v) (k0_pay47 g) old (ix2 0 j)
      = old (ix2 0 j) + ∑ i : Fin 128, k0_pay48 (F := Ideal) d (k0_pay43 b) (k0_pay46 v) (k0_pay47 g) (ix2 i j)
          * k0_pay46 (F := Ideal) v (ix2 i j) := by
    unfold k0_pay51
    generalize k0_pay48 (F := Ideal) d (k0_pay43 b) (k0_pay46 v) (k0_pay47 g) = w
    generalize k0_pay46 (F := Ideal) v = n
    pointwise
  rw [e]
  simp only [pay48 hv hd hg hb, pay46 hv, ← EReal.coe_mul, coe_sum]

theorem pay50 {old : Vec Ideal S1x1024 .f32} (j : Fin 1024) :
    k0_pay50 (F := Ideal) d (k0_pay43 b) (k0_pay45 v) (k0_pay46 v) (k0_pay47 g) g old (ix2 0 j)
      = old (ix2 0 j) + ((∑ i, dIn (A i) G B (D i) j : ℝ) : EReal) := by
  have e : k0_pay50 (F := Ideal) d (k0_pay43 b) (k0_pay45 v) (k0_pay46 v) (k0_pay47 g) g old (ix2 0 j)
      = old (ix2 0 j) + ∑ i : Fin 128,
          k0_pay49 (F := Ideal) d (k0_pay43 b) (k0_pay45 v) (k0_pay46 v) (k0_pay47 g) g (ix2 i j) := by
    unfold k0_pay50
    generalize k0_pay49 (F := Ideal) d (k0_pay43 b) (k0_pay45 v) (k0_pay46 v) (k0_pay47 g) g = w
    pointwise
  rw [e]
  simp only [pay49 hv hd hg hb, coe_sum]

end Grad

/-- A row that is a column sum, added to what was there. -/
theorem pay52 {w : FVec Ideal S128x1024 .f32} {W : Fin 128 → Fin 1024 → ℝ} (hw : ∀ i j, w (ix2 i j) = (W i j : EReal))
    {old : Vec Ideal S1x1024 .f32} (j : Fin 1024) :
    k0_pay52 (F := Ideal) w old (ix2 0 j) = old (ix2 0 j) + ((∑ i, W i j : ℝ) : EReal) := by
  have e : k0_pay52 (F := Ideal) w old (ix2 0 j) = old (ix2 0 j) + ∑ i : Fin 128, w (ix2 i j) := by
    pointwise [k0_pay52]
  rw [e]; simp only [hw, coe_sum]

theorem pay42 (w : Vec Ideal S1x128x1024 .f32) (i : Fin 128) (j : Fin 1024) :
    k0_pay42 (F := Ideal) w (ix2 i j) = w (ix3 0 i j) := by pointwise [k0_pay42]

theorem pay53 (w : FVec Ideal S128x1024 .f32) (i : Fin 128) (j : Fin 1024) :
    k0_pay53 (F := Ideal) w (ix2 i j) = w (ix2 i j) := by pointwise [k0_pay53]

/-! ## The same for the rows after the tile -/

section Next

variable {v : Vec Ideal S32x1024 .f32} {d : Vec Ideal S1x32x1024 .f32} {g b : Vec Ideal S1x1024 .f32} {z : Ideal .f32}
  {A D : Fin 32 → Fin 1024 → ℝ} {G B : Fin 1024 → ℝ} {Z : ℝ}
  (hv : ∀ i j, v (ix2 i j) = (A i j : EReal)) (hd : ∀ i j, d (ix3 0 i j) = (D i j : EReal))
  (hg : ∀ j, g (ix2 0 j) = (G j : EReal)) (hb : ∀ j, b (ix2 0 j) = (B j : EReal)) (hz : z = (Z : EReal))

include hv

theorem pay57 (i : Fin 32) (j : Fin 1024) : k0_pay57 (F := Ideal) v (ix2 i j) = (cen (A i) j : EReal) := by
  pointwise [k0_pay57, word_1024]
  simp only [hv, mean_real, ← EReal.coe_sub, cen]

theorem pay58 (i : Fin 32) (j : Fin 1) : k0_pay58 (F := Ideal) v (ix2 i j) = (rstd (A i) : EReal) := by
  have e : k0_pay58 (F := Ideal) v (ix2 i j)
      = Ideal.rsqrt (Ideal.div (∑ k : Fin 1024, k0_pay57 (F := Ideal) v (ix2 i k) * k0_pay57 (F := Ideal) v (ix2 i k))
          ((1024 : ℝ) : EReal) + ((eps : ℝ) : EReal)) := by
    unfold k0_pay58
    generalize k0_pay57 (F := Ideal) v = w
    pointwise [word_1024, word_eps]
  rw [e]
  simp only [pay57 hv, ← EReal.coe_mul]
  rw [mean_real, ← EReal.coe_add]
  exact rsqrt_pos (var_pos (A i))

theorem pay59 (i : Fin 32) (j : Fin 1024) : k0_pay59 (F := Ideal) v (ix2 i j) = (nrm (A i) j : EReal) := by
  have e : k0_pay59 (F := Ideal) v (ix2 i j)
      = k0_pay57 (F := Ideal) v (ix2 i j) * k0_pay58 (F := Ideal) v (ix2 i 0) := by
    unfold k0_pay59
    generalize k0_pay57 (F := Ideal) v = w
    generalize k0_pay58 (F := Ideal) v = u
    pointwise
  rw [e, pay57 hv, pay58 hv, ← EReal.coe_mul]; rfl

include hd hg hb hz

theorem pay60 (i : Fin 32) (j : Fin 1024) :
    k0_pay60 (F := Ideal) z (k0_pay54 d) (k0_pay55 g) (k0_pay56 b) (k0_pay58 v) (k0_pay59 v) g (ix2 i j)
      = ((dIn (A i) G B (D i) j * Z : ℝ) : EReal) := by
  have e : k0_pay60 (F := Ideal) z (k0_pay54 d) (k0_pay55 g) (k0_pay56 b) (k0_pay58 v) (k0_pay59 v) g (ix2 i j)
      = (have n := k0_pay59 (F := Ideal) v
        have y := fun k : Fin 1024 => n (ix2 i k) * g (ix2 0 k) + b (ix2 0 k)
        have o := fun k : Fin 1024 => d (ix3 0 i k) * (Ideal.logistic (y k) * (((1 : ℝ) : EReal) + y k
          * (((1 : ℝ) : EReal) - Ideal.logistic (y k)))) * g (ix2 0 k)
        k0_pay58 (F := Ideal) v (ix2 i 0) * (o j - Ideal.div (∑ k, o k) ((1024 : ℝ) : EReal)
          - n (ix2 i j) * Ideal.div (∑ k, o k * n (ix2 i k)) ((1024 : ℝ) : EReal)) * z) := by
    unfold k0_pay60
    generalize k0_pay59 (F := Ideal) v = n
    generalize k0_pay58 (F := Ideal) v = r
    pointwise [k0_pay54, k0_pay55, k0_pay56, word_1024, word_one]
  rw [e]
  simp only [pay59 hv, pay58 hv, hd, hg, hb, hz, ← EReal.coe_mul, ← EReal.coe_add, logistic_real, ← EReal.coe_sub,
    mean_real]
  rfl

end Next

/-! ## The gated unit and the convolution -/

theorem pay61 (v : Vec Ideal S128x1024 .f32) (i : Fin 128) (j : Fin 1024) :
    k0_pay61 (F := Ideal) v (ix2 i j) = Ideal.logistic (v (ix2 i j)) := by pointwise [k0_pay61]

theorem pay63 (z : Ideal .f32) (a g : Vec Ideal S32x1024 .f32) (i : Fin 32) (j : Fin 1024) :
    k0_pay63 (F := Ideal) z (k0_pay62 a g) (ix2 i j) = a (ix2 i j) * Ideal.logistic (g (ix2 i j)) * z := by
  pointwise [k0_pay63, k0_pay62]

theorem pay64 (s : FVec Ideal S128x1024 .f32) (a : Vec Ideal S128x1024 .f32) (i : Fin 128) (j : Fin 1024) :
    k0_pay64 (F := Ideal) s a (ix2 i j) = a (ix2 i j) * s (ix2 i j) := by pointwise [k0_pay64]

theorem pay2 (v : Vec Ideal S1x1024 .f32) (x : Fin 8) (j : Fin 1024) :
    k0_pay2 (F := Ideal) v (ix3 0 x j) = v (ix2 0 j) := by pointwise [k0_pay2]

theorem pay140 (d e : Vec Ideal S32x1024 .f32) (old : Vec Ideal S8x1024 .f32) (x : Fin 8) (j : Fin 1024) :
    k0_pay140 (F := Ideal) d e old (ix2 x j) = old (ix2 x j)
      + ∑ g : Fin 4, d (ix2 ⟨g.val * 8 + x.val, by omega⟩ j) * e (ix2 ⟨g.val * 8 + x.val, by omega⟩ j) := by
  pointwise [k0_pay140]

theorem tapStep (t : Vec Ideal S1x8x1024 .f32) (e : Vec Ideal S32x1024 .f32) (acc : FVec Ideal S4x8x1024 .f32)
    (g : Fin 4) (x : Fin 8) (j : Fin 1024) :
    (addf acc (mulf (broadcastTo S4x8x1024 (shapeCast S1x8x1024 (shapeCast S8x1024 t shapeCasts_S1x8x1024_S8x1024)
        shapeCasts_S8x1024_S1x8x1024) broadcasts_S1x8x1024_S4x8x1024)
      (shapeCast S4x8x1024 e shapeCasts_S32x1024_S4x8x1024)) : FVec Ideal S4x8x1024 .f32) (ix3 g x j)
      = acc (ix3 g x j) + t (ix3 0 x j) * e (ix2 ⟨g.val * 8 + x.val, by omega⟩ j) := by
  pointwise

theorem pay79 (i : S4x8x1024.Idx) : k0_pay79 (F := Ideal) i = (0 : EReal) := by
  obtain ⟨g, x, j, rfl⟩ : ∃ (g : Fin 4) (x : Fin 8) (j : Fin 1024), i = ix3 g x j :=
    ⟨i 0, i 1, i 2, by ext a; fin_cases a <;> rfl⟩
  pointwise [k0_pay79]

theorem asRows (e : FVec Ideal S4x8x1024 .f32) (i : Fin 32) (j : Fin 1024) :
    shapeCast S32x1024 e shapeCasts_S4x8x1024_S32x1024 (ix2 i j)
      = e (ix3 ⟨i.val / 8, by omega⟩ ⟨i.val % 8, by omega⟩ j) := by
  pointwise

theorem pay274 (d s : FVec Ideal S32x1024 .f32) (i : Fin 32) (j : Fin 1024) :
    k0_pay274 (F := Ideal) d s (ix2 i j) = d (ix2 i j) * s (ix2 i j) := by pointwise [k0_pay274]

theorem pay275 (d s : FVec Ideal S32x1024 .f32) (a : Vec Ideal S32x1024 .f32) (i : Fin 32) (j : Fin 1024) :
    k0_pay275 (F := Ideal) d s a (ix2 i j)
      = d (ix2 i j) * a (ix2 i j) * s (ix2 i j) * (((1 : ℝ) : EReal) - s (ix2 i j)) := by
  pointwise [k0_pay275, word_one]

/-! ## The short convolution -/

theorem pay345 (a b : Vec Ideal S128x1024 .f32) (i : Fin 128) (j : Fin 1024) :
    k0_pay345 (F := Ideal) (k0_pay344 a b) (ix2 i j) = a (ix2 i j) * b (ix2 i j) := by pointwise [k0_pay345, k0_pay344]

theorem pay343 (z : Ideal .f32) (a b : Vec Ideal S8x1024 .f32) (i : Fin 8) (j : Fin 1024) :
    k0_pay343 (F := Ideal) z a b (ix2 i j) = a (ix2 i j) * b (ix2 i j) * z := by pointwise [k0_pay343]

theorem pay348 (d : Vec Ideal S1x128x1024 .f32) (b : Vec Ideal S128x1024 .f32) (i : Fin 128) (j : Fin 1024) :
    k0_pay348 (F := Ideal) d b (ix2 i j) = d (ix3 0 i j) * b (ix2 i j) := by
  pointwise [k0_pay348, k0_pay347, k0_pay346]

theorem pay349 (z : Ideal .f32) (a : Vec Ideal S1x8x1024 .f32) (b : Vec Ideal S8x1024 .f32) (i : Fin 8) (j : Fin 1024) :
    k0_pay349 (F := Ideal) z a b (ix2 i j) = a (ix3 0 i j) * b (ix2 i j) * z := by pointwise [k0_pay349]

theorem pay352 (d : Vec Ideal S1x128x1024 .f32) (b x : Vec Ideal S128x1024 .f32) (old : Vec Ideal S1x1024 .f32)
    (j : Fin 1024) : k0_pay352 (F := Ideal) d b x old (ix2 0 j)
      = old (ix2 0 j) + ∑ i : Fin 128, d (ix3 0 i j) * b (ix2 i j) * x (ix2 i j) := by
  pointwise [k0_pay352, k0_pay347, k0_pay346]

theorem pay355 (x0 x1 x2 : Vec Ideal S128x1024 .f32) (w0 w1 w2 : Vec Ideal S1x1024 .f32) (i : Fin 128) (j : Fin 1024) :
    k0_pay355 (F := Ideal) (k0_pay351 x0 w0) x1 w1 x2 w2 (ix2 i j)
      = w0 (ix2 0 j) * x0 (ix2 i j) + w1 (ix2 0 j) * x1 (ix2 i j) + w2 (ix2 0 j) * x2 (ix2 i j) := by
  pointwise [k0_pay355, k0_pay351]

theorem pay359 (u0 u1 u2 : Vec Ideal S128x1024 .f32) (w0 w1 w2 : Vec Ideal S1x1024 .f32) (i : Fin 128) (j : Fin 1024) :
    k0_pay359 (F := Ideal) (k0_pay354 k0_pay350 w2 u0 w1 u1) w0 u2 (ix2 i j)
      = w2 (ix2 0 j) * u0 (ix2 i j) + w1 (ix2 0 j) * u1 (ix2 i j) + w0 (ix2 0 j) * u2 (ix2 i j) := by
  pointwise [k0_pay359, k0_pay354, k0_pay350]

theorem pay360 (d : Vec Ideal S1x128x1024 .f32) (u : FVec Ideal S128x1024 .f32) (i : Fin 128) (j : Fin 1024) :
    k0_pay360 (F := Ideal) (k0_pay346 d) u (ix2 i j) = d (ix3 0 i j) * u (ix2 i j) := by
  pointwise [k0_pay360, k0_pay346]

theorem pay361 (w : FVec Ideal S128x1024 .f32) (t : Vec Ideal S1x1024 .f32) (u x : Vec Ideal S128x1024 .f32)
    (i : Fin 128) (j : Fin 1024) :
    k0_pay361 (F := Ideal) w t u x (ix2 i j) = k0_pay359 (F := Ideal) w t u (ix2 i j) * x (ix2 i j) := by
  unfold k0_pay361
  generalize k0_pay359 (F := Ideal) w t u = y
  pointwise

theorem pay362 (w : FVec Ideal S128x1024 .f32) (t : Vec Ideal S1x1024 .f32) (u x : Vec Ideal S128x1024 .f32)
    (i : Fin 128) (j : Fin 1024) :
    k0_pay362 (F := Ideal) w t u x (ix2 i j) = k0_pay359 (F := Ideal) w t u (ix2 i j) * x (ix2 i j) := by
  unfold k0_pay362
  generalize k0_pay359 (F := Ideal) w t u = y
  pointwise

/-! ## The attention -/

section Head

variable {q : Vec Ideal S128x256 .f32} {k v : Vec Ideal S256x256 .bf16} {o : Vec Ideal S1x128x256 .f32}
  {Q O : Fin 128 → Fin 256 → ℝ} {K V : Fin 256 → Fin 256 → ℝ}
  (hq : ∀ i j, q (ix2 i j) = (Q i j : EReal)) (hk : ∀ i j, k (ix2 i j) = (K i j : EReal))
  (hv : ∀ i j, v (ix2 i j) = (V i j : EReal)) (ho : ∀ i j, o (ix3 0 i j) = (O i j : EReal))

include hq hk

theorem pay366 (i : Fin 128) (l : Fin 256) : k0_pay366 (F := Ideal) q k (ix2 i l) = (scores (Q i) K l : EReal) := by
  pointwise [k0_pay366, k0_pay364, k0_pay363, word_scale]
  simp only [hq, hk, ← EReal.coe_mul, coe_sum]
  rfl

theorem pay367 (i : Fin 128) : ∃ M : ℝ, k0_pay367 (F := Ideal) q k (ix1 i) = (M : EReal) := by
  obtain ⟨M, hM⟩ := fold_max_real Finset.univ ⟨(0 : Fin 256), Finset.mem_univ _⟩ (scores (Q i) K)
  refine ⟨M, Eq.trans ?_ hM⟩
  have e : k0_pay367 (F := Ideal) q k (ix1 i)
      = Finset.fold max (⊥ : EReal) (fun x : Fin 256 => k0_pay366 (F := Ideal) q k (ix2 i x)) Finset.univ := by
    unfold k0_pay367
    generalize k0_pay366 (F := Ideal) q k = w
    pointwise [word_ninf]
  rw [e]
  simp only [pay366 hq hk]

theorem pay368 (i : Fin 128) (l : Fin 256) :
    k0_pay368 (F := Ideal) (k0_pay366 q k) (k0_pay367 q k) (ix2 i l) = (probs (Q i) K l : EReal) := by
  obtain ⟨M, hM⟩ := pay367 hq hk i
  have e : k0_pay368 (F := Ideal) (k0_pay366 q k) (k0_pay367 q k) (ix2 i l)
      = Ideal.div (Ideal.exp (k0_pay366 (F := Ideal) q k (ix2 i l) - k0_pay367 (F := Ideal) q k (ix1 i)))
        (∑ x : Fin 256, Ideal.exp (k0_pay366 (F := Ideal) q k (ix2 i x) - k0_pay367 (F := Ideal) q k (ix1 i))) := by
    unfold k0_pay368
    generalize k0_pay366 (F := Ideal) q k = w
    generalize k0_pay367 (F := Ideal) q k = y
    pointwise
  rw [e, hM]
  simp only [pay366 hq hk, ← EReal.coe_sub, Ideal.exp_coe, coe_sum]
  rw [div_reals _ (expSum_pos fun x => scores (Q i) K x - M).ne', soft_shift]
  rfl

include hv ho

theorem pay370 (i : Fin 128) (l : Fin 256) :
    k0_pay370 (F := Ideal) (k0_pay365 v) (k0_pay366 q k) (k0_pay367 q k) o (ix2 i l)
      = (dScores (Q i) K V (O i) l : EReal) := by
  have e : k0_pay370 (F := Ideal) (k0_pay365 v) (k0_pay366 q k) (k0_pay367 q k) o (ix2 i l)
      = k0_pay368 (F := Ideal) (k0_pay366 q k) (k0_pay367 q k) (ix2 i l)
        * ((∑ d : Fin 256, o (ix3 0 i d) * v (ix2 l d)) - ∑ y : Fin 256, (∑ d : Fin 256, o (ix3 0 i d) * v (ix2 y d))
          * k0_pay368 (F := Ideal) (k0_pay366 q k) (k0_pay367 q k) (ix2 i y)) * ((1 / 16 : ℝ) : EReal) := by
    unfold k0_pay370
    generalize k0_pay368 (F := Ideal) (k0_pay366 q k) (k0_pay367 q k) = w
    pointwise [k0_pay369, k0_pay365, word_scale]
  rw [e]
  simp only [pay368 hq hk, hv, ho, ← EReal.coe_mul, coe_sum, ← EReal.coe_sub]
  rfl

theorem pay371 (i : Fin 128) (d : Fin 256) :
    k0_pay371 (F := Ideal) (k0_pay364 k) (k0_pay365 v) (k0_pay366 q k) (k0_pay367 q k) o (ix2 i d)
      = (dQuery (Q i) K V (O i) d : EReal) := by
  have e : k0_pay371 (F := Ideal) (k0_pay364 k) (k0_pay365 v) (k0_pay366 q k) (k0_pay367 q k) o (ix2 i d)
      = ∑ l : Fin 256, k0_pay370 (F := Ideal) (k0_pay365 v) (k0_pay366 q k) (k0_pay367 q k) o (ix2 i l) * k (ix2 l d) := by
    unfold k0_pay371
    generalize k0_pay370 (F := Ideal) (k0_pay365 v) (k0_pay366 q k) (k0_pay367 q k) o = w
    pointwise [k0_pay364]
  rw [e]
  simp only [pay370 hq hk hv ho, hk, ← EReal.coe_mul, coe_sum]
  rfl

theorem pay372 (old : Vec Ideal S256x256 .f32) (l d : Fin 256) :
    k0_pay372 (F := Ideal) (k0_pay363 q) (k0_pay365 v) (k0_pay366 q k) (k0_pay367 q k) o old (ix2 l d)
      = old (ix2 l d) + ((∑ i, dScores (Q i) K V (O i) l * Q i d : ℝ) : EReal) := by
  have e : k0_pay372 (F := Ideal) (k0_pay363 q) (k0_pay365 v) (k0_pay366 q k) (k0_pay367 q k) o old (ix2 l d)
      = old (ix2 l d) + ∑ i : Fin 128,
        k0_pay370 (F := Ideal) (k0_pay365 v) (k0_pay366 q k) (k0_pay367 q k) o (ix2 i l) * q (ix2 i d) := by
    unfold k0_pay372
    generalize k0_pay370 (F := Ideal) (k0_pay365 v) (k0_pay366 q k) (k0_pay367 q k) o = w
    pointwise [k0_pay363]
  rw [e]
  simp only [pay370 hq hk hv ho, hq, ← EReal.coe_mul, coe_sum]

omit hv in
theorem pay373 (old : Vec Ideal S256x256 .f32) (l d : Fin 256) :
    k0_pay373 (F := Ideal) (k0_pay366 q k) (k0_pay367 q k) o old (ix2 l d)
      = old (ix2 l d) + ((∑ i, probs (Q i) K l * O i d : ℝ) : EReal) := by
  have e : k0_pay373 (F := Ideal) (k0_pay366 q k) (k0_pay367 q k) o old (ix2 l d)
      = old (ix2 l d) + ∑ i : Fin 128,
        k0_pay368 (F := Ideal) (k0_pay366 q k) (k0_pay367 q k) (ix2 i l) * o (ix3 0 i d) := by
    unfold k0_pay373
    generalize k0_pay368 (F := Ideal) (k0_pay366 q k) (k0_pay367 q k) = w
    pointwise [k0_pay369]
  rw [e]
  simp only [pay368 hq hk, ho, ← EReal.coe_mul, coe_sum]

end Head

end Cert.Branch
-- ==== Proof.Branch.Rows.lean ====
module

public import proofs.«01_k».proof.Proof.Branch.Stores
public import proofs.«01_k».proof.Proof.Branch.Lists
public import proofs.«01_k».proof.Proof.Branch.Pay

/-! The call `branch_bwd`: the blocks of one tile as reals, and the extended tiles that the convolutions read. -/

@[expose] public section

set_option maxRecDepth 16384

noncomputable section

namespace Cert.Branch

open Idealize.ShloMosaic Idealize.ShloMosaic.TcCoe Idealize.SL.Sem
open Cert.BranchBwdIdeal Cert.BranchBwdIdeal.Gen Cert.BranchRun Cert.Stores Cert.Common

variable (m : (ℓ : Loc nD τ sig) → Buf (Elt Ideal) ℓ) (c : Dev nD) (t : Fin cfg0.N)

/-- The blocks of tile `t` hold the rows of the arrays `R`. -/
structure Tile (R : Args) : Prop where
  b0 : ∀ (i : Fin 128) (j : Fin 1024), (iblk m c 0 t : Vec Ideal S128x1024 .f32) (ix2 i j) = (R.P (128 * t.val + i) j : EReal)
  b1 : ∀ (i : Fin 128) (j : Fin 1024), (iblk m c 1 t : Vec Ideal S128x1024 .f32) (ix2 i j) = (R.P (128 * t.val + i) (1024 + j) : EReal)
  b2 : ∀ (i : Fin 128) (j : Fin 1024), (iblk m c 2 t : Vec Ideal S128x1024 .f32) (ix2 i j) = (R.P (128 * t.val + i) (2048 + j) : EReal)
  b3 : ∀ (i : Fin 128) (j : Fin 1024), (iblk m c 3 t : Vec Ideal S128x1024 .f32) (ix2 i j) = (R.P (128 * t.val + i) (3072 + j) : EReal)
  b4 : ∀ (i : Fin 128) (j : Fin 1024), (iblk m c 4 t : Vec Ideal S128x1024 .f32) (ix2 i j) = (R.P (128 * t.val + i) (4096 + j) : EReal)
  b5 : ∀ (i : Fin 128) (j : Fin 1024), (iblk m c 5 t : Vec Ideal S128x1024 .f32) (ix2 i j) = (R.P (128 * t.val + i) (5120 + j) : EReal)
  b6 : ∀ (i : Fin 32) (j : Fin 1024), (iblk m c 6 t : Vec Ideal S32x1024 .f32) (ix2 i j)
    = (R.P (32 * (4 * t.val - 1) + i) j : EReal)
  b7 : ∀ (i : Fin 32) (j : Fin 1024), (iblk m c 7 t : Vec Ideal S32x1024 .f32) (ix2 i j)
    = (R.P (32 * (4 * t.val - 1) + i) (1024 + j) : EReal)
  b8 : ∀ (i : Fin 8) (j : Fin 1024), (iblk m c 8 t : Vec Ideal S8x1024 .f32) (ix2 i j)
    = (R.P (8 * (16 * t.val - 1) + i) (3072 + j) : EReal)
  b9 : ∀ (i : Fin 8) (j : Fin 1024), (iblk m c 9 t : Vec Ideal S8x1024 .f32) (ix2 i j)
    = (R.P (8 * (16 * t.val - 1) + i) (4096 + j) : EReal)
  b10 : ∀ (i : Fin 8) (j : Fin 1024), (iblk m c 10 t : Vec Ideal S8x1024 .f32) (ix2 i j)
    = (R.P (8 * min (16 * (t.val + 1)) 1023 + i) (2048 + j) : EReal)
  b11 : ∀ (i : Fin 128) (j : Fin 1024), (iblk m c 11 t : Vec Ideal S128x1024 .f32) (ix2 i j) = (R.a1 (128 * t.val + i) j : EReal)
  b12 : ∀ (i : Fin 32) (j : Fin 1024), (iblk m c 12 t : Vec Ideal S32x1024 .f32) (ix2 i j)
    = (R.a1 (32 * min (4 * (t.val + 1)) 255 + i) j : EReal)
  b13 : ∀ (l : Fin 3) (i : Fin 128) (j : Fin 1024), (iblk m c 13 t : Vec Ideal S3x128x1024 .f32) (ix3 l i j)
    = (R.O l (128 * t.val + i) j : EReal)
  b14 : ∀ (i : Fin 32) (j : Fin 1024), (iblk m c 14 t : Vec Ideal S1x32x1024 .f32) (ix3 0 i j)
    = (R.O 0 (32 * min (4 * (t.val + 1)) 255 + i) j : EReal)
  b15 : ∀ (i : Fin 8) (j : Fin 1024), (iblk m c 15 t : Vec Ideal S1x8x1024 .f32) (ix3 0 i j)
    = (R.O 1 (8 * min (16 * (t.val + 1)) 1023 + i) j : EReal)
  b16 : ∀ (l : Fin 256) (j : Fin 2048), (iblk m c 16 t : Vec Ideal S256x2048 .bf16) (ix2 l j) = (R.KV l j : EReal)
  b17 : ∀ (k : Fin 32) (j : Fin 1024), k.val < 31 → (iblk m c 17 t : Vec Ideal S32x1024 .f32) (ix2 k j) = (R.wa k j : EReal)
  b18 : ∀ j : Fin 1024, (iblk m c 18 t : Vec Ideal S1x1024 .f32) (ix2 0 j) = (R.lg j : EReal)
  b19 : ∀ j : Fin 1024, (iblk m c 19 t : Vec Ideal S1x1024 .f32) (ix2 0 j) = (R.lb j : EReal)
  b20 : ∀ (k : Fin 8) (j : Fin 1024), k.val < 3 → (iblk m c 20 t : Vec Ideal S8x1024 .f32) (ix2 k j) = (R.wb k j : EReal)

theorem tile_lt : t.val < 64 := lt_points t.isLt

/-! ## The factors that are zero at the two ends -/

/-- The factor of the rows before the tile. -/
theorem notFirst : k0_pay37 (F := Ideal) (grid0.coords t) = ((if t.val = 0 then (0 : ℝ) else 1 : ℝ) : EReal) := by
  have e : ∀ t : Fin cfg0.N, (Scalar.extui (Scalar.cmpi .sgt (BitVec.ofNat 32 (grid0.coords t 0).val) 0#32)
      : BitVec 32) = if t.val = 0 then 0#32 else 1#32 := by decide +kernel
  unfold k0_pay37
  dsimp only
  rw [e t]
  split
  · show (((0#32 : BitVec 32).toInt : ℝ) : EReal) = _
    norm_num
  · show (((1#32 : BitVec 32).toInt : ℝ) : EReal) = _
    norm_num

/-- The factor of the rows after the tile. -/
theorem notLast : k0_pay38 (F := Ideal) (grid0.coords t) = ((if t.val = 63 then (0 : ℝ) else 1 : ℝ) : EReal) := by
  have e : ∀ t : Fin cfg0.N, (Scalar.extui (Scalar.cmpi .slt (BitVec.ofNat 32 (grid0.coords t 0).val) 63#32)
      : BitVec 32) = if t.val = 63 then 0#32 else 1#32 := by decide +kernel
  unfold k0_pay38
  dsimp only
  rw [e t]
  split
  · show (((0#32 : BitVec 32).toInt : ℝ) : EReal) = _
    norm_num
  · show (((1#32 : BitVec 32).toInt : ℝ) : EReal) = _
    norm_num

variable {m c t} {R : Args} (H : Tile m c t R)

include H

/-! ## The blocks as the body reads them -/

theorem w0 (inb) (i : Fin 128) (j : Fin 1024) : part (ms0_0 t) (hs0_0 t) (iblk m c 0 t) ![0, 0] S128x1024.size inb (ix2 i j)
    = (R.P (128 * t.val + i) j : EReal) := (whole2 _ _ _ _ _ _).trans (H.b0 i j)
theorem w1 (inb) (i : Fin 128) (j : Fin 1024) : part (ms0_1 t) (hs0_1 t) (iblk m c 1 t) ![0, 0] S128x1024.size inb (ix2 i j)
    = (R.P (128 * t.val + i) (1024 + j) : EReal) := (whole2 _ _ _ _ _ _).trans (H.b1 i j)
theorem w2 (inb) (i : Fin 128) (j : Fin 1024) : part (ms0_2 t) (hs0_2 t) (iblk m c 2 t) ![0, 0] S128x1024.size inb (ix2 i j)
    = (R.P (128 * t.val + i) (2048 + j) : EReal) := (whole2 _ _ _ _ _ _).trans (H.b2 i j)
theorem w3 (inb) (i : Fin 128) (j : Fin 1024) : part (ms0_3 t) (hs0_3 t) (iblk m c 3 t) ![0, 0] S128x1024.size inb (ix2 i j)
    = (R.P (128 * t.val + i) (3072 + j) : EReal) := (whole2 _ _ _ _ _ _).trans (H.b3 i j)
theorem w4 (inb) (i : Fin 128) (j : Fin 1024) : part (ms0_4 t) (hs0_4 t) (iblk m c 4 t) ![0, 0] S128x1024.size inb (ix2 i j)
    = (R.P (128 * t.val + i) (4096 + j) : EReal) := (whole2 _ _ _ _ _ _).trans (H.b4 i j)
theorem w5 (inb) (i : Fin 128) (j : Fin 1024) : part (ms0_5 t) (hs0_5 t) (iblk m c 5 t) ![0, 0] S128x1024.size inb (ix2 i j)
    = (R.P (128 * t.val + i) (5120 + j) : EReal) := (whole2 _ _ _ _ _ _).trans (H.b5 i j)
theorem w11 (inb) (i : Fin 128) (j : Fin 1024) : part (ms0_11 t) (hs0_11 t) (iblk m c 11 t) ![0, 0] S128x1024.size inb (ix2 i j)
    = (R.a1 (128 * t.val + i) j : EReal) := (whole2 _ _ _ _ _ _).trans (H.b11 i j)
theorem w6 (inb) (i : Fin 32) (j : Fin 1024) : part (ms0_6 t) (hs0_6 t) (iblk m c 6 t) ![0, 0] S32x1024.size inb (ix2 i j)
    = (R.P (32 * (4 * t.val - 1) + i) j : EReal) := (whole2 _ _ _ _ _ _).trans (H.b6 i j)
theorem w7 (inb) (i : Fin 32) (j : Fin 1024) : part (ms0_7 t) (hs0_7 t) (iblk m c 7 t) ![0, 0] S32x1024.size inb (ix2 i j)
    = (R.P (32 * (4 * t.val - 1) + i) (1024 + j) : EReal) := (whole2 _ _ _ _ _ _).trans (H.b7 i j)
theorem w12 (inb) (i : Fin 32) (j : Fin 1024) : part (ms0_12 t) (hs0_12 t) (iblk m c 12 t) ![0, 0] S32x1024.size inb (ix2 i j)
    = (R.a1 (32 * min (4 * (t.val + 1)) 255 + i) j : EReal) := (whole2 _ _ _ _ _ _).trans (H.b12 i j)
theorem w8 (inb) (i : Fin 8) (j : Fin 1024) : part (ms0_8 t) (hs0_8 t) (iblk m c 8 t) ![0, 0] S8x1024.size inb (ix2 i j)
    = (R.P (8 * (16 * t.val - 1) + i) (3072 + j) : EReal) := (whole2 _ _ _ _ _ _).trans (H.b8 i j)
theorem w9 (inb) (i : Fin 8) (j : Fin 1024) : part (ms0_9 t) (hs0_9 t) (iblk m c 9 t) ![0, 0] S8x1024.size inb (ix2 i j)
    = (R.P (8 * (16 * t.val - 1) + i) (4096 + j) : EReal) := (whole2 _ _ _ _ _ _).trans (H.b9 i j)
theorem w10 (inb) (i : Fin 8) (j : Fin 1024) : part (ms0_10 t) (hs0_10 t) (iblk m c 10 t) ![0, 0] S8x1024.size inb (ix2 i j)
    = (R.P (8 * min (16 * (t.val + 1)) 1023 + i) (2048 + j) : EReal) := (whole2 _ _ _ _ _ _).trans (H.b10 i j)
theorem w14 (inb) (i : Fin 32) (j : Fin 1024) : part (ms0_14 t) (hs0_14 t) (iblk m c 14 t) ![0, 0, 0] S1x32x1024.size inb (ix3 0 i j)
    = (R.O 0 (32 * min (4 * (t.val + 1)) 255 + i) j : EReal) := (whole3 _ _ _ _ _ _ _).trans (H.b14 i j)
theorem w15 (inb) (i : Fin 8) (j : Fin 1024) : part (ms0_15 t) (hs0_15 t) (iblk m c 15 t) ![0, 0, 0] S1x8x1024.size inb (ix3 0 i j)
    = (R.O 1 (8 * min (16 * (t.val + 1)) 1023 + i) j : EReal) := (whole3 _ _ _ _ _ _ _).trans (H.b15 i j)
theorem w18 (inb) (j : Fin 1024) : part (ms0_18 t) (hs0_18 t) (iblk m c 18 t) ![0, 0] S1x1024.size inb (ix2 0 j)
    = (R.lg j : EReal) := (whole2 _ _ _ _ _ _).trans (H.b18 j)
theorem w19 (inb) (j : Fin 1024) : part (ms0_19 t) (hs0_19 t) (iblk m c 19 t) ![0, 0] S1x1024.size inb (ix2 0 j)
    = (R.lb j : EReal) := (whole2 _ _ _ _ _ _).trans (H.b19 j)

theorem gate_at (i : Fin 128) (j : Fin 1024) :
    gate m c t (ix2 i j) = (sgm (R.P (128 * t.val + i) (1024 + j)) : EReal) := by
  unfold gate
  rw [pay61, w1 H, logistic_real]

theorem w13 (l : ℕ) (hl : l < 3) (inb) (i : Fin 128) (j : Fin 1024) :
    part (ms0_13 t) (hs0_13 t) (iblk m c 13 t) ![l, 0, 0] S1x128x1024.size inb (ix3 0 i j)
      = (R.O l (128 * t.val + i) j : EReal) := by
  refine (held3 _ _ _ _ _ _ _ (by omega) (by omega) (by omega)).trans ((congrArg _ ?_).trans (H.b13 ⟨l, hl⟩ i j))
  simp

/-! ## The extended tiles -/

theorem extA_at (e : Fin 160) (j : Fin 1024) :
    View.canon (extA m c t) (ix2 e j) = (pre 32 R.a (128 * t.val + e) j : EReal) := by
  have ht := tile_lt t
  unfold extA
  by_cases he : 32 ≤ e.val
  · refine (in2 _ _ _ _ ⟨e.val - 32, by omega⟩ j (by show e.val = 32 + (e.val - 32); omega)
      (by show j.val = 0 + j.val; omega)).trans ?_
    rw [pay64, w0 H, gate_at H, pre_of (n' := 128 * t.val + (e.val - 32)) _ _ (by omega) (by omega),
      ← EReal.coe_mul]
    rfl
  · refine (out2 _ _ _ _ (Or.inl (by show e.val < 32; omega))).trans ?_
    refine (in2 _ _ _ _ ⟨e.val, by omega⟩ j (by show e.val = 0 + e.val; omega)
      (by show j.val = 0 + j.val; omega)).trans ?_
    rw [pay63, w6 H, w7 H, notFirst, logistic_real, ← EReal.coe_mul, ← EReal.coe_mul]
    refine congrArg _ ?_
    by_cases h0 : t.val = 0
    · rw [if_pos h0, mul_zero, pre_lo _ _ (by omega)]
    · rw [if_neg h0, mul_one, pre_of (n' := 32 * (4 * t.val - 1) + e.val) _ _ (by omega) (by omega)]
      rfl

theorem extX_at (e : Fin 136) (j : Fin 1024) :
    View.canon (extX m c t) (ix2 e j) = (pre 8 R.x (128 * t.val + e) j : EReal) := by
  have ht := tile_lt t
  unfold extX
  by_cases he : 8 ≤ e.val
  · refine (in2 _ _ _ _ ⟨e.val - 8, by omega⟩ j (by show e.val = 8 + (e.val - 8); omega)
      (by show j.val = 0 + j.val; omega)).trans ?_
    rw [pay345, w3 H, w4 H, pre_of (n' := 128 * t.val + (e.val - 8)) _ _ (by omega) (by omega),
      ← EReal.coe_mul]
    rfl
  · refine (out2 _ _ _ _ (Or.inl (by show e.val < 8; omega))).trans ?_
    refine (in2 _ _ _ _ ⟨e.val, by omega⟩ j (by show e.val = 0 + e.val; omega)
      (by show j.val = 0 + j.val; omega)).trans ?_
    rw [pay343, w8 H, w9 H, notFirst, ← EReal.coe_mul, ← EReal.coe_mul]
    refine congrArg _ ?_
    by_cases h0 : t.val = 0
    · rw [if_pos h0, mul_zero, pre_lo _ _ (by omega)]
    · rw [if_neg h0, mul_one, pre_of (n' := 8 * (16 * t.val - 1) + e.val) _ _ (by omega) (by omega)]
      rfl

theorem extU_at (e : Fin 136) (j : Fin 1024) :
    View.canon (extU m c t) (ix2 e j) = (pre 0 R.u (128 * t.val + e) j : EReal) := by
  have ht := tile_lt t
  unfold extU
  by_cases he : 128 ≤ e.val
  · refine (in2 _ _ _ _ ⟨e.val - 128, by omega⟩ j (by show e.val = 128 + (e.val - 128); omega)
      (by show j.val = 0 + j.val; omega)).trans ?_
    rw [pay349, w15 H, w10 H, notLast, ← EReal.coe_mul, ← EReal.coe_mul]
    refine congrArg _ ?_
    by_cases h0 : t.val = 63
    · rw [if_pos h0, mul_zero, pre_hi _ _ (by omega)]
    · rw [if_neg h0, mul_one, pre_of (n' := 8 * min (16 * (t.val + 1)) 1023 + (e.val - 128)) _ _ (by omega) (by omega)]
      rfl
  · refine (out2 _ _ _ _ (Or.inl (by show e.val < 128; omega))).trans ?_
    refine (in2 _ _ _ _ ⟨e.val, by omega⟩ j (by show e.val = 0 + e.val; omega)
      (by show j.val = 0 + j.val; omega)).trans ?_
    rw [pay348, w2 H, w13 H 1 (by decide), ← EReal.coe_mul, pre_of (n' := 128 * t.val + e.val) _ _ (by omega) (by omega)]
    rfl

/-- The gradient at the layer norm's output, tile by tile. -/
theorem dNorm_at (i : Fin 128) (j : Fin 1024) : dNorm m c t (ix2 i j) = (R.dn (128 * t.val + i) j : EReal) := by
  unfold dNorm
  refine pay48 (A := fun i => R.a1 (128 * t.val + i)) (G := R.lg) (B := R.lb)
    (D := fun i j => R.O 0 (128 * t.val + i) j) ?_ ?_ ?_ ?_ i j
  · intro i j; rw [w11 H]
  · intro i j; rw [pay42, w13 H 0 (by decide)]
  · intro j; rw [w18 H]
  · intro j; rw [w19 H]

theorem dConv_at (i : Fin 128) (j : Fin 1024) : dConv m c t (ix2 i j) = (R.dc (128 * t.val + i) j : EReal) := by
  unfold dConv
  refine pay49 (A := fun i => R.a1 (128 * t.val + i)) (G := R.lg) (B := R.lb)
    (D := fun i j => R.O 0 (128 * t.val + i) j) ?_ ?_ ?_ ?_ i j
  · intro i j; rw [w11 H]
  · intro i j; rw [pay42, w13 H 0 (by decide)]
  · intro j; rw [w18 H]
  · intro j; rw [w19 H]

theorem dConvNext_at (i : Fin 32) (j : Fin 1024) :
    dConvNext m c t (ix2 i j) = (pre 0 R.dc (128 * t.val + 128 + i) j : EReal) := by
  have ht := tile_lt t
  unfold dConvNext
  refine Eq.trans (pay60 (A := fun i => R.a1 (32 * min (4 * (t.val + 1)) 255 + i)) (G := R.lg) (B := R.lb)
    (D := fun i j => R.O 0 (32 * min (4 * (t.val + 1)) 255 + i) j) (Z := if t.val = 63 then (0 : ℝ) else 1)
    ?_ ?_ ?_ ?_ ?_ i j) (congrArg _ ?_)
  · intro i j; rw [w12 H]
  · intro i j; rw [w14 H]
  · intro j; rw [w18 H]
  · intro j; rw [w19 H]
  · exact notLast t
  · by_cases h0 : t.val = 63
    · rw [if_pos h0, mul_zero, pre_hi _ _ (by omega)]
    · rw [if_neg h0, mul_one, pre_of (n' := 32 * min (4 * (t.val + 1)) 255 + i.val) _ _ (by omega) (by omega)]
      rfl

theorem extD_at (e : Fin 160) (j : Fin 1024) :
    View.canon (extD m c t) (ix2 e j) = (pre 0 R.dc (128 * t.val + e) j : EReal) := by
  have ht := tile_lt t
  unfold extD
  by_cases he : 128 ≤ e.val
  · refine (in2 _ _ _ _ ⟨e.val - 128, by omega⟩ j (by show e.val = 128 + (e.val - 128); omega)
      (by show j.val = 0 + j.val; omega)).trans ?_
    rw [dConvNext_at H]
    exact congrArg _ (pre_shift _ _ (by show 128 * t.val + 128 + (e.val - 128) + 0 = _; omega))
  · refine (out2 _ _ _ _ (Or.inl (by show e.val < 128; omega))).trans ?_
    refine (in2 _ _ _ _ ⟨e.val, by omega⟩ j (by show e.val = 0 + e.val; omega)
      (by show j.val = 0 + j.val; omega)).trans ?_
    rw [pay53, dConv_at H, pre_of (n' := 128 * t.val + e.val) _ _ (by omega) (by omega)]

/-! ## The rows read from them -/

omit H in
theorem addAxis (e : Vec Ideal S152x1024 .f32) (x : Fin 152) (j : Fin 1024) :
    shapeCast S1x152x1024 e shapeCasts_S152x1024_S1x152x1024 (ix3 0 x j) = e (ix2 x j) := by pointwise

omit H in
theorem dropAxis (e : Vec Ideal S1x32x1024 .f32) (x : Fin 32) (j : Fin 1024) :
    shapeCast S32x1024 e shapeCasts_S1x32x1024_S32x1024 (ix2 x j) = e (ix3 0 x j) := by pointwise

omit H in
theorem shifts_at (M : Memref sig .tc .vmem S160x1024 .f32) (L : List (View.Piece (Elt Ideal) S160x1024 .f32))
    (n : ℕ) (hn : n ≤ 7) (r : Fin 7) (hr : r.val < n) (x : Fin 152) (j : Fin 1024) :
    View.canon (shifts M L n) (ix3 r x j) = View.canon L (ix2 ⟨r.val + 1 + x.val, by omega⟩ j) := by
  induction n with
  | zero => exact absurd hr (by omega)
  | succ n ih =>
    by_cases h : r.val = n
    · refine (in3 _ _ _ _ (0 : Fin 1) x j (by show r.val = n % 7 + 0; omega) (by show x.val = 0 + x.val; omega)
        (by show j.val = 0 + j.val; omega)).trans ((addAxis _ _ _).trans ((load2 _ _ _ _ _ (by omega) (by omega)).trans ?_))
      refine congrArg _ (congrArg₂ _ (Fin.ext ?_) (Fin.ext (Nat.zero_add _)))
      show n % 7 + 1 + x.val = r.val + 1 + x.val
      omega
    · refine (out3 _ _ _ _ ?_).trans (ih (by omega) (by omega))
      show r.val < n % 7 ∨ n % 7 + 1 ≤ r.val
      omega

omit H in
/-- However they are read, the rows are those of the extended tile. -/
theorem rowsAt_at (M : Memref sig .tc .vmem S160x1024 .f32) (Ms : Memref sig .tc .vmem S7x152x1024 .f32)
    (L : List (View.Piece (Elt Ideal) S160x1024 .f32)) (o : ℕ) (ho : o ≤ 128) (i : Fin 32) (j : Fin 1024) :
    rowsAt M Ms L o ho (ix2 i j) = View.canon L (ix2 ⟨o + i.val, by omega⟩ j) := by
  unfold rowsAt
  split
  · refine (load2 _ _ _ _ _ (by omega) (by omega)).trans ?_
    exact congrArg _ (congrArg₂ _ rfl (Fin.ext (Nat.zero_add _)))
  · refine (dropAxis _ _ _).trans ((load3 _ _ _ _ _ _ (by omega) (by show 8 * (o / 8) + i.val < _; omega) (by omega)).trans ?_)
    refine (shifts_at M L 7 le_rfl _ (by show o % 8 - 1 + 0 < 7; omega) _ _).trans ?_
    refine congrArg _ (congrArg₂ _ (Fin.ext ?_) (Fin.ext (Nat.zero_add _)))
    show o % 8 - 1 + 0 + 1 + (8 * (o / 8) + i.val) = o + i.val
    omega

theorem rowsA_at (q : ℕ) (hq : q < 4) (k : ℕ) (hk : k < 31) (i : Fin 32) (j : Fin 1024) :
    rowsA m c t q k (ix2 i j) = (pre 30 R.a (128 * t.val + 32 * q + i + k) j : EReal) := by
  refine (rowsAt_at _ _ _ _ _ _ _).trans ((extA_at H _ _).trans (congrArg _ (pre_shift _ _ ?_)))
  show 128 * t.val + (k % 31 + 2 + 32 * (q % 4) + i.val) + 30 = _
  omega

theorem rowsD_at (q : ℕ) (hq : q < 4) (k : ℕ) (hk : k < 31) (i : Fin 32) (j : Fin 1024) :
    rowsD m c t q k (ix2 i j) = (pre 0 R.dc (128 * t.val + 32 * q + i + k) j : EReal) := by
  refine (rowsAt_at _ _ _ _ _ _ _).trans ((extD_at H _ _).trans (congrArg _ (pre_shift _ _ ?_)))
  show 128 * t.val + (k % 31 + 32 * (q % 4) + i.val) + 0 = _
  omega

theorem rowsX_at (o : ℕ) (h : o ≤ 8) (i : Fin 128) (j : Fin 1024) :
    rowsX m c t o h (ix2 i j) = (pre 8 R.x (128 * t.val + (o + i)) j : EReal) :=
  (load2 _ _ _ _ _ (by omega) (by omega)).trans
    ((congrArg _ (congrArg₂ _ rfl (Fin.ext (Nat.zero_add _)))).trans (extX_at H ⟨o + i.val, by omega⟩ j))

theorem rowsU_at (o : ℕ) (h : o ≤ 8) (i : Fin 128) (j : Fin 1024) :
    rowsU m c t o h (ix2 i j) = (pre 0 R.u (128 * t.val + (o + i)) j : EReal) :=
  (load2 _ _ _ _ _ (by omega) (by omega)).trans
    ((congrArg _ (congrArg₂ _ rfl (Fin.ext (Nat.zero_add _)))).trans (extU_at H ⟨o + i.val, by omega⟩ j))

end Cert.Branch
-- ==== Proof.Branch.Args.lean ====
module

public import proofs.«01_k».proof.Proof.Branch.Spec
public import Idealize.ShloMosaic.Lib.Pointwise
public import Idealize.ShloMosaic.Lib.Claim

/-! Arrays of extended reals that hold the reals `R`. -/

@[expose] public section

noncomputable section

namespace Cert.Branch

open Idealize.ShloMosaic

/-- The eight arguments that the gradients depend on hold the reals `R`. -/
structure Holds (R : Args) (p : FVec Ideal ⟨2, ![8192, 12288]⟩ .f32) (kv : FVec Ideal ⟨2, ![256, 2048]⟩ .f32)
    (wa : FVec Ideal ⟨2, ![31, 1024]⟩ .f32) (ba lg lb : FVec Ideal ⟨1, ![1024]⟩ .f32)
    (wb : FVec Ideal ⟨2, ![3, 1024]⟩ .f32) (o : FVec Ideal ⟨3, ![3, 8192, 1024]⟩ .f32) : Prop where
  p : ∀ (n : Fin 8192) (k : Fin 12288), p (ix2 n k) = (R.P n k : EReal)
  kv : ∀ (l : Fin 256) (k : Fin 2048), kv (ix2 l k) = (R.KV l k : EReal)
  wa : ∀ (k : Fin 31) (j : Fin 1024), wa (ix2 k j) = (R.wa k j : EReal)
  ba : ∀ j : Fin 1024, ba (ix1 j) = (R.ba j : EReal)
  lg : ∀ j : Fin 1024, lg (ix1 j) = (R.lg j : EReal)
  lb : ∀ j : Fin 1024, lb (ix1 j) = (R.lb j : EReal)
  wb : ∀ (k : Fin 3) (j : Fin 1024), wb (ix2 k j) = (R.wb k j : EReal)
  o : ∀ (l : Fin 3) (n : Fin 8192) (j : Fin 1024), o (ix3 l n j) = (R.O l n j : EReal)

/-- The arguments as functions of whole numbers. -/
def argsOf (p : (⟨2, ![8192, 12288]⟩ : Shape).Idx → ℝ) (kv : (⟨2, ![256, 2048]⟩ : Shape).Idx → ℝ)
    (wa : (⟨2, ![31, 1024]⟩ : Shape).Idx → ℝ) (ba lg lb : (⟨1, ![1024]⟩ : Shape).Idx → ℝ)
    (wb : (⟨2, ![3, 1024]⟩ : Shape).Idx → ℝ) (o : (⟨3, ![3, 8192, 1024]⟩ : Shape).Idx → ℝ) : Args where
  P n k := p (ix2 ⟨n % 8192, Nat.mod_lt _ (by decide)⟩ ⟨k % 12288, Nat.mod_lt _ (by decide)⟩)
  KV l k := kv (ix2 l ⟨k % 2048, Nat.mod_lt _ (by decide)⟩)
  wa k j := wa (ix2 ⟨k % 31, Nat.mod_lt _ (by decide)⟩ j)
  ba j := ba (ix1 j)
  lg j := lg (ix1 j)
  lb j := lb (ix1 j)
  wb k j := wb (ix2 ⟨k % 3, Nat.mod_lt _ (by decide)⟩ j)
  O l n k := o (ix3 ⟨l % 3, Nat.mod_lt _ (by decide)⟩ ⟨n % 8192, Nat.mod_lt _ (by decide)⟩
    ⟨k % 1024, Nat.mod_lt _ (by decide)⟩)

theorem mod_fin {N : ℕ} (n : Fin N) (h : n.val % N < N) : (⟨n.val % N, h⟩ : Fin N) = n :=
  Fin.ext (Nat.mod_eq_of_lt n.isLt)

theorem holds_argsOf (p : (⟨2, ![8192, 12288]⟩ : Shape).Idx → ℝ) (kv : (⟨2, ![256, 2048]⟩ : Shape).Idx → ℝ)
    (wa : (⟨2, ![31, 1024]⟩ : Shape).Idx → ℝ) (ba lg lb : (⟨1, ![1024]⟩ : Shape).Idx → ℝ)
    (wb : (⟨2, ![3, 1024]⟩ : Shape).Idx → ℝ) (o : (⟨3, ![3, 8192, 1024]⟩ : Shape).Idx → ℝ) :
    Holds (argsOf p kv wa ba lg lb wb o) (fun i => (p i : EReal)) (fun i => (kv i : EReal)) (fun i => (wa i : EReal))
      (fun i => (ba i : EReal)) (fun i => (lg i : EReal)) (fun i => (lb i : EReal)) (fun i => (wb i : EReal))
      (fun i => (o i : EReal)) where
  p n k := by simp only [argsOf, mod_fin]
  kv l k := by simp only [argsOf, mod_fin]
  wa k j := by simp only [argsOf, mod_fin]
  ba j := rfl
  lg j := rfl
  lb j := rfl
  wb k j := by simp only [argsOf, mod_fin]
  o l n j := by simp only [argsOf, mod_fin]

end Cert.Branch
end
-- ==== Proof.Common.Rows.lean ====
module

public import proofs.«01_k».proof.Proof.Common.Finite
public import Idealize.ShloMosaic.Lib.ValueIdxCore
public import Idealize.ShloMosaic.Lib.Pointwise

/-! Rows taken from an array by a table of row numbers, and rows added into one by such a table. -/

@[expose] public section

noncomputable section

namespace Cert.Common

open Idealize.ShloMosaic

/-- The row number `n + k`, as the host wraps it when it is negative. -/
theorem row_word (n k : ℕ) (x : BitVec 32) (h : n + k < 100000) :
    (Scalar.select (IntOp.cmpi CmpIPredicate.slt (IntOp.addi (BitVec.ofNat 32 n) (BitVec.ofNat 32 k)) 0#32) x
      (IntOp.addi (BitVec.ofNat 32 n) (BitVec.ofNat 32 k))).toInt = ((n + k : ℕ) : ℤ) := by
  have e : IntOp.addi (BitVec.ofNat 32 n) (BitVec.ofNat 32 k) = BitVec.ofNat 32 (n + k) := (BitVec.ofNat_add n k).symm
  have t : (BitVec.ofNat 32 (n + k)).toInt = ((n + k : ℕ) : ℤ) := by
    have u : (BitVec.ofNat 32 (n + k)).toNat = n + k := by
      rw [BitVec.toNat_ofNat]
      exact Nat.mod_eq_of_lt (by omega)
    rw [BitVec.toInt_eq_toNat_cond, u, if_pos (by omega)]
  have b : (BitVec.ofNat 32 (n + k)).slt 0#32 = false := by
    rw [BitVec.slt_eq_decide, t]
    simp
    omega
  rw [e]
  have s : Scalar.select (IntOp.cmpi CmpIPredicate.slt (BitVec.ofNat 32 (n + k)) 0#32) x (BitVec.ofNat 32 (n + k))
      = BitVec.ofNat 32 (n + k) := by
    simp [Scalar.select, IntOp.cmpi, b]
  rw [s, t]

variable {N A B C : ℕ}

/-- The dimension numbers of taking whole rows of an `N × C` array by a table of `A × B` row numbers. -/
abbrev rowsOf (N A B C : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Element `(k, n, j)` of the rows taken, where the table's row number is `r`. -/
theorem rowsOf_apply {α : Type} {w : ℕ}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (k : Fin A) (n : Fin B) (j : Fin C)
    (r : Fin N) (h : (idx (ix3 k n 0)).toInt = (r.val : ℤ)) :
    Host.gather (rowsOf N A B C wf) x idx (ix3 k n j) = x (ix2 r j) := by
  unfold Host.gather
  congr 1
  have hsi : ∀ p, (rowsOf N A B C wf).siIdx (ix3 k n j) p = ix3 k n 0 := fun p => by
    funext b; refine Fin.ext ?_
    match b with
    | ⟨0, _⟩ => rfl
    | ⟨1, _⟩ => rfl
    | ⟨2, _⟩ => exact Nat.lt_one_iff.1 p.isLt
  funext a
  refine Fin.ext ?_
  show (rowsOf N A B C wf).start (ix3 k n j) idx a + (rowsOf N A B C wf).batchCoord (ix3 k n j) a
    + (rowsOf N A B C wf).offCoord (ix3 k n j) a = _
  rw [GatherDims.batchCoord_eq_zero _ _ _ List.not_mem_nil, Nat.add_zero]
  match a with
  | ⟨0, h0'⟩ =>
    rw [GatherDims.offCoord_eq_zero _ _ _ (fun h => ((GatherDims.mem_sKept _ _).mp h).1 (List.mem_singleton.mpr rfl))]
    unfold GatherDims.start
    rw [dif_pos (show (⟨0, h0'⟩ : Fin 2) ∈ (rowsOf N A B C wf).startIndexMap from List.mem_singleton.mpr rfl),
      hsi, h]
    have := r.isLt
    show min ((r.val : ℤ).toNat) (N - 1) + 0 = r.val
    rw [Int.toNat_natCast]
    omega
  | ⟨1, h1'⟩ =>
    have hs : (rowsOf N A B C wf).start (ix3 k n j) idx ⟨1, h1'⟩ = 0 := by
      unfold GatherDims.start
      exact dif_neg (show ¬(⟨1, h1'⟩ : Fin 2) ∈ ([0] : List (Fin 2)) by simp)
    rw [hs, Nat.zero_add]
    rfl

/-- The dimension numbers of adding whole rows into an `N × C` array by a table of `A × B` row numbers. -/
abbrev rowsInto (N A B C : ℕ)
    (wf : ScatterDims.WF ⟨2, ![N, C]⟩ ⟨3, ![A, B, 1]⟩ ⟨3, ![A, B, C]⟩ [2] [0] [0] 2) :
    ScatterDims ⟨2, ![N, C]⟩ ⟨3, ![A, B, 1]⟩ ⟨3, ![A, B, C]⟩ where
  updateWindowDims := [2]
  insertedWindowDims := [0]
  scatterDimsToOperandDims := [0]
  indexVectorDim := 2
  wf := wf

/-- Where row `n` of piece `k` is added when the table sends it to row `n + k`. -/
theorem rowsInto_idx {w : ℕ} (hN : B + A ≤ N + 1)
    (wf : ScatterDims.WF ⟨2, ![N, C]⟩ ⟨3, ![A, B, 1]⟩ ⟨3, ![A, B, C]⟩ [2] [0] [0] 2)
    (idx : IVec ⟨3, ![A, B, 1]⟩ w) (k : Fin A) (n : Fin B) (j : Fin C)
    (h : (idx (ix3 k n 0)).toInt = ((n.val + k.val : ℕ) : ℤ)) :
    (rowsInto N A B C wf).resultIdx? (ix3 k n j) idx = some (ix2 ⟨n.val + k.val, by omega⟩ j) := by
  have hsi : ∀ p, (rowsInto N A B C wf).siIdx (ix3 k n j) p = ix3 k n 0 := fun p => by
    funext b; refine Fin.ext ?_
    match b with
    | ⟨0, _⟩ => rfl
    | ⟨1, _⟩ => rfl
    | ⟨2, _⟩ => exact Nat.lt_one_iff.1 p.isLt
  have e : ∀ a : Fin 2, (rowsInto N A B C wf).start (ix3 k n j) idx a + (rowsInto N A B C wf).window (ix3 k n j) a
      = (((ix2 (⟨n.val + k.val, by omega⟩ : Fin N) j : (⟨2, ![N, C]⟩ : Shape).Idx) a).val : ℤ) := fun a => by
    match a with
    | ⟨0, h0'⟩ =>
      have h0 : (rowsInto N A B C wf).window (ix3 k n j) ⟨0, h0'⟩ = 0 := by
        unfold ScatterDims.window
        exact dif_neg (show ¬(⟨0, h0'⟩ : Fin 2) ∈ (⟨2, ![N, C]⟩ : Shape).kept [0] by
          simp [Shape.kept])
      rw [h0]
      unfold ScatterDims.start
      rw [dif_pos (show (⟨0, h0'⟩ : Fin 2) ∈ (rowsInto N A B C wf).scatterDimsToOperandDims from
        List.mem_singleton.mpr rfl), hsi, h]
      rfl
    | ⟨1, h1'⟩ =>
      have hs : (rowsInto N A B C wf).start (ix3 k n j) idx ⟨1, h1'⟩ = 0 := by
        unfold ScatterDims.start
        exact dif_neg (show ¬(⟨1, h1'⟩ : Fin 2) ∈ ([0] : List (Fin 2)) by simp)
      rw [hs, zero_add]
      rfl
  unfold ScatterDims.resultIdx?
  rw [dif_pos (fun a => by
    rw [e a]
    exact ⟨Int.natCast_nonneg _, by exact_mod_cast Fin.isLt _⟩)]
  refine congrArg some (funext fun a => Fin.ext ?_)
  show (((rowsInto N A B C wf).start (ix3 k n j) idx a + (rowsInto N A B C wf).window (ix3 k n j) a).toNat) = _
  rw [e a]
  exact Int.toNat_natCast _

/-- Row `r` of the array that row `n` of piece `k` is added into at row `n + k`. -/
theorem rowsInto_apply {w : ℕ} (hN : B + A ≤ N + 1) (hB : 0 < B)
    (wf : ScatterDims.WF ⟨2, ![N, C]⟩ ⟨3, ![A, B, 1]⟩ ⟨3, ![A, B, C]⟩ [2] [0] [0] 2)
    (x : FVec Ideal ⟨2, ![N, C]⟩ .f32) (idx : IVec ⟨3, ![A, B, 1]⟩ w) (u : FVec Ideal ⟨3, ![A, B, C]⟩ .f32)
    (h : ∀ (k : Fin A) (n : Fin B), (idx (ix3 k n 0)).toInt = ((n.val + k.val : ℕ) : ℤ)) (r : Fin N) (j : Fin C) :
    Host.scatterAdd (F := Ideal) (φ := .f32) (rowsInto N A B C wf) x idx u (ix2 r j)
      = (x (ix2 r j) : EReal) + ∑ k : Fin A, if k.val ≤ r.val ∧ r.val - k.val < B then
          (u (ix3 k ⟨(r.val - k.val) % B, Nat.mod_lt _ hB⟩ j) : EReal) else 0 := by
  show (x (ix2 r j) : EReal) + _ = _
  congr 1
  rw [← Finset.sum_filter]
  have hy : ∀ y : (⟨3, ![A, B, C]⟩ : Shape).Idx, ∃ (k : Fin A) (n : Fin B) (l : Fin C), y = ix3 k n l := fun y =>
    ⟨y 0, y 1, y 2, funext fun a => by match a with | ⟨0, _⟩ => rfl | ⟨1, _⟩ => rfl | ⟨2, _⟩ => rfl⟩
  have hr : ∀ (k : Fin A) (n : Fin B) (l : Fin C), (rowsInto N A B C wf).resultIdx? (ix3 k n l) idx = some (ix2 r j)
      → n.val + k.val = r.val ∧ l = j := fun k n l e => by
    rw [rowsInto_idx hN wf idx _ _ _ (h _ _)] at e
    have e := Option.some.inj e
    exact ⟨congrArg (fun i : (⟨2, ![N, C]⟩ : Shape).Idx => (i 0).val) e, congrFun e 1⟩
  have hn : ∀ (k : Fin A) (n : Fin B), n.val + k.val = r.val
      → (⟨(r.val - k.val) % B, Nat.mod_lt _ hB⟩ : Fin B) = n := fun k n e => Fin.ext (by
    show (r.val - k.val) % B = n.val
    rw [Nat.mod_eq_of_lt (by omega)]
    omega)
  refine Finset.sum_nbij' (fun y => y 0) (fun k => ix3 k ⟨(r.val - k.val) % B, Nat.mod_lt _ hB⟩ j) ?_ ?_ ?_ ?_ ?_
  · intro y e
    obtain ⟨k, n, l, rfl⟩ := hy y
    obtain ⟨e, _⟩ := hr k n l (Finset.mem_filter.1 e).2
    exact Finset.mem_filter.2 ⟨Finset.mem_univ _, show k.val ≤ r.val by omega, show r.val - k.val < B by omega⟩
  · intro k e
    obtain ⟨_, e1, e2⟩ := Finset.mem_filter.1 e
    refine Finset.mem_filter.2 ⟨Finset.mem_univ _, ?_⟩
    rw [rowsInto_idx hN wf idx _ _ _ (h _ _)]
    refine congrArg some (congrArg (fun q => ix2 q j) (Fin.ext ?_))
    show (r.val - k.val) % B + k.val = r.val
    rw [Nat.mod_eq_of_lt e2]
    omega
  · intro y e
    obtain ⟨k, n, l, rfl⟩ := hy y
    obtain ⟨e0, rfl⟩ := hr k n l (Finset.mem_filter.1 e).2
    exact congrArg (fun q => ix3 k q l) (hn k n e0)
  · intro k _
    rfl
  · intro y e
    obtain ⟨k, n, l, rfl⟩ := hy y
    obtain ⟨e0, rfl⟩ := hr k n l (Finset.mem_filter.1 e).2
    exact congrArg (fun q => u (ix3 k q l)) (hn k n e0).symm

end Cert.Common
end
-- ==== Proof.Branch.Windows.lean ====
module

public import proofs.«01_k».proof.Proof.Branch.Rows
public import proofs.«01_k».proof.Proof.Branch.Args
public import proofs.«01_k».proof.Proof.Common.Rows
public import Idealize.ShloMosaic.Lib.IdealHost

/-! The call `branch_bwd`: which rows and columns of its arrays each point reads. -/

@[expose] public section

set_option maxRecDepth 16384

noncomputable section

namespace Cert.Branch

open Idealize.ShloMosaic Idealize.ShloMosaic.TcCoe Idealize.SL.Sem
open Cert.BranchBwdIdeal Cert.BranchBwdIdeal.Gen Cert.BranchRun Cert.Common

theorem idx_0 : ∀ t : Fin grid0.N, win0_0.index t = ![t.val, 0] := by decide +kernel
theorem idx_1 : ∀ t : Fin grid0.N, win0_1.index t = ![t.val, 1] := by decide +kernel
theorem idx_2 : ∀ t : Fin grid0.N, win0_2.index t = ![t.val, 2] := by decide +kernel
theorem idx_3 : ∀ t : Fin grid0.N, win0_3.index t = ![t.val, 3] := by decide +kernel
theorem idx_4 : ∀ t : Fin grid0.N, win0_4.index t = ![t.val, 4] := by decide +kernel
theorem idx_5 : ∀ t : Fin grid0.N, win0_5.index t = ![t.val, 5] := by decide +kernel
theorem idx_6 : ∀ t : Fin grid0.N, win0_6.index t = ![4 * t.val - 1, 0] := by decide +kernel
theorem idx_7 : ∀ t : Fin grid0.N, win0_7.index t = ![4 * t.val - 1, 1] := by decide +kernel
theorem idx_8 : ∀ t : Fin grid0.N, win0_8.index t = ![16 * t.val - 1, 3] := by decide +kernel
theorem idx_9 : ∀ t : Fin grid0.N, win0_9.index t = ![16 * t.val - 1, 4] := by decide +kernel
theorem idx_10 : ∀ t : Fin grid0.N, win0_10.index t = ![min (16 * (t.val + 1)) 1023, 2] := by decide +kernel
theorem idx_11 : ∀ t : Fin grid0.N, win0_11.index t = ![t.val, 0] := by decide +kernel
theorem idx_12 : ∀ t : Fin grid0.N, win0_12.index t = ![min (4 * (t.val + 1)) 255, 0] := by decide +kernel
theorem idx_13 : ∀ t : Fin grid0.N, win0_13.index t = ![0, t.val, 0] := by decide +kernel
theorem idx_14 : ∀ t : Fin grid0.N, win0_14.index t = ![0, min (4 * (t.val + 1)) 255, 0] := by decide +kernel
theorem idx_15 : ∀ t : Fin grid0.N, win0_15.index t = ![1, min (16 * (t.val + 1)) 1023, 0] := by decide +kernel
theorem idx_16 : ∀ t : Fin grid0.N, win0_16.index t = ![0, 0] := by decide +kernel
theorem idx_17 : ∀ t : Fin grid0.N, win0_17.index t = ![0, 0] := by decide +kernel
theorem idx_18 : ∀ t : Fin grid0.N, win0_18.index t = ![0, 0] := by decide +kernel
theorem idx_19 : ∀ t : Fin grid0.N, win0_19.index t = ![0, 0] := by decide +kernel
theorem idx_20 : ∀ t : Fin grid0.N, win0_20.index t = ![0, 0] := by decide +kernel
theorem idx_21 : ∀ t : Fin grid0.N, win0_21.index t = ![t.val, 0] := by decide +kernel
theorem idx_22 : ∀ t : Fin grid0.N, win0_22.index t = ![0, 0] := by decide +kernel
theorem idx_23 : ∀ t : Fin grid0.N, win0_23.index t = ![0, 0] := by decide +kernel
theorem idx_24 : ∀ t : Fin grid0.N, win0_24.index t = ![0, 0] := by decide +kernel

variable (m : (ℓ : Loc nD τ Cert.BranchBwdIdeal.sig) → Buf (Elt Ideal) ℓ) (c : Dev nD)

/-- The arguments of the program on device `c` hold the reals `R`. -/
def HoldsAt (R : Args) : Prop :=
  Holds R (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-! ## What the host lines in front of the call compute -/

theorem v32 (k : Fin 31) (j : Fin 1024) : (V m c main_v32 : FVec Ideal S32x1024 .f32) (ix2 ⟨k, by omega⟩ j)
    = (m ((c : Thread nD τ).loc main_arg2) : FVec Ideal S31x1024 .f32) (ix2 k j) := by
  dsimp only [V, V0]
  simp only [hostOps0, hostOps0_1, hostOps0_2, hostOps0_3, hostOps0_4, List.flatten_cons, List.flatten_nil,
    List.append_nil, List.cons_append, List.nil_append]
  after_results
  simp only [StableHlo.TRef.toBuf, StableHlo.TRef.ofBuf, cast_eq]
  pointwise

theorem v33 (k : Fin 3) (j : Fin 1024) : (V m c main_v33 : FVec Ideal S8x1024 .f32) (ix2 ⟨k, by omega⟩ j)
    = (m ((c : Thread nD τ).loc main_arg6) : FVec Ideal S3x1024 .f32) (ix2 k j) := by
  dsimp only [V, V0]
  simp only [hostOps0, hostOps0_1, hostOps0_2, hostOps0_3, hostOps0_4, List.flatten_cons, List.flatten_nil,
    List.append_nil, List.cons_append, List.nil_append]
  after_results
  simp only [StableHlo.TRef.toBuf, StableHlo.TRef.ofBuf, cast_eq]
  pointwise

theorem v34 (l : Fin 256) (j : Fin 2048) : (V m c main_v34 : FVec Ideal S256x2048 .bf16) (ix2 l j)
    = (m ((c : Thread nD τ).loc main_arg1) : FVec Ideal S256x2048 .f32) (ix2 l j) := by
  dsimp only [V, V0]
  simp only [hostOps0, hostOps0_1, hostOps0_2, hostOps0_3, hostOps0_4, List.flatten_cons, List.flatten_nil,
    List.append_nil, List.cons_append, List.nil_append]
  after_results
  pointwise

theorem v35 (j : Fin 1024) : (V m c main_v35 : FVec Ideal S1x1024 .f32) (ix2 0 j)
    = (m ((c : Thread nD τ).loc main_arg4) : FVec Ideal S1024 .f32) (ix1 j) := by
  dsimp only [V, V0]
  simp only [hostOps0, hostOps0_1, hostOps0_2, hostOps0_3, hostOps0_4, List.flatten_cons, List.flatten_nil,
    List.append_nil, List.cons_append, List.nil_append]
  after_results
  pointwise

theorem v36 (j : Fin 1024) : (V m c main_v36 : FVec Ideal S1x1024 .f32) (ix2 0 j)
    = (m ((c : Thread nD τ).loc main_arg5) : FVec Ideal S1024 .f32) (ix1 j) := by
  dsimp only [V, V0]
  simp only [hostOps0, hostOps0_1, hostOps0_2, hostOps0_3, hostOps0_4, List.flatten_cons, List.flatten_nil,
    List.append_nil, List.cons_append, List.nil_append]
  after_results
  pointwise

/-- The output of the gradients of the projections enters with the gradients that it is given. -/
theorem v37 : V m c main_v37_0 = m ((c : Thread nD τ).loc main_arg8) := by
  dsimp only [V, V0]
  simp only [hostOps0, hostOps0_1, hostOps0_2, hostOps0_3, hostOps0_4, List.flatten_cons, List.flatten_nil,
    List.append_nil, List.cons_append, List.nil_append]
  after_results
  try rfl

/-- The convolution's output. -/
theorem v31 (R : Args) (h : HoldsAt m c R) (n : Fin 8192) (j : Fin 1024) :
    (V m c main_v31 : FVec Ideal S8192x1024 .f32) (ix2 n j) = (R.a1 n j : EReal) := by
  dsimp only [V, V0]
  simp only [hostOps0, hostOps0_1, hostOps0_2, hostOps0_3, hostOps0_4, List.flatten_cons, List.flatten_nil,
    List.append_nil, List.cons_append, List.nil_append]
  after_results
  generalize hG : Host.gather _ _ _ = G
  have hg : ∀ k : Fin 31, G (ix3 k n j) = ((pre 30 R.a (n.val + k.val) j : ℝ) : EReal) := fun k => by
    rw [← hG]
    refine (rowsOf_apply (N := 8222) (A := 31) (B := 8192) (C := 1024) _ _ _ k n j ⟨n.val + k.val, by omega⟩ ?_).trans ?_
    · pointwise
      exact row_word _ _ _ (by omega)
    · pointwise [word_one]
      split
      · rw [pre_lo R.a j (by omega)]
        rfl
      · rename_i hk
        have e := h.p ⟨n.val + k.val - 30, by omega⟩ ⟨j.val, by omega⟩
        have e' := h.p ⟨n.val + k.val - 30, by omega⟩ ⟨1024 + j.val, by omega⟩
        dsimp only [Thread.loc] at e e'
        rw [e, e', EReal.coe_one]
        refine (congrArg _ (Ideal.logistic_coe _)).trans ?_
        rw [← EReal.coe_mul, pre_of (n' := n.val + k.val - 30) R.a j (by omega) (by omega)]
        rfl
  have hba : (m (c, Proc.tc.devRef main_arg3) : FVec Ideal S1024 .f32) (ix1 j) = (R.ba j : EReal) := h.ba j
  have hwa : ∀ k : Fin 31, (m (c, Proc.tc.devRef main_arg2) : FVec Ideal S31x1024 .f32) (ix2 k j) = (R.wa k j : EReal) :=
    fun k => h.wa k j
  clear hG
  pointwise
  simp only [hg, hba, hwa, Args.a1, ← EReal.coe_mul, coe_sum, ← EReal.coe_add]

/-- The blocks that the points read hold the rows of the arrays. -/
theorem tiles (R : Args) (h : HoldsAt m c R) (t : Fin cfg0.N) : Tile m c t R where
  b0 i j := by
    refine Eq.trans (b := (V m c main_arg0 : FVec Ideal S8192x12288 .f32) (ix2 ⟨128 * t.val + i, by have := tile_lt t; omega⟩ ⟨j, by omega⟩)) (by
      blk_point [iblk, idx_0 t]) ?_
    exact (congrFun (V_main_arg0 m c) _).trans (h.p _ _)
  b1 i j := by
    refine Eq.trans (b := (V m c main_arg0 : FVec Ideal S8192x12288 .f32) (ix2 ⟨128 * t.val + i, by have := tile_lt t; omega⟩ ⟨1024 + j, by omega⟩)) (by
      blk_point [iblk, idx_1 t]) ?_
    exact (congrFun (V_main_arg0 m c) _).trans (h.p _ _)
  b2 i j := by
    refine Eq.trans (b := (V m c main_arg0 : FVec Ideal S8192x12288 .f32) (ix2 ⟨128 * t.val + i, by have := tile_lt t; omega⟩ ⟨2048 + j, by omega⟩)) (by
      blk_point [iblk, idx_2 t]) ?_
    exact (congrFun (V_main_arg0 m c) _).trans (h.p _ _)
  b3 i j := by
    refine Eq.trans (b := (V m c main_arg0 : FVec Ideal S8192x12288 .f32) (ix2 ⟨128 * t.val + i, by have := tile_lt t; omega⟩ ⟨3072 + j, by omega⟩)) (by
      blk_point [iblk, idx_3 t]) ?_
    exact (congrFun (V_main_arg0 m c) _).trans (h.p _ _)
  b4 i j := by
    refine Eq.trans (b := (V m c main_arg0 : FVec Ideal S8192x12288 .f32) (ix2 ⟨128 * t.val + i, by have := tile_lt t; omega⟩ ⟨4096 + j, by omega⟩)) (by
      blk_point [iblk, idx_4 t]) ?_
    exact (congrFun (V_main_arg0 m c) _).trans (h.p _ _)
  b5 i j := by
    refine Eq.trans (b := (V m c main_arg0 : FVec Ideal S8192x12288 .f32) (ix2 ⟨128 * t.val + i, by have := tile_lt t; omega⟩ ⟨5120 + j, by omega⟩)) (by
      blk_point [iblk, idx_5 t]) ?_
    exact (congrFun (V_main_arg0 m c) _).trans (h.p _ _)
  b6 i j := by
    refine Eq.trans (b := (V m c main_arg0 : FVec Ideal S8192x12288 .f32) (ix2 ⟨32 * (4 * t.val - 1) + i, by have := tile_lt t; omega⟩ ⟨j, by omega⟩)) (by
      blk_point [iblk, idx_6 t]) ?_
    exact (congrFun (V_main_arg0 m c) _).trans (h.p _ _)
  b7 i j := by
    refine Eq.trans (b := (V m c main_arg0 : FVec Ideal S8192x12288 .f32) (ix2 ⟨32 * (4 * t.val - 1) + i, by have := tile_lt t; omega⟩ ⟨1024 + j, by omega⟩)) (by
      blk_point [iblk, idx_7 t]) ?_
    exact (congrFun (V_main_arg0 m c) _).trans (h.p _ _)
  b8 i j := by
    refine Eq.trans (b := (V m c main_arg0 : FVec Ideal S8192x12288 .f32) (ix2 ⟨8 * (16 * t.val - 1) + i, by have := tile_lt t; omega⟩ ⟨3072 + j, by omega⟩)) (by
      blk_point [iblk, idx_8 t]) ?_
    exact (congrFun (V_main_arg0 m c) _).trans (h.p _ _)
  b9 i j := by
    refine Eq.trans (b := (V m c main_arg0 : FVec Ideal S8192x12288 .f32) (ix2 ⟨8 * (16 * t.val - 1) + i, by have := tile_lt t; omega⟩ ⟨4096 + j, by omega⟩)) (by
      blk_point [iblk, idx_9 t]) ?_
    exact (congrFun (V_main_arg0 m c) _).trans (h.p _ _)
  b10 i j := by
    refine Eq.trans (b := (V m c main_arg0 : FVec Ideal S8192x12288 .f32) (ix2 ⟨8 * min (16 * (t.val + 1)) 1023 + i, by have := tile_lt t; omega⟩ ⟨2048 + j, by omega⟩)) (by
      blk_point [iblk, idx_10 t]) ?_
    exact (congrFun (V_main_arg0 m c) _).trans (h.p _ _)
  b11 i j := by
    refine Eq.trans (b := (V m c main_v31 : FVec Ideal S8192x1024 .f32) (ix2 ⟨128 * t.val + i, by have := tile_lt t; omega⟩ j)) (by
      blk_point [iblk, idx_11 t]) ?_
    exact v31 m c R h _ j
  b12 i j := by
    refine Eq.trans (b := (V m c main_v31 : FVec Ideal S8192x1024 .f32) (ix2 ⟨32 * min (4 * (t.val + 1)) 255 + i, by have := tile_lt t; omega⟩ j)) (by
      blk_point [iblk, idx_12 t]) ?_
    exact v31 m c R h _ j
  b13 l i j := by
    refine Eq.trans (b := (V m c main_arg7 : FVec Ideal S3x8192x1024 .f32) (ix3 l ⟨128 * t.val + i, by have := tile_lt t; omega⟩ j)) (by
      blk_point [iblk, idx_13 t]) ?_
    exact (congrFun (V_main_arg7 m c) _).trans (h.o l _ j)
  b14 i j := by
    refine Eq.trans (b := (V m c main_arg7 : FVec Ideal S3x8192x1024 .f32) (ix3 0 ⟨32 * min (4 * (t.val + 1)) 255 + i, by have := tile_lt t; omega⟩ j)) (by
      blk_point [iblk, idx_14 t]) ?_
    exact (congrFun (V_main_arg7 m c) _).trans (h.o 0 _ j)
  b15 i j := by
    refine Eq.trans (b := (V m c main_arg7 : FVec Ideal S3x8192x1024 .f32) (ix3 1 ⟨8 * min (16 * (t.val + 1)) 1023 + i, by have := tile_lt t; omega⟩ j)) (by
      blk_point [iblk, idx_15 t]) ?_
    exact (congrFun (V_main_arg7 m c) _).trans (h.o 1 _ j)
  b16 l j := by
    refine Eq.trans (b := (V m c main_v34 : FVec Ideal S256x2048 .bf16) (ix2 l j)) (by blk_point [iblk, idx_16 t]) ?_
    exact (v34 m c l j).trans (h.kv l j)
  b17 k j hk := by
    refine Eq.trans (b := (V m c main_v32 : FVec Ideal S32x1024 .f32) (ix2 k j)) (by blk_point [iblk, idx_17 t]) ?_
    exact (v32 m c ⟨k, hk⟩ j).trans (h.wa ⟨k, hk⟩ j)
  b18 j := by
    refine Eq.trans (b := (V m c main_v35 : FVec Ideal S1x1024 .f32) (ix2 0 j)) (by blk_point [iblk, idx_18 t]) ?_
    exact (v35 m c j).trans (h.lg j)
  b19 j := by
    refine Eq.trans (b := (V m c main_v36 : FVec Ideal S1x1024 .f32) (ix2 0 j)) (by blk_point [iblk, idx_19 t]) ?_
    exact (v36 m c j).trans (h.lb j)
  b20 k j hk := by
    refine Eq.trans (b := (V m c main_v33 : FVec Ideal S8x1024 .f32) (ix2 k j)) (by blk_point [iblk, idx_20 t]) ?_
    exact (v33 m c ⟨k, hk⟩ j).trans (h.wb ⟨k, hk⟩ j)

end Cert.Branch
end
-- ==== Proof.Branch.Sums.lean ====
module

public import proofs.«01_k».proof.Proof.Branch.Rows

/-! The call `branch_bwd`: what one tile adds to the sums that the body keeps, and the taps that it lays out. -/

@[expose] public section

set_option maxRecDepth 16384

noncomputable section

namespace Cert.Branch

open Idealize.ShloMosaic Idealize.ShloMosaic.TcCoe Idealize.SL.Sem
open Cert.BranchBwdIdeal Cert.BranchBwdIdeal.Gen Cert.BranchRun Cert.Stores Cert.Common

variable {m : (ℓ : Loc nD τ Cert.BranchBwdIdeal.sig) → Buf (Elt Ideal) ℓ} {c : Dev nD} {t : Fin cfg0.N} {R : Args}
  (H : Tile m c t R)

/-! ## Where the stores lie -/

theorem fitsTap {k : ℕ} (hk : k < 31) : ∀ a : Fin 3, (![k, 0, 0] : Fin 3 → ℕ) a + S1x8x1024.size a ≤ S31x8x1024.size a :=
  fits3 hk le_rfl le_rfl
theorem fitsWa (n : ℕ) : ∀ a : Fin 2, (![8 * (n % 31), 0] : Fin 2 → ℕ) a + S8x1024.size a ≤ S256x1024.size a :=
  fits2 (by omega) (by decide)
theorem fitsMisc (n : ℕ) : ∀ a : Fin 2, (![n % 8, 0] : Fin 2 → ℕ) a + S1x1024.size a ≤ S8x1024.size a :=
  fits2 (by omega) (by decide)
theorem fitsK (h : ℕ) : ∀ a : Fin 2, (![0, 256 * (h % 4)] : Fin 2 → ℕ) a + S256x256.size a ≤ S256x2048.size a :=
  fits2 (by decide) (by omega)
theorem fitsV (h : ℕ) : ∀ a : Fin 2, (![0, 1024 + 256 * (h % 4)] : Fin 2 → ℕ) a + S256x256.size a ≤ S256x2048.size a :=
  fits2 (by decide) (by omega)

/-! ## The taps -/

include H in
theorem w17 (k : ℕ) (hk : k < 31) (inb) (j : Fin 1024) :
    part (ms0_17 t) (hs0_17 t) (iblk m c 17 t) ![k, 0] S1x1024.size inb (ix2 0 j) = (R.wa k j : EReal) := by
  refine (held2 _ _ _ _ _ _ (by show k + 0 < 32; omega) (by omega)).trans ((congrArg _ ?_).trans (H.b17 ⟨k, by omega⟩ j hk))
  exact congrArg₂ _ (Fin.ext rfl) (Fin.ext (Nat.zero_add _))

include H in
theorem w20 (k : ℕ) (hk : k < 3) (inb) (j : Fin 1024) :
    part (ms0_20 t) (hs0_20 t) (iblk m c 20 t) ![k, 0] S1x1024.size inb (ix2 0 j) = (R.wb k j : EReal) := by
  refine (held2 _ _ _ _ _ _ (by show k + 0 < 8; omega) (by omega)).trans ((congrArg _ ?_).trans (H.b20 ⟨k, by omega⟩ j hk))
  exact congrArg₂ _ (Fin.ext rfl) (Fin.ext (Nat.zero_add _))

include H in
theorem tapsL_at (n : ℕ) (hn : n ≤ 31) (k : Fin 31) (hk : k.val < n) (x : Fin 8) (j : Fin 1024) :
    View.canon (tapsL m c t n) (ix3 k x j) = (R.wa k j : EReal) := by
  induction n with
  | zero => exact absurd hk (by omega)
  | succ n ih =>
    by_cases h : k.val = n
    · refine (in3 _ _ _ _ (0 : Fin 1) x j (by show k.val = n % 31 + 0; omega) (by show x.val = 0 + x.val; omega)
        (by show j.val = 0 + j.val; omega)).trans ((pay2 _ _ _).trans ((w17 H _ (by omega) _ _).trans ?_))
      rw [show n % 31 = k.val by omega]
    · refine (out3 _ _ _ _ ?_).trans (ih (by omega) (by omega))
      show k.val < n % 31 ∨ n % 31 + 1 ≤ k.val
      omega

/-! ## The taps' gradients -/

/-- What 32 rows of group `q` add to lane `x` of tap `k`. -/
def dwaPart (R : Args) (t q k : ℕ) (x : Fin 8) (j : Fin 1024) : ℝ :=
  ∑ g : Fin 4, R.dwa (128 * t + 32 * q + (8 * g + x)) j k

section Dwa

variable (ini : List (View.Piece (Elt Ideal) S256x1024 .f32)) (Rd : ℕ → Reader Ideal S256x1024 .f32)

omit H in
theorem dwaL_untouched (n : ℕ) (hn : n ≤ 124) (y : S256x1024.Idx) (hy : 8 * n ≤ (y 0).val ∨ 248 ≤ (y 0).val) :
    View.canon (dwaL m c t ini Rd n) y = View.canon ini y := by
  induction n with
  | zero => rfl
  | succ n ih =>
    refine (out2 _ _ _ _ ?_).trans (ih (by omega) (by omega))
    omega

omit H in
theorem dwaL_over_untouched (f) (n : ℕ) (hn : n ≤ 124) (y : S256x1024.Idx) (hy : 248 ≤ (y 0).val) :
    (ms0_23 t).view.read (Elt Ideal) ((ms0_23 t).view.writes (Elt Ideal) f (dwaL m c t [] Rd n)) y
      = (ms0_23 t).view.read (Elt Ideal) f y := by
  induction n with
  | zero => rfl
  | succ n ih =>
    refine (over_out2 _ _ _ _ _ _ ?_).trans (ih (by omega))
    omega

omit H in
/-- Over a buffer that held something, a stored cell is what the stores say. -/
theorem dwaL_over (f) (n : ℕ) (hn : n ≤ 124) (k : Fin 31) (hk : k.val < n) (x : Fin 8) (j : Fin 1024) :
    (ms0_23 t).view.read (Elt Ideal) ((ms0_23 t).view.writes (Elt Ideal) f (dwaL m c t ini Rd n))
        (ix2 ⟨8 * k.val + x.val, by omega⟩ j)
      = View.canon (dwaL m c t ini Rd n) (ix2 ⟨8 * k.val + x.val, by omega⟩ j) := by
  induction n with
  | zero => exact absurd hk (by omega)
  | succ n ih =>
    by_cases h : k.val = n % 31
    · have h0 : 8 * k.val + x.val = 8 * (n % 31) + x.val := by omega
      refine (over_in2 _ _ _ _ _ _ x j h0 (by show j.val = 0 + j.val; omega)).trans ?_
      refine Eq.symm (in2 _ _ _ _ x j ?_ ?_)
      · exact h0
      · show j.val = 0 + j.val
        omega
    · have h0 : 8 * k.val + x.val < 8 * (n % 31) ∨ 8 * (n % 31) + 8 ≤ 8 * k.val + x.val := by omega
      have hkn : k.val < n := by
        have := k.isLt
        by_contra hc
        exact h (by omega)
      refine (over_out2 _ _ _ _ _ _ h0).trans ((ih (by omega) hkn).trans (out2 _ _ _ _ ?_).symm)
      exact h0.elim Or.inl fun h1 => Or.inr (Or.inl h1)

variable {ini Rd} {base : ℕ → Fin 8 → Fin 1024 → ℝ}
  (hfirst : ∀ (n : ℕ) (hn : n < 31) (x : Fin 8) (j : Fin 1024), Rd n (dwaL m c t ini Rd n)
    (Rect.unit (s := S256x1024) ![8 * (n % 31), 0] S8x1024.size (fitsWa n)).toLoadRect (ix2 x j)
      = (base n x j : EReal))
  (hlater : ∀ (n : ℕ), 31 ≤ n → Rd n = covered (ms0_23 t))

include H hfirst hlater in
theorem dwaL_at (n : ℕ) (hn : n ≤ 124) (k : Fin 31) (hk : k.val < n) (x : Fin 8) (j : Fin 1024) :
    View.canon (dwaL m c t ini Rd n) (ix2 ⟨8 * k.val + x.val, by omega⟩ j)
      = ((base k x j + ∑ q ∈ Finset.range 4, if 31 * q + k.val < n then dwaPart R t q k x j else 0 : ℝ) : EReal) := by
  induction n with
  | zero => exact absurd hk (by omega)
  | succ n ih =>
    by_cases h : k.val = n % 31
    · refine (in2 _ _ _ _ x j (by show 8 * k.val + x.val = 8 * (n % 31) + x.val; omega)
        (by show j.val = 0 + j.val; omega)).trans ?_
      have hq : n / 31 < 4 := by omega
      rw [pay140]
      simp only [rowsD_at H _ hq 0 (by decide), rowsA_at H _ hq (n % 31) (by omega), ← EReal.coe_mul, coe_sum]
      have hold : Rd n (dwaL m c t ini Rd n)
          (Rect.unit (s := S256x1024) ![8 * (n % 31), 0] S8x1024.size (fitsWa n)).toLoadRect (ix2 x j)
          = ((base k x j + ∑ q ∈ Finset.range 4, if 31 * q + k.val < n then dwaPart R t q k x j else 0 : ℝ) : EReal) := by
        by_cases hn31 : n < 31
        · refine (hfirst n hn31 x j).trans ?_
          have hkn : k.val = n := by omega
          rw [Finset.sum_eq_zero fun q _ => if_neg (by omega), add_zero, hkn]
        · rw [hlater n (by omega)]
          refine (load2 _ _ _ _ _ (by omega) (by omega)).trans ((congrArg _ ?_).trans (ih (by omega) (by omega)))
          exact congrArg₂ _ (Fin.ext (by show 8 * (n % 31) + x.val = 8 * k.val + x.val; omega)) (Fin.ext (Nat.zero_add _))
      refine (congrArg₂ (· + ·) hold rfl).trans ((EReal.coe_add _ _).symm.trans (congrArg _ ?_))
      have hs (q : ℕ) : (if 31 * q + k.val < n + 1 then dwaPart R t q k x j else 0)
          = (if 31 * q + k.val < n then dwaPart R t q k x j else 0)
            + if q = n / 31 then dwaPart R t q k x j else 0 := by
        by_cases hqn : q = n / 31
        · rw [if_pos (by omega), if_neg (by omega), if_pos hqn, zero_add]
        · rw [if_neg hqn, add_zero]
          exact if_congr (by omega) rfl rfl
      simp only [hs, Finset.sum_add_distrib, Finset.sum_ite_eq', Finset.mem_range, if_pos hq, ← add_assoc]
      refine congrArg _ (Finset.sum_congr rfl fun g _ => ?_)
      have ht := tile_lt t
      unfold Args.dwa
      rw [pre_of (n' := 128 * t.val + 32 * (n / 31) + (8 * g.val + x.val)) _ _ (by omega) (by omega), ← h]
      refine congrArg _ (congrArg (fun n => pre 30 R.a n j) ?_)
      omega
    · have hkn : k.val < n := by
        have := k.isLt
        by_contra hc
        exact h (by omega)
      refine (out2 _ _ _ _ ?_).trans ((ih (by omega) hkn).trans (congrArg _ ?_))
      · show 8 * k.val + x.val < 8 * (n % 31) ∨ 8 * (n % 31) + 8 ≤ 8 * k.val + x.val ∨ _
        omega
      · exact congrArg _ (Finset.sum_congr rfl fun q _ => if_congr (by omega) rfl rfl)

end Dwa

/-! ## The other weights' gradients -/

include H in
theorem miscRow_at (old : Vec Ideal S1x1024 .f32) (k : ℕ) (hk : k < 6) (j : Fin 1024) :
    miscRow m c t old k (ix2 0 j) = old (ix2 0 j) + ((∑ i : Fin 128, R.dmisc (128 * t + i) j k : ℝ) : EReal) := by
  have ht := tile_lt t
  have conv (k : ℕ) (hk : k < 3) : (k0_pay352 (part (ms0_13 t) (hs0_13 t) (iblk m c 13 t) ![1, 0, 0] S1x128x1024.size
      inb_S3x128x1024_S1x128x1024_1_0_0) (part (ms0_2 t) (hs0_2 t) (iblk m c 2 t) ![0, 0] S128x1024.size
      inb_S128x1024_S128x1024_0_0) (rowsX m c t (6 + k) (by omega)) old : FVec Ideal S1x1024 .f32) (ix2 0 j)
      = old (ix2 0 j) + ((∑ i : Fin 128, R.dmisc (128 * t + i) j (k + 3) : ℝ) : EReal) := by
    rw [pay352]
    simp only [w13 H 1 (by decide), w2 H, rowsX_at H, ← EReal.coe_mul, coe_sum]
    refine congrArg _ (congrArg _ (Finset.sum_congr rfl fun i _ => congrArg (_ * ·) (pre_shift _ _ ?_)))
    omega
  match k, hk with
  | 0, _ =>
    exact pay50 (A := fun i => R.a1 (128 * t.val + i)) (G := R.lg) (B := R.lb)
      (D := fun i j => R.O 0 (128 * t.val + i) j) (fun i j => w11 H _ i j)
      (fun i j => (pay42 _ _ _).trans (w13 H 0 (by decide) _ _ _)) (fun j => w18 H _ j) (fun j => w19 H _ j) j
  | 1, _ =>
    exact pay51 (A := fun i => R.a1 (128 * t.val + i)) (G := R.lg) (B := R.lb)
      (D := fun i j => R.O 0 (128 * t.val + i) j) (fun i j => w11 H _ i j)
      (fun i j => (pay42 _ _ _).trans (w13 H 0 (by decide) _ _ _)) (fun j => w18 H _ j) (fun j => w19 H _ j) j
  | 2, _ => exact pay52 (fun i j => dNorm_at H i j) j
  | 3, _ => exact conv 0 (by decide)
  | 4, _ => exact conv 1 (by decide)
  | 5, _ => exact conv 2 (by decide)
  | k + 6, hk => exact absurd hk (by omega)

section Misc

variable (ini : List (View.Piece (Elt Ideal) S8x1024 .f32)) (Rd : Reader Ideal S8x1024 .f32)

omit H in
theorem miscL_untouched (n : ℕ) (hn : n ≤ 6) (y : S8x1024.Idx) (hy : n ≤ (y 0).val) :
    View.canon (miscL m c t ini Rd n) y = View.canon ini y := by
  induction n with
  | zero => rfl
  | succ n ih =>
    refine (out2 _ _ _ _ ?_).trans (ih (by omega) (by omega))
    omega

omit H in
theorem miscL_over_untouched (f) (n : ℕ) (hn : n ≤ 6) (y : S8x1024.Idx) (hy : 6 ≤ (y 0).val) :
    (ms0_24 t).view.read (Elt Ideal) ((ms0_24 t).view.writes (Elt Ideal) f (miscL m c t [] Rd n)) y
      = (ms0_24 t).view.read (Elt Ideal) f y := by
  induction n with
  | zero => rfl
  | succ n ih =>
    refine (over_out2 _ _ _ _ _ _ ?_).trans (ih (by omega))
    omega

variable {ini Rd} {base : ℕ → Fin 1024 → ℝ}
  (hR : ∀ (n : ℕ) (hn : n < 6) (j : Fin 1024), Rd (miscL m c t ini Rd n)
    (Rect.unit (s := S8x1024) ![n % 8, 0] S1x1024.size (fitsMisc n)).toLoadRect (ix2 0 j)
      = (base n j : EReal))

include H hR in
theorem miscL_at (n : ℕ) (hn : n ≤ 6) (k : Fin 8) (hk : k.val < n) (j : Fin 1024) :
    View.canon (miscL m c t ini Rd n) (ix2 k j)
      = ((base k j + ∑ i : Fin 128, R.dmisc (128 * t + i) j k : ℝ) : EReal) := by
  induction n with
  | zero => exact absurd hk (by omega)
  | succ n ih =>
    by_cases h : k.val = n
    · refine (in2 _ _ _ _ (0 : Fin 1) j (by show k.val = n % 8 + 0; omega) (by show j.val = 0 + j.val; omega)).trans ?_
      refine (miscRow_at H _ n (by omega) j).trans ((congrArg₂ (· + ·) (hR n (by omega) j) rfl).trans
        ((EReal.coe_add _ _).symm.trans ?_))
      subst h
      rfl
    · refine (out2 _ _ _ _ ?_).trans (ih (by omega) (by omega))
      show k.val < n % 8 ∨ n % 8 + 1 ≤ k.val ∨ _
      omega

include H hR in
theorem miscL_over (f) (n : ℕ) (hn : n ≤ 6) (k : Fin 8) (hk : k.val < n) (j : Fin 1024) :
    (ms0_24 t).view.read (Elt Ideal) ((ms0_24 t).view.writes (Elt Ideal) f (miscL m c t ini Rd n)) (ix2 k j)
      = ((base k j + ∑ i : Fin 128, R.dmisc (128 * t + i) j k : ℝ) : EReal) := by
  induction n with
  | zero => exact absurd hk (by omega)
  | succ n ih =>
    by_cases h : k.val = n
    · refine (over_in2 _ _ _ _ _ _ (0 : Fin 1) j (by show k.val = n % 8 + 0; omega) (by show j.val = 0 + j.val; omega)).trans ?_
      refine (miscRow_at H _ n (by omega) j).trans ((congrArg₂ (· + ·) (hR n (by omega) j) rfl).trans
        ((EReal.coe_add _ _).symm.trans ?_))
      subst h
      rfl
    · refine (over_out2 _ _ _ _ _ _ ?_).trans (ih (by omega) (by omega))
      show k.val < n % 8 ∨ n % 8 + 1 ≤ k.val
      omega

end Misc

/-! ## Keys and values -/

section Heads

variable (h : ℕ) (hh : h < 4)

include H hh

theorem headQ_at (i : Fin 128) (d : Fin 256) : headQ m c t h (ix2 i d) = (R.q (128 * t.val + i) h d : EReal) := by
  refine (held2 _ _ _ _ _ _ (by omega) (by show 256 * (h % 4) + d.val < 1024; omega)).trans ((H.b5 _ _).trans (congrArg _ ?_))
  show R.P (128 * t.val + (0 + i.val)) (5120 + (256 * (h % 4) + d.val)) = R.P (128 * t.val + i.val) (5120 + 256 * h + d.val)
  congr 1 <;> omega

theorem headK_at (l d : Fin 256) : headK m c t h (ix2 l d) = (R.k h l d : EReal) := by
  refine (held2 _ _ _ _ _ _ (by omega) (by show 256 * (h % 4) + d.val < 2048; omega)).trans ((H.b16 _ _).trans (congrArg _ ?_))
  exact congrArg₂ R.KV (Fin.ext (Nat.zero_add _)) (by show 256 * (h % 4) + d.val = 256 * h + d.val; omega)

theorem headV_at (l d : Fin 256) : headV m c t h (ix2 l d) = (R.v h l d : EReal) := by
  refine (held2 _ _ _ _ _ _ (by omega) (by show 1024 + 256 * (h % 4) + d.val < 2048; omega)).trans ((H.b16 _ _).trans (congrArg _ ?_))
  exact congrArg₂ R.KV (Fin.ext (Nat.zero_add _)) (by show 1024 + 256 * (h % 4) + d.val = 1024 + 256 * h + d.val; omega)

theorem headO_at (i : Fin 128) (d : Fin 256) : headO m c t h (ix3 0 i d) = (R.o (128 * t.val + i) h d : EReal) := by
  refine (held3 _ _ _ _ _ _ _ (by decide) (by omega) (by show 256 * (h % 4) + d.val < 1024; omega)).trans ((H.b13 _ _ _).trans (congrArg _ ?_))
  show R.O 2 (128 * t.val + (0 + i.val)) (256 * (h % 4) + d.val) = R.O 2 (128 * t.val + i.val) (256 * h + d.val)
  congr 1 <;> omega

theorem headDq_at (i : Fin 128) (d : Fin 256) : headDq m c t h (ix2 i d) = (R.dq (128 * t.val + i) h d : EReal) :=
  pay371 (headQ_at H h hh) (headK_at H h hh) (headV_at H h hh) (headO_at H h hh) i d

end Heads

section Dkv

variable (ini : List (View.Piece (Elt Ideal) S256x2048 .f32)) (Rd : Reader Ideal S256x2048 .f32)

omit H in
theorem dkvL_untouched (n : ℕ) (hn : n ≤ 4) (y : S256x2048.Idx)
    (hy : (256 * n ≤ (y 1).val ∧ (y 1).val < 1024) ∨ 1024 + 256 * n ≤ (y 1).val) :
    View.canon (dkvL m c t ini Rd n) y = View.canon ini y := by
  induction n with
  | zero => rfl
  | succ n ih =>
    refine (out2 _ _ _ _ ?_).trans ((out2 _ _ _ _ ?_).trans (ih (by omega) (by omega)))
    · right; right; omega
    · right; right; omega

variable {ini Rd} {bk bv : ℕ → Fin 256 → Fin 256 → ℝ}
  (hk : ∀ (h : ℕ) (hh : h < 4) (l d : Fin 256), Rd (dkvL m c t ini Rd h)
    (Rect.unit (s := S256x2048) ![0, 256 * (h % 4)] S256x256.size (fitsK h)).toLoadRect (ix2 l d)
      = (bk h l d : EReal))
  (hv : ∀ (h : ℕ) (hh : h < 4) (w : S256x256.Idx → Elt Ideal .f32) (l d : Fin 256), Rd
    (⟨Rect.unit ![0, 256 * (h % 4)] S256x256.size (fitsK h), w⟩ :: dkvL m c t ini Rd h)
    (Rect.unit (s := S256x2048) ![0, 1024 + 256 * (h % 4)] S256x256.size (fitsV h)).toLoadRect (ix2 l d)
      = (bv h l d : EReal))

include H hk hv in
theorem dkvL_at (n : ℕ) (hn : n ≤ 4) (h : ℕ) (hh : h < n) (l d : Fin 256) :
    View.canon (dkvL m c t ini Rd n) (ix2 l ⟨256 * h + d.val, by omega⟩)
        = ((bk h l d + ∑ i : Fin 128, R.dk (128 * t + i) h l d : ℝ) : EReal)
      ∧ View.canon (dkvL m c t ini Rd n) (ix2 l ⟨1024 + 256 * h + d.val, by omega⟩)
        = ((bv h l d + ∑ i : Fin 128, R.dv (128 * t + i) h l d : ℝ) : EReal) := by
  induction n with
  | zero => exact absurd hh (by omega)
  | succ n ih =>
    by_cases e : h = n
    · subst e
      have h4 : h < 4 := by omega
      constructor
      · refine (out2 _ _ _ _ ?_).trans ((in2 _ _ _ _ l d (by show l.val = 0 + l.val; omega)
          (by show 256 * h + d.val = 256 * (h % 4) + d.val; omega)).trans ?_)
        · right; right; left
          show 256 * h + d.val < 1024 + 256 * (h % 4)
          omega
        · exact (pay372 (headQ_at H h h4) (headK_at H h h4) (headV_at H h h4) (headO_at H h h4) _ _ _).trans
            ((congrArg₂ (· + ·) (hk h h4 l d) rfl).trans (EReal.coe_add _ _).symm)
      · refine (in2 _ _ _ _ l d (by show l.val = 0 + l.val; omega)
          (by show 1024 + 256 * h + d.val = 1024 + 256 * (h % 4) + d.val; omega)).trans ?_
        exact (pay373 (headQ_at H h h4) (headK_at H h h4) (headO_at H h h4) _ _ _).trans
          ((congrArg₂ (· + ·) (hv h h4 _ l d) rfl).trans (EReal.coe_add _ _).symm)
    · obtain ⟨i1, i2⟩ := ih (by omega) (by omega)
      constructor
      · refine (out2 _ _ _ _ ?_).trans ((out2 _ _ _ _ ?_).trans i1)
        · right; right
          show 256 * h + d.val < 1024 + 256 * (n % 4) ∨ 1024 + 256 * (n % 4) + 256 ≤ 256 * h + d.val
          omega
        · right; right
          show 256 * h + d.val < 256 * (n % 4) ∨ 256 * (n % 4) + 256 ≤ 256 * h + d.val
          omega
      · refine (out2 _ _ _ _ ?_).trans ((out2 _ _ _ _ ?_).trans i2)
        · right; right
          show 1024 + 256 * h + d.val < 1024 + 256 * (n % 4) ∨ 1024 + 256 * (n % 4) + 256 ≤ 1024 + 256 * h + d.val
          omega
        · right; right
          show 1024 + 256 * h + d.val < 256 * (n % 4) ∨ 256 * (n % 4) + 256 ≤ 1024 + 256 * h + d.val
          omega

end Dkv

end Cert.Branch
-- ==== Proof.Branch.Dp.lean ====
module

public import proofs.«01_k».proof.Proof.Branch.Sums

/-! The call `branch_bwd`: the tile of the gradient of the projections. -/

@[expose] public section

set_option maxRecDepth 16384

noncomputable section

namespace Cert.Branch

open Idealize.ShloMosaic Idealize.ShloMosaic.TcCoe Idealize.SL.Sem
open Cert.BranchBwdIdeal Cert.BranchBwdIdeal.Gen Cert.BranchRun Cert.Stores Cert.Common

variable {m : (ℓ : Loc nD τ Cert.BranchBwdIdeal.sig) → Buf (Elt Ideal) ℓ} {c : Dev nD} {t : Fin cfg0.N} {R : Args}
  (H : Tile m c t R)

section Conv

variable {T : (B : LoadRect S31x8x1024) → (B.shape.Idx → Elt Ideal .f32)}
  (hT : ∀ (k : ℕ) (hk : k < 31) (x : Fin 8) (j : Fin 1024), T (Rect.unit (s := S31x8x1024) ![k, 0, 0] S1x8x1024.size
    (fitsTap hk)).toLoadRect (ix3 0 x j) = (R.wa k j : EReal))

include H hT

theorem dIn_at (q : ℕ) (hq : q < 4) (n : ℕ) (hn : n ≤ 31) (g : Fin 4) (x : Fin 8) (j : Fin 1024) :
    BranchRun.dIn m c t T q n (ix3 g x j) = ((∑ k ∈ Finset.range n, R.wa (30 - k) j
      * pre 0 R.dc (128 * t.val + 32 * q + (8 * g + x) + k) j : ℝ) : EReal) := by
  induction n with
  | zero => exact (pay79 (ix3 g x j)).trans (by rw [Finset.sum_range_zero]; rfl)
  | succ n ih =>
    refine (tapStep _ _ _ _ _ _).trans ((congrArg₂ (· + ·) (ih (by omega))
      (congrArg₂ (· * ·) (hT (30 - n) (by omega) x j) (rowsD_at H q hq n (by omega) _ j))).trans ?_)
    rw [Finset.sum_range_succ, EReal.coe_add, EReal.coe_mul]
    refine congrArg (_ + ·) (congrArg (_ * ·) (congrArg _ (congrArg (fun n => pre 0 R.dc n j) ?_)))
    show 128 * t.val + 32 * q + (g.val * 8 + x.val) + n = _
    omega

theorem dInRows_at (q : ℕ) (hq : q < 4) (i : Fin 32) (j : Fin 1024) :
    dInRows m c t T q (ix2 i j) = (R.da (128 * t.val + 32 * q + i) j : EReal) := by
  refine (asRows _ _ _).trans ((dIn_at H hT q hq 31 le_rfl _ _ _).trans (congrArg _ ?_))
  unfold Args.da
  rw [Finset.sum_range]
  refine Finset.sum_congr rfl fun k _ => congrArg (_ * ·) (congrArg (fun n => pre 0 R.dc n j) ?_)
  show 128 * t.val + 32 * q + (8 * (i.val / 8) + i.val % 8) + k.val = _
  omega

omit hT in
theorem gateRows_at (q : ℕ) (hq : q < 4) (i : Fin 32) (j : Fin 1024) :
    gateRows m c t q (ix2 i j) = (sgm (R.P (128 * t.val + 32 * q + i) (1024 + j)) : EReal) := by
  have e : gateRows m c t q (ix2 i j) = gate m c t (ix2 ⟨32 * q + i.val, by omega⟩ j) := by
    unfold gateRows
    generalize gate m c t = w
    refine congrArg w (funext fun a => Fin.ext ?_)
    fin_cases a
    · show 32 * (q % 4) + i.val = 32 * q + i.val
      omega
    · exact Nat.zero_add _
  rw [e, gate_at H]
  show _ = ((sgm (R.P (128 * t.val + 32 * q + i.val) (1024 + j)) : ℝ) : EReal)
  rw [Nat.add_assoc]

omit hT in
theorem rows0_at (q : ℕ) (hq : q < 4) (inb) (i : Fin 32) (j : Fin 1024) :
    part (ms0_0 t) (hs0_0 t) (iblk m c 0 t) ![32 * (q % 4), 0] S32x1024.size inb (ix2 i j)
      = (R.P (128 * t.val + 32 * q + i) j : EReal) := by
  refine (held2 _ _ _ _ _ _ (by omega) (by omega)).trans ((H.b0 _ _).trans (congrArg _ ?_))
  show R.P (128 * t.val + (32 * (q % 4) + i.val)) (0 + j.val) = _
  congr 1 <;> omega

theorem dpConv_at (n : ℕ) (hn : n ≤ 4) (i : Fin 128) (hi : i.val < 32 * n) (j : Fin 1024) :
    View.canon (dpConv m c t T n) (ix2 i ⟨j.val, by omega⟩)
        = ((R.da (128 * t + i) j * sgm (R.P (128 * t + i) (1024 + j)) : ℝ) : EReal)
      ∧ View.canon (dpConv m c t T n) (ix2 i ⟨1024 + j.val, by omega⟩)
        = ((R.da (128 * t + i) j * R.P (128 * t + i) j * sgm (R.P (128 * t + i) (1024 + j))
          * (1 - sgm (R.P (128 * t + i) (1024 + j))) : ℝ) : EReal) := by
  induction n with
  | zero => exact absurd hi (by omega)
  | succ n ih =>
    by_cases h : 32 * n ≤ i.val
    · have hn4 : n < 4 := by omega
      have hrow : 128 * t.val + 32 * n + (i.val - 32 * n) = 128 * t.val + i.val := by omega
      constructor
      · refine (out2 _ _ _ _ ?_).trans ((in2 _ _ _ _ (⟨i.val - 32 * n, by omega⟩ : Fin 32) j
          (by show i.val = 32 * (n % 4) + (i.val - 32 * n); omega) (by show j.val = 0 + j.val; omega)).trans ?_)
        · right; right; left
          show j.val < 1024
          omega
        · rw [pay274, dInRows_at H hT n hn4, gateRows_at H n hn4, ← EReal.coe_mul]
          dsimp only
          rw [hrow]
      · refine (in2 _ _ _ _ (⟨i.val - 32 * n, by omega⟩ : Fin 32) j
          (by show i.val = 32 * (n % 4) + (i.val - 32 * n); omega) (by show 1024 + j.val = 1024 + j.val; rfl)).trans ?_
        rw [pay275, dInRows_at H hT n hn4, gateRows_at H n hn4, rows0_at H n hn4, ← EReal.coe_sub, ← EReal.coe_mul,
          ← EReal.coe_mul, ← EReal.coe_mul]
        dsimp only
        rw [hrow]
    · obtain ⟨i1, i2⟩ := ih (by omega) (by omega)
      have h0 : i.val < 32 * (n % 4) := by omega
      exact ⟨(out2 _ _ _ _ (Or.inl h0)).trans ((out2 _ _ _ _ (Or.inl h0)).trans i1),
        (out2 _ _ _ _ (Or.inl h0)).trans ((out2 _ _ _ _ (Or.inl h0)).trans i2)⟩

end Conv

include H in
theorem short_at (i : Fin 128) (j : Fin 1024) : short m c t (ix2 i j) = (R.xc (128 * t.val + i) j : EReal) := by
  unfold short
  rw [pay355]
  simp only [rowsX_at H, w20 H 0 (by decide), w20 H 1 (by decide), w20 H 2 (by decide), ← EReal.coe_mul,
    ← EReal.coe_add]
  refine congrArg _ ?_
  unfold Args.xc
  congr 1
  · congr 1
    · exact congrArg (_ * ·) (pre_shift _ _ (by omega))
    · exact congrArg (_ * ·) (pre_shift _ _ (by omega))
  · exact congrArg (_ * ·) (pre_shift _ _ (by omega))

include H in
theorem dShort_at (i : Fin 128) (j : Fin 1024) :
    (k0_pay359 (dShort m c t) (part (ms0_20 t) (hs0_20 t) (iblk m c 20 t) ![0, 0] S1x1024.size
      inb_S8x1024_S1x1024_0_0) (rowsU m c t 2 (by decide)) : FVec Ideal S128x1024 .f32) (ix2 i j)
      = (R.dx (128 * t.val + i) j : EReal) := by
  unfold dShort
  rw [pay359]
  simp only [rowsU_at H, w20 H 0 (by decide), w20 H 1 (by decide), w20 H 2 (by decide), ← EReal.coe_mul,
    ← EReal.coe_add]
  refine congrArg _ ?_
  unfold Args.dx
  congr 1
  · congr 1
    · exact congrArg (_ * ·) (pre_shift _ _ (by omega))
    · exact congrArg (_ * ·) (pre_shift _ _ (by omega))
  · exact congrArg (_ * ·) (pre_shift _ _ (by omega))

section Heads

variable (ini : List (View.Piece (Elt Ideal) S128x6144 .bf16))

omit H in
theorem dpHeads_untouched (n : ℕ) (hn : n ≤ 4) (y : S128x6144.Idx) (hy : (y 1).val < 5120) :
    View.canon (dpHeads m c t ini n) y = View.canon ini y := by
  induction n with
  | zero => rfl
  | succ n ih =>
    refine (out2 _ _ _ _ ?_).trans (ih (by omega))
    right; right; omega

include H in
theorem dpHeads_at (n : ℕ) (hn : n ≤ 4) (h : ℕ) (hh : h < n) (i : Fin 128) (d : Fin 256) :
    View.canon (dpHeads m c t ini n) (ix2 i ⟨5120 + 256 * h + d.val, by omega⟩)
      = (R.dq (128 * t.val + i) h d : EReal) := by
  induction n with
  | zero => exact absurd hh (by omega)
  | succ n ih =>
    by_cases e : h = n
    · subst e
      exact (in2 _ _ _ _ i d (by show i.val = 0 + i.val; omega)
        (by show 5120 + 256 * h + d.val = 5120 + 256 * (h % 4) + d.val; omega)).trans (headDq_at H h (by omega) i d)
    · refine (out2 _ _ _ _ ?_).trans (ih (by omega) (by omega))
      right; right
      show 5120 + 256 * h + d.val < 5120 + 256 * (n % 4) ∨ 5120 + 256 * (n % 4) + 256 ≤ 5120 + 256 * h + d.val
      omega

end Heads

variable {T : (B : LoadRect S31x8x1024) → (B.shape.Idx → Elt Ideal .f32)}
  (hT : ∀ (k : ℕ) (hk : k < 31) (x : Fin 8) (j : Fin 1024), T (Rect.unit (s := S31x8x1024) ![k, 0, 0] S1x8x1024.size
    (fitsTap hk)).toLoadRect (ix3 0 x j) = (R.wa k j : EReal))

include H hT in
/-- The tile holds the rows of the gradient of the projections. -/
theorem dpL_at (i : Fin 128) (col : Fin 6144) :
    View.canon (dpL m c t T) (ix2 i col) = (R.dp (128 * t.val + i) col : EReal) := by
  obtain ⟨b, j, rfl⟩ : ∃ (b : Fin 6) (j : Fin 1024), col = ⟨1024 * b.val + j.val, by omega⟩ :=
    ⟨⟨col.val / 1024, by omega⟩, ⟨col.val % 1024, by omega⟩, Fin.ext (by show col.val = 1024 * (col.val / 1024) + col.val % 1024; omega)⟩
  rw [Args.dp_block]
  unfold dpL
  have hs := short_at H i j
  have hx := dShort_at H i j
  obtain ⟨c0, c1⟩ := dpConv_at H hT 4 le_rfl i (by omega) j
  fin_cases b
  · refine (dpHeads_untouched _ 4 le_rfl _ (by show 1024 * 0 + j.val < _; omega)).trans ?_
    refine (out2 _ _ _ _ (Or.inr (Or.inr (Or.inl (by show 1024 * 0 + j.val < _; omega))))).trans ?_
    refine (out2 _ _ _ _ (Or.inr (Or.inr (Or.inl (by show 1024 * 0 + j.val < _; omega))))).trans ?_
    refine (out2 _ _ _ _ (Or.inr (Or.inr (Or.inl (by show 1024 * 0 + j.val < _; omega))))).trans ?_
    exact (congrArg _ (congrArg _ (Fin.ext (by show 1024 * 0 + j.val = j.val; omega)))).trans c0
  · refine (dpHeads_untouched _ 4 le_rfl _ (by show 1024 * 1 + j.val < _; omega)).trans ?_
    refine (out2 _ _ _ _ (Or.inr (Or.inr (Or.inl (by show 1024 * 1 + j.val < _; omega))))).trans ?_
    refine (out2 _ _ _ _ (Or.inr (Or.inr (Or.inl (by show 1024 * 1 + j.val < _; omega))))).trans ?_
    refine (out2 _ _ _ _ (Or.inr (Or.inr (Or.inl (by show 1024 * 1 + j.val < _; omega))))).trans ?_
    exact (congrArg _ (congrArg _ (Fin.ext (by show 1024 * 1 + j.val = 1024 + j.val; omega)))).trans c1
  · refine (dpHeads_untouched _ 4 le_rfl _ (by show 1024 * 2 + j.val < _; omega)).trans ?_
    refine (out2 _ _ _ _ (Or.inr (Or.inr (Or.inl (by show 1024 * 2 + j.val < _; omega))))).trans ?_
    refine (out2 _ _ _ _ (Or.inr (Or.inr (Or.inl (by show 1024 * 2 + j.val < _; omega))))).trans ?_
    refine (in2 _ _ _ _ i j (by show i.val = 0 + i.val; omega) (by show 1024 * 2 + j.val = 2048 + j.val; omega)).trans ?_
    rw [pay360, w13 H 1 (by decide), hs, ← EReal.coe_mul]
    rfl
  · refine (dpHeads_untouched _ 4 le_rfl _ (by show 1024 * 3 + j.val < _; omega)).trans ?_
    refine (out2 _ _ _ _ (Or.inr (Or.inr (Or.inl (by show 1024 * 3 + j.val < _; omega))))).trans ?_
    refine (in2 _ _ _ _ i j (by show i.val = 0 + i.val; omega) (by show 1024 * 3 + j.val = 3072 + j.val; omega)).trans ?_
    rw [pay361, hx, w4 H, ← EReal.coe_mul]
    rfl
  · refine (dpHeads_untouched _ 4 le_rfl _ (by show 1024 * 4 + j.val < _; omega)).trans ?_
    refine (in2 _ _ _ _ i j (by show i.val = 0 + i.val; omega) (by show 1024 * 4 + j.val = 4096 + j.val; omega)).trans ?_
    rw [pay362, hx, w3 H, ← EReal.coe_mul]
    rfl
  · have hq := dpHeads_at (c := c) H (⟨Rect.unit ![0, 4096] S128x1024.size (fits2 (by decide) (by decide)),
      k0_pay362 (dShort m c t) (part (ms0_20 t) (hs0_20 t) (iblk m c 20 t) ![0, 0] S1x1024.size
          inb_S8x1024_S1x1024_0_0) (rowsU m c t 2 (by decide)) (part (ms0_3 t) (hs0_3 t) (iblk m c 3 t) ![0, 0]
          S128x1024.size inb_S128x1024_S128x1024_0_0)⟩ ::
     ⟨Rect.unit ![0, 3072] S128x1024.size (fits2 (by decide) (by decide)),
      k0_pay361 (dShort m c t) (part (ms0_20 t) (hs0_20 t) (iblk m c 20 t) ![0, 0] S1x1024.size
          inb_S8x1024_S1x1024_0_0) (rowsU m c t 2 (by decide)) (part (ms0_4 t) (hs0_4 t) (iblk m c 4 t) ![0, 0]
          S128x1024.size inb_S128x1024_S128x1024_0_0)⟩ ::
     ⟨Rect.unit ![0, 2048] S128x1024.size (fits2 (by decide) (by decide)),
      k0_pay360 (k0_pay346 (part (ms0_13 t) (hs0_13 t) (iblk m c 13 t) ![1, 0, 0] S1x128x1024.size
          inb_S3x128x1024_S1x128x1024_1_0_0)) (short m c t)⟩ :: dpConv m c t T 4) 4 le_rfl (j.val / 256) (by omega) i
      ⟨j.val % 256, Nat.mod_lt _ (by decide)⟩
    exact (congrArg _ (congrArg _ (Fin.ext (by show 1024 * 5 + j.val = 5120 + 256 * (j.val / 256) + j.val % 256; omega)))).trans hq

end Cert.Branch
-- ==== Proof.Branch.Points.lean ====
module

public import proofs.«01_k».proof.Proof.Branch.Dp

/-! The call `branch_bwd`: what each point leaves, when all blocks hold the rows of the arrays. -/

@[expose] public section

set_option maxRecDepth 16384

noncomputable section

namespace Cert.Branch

open Idealize.ShloMosaic Idealize.ShloMosaic.TcCoe Idealize.ShloMosaic.Tactic Idealize.SL.Sem
open Cert.BranchBwdIdeal Cert.BranchBwdIdeal.Gen Cert.BranchRun Cert.Stores Cert.Common

variable {m : (ℓ : Loc nD τ Cert.BranchBwdIdeal.sig) → Buf (Elt Ideal) ℓ} {c : Dev nD} {R : Args}
  (H : ∀ t, Tile m c t R)

/-- What lane `x` of tap `k` gets from a tile. -/
def dwaTile (R : Args) (t k : ℕ) (x : Fin 8) (j : Fin 1024) : ℝ := ∑ q ∈ Finset.range 4, dwaPart R t q k x j

/-- What the points up to `n` leave. -/
structure Sums (R : Args) (L : Left Ideal) (n : ℕ) : Prop where
  dp : ∀ (i : Fin 128) (col : Fin 6144), L.dp (ix2 i col) = (R.dp (128 * n + i) col : EReal)
  taps : ∀ (k : Fin 31) (x : Fin 8) (j : Fin 1024), L.taps (ix3 k x j) = (R.wa k j : EReal)
  dwa : ∀ (k : Fin 31) (x : Fin 8) (j : Fin 1024), L.dwa (ix2 ⟨8 * k.val + x.val, by omega⟩ j)
    = ((∑ s ∈ Finset.range (n + 1), dwaTile R s k x j : ℝ) : EReal)
  dwaRest : ∀ (i : Fin 256) (j : Fin 1024), 248 ≤ i.val → L.dwa (ix2 i j) = (0 : EReal)
  misc : ∀ (k : Fin 8) (j : Fin 1024), k.val < 6 → L.misc (ix2 k j)
    = ((∑ s ∈ Finset.range (n + 1), ∑ i : Fin 128, R.dmisc (128 * s + i) j k : ℝ) : EReal)
  miscRest : ∀ (k : Fin 8) (j : Fin 1024), 6 ≤ k.val → L.misc (ix2 k j) = (0 : EReal)
  dk : ∀ (h : ℕ) (hh : h < 4) (l d : Fin 256), L.dkv (ix2 l ⟨256 * h + d.val, by omega⟩)
    = ((∑ s ∈ Finset.range (n + 1), ∑ i : Fin 128, R.dk (128 * s + i) h l d : ℝ) : EReal)
  dv : ∀ (h : ℕ) (hh : h < 4) (l d : Fin 256), L.dkv (ix2 l ⟨1024 + 256 * h + d.val, by omega⟩)
    = ((∑ s ∈ Finset.range (n + 1), ∑ i : Fin 128, R.dv (128 * s + i) h l d : ℝ) : EReal)

theorem pay39_at (i : Fin 256) (j : Fin 2048) : k0_pay39 (F := Ideal) (ix2 i j) = (0 : EReal) := by pointwise [k0_pay39]
theorem pay40_at (i : Fin 256) (j : Fin 1024) : k0_pay40 (F := Ideal) (ix2 i j) = (0 : EReal) := by pointwise [k0_pay40]
theorem pay41_at (i : Fin 8) (j : Fin 1024) : k0_pay41 (F := Ideal) (ix2 i j) = (0 : EReal) := by pointwise [k0_pay41]

theorem zeroDkv_at (i : Fin 256) (j : Fin 2048) : View.canon (zeroDkv (F := Ideal)) (ix2 i j) = (0 : EReal) :=
  (in2 _ _ _ _ i j (Nat.zero_add _).symm (Nat.zero_add _).symm).trans (pay39_at i j)
theorem zeroDwa_at (i : Fin 256) (j : Fin 1024) : View.canon (zeroDwa (F := Ideal)) (ix2 i j) = (0 : EReal) :=
  (in2 _ _ _ _ i j (Nat.zero_add _).symm (Nat.zero_add _).symm).trans (pay40_at i j)
theorem zeroMisc_at (i : Fin 8) (j : Fin 1024) : View.canon (zeroMisc (F := Ideal)) (ix2 i j) = (0 : EReal) :=
  (in2 _ _ _ _ i j (Nat.zero_add _).symm (Nat.zero_add _).symm).trans (pay41_at i j)

theorem sum_all (f : ℕ → ℝ) (k : ℕ) (hk : k < 31) :
    (∑ q ∈ Finset.range 4, if 31 * q + k < 124 then f q else 0) = ∑ q ∈ Finset.range 4, f q :=
  Finset.sum_congr rfl fun q hq => if_pos (by have := Finset.mem_range.1 hq; omega)

section Left

variable (t : Fin cfg0.N)

theorem leftA_dp (h : t.val % 64 = 0) : (leftA m c t h).dp = View.canon (dpL m c t (tapsA m c t)) := by
  sl_kernel_rfl
theorem leftA_dkv (h : t.val % 64 = 0) :
    (leftA m c t h).dkv = View.canon (dkvL m c t zeroDkv (covered (ms0_22 t)) 4) := by
  sl_kernel_rfl
theorem leftA_dwa (h : t.val % 64 = 0) :
    (leftA m c t h).dwa = View.canon (dwaL m c t zeroDwa (fun _ => covered (ms0_23 t)) 124) := by
  sl_kernel_rfl
theorem leftA_misc (h : t.val % 64 = 0) :
    (leftA m c t h).misc = View.canon (miscL m c t zeroMisc (covered (ms0_24 t)) 6) := by
  sl_kernel_rfl
theorem leftA_taps (h : t.val % 64 = 0) : (leftA m c t h).taps = View.canon (tapsL m c t 31) := by
  sl_kernel_rfl

end Left

set_option maxHeartbeats 2000000 in
include H in
/-- The first point. -/
theorem sums_first (t : Fin cfg0.N) (h : t.val % 64 = 0) : Sums R (leftA m c t h) 0 := by
  have ht : t.val = 0 := by have := tile_lt t; omega
  have Ht := H t
  have hT (k : ℕ) (hk : k < 31) (x : Fin 8) (j : Fin 1024) : tapsA m c t (Rect.unit (s := S31x8x1024) ![k, 0, 0]
      S1x8x1024.size (fitsTap hk)).toLoadRect (ix3 0 x j) = (R.wa k j : EReal) := by
    refine (load3 _ _ _ _ _ _ (by show k + 0 < 31; omega) (by omega) (by omega)).trans ((congrArg _ ?_).trans
      (tapsL_at Ht 31 le_rfl ⟨k, hk⟩ hk x j))
    congr 1 <;> exact Fin.ext (Nat.zero_add _)
  have hdwa (k : Fin 31) (x : Fin 8) (j : Fin 1024) :=
    dwaL_at Ht (ini := zeroDwa) (Rd := fun _ => covered (ms0_23 t)) (base := fun _ _ _ => 0)
      (fun n hn x j => (load2 _ _ _ _ _ (by omega) (by omega)).trans ((dwaL_untouched _ _ n (by omega) _
        (Or.inl (by show 8 * n ≤ 8 * (n % 31) + x.val; omega))).trans (zeroDwa_at _ _)))
      (fun n _ => rfl) 124 le_rfl k (by omega) x j
  have hmisc (k : Fin 8) (hk : k.val < 6) (j : Fin 1024) :=
    miscL_at Ht (ini := zeroMisc) (Rd := covered (ms0_24 t)) (base := fun _ _ => 0)
      (fun n hn j => (load2 _ _ _ _ _ (by show n % 8 + 0 < 8; omega) (by omega)).trans ((miscL_untouched _ _ n (by omega) _
        (by show n ≤ n % 8 + 0; omega)).trans (zeroMisc_at _ _))) 6 le_rfl k hk j
  have hdkv (h : ℕ) (hh : h < 4) (l d : Fin 256) :=
    dkvL_at Ht (ini := zeroDkv) (Rd := covered (ms0_22 t)) (bk := fun _ _ _ => 0) (bv := fun _ _ _ => 0)
      (fun h hh l d => (load2 _ _ _ _ _ (by omega) (by show 256 * (h % 4) + d.val < 2048; omega)).trans
        ((dkvL_untouched _ _ h (by omega) _ (Or.inl (by
          show 256 * h ≤ 256 * (h % 4) + d.val ∧ 256 * (h % 4) + d.val < 1024; omega))).trans (zeroDkv_at _ _)))
      (fun h hh w l d => (load2 _ _ _ _ _ (by omega) (by show 1024 + 256 * (h % 4) + d.val < 2048; omega)).trans
        ((out2 _ _ _ _ (Or.inr (Or.inr (Or.inr (by show 256 * (h % 4) + 256 ≤ 1024 + 256 * (h % 4) + d.val; omega))))).trans
          ((dkvL_untouched _ _ h (by omega) _ (Or.inr (by
            show 1024 + 256 * h ≤ 1024 + 256 * (h % 4) + d.val; omega))).trans (zeroDkv_at _ _))))
      4 le_rfl h hh l d
  constructor
  · intro i col
    rw [leftA_dp, dpL_at Ht hT, ht]
  · intro k x j
    rw [leftA_taps]
    exact tapsL_at Ht 31 le_rfl k k.isLt x j
  · intro k x j
    rw [leftA_dwa]
    refine (hdwa k x j).trans (congrArg _ ?_)
    rw [zero_add, Finset.sum_range_one, ht]
    exact sum_all _ _ k.isLt
  · intro i j hi
    rw [leftA_dwa]
    exact (dwaL_untouched _ _ 124 le_rfl _ (Or.inr hi)).trans (zeroDwa_at _ _)
  · intro k j hk
    rw [leftA_misc, hmisc k hk j, Finset.sum_range_one, zero_add, ht]
  · intro k j hk
    rw [leftA_misc]
    exact (miscL_untouched _ _ 6 le_rfl _ hk).trans (zeroMisc_at _ _)
  · intro h' hh l d
    rw [leftA_dkv, (hdkv h' hh l d).1, Finset.sum_range_one, zero_add, ht]
  · intro h' hh l d
    rw [leftA_dkv, (hdkv h' hh l d).2, Finset.sum_range_one, zero_add, ht]

/-- What two points' sums are together. -/
theorem sum_succ (f : ℕ → ℝ) (n : ℕ) : ∑ s ∈ Finset.range (n + 1 + 1), f s = (∑ s ∈ Finset.range (n + 1), f s) + f (n + 1) :=
  Finset.sum_range_succ _ _

set_option maxHeartbeats 2000000 in
include H in
/-- A later point. -/
theorem sums_later (t : Fin cfg0.N) (h : ¬t.val % 64 = 0) (p : Left Ideal) (n : ℕ) (hn : t.val = n + 1)
    (hp : Sums R p n) : Sums R (leftB m c t h p) (n + 1) := by
  have Ht := H t
  have hT (k : ℕ) (hk : k < 31) (x : Fin 8) (j : Fin 1024) : tapsB p (Rect.unit (s := S31x8x1024) ![k, 0, 0]
      S1x8x1024.size (fitsTap hk)).toLoadRect (ix3 0 x j) = (R.wa k j : EReal) := by
    refine (held3 _ _ _ _ _ _ _ (by show k + 0 < 31; omega) (by omega) (by omega)).trans ((congrArg _ ?_).trans
      (hp.taps ⟨k, hk⟩ x j))
    congr 1 <;> exact Fin.ext (Nat.zero_add _)
  have hdwa (k : Fin 31) (x : Fin 8) (j : Fin 1024) :=
    dwaL_at Ht (ini := []) (Rd := readB t p) (base := fun k x j => ∑ s ∈ Finset.range (n + 1), dwaTile R s k x j)
      (fun n hn x j => by
        refine Eq.trans (congrFun (if_pos hn) _) ((held2 _ _ _ _ _ _ (by omega) (by omega)).trans ((congrArg _ ?_).trans (hp.dwa ⟨n, hn⟩ x j)))
        exact congrArg₂ _ (Fin.ext (by show 8 * (n % 31) + x.val = 8 * n + x.val; omega)) (Fin.ext (Nat.zero_add _)))
      (fun n hn => by funext L B; exact if_neg (by omega)) 124 le_rfl k (by omega) x j
  have hmr (n' : ℕ) (hn' : n' < 6) (j : Fin 1024) : before (ms0_24 t) (hs0_24 t) p.misc
      (miscL m c t [] (before (ms0_24 t) (hs0_24 t) p.misc) n')
      (Rect.unit (s := S8x1024) ![n' % 8, 0] S1x1024.size (fitsMisc n')).toLoadRect (ix2 0 j)
      = ((∑ s ∈ Finset.range (n + 1), ∑ i : Fin 128, R.dmisc (128 * s + i) j n' : ℝ) : EReal) := by
    refine (held2 _ _ _ _ _ _ (by show n' % 8 + 0 < 8; omega) (by omega)).trans ((congrArg _ ?_).trans (hp.misc ⟨n', by omega⟩ j hn'))
    exact congrArg₂ _ (Fin.ext (by show n' % 8 + 0 = n'; omega)) (Fin.ext (Nat.zero_add _))
  have hmisc (k : Fin 8) (hk : k.val < 6) (j : Fin 1024) :=
    miscL_over Ht (ini := []) (Rd := before (ms0_24 t) (hs0_24 t) p.misc)
      (base := fun k j => ∑ s ∈ Finset.range (n + 1), ∑ i : Fin 128, R.dmisc (128 * s + i) j k) hmr
      ((hs0_24 t).unread p.misc) 6 le_rfl k hk j
  have hdkv (h : ℕ) (hh : h < 4) (l d : Fin 256) :=
    dkvL_at Ht (ini := []) (Rd := before (ms0_22 t) (hs0_22 t) p.dkv)
      (bk := fun h l d => ∑ s ∈ Finset.range (n + 1), ∑ i : Fin 128, R.dk (128 * s + i) h l d)
      (bv := fun h l d => ∑ s ∈ Finset.range (n + 1), ∑ i : Fin 128, R.dv (128 * s + i) h l d)
      (fun h hh l d => by
        refine (held2 _ _ _ _ _ _ (by omega) (by show 256 * (h % 4) + d.val < 2048; omega)).trans ((congrArg _ ?_).trans (hp.dk h hh l d))
        exact congrArg₂ _ (Fin.ext (Nat.zero_add _)) (Fin.ext (by show 256 * (h % 4) + d.val = 256 * h + d.val; omega)))
      (fun h hh w l d => by
        refine (held2 _ _ _ _ _ _ (by omega) (by show 1024 + 256 * (h % 4) + d.val < 2048; omega)).trans ((congrArg _ ?_).trans (hp.dv h hh l d))
        exact congrArg₂ _ (Fin.ext (Nat.zero_add _)) (Fin.ext (by show 1024 + 256 * (h % 4) + d.val = 1024 + 256 * h + d.val; omega)))
      4 le_rfl h hh l d
  constructor
  · intro i col
    show View.canon (runB m c t h p).1 _ = _
    rw [runB_dp, dpL_at Ht hT, hn]
  · exact hp.taps
  · intro k x j
    show (ms0_23 t).view.read (Elt Ideal) ((ms0_23 t).view.writes (Elt Ideal) ((hs0_23 t).unread p.dwa) (runB m c t h p).2.2.1) _ = _
    rw [runB_dwa]
    refine (dwaL_over _ _ _ 124 le_rfl k (by omega) x j).trans ((hdwa k x j).trans (congrArg _ ?_))
    rw [sum_all (fun q => dwaPart R t.val q k x j) k k.isLt, Finset.sum_range_succ (fun s => dwaTile R s k x j) (n + 1), hn]
    rfl
  · intro i j hi
    show (ms0_23 t).view.read (Elt Ideal) ((ms0_23 t).view.writes (Elt Ideal) ((hs0_23 t).unread p.dwa) (runB m c t h p).2.2.1) _ = _
    rw [runB_dwa]
    refine (dwaL_over_untouched _ _ 124 le_rfl _ hi).trans ?_
    rw [(hs0_23 t).read_unread]
    exact hp.dwaRest i j hi
  · intro k j hk
    show (ms0_24 t).view.read (Elt Ideal) ((ms0_24 t).view.writes (Elt Ideal) ((hs0_24 t).unread p.misc) (runB m c t h p).2.2.2.1) _ = _
    rw [runB_misc, hmisc k hk j, sum_succ, hn]
  · intro k j hk
    show (ms0_24 t).view.read (Elt Ideal) ((ms0_24 t).view.writes (Elt Ideal) ((hs0_24 t).unread p.misc) (runB m c t h p).2.2.2.1) _ = _
    rw [runB_misc]
    refine (miscL_over_untouched _ _ 6 le_rfl _ hk).trans ?_
    rw [(hs0_24 t).read_unread]
    exact hp.miscRest k j hk
  · intro h' hh l d
    show View.canon (runB m c t h p).2.1 _ = _
    rw [runB_dkv, (hdkv h' hh l d).1, sum_succ, hn]
  · intro h' hh l d
    show View.canon (runB m c t h p).2.1 _ = _
    rw [runB_dkv, (hdkv h' hh l d).2, sum_succ, hn]

include H in
/-- Every point. -/
theorem sums_at (n : ℕ) (hn : n < cfg0.N) : Sums R (left m c n hn) n := by
  induction n with
  | zero => exact sums_first H ⟨0, hn⟩ rfl
  | succ n ih => exact sums_later H ⟨n + 1, hn⟩ (inner hn) _ n rfl (ih _)

end Cert.Branch
-- ==== Proof.Branch.Totals.lean ====
module

public import proofs.«01_k».proof.Proof.Branch.Args

/-! The results of `branch_bwd` as sums over all rows, and these sums tile by tile. -/

@[expose] public section

noncomputable section

namespace Cert.Branch

open Idealize.ShloMosaic

theorem sum_tiles (f : ℕ → ℝ) (a b : ℕ) :
    ∑ s ∈ Finset.range a, ∑ i ∈ Finset.range b, f (b * s + i) = ∑ n ∈ Finset.range (b * a), f n := by
  induction a with
  | zero => simp
  | succ a ih => rw [Finset.sum_range_succ, ih, Nat.mul_succ, Finset.sum_range_add]

/-- The sum over all rows, 64 tiles of 128. -/
theorem sum_rows (f : ℕ → ℝ) :
    ∑ s ∈ Finset.range 64, ∑ i : Fin 128, f (128 * s + i) = ∑ n : Fin 8192, f n := by
  rw [Finset.sum_congr rfl fun s _ => (Finset.sum_range fun i => f (128 * s + i)).symm, sum_tiles, Finset.sum_range]

/-- The same with each tile's rows added in four quarters, by their remainders modulo 8. -/
theorem sum_rows8 (f : ℕ → ℝ) :
    ∑ x : Fin 8, ∑ s ∈ Finset.range 64, ∑ q ∈ Finset.range 4, ∑ g : Fin 4, f (128 * s + 32 * q + (8 * g + x))
      = ∑ n : Fin 8192, f n := by
  rw [← sum_rows f, Finset.sum_comm]
  refine Finset.sum_congr rfl fun s _ => ?_
  rw [Finset.sum_comm, ← Finset.sum_range (fun i => f (128 * s + i)), show 128 = 32 * 4 from rfl, ← sum_tiles]
  refine Finset.sum_congr rfl fun q _ => ?_
  rw [Finset.sum_comm, show 32 = 8 * 4 from rfl, ← sum_tiles (fun i => f (8 * 4 * 4 * s + (8 * 4 * q + i))), ← Finset.sum_range (fun g => ∑ x : Fin 8, f (8 * 4 * 4 * s + 8 * 4 * q + (8 * g + x)))]
  refine Finset.sum_congr rfl fun g _ => ?_
  rw [Finset.sum_range]
  exact Finset.sum_congr rfl fun x _ => congrArg f (by omega)

variable (R : Args)

/-- The gradient of the projections: in the first half of the columns, the branches'; in the other, what was given. -/
def outDp (g : FVec Ideal ⟨2, ![8192, 12288]⟩ .bf16) : FVec Ideal ⟨2, ![8192, 12288]⟩ .bf16 :=
  fun i => if (i 1).val < 6144 then ((R.dp (i 0).val (i 1).val : ℝ) : EReal) else g i

/-- Column `j` of row `l` of the gradient of keys and values. -/
def dkvAt (l : Fin 256) (j : ℕ) : ℝ :=
  if j < 1024 then ∑ n : Fin 8192, R.dk n (j / 256) l ⟨j % 256, Nat.mod_lt _ (by decide)⟩
  else ∑ n : Fin 8192, R.dv n ((j - 1024) / 256) l ⟨j % 256, Nat.mod_lt _ (by decide)⟩

def outDkv : FVec Ideal ⟨2, ![256, 2048]⟩ .f32 := fun i => ((dkvAt R (i 0) (i 1).val : ℝ) : EReal)

/-- The gradient of the convolution's taps, with a row of zeros at the end. -/
def outDwa : FVec Ideal ⟨2, ![32, 1024]⟩ .f32 :=
  fun i => ((if (i 0).val < 31 then ∑ n : Fin 8192, R.dwa n (i 1) (i 0).val else 0 : ℝ) : EReal)

/-- The gradients of the other weights, with two rows of zeros at the end. -/
def outMisc : FVec Ideal ⟨2, ![8, 1024]⟩ .f32 :=
  fun i => ((if (i 0).val < 6 then ∑ n : Fin 8192, R.dmisc n (i 1) (i 0).val else 0 : ℝ) : EReal)

end Cert.Branch
end
-- ==== Proof.Branch.Final.lean ====
module

public import proofs.«01_k».proof.Proof.Branch.Windows
public import proofs.«01_k».proof.Proof.Branch.Points
public import proofs.«01_k».proof.Proof.Branch.Totals

/-! The call `branch_bwd`: what its four arrays hold after the run. -/

@[expose] public section

set_option maxRecDepth 16384

noncomputable section

namespace Cert.Branch

open Idealize.ShloMosaic Idealize.ShloMosaic.TcCoe Idealize.SL.Sem
open Idealize.ShloMosaic.Pipeline (Dat)
open Cert.BranchBwdIdeal Cert.BranchBwdIdeal.Gen Cert.BranchRun Cert.Common

variable (m : (ℓ : Loc nD τ Cert.BranchBwdIdeal.sig) → Buf (Elt Ideal) ℓ) (c : Dev nD)

theorem last_lt : 63 < cfg0.N := lt_of_lt_of_eq (by decide) N_0.symm

theorem eq_last {t : Fin cfg0.N} (h : t.val % 64 = 63) : t = ⟨63, last_lt⟩ :=
  Fin.ext (by have := tile_lt t; show t.val = 63; omega)

theorem left_last (t : Fin cfg0.N) (h : t.val % 64 = 63) : left m c t.val t.isLt = left m c 63 last_lt := by
  obtain rfl := eq_last h
  rfl

/-- What the last point leaves of the three arrays that the points add into is what they end with. -/
theorem arr_dkv : ((dats m 0 c).arrAt 22 cfg0.N : FVec Ideal S256x2048 .f32) = (left m c 63 last_lt).dkv :=
  (dats m 0 c).arrAt_eq_of_covers 22 _ (by decide +kernel) fun t hf y => by
    blk_simp
    rw [after_dkv]
    rw [left_last m c t ((flush0_22 t).mp hf)]
    generalize left m c _ _ = L
    blk_point [idx_22 t]

theorem arr_dwa : ((dats m 0 c).arrAt 23 cfg0.N : FVec Ideal S256x1024 .f32) = (left m c 63 last_lt).dwa :=
  (dats m 0 c).arrAt_eq_of_covers 23 _ (by decide +kernel) fun t hf y => by
    blk_simp
    rw [after_dwa]
    rw [left_last m c t ((flush0_23 t).mp hf)]
    generalize left m c _ _ = L
    blk_point [idx_23 t]

theorem arr_misc : ((dats m 0 c).arrAt 24 cfg0.N : FVec Ideal S8x1024 .f32) = (left m c 63 last_lt).misc :=
  (dats m 0 c).arrAt_eq_of_covers 24 _ (by decide +kernel) fun t hf y => by
    blk_simp
    rw [after_misc]
    rw [left_last m c t ((flush0_24 t).mp hf)]
    generalize left m c _ _ = L
    blk_point [idx_24 t]

variable (R : Args) (h : HoldsAt m c R)
include h

theorem sums_last : Sums R (left m c 63 last_lt) 63 := sums_at (tiles m c R h) 63 last_lt

/-- The array that holds the gradient of the projections, after the run. -/
theorem final_dp : ((dats m 0 c).arrAt 21 cfg0.N : FVec Ideal S8192x12288 .bf16)
    = outDp R (m ((c : Thread nD τ).loc main_arg8)) := by
  funext i
  refine ((dats m 0 c).arrAt_apply_of_coversWhere 21 (outDp R (m ((c : Thread nD τ).loc main_arg8)))
    (P := fun i => (i 1).val < 6144) (fun β => β (1 : Fin _) = 0) (by decide +kernel)
    (fun t hf y => ?_) (fun j => ?_) i).trans ?_
  case refine_2 =>
    have e : (cfg0.win 21).cell j 1 = (j 1).val / 6144 := rfl
    show (j 1).val < 6144 ↔ (cfg0.win 21).cell j 1 = 0
    omega
  case refine_3 =>
    by_cases hi : (i 1).val < 6144
    · exact if_pos hi
    · refine (if_neg hi).trans (Eq.trans (b := (m ((c : Thread nD τ).loc main_arg8) : FVec Ideal S8192x12288 .bf16) i) ?_ ?_)
      · exact congrFun ((A_eq m c 21).trans (v37 m c)) i
      · exact (if_neg hi).symm
  have hy : (dats m 0 c).after 21 t = (left m c t.val t.isLt).dp := after_dp m c t
  rw [hy]
  obtain ⟨r, j, rfl⟩ : ∃ (r : Fin 128) (j : Fin 6144), y = ix2 r j := ⟨y 0, y 1, by ext a; fin_cases a <;> rfl⟩
  have h0 : (((cfg0.win 21).blk t).view.emb (ix2 r j) : S8192x12288.Idx)
      = ix2 ⟨128 * t.val + r.val, by have := tile_lt t; omega⟩ ⟨j.val, by omega⟩ := by
    blk_point [idx_21 t]
  rw [h0]
  refine ((sums_at (tiles m c R h) t.val t.isLt).dp r j).trans ?_
  exact (if_pos j.isLt).symm

/-- The gradient of keys and values. -/
theorem final_dkv : ((dats m 0 c).arrAt 22 cfg0.N : FVec Ideal S256x2048 .f32) = outDkv R := by
  rw [arr_dkv]
  funext i
  obtain ⟨l, j, rfl⟩ : ∃ (l : Fin 256) (j : Fin 2048), i = ix2 l j := ⟨i 0, i 1, by ext a; fin_cases a <;> rfl⟩
  show _ = ((dkvAt R l j.val : ℝ) : EReal)
  unfold dkvAt
  have S := sums_last m c R h
  split
  · rw [← sum_rows (fun n => R.dk n (j.val / 256) l ⟨j.val % 256, _⟩)]
    refine Eq.trans (congrArg (fun q => (left m c 63 last_lt).dkv (ix2 l q)) (Fin.ext ?_))
      (S.dk (j.val / 256) (by omega) l ⟨j.val % 256, Nat.mod_lt _ (by decide)⟩)
    show j.val = 256 * (j.val / 256) + j.val % 256
    omega
  · rw [← sum_rows (fun n => R.dv n ((j.val - 1024) / 256) l ⟨j.val % 256, _⟩)]
    refine Eq.trans (congrArg (fun q => (left m c 63 last_lt).dkv (ix2 l q)) (Fin.ext ?_))
      (S.dv ((j.val - 1024) / 256) (by omega) l ⟨j.val % 256, Nat.mod_lt _ (by decide)⟩)
    show j.val = 1024 + 256 * ((j.val - 1024) / 256) + j.val % 256
    omega

/-- The gradients of the small weights. -/
theorem final_misc : ((dats m 0 c).arrAt 24 cfg0.N : FVec Ideal S8x1024 .f32) = outMisc R := by
  rw [arr_misc]
  funext i
  obtain ⟨k, j, rfl⟩ : ∃ (k : Fin 8) (j : Fin 1024), i = ix2 k j := ⟨i 0, i 1, by ext a; fin_cases a <;> rfl⟩
  have S := sums_last m c R h
  by_cases hk : k.val < 6
  · refine (S.misc k j hk).trans ?_
    rw [sum_rows (fun n => R.dmisc n j k.val)]
    exact congrArg _ (if_pos hk).symm
  · refine (S.miscRest k j (by omega)).trans ?_
    exact (congrArg (fun x : ℝ => (x : EReal)) (if_neg hk)).symm

/-- Row `k` of the gradient of the convolution's taps: the eight rows that the call leaves, added. -/
theorem final_dwa (A : FVec Ideal S256x1024 .f32) (hA : A = (dats m 0 c).arrAt 23 cfg0.N) (k : Fin 32) (j : Fin 1024) :
    ∑ x : Fin 8, (A (ix2 ⟨8 * k.val + x.val, by omega⟩ j) : EReal) = outDwa R (ix2 k j) := by
  obtain rfl := hA.trans (arr_dwa m c)
  have S := sums_last m c R h
  by_cases hk : k.val < 31
  · refine (Finset.sum_congr rfl fun x _ => S.dwa ⟨k.val, hk⟩ x j).trans ?_
    rw [coe_sum, outDwa]
    refine congrArg (fun x : ℝ => (x : EReal)) ?_
    refine Eq.trans ?_ (if_pos hk).symm
    exact sum_rows8 (fun n => R.dwa n j k.val)
  · refine (Finset.sum_congr rfl fun x _ => S.dwaRest _ j (by simp only; omega)).trans ?_
    rw [Finset.sum_const_zero]
    exact (congrArg (fun x : ℝ => (x : EReal)) (if_neg hk)).symm

end Cert.Branch
end
-- ==== Proof.Branch.Run.lean ====
module

public import proofs.«01_k».proof.Proof.Branch.Final

/-! The run of `branch_bwd` with its results. -/

@[expose] public section

set_option maxRecDepth 16384

noncomputable section

namespace Cert.Branch

open Idealize.ShloMosaic Idealize.ShloMosaic.TcCoe Idealize.SL.Sem
open Cert.BranchBwdIdeal Cert.BranchBwdIdeal.Gen Cert.BranchRun Cert.Common

set_option maxHeartbeats 4000000 in
/-- The run of the kernel, the sum behind the call included, with its four results. -/
theorem run (m : (ℓ : Loc nD τ Cert.BranchBwdIdeal.sig) → Buf (Elt Ideal) ℓ) (g : Dev nD → PrngReg) (R : Dev nD → Args)
    (h : ∀ c, HoldsAt m c (R c)) :
    θ_run (defs (F := Ideal)) (onTc (τ := τ) (main (F := Ideal))) ⟨m, fun _ => 0, g⟩ fun r => ∀ c : Dev nD,
      let at_ (b : Ref Cert.BranchBwdIdeal.sig .tc) := (c.tc : Thread nD τ).loc b
      r.2.mem (at_ main_v37_0) = outDp (R c) (m (at_ main_arg8))
      ∧ r.2.mem (at_ main_v37_1) = outDkv (R c)
      ∧ r.2.mem (at_ main_v39) = outDwa (R c)
      ∧ r.2.mem (at_ main_v37_3) = outMisc (R c) := by
  refine (θ_run _ _ _).mono (fun r hr c => ⟨(hr.out_eq c 21).trans (final_dp m c (R c) (h c)),
    (hr.out_eq c 22).trans (final_dkv m c (R c) (h c)), ?_,
    (hr.out_eq c 24).trans (final_misc m c (R c) (h c))⟩) (Cert.BranchRun.run_main m g)
  refine (hr.rest_eq c main_v39 (by decide)).trans ?_
  unfold Pipeline.afterTail₀ hostOps1
  simp only [List.flatten_cons, List.flatten_nil, List.append_nil]
  after_results
  have hA : Pipeline.withArrays (cfgs 0).spec c (V0 m c) (fun w => (dats m 0 c).arrAt w (cfgs 0).N)
      (Proc.tc.devRef main_v37_2) = (dats m 0 c).arrAt 23 (cfgs 0).N :=
    (dats m 0 c).withArrays_arrAt sharedIn0 _ (Cert.BranchRun.A_eq m c) 23
  rw [hA]
  generalize hB : (dats m 0 c).arrAt 23 (cfgs 0).N = A
  have hs := final_dwa m c (R c) (h c) A hB.symm
  clear hB hA
  funext i
  obtain ⟨k, j, rfl⟩ : ∃ (k : Fin 32) (j : Fin 1024), i = ix2 k j := ⟨i 0, i 1, by ext a; fin_cases a <;> rfl⟩
  rw [← hs k j]
  pointwise
  exact Finset.sum_congr rfl fun x _ =>
    congrArg (fun q => A (ix2 q j)) (Fin.ext (by simp only; omega))

end Cert.Branch
end
-- ==== Proof.Branch.RefNorm.lean ====
module

public import proofs.«01_k».proof.Proof.Branch.Args
public import proofs.«01_k».proof.Proof.Common.Rows
public import proofs.«01_k».proof.Proof.Common.Norm
public import proofs.«01_k».proof.Proof.Gen.BranchBwdRefIdeal.Read
public import Idealize.ShloMosaic.Lib.IdealHost
/-! What the reference of `branch_bwd` computes up to the layer norm. -/

@[expose] public section

set_option maxRecDepth 16384

noncomputable section

namespace Cert.Branch

open Idealize.ShloMosaic Cert.Common
open Cert.BranchBwdRefIdeal Cert.BranchBwdRefIdeal.Read

section

variable {R : Args} {x0 : FVec Ideal S8192x12288 .f32} {x1 : FVec Ideal S256x2048 .f32} {x2 : FVec Ideal S31x1024 .f32}
  {x3 x4 x5 : FVec Ideal S1024 .f32} {x6 : FVec Ideal S3x1024 .f32} {x7 : FVec Ideal S3x8192x1024 .f32}
  (h : Holds R x0 x1 x2 x3 x4 x5 x6 x7)

include h

theorem ref_sgm (n : Fin 8192) (j : Fin 1024) :
    val_main_v12 (F := Ideal) x0 (ix2 n j) = (sgm (R.P n (1024 + j)) : EReal) := by
  simp only [val_main_v0, val_main_v2, val_main_v7, val_main_v8, val_main_v9, val_main_v10, val_main_v11,
    val_main_v12, val_main_cst, val_main_cst_0]
  pointwise [word_one]
  rw [h.p]
  exact Ideal.logistic_coe _

theorem ref_a (n : Fin 8192) (j : Fin 1024) : val_main_v16 (F := Ideal) x0 (ix2 n j) = (R.a n j : EReal) := by
  simp only [val_main_v16, val_main_v1, val_main_v0]
  pointwise
  rw [ref_sgm h, h.p, ← EReal.coe_mul]
  simp only [Args.a, Nat.zero_add]

theorem ref_rows (r : Fin 8222) (j : Fin 1024) : val_main_v18 (F := Ideal) x0 (ix2 r j) = (pre 30 R.a r j : EReal) := by
  simp only [val_main_v17, val_main_v18, val_main_cst_2]
  pointwise
  split
  · rename_i hr
    rw [pre_lo R.a j hr]
    first | rfl | exact EReal.coe_zero.symm | simp
  · rename_i hr
    rw [ref_a h, pre_of (n' := r.val - 30) R.a j (by omega) (by omega)]

omit h in
theorem ref_table (k : Fin 31) (n : Fin 8192) : (val_main_v33 (F := Ideal) (ix3 k n 0)).toInt = ((n.val + k.val : ℕ) : ℤ) := by
  simp only [val_main_v20, val_main_v21, val_main_v22, val_main_v23, val_main_v24, val_main_v25, val_main_v26,
    val_main_v28, val_main_v29, val_main_v30, val_main_v31, val_main_v32, val_main_v33, val_main_c, val_main_c_4]
  pointwise
  exact row_word _ _ _ (by omega)

theorem ref_taps (k : Fin 31) (n : Fin 8192) (j : Fin 1024) :
    val_main_v34 (F := Ideal) x0 (ix3 k n j) = (pre 30 R.a (n + k) j : EReal) := by
  have hr := ref_rows h
  have ht := ref_table
  unfold val_main_v34
  generalize val_main_v18 (F := Ideal) x0 = X at hr ⊢
  generalize val_main_v33 (F := Ideal) = T at ht ⊢
  refine (rowsOf_apply (N := 8222) (A := 31) (B := 8192) (C := 1024) _ _ _ k n j ⟨n.val + k.val, by omega⟩
    (ht k n)).trans ?_
  exact hr _ j

theorem ref_conv (n : Fin 8192) (j : Fin 1024) : val_main_v40 (F := Ideal) x0 x2 x3 (ix2 n j) = (R.a1 n j : EReal) := by
  simp only [val_main_v27, val_main_v35, val_main_v36, val_main_v37, val_main_v38, val_main_v39, val_main_v40,
    val_main_cst_5]
  pointwise
  simp only [ref_taps h, h.wa, h.ba, Args.a1, ← EReal.coe_mul, coe_sum, ← EReal.coe_add]

theorem ref_mean (n : Fin 8192) (z : Fin 1) :
    val_main_v44 (F := Ideal) x0 x2 x3 (ix2 n z) = (mean (R.a1 n) : EReal) := by
  simp only [val_main_v41, val_main_v42, val_main_v43, val_main_v44, val_main_cst_6, val_main_cst_7]
  pointwise [word_1024]
  simp only [ref_conv h]
  exact mean_real _

theorem ref_cen (n : Fin 8192) (j : Fin 1024) :
    val_main_v46 (F := Ideal) x0 x2 x3 (ix2 n j) = (cen (R.a1 n) j : EReal) := by
  simp only [val_main_v45, val_main_v46]
  pointwise
  simp only [ref_conv h, ref_mean h, ← EReal.coe_sub, cen]

theorem ref_cen' (n : Fin 8192) (j : Fin 1024) :
    val_main_v55 (F := Ideal) x0 x2 x3 (ix2 n j) = (cen (R.a1 n) j : EReal) := ref_cen h n j

theorem ref_var (n : Fin 8192) (z : Fin 1) :
    val_main_v57 (F := Ideal) x0 x2 x3 (ix2 n z) = ((var (R.a1 n) + eps : ℝ) : EReal) := by
  simp only [val_main_v47, val_main_v50, val_main_v51, val_main_v52, val_main_v53, val_main_v56, val_main_v57,
    val_main_cst_9, val_main_cst_10, val_main_cst_11]
  pointwise [word_1024, word_eps]
  simp only [ref_cen h, ← EReal.coe_mul]
  refine (congrArg (fun v => v + _) (mean_real fun k => cen (R.a1 n) k * cen (R.a1 n) k)).trans ?_
  exact (EReal.coe_add _ _).symm

theorem ref_rstd (n : Fin 8192) (z : Fin 1) :
    val_main_v58 (F := Ideal) x0 x2 x3 (ix2 n z) = (rstd (R.a1 n) : EReal) := by
  simp only [val_main_v58]
  pointwise
  rw [ref_var h]
  exact rsqrt_pos (var_pos _)

/-- What the reference keeps of the reciprocal square root's gradient. -/
theorem ref_drstd (n : Fin 8192) (z : Fin 1) :
    val_main_v61 (F := Ideal) x0 x2 x3 (ix2 n z) = ((-(1 / 2) * (rstd (R.a1 n) / (var (R.a1 n) + eps)) : ℝ) : EReal) := by
  simp only [val_main_v59, val_main_v60, val_main_v61, val_main_cst_12]
  pointwise [word_neg_half]
  rw [ref_var h, ref_rstd h, div_reals _ (var_pos _).ne', ← EReal.coe_mul]

theorem ref_nrm (n : Fin 8192) (j : Fin 1024) :
    val_main_v63 (F := Ideal) x0 x2 x3 (ix2 n j) = (nrm (R.a1 n) j : EReal) := by
  simp only [val_main_v62, val_main_v63]
  pointwise
  simp only [ref_cen' h, ref_rstd h, ← EReal.coe_mul, nrm]

theorem ref_ln (n : Fin 8192) (j : Fin 1024) :
    val_main_v69 (F := Ideal) x0 x2 x3 x4 x5 (ix2 n j) = ((nrm (R.a1 n) j * R.lg j + R.lb j : ℝ) : EReal) := by
  simp only [val_main_v64, val_main_v65, val_main_v66, val_main_v67, val_main_v68, val_main_v69]
  pointwise
  simp only [ref_nrm h, h.lg, h.lb, ← EReal.coe_mul, ← EReal.coe_add]

theorem ref_dn (n : Fin 8192) (j : Fin 1024) :
    val_main_v181 (F := Ideal) x0 x2 x3 x4 x5 x7 (ix2 n j) = (R.dn n j : EReal) := by
  have hs : val_main_v70_2 (F := Ideal) x0 x2 x3 x4 x5 (ix2 n j) = (sgm (nrm (R.a1 n) j * R.lg j + R.lb j) : EReal) := by
    simp only [val_main_v70_2, val_main_call0_v0, val_main_call0_v1, val_main_call0_cst, val_main_call0_v2,
    val_main_call0_v3, val_main_call0_cst_0, val_main_call0_v4]
    pointwise [word_one]
    rw [ref_ln h]
    exact Ideal.logistic_coe _
  simp only [val_main_v133, val_main_v134, val_main_v70_1, val_main_v181, val_main_call0_v6, val_main_call0_v7,
    val_main_call0_cst_1, val_main_call1_v0, val_main_call1_v1, val_main_call1_v2]
  pointwise [word_one]
  rw [hs, ref_ln h, h.o]
  simp only [← EReal.coe_mul, ← EReal.coe_sub, ← EReal.coe_add]
  have e0 : R.O ((0 : Fin 3) : ℕ) n j = R.O 0 n j := rfl
  congr 1
  simp only [Args.dn, dOut, dact, e0]
  ring_nf

end

end Cert.Branch
end
-- ==== Proof.Branch.RefGrad.lean ====
module

public import proofs.«01_k».proof.Proof.Branch.RefNorm
/-! The gradients of the layer norm and of the two convolutions, as the reference computes them. -/

@[expose] public section

set_option maxRecDepth 16384

noncomputable section

namespace Cert.Branch

open Idealize.ShloMosaic Cert.Common
open Cert.BranchBwdRefIdeal Cert.BranchBwdRefIdeal.Read

/-- A row less its mean adds up to zero. -/
theorem sum_cen (x : Fin 1024 → ℝ) : ∑ k, cen x k = 0 := by
  simp only [cen, mean, Finset.sum_sub_distrib, Finset.sum_const, Finset.card_univ, Fintype.card_fin, nsmul_eq_mul]
  push_cast
  ring

/-- The layer norm's gradient with the parts of the mean and the variance one by one. -/
theorem dIn_parts (x g b d : Fin 1024 → ℝ) (j : Fin 1024) :
    dOut x g b d j * g j * rstd x
        + (∑ k, cen x k * (dOut x g b d k * g k)) * (-(1 / 2) * (rstd x / (var x + eps))) / 1024 * (2 * cen x j)
        + ((∑ k, -(dOut x g b d k * g k * rstd x))
            + ∑ i, -((∑ k, cen x k * (dOut x g b d k * g k)) * (-(1 / 2) * (rstd x / (var x + eps))) / 1024
                * (2 * cen x i))) / 1024
      = dIn x g b d j := by
  have hv := var_pos x
  have hs : rstd x / (var x + eps) = rstd x * rstd x * rstd x := by
    have q : rstd x * rstd x = (var x + eps)⁻¹ := by
      unfold rstd
      rw [← mul_inv, Real.mul_self_sqrt hv.le]
    rw [q, div_eq_mul_inv, mul_comm]
  have hz (c : ℝ) : ∑ i, -(c * (2 * cen x i)) = 0 := by
    rw [Finset.sum_neg_distrib, ← Finset.mul_sum, ← Finset.mul_sum, sum_cen]
    ring
  have h1 : ∑ k, -(dOut x g b d k * g k * rstd x) = -((∑ k, dOut x g b d k * g k) * rstd x) := by
    rw [Finset.sum_neg_distrib, Finset.sum_mul]
  have h2 : ∑ k, dOut x g b d k * g k * nrm x k = (∑ k, cen x k * (dOut x g b d k * g k)) * rstd x := by
    rw [Finset.sum_mul]
    exact Finset.sum_congr rfl fun k _ => by unfold nrm; ring
  rw [hz, h1, hs]
  unfold dIn mean
  rw [h2]
  unfold nrm
  ring

section

variable {R : Args} {x0 : FVec Ideal S8192x12288 .f32} {x1 : FVec Ideal S256x2048 .f32} {x2 : FVec Ideal S31x1024 .f32}
  {x3 x4 x5 : FVec Ideal S1024 .f32} {x6 : FVec Ideal S3x1024 .f32} {x7 : FVec Ideal S3x8192x1024 .f32}
  (h : Holds R x0 x1 x2 x3 x4 x5 x6 x7)

include h

theorem ref_dy (n : Fin 8192) (j : Fin 1024) : val_main_v189 (F := Ideal) x0 x2 x3 x4 x5 x7 (ix2 n j)
    = ((R.dn n j * R.lg j : ℝ) : EReal) := by
  simp only [val_main_v64, val_main_v188, val_main_v189]
  pointwise
  rw [ref_dn h, h.lg, ← EReal.coe_mul]

theorem ref_dyc (n : Fin 8192) (z : Fin 1) : val_main_v193 (F := Ideal) x0 x2 x3 x4 x5 x7 (ix2 n z)
    = ((∑ k, cen (R.a1 n) k * (R.dn n k * R.lg k) : ℝ) : EReal) := by
  simp only [val_main_v191, val_main_v192, val_main_v193, val_main_cst_39]
  pointwise
  simp only [ref_cen' h, ref_dy h, ← EReal.coe_mul, coe_sum]

theorem ref_dys (n : Fin 8192) (j : Fin 1024) : val_main_v195 (F := Ideal) x0 x2 x3 x4 x5 x7 (ix2 n j)
    = ((R.dn n j * R.lg j * rstd (R.a1 n) : ℝ) : EReal) := by
  simp only [val_main_v194, val_main_v195]
  pointwise
  rw [ref_dy h, ref_rstd h, ← EReal.coe_mul]

theorem ref_dvar (n : Fin 8192) (j : Fin 1024) : val_main_v204 (F := Ideal) x0 x2 x3 x4 x5 x7 (ix2 n j)
    = (((∑ k, cen (R.a1 n) k * (R.dn n k * R.lg k)) * (-(1 / 2) * (rstd (R.a1 n) / (var (R.a1 n) + eps))) / 1024
      * (2 * cen (R.a1 n) j) : ℝ) : EReal) := by
  simp only [val_main_v48, val_main_v49, val_main_v196, val_main_v200, val_main_v201, val_main_v202, val_main_v203,
    val_main_v204, val_main_cst_8, val_main_cst_41, val_main_cst_42]
  pointwise [word_1024, word_two]
  simp only [Fin.sum_univ_one]
  rw [ref_dyc h, ref_drstd h, ref_cen h, ← EReal.coe_mul, div_reals _ (by norm_num), ← EReal.coe_mul, ← EReal.coe_mul]

theorem ref_dc (n : Fin 8192) (j : Fin 1024) :
    val_main_v214 (F := Ideal) x0 x2 x3 x4 x5 x7 (ix2 n j) = (R.dc n j : EReal) := by
  simp only [val_main_v197, val_main_v198, val_main_v199, val_main_v205, val_main_v206, val_main_v207, val_main_v208,
    val_main_v209, val_main_v210, val_main_v211, val_main_v212, val_main_v213, val_main_v214, val_main_cst_40,
    val_main_cst_43, val_main_cst_44, val_main_cst_45]
  pointwise [word_1024]
  simp only [Fin.sum_univ_one]
  simp only [ref_dys h, ref_dvar h, ← EReal.coe_neg, coe_sum, ← EReal.coe_add]
  rw [div_reals _ (by norm_num), ← EReal.coe_add]
  exact congrArg _ (dIn_parts (R.a1 n) R.lg R.lb (fun j => R.O 0 n j) j)

/-- The rows that the scatter of the convolution's gradient adds up. -/
theorem ref_into (r : Fin 8222) (j : Fin 1024) : val_main_v225 (F := Ideal) x0 x2 x3 x4 x5 x7 (ix2 r j)
    = ((∑ k : Fin 31, R.wa k j * pre k R.dc r j : ℝ) : EReal) := by
  have hu (k : Fin 31) (n : Fin 8192) (j : Fin 1024) : val_main_v220 (F := Ideal) x0 x2 x3 x4 x5 x7 (ix3 k n j)
      = ((R.wa k j * R.dc n j : ℝ) : EReal) := by
    simp only [val_main_v27, val_main_v218, val_main_v219, val_main_v220]
    pointwise
    rw [ref_dc h, h.wa, ← EReal.coe_mul]
  have hx (r : Fin 8222) (j : Fin 1024) : val_main_v224 (F := Ideal) (ix2 r j) = ((0 : ℝ) : EReal) := by
    simp only [val_main_v224, val_main_cst_49]
    pointwise
    exact EReal.coe_zero.symm
  have ht := ref_table
  unfold val_main_v225
  generalize val_main_v224 (F := Ideal) = X at hx ⊢
  generalize val_main_v33 (F := Ideal) = T at ht ⊢
  generalize val_main_v220 (F := Ideal) x0 x2 x3 x4 x5 x7 = U at hu ⊢
  refine (rowsInto_apply (N := 8222) (A := 31) (B := 8192) (C := 1024) (by decide) (by decide) _ X T U ht r j).trans ?_
  rw [hx, EReal.coe_zero, zero_add, ← coe_sum]
  refine Finset.sum_congr rfl fun k _ => ?_
  unfold pre
  split
  · rename_i hk
    rw [hu]
    simp only [Nat.mod_eq_of_lt hk.2]
  · rw [mul_zero, EReal.coe_zero]

theorem ref_da (n : Fin 8192) (j : Fin 1024) :
    val_main_v228 (F := Ideal) x0 x2 x3 x4 x5 x7 (ix2 n j) = (R.da n j : EReal) := by
  simp only [val_main_v228]
  pointwise
  rw [ref_into h]
  refine congrArg _ ((Equiv.sum_comp Fin.revPerm fun k : Fin 31 => R.wa k j * pre k R.dc (30 + n) j).symm.trans ?_)
  refine Finset.sum_congr rfl fun k _ => ?_
  have e : ((Fin.revPerm k : Fin 31) : ℕ) = 30 - k := by rw [Fin.revPerm_apply, Fin.val_rev]; omega
  rw [e]
  exact congrArg _ (pre_shift R.dc j (by omega))

theorem ref_x (n : Fin 8192) (j : Fin 1024) : val_main_v71 (F := Ideal) x0 (ix2 n j) = (R.x n j : EReal) := by
  simp only [val_main_v0, val_main_v4, val_main_v5, val_main_v71]
  pointwise
  simp only [h.p, ← EReal.coe_mul, Args.x]

theorem ref_rows' (r : Fin 8194) (j : Fin 1024) : val_main_v73 (F := Ideal) x0 (ix2 r j) = (pre 2 R.x r j : EReal) := by
  simp only [val_main_v72, val_main_v73, val_main_cst_13]
  pointwise
  split
  · rename_i hr
    rw [pre_lo R.x j hr]
    first | rfl | exact EReal.coe_zero.symm | simp
  · rename_i hr
    rw [ref_x h, pre_of (n' := r.val - 2) R.x j (by omega) (by omega)]

omit h in
theorem ref_table' (k : Fin 3) (n : Fin 8192) :
    (val_main_v88 (F := Ideal) (ix3 k n 0)).toInt = ((n.val + k.val : ℕ) : ℤ) := by
  simp only [val_main_v75, val_main_v76, val_main_v77, val_main_v78, val_main_v79, val_main_v80, val_main_v81,
    val_main_v83, val_main_v84, val_main_v85, val_main_v86, val_main_v87, val_main_v88, val_main_c_15, val_main_c_16]
  pointwise
  exact row_word _ _ _ (by omega)

theorem ref_taps' (k : Fin 3) (n : Fin 8192) (j : Fin 1024) :
    val_main_v89 (F := Ideal) x0 (ix3 k n j) = (pre 2 R.x (n + k) j : EReal) := by
  have hr := ref_rows' h
  have ht := ref_table'
  unfold val_main_v89
  generalize val_main_v73 (F := Ideal) x0 = X at hr ⊢
  generalize val_main_v88 (F := Ideal) = T at ht ⊢
  refine (rowsOf_apply (N := 8194) (A := 3) (B := 8192) (C := 1024) _ _ _ k n j ⟨n.val + k.val, by omega⟩
    (ht k n)).trans ?_
  exact hr _ j

theorem ref_xc (n : Fin 8192) (j : Fin 1024) : val_main_v92 (F := Ideal) x0 x6 (ix2 n j) = (R.xc n j : EReal) := by
  simp only [val_main_v82, val_main_v90, val_main_v91, val_main_v92, val_main_cst_17]
  pointwise
  simp only [ref_taps' h, h.wb, ← EReal.coe_mul, coe_sum]
  exact congrArg _ (Fin.sum_univ_three _)

theorem ref_u (n : Fin 8192) (j : Fin 1024) : val_main_v166 (F := Ideal) x0 x7 (ix2 n j) = (R.u n j : EReal) := by
  simp only [val_main_v0, val_main_v3, val_main_v135, val_main_v136, val_main_v166]
  pointwise
  rw [h.p, h.o, ← EReal.coe_mul, mul_comm]
  rfl

theorem ref_into' (r : Fin 8194) (j : Fin 1024) : val_main_v175 (F := Ideal) x0 x6 x7 (ix2 r j)
    = ((∑ k : Fin 3, R.wb k j * pre k R.u r j : ℝ) : EReal) := by
  have hu (k : Fin 3) (n : Fin 8192) (j : Fin 1024) : val_main_v170 (F := Ideal) x0 x6 x7 (ix3 k n j)
      = ((R.wb k j * R.u n j : ℝ) : EReal) := by
    simp only [val_main_v82, val_main_v168, val_main_v169, val_main_v170]
    pointwise
    rw [ref_u h, h.wb, ← EReal.coe_mul]
  have hx (r : Fin 8194) (j : Fin 1024) : val_main_v174 (F := Ideal) (ix2 r j) = ((0 : ℝ) : EReal) := by
    simp only [val_main_v174, val_main_cst_33]
    pointwise
    exact EReal.coe_zero.symm
  have ht := ref_table'
  unfold val_main_v175
  generalize val_main_v174 (F := Ideal) = X at hx ⊢
  generalize val_main_v88 (F := Ideal) = T at ht ⊢
  generalize val_main_v170 (F := Ideal) x0 x6 x7 = U at hu ⊢
  refine (rowsInto_apply (N := 8194) (A := 3) (B := 8192) (C := 1024) (by decide) (by decide) _ X T U ht r j).trans ?_
  rw [hx, EReal.coe_zero, zero_add, ← coe_sum]
  refine Finset.sum_congr rfl fun k _ => ?_
  unfold pre
  split
  · rename_i hk
    rw [hu]
    simp only [Nat.mod_eq_of_lt hk.2]
  · rw [mul_zero, EReal.coe_zero]

theorem ref_dx (n : Fin 8192) (j : Fin 1024) :
    val_main_v178 (F := Ideal) x0 x6 x7 (ix2 n j) = (R.dx n j : EReal) := by
  simp only [val_main_v178]
  pointwise
  rw [ref_into' h]
  refine congrArg _ ((Fin.sum_univ_three _).trans ?_)
  have e0 : pre ((0 : Fin 3) : ℕ) R.u (2 + n) j = pre 0 R.u (n + 2) j := pre_shift R.u j (by simp only [Fin.val_zero]; omega)
  have e1 : pre ((1 : Fin 3) : ℕ) R.u (2 + n) j = pre 0 R.u (n + 1) j := pre_shift R.u j (by simp only [Fin.val_one]; omega)
  have e2 : pre ((2 : Fin 3) : ℕ) R.u (2 + n) j = pre 0 R.u n j := pre_shift R.u j (by simp only [Fin.val_two]; omega)
  rw [e0, e1, e2]
  simp only [Args.dx, Fin.val_zero, Fin.val_one, Fin.val_two]
  ring

end

end Cert.Branch
end
-- ==== Proof.Branch.RefAttn.lean ====
module

public import proofs.«01_k».proof.Proof.Branch.Totals
public import proofs.«01_k».proof.Proof.Common.Norm
public import proofs.«01_k».proof.Proof.Gen.BranchBwdRefIdeal.Read
public import Idealize.ShloMosaic.Lib.IdealHost
/-! The attention of the reference and its gradients. -/

@[expose] public section

set_option maxRecDepth 16384

noncomputable section

namespace Cert.Branch

open Idealize.ShloMosaic Cert.Common
open Cert.BranchBwdRefIdeal Cert.BranchBwdRefIdeal.Read

/-- The gradient through a softmax that is shifted by `M` and divided by its sum. -/
theorem dScores_parts (q : Fin 256 → ℝ) (K V : Fin 256 → Fin 256 → ℝ) (o : Fin 256 → ℝ) (M : ℝ) (l : Fin 256) :
    (dProbs o V l / (∑ k, Real.exp (scores q K k - M))
        + -∑ i, dProbs o V i * (1 / ((∑ k, Real.exp (scores q K k - M)) * ∑ k, Real.exp (scores q K k - M)))
          * Real.exp (scores q K i - M))
      * Real.exp (scores q K l - M) * (1 / 16) = dScores q K V o l := by
  have hz : 0 < ∑ k, Real.exp (scores q K k - M) := expSum_pos fun k => scores q K k - M
  have hp (k : Fin 256) : probs q K k = Real.exp (scores q K k - M) / ∑ k, Real.exp (scores q K k - M) :=
    (soft_shift (scores q K) M k).symm
  unfold dScores
  simp only [hp]
  generalize ∑ k, Real.exp (scores q K k - M) = Z at hz
  have e : ∑ i, dProbs o V i * (1 / (Z * Z)) * Real.exp (scores q K i - M)
      = (∑ i, dProbs o V i * (Real.exp (scores q K i - M) / Z)) / Z := by
    rw [Finset.sum_div]
    refine Finset.sum_congr rfl fun i _ => ?_
    field_simp
  rw [e]
  field_simp
  ring

section

variable {R : Args} {x0 : FVec Ideal S8192x12288 .f32} {x1 : FVec Ideal S256x2048 .f32} {x2 : FVec Ideal S31x1024 .f32}
  {x3 x4 x5 : FVec Ideal S1024 .f32} {x6 : FVec Ideal S3x1024 .f32} {x7 : FVec Ideal S3x8192x1024 .f32}
  (h : Holds R x0 x1 x2 x3 x4 x5 x6 x7)

include h

theorem ref_q (n : Fin 8192) (a : Fin 4) (d : Fin 256) :
    val_main_v96 (F := Ideal) x0 (ix3 n a d) = (R.q n a d : EReal) := by
  simp only [val_main_v0, val_main_v6, val_main_v96]
  pointwise
  rw [h.p]
  exact congrArg (fun k => (R.P n k : EReal)) (by simp only <;> omega)

theorem ref_k (l : Fin 256) (a : Fin 4) (d : Fin 256) :
    val_main_v97 (F := Ideal) x1 (ix3 l a d) = (R.k a l d : EReal) := by
  simp only [val_main_v94, val_main_v97]
  pointwise
  rw [h.kv]
  exact congrArg (fun k => (R.KV l k : EReal)) (by simp only <;> omega)

theorem ref_v (l : Fin 256) (a : Fin 4) (d : Fin 256) :
    val_main_v98 (F := Ideal) x1 (ix3 l a d) = (R.v a l d : EReal) := by
  simp only [val_main_v95, val_main_v98]
  pointwise
  rw [h.kv]
  exact congrArg (fun k => (R.KV l k : EReal)) (by simp only <;> omega)

theorem ref_do (n : Fin 8192) (a : Fin 4) (d : Fin 256) :
    val_main_v140 (F := Ideal) x7 (ix3 a d n) = (R.o n a d : EReal) := by
  simp only [val_main_v137, val_main_v138, val_main_v139, val_main_v140]
  pointwise
  rw [h.o]
  exact congrArg (fun k => (R.O 2 n k : EReal)) (by simp only <;> omega)

theorem ref_scores (n : Fin 8192) (a : Fin 4) (l : Fin 256) :
    val_main_v101 (F := Ideal) x0 x1 (ix3 a n l) = (scores (R.q n a) (R.k a) l : EReal) := by
  simp only [val_main_v99, val_main_v100, val_main_v101, val_main_cst_18]
  pointwise [word_scale]
  simp only [ref_q h, ref_k h, ← EReal.coe_mul, coe_sum]
  rfl

theorem ref_max (n : Fin 8192) (a : Fin 4) : ∃ M : ℝ, val_main_v102 (F := Ideal) x0 x1 (ix2 a n) = (M : EReal) := by
  obtain ⟨M, hM⟩ := fold_max_real Finset.univ Finset.univ_nonempty (scores (R.q n a) (R.k a))
  refine ⟨M, ?_⟩
  have hs := ref_scores h n a
  unfold val_main_v102 val_main_cst_19
  generalize val_main_v101 (F := Ideal) x0 x1 = S at hs ⊢
  pointwise [word_ninf]
  simp only [hs]
  exact hM

theorem ref_top (n : Fin 8192) (a : Fin 4) (M : ℝ) (hM : val_main_v102 (F := Ideal) x0 x1 (ix2 a n) = (M : EReal)) :
    val_main_v109 (F := Ideal) x0 x1 (ix2 a n) = (M : EReal) := by
  have e : val_main_v108 (F := Ideal) (ix2 a n) = (⊥ : EReal) := by
    rw [val_main_v108_apply]
    exact word_ninf
  rw [val_main_v109_apply, hM, e]
  exact max_eq_right bot_le

theorem ref_shift (n : Fin 8192) (a : Fin 4) (l : Fin 256) (M : ℝ)
    (hM : val_main_v109 (F := Ideal) x0 x1 (ix2 a n) = (M : EReal)) :
    val_main_v121 (F := Ideal) x0 x1 (ix3 a n l) = ((scores (R.q n a) (R.k a) l - M : ℝ) : EReal) := by
  have hs := ref_scores h n a l
  simp only [val_main_v119, val_main_v120, val_main_v121]
  generalize val_main_v109 (F := Ideal) x0 x1 = A at hM ⊢
  generalize val_main_v101 (F := Ideal) x0 x1 = S at hs ⊢
  pointwise
  rw [hs, hM, ← EReal.coe_sub]

theorem ref_exp (n : Fin 8192) (a : Fin 4) : ∃ M : ℝ, ∀ l : Fin 256,
    val_main_v122 (F := Ideal) x0 x1 (ix3 a n l) = (Real.exp (scores (R.q n a) (R.k a) l - M) : EReal) := by
  obtain ⟨M, hM⟩ := ref_max h n a
  refine ⟨M, fun l => ?_⟩
  have hs := ref_shift h n a l M (ref_top h n a M hM)
  unfold val_main_v122
  generalize val_main_v121 (F := Ideal) x0 x1 = S at hs ⊢
  pointwise
  rw [hs]
  exact Ideal.exp_coe _

theorem ref_sum (n : Fin 8192) (a : Fin 4) (z : Fin 1) (M : ℝ)
    (hM : ∀ l : Fin 256, val_main_v122 (F := Ideal) x0 x1 (ix3 a n l) = (Real.exp (scores (R.q n a) (R.k a) l - M) : EReal)) :
    val_main_v124 (F := Ideal) x0 x1 (ix3 a n z) = ((∑ k, Real.exp (scores (R.q n a) (R.k a) k - M) : ℝ) : EReal) := by
  simp only [val_main_v123, val_main_v124, val_main_cst_27]
  pointwise
  simp only [hM, coe_sum]

theorem ref_probs (n : Fin 8192) (a : Fin 4) (l : Fin 256) :
    val_main_v126 (F := Ideal) x0 x1 (ix3 a n l) = (probs (R.q n a) (R.k a) l : EReal) := by
  obtain ⟨M, hM⟩ := ref_exp h n a
  have hz : 0 < ∑ k, Real.exp (scores (R.q n a) (R.k a) k - M) := expSum_pos fun k => scores (R.q n a) (R.k a) k - M
  simp only [val_main_v125, val_main_v126]
  pointwise
  rw [hM, ref_sum h n a _ M hM, div_reals _ hz.ne']
  exact congrArg _ (soft_shift _ M l)

theorem ref_dp (n : Fin 8192) (a : Fin 4) (l : Fin 256) :
    val_main_v141 (F := Ideal) x1 x7 (ix3 a n l) = (dProbs (R.o n a) (R.v a) l : EReal) := by
  simp only [val_main_v141]
  pointwise
  simp only [ref_do h, ref_v h, ← EReal.coe_mul, coe_sum]
  rfl

theorem ref_ds (n : Fin 8192) (a : Fin 4) (l : Fin 256) :
    val_main_v157 (F := Ideal) x0 x1 x7 (ix3 a n l) = (dScores (R.q n a) (R.k a) (R.v a) (R.o n a) l : EReal) := by
  obtain ⟨M, hM⟩ := ref_exp h n a
  have hz : 0 < ∑ k, Real.exp (scores (R.q n a) (R.k a) k - M) := expSum_pos fun k => scores (R.q n a) (R.k a) k - M
  simp only [val_main_v127, val_main_v128, val_main_v129, val_main_v144, val_main_v145, val_main_v146, val_main_v147,
    val_main_v148, val_main_v149, val_main_v150, val_main_v151, val_main_v152, val_main_v153, val_main_v154,
    val_main_v155, val_main_v156, val_main_v157, val_main_cst_28, val_main_cst_29, val_main_cst_30, val_main_cst_31]
  pointwise [word_one, word_scale]
  simp only [Fin.sum_univ_one]
  simp only [hM, ref_sum h n a _ M hM, ref_dp h, ← EReal.coe_mul]
  simp only [div_reals _ hz.ne', div_reals _ (mul_pos hz hz).ne', ← EReal.coe_mul, coe_sum, ← EReal.coe_neg, ← EReal.coe_add]
  exact congrArg _ (dScores_parts (R.q n a) (R.k a) (R.v a) (R.o n a) M l)

theorem ref_dq (n : Fin 8192) (j : Fin 1024) : val_main_v164 (F := Ideal) x0 x1 x7 (ix2 n j)
    = (R.dq n (j / 256) ⟨j % 256, Nat.mod_lt _ (by decide)⟩ : EReal) := by
  simp only [val_main_v160, val_main_v161, val_main_v164]
  pointwise
  simp only [ref_ds h, ref_k h, ← EReal.coe_mul, coe_sum]
  rfl

theorem ref_dkv (l : Fin 256) (j : Fin 2048) :
    val_main_v165 (F := Ideal) x0 x1 x7 (ix2 l j) = (dkvAt R l j : EReal) := by
  simp only [val_main_v142, val_main_v143, val_main_v158, val_main_v159, val_main_v162, val_main_v163, val_main_v165]
  pointwise
  unfold dkvAt
  split
  · simp only [ref_ds h, ref_q h, ← EReal.coe_mul, coe_sum]
    rfl
  · simp only [ref_do h, ref_probs h, ← EReal.coe_mul, coe_sum]
    have e (h1) (h2) : (⟨(j.val - 1024) % 256, h1⟩ : Fin 256) = ⟨j.val % 256, h2⟩ :=
      Fin.ext (by show (j.val - 1024) % 256 = j.val % 256; omega)
    refine congrArg _ (Finset.sum_congr rfl fun n _ => ?_)
    rw [e _ (Nat.mod_lt _ (by decide)), mul_comm]
    rfl

end

end Cert.Branch
end
-- ==== Proof.Branch.RefOut.lean ====
module

public import proofs.«01_k».proof.Proof.Branch.RefGrad
public import proofs.«01_k».proof.Proof.Branch.RefAttn
/-! The four results of the reference. -/

@[expose] public section

set_option maxRecDepth 16384

noncomputable section

namespace Cert.Branch

open Idealize.ShloMosaic Cert.Common
open Cert.BranchBwdRefIdeal Cert.BranchBwdRefIdeal.Read

section

variable {R : Args} {x0 : FVec Ideal S8192x12288 .f32} {x1 : FVec Ideal S256x2048 .f32} {x2 : FVec Ideal S31x1024 .f32}
  {x3 x4 x5 : FVec Ideal S1024 .f32} {x6 : FVec Ideal S3x1024 .f32} {x7 : FVec Ideal S3x8192x1024 .f32}
  (h : Holds R x0 x1 x2 x3 x4 x5 x6 x7)

include h

theorem ref_outDkv : val_main_v165 (F := Ideal) x0 x1 x7 = outDkv R := by
  funext i
  obtain ⟨l, j, rfl⟩ : ∃ (l : Fin 256) (j : Fin 2048), i = ix2 l j := ⟨i 0, i 1, by ext a; fin_cases a <;> rfl⟩
  exact ref_dkv h l j

theorem ref_outDwa : val_main_v245 (F := Ideal) x0 x2 x3 x4 x5 x7 = outDwa R := by
  funext i
  obtain ⟨l, j, rfl⟩ : ∃ (l : Fin 32) (j : Fin 1024), i = ix2 l j := ⟨i 0, i 1, by ext a; fin_cases a <;> rfl⟩
  simp only [val_main_v218, val_main_v221, val_main_v222, val_main_v223, val_main_v226, val_main_v245, val_main_c_52,
    val_main_call2_v0, val_main_cst_48, val_main_cst_50]
  pointwise
  simp only [Fin.sum_univ_one, ref_dc h, ref_taps h, ← EReal.coe_mul, coe_sum]
  unfold outDwa
  by_cases hl : l.val < 31
  · rw [dif_pos hl]
    exact congrArg _ (if_pos hl).symm
  · rw [dif_neg hl]
    refine Eq.trans ?_ (congrArg _ (if_neg hl).symm)
    show (((0#32 : BitVec 32).toInt : ℝ) : EReal) = _
    simp

theorem ref_outMisc : val_main_v244 (F := Ideal) x0 x2 x3 x4 x5 x7 = outMisc R := by
  funext i
  obtain ⟨l, j, rfl⟩ : ∃ (l : Fin 8) (j : Fin 1024), i = ix2 l j := ⟨i 0, i 1, by ext a; fin_cases a <;> rfl⟩
  simp only [val_main_v168, val_main_v171, val_main_v172, val_main_v173, val_main_v176, val_main_v182, val_main_v183,
    val_main_v184, val_main_v185, val_main_v186, val_main_v187, val_main_v190, val_main_v215, val_main_v216,
    val_main_v217, val_main_v240, val_main_v241, val_main_v242, val_main_v243, val_main_v244, val_main_cst_32,
    val_main_cst_34, val_main_cst_35, val_main_cst_36, val_main_cst_37, val_main_cst_38, val_main_cst_46,
    val_main_cst_47, val_main_cst_51]
  fin_cases l <;> pointwise
  all_goals try simp only [Fin.sum_univ_one, ref_dc h, ref_nrm h, ref_dn h, ref_u h, ref_taps' h, ← EReal.coe_mul, coe_sum]
  all_goals unfold outMisc
  all_goals try rfl
  simp only [mul_comm (nrm _ _)]
  rfl

theorem ref_outDp (x8 : FVec Ideal S8192x12288 .bf16) :
    val_main_v239 (F := Ideal) x0 x1 x2 x3 x4 x5 x6 x7 x8 = outDp R x8 := by
  funext i
  obtain ⟨n, k, rfl⟩ : ∃ (l : Fin 8192) (j : Fin 12288), i = ix2 l j := ⟨i 0, i 1, by ext a; fin_cases a <;> rfl⟩
  simp only [val_main_v0, val_main_v1, val_main_v3, val_main_v4, val_main_v5, val_main_v13, val_main_v14,
    val_main_v15, val_main_v135, val_main_v136, val_main_v167, val_main_v179, val_main_v180, val_main_v229,
    val_main_v230, val_main_v231, val_main_v232, val_main_v233, val_main_v234, val_main_v235, val_main_v236,
    val_main_v237, val_main_v238, val_main_v239, val_main_cst_1]
  pointwise [word_one]
  have out (b : ℕ) (j : Fin 1024) (hb : b < 6) (hk : k.val = 1024 * b + j.val) :
      outDp R x8 (ix2 n k) = ((R.dpAt n j b : ℝ) : EReal) := by
    unfold outDp
    refine (if_pos (show k.val < 6144 by omega)).trans ?_
    rw [← Args.dp_block, ← hk]
    rfl
  split
  · rename_i hk
    rw [out 0 ⟨k.val, hk⟩ (by decide) (by simp only; omega), ref_da h, ref_sgm h, ← EReal.coe_mul]
    rfl
  split
  · rename_i hk
    rw [out 1 ⟨k.val - 1024, hk⟩ (by decide) (by simp only; omega), h.p, ref_da h, ref_sgm h]
    simp only [← EReal.coe_mul, ← EReal.coe_sub]
    refine congrArg _ ?_
    simp only [Args.dpAt]
    ring
  split
  · rename_i hk
    rw [out 2 ⟨k.val - 1024 - 1024, hk⟩ (by decide) (by simp only; omega), h.o, ref_xc h, ← EReal.coe_mul]
    rfl
  split
  · rename_i hk
    rw [out 3 ⟨k.val - 1024 - 1024 - 1024, hk⟩ (by decide) (by simp only; omega), h.p, ref_dx h, ← EReal.coe_mul]
    rfl
  split
  · rename_i hk
    rw [out 4 ⟨k.val - 1024 - 1024 - 1024 - 1024, hk⟩ (by decide) (by simp only; omega), h.p, ref_dx h, ← EReal.coe_mul,
      mul_comm]
    rfl
  split
  · rename_i hk
    rw [out 5 ⟨k.val - 1024 - 1024 - 1024 - 1024 - 1024, hk⟩ (by decide) (by simp only; omega), ref_dq h]
    rfl
  · unfold outDp
    refine Eq.trans ?_ (if_neg (show ¬k.val < 6144 by omega)).symm
    exact congrArg (fun q => x8 (ix2 n q)) (Fin.ext (by simp only; omega))

end

end Cert.Branch
end
-- ==== Proof.Branch.Equation.lean ====
module

public import proofs.«01_k».proof.Defs
public import proofs.«01_k».proof.Proof.Branch.Run
public import proofs.«01_k».proof.Proof.Branch.RefOut
public import proofs.«01_k».proof.Proof.Gen.BranchBwdRefIdeal.Read
public import proofs.«01_k».proof.Proof.Gen.Pre_finite_branch

/-! The claims about `branch_bwd`: at finite arguments its four results are the gradients that the reference computes. -/

@[expose] public section

set_option maxRecDepth 16384

noncomputable section

namespace Cert.BranchEq

open Idealize.ShloMosaic Idealize.ShloMosaic.TcCoe Idealize.SL.Sem
open Idealize.ShloMosaic.Tactic
open Cert.Common Cert.Branch
open Cert.BranchBwdRefIdeal.Read

/-- The reals that the arguments hold. -/
def realsOf (p : FVec Ideal ⟨2, ![8192, 12288]⟩ .f32) (kv : FVec Ideal ⟨2, ![256, 2048]⟩ .f32)
    (wa : FVec Ideal ⟨2, ![31, 1024]⟩ .f32) (ba lg lb : FVec Ideal ⟨1, ![1024]⟩ .f32)
    (wb : FVec Ideal ⟨2, ![3, 1024]⟩ .f32) (o : FVec Ideal ⟨3, ![3, 8192, 1024]⟩ .f32) : Args :=
  argsOf (fun i => EReal.toReal (p i)) (fun i => EReal.toReal (kv i)) (fun i => EReal.toReal (wa i))
    (fun i => EReal.toReal (ba i)) (fun i => EReal.toReal (lg i)) (fun i => EReal.toReal (lb i))
    (fun i => EReal.toReal (wb i)) (fun i => EReal.toReal (o i))

/-- The precondition says that the eight arguments hold reals. -/
theorem holds [Cert.Pre_finite_branch.Facts] (p : FVec Ideal ⟨2, ![8192, 12288]⟩ .f32) (kv : FVec Ideal ⟨2, ![256, 2048]⟩ .f32)
    (wa : FVec Ideal ⟨2, ![31, 1024]⟩ .f32) (ba lg lb : FVec Ideal ⟨1, ![1024]⟩ .f32)
    (wb : FVec Ideal ⟨2, ![3, 1024]⟩ .f32) (o : FVec Ideal ⟨3, ![3, 8192, 1024]⟩ .f32)
    (d : FVec Ideal ⟨2, ![8192, 12288]⟩ .bf16)
    (h : Cert.Pre_finite_branch.fn (F := Ideal) p kv wa ba lg lb wb o d = fun _ => 1#1) :
    Holds (realsOf p kv wa ba lg lb wb o) p kv wa ba lg lb wb o := by
  haveI : Subsingleton Cert.Pre_finite_branch.S_.Idx := ⟨fun a b => funext fun i => i.elim0⟩
  have h := congrFun h (fun a => a.elim0)
  obtain ⟨h, hwb⟩ := IntOp.andi_eq_one.1 h
  obtain ⟨h, hlb⟩ := IntOp.andi_eq_one.1 h
  obtain ⟨h, hlg⟩ := IntOp.andi_eq_one.1 h
  obtain ⟨h, hba⟩ := IntOp.andi_eq_one.1 h
  obtain ⟨h, hwa⟩ := IntOp.andi_eq_one.1 h
  obtain ⟨h, ho⟩ := IntOp.andi_eq_one.1 h
  obtain ⟨hp, hkv⟩ := IntOp.andi_eq_one.1 h
  obtain ⟨P, rfl⟩ := reals_of_all _ _ _ _ _ _ hp
  obtain ⟨KV, rfl⟩ := reals_of_all _ _ _ _ _ _ hkv
  obtain ⟨WA, rfl⟩ := reals_of_all _ _ _ _ _ _ hwa
  obtain ⟨BA, rfl⟩ := reals_of_all _ _ _ _ _ _ hba
  obtain ⟨LG, rfl⟩ := reals_of_all _ _ _ _ _ _ hlg
  obtain ⟨LB, rfl⟩ := reals_of_all _ _ _ _ _ _ hlb
  obtain ⟨WB, rfl⟩ := reals_of_all _ _ _ _ _ _ hwb
  obtain ⟨O, rfl⟩ := reals_of_all _ _ _ _ _ _ ho
  unfold realsOf
  simp only [EReal.toReal_coe]
  exact holds_argsOf P KV WA BA LG LB WB O

/-- The reals that the kernel's arguments hold on device `c`. -/
def realsAt (m : (ℓ : Loc Cert.BranchBwdIdeal.nD Cert.BranchBwdIdeal.τ Cert.BranchBwdIdeal.sig) → Buf (Elt Ideal) ℓ)
    (c : Dev Cert.BranchBwdIdeal.nD) : Args :=
  let at_ (b : Ref Cert.BranchBwdIdeal.sig .tc) := (c.tc : Thread Cert.BranchBwdIdeal.nD Cert.BranchBwdIdeal.τ).loc b
  realsOf (m (at_ Cert.BranchBwdIdeal.main_arg0)) (m (at_ Cert.BranchBwdIdeal.main_arg1))
    (m (at_ Cert.BranchBwdIdeal.main_arg2)) (m (at_ Cert.BranchBwdIdeal.main_arg3)) (m (at_ Cert.BranchBwdIdeal.main_arg4))
    (m (at_ Cert.BranchBwdIdeal.main_arg5)) (m (at_ Cert.BranchBwdIdeal.main_arg6)) (m (at_ Cert.BranchBwdIdeal.main_arg7))

theorem frame_kernel [Cert.BranchBwd.Facts] : Cert.quiescent_BranchBwd := by
  intro m ρ _
  refine Eq.mp ?_ (Cert.BranchRun.frame (F := Bits) m ρ)
  sl_kernel_rfl

theorem frame_ideal [Cert.BranchBwdIdeal.Facts] : Cert.quiescent_BranchBwdIdeal := fun m ρ _ => Cert.BranchRun.frame m ρ

theorem frame_ref [Cert.BranchBwdRefIdeal.Facts] : Cert.quiescent_BranchBwdRefIdeal := by
  intro m g _
  exact (θ_run Cert.BranchBwdRefIdeal.defs _ _).mono (fun r h => ⟨fun c => (h c).2.2.2.2, sem_eq_zero_of_no_sems (by decide) r.2⟩)
    (Cert.BranchBwdRefIdeal.Value.run (F := Ideal) m g)

set_option maxHeartbeats 4000000 in
theorem algebraic [Cert.Pre_finite_branch.Facts] :
    Cert.algebraic_BranchBwdIdeal_BranchBwdRefIdeal_pre_finite_branch := by
  pair_intro
  · have key (c) : HoldsAt m c (realsAt m c) := holds _ _ _ _ _ _ _ _ _ (hpre c)
    run_from run m g (realsAt m) key & Cert.BranchRun.frame m g
  · have key (c) : HoldsAt m c (realsAt m c) := holds _ _ _ _ _ _ _ _ _ (hpre c)
    refine (θ_run _ _ _).mono (fun r h c => ?_) (Cert.BranchBwdRefIdeal.Value.run (F := Ideal) m' g')
    obtain ⟨h0, h1, h2, h3, ha⟩ := h c
    obtain ⟨e0, e1, e2, e3, e4, e5, e6, e7, e8⟩ := hagree c
    have key' := key c
    unfold HoldsAt at key'
    rw [← e0, ← e1, ← e2, ← e3, ← e4, ← e5, ← e6, ← e7] at key'
    refine ⟨h0.trans ((val_main_v239_eq _).trans ((ref_outDp key' _).trans (congrArg (outDp (realsAt m c)) e8))),
      h1.trans ((val_main_v165_eq _).trans (ref_outDkv key')), h2.trans ((val_main_v245_eq _).trans (ref_outDwa key')),
      h3.trans ((val_main_v244_eq _).trans (ref_outMisc key')), ha⟩

end Cert.BranchEq

end
-- ==== Proof.BranchFwd.Model.lean ====
module

public import proofs.«01_k».proof.Proof.Gen.BranchFwdIdeal.Frame
public import proofs.«01_k».proof.Proof.Branch.Lists

/-! The call `branch_fwd`: what the body stores into each buffer, as lists of stores.

A list is newest first. The taps are the last argument of all that comes after the convolution's input: at the first
point the body reads back the ones that it has just stored, at a later point those that the first point left. -/

@[expose] public section

set_option maxRecDepth 16384

noncomputable section

namespace Cert.BranchFwdVal

open Idealize.ShloMosaic Idealize.ShloMosaic.TcCoe Idealize.ShloMosaic.Tactic Idealize.SL.Sem
open Cert.BranchFwdIdeal Cert.BranchFwdIdeal.Gen

variable {F : FTy → Type} [FloatOps F]
variable (m : (ℓ : Loc nD τ sig) → Buf (Elt F) ℓ) (c : Dev nD) (t : Fin cfg0.N)

/-- A rectangle of a window that holds `x`. -/
abbrev part {s : Shape} {e : EltTy} (M : Memref sig .tc .vmem s e) (hM : M.IsWhole) (x : Vec F s e)
    (off size : Fin s.rank → ℕ) (h : ∀ a, off a + size a ≤ s.size a) :=
  View.readAt (Elt F) M.view (Rect.unit off size h).toLoadRect (hM.unread x)

theorem fits2 {o0 o1 n0 n1 d0 d1 : ℕ} (h0 : o0 + n0 ≤ d0) (h1 : o1 + n1 ≤ d1) :
    ∀ a : Fin 2, (![o0, o1] : Fin 2 → ℕ) a + (![n0, n1] : Fin 2 → ℕ) a ≤ (![d0, d1] : Fin 2 → ℕ) a :=
  Fin.forall_fin_two.mpr ⟨h0, h1⟩

theorem fits3 {o0 o1 o2 n0 n1 n2 d0 d1 d2 : ℕ} (h0 : o0 + n0 ≤ d0) (h1 : o1 + n1 ≤ d1) (h2 : o2 + n2 ≤ d2) :
    ∀ a : Fin 3, (![o0, o1, o2] : Fin 3 → ℕ) a + (![n0, n1, n2] : Fin 3 → ℕ) a ≤ (![d0, d1, d2] : Fin 3 → ℕ) a :=
  Fin.forall_fin_succ.mpr ⟨h0, Fin.forall_fin_two.mpr ⟨h1, h2⟩⟩

/-! ## The convolution -/

/-- Its input, after the rows before the tile. -/
def extA : List (View.Piece (Elt F) S288x1024 .f32) :=
  [⟨Rect.unit ![32, 0] S256x1024.size (fits2 (by decide) (by decide)),
    k0_pay40 (part (ms0_0 t) (hs0_0 t) (iblk m c 0 t) ![0, 0] S256x1024.size inb_S256x1024_S256x1024_0_0)
      (part (ms0_1 t) (hs0_1 t) (iblk m c 1 t) ![0, 0] S256x1024.size inb_S256x1024_S256x1024_0_0)⟩,
   ⟨Rect.unit ![0, 0] S32x1024.size (fits2 (by decide) (by decide)),
    k0_pay39 (grid0.coords t) (part (ms0_6 t) (hs0_6 t) (iblk m c 6 t) ![0, 0] S32x1024.size inb_S32x1024_S32x1024_0_0)
      (part (ms0_7 t) (hs0_7 t) (iblk m c 7 t) ![0, 0] S32x1024.size inb_S32x1024_S32x1024_0_0)⟩]

/-- The seven copies of it, shifted by one to seven rows. -/
def shifts (n : ℕ) : List (View.Piece (Elt F) S7x280x1024 .f32) :=
  Nat.rec [] (fun r acc => ⟨Rect.unit ![r % 7, 0, 0] S1x280x1024.size (fits3 (by omega) (by decide) (by decide)),
    k0_pay41 (scM0_0.view.readCov (extA m c t) (Rect.unit (s := S288x1024) ![r % 7 + 1, 0] S280x1024.size
      (fits2 (by omega) (by decide))).toLoadRect)⟩ :: acc) n

/-- 32 of its rows, for tap `k` of group `q`: read from the tile itself where the first one's number is a multiple of
eight, and from the copy shifted by the remainder otherwise. -/
def rows (q k : ℕ) : Vec F S32x1024 .f32 :=
  if h : (k % 31 + 2 + 32 * (q % 8)) % 8 = 0 then
    scM0_0.view.readCov (extA m c t) (Rect.unit (s := S288x1024) ![k % 31 + 2 + 32 * (q % 8), 0] S32x1024.size
      (fits2 (by omega) (by decide))).toLoadRect
  else shapeCast S32x1024 (scM0_2.view.readCov (shifts m c t 7) (Rect.unit (s := S7x280x1024)
    ![(k % 31 + 2 + 32 * (q % 8)) % 8 - 1, 8 * ((k % 31 + 2 + 32 * (q % 8)) / 8), 0] S1x32x1024.size
    (fits3 (by omega) (by omega) (by decide))).toLoadRect) shapeCasts_S1x32x1024_S32x1024

/-- The taps, each repeated on eight rows. -/
def tapsL (n : ℕ) : List (View.Piece (Elt F) S31x8x1024 .f32) :=
  Nat.rec [] (fun k acc => ⟨Rect.unit ![k % 31, 0, 0] S1x8x1024.size (fits3 (by omega) (by decide) (by decide)),
    k0_pay32 (part (ms0_11 t) (hs0_11 t) (iblk m c 11 t) ![k % 31, 0] S1x1024.size (fits2 (by omega) (by decide)))⟩
      :: acc) n

section Taps

/-- How the body reads the taps. -/
abbrev Taps (F : FTy → Type) := (B : LoadRect S31x8x1024) → (B.shape.Idx → Elt F .f32)

variable (T : Taps F)

/-- The convolution's output, 32 rows of group `q`, after `n` taps. -/
def conv (q n : ℕ) : FVec F S4x8x1024 .f32 :=
  Nat.rec (k0_pay48 (part (ms0_12 t) (hs0_12 t) (iblk m c 12 t) ![0, 0] S1x1024.size inb_S1x1024_S1x1024_0_0))
    (fun k acc => addf acc (mulf
      (broadcastTo S4x8x1024 (shapeCast S1x8x1024 (shapeCast S8x1024 (T (Rect.unit (s := S31x8x1024) ![k % 31, 0, 0]
          S1x8x1024.size (fits3 (by omega) (by decide) (by decide))).toLoadRect) shapeCasts_S1x8x1024_S8x1024)
          shapeCasts_S8x1024_S1x8x1024) broadcasts_S1x8x1024_S4x8x1024)
      (shapeCast S4x8x1024 (rows m c t q k) shapeCasts_S32x1024_S4x8x1024))) n

/-- What is stored into the tile of the convolution's output. -/
def a1L (n : ℕ) : List (View.Piece (Elt F) S256x1024 .f32) :=
  Nat.rec [] (fun q acc => ⟨Rect.unit ![32 * (q % 8), 0] S32x1024.size (fits2 (by omega) (by decide)),
    shapeCast S32x1024 (conv m c t T q 31) shapeCasts_S4x8x1024_S32x1024⟩ :: acc) n

/-! ## The three branches -/

/-- The first branch: the activation of the layer norm. -/
def act : FVec F S1x256x1024 .bf16 :=
  k0_pay166 (k0_pay165 ((ms0_16 t).view.readCov (a1L m c t T 8) (Rect.unit (s := S256x1024) ![0, 0] S256x1024.size
      inb_S256x1024_S256x1024_0_0).toLoadRect)
    (part (ms0_13 t) (hs0_13 t) (iblk m c 13 t) ![0, 0] S1x1024.size inb_S1x1024_S1x1024_0_0)
    (part (ms0_14 t) (hs0_14 t) (iblk m c 14 t) ![0, 0] S1x1024.size inb_S1x1024_S1x1024_0_0))

/-- The short convolution's input, after the rows before the tile. -/
def extB : List (View.Piece (Elt F) S264x1024 .f32) :=
  [⟨Rect.unit ![8, 0] S256x1024.size (fits2 (by decide) (by decide)),
    k0_pay168 (part (ms0_3 t) (hs0_3 t) (iblk m c 3 t) ![0, 0] S256x1024.size inb_S256x1024_S256x1024_0_0)
      (part (ms0_4 t) (hs0_4 t) (iblk m c 4 t) ![0, 0] S256x1024.size inb_S256x1024_S256x1024_0_0)⟩,
   ⟨Rect.unit ![0, 0] S8x1024.size (fits2 (by decide) (by decide)),
    k0_pay167 (k0_pay34 (grid0.coords t)) (part (ms0_8 t) (hs0_8 t) (iblk m c 8 t) ![0, 0] S8x1024.size inb_S8x1024_S8x1024_0_0)
      (part (ms0_9 t) (hs0_9 t) (iblk m c 9 t) ![0, 0] S8x1024.size inb_S8x1024_S8x1024_0_0)⟩]

/-- Its rows from `o` on. -/
def rowsB (o : ℕ) (h : o ≤ 8) : Vec F S256x1024 .f32 :=
  scM0_1.view.readCov (extB m c t) (Rect.unit (s := S264x1024) ![o, 0] S256x1024.size
    (fits2 (by omega) (by decide))).toLoadRect

/-- The second branch: the short convolution, gated. -/
def short : FVec F S1x256x1024 .bf16 :=
  k0_pay170 (k0_pay169
      (part (ms0_15 t) (hs0_15 t) (iblk m c 15 t) ![0, 0] S1x1024.size inb_S8x1024_S1x1024_0_0) (rowsB m c t 6 (by decide))
      (part (ms0_15 t) (hs0_15 t) (iblk m c 15 t) ![1, 0] S1x1024.size inb_S8x1024_S1x1024_1_0) (rowsB m c t 7 (by decide))
      (part (ms0_15 t) (hs0_15 t) (iblk m c 15 t) ![2, 0] S1x1024.size inb_S8x1024_S1x1024_2_0) (rowsB m c t 8 (by decide)))
    (part (ms0_2 t) (hs0_2 t) (iblk m c 2 t) ![0, 0] S256x1024.size inb_S256x1024_S256x1024_0_0)

/-- The queries, keys and values of a head. -/
def headQ (h : ℕ) : Vec F S256x256 .f32 :=
  part (ms0_5 t) (hs0_5 t) (iblk m c 5 t) ![0, 256 * (h % 4)] S256x256.size (fits2 (by decide) (by omega))
def headK (h : ℕ) : Vec F S256x256 .bf16 :=
  part (ms0_10 t) (hs0_10 t) (iblk m c 10 t) ![0, 256 * (h % 4)] S256x256.size (fits2 (by decide) (by omega))
def headV (h : ℕ) : Vec F S256x256 .bf16 :=
  part (ms0_10 t) (hs0_10 t) (iblk m c 10 t) ![0, 1024 + 256 * (h % 4)] S256x256.size (fits2 (by decide) (by omega))

/-- What is stored into the tile of the three branches, after `n` heads of the third one. -/
def aboL (n : ℕ) : List (View.Piece (Elt F) S3x256x1024 .bf16) :=
  Nat.rec
    [⟨Rect.unit ![1, 0, 0] S1x256x1024.size (fits3 (by decide) (by decide) (by decide)), short m c t⟩,
     ⟨Rect.unit ![0, 0, 0] S1x256x1024.size (fits3 (by decide) (by decide) (by decide)), act m c t T⟩]
    (fun h acc => ⟨Rect.unit ![2, 0, 256 * (h % 4)] S1x256x256.size (fits3 (by decide) (by decide) (by omega)),
      k0_pay171 (headQ m c t h) (headK m c t h) (headV m c t h)⟩ :: acc) n

end Taps

/-- The taps as the first point reads them. -/
abbrev tapsA : Taps F := scM0_3.view.readCov (tapsL m c t 31)

/-- The taps as a later point reads them, that finds `x`. -/
abbrev tapsB (x : Vec F S31x8x1024 .f32) : Taps F := fun B =>
  View.readAt (Elt F) scM0_3.view B ((Memref.isWhole_whole _ : scM0_3.IsWhole).unread x)

end Cert.BranchFwdVal
end
-- ==== Proof.BranchFwd.Stores.lean ====
module

public import proofs.«01_k».proof.Proof.BranchFwd.Model

/-! The call `branch_fwd`: the stores that the run of the body found are those of the lists. -/

@[expose] public section

set_option maxRecDepth 16384

noncomputable section

namespace Cert.BranchFwdVal

open Idealize.ShloMosaic Idealize.ShloMosaic.TcCoe Idealize.ShloMosaic.Tactic Idealize.SL.Sem
open Cert.BranchFwdIdeal Cert.BranchFwdIdeal.Gen

variable {F : FTy → Type} [FloatOps F]
variable (m : (ℓ : Loc nD τ sig) → Buf (Elt F) ℓ) (c : Dev nD) (t : Fin cfg0.N)

/-- The body's run at the first point. -/
def runA (h : t.val % 32 = 0) :=
  kernelRun0_A c (grid0.coords t)
    (ms0_0 t) (hs0_0 t) (ms0_1 t) (hs0_1 t) (ms0_2 t) (hs0_2 t) (ms0_3 t) (hs0_3 t) (ms0_4 t) (hs0_4 t) (ms0_5
    t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15
    t) (hs0_15 t) (ms0_16 t) (hs0_16 t) (ms0_17 t) (hs0_17 t) scM0_0 (Memref.isWhole_whole _) scM0_1
    (Memref.isWhole_whole _) scM0_2 (Memref.isWhole_whole _) scM0_3 (Memref.isWhole_whole _)
    ((hcond0_0 t).mpr h)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t)

/-- The body's run at a later point, that finds the taps `x`. -/
def runB (h : ¬t.val % 32 = 0) (x : Vec F S31x8x1024 .f32) :=
  kernelRun0_B c (grid0.coords t)
    (ms0_0 t) (hs0_0 t) (ms0_1 t) (hs0_1 t) (ms0_2 t) (hs0_2 t) (ms0_3 t) (hs0_3 t) (ms0_4 t) (hs0_4 t) (ms0_5
    t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15
    t) (hs0_15 t) (ms0_16 t) (hs0_16 t) (ms0_17 t) (hs0_17 t) scM0_0 (Memref.isWhole_whole _) scM0_1
    (Memref.isWhole_whole _) scM0_2 (Memref.isWhole_whole _) scM0_3 (Memref.isWhole_whole _)
    (fun e => h ((hcond0_0 t).mp e))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) x

theorem runA_taps (h : t.val % 32 = 0) : (runA m c t h).2.2.1 = tapsL m c t 31 := by sl_kernel_rfl
theorem runA_a1 (h : t.val % 32 = 0) : (runA m c t h).1 = a1L m c t (tapsA m c t) 8 := by sl_kernel_rfl
theorem runA_abo (h : t.val % 32 = 0) : (runA m c t h).2.1 = aboL m c t (tapsA m c t) 4 := by sl_kernel_rfl
theorem runB_a1 (h : ¬t.val % 32 = 0) (x : Vec F S31x8x1024 .f32) :
    (runB m c t h x).1 = a1L m c t (tapsB x) 8 := by sl_kernel_rfl
theorem runB_abo (h : ¬t.val % 32 = 0) (x : Vec F S31x8x1024 .f32) :
    (runB m c t h x).2.1 = aboL m c t (tapsB x) 4 := by sl_kernel_rfl

end Cert.BranchFwdVal
end
-- ==== Proof.BranchFwd.Spec.lean ====
module

public import proofs.«01_k».proof.Proof.Branch.Spec
public import Idealize.ShloMosaic.Lib.ValueIdxCore

/-! The three branches over the extended reals.

Rows and columns of the arrays are natural numbers, and only those of the arrays matter: kernel and reference are both
shown to compute these functions. -/

@[expose] public section

noncomputable section

namespace Cert.BranchFwdVal

open Idealize.ShloMosaic Cert.Common

/-! ## One row -/

section Row

variable (x g b : Fin 1024 → EReal) (j : Fin 1024)

def mean : EReal := Ideal.div (∑ k, x k) ((1024 : ℝ) : EReal)

def cen : EReal := x j - mean x

/-- The variance, with ε. -/
def var : EReal := Ideal.div (∑ k, cen x k * cen x k) ((1024 : ℝ) : EReal) + ((eps : ℝ) : EReal)

/-- The layer norm. -/
def ln : EReal := cen x j * Ideal.rsqrt (var x) * g j + b j

/-- Its activation. -/
def actRow : EReal := ln x g b j * Ideal.logistic (ln x g b j)

end Row

section Attention

variable (s : Fin 256 → EReal)

/-- The largest score. -/
def top : EReal := Finset.univ.fold max ⊥ s

def weight (l : Fin 256) : EReal := Ideal.exp (s l - top s)

/-- The softmax. -/
def prob (l : Fin 256) : EReal := Ideal.div (weight s l) (∑ k, weight s k)

def scores (q : Fin 256 → EReal) (K : Fin 256 → Fin 256 → EReal) (l : Fin 256) : EReal :=
  (∑ d, q d * K l d) * ((1 / 16 : ℝ) : EReal)

/-- The attention of one row of one head. -/
def attRow (q : Fin 256 → EReal) (K V : Fin 256 → Fin 256 → EReal) (d : Fin 256) : EReal :=
  ∑ l, prob (scores q K) l * V l d

end Attention

/-! ## The arrays -/

/-- Rows of an array with `d` rows of zeros before it and zeros after its 8192 rows. -/
def pre (d : ℕ) (f : ℕ → Fin 1024 → EReal) (n : ℕ) (j : Fin 1024) : EReal :=
  if d ≤ n ∧ n - d < 8192 then f (n - d) j else 0

theorem pre_of {d n n' : ℕ} (f : ℕ → Fin 1024 → EReal) (j : Fin 1024) (h : n = d + n') (h' : n' < 8192) :
    pre d f n j = f n' j := by
  subst h
  have e : d + n' - d = n' := by omega
  unfold pre
  rw [e, if_pos ⟨by omega, h'⟩]

theorem pre_lo {d n : ℕ} (f : ℕ → Fin 1024 → EReal) (j : Fin 1024) (h : n < d) : pre d f n j = 0 :=
  if_neg fun h' => by omega

/-- Only how far the row is from the first one matters. -/
theorem pre_shift {d d' n n' : ℕ} (f : ℕ → Fin 1024 → EReal) (j : Fin 1024) (h : n + d' = n' + d) :
    pre d f n j = pre d' f n' j := by
  unfold pre
  have e : (d ≤ n ∧ n - d < 8192) ↔ (d' ≤ n' ∧ n' - d' < 8192) := by omega
  by_cases hd : d ≤ n
  · rw [if_congr e rfl rfl, show n - d = n' - d' by omega]
  · rw [if_neg fun h' => hd h'.1, if_neg fun h' => by omega]

/-- The arguments: the projections, keys and values, the weights. -/
structure Args where
  P : ℕ → ℕ → EReal
  KV : Fin 256 → ℕ → EReal
  wa : ℕ → Fin 1024 → EReal
  ba : Fin 1024 → EReal
  lg : Fin 1024 → EReal
  lb : Fin 1024 → EReal
  wb : ℕ → Fin 1024 → EReal

namespace Args

variable (R : Args) (n : ℕ) (j : Fin 1024)

/-- The gated linear unit. -/
def a : EReal := R.P n j * Ideal.logistic (R.P n (1024 + j))

/-- The convolution's output. -/
def a1 : EReal := (∑ k : Fin 31, R.wa k j * pre 30 R.a (n + k) j) + R.ba j

/-- The short convolution's input. -/
def x : EReal := R.P n (3072 + j) * R.P n (4096 + j)

/-- The short convolution's output. -/
def xc : EReal := R.wb 0 j * pre 2 R.x n j + R.wb 1 j * pre 2 R.x (n + 1) j + R.wb 2 j * pre 2 R.x (n + 2) j

variable (h : ℕ)

/-- The queries, keys and values of head `h`. -/
def q (d : Fin 256) : EReal := R.P n (5120 + 256 * h + d)
def k (l d : Fin 256) : EReal := R.KV l (256 * h + d)
def v (l d : Fin 256) : EReal := R.KV l (1024 + 256 * h + d)

/-- The three branches. -/
def branch : ℕ → EReal
  | 0 => actRow (R.a1 n) R.lg R.lb j
  | 1 => R.P n (2048 + j) * R.xc n j
  | _ => attRow (R.q n (j / 256)) (R.k (j / 256)) (R.v (j / 256)) ⟨j % 256, Nat.mod_lt _ (by decide)⟩

end Args

/-- The program's arguments hold `R`. -/
structure Holds (R : Args) (p : FVec Ideal ⟨2, ![8192, 12288]⟩ .f32) (kv : FVec Ideal ⟨2, ![256, 2048]⟩ .f32)
    (wa : FVec Ideal ⟨2, ![31, 1024]⟩ .f32) (ba lg lb : FVec Ideal ⟨1, ![1024]⟩ .f32)
    (wb : FVec Ideal ⟨2, ![3, 1024]⟩ .f32) : Prop where
  p : ∀ (n : Fin 8192) (k : Fin 12288), p (ix2 n k) = R.P n k
  kv : ∀ (l : Fin 256) (k : Fin 2048), kv (ix2 l k) = R.KV l k
  wa : ∀ (k : Fin 31) (j : Fin 1024), wa (ix2 k j) = R.wa k j
  ba : ∀ j : Fin 1024, ba (ix1 j) = R.ba j
  lg : ∀ j : Fin 1024, lg (ix1 j) = R.lg j
  lb : ∀ j : Fin 1024, lb (ix1 j) = R.lb j
  wb : ∀ (k : Fin 3) (j : Fin 1024), wb (ix2 k j) = R.wb k j

/-- The arguments as functions of whole numbers. -/
def argsOf (p : FVec Ideal ⟨2, ![8192, 12288]⟩ .f32) (kv : FVec Ideal ⟨2, ![256, 2048]⟩ .f32)
    (wa : FVec Ideal ⟨2, ![31, 1024]⟩ .f32) (ba lg lb : FVec Ideal ⟨1, ![1024]⟩ .f32)
    (wb : FVec Ideal ⟨2, ![3, 1024]⟩ .f32) : Args where
  P n k := p (ix2 ⟨n % 8192, Nat.mod_lt _ (by decide)⟩ ⟨k % 12288, Nat.mod_lt _ (by decide)⟩)
  KV l k := kv (ix2 l ⟨k % 2048, Nat.mod_lt _ (by decide)⟩)
  wa k j := wa (ix2 ⟨k % 31, Nat.mod_lt _ (by decide)⟩ j)
  ba j := ba (ix1 j)
  lg j := lg (ix1 j)
  lb j := lb (ix1 j)
  wb k j := wb (ix2 ⟨k % 3, Nat.mod_lt _ (by decide)⟩ j)

theorem mod_fin {N : ℕ} (n : Fin N) (h : n.val % N < N) : (⟨n.val % N, h⟩ : Fin N) = n :=
  Fin.ext (Nat.mod_eq_of_lt n.isLt)

theorem holds_argsOf (p : FVec Ideal ⟨2, ![8192, 12288]⟩ .f32) (kv : FVec Ideal ⟨2, ![256, 2048]⟩ .f32)
    (wa : FVec Ideal ⟨2, ![31, 1024]⟩ .f32) (ba lg lb : FVec Ideal ⟨1, ![1024]⟩ .f32)
    (wb : FVec Ideal ⟨2, ![3, 1024]⟩ .f32) : Holds (argsOf p kv wa ba lg lb wb) p kv wa ba lg lb wb where
  p n k := by simp only [argsOf, mod_fin]
  kv l k := by simp only [argsOf, mod_fin]
  wa k j := by simp only [argsOf, mod_fin]
  ba j := rfl
  lg j := rfl
  lb j := rfl
  wb k j := by simp only [argsOf, mod_fin]

/-- The two results. -/
def outA1 (R : Args) : FVec Ideal ⟨2, ![8192, 1024]⟩ .f32 := fun i => R.a1 (i 0).val ⟨(i 1).val, (i 1).isLt⟩
def outAbo (R : Args) : FVec Ideal ⟨3, ![3, 8192, 1024]⟩ .bf16 :=
  fun i => R.branch (i 1).val ⟨(i 2).val, (i 2).isLt⟩ (i 0).val

end Cert.BranchFwdVal
end
-- ==== Proof.BranchFwd.Pay.lean ====
module

public import Idealize.ShloMosaic.Lib.Pipeline.ValueKit
public import Idealize.ShloMosaic.Lib.Pointwise
public import Idealize.ShloMosaic.Lib.Claim
public import proofs.«01_k».proof.Proof.Gen.BranchFwdIdeal.Skeleton
public import proofs.«01_k».proof.Proof.BranchFwd.Spec

/-! The call `branch_fwd`: what the operations between loads and stores compute. -/

@[expose] public section

set_option maxRecDepth 16384

noncomputable section

namespace Cert.BranchFwdVal

open Idealize.ShloMosaic Idealize.ShloMosaic.TcCoe Idealize.SL.Sem
open Cert.BranchFwdIdeal Cert.BranchFwdIdeal.Gen Cert.Common
open Cert.Branch (word_1024 word_scale word_ninf)

/-! ## The convolutions -/

theorem pay39 (i : grid0.Coords) (a g : Vec Ideal S32x1024 .f32) (e : Fin 32) (j : Fin 1024) :
    k0_pay39 (F := Ideal) i a g (ix2 e j) = a (ix2 e j) * Ideal.logistic (g (ix2 e j)) * k0_pay34 (F := Ideal) i := by
  unfold k0_pay39
  generalize k0_pay34 (F := Ideal) i = z
  pointwise

theorem pay40 (a g : Vec Ideal S256x1024 .f32) (e : Fin 256) (j : Fin 1024) :
    k0_pay40 (F := Ideal) a g (ix2 e j) = a (ix2 e j) * Ideal.logistic (g (ix2 e j)) := by pointwise [k0_pay40]

theorem pay41 (w : Vec Ideal S280x1024 .f32) (x : Fin 280) (j : Fin 1024) :
    k0_pay41 (F := Ideal) w (ix3 0 x j) = w (ix2 x j) := by pointwise [k0_pay41]

theorem dropAxis (e : Vec Ideal S1x32x1024 .f32) (x : Fin 32) (j : Fin 1024) :
    shapeCast S32x1024 e shapeCasts_S1x32x1024_S32x1024 (ix2 x j) = e (ix3 0 x j) := by pointwise

theorem pay32 (v : Vec Ideal S1x1024 .f32) (x : Fin 8) (j : Fin 1024) :
    k0_pay32 (F := Ideal) v (ix3 0 x j) = v (ix2 0 j) := by pointwise [k0_pay32]

theorem pay48 (v : Vec Ideal S1x1024 .f32) (g : Fin 4) (x : Fin 8) (j : Fin 1024) :
    k0_pay48 (F := Ideal) v (ix3 g x j) = v (ix2 0 j) := by pointwise [k0_pay48]

theorem tapStep (t : Vec Ideal S1x8x1024 .f32) (e : Vec Ideal S32x1024 .f32) (acc : FVec Ideal S4x8x1024 .f32)
    (g : Fin 4) (x : Fin 8) (j : Fin 1024) :
    (addf acc (mulf (broadcastTo S4x8x1024 (shapeCast S1x8x1024 (shapeCast S8x1024 t shapeCasts_S1x8x1024_S8x1024)
        shapeCasts_S8x1024_S1x8x1024) broadcasts_S1x8x1024_S4x8x1024)
      (shapeCast S4x8x1024 e shapeCasts_S32x1024_S4x8x1024)) : FVec Ideal S4x8x1024 .f32) (ix3 g x j)
      = acc (ix3 g x j) + t (ix3 0 x j) * e (ix2 ⟨g.val * 8 + x.val, by omega⟩ j) := by
  pointwise

theorem asRows (e : FVec Ideal S4x8x1024 .f32) (i : Fin 32) (j : Fin 1024) :
    shapeCast S32x1024 e shapeCasts_S4x8x1024_S32x1024 (ix2 i j)
      = e (ix3 ⟨i.val / 8, by omega⟩ ⟨i.val % 8, by omega⟩ j) := by
  pointwise

theorem pay167 (z : Ideal .f32) (a g : Vec Ideal S8x1024 .f32) (e : Fin 8) (j : Fin 1024) :
    k0_pay167 (F := Ideal) z a g (ix2 e j) = a (ix2 e j) * g (ix2 e j) * z := by pointwise [k0_pay167]

theorem pay168 (a g : Vec Ideal S256x1024 .f32) (e : Fin 256) (j : Fin 1024) :
    k0_pay168 (F := Ideal) a g (ix2 e j) = a (ix2 e j) * g (ix2 e j) := by pointwise [k0_pay168]

theorem pay169 (w0 w1 w2 : Vec Ideal S1x1024 .f32) (x0 x1 x2 : Vec Ideal S256x1024 .f32) (i : Fin 256) (j : Fin 1024) :
    k0_pay169 (F := Ideal) w0 x0 w1 x1 w2 x2 (ix2 i j)
      = w0 (ix2 0 j) * x0 (ix2 i j) + w1 (ix2 0 j) * x1 (ix2 i j) + w2 (ix2 0 j) * x2 (ix2 i j) := by
  pointwise [k0_pay169]

theorem pay170 (c : FVec Ideal S256x1024 .f32) (g : Vec Ideal S256x1024 .f32) (i : Fin 256) (j : Fin 1024) :
    k0_pay170 (F := Ideal) c g (ix3 0 i j) = g (ix2 i j) * c (ix2 i j) := by pointwise [k0_pay170]

/-! ## The layer norm and its activation -/

theorem pay166 (w : FVec Ideal S256x1024 .bf16) (i : Fin 256) (j : Fin 1024) :
    k0_pay166 (F := Ideal) w (ix3 0 i j) = w (ix2 i j) := by pointwise [k0_pay166]

theorem pay165 (v : Vec Ideal S256x1024 .f32) (g b : Vec Ideal S1x1024 .f32) (i : Fin 256) (j : Fin 1024) :
    k0_pay165 (F := Ideal) v g b (ix2 i j)
      = actRow (fun j => v (ix2 i j)) (fun j => g (ix2 0 j)) (fun j => b (ix2 0 j)) j := by
  pointwise [k0_pay165, word_1024, word_eps]
  rfl

/-! ## The attention -/

theorem pay171 (q : Vec Ideal S256x256 .f32) (k v : Vec Ideal S256x256 .bf16) (i d : Fin 256) :
    k0_pay171 (F := Ideal) q k v (ix3 0 i d)
      = attRow (fun d => q (ix2 i d)) (fun l d => k (ix2 l d)) (fun l d => v (ix2 l d)) d := by
  pointwise [k0_pay171, word_scale, word_ninf]
  rfl

end Cert.BranchFwdVal
end
-- ==== Proof.BranchFwd.Rows.lean ====
module

public import proofs.«01_k».proof.Proof.BranchFwd.Stores
public import proofs.«01_k».proof.Proof.BranchFwd.Pay

/-! The call `branch_fwd`: what one tile stores, where its blocks hold the rows of the arrays. -/

@[expose] public section

set_option maxRecDepth 16384

noncomputable section

namespace Cert.BranchFwdVal

open Idealize.ShloMosaic Idealize.ShloMosaic.TcCoe Idealize.SL.Sem
open Cert.BranchFwdIdeal Cert.BranchFwdIdeal.Gen Cert.Stores Cert.Common

variable (m : (ℓ : Loc nD τ sig) → Buf (Elt Ideal) ℓ) (c : Dev nD) (t : Fin cfg0.N)

/-- The blocks of tile `t` hold the rows of the arrays `R`. -/
structure Tile (R : Args) : Prop where
  b0 : ∀ (i : Fin 256) (j : Fin 1024), (iblk m c 0 t : Vec Ideal S256x1024 .f32) (ix2 i j) = R.P (256 * t.val + i) j
  b1 : ∀ (i : Fin 256) (j : Fin 1024), (iblk m c 1 t : Vec Ideal S256x1024 .f32) (ix2 i j) = R.P (256 * t.val + i) (1024 + j)
  b2 : ∀ (i : Fin 256) (j : Fin 1024), (iblk m c 2 t : Vec Ideal S256x1024 .f32) (ix2 i j) = R.P (256 * t.val + i) (2048 + j)
  b3 : ∀ (i : Fin 256) (j : Fin 1024), (iblk m c 3 t : Vec Ideal S256x1024 .f32) (ix2 i j) = R.P (256 * t.val + i) (3072 + j)
  b4 : ∀ (i : Fin 256) (j : Fin 1024), (iblk m c 4 t : Vec Ideal S256x1024 .f32) (ix2 i j) = R.P (256 * t.val + i) (4096 + j)
  b5 : ∀ (i : Fin 256) (j : Fin 1024), (iblk m c 5 t : Vec Ideal S256x1024 .f32) (ix2 i j) = R.P (256 * t.val + i) (5120 + j)
  b6 : ∀ (i : Fin 32) (j : Fin 1024), (iblk m c 6 t : Vec Ideal S32x1024 .f32) (ix2 i j) = R.P (32 * (8 * t.val - 1) + i) j
  b7 : ∀ (i : Fin 32) (j : Fin 1024), (iblk m c 7 t : Vec Ideal S32x1024 .f32) (ix2 i j)
    = R.P (32 * (8 * t.val - 1) + i) (1024 + j)
  b8 : ∀ (i : Fin 8) (j : Fin 1024), (iblk m c 8 t : Vec Ideal S8x1024 .f32) (ix2 i j)
    = R.P (8 * (32 * t.val - 1) + i) (3072 + j)
  b9 : ∀ (i : Fin 8) (j : Fin 1024), (iblk m c 9 t : Vec Ideal S8x1024 .f32) (ix2 i j)
    = R.P (8 * (32 * t.val - 1) + i) (4096 + j)
  b10 : ∀ (l : Fin 256) (j : Fin 2048), (iblk m c 10 t : Vec Ideal S256x2048 .bf16) (ix2 l j) = R.KV l j
  b11 : ∀ (k : Fin 32) (j : Fin 1024), k.val < 31 → (iblk m c 11 t : Vec Ideal S32x1024 .f32) (ix2 k j) = R.wa k j
  b12 : ∀ j : Fin 1024, (iblk m c 12 t : Vec Ideal S1x1024 .f32) (ix2 0 j) = R.ba j
  b13 : ∀ j : Fin 1024, (iblk m c 13 t : Vec Ideal S1x1024 .f32) (ix2 0 j) = R.lg j
  b14 : ∀ j : Fin 1024, (iblk m c 14 t : Vec Ideal S1x1024 .f32) (ix2 0 j) = R.lb j
  b15 : ∀ (k : Fin 8) (j : Fin 1024), k.val < 3 → (iblk m c 15 t : Vec Ideal S8x1024 .f32) (ix2 k j) = R.wb k j

theorem tile_lt : t.val < 32 := lt_of_lt_of_eq t.isLt N_0

/-- The factor of the rows before the tile. -/
theorem notFirst : k0_pay34 (F := Ideal) (grid0.coords t) = if t.val = 0 then (0 : EReal) else 1 := by
  have e : ∀ t : Fin cfg0.N, (Scalar.extui (Scalar.cmpi .sgt (BitVec.ofNat 32 (grid0.coords t 0).val) 0#32)
      : BitVec 32) = if t.val = 0 then 0#32 else 1#32 := by decide +kernel
  unfold k0_pay34
  dsimp only
  rw [e t]
  split
  · show (((0#32 : BitVec 32).toInt : ℝ) : EReal) = _
    norm_num
  · show (((1#32 : BitVec 32).toInt : ℝ) : EReal) = _
    norm_num

variable {m c t} {R : Args} (H : Tile m c t R)

section Blocks

include H

/-! ## The extended tiles -/

theorem extA_at (e : Fin 288) (j : Fin 1024) :
    View.canon (extA m c t) (ix2 e j) = pre 32 R.a (256 * t.val + e) j := by
  have ht := tile_lt t
  unfold extA
  by_cases he : 32 ≤ e.val
  · refine (in2 _ _ _ _ ⟨e.val - 32, by omega⟩ j (by show e.val = 32 + (e.val - 32); omega)
      (by show j.val = 0 + j.val; omega)).trans ((pay40 _ _ _ _).trans ?_)
    rw [pre_of (n' := 256 * t.val + (e.val - 32)) _ _ (by omega) (by omega)]
    exact congrArg₂ (· * ·) ((whole2 _ _ _ _ _ _).trans (H.b0 _ _))
      (congrArg Ideal.logistic ((whole2 _ _ _ _ _ _).trans (H.b1 _ _)))
  · refine (out2 _ _ _ _ (Or.inl (by show e.val < 32; omega))).trans ?_
    refine (in2 _ _ _ _ ⟨e.val, by omega⟩ j (by show e.val = 0 + e.val; omega)
      (by show j.val = 0 + j.val; omega)).trans ((pay39 _ _ _ _ _).trans ?_)
    rw [notFirst]
    by_cases h0 : t.val = 0
    · rw [if_pos h0, mul_zero, pre_lo _ _ (by omega)]
    · rw [if_neg h0, mul_one, pre_of (n' := 32 * (8 * t.val - 1) + e.val) _ _ (by omega) (by omega)]
      exact congrArg₂ (· * ·) ((whole2 _ _ _ _ _ _).trans (H.b6 _ _))
        (congrArg Ideal.logistic ((whole2 _ _ _ _ _ _).trans (H.b7 _ _)))

theorem extB_at (e : Fin 264) (j : Fin 1024) :
    View.canon (extB m c t) (ix2 e j) = pre 8 R.x (256 * t.val + e) j := by
  have ht := tile_lt t
  unfold extB
  by_cases he : 8 ≤ e.val
  · refine (in2 _ _ _ _ ⟨e.val - 8, by omega⟩ j (by show e.val = 8 + (e.val - 8); omega)
      (by show j.val = 0 + j.val; omega)).trans ((pay168 _ _ _ _).trans ?_)
    rw [pre_of (n' := 256 * t.val + (e.val - 8)) _ _ (by omega) (by omega)]
    exact congrArg₂ (· * ·) ((whole2 _ _ _ _ _ _).trans (H.b3 _ _)) ((whole2 _ _ _ _ _ _).trans (H.b4 _ _))
  · refine (out2 _ _ _ _ (Or.inl (by show e.val < 8; omega))).trans ?_
    refine (in2 _ _ _ _ ⟨e.val, by omega⟩ j (by show e.val = 0 + e.val; omega)
      (by show j.val = 0 + j.val; omega)).trans ((pay167 _ _ _ _ _).trans ?_)
    rw [notFirst]
    by_cases h0 : t.val = 0
    · rw [if_pos h0, mul_zero, pre_lo _ _ (by omega)]
    · rw [if_neg h0, mul_one, pre_of (n' := 8 * (32 * t.val - 1) + e.val) _ _ (by omega) (by omega)]
      exact congrArg₂ (· * ·) ((whole2 _ _ _ _ _ _).trans (H.b8 _ _)) ((whole2 _ _ _ _ _ _).trans (H.b9 _ _))

/-! ## The rows read from them -/

omit H in
theorem shifts_at (n : ℕ) (hn : n ≤ 7) (r : Fin 7) (hr : r.val < n) (x : Fin 280) (j : Fin 1024) :
    View.canon (shifts m c t n) (ix3 r x j) = View.canon (extA m c t) (ix2 ⟨r.val + 1 + x.val, by omega⟩ j) := by
  induction n with
  | zero => exact absurd hr (by omega)
  | succ n ih =>
    by_cases h : r.val = n
    · refine (in3 _ _ _ _ (0 : Fin 1) x j (by show r.val = n % 7 + 0; omega) (by show x.val = 0 + x.val; omega)
        (by show j.val = 0 + j.val; omega)).trans ((pay41 _ _ _).trans ((load2 _ _ _ _ _ (by omega) (by omega)).trans ?_))
      refine congrArg _ (congrArg₂ _ (Fin.ext ?_) (Fin.ext (Nat.zero_add _)))
      show n % 7 + 1 + x.val = r.val + 1 + x.val
      omega
    · refine (out3 _ _ _ _ ?_).trans (ih (by omega) (by omega))
      show r.val < n % 7 ∨ n % 7 + 1 ≤ r.val
      omega

/-- However they are read, the rows are those of the extended tile. -/
theorem rows_at (q : ℕ) (hq : q < 8) (k : ℕ) (hk : k < 31) (i : Fin 32) (j : Fin 1024) :
    rows m c t q k (ix2 i j) = pre 30 R.a (256 * t.val + 32 * q + i + k) j := by
  have e : rows m c t q k (ix2 i j)
      = View.canon (extA m c t) (ix2 ⟨k % 31 + 2 + 32 * (q % 8) + i.val, by omega⟩ j) := by
    unfold rows
    split
    · refine (load2 _ _ _ _ _ (by omega) (by omega)).trans ?_
      exact congrArg _ (congrArg₂ _ rfl (Fin.ext (Nat.zero_add _)))
    · refine (dropAxis _ _ _).trans ((load3 _ _ _ _ _ _ (by omega)
        (by show 8 * ((k % 31 + 2 + 32 * (q % 8)) / 8) + i.val < _; omega) (by omega)).trans ?_)
      refine (shifts_at 7 le_rfl _ (by show (k % 31 + 2 + 32 * (q % 8)) % 8 - 1 + 0 < 7; omega) _ _).trans ?_
      refine congrArg _ (congrArg₂ _ (Fin.ext ?_) (Fin.ext (Nat.zero_add _)))
      show (k % 31 + 2 + 32 * (q % 8)) % 8 - 1 + 0 + 1 + (8 * ((k % 31 + 2 + 32 * (q % 8)) / 8) + i.val)
        = k % 31 + 2 + 32 * (q % 8) + i.val
      omega
  refine e.trans ((extA_at H _ _).trans (pre_shift _ _ ?_))
  show 256 * t.val + (k % 31 + 2 + 32 * (q % 8) + i.val) + 30 = _
  omega

theorem rowsB_at (o : ℕ) (h : o ≤ 8) (i : Fin 256) (j : Fin 1024) :
    rowsB m c t o h (ix2 i j) = pre 8 R.x (256 * t.val + (o + i)) j :=
  (load2 _ _ _ _ _ (by omega) (by omega)).trans
    ((congrArg _ (congrArg₂ _ rfl (Fin.ext (Nat.zero_add _)))).trans (extB_at H ⟨o + i.val, by omega⟩ j))

/-! ## The taps -/

theorem w11 (k : ℕ) (hk : k < 31) (inb) (j : Fin 1024) :
    part (ms0_11 t) (hs0_11 t) (iblk m c 11 t) ![k, 0] S1x1024.size inb (ix2 0 j) = R.wa k j := by
  refine (held2 _ _ _ _ _ _ (by show k + 0 < 32; omega) (by omega)).trans ((congrArg _ ?_).trans (H.b11 ⟨k, by omega⟩ j hk))
  exact congrArg₂ _ (Fin.ext rfl) (Fin.ext (Nat.zero_add _))

theorem w15 (k : ℕ) (hk : k < 3) (inb) (j : Fin 1024) :
    part (ms0_15 t) (hs0_15 t) (iblk m c 15 t) ![k, 0] S1x1024.size inb (ix2 0 j) = R.wb k j := by
  refine (held2 _ _ _ _ _ _ (by show k + 0 < 8; omega) (by omega)).trans ((congrArg _ ?_).trans (H.b15 ⟨k, by omega⟩ j hk))
  exact congrArg₂ _ (Fin.ext rfl) (Fin.ext (Nat.zero_add _))

theorem tapsL_at (n : ℕ) (hn : n ≤ 31) (k : Fin 31) (hk : k.val < n) (x : Fin 8) (j : Fin 1024) :
    View.canon (tapsL m c t n) (ix3 k x j) = R.wa k j := by
  induction n with
  | zero => exact absurd hk (by omega)
  | succ n ih =>
    by_cases h : k.val = n
    · refine (in3 _ _ _ _ (0 : Fin 1) x j (by show k.val = n % 31 + 0; omega) (by show x.val = 0 + x.val; omega)
        (by show j.val = 0 + j.val; omega)).trans ((pay32 _ _ _).trans ((w11 H _ (by omega) _ _).trans ?_))
      rw [show n % 31 = k.val by omega]
    · refine (out3 _ _ _ _ ?_).trans (ih (by omega) (by omega))
      show k.val < n % 31 ∨ n % 31 + 1 ≤ k.val
      omega

/-! ## The second and the third branch -/

theorem short_at (i : Fin 256) (j : Fin 1024) : short m c t (ix3 0 i j) = R.branch (256 * t.val + i) j 1 := by
  unfold short
  refine (pay170 _ _ _ _).trans (congrArg₂ (· * ·) ((whole2 _ _ _ _ _ _).trans (H.b2 _ _)) ((pay169 _ _ _ _ _ _ _ _).trans ?_))
  rw [w15 H 0 (by decide), w15 H 1 (by decide), w15 H 2 (by decide), rowsB_at H, rowsB_at H, rowsB_at H]
  unfold Args.xc
  refine congrArg₂ (· + ·) (congrArg₂ (· + ·) ?_ ?_) ?_ <;>
    exact congrArg (_ * ·) (pre_shift _ _ (by omega))

theorem headQ_at (h : ℕ) (hh : h < 4) (i d : Fin 256) : headQ m c t h (ix2 i d) = R.q (256 * t.val + i) h d := by
  refine (held2 _ _ _ _ _ _ (by omega) (by show 256 * (h % 4) + d.val < _; omega)).trans ((H.b5 _ _).trans ?_)
  show R.P (256 * t.val + (0 + i.val)) (5120 + (256 * (h % 4) + d.val)) = R.P (256 * t.val + i.val) (5120 + 256 * h + d.val)
  congr 1 <;> omega

theorem headK_at (h : ℕ) (hh : h < 4) (l d : Fin 256) : headK m c t h (ix2 l d) = R.k h l d := by
  refine (held2 _ _ _ _ _ _ (by omega) (by show 256 * (h % 4) + d.val < _; omega)).trans ((H.b10 _ _).trans ?_)
  refine congrArg₂ R.KV (Fin.ext (Nat.zero_add _)) ?_
  show 256 * (h % 4) + d.val = 256 * h + d.val
  omega

theorem headV_at (h : ℕ) (hh : h < 4) (l d : Fin 256) : headV m c t h (ix2 l d) = R.v h l d := by
  refine (held2 _ _ _ _ _ _ (by omega) (by show 1024 + 256 * (h % 4) + d.val < _; omega)).trans ((H.b10 _ _).trans ?_)
  refine congrArg₂ R.KV (Fin.ext (Nat.zero_add _)) ?_
  show 1024 + 256 * (h % 4) + d.val = 1024 + 256 * h + d.val
  omega

theorem head_at (h : ℕ) (hh : h < 4) (i d : Fin 256) :
    k0_pay171 (F := Ideal) (headQ m c t h) (headK m c t h) (headV m c t h) (ix3 0 i d)
      = attRow (R.q (256 * t.val + i) h) (R.k h) (R.v h) d := by
  refine (pay171 _ _ _ _ _).trans ?_
  simp only [headQ_at H h hh, headK_at H h hh, headV_at H h hh]

end Blocks

/-! ## The convolution and the first branch -/

section Conv

variable {T : Taps Ideal}
  (hT : ∀ (k : ℕ) (x : Fin 8) (j : Fin 1024), T (Rect.unit (s := S31x8x1024) ![k % 31, 0, 0] S1x8x1024.size
    (fits3 (by omega) (by decide) (by decide))).toLoadRect (ix3 0 x j) = R.wa (k % 31) j)

include H hT

theorem conv_at (q : ℕ) (hq : q < 8) (n : ℕ) (hn : n ≤ 31) (g : Fin 4) (x : Fin 8) (j : Fin 1024) :
    conv m c t T q n (ix3 g x j) = (∑ k ∈ Finset.range n, R.wa k j
      * pre 30 R.a (256 * t.val + 32 * q + (8 * g + x) + k) j) + R.ba j := by
  induction n with
  | zero =>
    refine (pay48 _ g x j).trans ((whole2 _ _ _ _ _ _).trans ((H.b12 j).trans ?_))
    rw [Finset.sum_range_zero, zero_add]
  | succ n ih =>
    refine (tapStep _ _ _ _ _ _).trans ((congrArg₂ (· + ·) (ih (by omega))
      (congrArg₂ (· * ·) (hT n x j) (rows_at H q hq n (by omega) _ j))).trans ?_)
    rw [Finset.sum_range_succ, add_right_comm, Nat.mod_eq_of_lt (show n < 31 by omega)]
    refine congrArg (· + _) (congrArg (_ + ·) (congrArg (_ * ·) (congrArg (fun n => pre 30 R.a n j) ?_)))
    show 256 * t.val + 32 * q + (g.val * 8 + x.val) + n = _
    omega

theorem a1L_at (n : ℕ) (hn : n ≤ 8) (i : Fin 256) (hi : i.val < 32 * n) (j : Fin 1024) :
    View.canon (a1L m c t T n) (ix2 i j) = R.a1 (256 * t.val + i) j := by
  induction n with
  | zero => exact absurd hi (by omega)
  | succ n ih =>
    by_cases h : 32 * n ≤ i.val
    · refine (in2 _ _ _ _ (⟨i.val - 32 * n, by omega⟩ : Fin 32) j
          (by show i.val = 32 * (n % 8) + (i.val - 32 * n); omega) (by show j.val = 0 + j.val; omega)).trans
        ((asRows _ _ _).trans ((conv_at H hT n (by omega) 31 le_rfl _ _ _).trans ?_))
      unfold Args.a1
      rw [Finset.sum_range]
      refine congrArg (· + _) (Finset.sum_congr rfl fun k _ => congrArg (_ * ·) (congrArg (fun n => pre 30 R.a n j) ?_))
      show 256 * t.val + 32 * n + (8 * ((i.val - 32 * n) / 8) + (i.val - 32 * n) % 8) + k.val = _
      omega
    · refine (out2 _ _ _ _ (Or.inl (by show i.val < 32 * (n % 8); omega))).trans (ih (by omega) (by omega))

theorem act_at (i : Fin 256) (j : Fin 1024) : act m c t T (ix3 0 i j) = R.branch (256 * t.val + i) j 0 := by
  unfold act
  refine (pay166 _ _ _).trans ((pay165 _ _ _ _ _).trans ?_)
  show _ = actRow (R.a1 (256 * t.val + i)) R.lg R.lb j
  congr 1
  · funext j
    refine (load2 _ _ _ _ _ (by omega) (by omega)).trans ((congrArg _ ?_).trans (a1L_at H hT 8 le_rfl i (by omega) j))
    exact congrArg₂ _ (Fin.ext (Nat.zero_add _)) (Fin.ext (Nat.zero_add _))
  · funext j
    exact (whole2 _ _ _ _ _ _).trans (H.b13 j)
  · funext j
    exact (whole2 _ _ _ _ _ _).trans (H.b14 j)

theorem aboL_first (n : ℕ) (hn : n ≤ 4) (b : Fin 3) (hb : b.val < 2) (i : Fin 256) (j : Fin 1024) :
    View.canon (aboL m c t T n) (ix3 b i j) = R.branch (256 * t.val + i) j b := by
  induction n with
  | zero =>
    by_cases h : b.val = 1
    · refine (in3 _ _ _ _ (0 : Fin 1) i j (by show b.val = 1 + 0; omega) (by show i.val = 0 + i.val; omega)
        (by show j.val = 0 + j.val; omega)).trans ((short_at H i j).trans (by rw [h]))
    · refine (out3 _ _ _ _ (Or.inl (by show b.val < 1; omega))).trans
        ((in3 _ _ _ _ (0 : Fin 1) i j (by show b.val = 0 + 0; omega) (by show i.val = 0 + i.val; omega)
        (by show j.val = 0 + j.val; omega)).trans ((act_at H hT i j).trans (by rw [show b.val = 0 by omega])))
  | succ n ih => exact (out3 _ _ _ _ (Or.inl (by show b.val < 2; omega))).trans (ih (by omega))

omit hT in
theorem aboL_heads (n : ℕ) (hn : n ≤ 4) (i : Fin 256) (j : Fin 1024) (hj : j.val < 256 * n) :
    View.canon (aboL m c t T n) (ix3 2 i j) = R.branch (256 * t.val + i) j 2 := by
  induction n with
  | zero => exact absurd hj (by omega)
  | succ n ih =>
    by_cases h : 256 * n ≤ j.val
    · refine (in3 _ _ _ _ (0 : Fin 1) i (⟨j.val - 256 * n, by omega⟩ : Fin 256) (by show 2 = 2 + 0; omega)
        (by show i.val = 0 + i.val; omega) (by show j.val = 256 * (n % 4) + (j.val - 256 * n); omega)).trans
        ((head_at H n (by omega) i _).trans ?_)
      show _ = attRow (R.q (256 * t.val + i) (j / 256)) (R.k (j / 256)) (R.v (j / 256)) ⟨j % 256, Nat.mod_lt _ (by decide)⟩
      rw [show j.val / 256 = n by omega]
      exact congrArg _ (Fin.ext (by show j.val - 256 * n = j.val % 256; omega))
    · refine Eq.trans ?_ (ih (by omega) (by omega))
      refine View.canon_cons_of_not_mem _ _ ?_
      rw [Rect.mem_set_unit]
      intro hm
      have a2 : 256 * (n % 4) ≤ j.val ∧ j.val < 256 * (n % 4) + 256 := hm 2
      omega

theorem aboL_at (b : Fin 3) (i : Fin 256) (j : Fin 1024) :
    View.canon (aboL m c t T 4) (ix3 b i j) = R.branch (256 * t.val + i) j b := by
  by_cases h : b.val < 2
  · exact aboL_first H hT 4 le_rfl b h i j
  · obtain rfl : b = 2 := Fin.ext (by show b.val = 2; omega)
    exact aboL_heads H 4 le_rfl i j (by omega)

end Conv

end Cert.BranchFwdVal
end
-- ==== Proof.BranchFwd.Points.lean ====
module

public import proofs.«01_k».proof.Proof.BranchFwd.Rows

/-! The call `branch_fwd`: what every point of the grid leaves. -/

@[expose] public section

set_option maxRecDepth 16384

noncomputable section

namespace Cert.BranchFwdVal

open Idealize.ShloMosaic Idealize.ShloMosaic.TcCoe Idealize.ShloMosaic.Tactic Idealize.SL.Sem
open Cert.BranchFwdIdeal Cert.BranchFwdIdeal.Gen Cert.Stores Cert.Common

variable {m : (ℓ : Loc nD τ sig) → Buf (Elt Ideal) ℓ} {c : Dev nD}

section Out

variable (t : Fin cfg0.N)

theorem outA_a1 (h : t.val % 32 = 0) : (outsAt0 m c t.val t.isLt).1 = View.canon (a1L m c t (tapsA m c t) 8) := by
  refine Eq.trans (b := VO0_16.read (Elt Ideal) (VO0_16.writes (Elt Ideal) VO0_16.junk (a1L m c t (tapsA m c t) 8))) ?_
    (View.read_writes_junk_eq_canon _ _)
  rw [outsAt0_A m c t h]
  sl_kernel_rfl

theorem outA_abo (h : t.val % 32 = 0) : (outsAt0 m c t.val t.isLt).2.1 = View.canon (aboL m c t (tapsA m c t) 4) := by
  refine Eq.trans (b := VO0_17.read (Elt Ideal) (VO0_17.writes (Elt Ideal) VO0_17.junk (aboL m c t (tapsA m c t) 4))) ?_
    (View.read_writes_junk_eq_canon _ _)
  rw [outsAt0_A m c t h]
  sl_kernel_rfl

theorem outA_taps (h : t.val % 32 = 0) : (outsAt0 m c t.val t.isLt).2.2 = View.canon (tapsL m c t 31) := by
  refine Eq.trans (b := VS0_3.read (Elt Ideal) (VS0_3.writes (Elt Ideal) VS0_3.junk (tapsL m c t 31))) ?_
    (View.read_writes_junk_eq_canon _ _)
  rw [outsAt0_A m c t h]
  sl_kernel_rfl

/-- The taps that a point after the first finds. -/
abbrev found : Vec Ideal S31x8x1024 .f32 :=
  (outsAt0 m c (t.val - 1) (lt_of_le_of_lt (Nat.sub_le _ _) t.isLt)).2.2

theorem outB_a1 (h : ¬t.val % 32 = 0) : (outsAt0 m c t.val t.isLt).1 = View.canon (a1L m c t (tapsB (found (m := m) (c := c) t)) 8) := by
  refine Eq.trans (b := VO0_16.read (Elt Ideal) (VO0_16.writes (Elt Ideal) VO0_16.junk (a1L m c t (tapsB (found (m := m) (c := c) t)) 8))) ?_
    (View.read_writes_junk_eq_canon _ _)
  rw [outsAt0_B m c t h]
  sl_kernel_rfl

theorem outB_abo (h : ¬t.val % 32 = 0) : (outsAt0 m c t.val t.isLt).2.1 = View.canon (aboL m c t (tapsB (found (m := m) (c := c) t)) 4) := by
  refine Eq.trans (b := VO0_17.read (Elt Ideal) (VO0_17.writes (Elt Ideal) VO0_17.junk (aboL m c t (tapsB (found (m := m) (c := c) t)) 4))) ?_
    (View.read_writes_junk_eq_canon _ _)
  rw [outsAt0_B m c t h]
  sl_kernel_rfl

theorem outB_taps (h : ¬t.val % 32 = 0) : (outsAt0 m c t.val t.isLt).2.2 = found (m := m) (c := c) t := by
  rw [outsAt0_B m c t h]
  rfl

end Out

variable {R : Args} (H : ∀ t, Tile m c t R)
include H

/-- Every point leaves the taps. -/
theorem taps_at (n : ℕ) (hn : n < cfg0.N) (k : Fin 31) (x : Fin 8) (j : Fin 1024) :
    (outsAt0 m c n hn).2.2 (ix3 k x j) = R.wa k j := by
  induction n with
  | zero =>
    exact (congrFun (outA_taps ⟨0, hn⟩ rfl) _).trans (tapsL_at (H _) 31 le_rfl k k.isLt x j)
  | succ n ih =>
    have ht := tile_lt ⟨n + 1, hn⟩
    exact (congrFun (outB_taps ⟨n + 1, hn⟩ (by show ¬(n + 1) % 32 = 0; simp only at ht; omega)) _).trans (ih _)

/-- What every point stores. -/
theorem point_at (t : Fin cfg0.N) :
    (∀ (i : Fin 256) (j : Fin 1024), (outsAt0 m c t.val t.isLt).1 (ix2 i j) = R.a1 (256 * t.val + i) j)
      ∧ ∀ (b : Fin 3) (i : Fin 256) (j : Fin 1024),
        (outsAt0 m c t.val t.isLt).2.1 (ix3 b i j) = R.branch (256 * t.val + i) j b := by
  by_cases h : t.val % 32 = 0
  · have hT (k : ℕ) (x : Fin 8) (j : Fin 1024) : tapsA m c t (Rect.unit (s := S31x8x1024) ![k % 31, 0, 0]
        S1x8x1024.size (fits3 (by omega) (by decide) (by decide))).toLoadRect (ix3 0 x j) = R.wa (k % 31) j := by
      refine (load3 _ _ _ _ _ _ (by show k % 31 + 0 < 31; omega) (by omega) (by omega)).trans ((congrArg _ ?_).trans
        (tapsL_at (H t) 31 le_rfl ⟨k % 31, by omega⟩ (by show k % 31 < 31; omega) x j))
      congr 1 <;> exact Fin.ext (Nat.zero_add _)
    exact ⟨fun i j => (congrFun (outA_a1 t h) _).trans (a1L_at (H t) hT 8 le_rfl i (by omega) j),
      fun b i j => (congrFun (outA_abo t h) _).trans (aboL_at (H t) hT b i j)⟩
  · have hT (k : ℕ) (x : Fin 8) (j : Fin 1024) : tapsB (found (m := m) (c := c) t) (Rect.unit (s := S31x8x1024)
        ![k % 31, 0, 0] S1x8x1024.size (fits3 (by omega) (by decide) (by decide))).toLoadRect (ix3 0 x j)
          = R.wa (k % 31) j := by
      refine (held3 _ _ _ _ _ _ _ (by show k % 31 + 0 < 31; omega) (by omega) (by omega)).trans ((congrArg _ ?_).trans
        (taps_at H _ _ ⟨k % 31, by omega⟩ x j))
      congr 1 <;> exact Fin.ext (Nat.zero_add _)
    exact ⟨fun i j => (congrFun (outB_a1 t h) _).trans (a1L_at (H t) hT 8 le_rfl i (by omega) j),
      fun b i j => (congrFun (outB_abo t h) _).trans (aboL_at (H t) hT b i j)⟩

end Cert.BranchFwdVal
end
-- ==== Proof.BranchFwd.Final.lean ====
module

public import proofs.«01_k».proof.Proof.BranchFwd.Points
public import Idealize.ShloMosaic.Lib.IdealHost

/-! The call `branch_fwd`: which rows and columns of its arrays each point reads, and what its two results hold. -/

@[expose] public section

set_option maxRecDepth 16384

noncomputable section

namespace Cert.BranchFwdVal

open Idealize.ShloMosaic Idealize.ShloMosaic.TcCoe Idealize.SL.Sem
open Idealize.ShloMosaic.Pipeline (Dat)
open Cert.BranchFwdIdeal Cert.BranchFwdIdeal.Gen Cert.Common

theorem idx_0 : ∀ t : Fin grid0.N, win0_0.index t = ![t.val, 0] := by decide +kernel
theorem idx_1 : ∀ t : Fin grid0.N, win0_1.index t = ![t.val, 1] := by decide +kernel
theorem idx_2 : ∀ t : Fin grid0.N, win0_2.index t = ![t.val, 2] := by decide +kernel
theorem idx_3 : ∀ t : Fin grid0.N, win0_3.index t = ![t.val, 3] := by decide +kernel
theorem idx_4 : ∀ t : Fin grid0.N, win0_4.index t = ![t.val, 4] := by decide +kernel
theorem idx_5 : ∀ t : Fin grid0.N, win0_5.index t = ![t.val, 5] := by decide +kernel
theorem idx_6 : ∀ t : Fin grid0.N, win0_6.index t = ![8 * t.val - 1, 0] := by decide +kernel
theorem idx_7 : ∀ t : Fin grid0.N, win0_7.index t = ![8 * t.val - 1, 1] := by decide +kernel
theorem idx_8 : ∀ t : Fin grid0.N, win0_8.index t = ![32 * t.val - 1, 3] := by decide +kernel
theorem idx_9 : ∀ t : Fin grid0.N, win0_9.index t = ![32 * t.val - 1, 4] := by decide +kernel
theorem idx_10 : ∀ t : Fin grid0.N, win0_10.index t = ![0, 0] := by decide +kernel
theorem idx_11 : ∀ t : Fin grid0.N, win0_11.index t = ![0, 0] := by decide +kernel
theorem idx_12 : ∀ t : Fin grid0.N, win0_12.index t = ![0, 0] := by decide +kernel
theorem idx_13 : ∀ t : Fin grid0.N, win0_13.index t = ![0, 0] := by decide +kernel
theorem idx_14 : ∀ t : Fin grid0.N, win0_14.index t = ![0, 0] := by decide +kernel
theorem idx_15 : ∀ t : Fin grid0.N, win0_15.index t = ![0, 0] := by decide +kernel
theorem idx_16 : ∀ t : Fin grid0.N, win0_16.index t = ![t.val, 0] := by decide +kernel
theorem idx_17 : ∀ t : Fin grid0.N, win0_17.index t = ![0, t.val, 0] := by decide +kernel

variable (m : (ℓ : Loc nD τ Cert.BranchFwdIdeal.sig) → Buf (Elt Ideal) ℓ) (c : Dev nD)

/-- The arguments of the program on device `c` as functions of whole numbers. -/
def argsAt : Args :=
  argsOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## What the host lines in front of the call compute -/

theorem v0 (k : Fin 31) (j : Fin 1024) : (V m c main_v0 : FVec Ideal S32x1024 .f32) (ix2 ⟨k, by omega⟩ j)
    = (m ((c : Thread nD τ).loc main_arg2) : FVec Ideal S31x1024 .f32) (ix2 k j) := by
  dsimp only [V]
  simp only [hostOps0, hostOps0_1, hostOps0_2, hostOps0_3, hostOps0_4, List.flatten_cons, List.flatten_nil,
    List.append_nil, List.cons_append, List.nil_append]
  after_results
  try simp only [StableHlo.TRef.toBuf, StableHlo.TRef.ofBuf, cast_eq]
  pointwise

theorem v1 (k : Fin 3) (j : Fin 1024) : (V m c main_v1 : FVec Ideal S8x1024 .f32) (ix2 ⟨k, by omega⟩ j)
    = (m ((c : Thread nD τ).loc main_arg6) : FVec Ideal S3x1024 .f32) (ix2 k j) := by
  dsimp only [V]
  simp only [hostOps0, hostOps0_1, hostOps0_2, hostOps0_3, hostOps0_4, List.flatten_cons, List.flatten_nil,
    List.append_nil, List.cons_append, List.nil_append]
  after_results
  try simp only [StableHlo.TRef.toBuf, StableHlo.TRef.ofBuf, cast_eq]
  pointwise

theorem v2 (l : Fin 256) (j : Fin 2048) : (V m c main_v2 : FVec Ideal S256x2048 .bf16) (ix2 l j)
    = (m ((c : Thread nD τ).loc main_arg1) : FVec Ideal S256x2048 .f32) (ix2 l j) := by
  dsimp only [V]
  simp only [hostOps0, hostOps0_1, hostOps0_2, hostOps0_3, hostOps0_4, List.flatten_cons, List.flatten_nil,
    List.append_nil, List.cons_append, List.nil_append]
  after_results
  try simp only [StableHlo.TRef.toBuf, StableHlo.TRef.ofBuf, cast_eq]
  pointwise

theorem v3 (j : Fin 1024) : (V m c main_v3 : FVec Ideal S1x1024 .f32) (ix2 0 j)
    = (m ((c : Thread nD τ).loc main_arg3) : FVec Ideal S1024 .f32) (ix1 j) := by
  dsimp only [V]
  simp only [hostOps0, hostOps0_1, hostOps0_2, hostOps0_3, hostOps0_4, List.flatten_cons, List.flatten_nil,
    List.append_nil, List.cons_append, List.nil_append]
  after_results
  try simp only [StableHlo.TRef.toBuf, StableHlo.TRef.ofBuf, cast_eq]
  pointwise

theorem v4 (j : Fin 1024) : (V m c main_v4 : FVec Ideal S1x1024 .f32) (ix2 0 j)
    = (m ((c : Thread nD τ).loc main_arg4) : FVec Ideal S1024 .f32) (ix1 j) := by
  dsimp only [V]
  simp only [hostOps0, hostOps0_1, hostOps0_2, hostOps0_3, hostOps0_4, List.flatten_cons, List.flatten_nil,
    List.append_nil, List.cons_append, List.nil_append]
  after_results
  try simp only [StableHlo.TRef.toBuf, StableHlo.TRef.ofBuf, cast_eq]
  pointwise

theorem v5 (j : Fin 1024) : (V m c main_v5 : FVec Ideal S1x1024 .f32) (ix2 0 j)
    = (m ((c : Thread nD τ).loc main_arg5) : FVec Ideal S1024 .f32) (ix1 j) := by
  dsimp only [V]
  simp only [hostOps0, hostOps0_1, hostOps0_2, hostOps0_3, hostOps0_4, List.flatten_cons, List.flatten_nil,
    List.append_nil, List.cons_append, List.nil_append]
  after_results
  try simp only [StableHlo.TRef.toBuf, StableHlo.TRef.ofBuf, cast_eq]
  pointwise

/-- The blocks that the points read hold the rows of the arrays. -/
theorem tiles (t : Fin cfg0.N) : Tile m c t (argsAt m c) :=
  have h := holds_argsOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
  have ht := tile_lt t
  have p (n : Fin 8192) (k : Fin 12288) : (V m c main_arg0 : FVec Ideal S8192x12288 .f32) (ix2 n k) = (argsAt m c).P n k :=
    (congrFun (V_main_arg0 m c) _).trans (h.p n k)
  { b0 := fun i j => Eq.trans (b := (V m c main_arg0 : FVec Ideal S8192x12288 .f32)
      (ix2 ⟨256 * t.val + i, by omega⟩ ⟨j, by omega⟩)) (by blk_point [iblk, idx_0 t]) (p _ _)
    b1 := fun i j => Eq.trans (b := (V m c main_arg0 : FVec Ideal S8192x12288 .f32)
      (ix2 ⟨256 * t.val + i, by omega⟩ ⟨1024 + j, by omega⟩)) (by blk_point [iblk, idx_1 t]) (p _ _)
    b2 := fun i j => Eq.trans (b := (V m c main_arg0 : FVec Ideal S8192x12288 .f32)
      (ix2 ⟨256 * t.val + i, by omega⟩ ⟨2048 + j, by omega⟩)) (by blk_point [iblk, idx_2 t]) (p _ _)
    b3 := fun i j => Eq.trans (b := (V m c main_arg0 : FVec Ideal S8192x12288 .f32)
      (ix2 ⟨256 * t.val + i, by omega⟩ ⟨3072 + j, by omega⟩)) (by blk_point [iblk, idx_3 t]) (p _ _)
    b4 := fun i j => Eq.trans (b := (V m c main_arg0 : FVec Ideal S8192x12288 .f32)
      (ix2 ⟨256 * t.val + i, by omega⟩ ⟨4096 + j, by omega⟩)) (by blk_point [iblk, idx_4 t]) (p _ _)
    b5 := fun i j => Eq.trans (b := (V m c main_arg0 : FVec Ideal S8192x12288 .f32)
      (ix2 ⟨256 * t.val + i, by omega⟩ ⟨5120 + j, by omega⟩)) (by blk_point [iblk, idx_5 t]) (p _ _)
    b6 := fun i j => Eq.trans (b := (V m c main_arg0 : FVec Ideal S8192x12288 .f32)
      (ix2 ⟨32 * (8 * t.val - 1) + i, by omega⟩ ⟨j, by omega⟩)) (by blk_point [iblk, idx_6 t]) (p _ _)
    b7 := fun i j => Eq.trans (b := (V m c main_arg0 : FVec Ideal S8192x12288 .f32)
      (ix2 ⟨32 * (8 * t.val - 1) + i, by omega⟩ ⟨1024 + j, by omega⟩)) (by blk_point [iblk, idx_7 t]) (p _ _)
    b8 := fun i j => Eq.trans (b := (V m c main_arg0 : FVec Ideal S8192x12288 .f32)
      (ix2 ⟨8 * (32 * t.val - 1) + i, by omega⟩ ⟨3072 + j, by omega⟩)) (by blk_point [iblk, idx_8 t]) (p _ _)
    b9 := fun i j => Eq.trans (b := (V m c main_arg0 : FVec Ideal S8192x12288 .f32)
      (ix2 ⟨8 * (32 * t.val - 1) + i, by omega⟩ ⟨4096 + j, by omega⟩)) (by blk_point [iblk, idx_9 t]) (p _ _)
    b10 := fun l j => Eq.trans (b := (V m c main_v2 : FVec Ideal S256x2048 .bf16) (ix2 l j))
      (by blk_point [iblk, idx_10 t]) ((v2 m c l j).trans (h.kv l j))
    b11 := fun k j hk => Eq.trans (b := (V m c main_v0 : FVec Ideal S32x1024 .f32) (ix2 k j))
      (by blk_point [iblk, idx_11 t]) ((v0 m c ⟨k, hk⟩ j).trans (h.wa ⟨k, hk⟩ j))
    b12 := fun j => Eq.trans (b := (V m c main_v3 : FVec Ideal S1x1024 .f32) (ix2 0 j))
      (by blk_point [iblk, idx_12 t]) ((v3 m c j).trans (h.ba j))
    b13 := fun j => Eq.trans (b := (V m c main_v4 : FVec Ideal S1x1024 .f32) (ix2 0 j))
      (by blk_point [iblk, idx_13 t]) ((v4 m c j).trans (h.lg j))
    b14 := fun j => Eq.trans (b := (V m c main_v5 : FVec Ideal S1x1024 .f32) (ix2 0 j))
      (by blk_point [iblk, idx_14 t]) ((v5 m c j).trans (h.lb j))
    b15 := fun k j hk => Eq.trans (b := (V m c main_v1 : FVec Ideal S8x1024 .f32) (ix2 k j))
      (by blk_point [iblk, idx_15 t]) ((v1 m c ⟨k, hk⟩ j).trans (h.wb ⟨k, hk⟩ j)) }

/-! ## The two results -/

theorem final_a1 : ((dats m 0 c).arrAt 16 cfg0.N : FVec Ideal S8192x1024 .f32) = outA1 (argsAt m c) :=
  (dats m 0 c).arrAt_eq_of_covers 16 _ (by decide +kernel) fun t hf y => by
    have hy : (dats m 0 c).after 16 t = (outsAt0 m c t.val t.isLt).1 := after0_16 m c t
    rw [hy]
    obtain ⟨i, j, rfl⟩ : ∃ (i : Fin 256) (j : Fin 1024), y = ix2 i j := ⟨y 0, y 1, by ext a; fin_cases a <;> rfl⟩
    have h0 : (((cfg0.win 16).blk t).view.emb (ix2 i j) : S8192x1024.Idx)
        = ix2 ⟨256 * t.val + i.val, by have := tile_lt t; omega⟩ j := by
      blk_point [idx_16 t]
    rw [h0]
    exact (point_at (tiles m c) t).1 i j

theorem final_abo : ((dats m 0 c).arrAt 17 cfg0.N : FVec Ideal S3x8192x1024 .bf16) = outAbo (argsAt m c) :=
  (dats m 0 c).arrAt_eq_of_covers 17 _ (by decide +kernel) fun t hf y => by
    have hy : (dats m 0 c).after 17 t = (outsAt0 m c t.val t.isLt).2.1 := after0_17 m c t
    rw [hy]
    obtain ⟨b, i, j, rfl⟩ : ∃ (b : Fin 3) (i : Fin 256) (j : Fin 1024), y = ix3 b i j :=
      ⟨y 0, y 1, y 2, by ext a; fin_cases a <;> rfl⟩
    have h0 : (((cfg0.win 17).blk t).view.emb (ix3 b i j) : S3x8192x1024.Idx)
        = ix3 b ⟨256 * t.val + i.val, by have := tile_lt t; omega⟩ j := by
      blk_point [idx_17 t]
    rw [h0]
    exact (point_at (tiles m c) t).2 b i j

end Cert.BranchFwdVal
end
-- ==== Proof.BranchFwd.Ref.lean ====
module

public import proofs.«01_k».proof.Proof.BranchFwd.Spec
public import proofs.«01_k».proof.Proof.Common.Rows
public import proofs.«01_k».proof.Proof.Common.Norm
public import proofs.«01_k».proof.Proof.Gen.BranchFwdRefIdeal.Read
public import Idealize.ShloMosaic.Lib.IdealHost

/-! What the reference of `branch_fwd` computes. -/

@[expose] public section

set_option maxRecDepth 16384

noncomputable section

namespace Cert.BranchFwdVal

open Idealize.ShloMosaic Cert.Common
open Cert.BranchFwdRefIdeal Cert.BranchFwdRefIdeal.Read
open Cert.Branch (word_1024 word_scale word_ninf)

section

variable {R : Args} {x0 : FVec Ideal S8192x12288 .f32} {x1 : FVec Ideal S256x2048 .f32} {x2 : FVec Ideal S31x1024 .f32}
  {x3 x4 x5 : FVec Ideal S1024 .f32} {x6 : FVec Ideal S3x1024 .f32} (h : Holds R x0 x1 x2 x3 x4 x5 x6)

include h

/-! ## The convolution of the gated linear unit, its layer norm and activation -/

theorem ref_a (n : Fin 8192) (j : Fin 1024) : val_main_v13 (F := Ideal) x0 (ix2 n j) = R.a n j := by
  simp only [val_main_v0, val_main_v1, val_main_v2, val_main_v7, val_main_v8, val_main_v9, val_main_v10, val_main_v11,
    val_main_v12, val_main_v13, val_main_cst, val_main_cst_0]
  pointwise [word_one]
  simp only [h.p, Args.a, Ideal.logistic, EReal.coe_one, Nat.zero_add]

theorem ref_rows (r : Fin 8222) (j : Fin 1024) : val_main_v15 (F := Ideal) x0 (ix2 r j) = pre 30 R.a r j := by
  simp only [val_main_v14, val_main_v15, val_main_cst_1]
  pointwise
  split
  · rename_i hr
    rw [pre_lo R.a j hr]
  · rename_i hr
    rw [ref_a h, pre_of (n' := r.val - 30) R.a j (by omega) (by omega)]

omit h in
theorem ref_table (k : Fin 31) (n : Fin 8192) :
    (val_main_v29 (F := Ideal) (ix3 k n 0)).toInt = ((n.val + k.val : ℕ) : ℤ) := by
  simp only [val_main_v16, val_main_v17, val_main_v18, val_main_v19, val_main_v20, val_main_v21, val_main_v22,
    val_main_v24, val_main_v25, val_main_v26, val_main_v27, val_main_v28, val_main_v29, val_main_c, val_main_c_2]
  pointwise
  exact row_word _ _ _ (by omega)

theorem ref_taps (k : Fin 31) (n : Fin 8192) (j : Fin 1024) :
    val_main_v30 (F := Ideal) x0 (ix3 k n j) = pre 30 R.a (n + k) j := by
  have hr := ref_rows h
  have ht := ref_table
  unfold val_main_v30
  generalize val_main_v15 (F := Ideal) x0 = X at hr ⊢
  generalize val_main_v29 (F := Ideal) = T at ht ⊢
  refine (rowsOf_apply (N := 8222) (A := 31) (B := 8192) (C := 1024) _ _ _ k n j ⟨n.val + k.val, by omega⟩
    (ht k n)).trans ?_
  exact hr _ j

theorem ref_conv (n : Fin 8192) (j : Fin 1024) : val_main_v36 (F := Ideal) x0 x2 x3 (ix2 n j) = R.a1 n j := by
  simp only [val_main_v23, val_main_v31, val_main_v32, val_main_v33, val_main_v34, val_main_v35, val_main_v36,
    val_main_cst_3]
  pointwise
  simp only [ref_taps h, h.wa, h.ba, Args.a1]

/-- The convolution written a second time is the first. -/
theorem ref_conv' (n : Fin 8192) (j : Fin 1024) : val_main_v135 (F := Ideal) x0 x2 x3 (ix2 n j) = R.a1 n j :=
  ref_conv h n j

theorem ref_mean (n : Fin 8192) (z : Fin 1) : val_main_v40 (F := Ideal) x0 x2 x3 (ix2 n z) = mean (R.a1 n) := by
  simp only [val_main_v37, val_main_v38, val_main_v39, val_main_v40, val_main_cst_4, val_main_cst_5]
  pointwise [word_1024]
  simp only [ref_conv h, mean]

theorem ref_cen (n : Fin 8192) (j : Fin 1024) : val_main_v42 (F := Ideal) x0 x2 x3 (ix2 n j) = cen (R.a1 n) j := by
  simp only [val_main_v41, val_main_v42]
  pointwise
  simp only [ref_conv h, ref_mean h, cen]

theorem ref_cen' (n : Fin 8192) (j : Fin 1024) : val_main_v49 (F := Ideal) x0 x2 x3 (ix2 n j) = cen (R.a1 n) j :=
  ref_cen h n j

theorem ref_var (n : Fin 8192) (z : Fin 1) : val_main_v51 (F := Ideal) x0 x2 x3 (ix2 n z) = var (R.a1 n) := by
  simp only [val_main_v43, val_main_v44, val_main_v45, val_main_v46, val_main_v47, val_main_v50, val_main_v51,
    val_main_cst_6, val_main_cst_7, val_main_cst_8]
  pointwise [word_1024, word_eps]
  simp only [ref_cen h, var]

theorem ref_ln (n : Fin 8192) (j : Fin 1024) :
    val_main_v60 (F := Ideal) x0 x2 x3 x4 x5 (ix2 n j) = ln (R.a1 n) R.lg R.lb j := by
  simp only [val_main_v52, val_main_v53, val_main_v54, val_main_v55, val_main_v56, val_main_v57, val_main_v58,
    val_main_v59, val_main_v60]
  pointwise
  simp only [ref_cen' h, ref_var h, h.lg, h.lb, ln]

theorem ref_act (n : Fin 8192) (j : Fin 1024) :
    val_main_v61 (F := Ideal) x0 x2 x3 x4 x5 (ix2 n j) = actRow (R.a1 n) R.lg R.lb j := by
  simp only [val_main_v61, val_main_call0_v0, val_main_call0_v1, val_main_call0_cst, val_main_call0_v2,
    val_main_call0_v3, val_main_call0_cst_0, val_main_call0_v4, val_main_call0_v5]
  pointwise [word_one]
  simp only [ref_ln h, actRow, Ideal.logistic, EReal.coe_one]

/-! ## The short convolution -/

theorem ref_x (n : Fin 8192) (j : Fin 1024) : val_main_v62 (F := Ideal) x0 (ix2 n j) = R.x n j := by
  simp only [val_main_v0, val_main_v4, val_main_v5, val_main_v62]
  pointwise
  simp only [h.p, Args.x]

theorem ref_xrows (r : Fin 8194) (j : Fin 1024) : val_main_v64 (F := Ideal) x0 (ix2 r j) = pre 2 R.x r j := by
  simp only [val_main_v63, val_main_v64, val_main_cst_9]
  pointwise
  split
  · rename_i hr
    rw [pre_lo R.x j hr]
  · rename_i hr
    rw [ref_x h, pre_of (n' := r.val - 2) R.x j (by omega) (by omega)]

omit h in
theorem ref_xtable (k : Fin 3) (n : Fin 8192) :
    (val_main_v78 (F := Ideal) (ix3 k n 0)).toInt = ((n.val + k.val : ℕ) : ℤ) := by
  simp only [val_main_v65, val_main_v66, val_main_v67, val_main_v68, val_main_v69, val_main_v70, val_main_v71,
    val_main_v73, val_main_v74, val_main_v75, val_main_v76, val_main_v77, val_main_v78, val_main_c_10, val_main_c_11]
  pointwise
  exact row_word _ _ _ (by omega)

theorem ref_xtaps (k : Fin 3) (n : Fin 8192) (j : Fin 1024) :
    val_main_v79 (F := Ideal) x0 (ix3 k n j) = pre 2 R.x (n + k) j := by
  have hr := ref_xrows h
  have ht := ref_xtable
  unfold val_main_v79
  generalize val_main_v64 (F := Ideal) x0 = X at hr ⊢
  generalize val_main_v78 (F := Ideal) = T at ht ⊢
  refine (rowsOf_apply (N := 8194) (A := 3) (B := 8192) (C := 1024) _ _ _ k n j ⟨n.val + k.val, by omega⟩
    (ht k n)).trans ?_
  exact hr _ j

theorem ref_xc (n : Fin 8192) (j : Fin 1024) :
    val_main_v83 (F := Ideal) x0 x6 (ix2 n j) = R.P n (2048 + j) * R.xc n j := by
  simp only [val_main_v0, val_main_v3, val_main_v72, val_main_v80, val_main_v81, val_main_v82, val_main_v83,
    val_main_cst_12]
  pointwise
  simp only [ref_xtaps h, h.wb, h.p, Args.xc, Fin.sum_univ_three]
  rfl

/-! ## The attention -/

theorem ref_q (n : Fin 8192) (a : Fin 4) (d : Fin 256) : val_main_v86 (F := Ideal) x0 (ix3 n a d) = R.q n a d := by
  simp only [val_main_v0, val_main_v6, val_main_v86]
  pointwise
  rw [h.p]
  exact congrArg (fun k => R.P n k) (by simp only <;> omega)

theorem ref_k (l : Fin 256) (a : Fin 4) (d : Fin 256) : val_main_v87 (F := Ideal) x1 (ix3 l a d) = R.k a l d := by
  simp only [val_main_v84, val_main_v87]
  pointwise
  rw [h.kv]
  exact congrArg (fun k => R.KV l k) (by simp only <;> omega)

theorem ref_v (l : Fin 256) (a : Fin 4) (d : Fin 256) : val_main_v88 (F := Ideal) x1 (ix3 l a d) = R.v a l d := by
  simp only [val_main_v85, val_main_v88]
  pointwise
  rw [h.kv]
  exact congrArg (fun k => R.KV l k) (by simp only <;> omega)

theorem ref_scores (n : Fin 8192) (a : Fin 4) (l : Fin 256) :
    val_main_v91 (F := Ideal) x0 x1 (ix3 a n l) = scores (R.q n a) (R.k a) l := by
  simp only [val_main_v89, val_main_v90, val_main_v91, val_main_cst_13]
  pointwise [word_scale]
  simp only [ref_q h, ref_k h]
  rfl

theorem ref_max (n : Fin 8192) (a : Fin 4) :
    val_main_v92 (F := Ideal) x0 x1 (ix2 a n) = top (scores (R.q n a) (R.k a)) := by
  have hs := ref_scores h n a
  unfold val_main_v92 val_main_cst_14
  generalize val_main_v91 (F := Ideal) x0 x1 = S at hs ⊢
  pointwise [word_ninf]
  simp only [hs]
  rfl

theorem ref_top (n : Fin 8192) (a : Fin 4) :
    val_main_v94 (F := Ideal) x0 x1 (ix2 a n) = top (scores (R.q n a) (R.k a)) := by
  have e : val_main_v93 (F := Ideal) (ix2 a n) = (⊥ : EReal) := by
    rw [val_main_v93_apply]
    exact word_ninf
  rw [val_main_v94_apply, ref_max h, e]
  exact max_eq_right bot_le

theorem ref_weight (n : Fin 8192) (a : Fin 4) (l : Fin 256) :
    val_main_v98 (F := Ideal) x0 x1 (ix3 a n l) = weight (scores (R.q n a) (R.k a)) l := by
  have hs := ref_scores h n a l
  have hM := ref_top h n a
  simp only [val_main_v95, val_main_v96, val_main_v97, val_main_v98]
  generalize val_main_v94 (F := Ideal) x0 x1 = A at hM ⊢
  generalize val_main_v91 (F := Ideal) x0 x1 = S at hs ⊢
  pointwise
  rw [hs, hM]
  rfl

theorem ref_prob (n : Fin 8192) (a : Fin 4) (l : Fin 256) :
    val_main_v102 (F := Ideal) x0 x1 (ix3 a n l) = prob (scores (R.q n a) (R.k a)) l := by
  have hw := ref_weight h n a
  simp only [val_main_v99, val_main_v100, val_main_v101, val_main_v102, val_main_cst_16]
  generalize val_main_v98 (F := Ideal) x0 x1 = W at hw ⊢
  pointwise
  simp only [hw]
  rfl

theorem ref_att (n : Fin 8192) (j : Fin 1024) : val_main_v105 (F := Ideal) x0 x1 (ix2 n j)
    = attRow (R.q n (j / 256)) (R.k (j / 256)) (R.v (j / 256)) ⟨j % 256, Nat.mod_lt _ (by decide)⟩ := by
  have hp := ref_prob h n
  have hv := ref_v h
  simp only [val_main_v103, val_main_v104, val_main_v105]
  generalize val_main_v102 (F := Ideal) x0 x1 = P at hp ⊢
  generalize val_main_v88 (F := Ideal) x1 = V at hv ⊢
  pointwise
  simp only [hp, hv]
  exact Finset.sum_congr rfl fun l _ => mul_comm _ _

/-! ## The results -/

theorem ref_a1 : val_main_v135 (F := Ideal) x0 x2 x3 = outA1 R := by
  funext i
  obtain ⟨n, j, rfl⟩ : ∃ (n : Fin 8192) (j : Fin 1024), i = ix2 n j := ⟨i 0, i 1, by ext a; fin_cases a <;> rfl⟩
  exact ref_conv' h n j

theorem ref_abo : val_main_v140 (F := Ideal) x0 x1 x2 x3 x4 x5 x6 = outAbo R := by
  have h0 := ref_act h
  have h1 := ref_xc h
  have h2 := ref_att h
  funext i
  obtain ⟨b, n, j, rfl⟩ : ∃ (b : Fin 3) (n : Fin 8192) (j : Fin 1024), i = ix3 b n j :=
    ⟨i 0, i 1, i 2, by ext a; fin_cases a <;> rfl⟩
  simp only [val_main_v136, val_main_v137, val_main_v138, val_main_v139, val_main_v140]
  generalize val_main_v61 (F := Ideal) x0 x2 x3 x4 x5 = X0 at h0 ⊢
  generalize val_main_v83 (F := Ideal) x0 x6 = X1 at h1 ⊢
  generalize val_main_v105 (F := Ideal) x0 x1 = X2 at h2 ⊢
  fin_cases b
  · pointwise
    exact h0 n j
  · pointwise
    exact h1 n j
  · pointwise
    exact h2 n j

end

end Cert.BranchFwdVal
end
-- ==== Proof.BranchFwd.Equation.lean ====
module

public import proofs.«01_k».proof.Defs
public import proofs.«01_k».proof.Proof.BranchFwd.Final
public import proofs.«01_k».proof.Proof.BranchFwd.Ref

/-! The three branches of a layer, forward: the reference's results are the kernel's, over the extended reals and at
every argument. -/

@[expose] public section

set_option maxRecDepth 16384

noncomputable section

namespace Cert.BranchFwdEq

open Idealize.ShloMosaic Idealize.ShloMosaic.TcCoe Idealize.SL.Sem
open Cert.Common Cert.BranchFwdVal Cert.BranchFwdRefIdeal.Read

set_option maxHeartbeats 4000000 in
theorem frame_kernel [Cert.BranchFwd.Facts] : Cert.quiescent_BranchFwd := by
  intro m ρ _
  refine Eq.mp ?_ (Cert.BranchFwdIdeal.Gen.frame (F := Bits) m ρ)
  sl_kernel_rfl

theorem frame_ideal [Cert.BranchFwdIdeal.Facts] : Cert.quiescent_BranchFwdIdeal := fun m ρ _ =>
  Cert.BranchFwdIdeal.Gen.frame m ρ

theorem frame_ref [Cert.BranchFwdRefIdeal.Facts] : Cert.quiescent_BranchFwdRefIdeal := by
  intro m g _
  exact (θ_run Cert.BranchFwdRefIdeal.defs _ _).mono
    (fun r h => ⟨fun c => (h c).2.2, sem_eq_zero_of_no_sems (by decide) r.2⟩)
    (Cert.BranchFwdRefIdeal.Value.run (F := Ideal) m g)

open Cert.BranchFwdIdeal Cert.BranchFwdIdeal.Gen in
/-- The run of the kernel with its two results. -/
theorem run (m : (ℓ : Loc nD τ Cert.BranchFwdIdeal.sig) → Buf (Elt Ideal) ℓ) (g : Dev nD → PrngReg) :
    θ_run (defs (F := Ideal)) (onTc (τ := τ) (main (F := Ideal))) ⟨m, fun _ => 0, g⟩ fun r => ∀ c : Dev nD,
      let at_ (b : Ref Cert.BranchFwdIdeal.sig .tc) := (c.tc : Thread nD τ).loc b
      r.2.mem (at_ main_v6_0) = (dats m 0 c).arrAt 16 cfg0.N ∧ r.2.mem (at_ main_v6_1) = (dats m 0 c).arrAt 17 cfg0.N
      ∧ r.2.mem (at_ main_arg0) = m (at_ main_arg0) ∧ r.2.mem (at_ main_arg1) = m (at_ main_arg1)
      ∧ r.2.mem (at_ main_arg2) = m (at_ main_arg2) ∧ r.2.mem (at_ main_arg3) = m (at_ main_arg3)
      ∧ r.2.mem (at_ main_arg4) = m (at_ main_arg4) ∧ r.2.mem (at_ main_arg5) = m (at_ main_arg5)
      ∧ r.2.mem (at_ main_arg6) = m (at_ main_arg6) :=
  (θ_run _ _ _).mono (fun _ h c => ⟨(h c).1 16, (h c).1 17,
      ((h c).1 9).trans (((dats m 0 c).arrAt_in 9 rfl _).trans ((A_eq m c 9).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m g)

theorem algebraic : Cert.algebraic_BranchFwdIdeal_BranchFwdRefIdeal := by
  pair_intro
  · exact run m g
  · refine (θ_run _ _ _).mono (fun r h c => ?_) (Cert.BranchFwdRefIdeal.Value.run (F := Ideal) m' g')
    obtain ⟨h0, h1, ha⟩ := h c
    obtain ⟨e0, e1, e2, e3, e4, e5, e6⟩ := hagree c
    have hR := holds_argsOf (m' ((c.tc : Thread _ _).loc Cert.BranchFwdRefIdeal.main_arg0))
      (m' ((c.tc : Thread _ _).loc Cert.BranchFwdRefIdeal.main_arg1))
      (m' ((c.tc : Thread _ _).loc Cert.BranchFwdRefIdeal.main_arg2))
      (m' ((c.tc : Thread _ _).loc Cert.BranchFwdRefIdeal.main_arg3))
      (m' ((c.tc : Thread _ _).loc Cert.BranchFwdRefIdeal.main_arg4))
      (m' ((c.tc : Thread _ _).loc Cert.BranchFwdRefIdeal.main_arg5))
      (m' ((c.tc : Thread _ _).loc Cert.BranchFwdRefIdeal.main_arg6))
    have e : argsOf (m' ((c.tc : Thread _ _).loc Cert.BranchFwdRefIdeal.main_arg0))
      (m' ((c.tc : Thread _ _).loc Cert.BranchFwdRefIdeal.main_arg1))
      (m' ((c.tc : Thread _ _).loc Cert.BranchFwdRefIdeal.main_arg2))
      (m' ((c.tc : Thread _ _).loc Cert.BranchFwdRefIdeal.main_arg3))
      (m' ((c.tc : Thread _ _).loc Cert.BranchFwdRefIdeal.main_arg4))
      (m' ((c.tc : Thread _ _).loc Cert.BranchFwdRefIdeal.main_arg5))
      (m' ((c.tc : Thread _ _).loc Cert.BranchFwdRefIdeal.main_arg6)) = argsAt m c := by
      rw [e0, e1, e2, e3, e4, e5, e6]
      rfl
    rw [e] at hR
    exact ⟨h0.trans ((val_main_v135_eq _ _ _).trans ((ref_a1 hR).trans (final_a1 m c).symm)),
      h1.trans ((val_main_v140_eq m' c).trans ((ref_abo hR).trans (final_abo m c).symm)), ha⟩

end Cert.BranchFwdEq
end
-- ==== Proof.Loss.Kernel.lean ====
/-
  The loss kernel's two result arrays as functions of its arguments: the gradient `(y - t) / 2048` element by element,
  and, in every cell of the [8,128] block, half the sum of the rows' mean squared errors.
-/
module

public import proofs.«01_k».proof.Proof.Common.Scalars
public import proofs.«01_k».proof.Proof.Gen.LossHeadIdeal.Frame
public import Idealize.ShloMosaic.Lib.Pipeline.ValueKit
public import Idealize.ShloMosaic.Lib.Claim

@[expose] public section

set_option maxRecDepth 16384

noncomputable section

namespace Cert.LossHeadIdeal.Val

open Cert.LossHeadIdeal Cert.LossHeadIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The gradient of the loss at one element. -/
def grad (y t : FVec Ideal S8192x2048 .f32) : FVec Ideal S8192x2048 .f32 :=
  fun i => (y i - t i) * ((1 / 2048 : ℝ) : EReal)

/-- One row's mean squared error. -/
def rowErr (y t : FVec Ideal S8192x2048 .f32) (r : Fin 8192) : EReal :=
  Ideal.div (∑ k : Fin 2048, (y (ix2 r k) - t (ix2 r k)) * (y (ix2 r k) - t (ix2 r k))) ((2048 : ℝ) : EReal)

theorem idx_0 : ∀ t : Fin grid0.N, win0_0.index t = ![t.val, 0] := by decide +kernel
theorem idx_1 : ∀ t : Fin grid0.N, win0_1.index t = ![t.val, 0] := by decide +kernel

theorem idx_2 : ∀ t : Fin grid0.N, win0_2.index t = ![t.val, 0] := by decide +kernel

/-- A block of the predictions read at an index: rows `512 t …` of the array. -/
theorem blk_y (c : Dev nD) (t : Fin cfg0.N) (r : Fin 512) (k : Fin 2048) :
    (iblk m c 0 t : FVec Ideal S512x2048 .f32) (ix2 r k)
      = (m ((c : Thread nD τ).loc main_arg0) : FVec Ideal S8192x2048 .f32)
          (ix2 ⟨t.val * 512 + r.val, by have : t.val < 16 := t.isLt; omega⟩ k) := by
  blk_point [iblk, V, idx_0 t]

/-- A block of the targets read at an index. -/
theorem blk_t (c : Dev nD) (t : Fin cfg0.N) (r : Fin 512) (k : Fin 2048) :
    (iblk m c 1 t : FVec Ideal S512x2048 .f32) (ix2 r k)
      = (m ((c : Thread nD τ).loc main_arg1) : FVec Ideal S8192x2048 .f32)
          (ix2 ⟨t.val * 512 + r.val, by have : t.val < 16 := t.isLt; omega⟩ k) := by
  blk_point [iblk, V, idx_1 t]

theorem pay2 (x y : FVec Ideal S512x2048 .f32) (i : S512x2048.Idx) :
    k0_pay2 x y i = (x i - y i) * ((1 / 2048 : ℝ) : EReal) := by
  pointwise [k0_pay2, k0_pay1, word_inv2048]

theorem pay3 (i : S8x128.Idx) : (k0_pay3 (F := Ideal)) i = 0 := by
  pointwise [k0_pay3]

theorem pay4 (x y : FVec Ideal S512x2048 .f32) (a : FVec Ideal S8x128 .f32) (i : S8x128.Idx) :
    k0_pay4 x y a i = a i + ((1 / 2 : ℝ) : EReal) * ∑ r : Fin 512,
      Ideal.div (∑ k : Fin 2048, (x (ix2 r k) - y (ix2 r k)) * (x (ix2 r k) - y (ix2 r k))) ((2048 : ℝ) : EReal) := by
  pointwise [k0_pay4, k0_pay1, word_half, word_2048]
  simp only [Fin.sum_univ_one]

/-- The gradient array after the run. -/
theorem final_grad (c : Dev nD) : (dats m 0 c).arrAt 2 cfg0.N = grad (m ((c : Thread nD τ).loc main_arg0)) (m ((c : Thread nD τ).loc main_arg1)) :=
  (dats m 0 c).arrAt_eq_of_covers 2 _ (by decide +kernel) fun t hf y => by
    blk_simp
    rw [after0_2]
    have key : (outsAt0 m c t.val t.isLt).1 = k0_pay2 (iblk m c 0 t) (iblk m c 1 t) := by
      by_cases h : t.val % 16 = 0
      · rw [outsAt0_A m c t h]; frame_out
      · rw [outsAt0_B m c t h]; frame_out
    rw [key, pay2]
    unfold grad
    blk_point [iblk, V, idx_0 t, idx_1 t, idx_2 t]

/-- The loss array after the run: every cell holds half the sum of the rows' errors. -/
theorem final_loss (c : Dev nD) : (dats m 0 c).arrAt 3 cfg0.N = fun _ => ((1 / 2 : ℝ) : EReal) * ∑ r : Fin 8192,
    rowErr (m ((c : Thread nD τ).loc main_arg0)) (m ((c : Thread nD τ).loc main_arg1)) r :=
  (dats m 0 c).arrAt_eq_of_covers 3 _ (by decide +kernel) fun t hf y => by
    blk_simp
    rw [after0_3, Pipeline.eq_sum_fin_of_reset_step_apply_of_flush (fun n h => (outsAt0 m c n h).2) 16 (fun _ => 0) _
      (fun t h j => by rw [outsAt0_A m c t h]; frame_out; rw [pay4, pay3])
      (fun t h j => by rw [outsAt0_B m c t h]; frame_out; rw [pay4]) t ((flush0_3 t).mp hf) _, zero_add]
    have hN : t.val < 16 := t.isLt
    have h0 : t.val / 16 = 0 := by omega
    rw [← mul_sum_of_nonneg _ _ (by norm_num)]
    refine congrArg (_ * ·) (Fin.sum_mul_add_congr fun s k hl => ?_)
    simp only [blk_y, blk_t, rowErr, h0, Nat.mul_zero, Nat.zero_add]

end Cert.LossHeadIdeal.Val

end
-- ==== Proof.Loss.Equation.lean ====
/-
  The loss: the reference's two results are the kernel's, over the extended reals and at every argument.
-/
module

public import proofs.«01_k».proof.Defs
public import proofs.«01_k».proof.Proof.Loss.Kernel
public import proofs.«01_k».proof.Proof.Gen.LossHead.Frame
public import proofs.«01_k».proof.Proof.Gen.LossHeadRefIdeal.Read

@[expose] public section

set_option maxRecDepth 16384

noncomputable section

namespace Cert.Loss

open Cert.Common
open Idealize.ShloMosaic Idealize.ShloMosaic.TcCoe Idealize.SL.Sem
open Cert.LossHeadIdeal.Val

/-- The reference's gradient is the kernel's. -/
theorem ref_grad (y t : FVec Ideal Cert.LossHeadIdeal.S8192x2048 .f32) :
    Cert.LossHeadRefIdeal.Read.val_main_v14 (F := Ideal) y t = grad y t := by
  funext i
  simp only [Cert.LossHeadRefIdeal.Read.val_main_v14, Cert.LossHeadRefIdeal.Read.val_main_v13,
    Cert.LossHeadRefIdeal.Read.val_main_v12, Cert.LossHeadRefIdeal.Read.val_main_v11, Cert.LossHeadRefIdeal.Read.val_main_v10,
    Cert.LossHeadRefIdeal.Read.val_main_v9, Cert.LossHeadRefIdeal.Read.val_main_cst_6, Cert.LossHeadRefIdeal.Read.val_main_cst_5,
    Cert.LossHeadRefIdeal.Read.val_main_cst_4, Cert.LossHeadRefIdeal.Read.val_main_v3, Cert.LossHeadRefIdeal.Read.val_main_v2,
    Cert.LossHeadRefIdeal.Read.val_main_cst, Cert.LossHeadRefIdeal.Read.val_main_v0]
  pointwise [grad, word_half, word_one, word_2048, word_two]
  rw [Ideal.div_coe (by norm_num), ← EReal.coe_mul, ← EReal.coe_mul, ← mul_assoc, ← EReal.coe_mul, mul_comm]
  norm_num

/-- The reference's loss is the kernel's. -/
theorem ref_loss (y t : FVec Ideal Cert.LossHeadIdeal.S8192x2048 .f32) (j : Cert.LossHeadRefIdeal.S_.Idx) :
    Cert.LossHeadRefIdeal.Read.val_main_v8 (F := Ideal) y t j
      = ((1 / 2 : ℝ) : EReal) * ∑ r : Fin 8192, rowErr y t r := by
  simp only [Cert.LossHeadRefIdeal.Read.val_main_v8, Cert.LossHeadRefIdeal.Read.val_main_v7,
    Cert.LossHeadRefIdeal.Read.val_main_v6, Cert.LossHeadRefIdeal.Read.val_main_v5, Cert.LossHeadRefIdeal.Read.val_main_v4,
    Cert.LossHeadRefIdeal.Read.val_main_v1, Cert.LossHeadRefIdeal.Read.val_main_cst_3, Cert.LossHeadRefIdeal.Read.val_main_cst_2,
    Cert.LossHeadRefIdeal.Read.val_main_cst_1, Cert.LossHeadRefIdeal.Read.val_main_cst_0, Cert.LossHeadRefIdeal.Read.val_main_v0]
  pointwise [rowErr, word_half, word_2048]

theorem frame_kernel [Cert.LossHead.Facts] : Cert.quiescent_LossHead := fun m ρ _ => Cert.LossHead.Gen.frame m ρ

theorem frame_ideal [Cert.LossHeadIdeal.Facts] : Cert.quiescent_LossHeadIdeal := fun m ρ _ => Cert.LossHeadIdeal.Gen.frame m ρ

theorem frame_ref [Cert.LossHeadRefIdeal.Facts] : Cert.quiescent_LossHeadRefIdeal := by
  intro m g _
  exact (θ_run Cert.LossHeadRefIdeal.defs _ _).mono (fun r h => ⟨fun c => (h c).2.2, sem_eq_zero_of_no_sems (by decide) r.2⟩)
    (Cert.LossHeadRefIdeal.Value.run (F := Ideal) m g)

/-- The kernel's run, its results named. -/
theorem run (m : (ℓ : Loc Cert.LossHeadIdeal.nD Cert.LossHeadIdeal.τ Cert.LossHeadIdeal.sig) → Buf (Elt Ideal) ℓ)
    (g : Dev Cert.LossHeadIdeal.nD → PrngReg) :
    θ_run (Cert.LossHeadIdeal.defs (F := Ideal)) (onTc (τ := Cert.LossHeadIdeal.τ) (Cert.LossHeadIdeal.main (F := Ideal)))
      ⟨m, fun _ => 0, g⟩ fun r => ∀ c : Dev Cert.LossHeadIdeal.nD,
      r.2.mem ((c.tc : Thread Cert.LossHeadIdeal.nD Cert.LossHeadIdeal.τ).loc Cert.LossHeadIdeal.main_v2)
          = (fun _ => ((1 / 2 : ℝ) : EReal) * ∑ r : Fin 8192, rowErr
              (m ((c.tc : Thread Cert.LossHeadIdeal.nD Cert.LossHeadIdeal.τ).loc Cert.LossHeadIdeal.main_arg0))
              (m ((c.tc : Thread Cert.LossHeadIdeal.nD Cert.LossHeadIdeal.τ).loc Cert.LossHeadIdeal.main_arg1)) r)
      ∧ r.2.mem ((c.tc : Thread Cert.LossHeadIdeal.nD Cert.LossHeadIdeal.τ).loc Cert.LossHeadIdeal.main_v0_0)
          = grad (m ((c.tc : Thread Cert.LossHeadIdeal.nD Cert.LossHeadIdeal.τ).loc Cert.LossHeadIdeal.main_arg0))
              (m ((c.tc : Thread Cert.LossHeadIdeal.nD Cert.LossHeadIdeal.τ).loc Cert.LossHeadIdeal.main_arg1))
      ∧ r.2.mem ((c.tc : Thread Cert.LossHeadIdeal.nD Cert.LossHeadIdeal.τ).loc Cert.LossHeadIdeal.main_arg0)
          = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1)
          = m ((c.tc : Thread Cert.LossHeadIdeal.nD Cert.LossHeadIdeal.τ).loc Cert.LossHeadIdeal.main_arg1) := by
  run_from Cert.LossHeadIdeal.Gen.run_main m g
  · unfold Pipeline.afterTail₀ Cert.LossHeadIdeal.Gen.hostOps1
    simp only [List.flatten_cons, List.flatten_nil, List.append_nil]
    after_results
    have hA : Pipeline.withArrays (Cert.LossHeadIdeal.cfgs 0).spec c (Cert.LossHeadIdeal.Gen.V0 m c)
        (fun w => (Cert.LossHeadIdeal.Gen.dats m 0 c).arrAt w (Cert.LossHeadIdeal.cfgs 0).N)
        (Proc.tc.devRef Cert.LossHeadIdeal.main_v0_1) = (Cert.LossHeadIdeal.Gen.dats m 0 c).arrAt 3 (Cert.LossHeadIdeal.cfgs 0).N :=
      Pipeline.withArrays_arr Cert.LossHeadIdeal.spec0 (by decide) c _ _ 3
    rw [hA]
    erw [final_loss m c]
    funext i
    pointwise
  · exact final_grad m c

theorem algebraic : Cert.algebraic_LossHeadIdeal_LossHeadRefIdeal := by
  pair_intro
  · run_from run m g
  · hlo_run
    · funext j; exact ref_loss _ _ j
    · exact ref_grad _ _

end Cert.Loss

end
-- ==== Proof.Merge.Kernel.lean ====
/-
  The gradient of the gated merge and of the projection behind it: the kernel's two result arrays as functions of its
  arguments.
-/
module

public import proofs.«01_k».proof.Proof.Common.Scalars
public import proofs.«01_k».proof.Proof.Gen.MergeBwdIdeal.Frame
public import Idealize.ShloMosaic.Lib.Pipeline.ValueKit
public import Idealize.ShloMosaic.Lib.Claim

@[expose] public section

set_option maxRecDepth 16384

noncomputable section

namespace Cert.MergeBwdIdeal.Val

open Cert.MergeBwdIdeal Cert.MergeBwdIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The gradient for the merged rows: the product with the projection's transpose. -/
def dm (w : FVec Ideal S2048x2048 .f32) (d : FVec Ideal S8192x2048 .f32) (r : Fin 8192) (j : Fin 2048) : EReal :=
  ∑ k : Fin 2048, d (ix2 r k) * w (ix2 j k)

/-- Column `j` of branch `b`'s gate, in the input projection. -/
def gateCol (b : Fin 3) (j : Fin 2048) : Fin 12288 := ⟨6144 + b.val * 2048 + j.val, by omega⟩

/-- The gradient for branch `b`. -/
def dyAt (p : FVec Ideal S8192x12288 .f32) (w : FVec Ideal S2048x2048 .f32) (d : FVec Ideal S8192x2048 .f32) (b : Fin 3)
    (r : Fin 8192) (j : Fin 2048) : EReal :=
  dm w d r j * Ideal.logistic (p (ix2 r (gateCol b j)))

/-- The gradient for branch `b`'s gate. -/
def dgAt (y : FVec Ideal S3x8192x2048 .f32) (p : FVec Ideal S8192x12288 .f32) (w : FVec Ideal S2048x2048 .f32)
    (d : FVec Ideal S8192x2048 .f32) (b : Fin 3) (r : Fin 8192) (j : Fin 2048) : EReal :=
  dm w d r j * y (ix3 b r j) * Ideal.logistic (p (ix2 r (gateCol b j)))
    * (((1 : ℝ) : EReal) - Ideal.logistic (p (ix2 r (gateCol b j))))

/-- The branches' gradients as an array. -/
def dy (p : FVec Ideal S8192x12288 .f32) (w : FVec Ideal S2048x2048 .f32) (d : FVec Ideal S8192x2048 .f32) :
    FVec Ideal S3x8192x2048 .bf16 :=
  fun i => dyAt p w d (i 0) (i 1) (i 2)

/-- The gates' gradients as an array, the branches side by side. -/
def dgates (y : FVec Ideal S3x8192x2048 .f32) (p : FVec Ideal S8192x12288 .f32) (w : FVec Ideal S2048x2048 .f32)
    (d : FVec Ideal S8192x2048 .f32) : FVec Ideal S8192x6144 .bf16 :=
  fun i => dgAt y p w d ⟨(i 1).val / 2048, by have : (i 1).val < 6144 := (i 1).isLt; omega⟩ (i 0)
    ⟨(i 1).val % 2048, by omega⟩

theorem idx_0 : ∀ t : Fin grid0.N, win0_0.index t = ![t.val / 6, 0] := by decide +kernel
theorem idx_1 : ∀ t : Fin grid0.N, win0_1.index t = ![t.val / 3 % 2, 0] := by decide +kernel
theorem idx_2 : ∀ t : Fin grid0.N, win0_2.index t = ![t.val % 3, t.val / 6, t.val / 3 % 2] := by decide +kernel
theorem idx_3 : ∀ t : Fin grid0.N, win0_3.index t = ![t.val / 6, 6 + t.val % 3 * 2 + t.val / 3 % 2] := by decide +kernel
theorem idx_4 : ∀ t : Fin grid0.N, win0_4.index t = ![t.val % 3, t.val / 6, t.val / 3 % 2] := by decide +kernel
theorem idx_5 : ∀ t : Fin grid0.N, win0_5.index t = ![t.val / 6, 6 + t.val % 3 * 2 + t.val / 3 % 2] := by decide +kernel

/-- The branch, the row and the column of an element of a point's block. -/
def brAt (t : Fin cfg0.N) : Fin 3 := ⟨t.val % 3, by omega⟩
def rowAt (t : Fin cfg0.N) (r : Fin 1024) : Fin 8192 := ⟨t.val / 6 * 1024 + r.val, by have : t.val < 48 := t.isLt; omega⟩
def colAt (t : Fin cfg0.N) (j : Fin 1024) : Fin 2048 := ⟨t.val / 3 % 2 * 1024 + j.val, by omega⟩

theorem blk_d (c : Dev nD) (t : Fin cfg0.N) (r : Fin 1024) (k : Fin 2048) :
    (iblk m c 0 t : FVec Ideal S1024x2048 .bf16) (ix2 r k)
      = (m ((c : Thread nD τ).loc main_arg3) : FVec Ideal S8192x2048 .f32) (ix2 (rowAt t r) k) := by
  blk_point [iblk, V, idx_0 t, rowAt]

theorem blk_w (c : Dev nD) (t : Fin cfg0.N) (j : Fin 1024) (k : Fin 2048) :
    (iblk m c 1 t : FVec Ideal S1024x2048 .bf16) (ix2 j k)
      = (m ((c : Thread nD τ).loc main_arg2) : FVec Ideal S2048x2048 .f32) (ix2 (colAt t j) k) := by
  blk_point [iblk, V, idx_1 t, colAt]

theorem blk_y (c : Dev nD) (t : Fin cfg0.N) (r j : Fin 1024) :
    (iblk m c 2 t : FVec Ideal S1x1024x1024 .bf16) (ix3 0 r j)
      = (m ((c : Thread nD τ).loc main_arg0) : FVec Ideal S3x8192x2048 .f32) (ix3 (brAt t) (rowAt t r) (colAt t j)) := by
  blk_point [iblk, V, idx_2 t, brAt, rowAt, colAt]

theorem blk_p (c : Dev nD) (t : Fin cfg0.N) (r j : Fin 1024) :
    (iblk m c 3 t : FVec Ideal S1024x1024 .f32) (ix2 r j)
      = (m ((c : Thread nD τ).loc main_arg1) : FVec Ideal S8192x12288 .f32)
          (ix2 (rowAt t r) (gateCol (brAt t) (colAt t j))) := by
  blk_point [iblk, V, idx_3 t, brAt, rowAt, colAt, gateCol]

theorem pay1 (d w : FVec Ideal S1024x2048 .bf16) (r j : Fin 1024) :
    k0_pay1 (F := Ideal) d w (ix2 r j) = ∑ k : Fin 2048, d (ix2 r k) * w (ix2 j k) := by
  pointwise [k0_pay1]

theorem pay3 (a p : FVec Ideal S1024x1024 .f32) (z : Fin 1) (r j : Fin 1024) :
    k0_pay3 (F := Ideal) a p (ix3 z r j) = a (ix2 r j) * Ideal.logistic (p (ix2 r j)) := by
  pointwise [k0_pay3, k0_pay2]

theorem pay4 (a p : FVec Ideal S1024x1024 .f32) (y : FVec Ideal S1x1024x1024 .bf16) (r j : Fin 1024) :
    k0_pay4 (F := Ideal) a p y (ix2 r j)
      = a (ix2 r j) * y (ix3 0 r j) * Ideal.logistic (p (ix2 r j)) * (((1 : ℝ) : EReal) - Ideal.logistic (p (ix2 r j))) := by
  pointwise [k0_pay4, k0_pay2, word_one]

/-- The tile of the merged gradient that a point works on. -/
def tile (c : Dev nD) (t : Fin cfg0.N) : FVec Ideal S1024x1024 .f32 :=
  fun i => dm (m ((c : Thread nD τ).loc main_arg2)) (m ((c : Thread nD τ).loc main_arg3)) (rowAt t (i 0)) (colAt t (i 1))

/-- The tile is kept in the scratch: a point computes it where it starts one, and finds it there otherwise. -/
theorem scratch (c : Dev nD) : ∀ (n : ℕ) (hn : n < cfg0.N), (outsAt0 m c n hn).2.2 = tile m c ⟨n, hn⟩ := by
  have start (t : Fin cfg0.N) (h : t.val % 3 = 0) : (outsAt0 m c t.val t.isLt).2.2 = tile m c t := by
    have key : (outsAt0 m c t.val t.isLt).2.2 = k0_pay1 (F := Ideal) (iblk m c 0 t) (iblk m c 1 t) := by
      rw [outsAt0_A m c t h]; frame_out
    rw [key]
    funext i
    obtain ⟨r, j, rfl⟩ : ∃ (r j : Fin 1024), i = ix2 r j := ⟨i 0, i 1, by ext a; fin_cases a <;> rfl⟩
    rw [pay1]
    simp only [blk_d, blk_w]
    rfl
  intro n
  induction n with
  | zero => exact fun hn => start ⟨0, hn⟩ rfl
  | succ n ih =>
    intro hn
    by_cases h : (n + 1) % 3 = 0
    · exact start ⟨n + 1, hn⟩ h
    · have key : (outsAt0 m c (n + 1) hn).2.2 = (outsAt0 m c n (Nat.lt_of_succ_lt hn)).2.2 := by
        exact congrArg (·.2.2) (outsAt0_B m c ⟨n + 1, hn⟩ h)
      rw [key, ih]
      have e1 : (n + 1) / 6 = n / 6 := by omega
      have e2 : (n + 1) / 3 = n / 3 := by omega
      funext i
      simp only [tile, rowAt, colAt, e1, e2]

/-- The tile as a point reads it. -/
theorem keyDy (c : Dev nD) (t : Fin cfg0.N) :
    (outsAt0 m c t.val t.isLt).1 = k0_pay3 (F := Ideal) (tile m c t) (iblk m c 3 t) := by
  rw [← scratch m c t.val t.isLt]
  by_cases h : t.val % 3 = 0
  · rw [outsAt0_A m c t h]; frame_out
  · rw [outsAt0_B m c t h]; frame_out; unfold sout0_B_0; exact congrArg (k0_pay3 (F := Ideal) · _) ((Memref.isWhole_whole _).read_unread _)

theorem keyDg (c : Dev nD) (t : Fin cfg0.N) :
    (outsAt0 m c t.val t.isLt).2.1 = k0_pay4 (F := Ideal) (tile m c t) (iblk m c 3 t) (iblk m c 2 t) := by
  rw [← scratch m c t.val t.isLt]
  by_cases h : t.val % 3 = 0
  · rw [outsAt0_A m c t h]; frame_out
  · rw [outsAt0_B m c t h]; frame_out; unfold sout0_B_0; exact congrArg (k0_pay4 (F := Ideal) · _ _) ((Memref.isWhole_whole _).read_unread _)

/-- The array of the branches' gradients after the run. -/
theorem final_dy (c : Dev nD) : (dats m 0 c).arrAt 4 cfg0.N = dy (m ((c : Thread nD τ).loc main_arg1))
    (m ((c : Thread nD τ).loc main_arg2)) (m ((c : Thread nD τ).loc main_arg3)) :=
  (dats m 0 c).arrAt_eq_of_covers 4 _ (by decide +kernel) fun t hf y => by
    blk_simp
    rw [after0_4, keyDy]
    obtain ⟨z, r, j, rfl⟩ : ∃ (z : Fin 1) (r j : Fin 1024), y = ix3 z r j := ⟨y 0, y 1, y 2, by ext a; fin_cases a <;> rfl⟩
    rw [pay3, blk_p]
    unfold dy dyAt tile dm
    blk_point [idx_4 t, brAt, rowAt, colAt, gateCol]

/-- The gates' gradients in columns 6144 and following of a wider array. -/
def spread (f : FVec Ideal S8192x6144 .bf16) (i : S8192x12288.Idx) : EReal :=
  f (ix2 (i 0) ⟨(i 1).val - 6144, by have : (i 1).val < 12288 := (i 1).isLt; omega⟩)

/-- Branch `b`'s gradient, where its columns are. -/
theorem dgates_at (y : FVec Ideal S3x8192x2048 .f32) (p : FVec Ideal S8192x12288 .f32) (w : FVec Ideal S2048x2048 .f32)
    (d : FVec Ideal S8192x2048 .f32) (b : Fin 3) (r : Fin 8192) (j : Fin 2048) (q : Fin 6144) (hq : q.val = b.val * 2048 + j.val) :
    dgates y p w d (ix2 r q) = dgAt y p w d b r j := by
  have e0 : q.val / 2048 = b.val := by omega
  have e1 : q.val % 2048 = j.val := by omega
  unfold dgates
  exact congrArg₂ (fun b' j' => dgAt y p w d b' r j') (Fin.ext e0) (Fin.ext e1)

/-- Branch `b`'s gradient, where the gate's own column is. -/
theorem spread_gate (y : FVec Ideal S3x8192x2048 .f32) (p : FVec Ideal S8192x12288 .f32) (w : FVec Ideal S2048x2048 .f32)
    (d : FVec Ideal S8192x2048 .f32) (b : Fin 3) (r : Fin 8192) (j : Fin 2048) :
    spread (dgates y p w d) (ix2 r (gateCol b j)) = dgAt y p w d b r j :=
  dgates_at y p w d b r j _ (show (gateCol b j).val - 6144 = _ by unfold gateCol; simp only; omega)

/-- The array that the gates' gradients lie in, after the run: they fill its columns from 6144 on. -/
theorem final_dg (c : Dev nD) (i : S8192x12288.Idx) (hi : 6144 ≤ (i 1).val) :
    ((dats m 0 c).arrAt 5 cfg0.N : FVec Ideal S8192x12288 .bf16) i
      = spread (dgates (m ((c : Thread nD τ).loc main_arg0)) (m ((c : Thread nD τ).loc main_arg1))
          (m ((c : Thread nD τ).loc main_arg2)) (m ((c : Thread nD τ).loc main_arg3))) i := by
  refine ((dats m 0 c).arrAt_apply_of_coversWhere 5 (spread (dgates (m ((c : Thread nD τ).loc main_arg0))
      (m ((c : Thread nD τ).loc main_arg1)) (m ((c : Thread nD τ).loc main_arg2)) (m ((c : Thread nD τ).loc main_arg3))))
    (P := fun i => 6144 ≤ (i 1).val) (fun β => 6 ≤ β (1 : Fin _)) (by decide +kernel)
    (fun t hf y => ?_) (fun j => ?_) i).trans (if_pos hi)
  case refine_2 =>
    have e : (cfg0.win 5).cell j 1 = (j 1).val / 1024 := rfl
    show 6144 ≤ (j 1).val ↔ 6 ≤ (cfg0.win 5).cell j 1
    omega
  have hy : (dats m 0 c).after 5 t = (outsAt0 m c t.val t.isLt).2.1 := after0_5 m c t
  rw [hy, keyDg]
  show k0_pay4 (F := Ideal) (tile m c t) (iblk m c 3 t) (iblk m c 2 t) y = _
  obtain ⟨r, j, rfl⟩ : ∃ (r j : Fin 1024), y = ix2 r j := ⟨y 0, y 1, by ext a; fin_cases a <;> rfl⟩
  rw [pay4, blk_p, blk_y]
  have h0 : (((cfg0.win 5).blk t).view.emb (ix2 r j) : S8192x12288.Idx) = ix2 (rowAt t r) (gateCol (brAt t) (colAt t j)) := by
    blk_point [idx_5 t, brAt, rowAt, colAt, gateCol]
  rw [h0]
  exact (spread_gate _ _ _ _ _ _ _).symm

end Cert.MergeBwdIdeal.Val

end
-- ==== Proof.Merge.Equation.lean ====
/-
  The gradient of the gated merge and of the projection behind it: the reference's two results are the kernel's, over the
  extended reals and at every argument.
-/
module

public import proofs.«01_k».proof.Defs
public import proofs.«01_k».proof.Proof.Merge.Kernel
public import proofs.«01_k».proof.Proof.Gen.MergeBwd.Frame
public import proofs.«01_k».proof.Proof.Gen.MergeBwdRefIdeal.Read

@[expose] public section

set_option maxRecDepth 16384

noncomputable section

namespace Cert.MergeEq

open Cert.Common
open Idealize.ShloMosaic Idealize.ShloMosaic.TcCoe Idealize.SL.Sem
open Cert.MergeBwdIdeal.Val Cert.MergeBwdRefIdeal.Read

/-- The reference's product with the projection's transpose. -/
theorem ref_dm (w : FVec Ideal Cert.MergeBwdIdeal.S2048x2048 .f32) (d : FVec Ideal Cert.MergeBwdIdeal.S8192x2048 .f32)
    (r : Fin 8192) (j : Fin 2048) : val_main_v29 (F := Ideal) w d (ix2 r j) = dm w d r j := by
  simp only [val_main_v29]
  pointwise [dm]

/-- The reference's gates. -/
theorem ref_gate (p : FVec Ideal Cert.MergeBwdIdeal.S8192x12288 .f32) (r : Fin 8192) (q : Fin 6144) :
    val_main_v6 (F := Ideal) p (ix2 r q) = Ideal.logistic (p (ix2 r ⟨6144 + q.val, by omega⟩)) := by
  simp only [val_main_v0, val_main_v1, val_main_v2, val_main_cst, val_main_v3, val_main_v4, val_main_cst_0, val_main_v5,
    val_main_v6]
  pointwise [word_one, Ideal.logistic]
  rw [EReal.coe_one]

/-- The reference's gradients for the branches. -/
theorem ref_dy (p : FVec Ideal Cert.MergeBwdIdeal.S8192x12288 .f32) (w : FVec Ideal Cert.MergeBwdIdeal.S2048x2048 .f32)
    (d : FVec Ideal Cert.MergeBwdIdeal.S8192x2048 .f32) : val_main_v54 (F := Ideal) p w d = dy p w d := by
  funext i
  obtain ⟨b, r, j, rfl⟩ : ∃ (b : Fin 3) (r : Fin 8192) (j : Fin 2048), i = ix3 b r j :=
    ⟨i 0, i 1, i 2, by ext a; fin_cases a <;> rfl⟩
  simp only [val_main_v10, val_main_v11, val_main_v12, val_main_v16, val_main_v17, val_main_v22, val_main_v23, val_main_v30,
    val_main_v32, val_main_cst_2, val_main_v33, val_main_v36, val_main_v38, val_main_cst_4, val_main_v39, val_main_v40,
    val_main_v44, val_main_v46, val_main_cst_6, val_main_v47, val_main_v48, val_main_v54]
  fin_cases b <;> pointwise [ref_dm, ref_gate, dy, dyAt, gateCol] <;>
    exact (mul_comm _ _).trans (congrArg (fun q => dm w d r j * Ideal.logistic (p (ix2 r q))) (Fin.ext (by simp only <;> omega)))

/-- The reference's gradient for the gates' sigmoids: the branches' parts put together. -/
theorem ref_ds (y : FVec Ideal Cert.MergeBwdIdeal.S3x8192x2048 .f32) (w : FVec Ideal Cert.MergeBwdIdeal.S2048x2048 .f32)
    (d : FVec Ideal Cert.MergeBwdIdeal.S8192x2048 .f32) (r : Fin 8192) (b : Fin 3) (j : Fin 2048) :
    val_main_v51 (F := Ideal) y w d (ix3 r b j) = dm w d r j * y (ix3 b r j) := by
  simp only [val_main_v13, val_main_v14, val_main_v18, val_main_v19, val_main_v24,
    val_main_v25, val_main_v31, val_main_v34, val_main_cst_3, val_main_v35, val_main_v37, val_main_v41, val_main_cst_5,
    val_main_v42, val_main_v43, val_main_v45, val_main_v49, val_main_cst_7, val_main_v50, val_main_v51]
  fin_cases b <;> pointwise [ref_dm]

/-- A gate's column, from its place among the gates. -/
theorem gateCol_split (q : Fin 6144) : gateCol ⟨q.val / 2048, by omega⟩ ⟨q.val % 2048, by omega⟩ = ⟨6144 + q.val, by omega⟩ :=
  Fin.ext (by simp only [gateCol]; omega)

/-- The reference's gradients for the gates. -/
theorem ref_dg (y : FVec Ideal Cert.MergeBwdIdeal.S3x8192x2048 .f32) (p : FVec Ideal Cert.MergeBwdIdeal.S8192x12288 .f32)
    (w : FVec Ideal Cert.MergeBwdIdeal.S2048x2048 .f32) (d : FVec Ideal Cert.MergeBwdIdeal.S8192x2048 .f32) :
    val_main_v55 (F := Ideal) y p w d = dgates y p w d := by
  funext i
  obtain ⟨r, q, rfl⟩ : ∃ (r : Fin 8192) (q : Fin 6144), i = ix2 r q := ⟨i 0, i 1, by ext a; fin_cases a <;> rfl⟩
  simp only [val_main_v7, val_main_cst_1, val_main_v8, val_main_v9, val_main_v52, val_main_v53, val_main_v55]
  pointwise [ref_ds, ref_gate, dgates, dgAt, word_one]
  simp only [gateCol_split, mul_assoc]

theorem frame_kernel [Cert.MergeBwd.Facts] : Cert.quiescent_MergeBwd := fun m ρ _ => Cert.MergeBwd.Gen.frame m ρ

theorem frame_ideal [Cert.MergeBwdIdeal.Facts] : Cert.quiescent_MergeBwdIdeal :=
  fun m ρ _ => Cert.MergeBwdIdeal.Gen.frame m ρ

theorem frame_ref [Cert.MergeBwdRefIdeal.Facts] : Cert.quiescent_MergeBwdRefIdeal := by
  intro m g _
  exact (θ_run Cert.MergeBwdRefIdeal.defs _ _).mono (fun r h => ⟨fun c => (h c).2.2, sem_eq_zero_of_no_sems (by decide) r.2⟩)
    (Cert.MergeBwdRefIdeal.Value.run (F := Ideal) m g)

/-- The run of the kernel, its trailing slice included, with both results. -/
theorem run (m : (ℓ : Loc Cert.MergeBwdIdeal.nD Cert.MergeBwdIdeal.τ Cert.MergeBwdIdeal.sig) → Buf (Elt Ideal) ℓ)
    (g : Dev Cert.MergeBwdIdeal.nD → PrngReg) :
    θ_run (Cert.MergeBwdIdeal.defs (F := Ideal)) (onTc (τ := Cert.MergeBwdIdeal.τ) (Cert.MergeBwdIdeal.main (F := Ideal)))
      ⟨m, fun _ => 0, g⟩ fun r => ∀ c : Dev Cert.MergeBwdIdeal.nD,
      let at_ (b : Ref Cert.MergeBwdIdeal.sig .tc) := (c.tc : Thread Cert.MergeBwdIdeal.nD Cert.MergeBwdIdeal.τ).loc b
      r.2.mem (at_ Cert.MergeBwdIdeal.main_v3_0) = dy (m (at_ Cert.MergeBwdIdeal.main_arg1))
          (m (at_ Cert.MergeBwdIdeal.main_arg2)) (m (at_ Cert.MergeBwdIdeal.main_arg3))
      ∧ r.2.mem (at_ Cert.MergeBwdIdeal.main_v4) = dgates (m (at_ Cert.MergeBwdIdeal.main_arg0))
          (m (at_ Cert.MergeBwdIdeal.main_arg1)) (m (at_ Cert.MergeBwdIdeal.main_arg2)) (m (at_ Cert.MergeBwdIdeal.main_arg3)) := by
  dsimp only
  run_from Cert.MergeBwdIdeal.Gen.run_main m g
  · exact final_dy m c
  · unfold Pipeline.afterTail₀ Cert.MergeBwdIdeal.Gen.hostOps1
    simp only [List.flatten_cons, List.flatten_nil, List.append_nil]
    after_results
    have hA : Pipeline.withArrays (Cert.MergeBwdIdeal.cfgs 0).spec c (Cert.MergeBwdIdeal.Gen.V0 m c)
        (fun w => (Cert.MergeBwdIdeal.Gen.dats m 0 c).arrAt w (Cert.MergeBwdIdeal.cfgs 0).N)
        (Proc.tc.devRef Cert.MergeBwdIdeal.main_v3_1) = (Cert.MergeBwdIdeal.Gen.dats m 0 c).arrAt 5 (Cert.MergeBwdIdeal.cfgs 0).N :=
      Pipeline.withArrays_arr Cert.MergeBwdIdeal.spec0 (by decide) c _ _ 5
    rw [hA]
    funext i
    obtain ⟨r, q, rfl⟩ : ∃ (r : Fin 8192) (q : Fin 6144), i = ix2 r q := ⟨i 0, i 1, by ext a; fin_cases a <;> rfl⟩
    refine Eq.trans ?_ ((final_dg m c (ix2 r ⟨6144 + q.val, by omega⟩) (Nat.le_add_right _ _)).trans
      (congrArg (dgates _ _ _ _) (congrArg (ix2 r) (Fin.ext (Nat.add_sub_cancel_left 6144 q.val)))))
    pointwise

theorem algebraic : Cert.algebraic_MergeBwdIdeal_MergeBwdRefIdeal := by
  pair_intro
  · run_from run m g & Cert.MergeBwdIdeal.Gen.frame m g
  · hlo_run
    · exact ref_dy _ _ _
    · exact ref_dg _ _ _ _

end Cert.MergeEq

end
-- ==== Proof.Down.Kernel.lean ====
/-
  The gradient of the squared ReLU and of the product behind it: the kernel's result array as a function of its arguments.
-/
module

public import proofs.«01_k».proof.Proof.Common.Scalars
public import proofs.«01_k».proof.Proof.Gen.MlpDownBwdIdeal.Frame
public import Idealize.ShloMosaic.Lib.Pipeline.ValueKit
public import Idealize.ShloMosaic.Lib.Claim

@[expose] public section

set_option maxRecDepth 16384

noncomputable section

namespace Cert.MlpDownBwdIdeal.Val

open Cert.MlpDownBwdIdeal Cert.MlpDownBwdIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The gradient for the hidden layer: the product with the weight's transpose, times `2·max(u, 0)`. -/
def du (u : FVec Ideal S8192x8192 .f32) (w df : FVec Ideal S8192x2048 .f32) : FVec Ideal S8192x8192 .bf16 :=
  fun i => (∑ k : Fin 2048, df (ix2 (i 0) k) * w (ix2 (i 1) k)) * (((2 : ℝ) : EReal) * max (u i) 0)

theorem idx_0 : ∀ t : Fin grid0.N, win0_0.index t = ![t.val / 4, 0] := by decide +kernel
theorem idx_1 : ∀ t : Fin grid0.N, win0_1.index t = ![t.val % 4, 0] := by decide +kernel
theorem idx_2 : ∀ t : Fin grid0.N, win0_2.index t = ![t.val / 4, t.val % 4] := by decide +kernel
theorem idx_3 : ∀ t : Fin grid0.N, win0_3.index t = ![t.val / 4, t.val % 4] := by decide +kernel

/-- Row `r` and column `j` of the block at a point, in the result. -/
def rowAt (t : Fin cfg0.N) (r : Fin 1024) : Fin 8192 := ⟨t.val / 4 * 1024 + r.val, by have : t.val < 32 := t.isLt; omega⟩
def colAt (t : Fin cfg0.N) (j : Fin 2048) : Fin 8192 := ⟨t.val % 4 * 2048 + j.val, by omega⟩

theorem blk_df (c : Dev nD) (t : Fin cfg0.N) (r : Fin 1024) (k : Fin 2048) :
    (iblk m c 0 t : FVec Ideal S1024x2048 .bf16) (ix2 r k)
      = (m ((c : Thread nD τ).loc main_arg2) : FVec Ideal S8192x2048 .f32) (ix2 (rowAt t r) k) := by
  blk_point [iblk, V, idx_0 t, rowAt]

theorem blk_w (c : Dev nD) (t : Fin cfg0.N) (j k : Fin 2048) :
    (iblk m c 1 t : FVec Ideal S2048x2048 .bf16) (ix2 j k)
      = (m ((c : Thread nD τ).loc main_arg1) : FVec Ideal S8192x2048 .f32) (ix2 (colAt t j) k) := by
  blk_point [iblk, V, idx_1 t, colAt]

theorem blk_r (c : Dev nD) (t : Fin cfg0.N) (r : Fin 1024) (j : Fin 2048) :
    (iblk m c 2 t : FVec Ideal S1024x2048 .bf16) (ix2 r j)
      = max (α := EReal) ((m ((c : Thread nD τ).loc main_arg0) : FVec Ideal S8192x8192 .f32) (ix2 (rowAt t r) (colAt t j))) 0 := by
  have hV : (V m c main_v2 : FVec Ideal S8192x8192 .bf16)
      = fun i => max (α := EReal) ((m ((c : Thread nD τ).loc main_arg0) : FVec Ideal S8192x8192 .f32) i) 0 := by
    unfold V; after_results; funext i; pointwise
  refine Eq.trans ?_ (congrFun hV (ix2 (rowAt t r) (colAt t j)))
  blk_point [iblk, idx_2 t, rowAt, colAt]

theorem pay1 (d : FVec Ideal S1024x2048 .bf16) (w : FVec Ideal S2048x2048 .bf16) (u : FVec Ideal S1024x2048 .bf16)
    (r : Fin 1024) (j : Fin 2048) : k0_pay1 (F := Ideal) d w u (ix2 r j)
      = (∑ k : Fin 2048, d (ix2 r k) * w (ix2 j k)) * (((2 : ℝ) : EReal) * u (ix2 r j)) := by
  pointwise [k0_pay1, word_two]

/-- The result array after the run. -/
theorem final (c : Dev nD) : (dats m 0 c).arrAt 3 cfg0.N = du (m ((c : Thread nD τ).loc main_arg0))
    (m ((c : Thread nD τ).loc main_arg1)) (m ((c : Thread nD τ).loc main_arg2)) :=
  (dats m 0 c).arrAt_eq_of_covers 3 _ (by decide +kernel) fun t hf y => by
    blk_simp
    rw [after0_3]
    have key : out0_3 (iblk m c 0 t) (iblk m c 1 t) (iblk m c 2 t) = k0_pay1 (iblk m c 0 t) (iblk m c 1 t) (iblk m c 2 t) := by
      frame_out
    obtain ⟨r, j, rfl⟩ : ∃ (r : Fin 1024) (j : Fin 2048), y = ix2 r j := ⟨y 0, y 1, by ext a; fin_cases a <;> rfl⟩
    rw [key, pay1]
    simp only [blk_df, blk_w, blk_r]
    unfold du
    blk_point [idx_3 t, rowAt, colAt]

end Cert.MlpDownBwdIdeal.Val

end
-- ==== Proof.Down.Equation.lean ====
/-
  The gradient of the squared ReLU and of the product behind it: the reference's result is the kernel's, over the extended
  reals and at every argument.
-/
module

public import proofs.«01_k».proof.Defs
public import proofs.«01_k».proof.Proof.Down.Kernel
public import proofs.«01_k».proof.Proof.Gen.MlpDownBwd.Frame
public import proofs.«01_k».proof.Proof.Gen.MlpDownBwdRefIdeal.Read

@[expose] public section

set_option maxRecDepth 16384

noncomputable section

namespace Cert.DownEq

open Cert.Common
open Idealize.ShloMosaic Idealize.ShloMosaic.TcCoe Idealize.SL.Sem
open Cert.MlpDownBwdIdeal.Val Cert.MlpDownBwdRefIdeal.Read

/-- The reference chooses between the product and zero; the kernel multiplies by the ReLU, which is zero where the
    reference chooses zero. -/
theorem ref_du (u : FVec Ideal Cert.MlpDownBwdIdeal.S8192x8192 .f32) (w df : FVec Ideal Cert.MlpDownBwdIdeal.S8192x2048 .f32) :
    val_main_v12 (F := Ideal) u w df = du u w df := by
  funext i
  simp only [val_main_call0_cst, val_main_call0_v0, val_main_v0, val_main_cst, val_main_v1, val_main_v2, val_main_cst_1, val_main_v5, val_main_v6, val_main_v8,
    val_main_v9, val_main_cst_2, val_main_v10, val_main_v11, val_main_v12]
  pointwise [du, word_two]
  split_ifs with h
  · rfl
  · rw [max_eq_right (not_lt.1 h), mul_zero, mul_zero]

theorem frame_kernel [Cert.MlpDownBwd.Facts] : Cert.quiescent_MlpDownBwd := fun m ρ _ => Cert.MlpDownBwd.Gen.frame m ρ

theorem frame_ideal [Cert.MlpDownBwdIdeal.Facts] : Cert.quiescent_MlpDownBwdIdeal :=
  fun m ρ _ => Cert.MlpDownBwdIdeal.Gen.frame m ρ

theorem frame_ref [Cert.MlpDownBwdRefIdeal.Facts] : Cert.quiescent_MlpDownBwdRefIdeal := by
  intro m g _
  exact (θ_run Cert.MlpDownBwdRefIdeal.defs _ _).mono (fun r h => ⟨fun c => (h c).2, sem_eq_zero_of_no_sems (by decide) r.2⟩)
    (Cert.MlpDownBwdRefIdeal.Value.run (F := Ideal) m g)

theorem algebraic : Cert.algebraic_MlpDownBwdIdeal_MlpDownBwdRefIdeal := by
  pair_intro
  · run_from Cert.MlpDownBwdIdeal.Gen.run_main m g
  · hlo_run
    exact (ref_du _ _ _).trans (final m c).symm

end Cert.DownEq

end
-- ==== Proof.Rms.Top.Kernel.lean ====
/-
  The gradient of the last normalisation: the kernel's two result arrays as functions of its arguments.
-/
module

public import proofs.«01_k».proof.Proof.Common.Norm
public import proofs.«01_k».proof.Proof.Gen.RmsTopIdeal.Frame
public import Idealize.ShloMosaic.Lib.Pipeline.ValueKit
public import Idealize.ShloMosaic.Lib.Claim

@[expose] public section

set_option maxRecDepth 16384

noncomputable section

namespace Cert.RmsTopIdeal.Val

open Cert.RmsTopIdeal Cert.RmsTopIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The gradient for the rows. -/
def dx (x : FVec Ideal S8192x2048 .f32) (g : FVec Ideal S2048 .f32) (dy : FVec Ideal S8192x2048 .f32) :
    FVec Ideal S8192x2048 .bf16 :=
  fun i => rmsDx (fun k => dy (ix2 (i 0) k)) (fun k => x (ix2 (i 0) k)) (fun k => g (ix1 k)) (i 1)

/-- The gradient for the gain: a sum over the rows. -/
def dg (x dy : FVec Ideal S8192x2048 .f32) : FVec Ideal S1x2048 .f32 :=
  fun i => ∑ r : Fin 8192, dy (ix2 r (i 1)) * x (ix2 r (i 1)) * rstd (fun k => x (ix2 r k))

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![0, 0] := by decide +kernel

theorem blk_dy (c : Dev nD) (t : Fin cfg0.N) (r : Fin 512) (k : Fin 2048) :
    (iblk m c 0 t : FVec Ideal S512x2048 .f32) (ix2 r k)
      = (m ((c : Thread nD τ).loc main_arg2) : FVec Ideal S8192x2048 .f32)
          (ix2 ⟨t.val * 512 + r.val, by have : t.val < 16 := t.isLt; omega⟩ k) := by
  blk_point [iblk, V, idx_0 t]

theorem blk_x (c : Dev nD) (t : Fin cfg0.N) (r : Fin 512) (k : Fin 2048) :
    (iblk m c 1 t : FVec Ideal S512x2048 .f32) (ix2 r k)
      = (m ((c : Thread nD τ).loc main_arg0) : FVec Ideal S8192x2048 .f32)
          (ix2 ⟨t.val * 512 + r.val, by have : t.val < 16 := t.isLt; omega⟩ k) := by
  blk_point [iblk, V, idx_1 t]

theorem blk_g (c : Dev nD) (t : Fin cfg0.N) (k : Fin 2048) :
    (iblk m c 2 t : FVec Ideal S1x2048 .f32) (ix2 0 k) = (m ((c : Thread nD τ).loc main_arg1) : FVec Ideal S2048 .f32) (ix1 k) := by
  blk_point [iblk, V, idx_2 t]

theorem pay3 (y x : FVec Ideal S512x2048 .f32) (g : FVec Ideal S1x2048 .f32) (r : Fin 512) (j : Fin 2048) :
    k0_pay3 (F := Ideal) y x g (ix2 r j) = rmsDx (fun k => y (ix2 r k)) (fun k => x (ix2 r k)) (fun k => g (ix2 0 k)) j := by
  pointwise [k0_pay3, k0_pay2, rmsDx, rstd, rmsArg, word_2048, word_eps]

theorem pay4 (i : S1x2048.Idx) : (k0_pay4 (F := Ideal)) i = 0 := by
  pointwise [k0_pay4]

theorem pay1 (y x : FVec Ideal S512x2048 .f32) (a : FVec Ideal S1x2048 .f32) (i : S1x2048.Idx) :
    k0_pay1 (F := Ideal) (k0_pay5 a) (k0_pay6 y x) i
      = a i + ∑ r : Fin 512, y (ix2 r (i 1)) * x (ix2 r (i 1)) * rstd (fun k => x (ix2 r k)) := by
  pointwise [k0_pay1, k0_pay5, k0_pay6, k0_pay2, rstd, rmsArg, word_2048, word_eps]

/-- The array of the rows' gradients after the run. -/
theorem final_dx (c : Dev nD) : (dats m 0 c).arrAt 3 cfg0.N = dx (m ((c : Thread nD τ).loc main_arg0))
    (m ((c : Thread nD τ).loc main_arg1)) (m ((c : Thread nD τ).loc main_arg2)) :=
  (dats m 0 c).arrAt_eq_of_covers 3 _ (by decide +kernel) fun t hf y => by
    blk_simp
    rw [after0_3]
    have key : (outsAt0 m c t.val t.isLt).1 = k0_pay3 (iblk m c 0 t) (iblk m c 1 t) (iblk m c 2 t) := by
      by_cases h : t.val % 16 = 0
      · rw [outsAt0_A m c t h]; frame_out
      · rw [outsAt0_B m c t h]; frame_out
    obtain ⟨r, j, rfl⟩ : ∃ (r : Fin 512) (j : Fin 2048), y = ix2 r j := ⟨y 0, y 1, by ext a; fin_cases a <;> rfl⟩
    rw [key, pay3]
    simp only [blk_dy, blk_x, blk_g]
    unfold dx
    blk_point [idx_3 t]

/-- The gain's gradient after the run. -/
theorem final_dg (c : Dev nD) : (dats m 0 c).arrAt 4 cfg0.N = dg (m ((c : Thread nD τ).loc main_arg0))
    (m ((c : Thread nD τ).loc main_arg2)) :=
  (dats m 0 c).arrAt_eq_of_covers 4 _ (by decide +kernel) fun t hf y => by
    blk_simp
    rw [after0_4, Pipeline.eq_sum_fin_of_reset_step_apply_of_flush (fun n h => (outsAt0 m c n h).2) 16 (fun _ => 0) _
      (fun t h j => by rw [outsAt0_A m c t h]; frame_out; rw [pay1, pay4])
      (fun t h j => by rw [outsAt0_B m c t h]; frame_out; rw [pay1]) t ((flush0_4 t).mp hf) _, zero_add]
    obtain ⟨z, j, rfl⟩ : ∃ (z : Fin 1) (j : Fin 2048), y = ix2 z j := ⟨y 0, y 1, by ext a; fin_cases a <;> rfl⟩
    have hN : t.val < 16 := t.isLt
    have h0 : t.val / 16 = 0 := by omega
    refine Fin.sum_mul_add_congr fun s k hl => ?_
    have e1 : (ix2 z j : S1x2048.Idx) 1 = j := rfl
    simp only [e1, blk_dy, blk_x, h0, Nat.mul_zero, Nat.zero_add]
    blk_point [idx_4 t]

end Cert.RmsTopIdeal.Val

end
-- ==== Proof.Rms.Top.Equation.lean ====
/-
  The gradient of the last normalisation: the reference's two results are the kernel's, over the extended reals, where
  the rows, the gain and the cotangent are finite.
-/
module

public import proofs.«01_k».proof.Defs
public import proofs.«01_k».proof.Proof.Rms.Top.Kernel
public import proofs.«01_k».proof.Proof.Gen.RmsTop.Frame
public import proofs.«01_k».proof.Proof.Gen.RmsTopRefIdeal.Read
public import proofs.«01_k».proof.Proof.Gen.Pre_finite_rms

@[expose] public section

set_option maxRecDepth 16384

noncomputable section

namespace Cert.RmsTopEq

open Cert.Common
open Idealize.ShloMosaic Idealize.ShloMosaic.TcCoe Idealize.SL.Sem
open Cert.RmsTopIdeal.Val Cert.RmsTopRefIdeal.Read

/-- The precondition says that the arguments are arrays of reals. -/
theorem reals [Cert.Pre_finite_rms.Facts] (x : FVec Ideal Cert.RmsTopIdeal.S8192x2048 .f32)
    (g : FVec Ideal Cert.RmsTopIdeal.S2048 .f32) (dy : FVec Ideal Cert.RmsTopIdeal.S8192x2048 .f32)
    (h : Cert.Pre_finite_rms.fn (F := Ideal) x g dy = fun _ => 1#1) :
    (∃ X : Cert.RmsTopIdeal.S8192x2048.Idx → ℝ, x = fun i => (X i : EReal))
      ∧ (∃ G : Cert.RmsTopIdeal.S2048.Idx → ℝ, g = fun i => (G i : EReal))
      ∧ ∃ Y : Cert.RmsTopIdeal.S8192x2048.Idx → ℝ, dy = fun i => (Y i : EReal) := by
  haveI : Subsingleton Cert.Pre_finite_rms.S_.Idx := ⟨fun a b => funext fun i => i.elim0⟩
  have h := congrFun h (fun a => a.elim0)
  obtain ⟨h, h3⟩ := IntOp.andi_eq_one.1 h
  obtain ⟨h1, h2⟩ := IntOp.andi_eq_one.1 h
  exact ⟨reals_of_all _ _ _ _ _ _ h1, reals_of_all _ _ _ _ _ _ h2, reals_of_all _ _ _ _ _ _ h3⟩

/-- The reference's gradient for the rows. -/
theorem ref_dx (X Y : Cert.RmsTopIdeal.S8192x2048.Idx → ℝ) (G : Cert.RmsTopIdeal.S2048.Idx → ℝ) :
    val_main_v36 (F := Ideal) (fun i => (X i : EReal)) (fun i => (G i : EReal)) (fun i => (Y i : EReal))
      = dx (fun i => (X i : EReal)) (fun i => (G i : EReal)) (fun i => (Y i : EReal)) := by
  funext i
  refine Eq.trans ?_ (rmsDxRef_real (fun k => Y (ix2 (i 0) k)) (fun k => X (ix2 (i 0) k)) (fun k => G (ix1 k)) (i 1))
  simp only [val_main_v0, val_main_cst, val_main_v1, val_main_v2, val_main_cst_0, val_main_v3, val_main_v4, val_main_cst_1,
    val_main_v5, val_main_v6, val_main_v7, val_main_v8, val_main_cst_2, val_main_v9, val_main_v10, val_main_v13, val_main_v19,
    val_main_v20, val_main_v22, val_main_cst_5, val_main_v23, val_main_v24, val_main_v25, val_main_v26, val_main_v27,
    val_main_cst_6, val_main_v28, val_main_v29, val_main_cst_7, val_main_v30, val_main_v31, val_main_v32, val_main_v33,
    val_main_v34, val_main_v35, val_main_v36]
  pointwise [rmsDxRef, rmsPull, rstd, rmsArg, word_2048, word_eps, word_neg_half]
  simp only [Fin.sum_univ_one]

/-- The reference's gradient for the gain: the same sum over the rows. -/
theorem ref_dg (x dy : FVec Ideal Cert.RmsTopIdeal.S8192x2048 .f32) :
    val_main_v37 (F := Ideal) x dy = dg x dy := by
  funext i
  simp only [val_main_v0, val_main_cst, val_main_v1, val_main_v2, val_main_cst_0, val_main_v3, val_main_v4, val_main_cst_1,
    val_main_v5, val_main_v6, val_main_v7, val_main_v11, val_main_v12, val_main_v16, val_main_cst_3, val_main_v17,
    val_main_v18, val_main_cst_4, val_main_v21, val_main_v37]
  pointwise [dg, rstd, rmsArg, word_2048, word_eps]
  simp only [Fin.sum_univ_one]
  exact Finset.sum_congr rfl fun r _ => by rw [mul_right_comm, mul_comm (dy _)]

theorem frame_kernel [Cert.RmsTop.Facts] : Cert.quiescent_RmsTop := fun m ρ _ => Cert.RmsTop.Gen.frame m ρ

theorem frame_ideal [Cert.RmsTopIdeal.Facts] : Cert.quiescent_RmsTopIdeal := fun m ρ _ => Cert.RmsTopIdeal.Gen.frame m ρ

theorem frame_ref [Cert.RmsTopRefIdeal.Facts] : Cert.quiescent_RmsTopRefIdeal := by
  intro m g _
  exact (θ_run Cert.RmsTopRefIdeal.defs _ _).mono (fun r h => ⟨fun c => (h c).2.2, sem_eq_zero_of_no_sems (by decide) r.2⟩)
    (Cert.RmsTopRefIdeal.Value.run (F := Ideal) m g)

theorem algebraic [Cert.Pre_finite_rms.Facts] : Cert.algebraic_RmsTopIdeal_RmsTopRefIdeal_pre_finite_rms := by
  pair_intro
  · run_from Cert.RmsTopIdeal.Gen.run_main m g
  · hlo_run
    · refine Eq.trans ?_ (final_dx m c).symm
      obtain ⟨⟨X, hX⟩, ⟨G, hG⟩, Y, hY⟩ := reals _ _ _ (hpre c)
      rw [hX, hG, hY]
      exact ref_dx X Y G
    · exact (ref_dg _ _).trans (final_dg m c).symm

end Cert.RmsTopEq

end
-- ==== Proof.Rms.Pre.Kernel.lean ====
/-
  The gradient of a normalisation, of the residual sum in front of it and of the normalisation inside that sum: the kernel's
  four result arrays as functions of its arguments.
-/
module

public import proofs.«01_k».proof.Proof.Common.Norm
public import proofs.«01_k».proof.Proof.Gen.RmsPreIdeal.Frame
public import Idealize.ShloMosaic.Lib.Pipeline.ValueKit
public import Idealize.ShloMosaic.Lib.Claim

@[expose] public section

set_option maxRecDepth 16384

noncomputable section

namespace Cert.RmsPreIdeal.Val

open Cert.RmsPreIdeal Cert.RmsPreIdeal.Gen Cert.Common
open Idealize.ShloMosaic Idealize.ShloMosaic.TcCoe Idealize.SL.Sem
open Idealize.ShloMosaic.Pipeline (Dat)

/-- Row `r` of an array. -/
def row (x : FVec Ideal S8192x2048 .f32) (r : Fin 8192) : Fin 2048 → EReal := fun k => x (ix2 r k)

/-- A gain as a function of the column. -/
def gain (g : FVec Ideal S2048 .f32) : Fin 2048 → EReal := fun k => g (ix1 k)

/-- The sum that the outer normalisation reads: `x`, and the inner normalisation of `z`. -/
def x1 (x z : FVec Ideal S8192x2048 .f32) (gz : FVec Ideal S2048 .f32) : FVec Ideal S8192x2048 .f32 :=
  fun i => x i + rmsRow (row z (i 0)) (gain gz) (i 1)

/-- The gradient for the sum: the outer normalisation's, and what comes along the residual path. -/
def dx (x1 : FVec Ideal S8192x2048 .f32) (g : FVec Ideal S2048 .f32) (dr dy : FVec Ideal S8192x2048 .f32) :
    FVec Ideal S8192x2048 .f32 :=
  fun i => rmsDx (row dy (i 0)) (row x1 (i 0)) (gain g) (i 1) + dr i

/-- The gradient for the inner normalisation's rows. -/
def dz (z : FVec Ideal S8192x2048 .f32) (g : FVec Ideal S2048 .f32) (dy : FVec Ideal S8192x2048 .f32) :
    FVec Ideal S8192x2048 .bf16 :=
  fun i => rmsDx (row dy (i 0)) (row z (i 0)) (gain g) (i 1)

/-- A gain's gradient: a sum over the rows. -/
def dg (x dy : FVec Ideal S8192x2048 .f32) : FVec Ideal S1x2048 .f32 :=
  fun i => ∑ r : Fin 8192, dy (ix2 r (i 1)) * x (ix2 r (i 1)) * rstd (row x r)

/-- The four results, of the six arguments. -/
def resX (x z : FVec Ideal S8192x2048 .f32) (gz g : FVec Ideal S2048 .f32) (dr dy : FVec Ideal S8192x2048 .f32) :=
  dx (x1 x z gz) g dr dy
def resG (x z : FVec Ideal S8192x2048 .f32) (gz : FVec Ideal S2048 .f32) (dy : FVec Ideal S8192x2048 .f32) :=
  dg (x1 x z gz) dy
def resZ (x z : FVec Ideal S8192x2048 .f32) (gz g : FVec Ideal S2048 .f32) (dr dy : FVec Ideal S8192x2048 .f32) :=
  dz z gz (resX x z gz g dr dy)
def resGz (x z : FVec Ideal S8192x2048 .f32) (gz g : FVec Ideal S2048 .f32) (dr dy : FVec Ideal S8192x2048 .f32) :=
  dg z (resX x z gz g dr dy)

variable (m : (ℓ : Loc nD τ sig) → Buf (Elt Ideal) ℓ)

/-- The arguments on a device. -/
abbrev aX (c : Dev nD) : FVec Ideal S8192x2048 .f32 := m ((c : Thread nD τ).loc main_arg0)
abbrev aZ (c : Dev nD) : FVec Ideal S8192x2048 .f32 := m ((c : Thread nD τ).loc main_arg1)
abbrev aGz (c : Dev nD) : FVec Ideal S2048 .f32 := m ((c : Thread nD τ).loc main_arg2)
abbrev aG (c : Dev nD) : FVec Ideal S2048 .f32 := m ((c : Thread nD τ).loc main_arg3)
abbrev aR (c : Dev nD) : FVec Ideal S8192x2048 .f32 := m ((c : Thread nD τ).loc main_arg4)
abbrev aY (c : Dev nD) : FVec Ideal S8192x2048 .f32 := m ((c : Thread nD τ).loc main_arg5)

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![0, 0] := by decide +kernel
theorem idx_6 : ∀ t : Fin grid0.N, win0_6.index t = ![t.val, 0] := by decide +kernel
theorem idx_7 : ∀ t : Fin grid0.N, win0_7.index t = ![0, 0] := by decide +kernel
theorem idx_8 : ∀ t : Fin grid0.N, win0_8.index t = ![t.val, 0] := by decide +kernel
theorem idx_9 : ∀ t : Fin grid0.N, win0_9.index t = ![0, 0] := by decide +kernel

/-- Row `r` of the block at a point, in its array. -/
def at_ (t : Fin cfg0.N) (r : Fin 256) : Fin 8192 := ⟨t.val * 256 + r.val, by have : t.val < 32 := t.isLt; omega⟩

theorem blk_y (c : Dev nD) (t : Fin cfg0.N) (r : Fin 256) (k : Fin 2048) :
    (iblk m c 0 t : FVec Ideal S256x2048 .f32) (ix2 r k) = aY m c (ix2 (at_ t r) k) := by
  blk_point [iblk, V, idx_0 t, at_]

/-- The host lines in front of the call compute the sum. -/
theorem V_x1 (c : Dev nD) : (V m c main_v13 : FVec Ideal S8192x2048 .f32) = x1 (aX m c) (aZ m c) (aGz m c) := by
  unfold V; after_results
  funext i
  pointwise [x1, row, gain, rmsRow, rstd, rmsArg, word_2048, word_eps]

theorem blk_x (c : Dev nD) (t : Fin cfg0.N) (r : Fin 256) (k : Fin 2048) :
    (iblk m c 1 t : FVec Ideal S256x2048 .f32) (ix2 r k) = x1 (aX m c) (aZ m c) (aGz m c) (ix2 (at_ t r) k) := by
  rw [← V_x1]
  blk_point [iblk, idx_1 t, at_]

theorem blk_r (c : Dev nD) (t : Fin cfg0.N) (r : Fin 256) (k : Fin 2048) :
    (iblk m c 3 t : FVec Ideal S256x2048 .f32) (ix2 r k) = aR m c (ix2 (at_ t r) k) := by
  blk_point [iblk, V, idx_3 t, at_]

theorem blk_z (c : Dev nD) (t : Fin cfg0.N) (r : Fin 256) (k : Fin 2048) :
    (iblk m c 4 t : FVec Ideal S256x2048 .f32) (ix2 r k) = aZ m c (ix2 (at_ t r) k) := by
  blk_point [iblk, V, idx_4 t, at_]

theorem blk_g (c : Dev nD) (t : Fin cfg0.N) (k : Fin 2048) :
    (iblk m c 2 t : FVec Ideal S1x2048 .f32) (ix2 0 k) = gain (aG m c) k := by
  blk_point [iblk, V, idx_2 t, gain]

theorem blk_gz (c : Dev nD) (t : Fin cfg0.N) (k : Fin 2048) :
    (iblk m c 5 t : FVec Ideal S1x2048 .f32) (ix2 0 k) = gain (aGz m c) k := by
  blk_point [iblk, V, idx_5 t, gain]

theorem pay5 (y x : FVec Ideal S256x2048 .f32) (g : FVec Ideal S1x2048 .f32) (d : FVec Ideal S256x2048 .f32) (r : Fin 256)
    (j : Fin 2048) : k0_pay5 (F := Ideal) y x g d (ix2 r j)
      = rmsDx (fun k => y (ix2 r k)) (fun k => x (ix2 r k)) (fun k => g (ix2 0 k)) j + d (ix2 r j) := by
  pointwise [k0_pay5, k0_pay3, k0_pay2, rmsDx, rstd, rmsArg, word_2048, word_eps]

theorem pay10 (y x : FVec Ideal S256x2048 .f32) (g : FVec Ideal S1x2048 .f32) (r : Fin 256) (j : Fin 2048) :
    k0_pay10 (F := Ideal) y x g (ix2 r j)
      = rmsDx (fun k => y (ix2 r k)) (fun k => x (ix2 r k)) (fun k => g (ix2 0 k)) j := by
  pointwise [k0_pay10, k0_pay8, rmsDx, rstd, rmsArg, word_2048, word_eps]

theorem pay6 (i : S1x2048.Idx) : (k0_pay6 (F := Ideal)) i = 0 := by
  pointwise [k0_pay6]

theorem pay11 (i : S1x2048.Idx) : (k0_pay11 (F := Ideal)) i = 0 := by
  pointwise [k0_pay11]

theorem pay7 (y x : FVec Ideal S256x2048 .f32) (a : FVec Ideal S1x2048 .f32) (i : S1x2048.Idx) :
    k0_pay7 (F := Ideal) (k0_pay4 y x) a i
      = a i + ∑ r : Fin 256, y (ix2 r (i 1)) * x (ix2 r (i 1)) * rstd (fun k => x (ix2 r k)) := by
  pointwise [k0_pay7, k0_pay4, k0_pay3, k0_pay2, rstd, rmsArg, word_2048, word_eps]

theorem pay1 (y x : FVec Ideal S256x2048 .f32) (a : FVec Ideal S1x2048 .f32) (i : S1x2048.Idx) :
    k0_pay1 (F := Ideal) (k0_pay9 y x) (k0_pay12 a) i
      = a i + ∑ r : Fin 256, y (ix2 r (i 1)) * x (ix2 r (i 1)) * rstd (fun k => x (ix2 r k)) := by
  pointwise [k0_pay1, k0_pay9, k0_pay12, k0_pay8, rstd, rmsArg, word_2048, word_eps]

/-- The block of the sum's gradient that a point computes. -/
def dxBlk (c : Dev nD) (t : Fin cfg0.N) : FVec Ideal S256x2048 .f32 :=
  k0_pay5 (F := Ideal) (iblk m c 0 t) (iblk m c 1 t) (iblk m c 2 t) (iblk m c 3 t)

theorem dxBlk_apply (c : Dev nD) (t : Fin cfg0.N) (r : Fin 256) (j : Fin 2048) :
    dxBlk m c t (ix2 r j) = resX (aX m c) (aZ m c) (aGz m c) (aG m c) (aR m c) (aY m c) (ix2 (at_ t r) j) := by
  rw [dxBlk, pay5]
  simp only [blk_y, blk_x, blk_g, blk_r]
  rfl

/-- The array of the sum's gradient after the run. -/
theorem final_dx (c : Dev nD) : (dats m 0 c).arrAt 6 cfg0.N
    = resX (aX m c) (aZ m c) (aGz m c) (aG m c) (aR m c) (aY m c) :=
  (dats m 0 c).arrAt_eq_of_covers 6 _ (by decide +kernel) fun t hf y => by
    blk_simp
    rw [after0_6]
    have key : (outsAt0 m c t.val t.isLt).1 = dxBlk m c t := by
      by_cases h : t.val % 32 = 0
      · rw [outsAt0_A m c t h h, dxBlk]; frame_out
      · rw [outsAt0_B m c t h h, dxBlk]; frame_out
    obtain ⟨r, j, rfl⟩ : ∃ (r : Fin 256) (j : Fin 2048), y = ix2 r j := ⟨y 0, y 1, by ext a; fin_cases a <;> rfl⟩
    rw [key, dxBlk_apply]
    generalize resX _ _ _ _ _ _ = X
    blk_point [idx_6 t, at_]

/-- The array of the inner normalisation's gradient after the run. -/
theorem final_dz (c : Dev nD) : (dats m 0 c).arrAt 8 cfg0.N
    = resZ (aX m c) (aZ m c) (aGz m c) (aG m c) (aR m c) (aY m c) :=
  (dats m 0 c).arrAt_eq_of_covers 8 _ (by decide +kernel) fun t hf y => by
    blk_simp
    rw [after0_8]
    have key : (outsAt0 m c t.val t.isLt).2.2.1 = k0_pay10 (dxBlk m c t) (iblk m c 4 t) (iblk m c 5 t) := by
      by_cases h : t.val % 32 = 0
      · rw [outsAt0_A m c t h h, dxBlk]; frame_out
      · rw [outsAt0_B m c t h h, dxBlk]; frame_out
    obtain ⟨r, j, rfl⟩ : ∃ (r : Fin 256) (j : Fin 2048), y = ix2 r j := ⟨y 0, y 1, by ext a; fin_cases a <;> rfl⟩
    rw [key, pay10]
    simp only [dxBlk_apply, blk_z, blk_gz]
    unfold resZ dz row gain
    generalize resX _ _ _ _ _ _ = X
    blk_point [idx_8 t, at_]

/-- The outer gain's gradient after the run. -/
theorem final_dg (c : Dev nD) : (dats m 0 c).arrAt 7 cfg0.N
    = resG (aX m c) (aZ m c) (aGz m c) (aY m c) :=
  (dats m 0 c).arrAt_eq_of_covers 7 _ (by decide +kernel) fun t hf y => by
    blk_simp
    rw [after0_7, Pipeline.eq_sum_fin_of_reset_step_apply_of_flush (fun n h => (outsAt0 m c n h).2.1) 32 (fun _ => 0) _
      (fun t h j => by rw [outsAt0_A m c t h h]; frame_out; rw [pay7, pay6])
      (fun t h j => by rw [outsAt0_B m c t h h]; frame_out; rw [pay7]) t ((flush0_7 t).mp hf) _, zero_add]
    obtain ⟨z, j, rfl⟩ : ∃ (z : Fin 1) (j : Fin 2048), y = ix2 z j := ⟨y 0, y 1, by ext a; fin_cases a <;> rfl⟩
    have hN : t.val < 32 := t.isLt
    have h0 : t.val / 32 = 0 := by omega
    refine Fin.sum_mul_add_congr fun s k hl => ?_
    have e1 : (ix2 z j : S1x2048.Idx) 1 = j := rfl
    simp only [e1, blk_y, blk_x, h0, Nat.mul_zero, Nat.zero_add]
    unfold row
    generalize x1 _ _ _ = X
    blk_point [idx_7 t, at_]

/-- The inner gain's gradient after the run. -/
theorem final_dgz (c : Dev nD) : (dats m 0 c).arrAt 9 cfg0.N
    = resGz (aX m c) (aZ m c) (aGz m c) (aG m c) (aR m c) (aY m c) :=
  (dats m 0 c).arrAt_eq_of_covers 9 _ (by decide +kernel) fun t hf y => by
    blk_simp
    rw [after0_9, Pipeline.eq_sum_fin_of_reset_step_apply_of_flush (fun n h => (outsAt0 m c n h).2.2.2) 32 (fun _ => 0) _
      (fun t h j => by rw [outsAt0_A m c t h h]; frame_out; rw [pay1, pay11, ← dxBlk])
      (fun t h j => by rw [outsAt0_B m c t h h]; frame_out; rw [pay1, ← dxBlk]) t ((flush0_9 t).mp hf) _, zero_add]
    obtain ⟨z, j, rfl⟩ : ∃ (z : Fin 1) (j : Fin 2048), y = ix2 z j := ⟨y 0, y 1, by ext a; fin_cases a <;> rfl⟩
    have hN : t.val < 32 := t.isLt
    have h0 : t.val / 32 = 0 := by omega
    refine Fin.sum_mul_add_congr fun s k hl => ?_
    have e1 : (ix2 z j : S1x2048.Idx) 1 = j := rfl
    simp only [e1, dxBlk_apply, blk_z, h0, Nat.mul_zero, Nat.zero_add]
    unfold row
    generalize resX _ _ _ _ _ _ = X
    blk_point [idx_9 t, at_]

end Cert.RmsPreIdeal.Val

end
-- ==== Proof.Rms.Pre.Equation.lean ====
/-
  The gradient of a normalisation, of the residual sum in front of it and of the normalisation inside that sum: the
  reference's four results are the kernel's, over the extended reals, where all six arguments are finite.
-/
module

public import proofs.«01_k».proof.Defs
public import proofs.«01_k».proof.Proof.Rms.Pre.Kernel
public import proofs.«01_k».proof.Proof.Gen.RmsPre.Frame
public import proofs.«01_k».proof.Proof.Gen.RmsPreRefIdeal.Read
public import proofs.«01_k».proof.Proof.Gen.Pre_finite_pre

@[expose] public section

set_option maxRecDepth 16384

noncomputable section

namespace Cert.RmsPreEq

open Cert.Common
open Idealize.ShloMosaic Idealize.ShloMosaic.TcCoe Idealize.SL.Sem
open Cert.RmsPreIdeal.Val Cert.RmsPreRefIdeal.Read

/-- The precondition says that the arguments are arrays of reals. -/
theorem reals [Cert.Pre_finite_pre.Facts] (x z : FVec Ideal Cert.RmsPreIdeal.S8192x2048 .f32)
    (gz g : FVec Ideal Cert.RmsPreIdeal.S2048 .f32) (dr dy : FVec Ideal Cert.RmsPreIdeal.S8192x2048 .f32)
    (h : Cert.Pre_finite_pre.fn (F := Ideal) x z gz g dr dy = fun _ => 1#1) :
    (∃ X : Cert.RmsPreIdeal.S8192x2048.Idx → ℝ, x = fun i => (X i : EReal))
      ∧ (∃ Z : Cert.RmsPreIdeal.S8192x2048.Idx → ℝ, z = fun i => (Z i : EReal))
      ∧ (∃ H : Cert.RmsPreIdeal.S2048.Idx → ℝ, gz = fun i => (H i : EReal))
      ∧ (∃ G : Cert.RmsPreIdeal.S2048.Idx → ℝ, g = fun i => (G i : EReal))
      ∧ (∃ D : Cert.RmsPreIdeal.S8192x2048.Idx → ℝ, dr = fun i => (D i : EReal))
      ∧ ∃ Y : Cert.RmsPreIdeal.S8192x2048.Idx → ℝ, dy = fun i => (Y i : EReal) := by
  haveI : Subsingleton Cert.Pre_finite_pre.S_.Idx := ⟨fun a b => funext fun i => i.elim0⟩
  have h := congrFun h (fun a => a.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨reals_of_all _ _ _ _ _ _ h1, reals_of_all _ _ _ _ _ _ h2, reals_of_all _ _ _ _ _ _ h3, reals_of_all _ _ _ _ _ _ h4,
    reals_of_all _ _ _ _ _ _ h5, reals_of_all _ _ _ _ _ _ h6⟩

/-- At finite arguments the sum is finite, -/
theorem x1_real (X Z : Cert.RmsPreIdeal.S8192x2048.Idx → ℝ) (H : Cert.RmsPreIdeal.S2048.Idx → ℝ) :
    ∃ W : Cert.RmsPreIdeal.S8192x2048.Idx → ℝ,
      x1 (fun i => (X i : EReal)) (fun i => (Z i : EReal)) (fun i => (H i : EReal)) = fun i => (W i : EReal) := by
  have h (i) : ∃ w : ℝ, x1 (fun i => (X i : EReal)) (fun i => (Z i : EReal)) (fun i => (H i : EReal)) i = (w : EReal) :=
    ⟨_, (congrArg (fun v => (X i : EReal) + v) (rmsRow_real (fun k => Z (ix2 (i 0) k)) (fun k => H (ix1 k)) (i 1))).trans
      (EReal.coe_add _ _).symm⟩
  choose W hW using h
  exact ⟨W, funext hW⟩

/-- and so is its gradient. -/
theorem dx_real (W D Y : Cert.RmsPreIdeal.S8192x2048.Idx → ℝ) (G : Cert.RmsPreIdeal.S2048.Idx → ℝ) :
    ∃ E : Cert.RmsPreIdeal.S8192x2048.Idx → ℝ,
      dx (fun i => (W i : EReal)) (fun i => (G i : EReal)) (fun i => (D i : EReal)) (fun i => (Y i : EReal))
        = fun i => (E i : EReal) := by
  have h (i) : ∃ e : ℝ, dx (fun i => (W i : EReal)) (fun i => (G i : EReal)) (fun i => (D i : EReal))
      (fun i => (Y i : EReal)) i = (e : EReal) :=
    ⟨_, (congrArg (fun v => v + (D i : EReal)) (rmsDx_real (fun k => Y (ix2 (i 0) k)) (fun k => W (ix2 (i 0) k))
      (fun k => G (ix1 k)) (i 1))).trans (EReal.coe_add _ _).symm⟩
  choose E hE using h
  exact ⟨E, funext hE⟩

/-- The reference's sum. -/
theorem ref_x1 (x z : FVec Ideal Cert.RmsPreIdeal.S8192x2048 .f32) (gz : FVec Ideal Cert.RmsPreIdeal.S2048 .f32) :
    val_main_v16 (F := Ideal) x z gz = x1 x z gz := by
  funext i
  simp only [val_main_v0, val_main_cst, val_main_v1, val_main_v2, val_main_cst_0, val_main_v3, val_main_v4, val_main_cst_1,
    val_main_v5, val_main_v6, val_main_v7, val_main_v11, val_main_v12, val_main_v13, val_main_v14, val_main_v15, val_main_v16]
  pointwise [x1, row, gain, rmsRow, rstd, rmsArg, word_2048, word_eps]

/-- The reference's gradient for the sum, where the sum is finite. -/
theorem ref_dx (x z : FVec Ideal Cert.RmsPreIdeal.S8192x2048 .f32) (gz : FVec Ideal Cert.RmsPreIdeal.S2048 .f32)
    (W D Y : Cert.RmsPreIdeal.S8192x2048.Idx → ℝ) (G : Cert.RmsPreIdeal.S2048.Idx → ℝ)
    (hW : x1 x z gz = fun i => (W i : EReal)) :
    val_main_v53 (F := Ideal) x z gz (fun i => (G i : EReal)) (fun i => (D i : EReal)) (fun i => (Y i : EReal))
      = dx (x1 x z gz) (fun i => (G i : EReal)) (fun i => (D i : EReal)) (fun i => (Y i : EReal)) := by
  rw [hW]
  funext i
  refine Eq.trans ?_ (congrArg (· + (D i : EReal))
    (rmsDxRef_real (fun k => Y (ix2 (i 0) k)) (fun k => W (ix2 (i 0) k)) (fun k => G (ix1 k)) (i 1)))
  simp only [val_main_v17, val_main_cst_3, val_main_v18, val_main_v19, val_main_cst_4, val_main_v20, val_main_v21,
    val_main_cst_5, val_main_v22, val_main_v23, val_main_v24, val_main_v25, val_main_cst_6, val_main_v26, val_main_v27,
    val_main_v30, val_main_v36, val_main_v37, val_main_v39, val_main_cst_9, val_main_v40, val_main_v41, val_main_v42,
    val_main_v43, val_main_v44, val_main_v45, val_main_cst_10, val_main_v46, val_main_v47, val_main_cst_11, val_main_v48,
    val_main_v49, val_main_v50, val_main_v51, val_main_v52, val_main_v53]
  rw [ref_x1, hW]
  pointwise [rmsDxRef, rmsPull, rstd, rmsArg, word_2048, word_eps, word_neg_half]
  simp only [Fin.sum_univ_one]
  exact add_row _ _ _ _

/-- The reference's gradient for the outer gain. -/
theorem ref_dg (x z : FVec Ideal Cert.RmsPreIdeal.S8192x2048 .f32) (gz : FVec Ideal Cert.RmsPreIdeal.S2048 .f32)
    (dy : FVec Ideal Cert.RmsPreIdeal.S8192x2048 .f32) :
    val_main_v75 (F := Ideal) x z gz dy = resG x z gz dy := by
  funext i
  simp only [val_main_v17, val_main_cst_3, val_main_v18, val_main_v19, val_main_cst_4, val_main_v20, val_main_v21,
    val_main_cst_5, val_main_v22, val_main_v23, val_main_v24, val_main_v28, val_main_v29, val_main_v33, val_main_cst_7,
    val_main_v34, val_main_v35, val_main_cst_8, val_main_v38, val_main_v75]
  rw [ref_x1]
  unfold resG
  generalize x1 x z gz = X
  pointwise [dg, row, rstd, rmsArg, word_2048, word_eps]
  simp only [Fin.sum_univ_one]
  exact Finset.sum_congr rfl fun r _ => by rw [mul_right_comm, mul_comm (dy _)]

/-- The reference's gradient for the inner normalisation, where the sum's gradient is finite. -/
theorem ref_dz (x : FVec Ideal Cert.RmsPreIdeal.S8192x2048 .f32) (Z E : Cert.RmsPreIdeal.S8192x2048.Idx → ℝ)
    (H : Cert.RmsPreIdeal.S2048.Idx → ℝ) (g : FVec Ideal Cert.RmsPreIdeal.S2048 .f32)
    (dr dy : FVec Ideal Cert.RmsPreIdeal.S8192x2048 .f32)
    (hE : val_main_v53 (F := Ideal) x (fun i => (Z i : EReal)) (fun i => (H i : EReal)) g dr dy = fun i => (E i : EReal)) :
    val_main_v76 (F := Ideal) x (fun i => (Z i : EReal)) (fun i => (H i : EReal)) g dr dy
      = dz (fun i => (Z i : EReal)) (fun i => (H i : EReal)) (fun i => (E i : EReal)) := by
  funext i
  refine Eq.trans ?_ (rmsDxRef_real (fun k => E (ix2 (i 0) k)) (fun k => Z (ix2 (i 0) k)) (fun k => H (ix1 k)) (i 1))
  simp only [val_main_v0, val_main_cst, val_main_v1, val_main_v2, val_main_cst_0, val_main_v3, val_main_v4, val_main_cst_1,
    val_main_v5, val_main_v6, val_main_v7, val_main_v8, val_main_cst_2, val_main_v9, val_main_v10, val_main_v13,
    val_main_v54, val_main_v58, val_main_v59, val_main_v61, val_main_cst_14, val_main_v62, val_main_v63, val_main_v64,
    val_main_v65, val_main_v66, val_main_cst_15, val_main_v67, val_main_v68, val_main_cst_16, val_main_v69, val_main_v70,
    val_main_v71, val_main_v72, val_main_v73, val_main_v74, val_main_v76]
  rw [hE]
  pointwise [rmsDxRef, rmsPull, rstd, rmsArg, word_2048, word_eps, word_neg_half]
  simp only [Fin.sum_univ_one]

/-- The reference's gradient for the inner gain. -/
theorem ref_dgz (x z : FVec Ideal Cert.RmsPreIdeal.S8192x2048 .f32) (gz g : FVec Ideal Cert.RmsPreIdeal.S2048 .f32)
    (dr dy : FVec Ideal Cert.RmsPreIdeal.S8192x2048 .f32) :
    val_main_v77 (F := Ideal) x z gz g dr dy = dg z (val_main_v53 (F := Ideal) x z gz g dr dy) := by
  funext i
  simp only [val_main_v0, val_main_cst, val_main_v1, val_main_v2, val_main_cst_0, val_main_v3, val_main_v4, val_main_cst_1,
    val_main_v5, val_main_v6, val_main_v7, val_main_v11, val_main_v12, val_main_v54, val_main_v55, val_main_cst_12,
    val_main_v56, val_main_v57, val_main_cst_13, val_main_v60, val_main_v77]
  generalize val_main_v53 (F := Ideal) x z gz g dr dy = e
  pointwise [dg, row, rstd, rmsArg, word_2048, word_eps]
  simp only [Fin.sum_univ_one]
  exact Finset.sum_congr rfl fun r _ => by rw [mul_right_comm, mul_comm (e _)]

theorem frame_kernel [Cert.RmsPre.Facts] : Cert.quiescent_RmsPre := fun m ρ _ => Cert.RmsPre.Gen.frame m ρ

theorem frame_ideal [Cert.RmsPreIdeal.Facts] : Cert.quiescent_RmsPreIdeal := fun m ρ _ => Cert.RmsPreIdeal.Gen.frame m ρ

theorem frame_ref [Cert.RmsPreRefIdeal.Facts] : Cert.quiescent_RmsPreRefIdeal := by
  intro m g _
  exact (θ_run Cert.RmsPreRefIdeal.defs _ _).mono (fun r h => ⟨fun c => (h c).2.2.2.2, sem_eq_zero_of_no_sems (by decide) r.2⟩)
    (Cert.RmsPreRefIdeal.Value.run (F := Ideal) m g)

set_option maxHeartbeats 4000000 in
theorem algebraic [Cert.Pre_finite_pre.Facts] : Cert.algebraic_RmsPreIdeal_RmsPreRefIdeal_pre_finite_pre := by
  pair_intro
  · run_from Cert.RmsPreIdeal.Gen.run_main m g
  · have key (c) : val_main_v53 (F := Ideal) (aX m c) (aZ m c) (aGz m c) (aG m c) (aR m c) (aY m c)
          = resX (aX m c) (aZ m c) (aGz m c) (aG m c) (aR m c) (aY m c)
        ∧ val_main_v76 (F := Ideal) (aX m c) (aZ m c) (aGz m c) (aG m c) (aR m c) (aY m c)
          = resZ (aX m c) (aZ m c) (aGz m c) (aG m c) (aR m c) (aY m c) := by
      obtain ⟨⟨X, hX⟩, ⟨Z, hZ⟩, ⟨H, hH⟩, ⟨G, hG⟩, ⟨D, hD⟩, Y, hY⟩ := reals _ _ _ _ _ _ (hpre c)
      have hX : aX m c = fun i => (X i : EReal) := hX
      have hZ : aZ m c = fun i => (Z i : EReal) := hZ
      have hH : aGz m c = fun i => (H i : EReal) := hH
      have hG : aG m c = fun i => (G i : EReal) := hG
      have hD : aR m c = fun i => (D i : EReal) := hD
      have hY : aY m c = fun i => (Y i : EReal) := hY
      rw [hX, hZ, hH, hG, hD, hY]
      obtain ⟨W, hW⟩ := x1_real X Z H
      obtain ⟨E, hE⟩ := dx_real W D Y G
      have h := ref_dx _ _ _ W D Y G hW
      refine ⟨h, ?_⟩
      rw [ref_dz _ Z E H _ _ _ (h.trans ((congrArg (fun w => dx w _ _ _) hW).trans hE))]
      unfold resZ resX
      rw [hW, hE]
    hlo_run
    · exact (key c).1.trans (final_dx m c).symm
    · exact (ref_dg _ _ _ _).trans (final_dg m c).symm
    · exact (key c).2.trans (final_dz m c).symm
    · refine (ref_dgz _ _ _ _ _ _).trans ?_
      exact (congrArg (dg (aZ m c)) (key c).1).trans (final_dgz m c).symm

end Cert.RmsPreEq

end
-- ==== Proof.Rms.Mix.Kernel.lean ====
/-
  The gradient of the first layer's normalisation, with the residual path's: the kernel's two result arrays as functions of its arguments.
-/
module

public import proofs.«01_k».proof.Proof.Common.Norm
public import proofs.«01_k».proof.Proof.Gen.RmsMixIdeal.Frame
public import Idealize.ShloMosaic.Lib.Pipeline.ValueKit
public import Idealize.ShloMosaic.Lib.Claim

@[expose] public section

set_option maxRecDepth 16384

noncomputable section

namespace Cert.RmsMixIdeal.Val

open Cert.RmsMixIdeal Cert.RmsMixIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The gradient for the rows: the normalisation's, and what comes along the residual path. -/
def dx (x : FVec Ideal S8192x2048 .f32) (g : FVec Ideal S2048 .f32) (dr dy : FVec Ideal S8192x2048 .f32) :
    FVec Ideal S8192x2048 .f32 :=
  fun i => rmsDx (fun k => dy (ix2 (i 0) k)) (fun k => x (ix2 (i 0) k)) (fun k => g (ix1 k)) (i 1) + dr i

/-- The gradient for the gain: a sum over the rows. -/
def dg (x dy : FVec Ideal S8192x2048 .f32) : FVec Ideal S1x2048 .f32 :=
  fun i => ∑ r : Fin 8192, dy (ix2 r (i 1)) * x (ix2 r (i 1)) * rstd (fun k => x (ix2 r k))

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![0, 0] := by decide +kernel

theorem blk_dy (c : Dev nD) (t : Fin cfg0.N) (r : Fin 512) (k : Fin 2048) :
    (iblk m c 0 t : FVec Ideal S512x2048 .f32) (ix2 r k)
      = (m ((c : Thread nD τ).loc main_arg3) : FVec Ideal S8192x2048 .f32)
          (ix2 ⟨t.val * 512 + r.val, by have : t.val < 16 := t.isLt; omega⟩ k) := by
  blk_point [iblk, V, idx_0 t]

theorem blk_x (c : Dev nD) (t : Fin cfg0.N) (r : Fin 512) (k : Fin 2048) :
    (iblk m c 1 t : FVec Ideal S512x2048 .f32) (ix2 r k)
      = (m ((c : Thread nD τ).loc main_arg0) : FVec Ideal S8192x2048 .f32)
          (ix2 ⟨t.val * 512 + r.val, by have : t.val < 16 := t.isLt; omega⟩ k) := by
  blk_point [iblk, V, idx_1 t]

theorem blk_g (c : Dev nD) (t : Fin cfg0.N) (k : Fin 2048) :
    (iblk m c 2 t : FVec Ideal S1x2048 .f32) (ix2 0 k) = (m ((c : Thread nD τ).loc main_arg1) : FVec Ideal S2048 .f32) (ix1 k) := by
  blk_point [iblk, V, idx_2 t]

theorem blk_dr (c : Dev nD) (t : Fin cfg0.N) (r : Fin 512) (k : Fin 2048) :
    (iblk m c 3 t : FVec Ideal S512x2048 .f32) (ix2 r k)
      = (m ((c : Thread nD τ).loc main_arg2) : FVec Ideal S8192x2048 .f32)
          (ix2 ⟨t.val * 512 + r.val, by have : t.val < 16 := t.isLt; omega⟩ k) := by
  blk_point [iblk, V, idx_3 t]

theorem pay4 (y x : FVec Ideal S512x2048 .f32) (g : FVec Ideal S1x2048 .f32) (d : FVec Ideal S512x2048 .f32) (r : Fin 512)
    (j : Fin 2048) : k0_pay4 (F := Ideal) y x g d (ix2 r j)
      = rmsDx (fun k => y (ix2 r k)) (fun k => x (ix2 r k)) (fun k => g (ix2 0 k)) j + d (ix2 r j) := by
  pointwise [k0_pay4, k0_pay2, rmsDx, rstd, rmsArg, word_2048, word_eps]

theorem pay5 (i : S1x2048.Idx) : (k0_pay5 (F := Ideal)) i = 0 := by
  pointwise [k0_pay5]

theorem pay1 (y x : FVec Ideal S512x2048 .f32) (a : FVec Ideal S1x2048 .f32) (i : S1x2048.Idx) :
    k0_pay1 (F := Ideal) (k0_pay3 y x) (k0_pay6 a) i
      = a i + ∑ r : Fin 512, y (ix2 r (i 1)) * x (ix2 r (i 1)) * rstd (fun k => x (ix2 r k)) := by
  pointwise [k0_pay1, k0_pay3, k0_pay6, k0_pay2, rstd, rmsArg, word_2048, word_eps]

/-- The array of the rows' gradients after the run. -/
theorem final_dx (c : Dev nD) : (dats m 0 c).arrAt 4 cfg0.N = dx (m ((c : Thread nD τ).loc main_arg0))
    (m ((c : Thread nD τ).loc main_arg1)) (m ((c : Thread nD τ).loc main_arg2)) (m ((c : Thread nD τ).loc main_arg3)) :=
  (dats m 0 c).arrAt_eq_of_covers 4 _ (by decide +kernel) fun t hf y => by
    blk_simp
    rw [after0_4]
    have key : (outsAt0 m c t.val t.isLt).1 = k0_pay4 (iblk m c 0 t) (iblk m c 1 t) (iblk m c 2 t) (iblk m c 3 t) := by
      by_cases h : t.val % 16 = 0
      · rw [outsAt0_A m c t h]; frame_out
      · rw [outsAt0_B m c t h]; frame_out
    obtain ⟨r, j, rfl⟩ : ∃ (r : Fin 512) (j : Fin 2048), y = ix2 r j := ⟨y 0, y 1, by ext a; fin_cases a <;> rfl⟩
    rw [key, pay4]
    simp only [blk_dy, blk_x, blk_g, blk_dr]
    unfold dx
    blk_point [idx_4 t]

/-- The gain's gradient after the run. -/
theorem final_dg (c : Dev nD) : (dats m 0 c).arrAt 5 cfg0.N = dg (m ((c : Thread nD τ).loc main_arg0))
    (m ((c : Thread nD τ).loc main_arg3)) :=
  (dats m 0 c).arrAt_eq_of_covers 5 _ (by decide +kernel) fun t hf y => by
    blk_simp
    rw [after0_5, Pipeline.eq_sum_fin_of_reset_step_apply_of_flush (fun n h => (outsAt0 m c n h).2) 16 (fun _ => 0) _
      (fun t h j => by rw [outsAt0_A m c t h]; frame_out; rw [pay1, pay5])
      (fun t h j => by rw [outsAt0_B m c t h]; frame_out; rw [pay1]) t ((flush0_5 t).mp hf) _, zero_add]
    obtain ⟨z, j, rfl⟩ : ∃ (z : Fin 1) (j : Fin 2048), y = ix2 z j := ⟨y 0, y 1, by ext a; fin_cases a <;> rfl⟩
    have hN : t.val < 16 := t.isLt
    have h0 : t.val / 16 = 0 := by omega
    refine Fin.sum_mul_add_congr fun s k hl => ?_
    have e1 : (ix2 z j : S1x2048.Idx) 1 = j := rfl
    simp only [e1, blk_dy, blk_x, h0, Nat.mul_zero, Nat.zero_add]
    blk_point [idx_5 t]

end Cert.RmsMixIdeal.Val

end
-- ==== Proof.Rms.Mix.Equation.lean ====
/-
  The gradient of the first layer's normalisation: the reference's two results are the kernel's, over the extended reals, where
  the rows, the gain and the cotangents are finite.
-/
module

public import proofs.«01_k».proof.Defs
public import proofs.«01_k».proof.Proof.Rms.Mix.Kernel
public import proofs.«01_k».proof.Proof.Gen.RmsMix.Frame
public import proofs.«01_k».proof.Proof.Gen.RmsMixRefIdeal.Read
public import proofs.«01_k».proof.Proof.Gen.Pre_finite_mix

@[expose] public section

set_option maxRecDepth 16384

noncomputable section

namespace Cert.RmsMixEq

open Cert.Common
open Idealize.ShloMosaic Idealize.ShloMosaic.TcCoe Idealize.SL.Sem
open Cert.RmsMixIdeal.Val Cert.RmsMixRefIdeal.Read

/-- The precondition says that the arguments are arrays of reals. -/
theorem reals [Cert.Pre_finite_mix.Facts] (x : FVec Ideal Cert.RmsMixIdeal.S8192x2048 .f32)
    (g : FVec Ideal Cert.RmsMixIdeal.S2048 .f32) (dr dy : FVec Ideal Cert.RmsMixIdeal.S8192x2048 .f32)
    (h : Cert.Pre_finite_mix.fn (F := Ideal) x g dr dy = fun _ => 1#1) :
    (∃ X : Cert.RmsMixIdeal.S8192x2048.Idx → ℝ, x = fun i => (X i : EReal))
      ∧ (∃ G : Cert.RmsMixIdeal.S2048.Idx → ℝ, g = fun i => (G i : EReal))
      ∧ (∃ D : Cert.RmsMixIdeal.S8192x2048.Idx → ℝ, dr = fun i => (D i : EReal))
      ∧ ∃ Y : Cert.RmsMixIdeal.S8192x2048.Idx → ℝ, dy = fun i => (Y i : EReal) := by
  haveI : Subsingleton Cert.Pre_finite_mix.S_.Idx := ⟨fun a b => funext fun i => i.elim0⟩
  have h := congrFun h (fun a => a.elim0)
  obtain ⟨h, h4⟩ := IntOp.andi_eq_one.1 h
  obtain ⟨h, h3⟩ := IntOp.andi_eq_one.1 h
  obtain ⟨h1, h2⟩ := IntOp.andi_eq_one.1 h
  exact ⟨reals_of_all _ _ _ _ _ _ h1, reals_of_all _ _ _ _ _ _ h2, reals_of_all _ _ _ _ _ _ h3,
    reals_of_all _ _ _ _ _ _ h4⟩

/-- The reference's gradient for the rows. -/
theorem ref_dx (X D Y : Cert.RmsMixIdeal.S8192x2048.Idx → ℝ) (G : Cert.RmsMixIdeal.S2048.Idx → ℝ) :
    val_main_v36 (F := Ideal) (fun i => (X i : EReal)) (fun i => (G i : EReal)) (fun i => (D i : EReal)) (fun i => (Y i : EReal))
      = dx (fun i => (X i : EReal)) (fun i => (G i : EReal)) (fun i => (D i : EReal)) (fun i => (Y i : EReal)) := by
  funext i
  refine Eq.trans ?_ (congrArg (· + (D i : EReal))
    (rmsDxRef_real (fun k => Y (ix2 (i 0) k)) (fun k => X (ix2 (i 0) k)) (fun k => G (ix1 k)) (i 1)))
  simp only [val_main_v0, val_main_cst, val_main_v1, val_main_v2, val_main_cst_0, val_main_v3, val_main_v4, val_main_cst_1,
    val_main_v5, val_main_v6, val_main_v7, val_main_v8, val_main_cst_2, val_main_v9, val_main_v10, val_main_v13, val_main_v19,
    val_main_v20, val_main_v22, val_main_cst_5, val_main_v23, val_main_v24, val_main_v25, val_main_v26, val_main_v27,
    val_main_cst_6, val_main_v28, val_main_v29, val_main_cst_7, val_main_v30, val_main_v31, val_main_v32, val_main_v33,
    val_main_v34, val_main_v35, val_main_v36]
  pointwise [rmsDxRef, rmsPull, rstd, rmsArg, word_2048, word_eps, word_neg_half]
  simp only [Fin.sum_univ_one]
  exact add_row _ _ _ _

/-- The reference's gradient for the gain: the same sum over the rows. -/
theorem ref_dg (x dy : FVec Ideal Cert.RmsMixIdeal.S8192x2048 .f32) :
    val_main_v37 (F := Ideal) x dy = dg x dy := by
  funext i
  simp only [val_main_v0, val_main_cst, val_main_v1, val_main_v2, val_main_cst_0, val_main_v3, val_main_v4, val_main_cst_1,
    val_main_v5, val_main_v6, val_main_v7, val_main_v11, val_main_v12, val_main_v16, val_main_cst_3, val_main_v17,
    val_main_v18, val_main_cst_4, val_main_v21, val_main_v37]
  pointwise [dg, rstd, rmsArg, word_2048, word_eps]
  simp only [Fin.sum_univ_one]
  exact Finset.sum_congr rfl fun r _ => by rw [mul_right_comm, mul_comm (dy _)]

theorem frame_kernel [Cert.RmsMix.Facts] : Cert.quiescent_RmsMix := fun m ρ _ => Cert.RmsMix.Gen.frame m ρ

theorem frame_ideal [Cert.RmsMixIdeal.Facts] : Cert.quiescent_RmsMixIdeal := fun m ρ _ => Cert.RmsMixIdeal.Gen.frame m ρ

theorem frame_ref [Cert.RmsMixRefIdeal.Facts] : Cert.quiescent_RmsMixRefIdeal := by
  intro m g _
  exact (θ_run Cert.RmsMixRefIdeal.defs _ _).mono (fun r h => ⟨fun c => (h c).2.2, sem_eq_zero_of_no_sems (by decide) r.2⟩)
    (Cert.RmsMixRefIdeal.Value.run (F := Ideal) m g)

theorem algebraic [Cert.Pre_finite_mix.Facts] : Cert.algebraic_RmsMixIdeal_RmsMixRefIdeal_pre_finite_mix := by
  pair_intro
  · run_from Cert.RmsMixIdeal.Gen.run_main m g
  · hlo_run
    · refine Eq.trans ?_ (final_dx m c).symm
      obtain ⟨⟨X, hX⟩, ⟨G, hG⟩, ⟨D, hD⟩, Y, hY⟩ := reals _ _ _ _ (hpre c)
      rw [hX, hG, hD, hY]
      exact ref_dx X D Y G
    · exact (ref_dg _ _).trans (final_dg m c).symm

end Cert.RmsMixEq

end
-- ==== Proof.Rms.Mem.Kernel.lean ====
/-
  The gradient of the memory's normalisation: the kernel's two result arrays as functions of its arguments.
-/
module

public import proofs.«01_k».proof.Proof.Common.Norm
public import proofs.«01_k».proof.Proof.Gen.RmsMemIdeal.Frame
public import Idealize.ShloMosaic.Lib.Pipeline.ValueKit
public import Idealize.ShloMosaic.Lib.Claim

@[expose] public section

set_option maxRecDepth 16384

noncomputable section

namespace Cert.RmsMemIdeal.Val

open Cert.RmsMemIdeal Cert.RmsMemIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The gradient for the rows. -/
def dx (x : FVec Ideal S256x2048 .f32) (g : FVec Ideal S2048 .f32) (dy : FVec Ideal S256x2048 .f32) :
    FVec Ideal S256x2048 .bf16 :=
  fun i => rmsDx (fun k => dy (ix2 (i 0) k)) (fun k => x (ix2 (i 0) k)) (fun k => g (ix1 k)) (i 1)

/-- The gradient for the gain: a sum over the rows. -/
def dg (x dy : FVec Ideal S256x2048 .f32) : FVec Ideal S1x2048 .f32 :=
  fun i => ∑ r : Fin 256, dy (ix2 r (i 1)) * x (ix2 r (i 1)) * rstd (fun k => x (ix2 r k))

theorem idx_0 : ∀ t : Fin grid0.N, win0_0.index t = ![0, 0] := by decide +kernel
theorem idx_1 : ∀ t : Fin grid0.N, win0_1.index t = ![0, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![0, 0] := by decide +kernel

theorem blk_dy (c : Dev nD) (t : Fin cfg0.N) (r : Fin 256) (k : Fin 2048) :
    (iblk m c 0 t : FVec Ideal S256x2048 .f32) (ix2 r k)
      = (m ((c : Thread nD τ).loc main_arg2) : FVec Ideal S256x2048 .f32)
          (ix2 r k) := by
  blk_point [iblk, V, idx_0 t]

theorem blk_x (c : Dev nD) (t : Fin cfg0.N) (r : Fin 256) (k : Fin 2048) :
    (iblk m c 1 t : FVec Ideal S256x2048 .f32) (ix2 r k)
      = (m ((c : Thread nD τ).loc main_arg0) : FVec Ideal S256x2048 .f32)
          (ix2 r k) := by
  blk_point [iblk, V, idx_1 t]

theorem blk_g (c : Dev nD) (t : Fin cfg0.N) (k : Fin 2048) :
    (iblk m c 2 t : FVec Ideal S1x2048 .f32) (ix2 0 k) = (m ((c : Thread nD τ).loc main_arg1) : FVec Ideal S2048 .f32) (ix1 k) := by
  blk_point [iblk, V, idx_2 t]

theorem pay3 (y x : FVec Ideal S256x2048 .f32) (g : FVec Ideal S1x2048 .f32) (r : Fin 256) (j : Fin 2048) :
    k0_pay3 (F := Ideal) y x g (ix2 r j) = rmsDx (fun k => y (ix2 r k)) (fun k => x (ix2 r k)) (fun k => g (ix2 0 k)) j := by
  pointwise [k0_pay3, k0_pay2, rmsDx, rstd, rmsArg, word_2048, word_eps]

theorem pay4 (i : S1x2048.Idx) : (k0_pay4 (F := Ideal)) i = 0 := by
  pointwise [k0_pay4]

theorem pay1 (y x : FVec Ideal S256x2048 .f32) (a : FVec Ideal S1x2048 .f32) (i : S1x2048.Idx) :
    k0_pay1 (F := Ideal) (k0_pay5 a) (k0_pay6 y x) i
      = a i + ∑ r : Fin 256, y (ix2 r (i 1)) * x (ix2 r (i 1)) * rstd (fun k => x (ix2 r k)) := by
  pointwise [k0_pay1, k0_pay5, k0_pay6, k0_pay2, rstd, rmsArg, word_2048, word_eps]

/-- The array of the rows' gradients after the run. -/
theorem final_dx (c : Dev nD) : (dats m 0 c).arrAt 3 cfg0.N = dx (m ((c : Thread nD τ).loc main_arg0))
    (m ((c : Thread nD τ).loc main_arg1)) (m ((c : Thread nD τ).loc main_arg2)) :=
  (dats m 0 c).arrAt_eq_of_covers 3 _ (by decide +kernel) fun t hf y => by
    blk_simp
    rw [after0_3]
    have key : (outsAt0 m c t).1 = k0_pay3 (iblk m c 0 t) (iblk m c 1 t) (iblk m c 2 t) := by unfold outsAt0; frame_out
    obtain ⟨r, j, rfl⟩ : ∃ (r : Fin 256) (j : Fin 2048), y = ix2 r j := ⟨y 0, y 1, by ext a; fin_cases a <;> rfl⟩
    rw [key, pay3]
    simp only [blk_dy, blk_x, blk_g]
    unfold dx
    blk_point [idx_3 t]

/-- The gain's gradient after the run. -/
theorem final_dg (c : Dev nD) : (dats m 0 c).arrAt 4 cfg0.N = dg (m ((c : Thread nD τ).loc main_arg0))
    (m ((c : Thread nD τ).loc main_arg2)) :=
  (dats m 0 c).arrAt_eq_of_covers 4 _ (by decide +kernel) fun t hf y => by
    blk_simp
    rw [after0_4]
    have key : (outsAt0 m c t).2 = k0_pay1 (k0_pay5 (k0_pay4 (F := Ideal))) (k0_pay6 (iblk m c 0 t) (iblk m c 1 t)) := by
      unfold outsAt0; frame_out
    obtain ⟨z, j, rfl⟩ : ∃ (z : Fin 1) (j : Fin 2048), y = ix2 z j := ⟨y 0, y 1, by ext a; fin_cases a <;> rfl⟩
    have e1 : (ix2 z j : S1x2048.Idx) 1 = j := rfl
    rw [key, pay1, pay4, zero_add]
    simp only [e1, blk_dy, blk_x]
    unfold dg
    blk_point [idx_4 t]

end Cert.RmsMemIdeal.Val

end
-- ==== Proof.Rms.Mem.Equation.lean ====
/-
  The gradient of the memory's normalisation: the reference's two results are the kernel's, over the extended reals, where
  the rows, the gain and the cotangent are finite.
-/
module

public import proofs.«01_k».proof.Defs
public import proofs.«01_k».proof.Proof.Rms.Mem.Kernel
public import proofs.«01_k».proof.Proof.Gen.RmsMem.Frame
public import proofs.«01_k».proof.Proof.Gen.RmsMemRefIdeal.Read
public import proofs.«01_k».proof.Proof.Gen.Pre_finite_mem

@[expose] public section

set_option maxRecDepth 16384

noncomputable section

namespace Cert.RmsMemEq

open Cert.Common
open Idealize.ShloMosaic Idealize.ShloMosaic.TcCoe Idealize.SL.Sem
open Cert.RmsMemIdeal.Val Cert.RmsMemRefIdeal.Read

/-- The precondition says that the arguments are arrays of reals. -/
theorem reals [Cert.Pre_finite_mem.Facts] (x : FVec Ideal Cert.RmsMemIdeal.S256x2048 .f32)
    (g : FVec Ideal Cert.RmsMemIdeal.S2048 .f32) (dy : FVec Ideal Cert.RmsMemIdeal.S256x2048 .f32)
    (h : Cert.Pre_finite_mem.fn (F := Ideal) x g dy = fun _ => 1#1) :
    (∃ X : Cert.RmsMemIdeal.S256x2048.Idx → ℝ, x = fun i => (X i : EReal))
      ∧ (∃ G : Cert.RmsMemIdeal.S2048.Idx → ℝ, g = fun i => (G i : EReal))
      ∧ ∃ Y : Cert.RmsMemIdeal.S256x2048.Idx → ℝ, dy = fun i => (Y i : EReal) := by
  haveI : Subsingleton Cert.Pre_finite_mem.S_.Idx := ⟨fun a b => funext fun i => i.elim0⟩
  have h := congrFun h (fun a => a.elim0)
  obtain ⟨h, h3⟩ := IntOp.andi_eq_one.1 h
  obtain ⟨h1, h2⟩ := IntOp.andi_eq_one.1 h
  exact ⟨reals_of_all _ _ _ _ _ _ h1, reals_of_all _ _ _ _ _ _ h2, reals_of_all _ _ _ _ _ _ h3⟩

/-- The reference's gradient for the rows. -/
theorem ref_dx (X Y : Cert.RmsMemIdeal.S256x2048.Idx → ℝ) (G : Cert.RmsMemIdeal.S2048.Idx → ℝ) :
    val_main_v36 (F := Ideal) (fun i => (X i : EReal)) (fun i => (G i : EReal)) (fun i => (Y i : EReal))
      = dx (fun i => (X i : EReal)) (fun i => (G i : EReal)) (fun i => (Y i : EReal)) := by
  funext i
  refine Eq.trans ?_ (rmsDxRef_real (fun k => Y (ix2 (i 0) k)) (fun k => X (ix2 (i 0) k)) (fun k => G (ix1 k)) (i 1))
  simp only [val_main_v0, val_main_cst, val_main_v1, val_main_v2, val_main_cst_0, val_main_v3, val_main_v4, val_main_cst_1,
    val_main_v5, val_main_v6, val_main_v7, val_main_v8, val_main_cst_2, val_main_v9, val_main_v10, val_main_v13, val_main_v19,
    val_main_v20, val_main_v22, val_main_cst_5, val_main_v23, val_main_v24, val_main_v25, val_main_v26, val_main_v27,
    val_main_cst_6, val_main_v28, val_main_v29, val_main_cst_7, val_main_v30, val_main_v31, val_main_v32, val_main_v33,
    val_main_v34, val_main_v35, val_main_v36]
  pointwise [rmsDxRef, rmsPull, rstd, rmsArg, word_2048, word_eps, word_neg_half]
  simp only [Fin.sum_univ_one]

/-- The reference's gradient for the gain: the same sum over the rows. -/
theorem ref_dg (x dy : FVec Ideal Cert.RmsMemIdeal.S256x2048 .f32) :
    val_main_v37 (F := Ideal) x dy = dg x dy := by
  funext i
  simp only [val_main_v0, val_main_cst, val_main_v1, val_main_v2, val_main_cst_0, val_main_v3, val_main_v4, val_main_cst_1,
    val_main_v5, val_main_v6, val_main_v7, val_main_v11, val_main_v12, val_main_v16, val_main_cst_3, val_main_v17,
    val_main_v18, val_main_cst_4, val_main_v21, val_main_v37]
  pointwise [dg, rstd, rmsArg, word_2048, word_eps]
  simp only [Fin.sum_univ_one]
  exact Finset.sum_congr rfl fun r _ => by rw [mul_right_comm, mul_comm (dy _)]

theorem frame_kernel [Cert.RmsMem.Facts] : Cert.quiescent_RmsMem := fun m ρ _ => Cert.RmsMem.Gen.frame m ρ

theorem frame_ideal [Cert.RmsMemIdeal.Facts] : Cert.quiescent_RmsMemIdeal := fun m ρ _ => Cert.RmsMemIdeal.Gen.frame m ρ

theorem frame_ref [Cert.RmsMemRefIdeal.Facts] : Cert.quiescent_RmsMemRefIdeal := by
  intro m g _
  exact (θ_run Cert.RmsMemRefIdeal.defs _ _).mono (fun r h => ⟨fun c => (h c).2.2, sem_eq_zero_of_no_sems (by decide) r.2⟩)
    (Cert.RmsMemRefIdeal.Value.run (F := Ideal) m g)

theorem algebraic [Cert.Pre_finite_mem.Facts] : Cert.algebraic_RmsMemIdeal_RmsMemRefIdeal_pre_finite_mem := by
  pair_intro
  · run_from Cert.RmsMemIdeal.Gen.run_main m g
  · hlo_run
    · refine Eq.trans ?_ (final_dx m c).symm
      obtain ⟨⟨X, hX⟩, ⟨G, hG⟩, Y, hY⟩ := reals _ _ _ (hpre c)
      rw [hX, hG, hY]
      exact ref_dx X Y G
    · exact (ref_dg _ _).trans (final_dg m c).symm

end Cert.RmsMemEq

end
-- ==== Proof.MergeFwd.Kernel.lean ====
/-
  The gated merge behind the branches' output projections: the kernel's result arrays as functions of its arguments.
-/
module

public import proofs.«01_k».proof.Proof.Common.Scalars
public import proofs.«01_k».proof.Proof.Gen.MergeFwdIdeal.Frame
public import Idealize.ShloMosaic.Lib.Pipeline.ValueKit
public import Idealize.ShloMosaic.Lib.Claim

@[expose] public section

set_option maxRecDepth 16384

noncomputable section

namespace Cert.MergeFwdIdeal.Val

open Cert.MergeFwdIdeal Cert.MergeFwdIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- Branch `b`'s output projection. -/
def yAt (a : FVec Ideal S3x8192x1024 .f32) (w : FVec Ideal S3x1024x2048 .f32) (b : Fin 3) (r : Fin 8192) (j : Fin 2048) : EReal :=
  ∑ k : Fin 1024, a (ix3 b r k) * w (ix3 b k j)

/-- Column `j` of branch `b`'s gate, in the input projection. -/
def gateCol (b : Fin 3) (j : Fin 2048) : Fin 12288 := ⟨6144 + b.val * 2048 + j.val, by omega⟩

/-- Branch `b`'s projection under its gate. -/
def gated (a : FVec Ideal S3x8192x1024 .f32) (w : FVec Ideal S3x1024x2048 .f32) (p : FVec Ideal S8192x12288 .f32) (b : Fin 3)
    (r : Fin 8192) (j : Fin 2048) : EReal :=
  Ideal.logistic (p (ix2 r (gateCol b j))) * yAt a w b r j

/-- The branches' projections as an array. -/
def yArr (a : FVec Ideal S3x8192x1024 .f32) (w : FVec Ideal S3x1024x2048 .f32) : FVec Ideal S3x8192x2048 .bf16 :=
  fun i => yAt a w (i 0) (i 1) (i 2)

/-- Their sum under the gates. -/
def merged (a : FVec Ideal S3x8192x1024 .f32) (w : FVec Ideal S3x1024x2048 .f32) (p : FVec Ideal S8192x12288 .f32) :
    FVec Ideal S8192x2048 .bf16 :=
  fun i => gated a w p 0 (i 0) (i 1) + gated a w p 1 (i 0) (i 1) + gated a w p 2 (i 0) (i 1)

theorem idx_0 : ∀ t : Fin grid0.N, win0_0.index t = ![t.val % 3, t.val / 6, 0] := by decide +kernel
theorem idx_1 : ∀ t : Fin grid0.N, win0_1.index t = ![t.val % 3, 0, t.val / 3 % 2] := by decide +kernel
theorem idx_2 : ∀ t : Fin grid0.N, win0_2.index t = ![t.val / 6, 6 + t.val % 3 * 2 + t.val / 3 % 2] := by decide +kernel
theorem idx_3 : ∀ t : Fin grid0.N, win0_3.index t = ![t.val % 3, t.val / 6, t.val / 3 % 2] := by decide +kernel
theorem idx_4 : ∀ t : Fin grid0.N, win0_4.index t = ![t.val / 6, t.val / 3 % 2] := by decide +kernel

/-- The branch, the row and the column of an element of a point's block. -/
def brAt (t : Fin cfg0.N) : Fin 3 := ⟨t.val % 3, by omega⟩
def rowAt (t : Fin cfg0.N) (r : Fin 1024) : Fin 8192 := ⟨t.val / 6 * 1024 + r.val, by have : t.val < 48 := t.isLt; omega⟩
def colAt (t : Fin cfg0.N) (j : Fin 1024) : Fin 2048 := ⟨t.val / 3 % 2 * 1024 + j.val, by omega⟩

theorem blk_a (c : Dev nD) (t : Fin cfg0.N) (r k : Fin 1024) :
    (iblk m c 0 t : FVec Ideal S1x1024x1024 .bf16) (ix3 0 r k)
      = (m ((c : Thread nD τ).loc main_arg0) : FVec Ideal S3x8192x1024 .f32) (ix3 (brAt t) (rowAt t r) k) := by
  blk_point [iblk, V, idx_0 t, brAt, rowAt]

theorem blk_w (c : Dev nD) (t : Fin cfg0.N) (k j : Fin 1024) :
    (iblk m c 1 t : FVec Ideal S1x1024x1024 .bf16) (ix3 0 k j)
      = (m ((c : Thread nD τ).loc main_arg1) : FVec Ideal S3x1024x2048 .f32) (ix3 (brAt t) k (colAt t j)) := by
  blk_point [iblk, V, idx_1 t, brAt, colAt]

theorem blk_p (c : Dev nD) (t : Fin cfg0.N) (r j : Fin 1024) :
    (iblk m c 2 t : FVec Ideal S1024x1024 .f32) (ix2 r j)
      = (m ((c : Thread nD τ).loc main_arg2) : FVec Ideal S8192x12288 .f32)
          (ix2 (rowAt t r) (gateCol (brAt t) (colAt t j))) := by
  blk_point [iblk, V, idx_2 t, brAt, rowAt, colAt, gateCol]

theorem pay2 (a w : FVec Ideal S1x1024x1024 .bf16) (z : Fin 1) (r j : Fin 1024) :
    k0_pay2 (F := Ideal) a w (ix3 z r j) = ∑ k : Fin 1024, a (ix3 0 r k) * w (ix3 0 k j) := by
  pointwise [k0_pay2, k0_pay1]

theorem pay3 (a w : FVec Ideal S1x1024x1024 .bf16) (p : FVec Ideal S1024x1024 .f32) (r j : Fin 1024) :
    k0_pay3 (F := Ideal) a w p (ix2 r j)
      = Ideal.logistic (p (ix2 r j)) * ∑ k : Fin 1024, a (ix3 0 r k) * w (ix3 0 k j) := by
  pointwise [k0_pay3, k0_pay1]

theorem pay4 (a w : FVec Ideal S1x1024x1024 .bf16) (p : FVec Ideal S1024x1024 .f32) (r j : Fin 1024) :
    k0_pay4 (F := Ideal) a w p (ix2 r j) = k0_pay3 (F := Ideal) a w p (ix2 r j) := by
  pointwise [k0_pay4]

theorem pay5 (a w : FVec Ideal S1x1024x1024 .bf16) (p s : FVec Ideal S1024x1024 .f32) (r j : Fin 1024) :
    k0_pay5 (F := Ideal) a w p s (ix2 r j) = s (ix2 r j) + k0_pay3 (F := Ideal) a w p (ix2 r j) := by
  generalize hq : k0_pay3 (F := Ideal) a w p = q
  unfold k0_pay5
  simp only [hq]
  pointwise

/-- What a point's branch adds to the tile. -/
def part (c : Dev nD) (t : Fin cfg0.N) (r j : Fin 1024) : EReal :=
  gated (m ((c : Thread nD τ).loc main_arg0)) (m ((c : Thread nD τ).loc main_arg1)) (m ((c : Thread nD τ).loc main_arg2))
    (brAt t) (rowAt t r) (colAt t j)

theorem pay3_part (c : Dev nD) (t : Fin cfg0.N) (r j : Fin 1024) :
    k0_pay3 (F := Ideal) (iblk m c 0 t) (iblk m c 1 t) (iblk m c 2 t) (ix2 r j) = part m c t r j := by
  rw [pay3]
  simp only [blk_a, blk_w, blk_p]
  rfl

/-- The scratch after a point of the first branch: that branch's part. -/
theorem scratch_A (c : Dev nD) (t : Fin cfg0.N) (h : t.val % 3 = 0) (r j : Fin 1024) :
    ((outsAt0 m c t.val t.isLt).2.2 : FVec Ideal S1024x1024 .f32) (ix2 r j) = part m c t r j := by
  have key : (outsAt0 m c t.val t.isLt).2.2 = k0_pay4 (F := Ideal) (iblk m c 0 t) (iblk m c 1 t) (iblk m c 2 t) := by
    rw [outsAt0_A m c t h (by omega) (by omega)]; frame_out
  rw [key, pay4, pay3_part]

/-- The scratch after a later branch's point: what the point before left, and this branch's part. -/
theorem scratch_BC (c : Dev nD) (n : ℕ) (hn : n + 1 < cfg0.N) (h : ¬(n + 1) % 3 = 0) (r j : Fin 1024) :
    ((outsAt0 m c (n + 1) hn).2.2 : FVec Ideal S1024x1024 .f32) (ix2 r j)
      = ((outsAt0 m c n (Nat.lt_of_succ_lt hn)).2.2 : FVec Ideal S1024x1024 .f32) (ix2 r j) + part m c ⟨n + 1, hn⟩ r j := by
  have key : (outsAt0 m c (n + 1) hn).2.2 = k0_pay5 (F := Ideal) (iblk m c 0 ⟨n + 1, hn⟩) (iblk m c 1 ⟨n + 1, hn⟩)
      (iblk m c 2 ⟨n + 1, hn⟩) (outsAt0 m c n (Nat.lt_of_succ_lt hn)).2.2 := by
    by_cases h2 : (n + 1) % 3 = 2
    · refine (congrArg (·.2.2) (outsAt0_C m c ⟨n + 1, hn⟩ h (show 1 ≤ (n + 1) % 3 by omega) h2)).trans ?_
      frame_out
      exact congrArg (k0_pay5 (F := Ideal) _ _ _ ·) ((Memref.isWhole_whole _).read_unread _)
    · refine (congrArg (·.2.2) (outsAt0_B m c ⟨n + 1, hn⟩ h (show 1 ≤ (n + 1) % 3 by omega) h2)).trans ?_
      frame_out
      exact congrArg (k0_pay5 (F := Ideal) _ _ _ ·) ((Memref.isWhole_whole _).read_unread _)
  rw [key, pay5, pay3_part]

/-- What a point of the last branch stores: the scratch. -/
theorem out_C (c : Dev nD) (t : Fin cfg0.N) (h : t.val % 3 = 2) :
    (outsAt0 m c t.val t.isLt).2.1 = k0_pay6 (F := Ideal) (outsAt0 m c t.val t.isLt).2.2 := by
  rw [outsAt0_C m c t (by omega) (by omega) h]
  frame_out

theorem keyY (c : Dev nD) (t : Fin cfg0.N) :
    (outsAt0 m c t.val t.isLt).1 = k0_pay2 (F := Ideal) (iblk m c 0 t) (iblk m c 1 t) := by
  by_cases h : t.val % 3 = 0
  · rw [outsAt0_A m c t h (by omega) (by omega)]; frame_out
  · by_cases h2 : t.val % 3 = 2
    · rw [outsAt0_C m c t h (by omega) h2]; frame_out
    · rw [outsAt0_B m c t h (by omega) h2]; frame_out

/-- The branches' projections after the run. -/
theorem final_y (c : Dev nD) : (dats m 0 c).arrAt 3 cfg0.N = yArr (m ((c : Thread nD τ).loc main_arg0))
    (m ((c : Thread nD τ).loc main_arg1)) :=
  (dats m 0 c).arrAt_eq_of_covers 3 _ (by decide +kernel) fun t hf y => by
    blk_simp
    rw [after0_3]
    obtain ⟨z, r, j, rfl⟩ : ∃ (z : Fin 1) (r j : Fin 1024), y = ix3 z r j := ⟨y 0, y 1, y 2, by ext a; fin_cases a <;> rfl⟩
    rw [keyY, pay2]
    simp only [blk_a, blk_w]
    unfold yArr yAt
    blk_point [idx_3 t, brAt, rowAt, colAt]

/-- The three branches' parts of a tile: a point of the last branch and the two before it. -/
theorem scratch_full (c : Dev nD) (t : Fin cfg0.N) (h : t.val % 3 = 2) (r j : Fin 1024) :
    ((outsAt0 m c t.val t.isLt).2.2 : FVec Ideal S1024x1024 .f32) (ix2 r j)
      = merged (m ((c : Thread nD τ).loc main_arg0)) (m ((c : Thread nD τ).loc main_arg1)) (m ((c : Thread nD τ).loc main_arg2))
          (ix2 (rowAt t r) (colAt t j)) := by
  obtain ⟨n, hn⟩ := t
  obtain ⟨k, rfl⟩ : ∃ k, n = k + 1 + 1 := ⟨n - 2, by simp only at h; omega⟩
  simp only at h
  have h0 : k % 3 = 0 := by omega
  have d1 : (k + 1 + 1) / 6 = k / 6 := by omega
  have d2 : (k + 1) / 6 = k / 6 := by omega
  have e1 : (k + 1 + 1) / 3 = k / 3 := by omega
  have e2 : (k + 1) / 3 = k / 3 := by omega
  have b2 : (k + 1) % 3 = 1 := by omega
  have hk : k < cfg0.N := by omega
  rw [scratch_BC m c (k + 1) hn (by omega), scratch_BC m c k (by omega) (by omega), scratch_A m c ⟨k, hk⟩ h0]
  simp only [part, merged, brAt, rowAt, colAt, d1, d2, e1, e2, b2, h0, h]
  rfl

/-- The sum's tile is written back by the last branch's points. -/
theorem flush_4 : ∀ t : Fin cfg0.N, (cfg0.win 4).flush t = true → t.val % 3 = 2 := by decide +kernel

/-- The sum under the gates after the run. -/
theorem final_merged (c : Dev nD) : (dats m 0 c).arrAt 4 cfg0.N = merged (m ((c : Thread nD τ).loc main_arg0))
    (m ((c : Thread nD τ).loc main_arg1)) (m ((c : Thread nD τ).loc main_arg2)) :=
  (dats m 0 c).arrAt_eq_of_covers 4 _ (by decide +kernel) fun t hf y => by
    have h : t.val % 3 = 2 := flush_4 t hf
    blk_simp
    rw [after0_4]
    obtain ⟨r, j, rfl⟩ : ∃ (r j : Fin 1024), y = ix2 r j := ⟨y 0, y 1, by ext a; fin_cases a <;> rfl⟩
    rw [out_C m c t h]
    refine Eq.trans (b := ((outsAt0 m c t.val t.isLt).2.2 : FVec Ideal S1024x1024 .f32) (ix2 r j)) (by rfl) ?_
    rw [scratch_full m c t h]
    generalize merged _ _ _ = q
    blk_point [idx_4 t, rowAt, colAt]

end Cert.MergeFwdIdeal.Val

end
-- ==== Proof.MergeFwd.Equation.lean ====
/-
  The gated merge behind the branches' output projections: the reference's results are the kernel's, over the extended reals and at every argument.
-/
module

public import proofs.«01_k».proof.Defs
public import proofs.«01_k».proof.Proof.MergeFwd.Kernel
public import proofs.«01_k».proof.Proof.Gen.MergeFwd.Frame
public import proofs.«01_k».proof.Proof.Gen.MergeFwdRefIdeal.Read

@[expose] public section

set_option maxRecDepth 16384

noncomputable section

namespace Cert.MergeFwdEq

open Cert.Common
open Idealize.ShloMosaic Idealize.ShloMosaic.TcCoe Idealize.SL.Sem
open Cert.MergeFwdIdeal.Val Cert.MergeFwdRefIdeal.Read

/-- The reference's projections, one by one. -/
theorem ref_y0 (a : FVec Ideal Cert.MergeFwdIdeal.S3x8192x1024 .f32) (w : FVec Ideal Cert.MergeFwdIdeal.S3x1024x2048 .f32)
    (r : Fin 8192) (j : Fin 2048) : val_main_v4 (F := Ideal) a w (ix2 r j) = yAt a w 0 r j := by
  simp only [val_main_v0, val_main_v1, val_main_v2, val_main_v3, val_main_v4]
  pointwise [yAt]

theorem ref_y1 (a : FVec Ideal Cert.MergeFwdIdeal.S3x8192x1024 .f32) (w : FVec Ideal Cert.MergeFwdIdeal.S3x1024x2048 .f32)
    (r : Fin 8192) (j : Fin 2048) : val_main_v9 (F := Ideal) a w (ix2 r j) = yAt a w 1 r j := by
  simp only [val_main_v5, val_main_v6, val_main_v7, val_main_v8, val_main_v9]
  pointwise [yAt]

theorem ref_y2 (a : FVec Ideal Cert.MergeFwdIdeal.S3x8192x1024 .f32) (w : FVec Ideal Cert.MergeFwdIdeal.S3x1024x2048 .f32)
    (r : Fin 8192) (j : Fin 2048) : val_main_v14 (F := Ideal) a w (ix2 r j) = yAt a w 2 r j := by
  simp only [val_main_v10, val_main_v11, val_main_v12, val_main_v13, val_main_v14]
  pointwise [yAt]

/-- The reference's projections. -/
theorem ref_y (a : FVec Ideal Cert.MergeFwdIdeal.S3x8192x1024 .f32) (w : FVec Ideal Cert.MergeFwdIdeal.S3x1024x2048 .f32) :
    val_main_v38 (F := Ideal) a w = yArr a w := by
  funext i
  obtain ⟨b, r, j, rfl⟩ : ∃ (b : Fin 3) (r : Fin 8192) (j : Fin 2048), i = ix3 b r j :=
    ⟨i 0, i 1, i 2, by ext a; fin_cases a <;> rfl⟩
  simp only [val_main_v34, val_main_v35, val_main_v36, val_main_v37, val_main_v38]
  fin_cases b <;> pointwise [yArr, ref_y0, ref_y1, ref_y2] <;> rfl

/-- The reference's gates. -/
theorem ref_gate (p : FVec Ideal Cert.MergeFwdIdeal.S8192x12288 .f32) (r : Fin 8192) (b : Fin 3) (j : Fin 2048) :
    val_main_v22 (F := Ideal) p (ix3 r b j) = Ideal.logistic (p (ix2 r (gateCol b j))) := by
  simp only [val_main_v15, val_main_v16, val_main_v17, val_main_v18, val_main_v19, val_main_v20, val_main_v21, val_main_v22, val_main_cst, val_main_cst_0]
  pointwise [word_one, Ideal.logistic, gateCol]
  simp only [EReal.coe_one, Nat.add_assoc]

/-- The reference's projections under their gates. -/
theorem ref_gated0 (a : FVec Ideal Cert.MergeFwdIdeal.S3x8192x1024 .f32) (w : FVec Ideal Cert.MergeFwdIdeal.S3x1024x2048 .f32)
    (p : FVec Ideal Cert.MergeFwdIdeal.S8192x12288 .f32) (r : Fin 8192) (j : Fin 2048) :
    val_main_v25 (F := Ideal) a w p (ix2 r j) = gated a w p 0 r j := by
  have hy := ref_y0 a w r j
  have hg := ref_gate p r 0 j
  simp only [val_main_v23, val_main_v24, val_main_v25]
  generalize val_main_v4 (F := Ideal) a w = y at hy ⊢
  generalize val_main_v22 (F := Ideal) p = s at hg ⊢
  pointwise
  exact congrArg₂ (fun u v : EReal => u * v) hg hy

theorem ref_gated1 (a : FVec Ideal Cert.MergeFwdIdeal.S3x8192x1024 .f32) (w : FVec Ideal Cert.MergeFwdIdeal.S3x1024x2048 .f32)
    (p : FVec Ideal Cert.MergeFwdIdeal.S8192x12288 .f32) (r : Fin 8192) (j : Fin 2048) :
    val_main_v28 (F := Ideal) a w p (ix2 r j) = gated a w p 1 r j := by
  have hy := ref_y1 a w r j
  have hg := ref_gate p r 1 j
  simp only [val_main_v26, val_main_v27, val_main_v28]
  generalize val_main_v9 (F := Ideal) a w = y at hy ⊢
  generalize val_main_v22 (F := Ideal) p = s at hg ⊢
  pointwise
  exact congrArg₂ (fun u v : EReal => u * v) hg hy

theorem ref_gated2 (a : FVec Ideal Cert.MergeFwdIdeal.S3x8192x1024 .f32) (w : FVec Ideal Cert.MergeFwdIdeal.S3x1024x2048 .f32)
    (p : FVec Ideal Cert.MergeFwdIdeal.S8192x12288 .f32) (r : Fin 8192) (j : Fin 2048) :
    val_main_v32 (F := Ideal) a w p (ix2 r j) = gated a w p 2 r j := by
  have hy := ref_y2 a w r j
  have hg := ref_gate p r 2 j
  simp only [val_main_v30, val_main_v31, val_main_v32]
  generalize val_main_v14 (F := Ideal) a w = y at hy ⊢
  generalize val_main_v22 (F := Ideal) p = s at hg ⊢
  pointwise
  exact congrArg₂ (fun u v : EReal => u * v) hg hy

/-- The reference's sum under the gates. -/
theorem ref_merged (a : FVec Ideal Cert.MergeFwdIdeal.S3x8192x1024 .f32) (w : FVec Ideal Cert.MergeFwdIdeal.S3x1024x2048 .f32)
    (p : FVec Ideal Cert.MergeFwdIdeal.S8192x12288 .f32) : val_main_v39 (F := Ideal) a w p = merged a w p := by
  funext i
  obtain ⟨r, j, rfl⟩ : ∃ (r : Fin 8192) (j : Fin 2048), i = ix2 r j := ⟨i 0, i 1, by ext a; fin_cases a <;> rfl⟩
  rw [val_main_v39_apply, val_main_v33_apply, val_main_v29_apply, ref_gated0, ref_gated1, ref_gated2]
  rfl

theorem frame_kernel [Cert.MergeFwd.Facts] : Cert.quiescent_MergeFwd := fun m ρ _ => Cert.MergeFwd.Gen.frame m ρ

theorem frame_ideal [Cert.MergeFwdIdeal.Facts] : Cert.quiescent_MergeFwdIdeal := fun m ρ _ => Cert.MergeFwdIdeal.Gen.frame m ρ

theorem frame_ref [Cert.MergeFwdRefIdeal.Facts] : Cert.quiescent_MergeFwdRefIdeal := by
  intro m g _
  exact (θ_run Cert.MergeFwdRefIdeal.defs _ _).mono (fun r h => ⟨fun c => (h c).2.2, sem_eq_zero_of_no_sems (by decide) r.2⟩)
    (Cert.MergeFwdRefIdeal.Value.run (F := Ideal) m g)

theorem algebraic : Cert.algebraic_MergeFwdIdeal_MergeFwdRefIdeal := by
  pair_intro
  · run_from Cert.MergeFwdIdeal.Gen.run_main m g
  · refine (θ_run _ _ _).mono (fun r h c => ?_) (Cert.MergeFwdRefIdeal.Value.run (F := Ideal) m' g')
    obtain ⟨h0, h1, ha⟩ := h c
    obtain ⟨e0, e1, e2⟩ := hagree c
    refine ⟨h0.trans ((val_main_v38_eq _ _).trans ?_), h1.trans ((val_main_v39_eq _ _ _).trans ?_), ha⟩
    · rw [e0, e1]
      exact (ref_y _ _).trans (final_y m c).symm
    · rw [e0, e1, e2]
      exact (ref_merged _ _ _).trans (final_merged m c).symm

end Cert.MergeFwdEq

end
-- ==== Proof.MlpUp.Kernel.lean ====
/-
  The squared ReLU behind the product with the weight: the kernel's result arrays as functions of its arguments.
-/
module

public import proofs.«01_k».proof.Proof.Common.Scalars
public import proofs.«01_k».proof.Proof.Gen.MlpUpIdeal.Frame
public import Idealize.ShloMosaic.Lib.Pipeline.ValueKit
public import Idealize.ShloMosaic.Lib.Claim

@[expose] public section

set_option maxRecDepth 16384

noncomputable section

namespace Cert.MlpUpIdeal.Val

open Cert.MlpUpIdeal Cert.MlpUpIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The product. -/
def prod (h : FVec Ideal S8192x2048 .f32) (w : FVec Ideal S2048x8192 .f32) (i : S8192x8192.Idx) : EReal :=
  ∑ k : Fin 2048, h (ix2 (i 0) k) * w (ix2 k (i 1))

/-- Its ReLU. -/
def relu (h : FVec Ideal S8192x2048 .f32) (w : FVec Ideal S2048x8192 .f32) : FVec Ideal S8192x8192 .bf16 :=
  fun i => max (prod h w i) 0

/-- The ReLU's square. -/
def relu2 (h : FVec Ideal S8192x2048 .f32) (w : FVec Ideal S2048x8192 .f32) : FVec Ideal S8192x8192 .bf16 :=
  fun i => max (prod h w i) 0 * max (prod h w i) 0

theorem idx_0 : ∀ t : Fin grid0.N, win0_0.index t = ![t.val / 4, 0] := by decide +kernel
theorem idx_1 : ∀ t : Fin grid0.N, win0_1.index t = ![0, t.val % 4] := by decide +kernel
theorem idx_2 : ∀ t : Fin grid0.N, win0_2.index t = ![t.val / 4, t.val % 4] := by decide +kernel
theorem idx_3 : ∀ t : Fin grid0.N, win0_3.index t = ![t.val / 4, t.val % 4] := by decide +kernel

/-- Row `r` and column `j` of the block at a point, in the result. -/
def rowAt (t : Fin cfg0.N) (r : Fin 1024) : Fin 8192 := ⟨t.val / 4 * 1024 + r.val, by have : t.val < 32 := t.isLt; omega⟩
def colAt (t : Fin cfg0.N) (j : Fin 2048) : Fin 8192 := ⟨t.val % 4 * 2048 + j.val, by omega⟩

theorem blk_h (c : Dev nD) (t : Fin cfg0.N) (r : Fin 1024) (k : Fin 2048) :
    (iblk m c 0 t : FVec Ideal S1024x2048 .bf16) (ix2 r k)
      = (m ((c : Thread nD τ).loc main_arg0) : FVec Ideal S8192x2048 .f32) (ix2 (rowAt t r) k) := by
  blk_point [iblk, V, idx_0 t, rowAt]

theorem blk_w (c : Dev nD) (t : Fin cfg0.N) (k j : Fin 2048) :
    (iblk m c 1 t : FVec Ideal S2048x2048 .bf16) (ix2 k j)
      = (m ((c : Thread nD τ).loc main_arg1) : FVec Ideal S2048x8192 .f32) (ix2 k (colAt t j)) := by
  blk_point [iblk, V, idx_1 t, colAt]

theorem pay2 (h : FVec Ideal S1024x2048 .bf16) (w : FVec Ideal S2048x2048 .bf16) (r : Fin 1024) (j : Fin 2048) :
    k0_pay2 (F := Ideal) h w (ix2 r j) = max (∑ k : Fin 2048, h (ix2 r k) * w (ix2 k j)) 0 := by
  pointwise [k0_pay2, k0_pay1]

theorem pay3 (h : FVec Ideal S1024x2048 .bf16) (w : FVec Ideal S2048x2048 .bf16) (r : Fin 1024) (j : Fin 2048) :
    k0_pay3 (F := Ideal) h w (ix2 r j) = max (∑ k : Fin 2048, h (ix2 r k) * w (ix2 k j)) 0
      * max (∑ k : Fin 2048, h (ix2 r k) * w (ix2 k j)) 0 := by
  pointwise [k0_pay3, k0_pay1]

/-- The ReLU after the run. -/
theorem final_relu (c : Dev nD) : (dats m 0 c).arrAt 2 cfg0.N = relu (m ((c : Thread nD τ).loc main_arg0)) (m ((c : Thread nD τ).loc main_arg1)) :=
  (dats m 0 c).arrAt_eq_of_covers 2 _ (by decide +kernel) fun t hf y => by
    blk_simp
    rw [after0_2]
    have key : out0_2 (iblk m c 0 t) (iblk m c 1 t) = k0_pay2 (iblk m c 0 t) (iblk m c 1 t) := by frame_out
    obtain ⟨r, j, rfl⟩ : ∃ (r : Fin 1024) (j : Fin 2048), y = ix2 r j := ⟨y 0, y 1, by ext a; fin_cases a <;> rfl⟩
    rw [key, pay2]
    simp only [blk_h, blk_w]
    unfold relu prod
    blk_point [idx_2 t, rowAt, colAt]

/-- Its square after the run. -/
theorem final_relu2 (c : Dev nD) : (dats m 0 c).arrAt 3 cfg0.N = relu2 (m ((c : Thread nD τ).loc main_arg0)) (m ((c : Thread nD τ).loc main_arg1)) :=
  (dats m 0 c).arrAt_eq_of_covers 3 _ (by decide +kernel) fun t hf y => by
    blk_simp
    rw [after0_3]
    have key : out0_3 (iblk m c 0 t) (iblk m c 1 t) = k0_pay3 (iblk m c 0 t) (iblk m c 1 t) := by frame_out
    obtain ⟨r, j, rfl⟩ : ∃ (r : Fin 1024) (j : Fin 2048), y = ix2 r j := ⟨y 0, y 1, by ext a; fin_cases a <;> rfl⟩
    rw [key, pay3]
    simp only [blk_h, blk_w]
    unfold relu2 prod
    blk_point [idx_3 t, rowAt, colAt]

end Cert.MlpUpIdeal.Val

end
-- ==== Proof.MlpUp.Equation.lean ====
/-
  The squared ReLU behind the product with the weight: the reference's results are the kernel's, over the extended reals and at every argument.
-/
module

public import proofs.«01_k».proof.Defs
public import proofs.«01_k».proof.Proof.MlpUp.Kernel
public import proofs.«01_k».proof.Proof.Gen.MlpUp.Frame
public import proofs.«01_k».proof.Proof.Gen.MlpUpRefIdeal.Read

@[expose] public section

set_option maxRecDepth 16384

noncomputable section

namespace Cert.MlpUpEq

open Cert.Common
open Idealize.ShloMosaic Idealize.ShloMosaic.TcCoe Idealize.SL.Sem
open Cert.MlpUpIdeal (S8192x2048)
open Cert.MlpUpIdeal.Val Cert.MlpUpRefIdeal.Read

/-- The reference's ReLU. -/
theorem ref_relu (h : FVec Ideal S8192x2048 .f32) (w : FVec Ideal Cert.MlpUpIdeal.S2048x8192 .f32) :
    val_main_v2 (F := Ideal) h w = relu h w := by
  funext i
  simp only [val_main_v0, val_main_call0_cst, val_main_call0_v0, val_main_v1, val_main_v2]
  pointwise [relu, prod]

/-- The reference's square. -/
theorem ref_relu2 (h : FVec Ideal S8192x2048 .f32) (w : FVec Ideal Cert.MlpUpIdeal.S2048x8192 .f32) :
    val_main_v4 (F := Ideal) h w = relu2 h w := by
  funext i
  simp only [val_main_v0, val_main_call0_cst, val_main_call0_v0, val_main_v1, val_main_v3, val_main_v4]
  pointwise [relu2, prod]

theorem frame_kernel [Cert.MlpUp.Facts] : Cert.quiescent_MlpUp := fun m ρ _ => Cert.MlpUp.Gen.frame m ρ

theorem frame_ideal [Cert.MlpUpIdeal.Facts] : Cert.quiescent_MlpUpIdeal := fun m ρ _ => Cert.MlpUpIdeal.Gen.frame m ρ

theorem frame_ref [Cert.MlpUpRefIdeal.Facts] : Cert.quiescent_MlpUpRefIdeal := by
  intro m g _
  exact (θ_run Cert.MlpUpRefIdeal.defs _ _).mono (fun r h => ⟨fun c => (h c).2.2, sem_eq_zero_of_no_sems (by decide) r.2⟩)
    (Cert.MlpUpRefIdeal.Value.run (F := Ideal) m g)

theorem algebraic : Cert.algebraic_MlpUpIdeal_MlpUpRefIdeal := by
  pair_intro
  · run_from Cert.MlpUpIdeal.Gen.run_main m g
  · hlo_run
    · exact (ref_relu _ _).trans (final_relu m c).symm
    · exact (ref_relu2 _ _).trans (final_relu2 m c).symm

end Cert.MlpUpEq

end
-- ==== Proof.RmsNorm.Kernel.lean ====
/-
  The norm in front of the first layer: the kernel's result arrays as functions of its arguments.
-/
module

public import proofs.«01_k».proof.Proof.Common.Norm
public import proofs.«01_k».proof.Proof.Gen.RmsNormIdeal.Frame
public import Idealize.ShloMosaic.Lib.Pipeline.ValueKit
public import Idealize.ShloMosaic.Lib.Claim

@[expose] public section

set_option maxRecDepth 16384

noncomputable section

namespace Cert.RmsNormIdeal.Val

open Cert.RmsNormIdeal Cert.RmsNormIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The normalised rows. -/
def normed (x : FVec Ideal S8192x2048 .f32) (g : FVec Ideal S2048 .f32) : FVec Ideal S8192x2048 .bf16 :=
  fun i => rmsRow (fun k => x (ix2 (i 0) k)) (fun k => g (ix1 k)) (i 1)

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

/-- Row `r` of the tile at a point, in the whole array. -/
def rowAt (t : Fin cfg0.N) (r : Fin 512) : Fin 8192 := ⟨t.val * 512 + r.val, by have : t.val < 16 := t.isLt; omega⟩

theorem blk_x (c : Dev nD) (t : Fin cfg0.N) (r : Fin 512) (k : Fin 2048) :
    (iblk m c 0 t : FVec Ideal S512x2048 .f32) (ix2 r k)
      = (m ((c : Thread nD τ).loc main_arg0) : FVec Ideal S8192x2048 .f32) (ix2 (rowAt t r) k) := by
  blk_point [iblk, V, idx_0 t, rowAt]

theorem blk_g (c : Dev nD) (t : Fin cfg0.N) (k : Fin 2048) :
    (iblk m c 1 t : FVec Ideal S1x2048 .f32) (ix2 0 k) = (m ((c : Thread nD τ).loc main_arg1) : FVec Ideal S2048 .f32) (ix1 k) := by
  blk_point [iblk, V, idx_1 t]

theorem pay1 (x : FVec Ideal S512x2048 .f32) (g : FVec Ideal S1x2048 .f32) (r : Fin 512) (j : Fin 2048) :
    k0_pay1 (F := Ideal) x g (ix2 r j) = rmsRow (fun k => x (ix2 r k)) (fun k => g (ix2 0 k)) j := by
  pointwise [k0_pay1, rmsRow, rstd, rmsArg, word_2048, word_eps]

/-- The result array after the run. -/
theorem final (c : Dev nD) : (dats m 0 c).arrAt 2 cfg0.N = normed (m ((c : Thread nD τ).loc main_arg0)) (m ((c : Thread nD τ).loc main_arg1)) :=
  (dats m 0 c).arrAt_eq_of_covers 2 _ (by decide +kernel) fun t hf y => by
    blk_simp
    rw [after0_2]
    have key : outsAt0 m c t = k0_pay1 (iblk m c 0 t) (iblk m c 1 t) := by unfold outsAt0; frame_out
    obtain ⟨r, j, rfl⟩ : ∃ (r : Fin 512) (j : Fin 2048), y = ix2 r j := ⟨y 0, y 1, by ext a; fin_cases a <;> rfl⟩
    rw [key, pay1]
    simp only [blk_x, blk_g]
    unfold normed
    blk_point [idx_2 t, rowAt]

end Cert.RmsNormIdeal.Val

end
-- ==== Proof.RmsNorm.Equation.lean ====
/-
  The norm in front of the first layer: the reference's results are the kernel's, over the extended reals and at every argument.
-/
module

public import proofs.«01_k».proof.Defs
public import proofs.«01_k».proof.Proof.RmsNorm.Kernel
public import proofs.«01_k».proof.Proof.Gen.RmsNorm.Frame
public import proofs.«01_k».proof.Proof.Gen.RmsNormRefIdeal.Read

@[expose] public section

set_option maxRecDepth 16384

noncomputable section

namespace Cert.RmsNormEq

open Cert.Common
open Idealize.ShloMosaic Idealize.ShloMosaic.TcCoe Idealize.SL.Sem
open Cert.RmsNormIdeal (S8192x2048 S2048)
open Cert.RmsNormIdeal.Val Cert.RmsNormRefIdeal.Read

/-- The reference's norm. -/
theorem ref_norm (x : FVec Ideal S8192x2048 .f32) (g : FVec Ideal S2048 .f32) :
    val_main_v13 (F := Ideal) x g = normed x g := by
  funext i
  simp only [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  pointwise [normed, rmsRow, rstd, rmsArg, word_2048, word_eps]

theorem frame_kernel [Cert.RmsNorm.Facts] : Cert.quiescent_RmsNorm := fun m ρ _ => Cert.RmsNorm.Gen.frame m ρ

theorem frame_ideal [Cert.RmsNormIdeal.Facts] : Cert.quiescent_RmsNormIdeal := fun m ρ _ => Cert.RmsNormIdeal.Gen.frame m ρ

theorem frame_ref [Cert.RmsNormRefIdeal.Facts] : Cert.quiescent_RmsNormRefIdeal := by
  intro m g _
  exact (θ_run Cert.RmsNormRefIdeal.defs _ _).mono (fun r h => ⟨fun c => (h c).2, sem_eq_zero_of_no_sems (by decide) r.2⟩)
    (Cert.RmsNormRefIdeal.Value.run (F := Ideal) m g)

theorem algebraic : Cert.algebraic_RmsNormIdeal_RmsNormRefIdeal := by
  pair_intro
  · run_from Cert.RmsNormIdeal.Gen.run_main m g
  · hlo_run
    exact (ref_norm _ _).trans (final m c).symm

end Cert.RmsNormEq

end
-- ==== Proof.ResNext.Kernel.lean ====
/-
  The residual stream past a norm, and the next norm of it: the kernel's result arrays as functions of its arguments.
-/
module

public import proofs.«01_k».proof.Proof.Common.Norm
public import proofs.«01_k».proof.Proof.Gen.ResNextIdeal.Frame
public import Idealize.ShloMosaic.Lib.Pipeline.ValueKit
public import Idealize.ShloMosaic.Lib.Claim

@[expose] public section

set_option maxRecDepth 16384

noncomputable section

namespace Cert.ResNextIdeal.Val

open Cert.ResNextIdeal Cert.ResNextIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The residual stream past a norm. -/
def past (z x : FVec Ideal S8192x2048 .f32) (g : FVec Ideal S2048 .f32) : FVec Ideal S8192x2048 .f32 :=
  fun i => x i + rmsRow (fun k => z (ix2 (i 0) k)) (fun k => g (ix1 k)) (i 1)

/-- The next norm of the residual stream. -/
def next (z x : FVec Ideal S8192x2048 .f32) (g h : FVec Ideal S2048 .f32) : FVec Ideal S8192x2048 .bf16 :=
  fun i => rmsRow (fun k => past z x g (ix2 (i 0) k)) (fun k => h (ix1 k)) (i 1)

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![t.val, 0] := by decide +kernel
theorem idx_5 : ∀ t : Fin grid0.N, win0_5.index t = ![t.val, 0] := by decide +kernel

/-- Row `r` of the tile at a point, in the whole array. -/
def rowAt (t : Fin cfg0.N) (r : Fin 512) : Fin 8192 := ⟨t.val * 512 + r.val, by have : t.val < 16 := t.isLt; omega⟩

theorem blk_z (c : Dev nD) (t : Fin cfg0.N) (r : Fin 512) (k : Fin 2048) :
    (iblk m c 0 t : FVec Ideal S512x2048 .f32) (ix2 r k)
      = (m ((c : Thread nD τ).loc main_arg0) : FVec Ideal S8192x2048 .f32) (ix2 (rowAt t r) k) := by
  blk_point [iblk, V, idx_0 t, rowAt]

theorem blk_x (c : Dev nD) (t : Fin cfg0.N) (r : Fin 512) (k : Fin 2048) :
    (iblk m c 1 t : FVec Ideal S512x2048 .f32) (ix2 r k)
      = (m ((c : Thread nD τ).loc main_arg1) : FVec Ideal S8192x2048 .f32) (ix2 (rowAt t r) k) := by
  blk_point [iblk, V, idx_1 t, rowAt]

theorem blk_g (c : Dev nD) (t : Fin cfg0.N) (k : Fin 2048) :
    (iblk m c 2 t : FVec Ideal S1x2048 .f32) (ix2 0 k) = (m ((c : Thread nD τ).loc main_arg2) : FVec Ideal S2048 .f32) (ix1 k) := by
  blk_point [iblk, V, idx_2 t]

theorem blk_h (c : Dev nD) (t : Fin cfg0.N) (k : Fin 2048) :
    (iblk m c 3 t : FVec Ideal S1x2048 .f32) (ix2 0 k) = (m ((c : Thread nD τ).loc main_arg3) : FVec Ideal S2048 .f32) (ix1 k) := by
  blk_point [iblk, V, idx_3 t]

theorem pay1 (z x : FVec Ideal S512x2048 .f32) (g : FVec Ideal S1x2048 .f32) (r : Fin 512) (j : Fin 2048) :
    k0_pay1 (F := Ideal) z x g (ix2 r j) = x (ix2 r j) + rmsRow (fun k => z (ix2 r k)) (fun k => g (ix2 0 k)) j := by
  pointwise [k0_pay1, rmsRow, rstd, rmsArg, word_2048, word_eps]

theorem pay2 (z x : FVec Ideal S512x2048 .f32) (g h : FVec Ideal S1x2048 .f32) (r : Fin 512) (j : Fin 2048) :
    k0_pay2 (F := Ideal) z x g h (ix2 r j)
      = rmsRow (fun k => x (ix2 r k) + rmsRow (fun k => z (ix2 r k)) (fun k => g (ix2 0 k)) k) (fun k => h (ix2 0 k)) j := by
  simp only [← pay1]
  generalize hp : k0_pay1 (F := Ideal) z x g = p
  unfold k0_pay2
  simp only [hp]
  pointwise [rmsRow, rstd, rmsArg, word_2048, word_eps]

/-- The residual stream after the run. -/
theorem final_past (c : Dev nD) : (dats m 0 c).arrAt 4 cfg0.N = past (m ((c : Thread nD τ).loc main_arg0)) (m ((c : Thread nD τ).loc main_arg1)) (m ((c : Thread nD τ).loc main_arg2)) :=
  (dats m 0 c).arrAt_eq_of_covers 4 _ (by decide +kernel) fun t hf y => by
    blk_simp
    rw [after0_4]
    have key : out0_4 (iblk m c 0 t) (iblk m c 1 t) (iblk m c 2 t) (iblk m c 3 t) = k0_pay1 (iblk m c 0 t) (iblk m c 1 t) (iblk m c 2 t) := by frame_out
    obtain ⟨r, j, rfl⟩ : ∃ (r : Fin 512) (j : Fin 2048), y = ix2 r j := ⟨y 0, y 1, by ext a; fin_cases a <;> rfl⟩
    rw [key, pay1]
    simp only [blk_z, blk_x, blk_g]
    unfold past
    blk_point [idx_4 t, rowAt]

/-- The next norm after the run. -/
theorem final_next (c : Dev nD) : (dats m 0 c).arrAt 5 cfg0.N = next (m ((c : Thread nD τ).loc main_arg0)) (m ((c : Thread nD τ).loc main_arg1)) (m ((c : Thread nD τ).loc main_arg2)) (m ((c : Thread nD τ).loc main_arg3)) :=
  (dats m 0 c).arrAt_eq_of_covers 5 _ (by decide +kernel) fun t hf y => by
    blk_simp
    rw [after0_5]
    have key : out0_5 (iblk m c 0 t) (iblk m c 1 t) (iblk m c 2 t) (iblk m c 3 t) = k0_pay2 (iblk m c 0 t) (iblk m c 1 t) (iblk m c 2 t) (iblk m c 3 t) := by frame_out
    obtain ⟨r, j, rfl⟩ : ∃ (r : Fin 512) (j : Fin 2048), y = ix2 r j := ⟨y 0, y 1, by ext a; fin_cases a <;> rfl⟩
    rw [key, pay2]
    simp only [blk_z, blk_x, blk_g, blk_h]
    unfold next past
    blk_point [idx_5 t, rowAt]

end Cert.ResNextIdeal.Val

end
-- ==== Proof.ResNext.Equation.lean ====
/-
  The residual stream past a norm, and the next norm of it: the reference's results are the kernel's, over the extended reals and at every argument.
-/
module

public import proofs.«01_k».proof.Defs
public import proofs.«01_k».proof.Proof.ResNext.Kernel
public import proofs.«01_k».proof.Proof.Gen.ResNext.Frame
public import proofs.«01_k».proof.Proof.Gen.ResNextRefIdeal.Read

@[expose] public section

set_option maxRecDepth 16384

noncomputable section

namespace Cert.ResNextEq

open Cert.Common
open Idealize.ShloMosaic Idealize.ShloMosaic.TcCoe Idealize.SL.Sem
open Cert.ResNextIdeal (S8192x2048 S2048)
open Cert.ResNextIdeal.Val Cert.ResNextRefIdeal.Read

/-- The reference's residual stream. -/
theorem ref_past (z x : FVec Ideal S8192x2048 .f32) (g : FVec Ideal S2048 .f32) :
    val_main_v13 (F := Ideal) z x g = past z x g := by
  funext i
  simp only [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  pointwise [past, rmsRow, rstd, rmsArg, word_2048, word_eps]

/-- The reference's next norm. -/
theorem ref_next (z x : FVec Ideal S8192x2048 .f32) (g h : FVec Ideal S2048 .f32) :
    val_main_v27 (F := Ideal) z x g h = next z x g h := by
  unfold next
  simp only [← ref_past]
  funext i
  simp only [val_main_v14, val_main_v15, val_main_v16, val_main_v17, val_main_v18, val_main_v19, val_main_v20, val_main_v21, val_main_v22, val_main_v23, val_main_v24, val_main_v25, val_main_v26, val_main_v27, val_main_cst_2, val_main_cst_3, val_main_cst_4]
  generalize val_main_v13 (F := Ideal) z x g = p
  pointwise [rmsRow, rstd, rmsArg, word_2048, word_eps]

theorem frame_kernel [Cert.ResNext.Facts] : Cert.quiescent_ResNext := fun m ρ _ => Cert.ResNext.Gen.frame m ρ

theorem frame_ideal [Cert.ResNextIdeal.Facts] : Cert.quiescent_ResNextIdeal := fun m ρ _ => Cert.ResNextIdeal.Gen.frame m ρ

theorem frame_ref [Cert.ResNextRefIdeal.Facts] : Cert.quiescent_ResNextRefIdeal := by
  intro m g _
  exact (θ_run Cert.ResNextRefIdeal.defs _ _).mono (fun r h => ⟨fun c => (h c).2.2, sem_eq_zero_of_no_sems (by decide) r.2⟩)
    (Cert.ResNextRefIdeal.Value.run (F := Ideal) m g)

theorem algebraic : Cert.algebraic_ResNextIdeal_ResNextRefIdeal := by
  pair_intro
  · run_from Cert.ResNextIdeal.Gen.run_main m g
  · hlo_run
    · exact (ref_past _ _ _).trans (final_past m c).symm
    · exact (ref_next _ _ _ _).trans (final_next m c).symm

end Cert.ResNextEq

end
-- ==== Proof.ResNorm.Kernel.lean ====
/-
  The residual stream past the last norm: the kernel's result arrays as functions of its arguments.
-/
module

public import proofs.«01_k».proof.Proof.Common.Norm
public import proofs.«01_k».proof.Proof.Gen.ResNormIdeal.Frame
public import Idealize.ShloMosaic.Lib.Pipeline.ValueKit
public import Idealize.ShloMosaic.Lib.Claim

@[expose] public section

set_option maxRecDepth 16384

noncomputable section

namespace Cert.ResNormIdeal.Val

open Cert.ResNormIdeal Cert.ResNormIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The residual stream past a norm. -/
def past (z x : FVec Ideal S8192x2048 .f32) (g : FVec Ideal S2048 .f32) : FVec Ideal S8192x2048 .f32 :=
  fun i => x i + rmsRow (fun k => z (ix2 (i 0) k)) (fun k => g (ix1 k)) (i 1)

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel

/-- Row `r` of the tile at a point, in the whole array. -/
def rowAt (t : Fin cfg0.N) (r : Fin 512) : Fin 8192 := ⟨t.val * 512 + r.val, by have : t.val < 16 := t.isLt; omega⟩

theorem blk_z (c : Dev nD) (t : Fin cfg0.N) (r : Fin 512) (k : Fin 2048) :
    (iblk m c 0 t : FVec Ideal S512x2048 .f32) (ix2 r k)
      = (m ((c : Thread nD τ).loc main_arg0) : FVec Ideal S8192x2048 .f32) (ix2 (rowAt t r) k) := by
  blk_point [iblk, V, idx_0 t, rowAt]

theorem blk_x (c : Dev nD) (t : Fin cfg0.N) (r : Fin 512) (k : Fin 2048) :
    (iblk m c 1 t : FVec Ideal S512x2048 .f32) (ix2 r k)
      = (m ((c : Thread nD τ).loc main_arg1) : FVec Ideal S8192x2048 .f32) (ix2 (rowAt t r) k) := by
  blk_point [iblk, V, idx_1 t, rowAt]

theorem blk_g (c : Dev nD) (t : Fin cfg0.N) (k : Fin 2048) :
    (iblk m c 2 t : FVec Ideal S1x2048 .f32) (ix2 0 k) = (m ((c : Thread nD τ).loc main_arg2) : FVec Ideal S2048 .f32) (ix1 k) := by
  blk_point [iblk, V, idx_2 t]

theorem pay1 (z x : FVec Ideal S512x2048 .f32) (g : FVec Ideal S1x2048 .f32) (r : Fin 512) (j : Fin 2048) :
    k0_pay1 (F := Ideal) z x g (ix2 r j) = x (ix2 r j) + rmsRow (fun k => z (ix2 r k)) (fun k => g (ix2 0 k)) j := by
  pointwise [k0_pay1, rmsRow, rstd, rmsArg, word_2048, word_eps]

/-- The result array after the run. -/
theorem final (c : Dev nD) : (dats m 0 c).arrAt 3 cfg0.N = past (m ((c : Thread nD τ).loc main_arg0)) (m ((c : Thread nD τ).loc main_arg1)) (m ((c : Thread nD τ).loc main_arg2)) :=
  (dats m 0 c).arrAt_eq_of_covers 3 _ (by decide +kernel) fun t hf y => by
    blk_simp
    rw [after0_3]
    have key : out0_3 (iblk m c 0 t) (iblk m c 1 t) (iblk m c 2 t) = k0_pay1 (iblk m c 0 t) (iblk m c 1 t) (iblk m c 2 t) := by frame_out
    obtain ⟨r, j, rfl⟩ : ∃ (r : Fin 512) (j : Fin 2048), y = ix2 r j := ⟨y 0, y 1, by ext a; fin_cases a <;> rfl⟩
    rw [key, pay1]
    simp only [blk_z, blk_x, blk_g]
    unfold past
    blk_point [idx_3 t, rowAt]

end Cert.ResNormIdeal.Val

end
-- ==== Proof.ResNorm.Equation.lean ====
/-
  The residual stream past the last norm: the reference's results are the kernel's, over the extended reals and at every argument.
-/
module

public import proofs.«01_k».proof.Defs
public import proofs.«01_k».proof.Proof.ResNorm.Kernel
public import proofs.«01_k».proof.Proof.Gen.ResNorm.Frame
public import proofs.«01_k».proof.Proof.Gen.ResNormRefIdeal.Read

@[expose] public section

set_option maxRecDepth 16384

noncomputable section

namespace Cert.ResNormEq

open Cert.Common
open Idealize.ShloMosaic Idealize.ShloMosaic.TcCoe Idealize.SL.Sem
open Cert.ResNormIdeal (S8192x2048 S2048)
open Cert.ResNormIdeal.Val Cert.ResNormRefIdeal.Read

/-- The reference's residual stream. -/
theorem ref_past (z x : FVec Ideal S8192x2048 .f32) (g : FVec Ideal S2048 .f32) :
    val_main_v13 (F := Ideal) z x g = past z x g := by
  funext i
  simp only [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  pointwise [past, rmsRow, rstd, rmsArg, word_2048, word_eps]

theorem frame_kernel [Cert.ResNorm.Facts] : Cert.quiescent_ResNorm := fun m ρ _ => Cert.ResNorm.Gen.frame m ρ

theorem frame_ideal [Cert.ResNormIdeal.Facts] : Cert.quiescent_ResNormIdeal := fun m ρ _ => Cert.ResNormIdeal.Gen.frame m ρ

theorem frame_ref [Cert.ResNormRefIdeal.Facts] : Cert.quiescent_ResNormRefIdeal := by
  intro m g _
  exact (θ_run Cert.ResNormRefIdeal.defs _ _).mono (fun r h => ⟨fun c => (h c).2, sem_eq_zero_of_no_sems (by decide) r.2⟩)
    (Cert.ResNormRefIdeal.Value.run (F := Ideal) m g)

theorem algebraic : Cert.algebraic_ResNormIdeal_ResNormRefIdeal := by
  pair_intro
  · run_from Cert.ResNormIdeal.Gen.run_main m g
  · hlo_run
    exact (ref_past _ _ _).trans (final m c).symm

end Cert.ResNormEq

end
-- ==== Proof.Proj.Kernel.lean ====
/-
  The input projection: the kernel's result array as a function of its arguments.
-/
module

public import proofs.«01_k».proof.Proof.Common.Scalars
public import proofs.«01_k».proof.Proof.Gen.ProjIdeal.Frame
public import Idealize.ShloMosaic.Lib.Pipeline.ValueKit
public import Idealize.ShloMosaic.Lib.Claim

@[expose] public section

set_option maxRecDepth 16384

noncomputable section

namespace Cert.ProjIdeal.Val

open Cert.ProjIdeal Cert.ProjIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The product. -/
def prod (h : FVec Ideal S8192x2048 .f32) (w : FVec Ideal S2048x12288 .f32) : FVec Ideal S8192x12288 .f32 :=
  fun i => ∑ k : Fin 2048, h (ix2 (i 0) k) * w (ix2 k (i 1))

theorem idx_0 : ∀ t : Fin grid0.N, win0_0.index t = ![t.val / 6, 0] := by decide +kernel
theorem idx_1 : ∀ t : Fin grid0.N, win0_1.index t = ![0, t.val % 6] := by decide +kernel
theorem idx_2 : ∀ t : Fin grid0.N, win0_2.index t = ![t.val / 6, t.val % 6] := by decide +kernel

/-- Row `r` and column `j` of the block at a point, in the result. -/
def rowAt (t : Fin cfg0.N) (r : Fin 1024) : Fin 8192 := ⟨t.val / 6 * 1024 + r.val, by have : t.val < 48 := t.isLt; omega⟩
def colAt (t : Fin cfg0.N) (j : Fin 2048) : Fin 12288 := ⟨t.val % 6 * 2048 + j.val, by omega⟩

theorem blk_h (c : Dev nD) (t : Fin cfg0.N) (r : Fin 1024) (k : Fin 2048) :
    (iblk m c 0 t : FVec Ideal S1024x2048 .bf16) (ix2 r k)
      = (m ((c : Thread nD τ).loc main_arg0) : FVec Ideal S8192x2048 .f32) (ix2 (rowAt t r) k) := by
  blk_point [iblk, V, idx_0 t, rowAt]

theorem blk_w (c : Dev nD) (t : Fin cfg0.N) (k j : Fin 2048) :
    (iblk m c 1 t : FVec Ideal S2048x2048 .bf16) (ix2 k j)
      = (m ((c : Thread nD τ).loc main_arg1) : FVec Ideal S2048x12288 .f32) (ix2 k (colAt t j)) := by
  blk_point [iblk, V, idx_1 t, colAt]

theorem pay1 (h : FVec Ideal S1024x2048 .bf16) (w : FVec Ideal S2048x2048 .bf16) (r : Fin 1024) (j : Fin 2048) :
    k0_pay1 (F := Ideal) h w (ix2 r j) = ∑ k : Fin 2048, h (ix2 r k) * w (ix2 k j) := by
  pointwise [k0_pay1]

/-- The product after the run. -/
theorem final (c : Dev nD) : (dats m 0 c).arrAt 2 cfg0.N
    = prod (m ((c : Thread nD τ).loc main_arg0)) (m ((c : Thread nD τ).loc main_arg1)) :=
  (dats m 0 c).arrAt_eq_of_covers 2 _ (by decide +kernel) fun t hf y => by
    blk_simp
    rw [after0_2]
    have key : out0_2 (iblk m c 0 t) (iblk m c 1 t) = k0_pay1 (iblk m c 0 t) (iblk m c 1 t) := by frame_out
    obtain ⟨r, j, rfl⟩ : ∃ (r : Fin 1024) (j : Fin 2048), y = ix2 r j := ⟨y 0, y 1, by ext a; fin_cases a <;> rfl⟩
    rw [key, pay1]
    simp only [blk_h, blk_w]
    unfold prod
    blk_point [idx_2 t, rowAt, colAt]

end Cert.ProjIdeal.Val

end
-- ==== Proof.Proj.Equation.lean ====
/-
  The input projection: the reference's result is the kernel's, over the extended reals and at every argument.
-/
module

public import proofs.«01_k».proof.Defs
public import proofs.«01_k».proof.Proof.Proj.Kernel
public import proofs.«01_k».proof.Proof.Gen.Proj.Frame
public import proofs.«01_k».proof.Proof.Gen.ProjRefIdeal.Read

@[expose] public section

set_option maxRecDepth 16384

noncomputable section

namespace Cert.ProjEq

open Cert.Common
open Idealize.ShloMosaic Idealize.ShloMosaic.TcCoe Idealize.SL.Sem
open Cert.ProjIdeal.Val Cert.ProjRefIdeal.Read

/-- The reference's product. -/
theorem ref_prod (h : FVec Ideal Cert.ProjIdeal.S8192x2048 .f32) (w : FVec Ideal Cert.ProjIdeal.S2048x12288 .f32) :
    val_main_v0 (F := Ideal) h w = prod h w := by
  funext i
  simp only [val_main_v0]
  pointwise [prod]

theorem frame_kernel [Cert.Proj.Facts] : Cert.quiescent_Proj := fun m ρ _ => Cert.Proj.Gen.frame m ρ

theorem frame_ideal [Cert.ProjIdeal.Facts] : Cert.quiescent_ProjIdeal := fun m ρ _ => Cert.ProjIdeal.Gen.frame m ρ

theorem frame_ref [Cert.ProjRefIdeal.Facts] : Cert.quiescent_ProjRefIdeal := by
  intro m g _
  exact (θ_run Cert.ProjRefIdeal.defs _ _).mono (fun r h => ⟨fun c => (h c).2, sem_eq_zero_of_no_sems (by decide) r.2⟩)
    (Cert.ProjRefIdeal.Value.run (F := Ideal) m g)

theorem algebraic : Cert.algebraic_ProjIdeal_ProjRefIdeal := by
  pair_intro
  · run_from Cert.ProjIdeal.Gen.run_main m g
  · hlo_run
    exact (ref_prod _ _).trans (final m c).symm

end Cert.ProjEq

end
-- ==== Proof.Common.Blocks.lean ====
/-
  A sum over an axis that is cut into blocks of one length.
-/
module

public import proofs.«01_k».proof.Proof.Common.Scalars

@[expose] public section

namespace Cert.Common

/-- A sum over an axis of `G` blocks of `B` is the sum over the blocks of the sums over each. -/
theorem sum_blocks {M : Type*} [AddCommMonoid M] (G B : ℕ) (f : Fin (G * B) → M)
    (hb : ∀ (g : Fin G) (k : Fin B), g.val * B + k.val < G * B) :
    ∑ i, f i = ∑ g : Fin G, ∑ k : Fin B, f ⟨g.val * B + k.val, hb g k⟩ := by
  rw [← finProdFinEquiv.sum_comp, Fintype.sum_prod_type]
  refine Finset.sum_congr rfl fun g _ => Finset.sum_congr rfl fun k _ => congrArg f (Fin.ext ?_)
  show k.val + B * g.val = g.val * B + k.val
  rw [Nat.mul_comm, Nat.add_comm]

end Cert.Common
-- ==== Proof.ProjBwd.Kernel.lean ====
/-
  The input projection's gradient at its input: the kernel's result array as a function of its arguments.
-/
module

public import proofs.«01_k».proof.Proof.Common.Blocks
public import proofs.«01_k».proof.Proof.Gen.ProjBwdIdeal.Frame
public import Idealize.ShloMosaic.Lib.Pipeline.ValueKit
public import Idealize.ShloMosaic.Lib.Claim

@[expose] public section

set_option maxRecDepth 16384

noncomputable section

namespace Cert.ProjBwdIdeal.Val

open Cert.ProjBwdIdeal Cert.ProjBwdIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The product with the transposed weight. -/
def prod (w : FVec Ideal S2048x12288 .f32) (d : FVec Ideal S8192x12288 .f32) : FVec Ideal S8192x2048 .f32 :=
  fun i => ∑ k : Fin 12288, d (ix2 (i 0) k) * w (ix2 (i 1) k)

theorem idx_0 : ∀ t : Fin grid0.N, win0_0.index t = ![t.val / 6, t.val % 3] := by decide +kernel
theorem idx_1 : ∀ t : Fin grid0.N, win0_1.index t = ![t.val / 3 % 2, t.val % 3] := by decide +kernel
theorem idx_2 : ∀ t : Fin grid0.N, win0_2.index t = ![t.val / 6, t.val / 3 % 2] := by decide +kernel

/-- The row and the column of an element of a point's tile, and column `k` of the blocks that it multiplies. -/
def rowAt (t : Fin cfg0.N) (r : Fin 1024) : Fin 8192 := ⟨t.val / 6 * 1024 + r.val, by have : t.val < 48 := t.isLt; omega⟩
def colAt (t : Fin cfg0.N) (j : Fin 1024) : Fin 2048 := ⟨t.val / 3 % 2 * 1024 + j.val, by omega⟩
def kAt (t : Fin cfg0.N) (k : Fin 4096) : Fin 12288 := ⟨t.val % 3 * 4096 + k.val, by omega⟩

theorem blk_d (c : Dev nD) (t : Fin cfg0.N) (r : Fin 1024) (k : Fin 4096) :
    (iblk m c 0 t : FVec Ideal S1024x4096 .bf16) (ix2 r k)
      = (m ((c : Thread nD τ).loc main_arg1) : FVec Ideal S8192x12288 .f32) (ix2 (rowAt t r) (kAt t k)) := by
  blk_point [iblk, V, idx_0 t, rowAt, kAt]

theorem blk_w (c : Dev nD) (t : Fin cfg0.N) (j : Fin 1024) (k : Fin 4096) :
    (iblk m c 1 t : FVec Ideal S1024x4096 .bf16) (ix2 j k)
      = (m ((c : Thread nD τ).loc main_arg0) : FVec Ideal S2048x12288 .f32) (ix2 (colAt t j) (kAt t k)) := by
  blk_point [iblk, V, idx_1 t, colAt, kAt]

theorem pay1 (d w : FVec Ideal S1024x4096 .bf16) (r j : Fin 1024) :
    k0_pay1 (F := Ideal) d w (ix2 r j) = ∑ k : Fin 4096, d (ix2 r k) * w (ix2 j k) := by
  pointwise [k0_pay1]

theorem pay2 (d w : FVec Ideal S1024x4096 .bf16) (r j : Fin 1024) :
    k0_pay2 (F := Ideal) d w (ix2 r j) = k0_pay1 (F := Ideal) d w (ix2 r j) := by
  pointwise [k0_pay2]

theorem pay3 (d w : FVec Ideal S1024x4096 .bf16) (s : FVec Ideal S1024x1024 .f32) (r j : Fin 1024) :
    k0_pay3 (F := Ideal) d w s (ix2 r j) = s (ix2 r j) + k0_pay1 (F := Ideal) d w (ix2 r j) := by
  generalize hq : k0_pay1 (F := Ideal) d w = q
  unfold k0_pay3
  simp only [hq]
  pointwise

/-- What a point's blocks add to the tile. -/
def partOf (w : FVec Ideal S2048x12288 .f32) (d : FVec Ideal S8192x12288 .f32) (t : Fin cfg0.N) (r j : Fin 1024) : EReal :=
  ∑ k : Fin 4096, d (ix2 (rowAt t r) (kAt t k)) * w (ix2 (colAt t j) (kAt t k))

def part (c : Dev nD) (t : Fin cfg0.N) (r j : Fin 1024) : EReal :=
  partOf (m ((c : Thread nD τ).loc main_arg0)) (m ((c : Thread nD τ).loc main_arg1)) t r j

theorem pay1_part (c : Dev nD) (t : Fin cfg0.N) (r j : Fin 1024) :
    k0_pay1 (F := Ideal) (iblk m c 0 t) (iblk m c 1 t) (ix2 r j) = part m c t r j := by
  rw [pay1]
  simp only [blk_d, blk_w]
  rfl

/-- The scratch after a tile's first point. -/
theorem scratch_A (c : Dev nD) (t : Fin cfg0.N) (h : t.val % 3 = 0) (r j : Fin 1024) :
    ((outsAt0 m c t.val t.isLt).2 : FVec Ideal S1024x1024 .f32) (ix2 r j) = part m c t r j := by
  have key : (outsAt0 m c t.val t.isLt).2 = k0_pay2 (F := Ideal) (iblk m c 0 t) (iblk m c 1 t) := by
    rw [outsAt0_A m c t h (by omega) (by omega)]; frame_out
  rw [key, pay2, pay1_part]

/-- The scratch after a later point of the tile: what the point before left, and this point's part. -/
theorem scratch_BC (c : Dev nD) (n : ℕ) (hn : n + 1 < cfg0.N) (h : ¬(n + 1) % 3 = 0) (r j : Fin 1024) :
    ((outsAt0 m c (n + 1) hn).2 : FVec Ideal S1024x1024 .f32) (ix2 r j)
      = ((outsAt0 m c n (Nat.lt_of_succ_lt hn)).2 : FVec Ideal S1024x1024 .f32) (ix2 r j) + part m c ⟨n + 1, hn⟩ r j := by
  have key : (outsAt0 m c (n + 1) hn).2 = k0_pay3 (F := Ideal) (iblk m c 0 ⟨n + 1, hn⟩) (iblk m c 1 ⟨n + 1, hn⟩)
      (outsAt0 m c n (Nat.lt_of_succ_lt hn)).2 := by
    by_cases h2 : (n + 1) % 3 = 2
    · refine (congrArg (·.2) (outsAt0_C m c ⟨n + 1, hn⟩ h (show 1 ≤ (n + 1) % 3 by omega) h2)).trans ?_
      frame_out
      exact congrArg (k0_pay3 (F := Ideal) _ _ ·) ((Memref.isWhole_whole _).read_unread _)
    · refine (congrArg (·.2) (outsAt0_B m c ⟨n + 1, hn⟩ h (show 1 ≤ (n + 1) % 3 by omega) h2)).trans ?_
      frame_out
      exact congrArg (k0_pay3 (F := Ideal) _ _ ·) ((Memref.isWhole_whole _).read_unread _)
  rw [key, pay3, pay1_part]

/-- What a tile's last point stores: the scratch. -/
theorem out_C (c : Dev nD) (t : Fin cfg0.N) (h : t.val % 3 = 2) :
    (outsAt0 m c t.val t.isLt).1 = (outsAt0 m c t.val t.isLt).2 := by
  rw [outsAt0_C m c t (by omega) (by omega) h]
  frame_out

/-- A tile's three parts are its sums over the whole axis. -/
theorem scratch_full (c : Dev nD) (t : Fin cfg0.N) (h : t.val % 3 = 2) (r j : Fin 1024) :
    ((outsAt0 m c t.val t.isLt).2 : FVec Ideal S1024x1024 .f32) (ix2 r j)
      = prod (m ((c : Thread nD τ).loc main_arg0)) (m ((c : Thread nD τ).loc main_arg1)) (ix2 (rowAt t r) (colAt t j)) := by
  obtain ⟨n, hn⟩ := t
  obtain ⟨k, rfl⟩ : ∃ k, n = k + 1 + 1 := ⟨n - 2, by simp only at h; omega⟩
  simp only at h
  have h0 : k % 3 = 0 := by omega
  have d1 : (k + 1 + 1) / 6 = k / 6 := by omega
  have d2 : (k + 1) / 6 = k / 6 := by omega
  have e1 : (k + 1 + 1) / 3 = k / 3 := by omega
  have e2 : (k + 1) / 3 = k / 3 := by omega
  have b2 : (k + 1) % 3 = 1 := by omega
  have hk : k < cfg0.N := by omega
  rw [scratch_BC m c (k + 1) hn (by omega), scratch_BC m c k (by omega) (by omega), scratch_A m c ⟨k, hk⟩ h0]
  unfold prod
  refine Eq.trans ?_ (sum_blocks 3 4096 _ fun g k => by omega).symm
  rw [Fin.sum_univ_three]
  simp only [part, partOf, rowAt, colAt, kAt, d1, d2, e1, e2, b2, h0, h]
  rfl

theorem flush_2 : ∀ t : Fin cfg0.N, (cfg0.win 2).flush t = true → t.val % 3 = 2 := by decide +kernel

/-- The product after the run. -/
theorem final (c : Dev nD) : (dats m 0 c).arrAt 2 cfg0.N
    = prod (m ((c : Thread nD τ).loc main_arg0)) (m ((c : Thread nD τ).loc main_arg1)) :=
  (dats m 0 c).arrAt_eq_of_covers 2 _ (by decide +kernel) fun t hf y => by
    have h : t.val % 3 = 2 := flush_2 t hf
    blk_simp
    rw [after0_2]
    obtain ⟨r, j, rfl⟩ : ∃ (r j : Fin 1024), y = ix2 r j := ⟨y 0, y 1, by ext a; fin_cases a <;> rfl⟩
    rw [out_C m c t h]
    refine (scratch_full m c t h r j).trans ?_
    generalize prod _ _ = q
    blk_point [idx_2 t, rowAt, colAt]

end Cert.ProjBwdIdeal.Val

end
-- ==== Proof.ProjBwd.Equation.lean ====
/-
  The input projection's gradient at its input: the reference's result is the kernel's, over the extended reals and at every argument.
-/
module

public import proofs.«01_k».proof.Defs
public import proofs.«01_k».proof.Proof.ProjBwd.Kernel
public import proofs.«01_k».proof.Proof.Gen.ProjBwd.Frame
public import proofs.«01_k».proof.Proof.Gen.ProjBwdRefIdeal.Read

@[expose] public section

set_option maxRecDepth 16384

noncomputable section

namespace Cert.ProjBwdEq

open Cert.Common
open Idealize.ShloMosaic Idealize.ShloMosaic.TcCoe Idealize.SL.Sem
open Cert.ProjBwdIdeal.Val Cert.ProjBwdRefIdeal.Read

/-- The reference's product. -/
theorem ref_prod (w : FVec Ideal Cert.ProjBwdIdeal.S2048x12288 .f32) (d : FVec Ideal Cert.ProjBwdIdeal.S8192x12288 .f32) :
    val_main_v2 (F := Ideal) w d = prod w d := by
  funext i
  simp only [val_main_v0, val_main_v1, val_main_v2]
  pointwise [prod]

theorem frame_kernel [Cert.ProjBwd.Facts] : Cert.quiescent_ProjBwd := fun m ρ _ => Cert.ProjBwd.Gen.frame m ρ

theorem frame_ideal [Cert.ProjBwdIdeal.Facts] : Cert.quiescent_ProjBwdIdeal := fun m ρ _ => Cert.ProjBwdIdeal.Gen.frame m ρ

theorem frame_ref [Cert.ProjBwdRefIdeal.Facts] : Cert.quiescent_ProjBwdRefIdeal := by
  intro m g _
  exact (θ_run Cert.ProjBwdRefIdeal.defs _ _).mono (fun r h => ⟨fun c => (h c).2, sem_eq_zero_of_no_sems (by decide) r.2⟩)
    (Cert.ProjBwdRefIdeal.Value.run (F := Ideal) m g)

theorem algebraic : Cert.algebraic_ProjBwdIdeal_ProjBwdRefIdeal := by
  pair_intro
  · run_from Cert.ProjBwdIdeal.Gen.run_main m g
  · hlo_run
    exact (ref_prod _ _).trans (final m c).symm

end Cert.ProjBwdEq

end
-- ==== Proof.GwIn.Kernel.lean ====
/-
  The input projection's gradient at its weight: the kernel's result array as a function of its arguments.
-/
module

public import proofs.«01_k».proof.Proof.Common.Blocks
public import proofs.«01_k».proof.Proof.Gen.GwInIdeal.Frame
public import Idealize.ShloMosaic.Lib.Pipeline.ValueKit
public import Idealize.ShloMosaic.Lib.Claim

@[expose] public section

set_option maxRecDepth 16384

noncomputable section

namespace Cert.GwInIdeal.Val

open Cert.GwInIdeal Cert.GwInIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- The product with the transposed input. -/
def prod (h : FVec Ideal S8192x2048 .f32) (d : FVec Ideal S8192x12288 .f32) : FVec Ideal S2048x12288 .bf16 :=
  fun i => ∑ k : Fin 8192, h (ix2 k (i 0)) * d (ix2 k (i 1))

theorem idx_0 : ∀ t : Fin grid0.N, win0_0.index t = ![t.val % 2, t.val / 24] := by decide +kernel
theorem idx_1 : ∀ t : Fin grid0.N, win0_1.index t = ![t.val % 2, t.val / 2 % 12] := by decide +kernel
theorem idx_2 : ∀ t : Fin grid0.N, win0_2.index t = ![t.val / 24, t.val / 2 % 12] := by decide +kernel

/-- The row and the column of an element of a point's tile, and row `k` of the blocks that it multiplies. -/
def rowAt (t : Fin cfg0.N) (r : Fin 1024) : Fin 2048 := ⟨t.val / 24 * 1024 + r.val, by have : t.val < 48 := t.isLt; omega⟩
def colAt (t : Fin cfg0.N) (j : Fin 1024) : Fin 12288 := ⟨t.val / 2 % 12 * 1024 + j.val, by omega⟩
def kAt (t : Fin cfg0.N) (k : Fin 4096) : Fin 8192 := ⟨t.val % 2 * 4096 + k.val, by omega⟩

theorem blk_h (c : Dev nD) (t : Fin cfg0.N) (k : Fin 4096) (r : Fin 1024) :
    (iblk m c 0 t : FVec Ideal S4096x1024 .bf16) (ix2 k r)
      = (m ((c : Thread nD τ).loc main_arg0) : FVec Ideal S8192x2048 .f32) (ix2 (kAt t k) (rowAt t r)) := by
  blk_point [iblk, V, idx_0 t, rowAt, kAt]

theorem blk_d (c : Dev nD) (t : Fin cfg0.N) (k : Fin 4096) (j : Fin 1024) :
    (iblk m c 1 t : FVec Ideal S4096x1024 .bf16) (ix2 k j)
      = (m ((c : Thread nD τ).loc main_arg1) : FVec Ideal S8192x12288 .f32) (ix2 (kAt t k) (colAt t j)) := by
  blk_point [iblk, V, idx_1 t, colAt, kAt]

theorem pay1 (h d : FVec Ideal S4096x1024 .bf16) (r j : Fin 1024) :
    k0_pay1 (F := Ideal) h d (ix2 r j) = ∑ k : Fin 4096, h (ix2 k r) * d (ix2 k j) := by
  pointwise [k0_pay1]

theorem pay2 (h d : FVec Ideal S4096x1024 .bf16) (r j : Fin 1024) :
    k0_pay2 (F := Ideal) h d (ix2 r j) = k0_pay1 (F := Ideal) h d (ix2 r j) := by
  pointwise [k0_pay2]

theorem pay3 (h d : FVec Ideal S4096x1024 .bf16) (s : FVec Ideal S1024x1024 .f32) (r j : Fin 1024) :
    k0_pay3 (F := Ideal) h d s (ix2 r j) = s (ix2 r j) + k0_pay1 (F := Ideal) h d (ix2 r j) := by
  generalize hq : k0_pay1 (F := Ideal) h d = q
  unfold k0_pay3
  simp only [hq]
  pointwise

/-- What a point's blocks add to the tile. -/
def partOf (h : FVec Ideal S8192x2048 .f32) (d : FVec Ideal S8192x12288 .f32) (t : Fin cfg0.N) (r j : Fin 1024) : EReal :=
  ∑ k : Fin 4096, h (ix2 (kAt t k) (rowAt t r)) * d (ix2 (kAt t k) (colAt t j))

def part (c : Dev nD) (t : Fin cfg0.N) (r j : Fin 1024) : EReal :=
  partOf (m ((c : Thread nD τ).loc main_arg0)) (m ((c : Thread nD τ).loc main_arg1)) t r j

theorem pay1_part (c : Dev nD) (t : Fin cfg0.N) (r j : Fin 1024) :
    k0_pay1 (F := Ideal) (iblk m c 0 t) (iblk m c 1 t) (ix2 r j) = part m c t r j := by
  rw [pay1]
  simp only [blk_h, blk_d]
  rfl

/-- The scratch after a tile's first point. -/
theorem scratch_A (c : Dev nD) (t : Fin cfg0.N) (h : t.val % 2 = 0) (r j : Fin 1024) :
    ((outsAt0 m c t.val t.isLt).2 : FVec Ideal S1024x1024 .f32) (ix2 r j) = part m c t r j := by
  have key : (outsAt0 m c t.val t.isLt).2 = k0_pay2 (F := Ideal) (iblk m c 0 t) (iblk m c 1 t) := by
    rw [outsAt0_A m c t h (by omega) (by omega)]; frame_out
  rw [key, pay2, pay1_part]

/-- The scratch after a tile's second and last point: the sums over the whole axis. -/
theorem scratch_full (c : Dev nD) (t : Fin cfg0.N) (h : t.val % 2 = 1) (r j : Fin 1024) :
    ((outsAt0 m c t.val t.isLt).2 : FVec Ideal S1024x1024 .f32) (ix2 r j)
      = prod (m ((c : Thread nD τ).loc main_arg0)) (m ((c : Thread nD τ).loc main_arg1)) (ix2 (rowAt t r) (colAt t j)) := by
  obtain ⟨n, hn⟩ := t
  obtain ⟨k, rfl⟩ : ∃ k, n = k + 1 := ⟨n - 1, by simp only at h; omega⟩
  simp only at h
  have hk : k < cfg0.N := by omega
  have h0 : k % 2 = 0 := by omega
  have d1 : (k + 1) / 24 = k / 24 := by omega
  have e1 : (k + 1) / 2 = k / 2 := by omega
  have key : (outsAt0 m c (k + 1) hn).2 = k0_pay3 (F := Ideal) (iblk m c 0 ⟨k + 1, hn⟩) (iblk m c 1 ⟨k + 1, hn⟩)
      (outsAt0 m c k hk).2 := by
    refine (congrArg (·.2) (outsAt0_B m c ⟨k + 1, hn⟩ (show ¬(k + 1) % 2 = 0 by omega) h h)).trans ?_
    frame_out
    exact congrArg (k0_pay3 (F := Ideal) _ _ ·) ((Memref.isWhole_whole _).read_unread _)
  rw [key, pay3, pay1_part, scratch_A m c ⟨k, hk⟩ h0]
  unfold prod
  refine Eq.trans ?_ (sum_blocks 2 4096 _ fun g k => by omega).symm
  rw [Fin.sum_univ_two]
  simp only [part, partOf, rowAt, colAt, kAt, d1, e1, h0, h]
  rfl

/-- What a tile's last point stores: the scratch, rounded. -/
theorem out_B (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

theorem flush_2 : ∀ t : Fin cfg0.N, (cfg0.win 2).flush t = true → t.val % 2 = 1 := by decide +kernel

/-- The product after the run. -/
theorem final (c : Dev nD) : (dats m 0 c).arrAt 2 cfg0.N
    = prod (m ((c : Thread nD τ).loc main_arg0)) (m ((c : Thread nD τ).loc main_arg1)) :=
  (dats m 0 c).arrAt_eq_of_covers 2 _ (by decide +kernel) fun t hf y => by
    have h : t.val % 2 = 1 := flush_2 t hf
    blk_simp
    rw [after0_2]
    obtain ⟨r, j, rfl⟩ : ∃ (r j : Fin 1024), y = ix2 r j := ⟨y 0, y 1, by ext a; fin_cases a <;> rfl⟩
    rw [out_B m c t h]
    refine Eq.trans (b := ((outsAt0 m c t.val t.isLt).2 : FVec Ideal S1024x1024 .f32) (ix2 r j)) (by rfl) ?_
    rw [scratch_full m c t h]
    generalize prod _ _ = q
    blk_point [idx_2 t, rowAt, colAt]

end Cert.GwInIdeal.Val

end
-- ==== Proof.GwIn.Equation.lean ====
/-
  The input projection's gradient at its weight: the reference's result is the kernel's, over the extended reals and at every argument.
-/
module

public import proofs.«01_k».proof.Defs
public import proofs.«01_k».proof.Proof.GwIn.Kernel
public import proofs.«01_k».proof.Proof.Gen.GwIn.Frame
public import proofs.«01_k».proof.Proof.Gen.GwInRefIdeal.Read

@[expose] public section

set_option maxRecDepth 16384

noncomputable section

namespace Cert.GwInEq

open Cert.Common
open Idealize.ShloMosaic Idealize.ShloMosaic.TcCoe Idealize.SL.Sem
open Cert.GwInIdeal.Val Cert.GwInRefIdeal.Read

/-- The reference's product. -/
theorem ref_prod (h : FVec Ideal Cert.GwInIdeal.S8192x2048 .f32) (d : FVec Ideal Cert.GwInIdeal.S8192x12288 .f32) :
    val_main_v4 (F := Ideal) h d = prod h d := by
  funext i
  simp only [val_main_v0, val_main_v1, val_main_v2, val_main_v3, val_main_v4]
  pointwise [prod]
  refine Finset.sum_congr rfl fun k _ => ?_
  exact mul_comm _ _

theorem frame_kernel [Cert.GwIn.Facts] : Cert.quiescent_GwIn := fun m ρ _ => Cert.GwIn.Gen.frame m ρ

theorem frame_ideal [Cert.GwInIdeal.Facts] : Cert.quiescent_GwInIdeal := fun m ρ _ => Cert.GwInIdeal.Gen.frame m ρ

theorem frame_ref [Cert.GwInRefIdeal.Facts] : Cert.quiescent_GwInRefIdeal := by
  intro m g _
  exact (θ_run Cert.GwInRefIdeal.defs _ _).mono (fun r h => ⟨fun c => (h c).2, sem_eq_zero_of_no_sems (by decide) r.2⟩)
    (Cert.GwInRefIdeal.Value.run (F := Ideal) m g)

theorem algebraic : Cert.algebraic_GwInIdeal_GwInRefIdeal := by
  pair_intro
  · run_from Cert.GwInIdeal.Gen.run_main m g
  · hlo_run
    exact (ref_prod _ _).trans (final m c).symm

end Cert.GwInEq

end
-- ==== Proof.Adam.Kernel.lean ====
/-
  The optimiser: the kernel's result arrays as functions of its arguments.
-/
module

public import proofs.«01_k».proof.Proof.Common.Scalars
public import proofs.«01_k».proof.Proof.Gen.AdamIdeal.Frame
public import Idealize.ShloMosaic.Lib.Pipeline.ValueKit
public import Idealize.ShloMosaic.Lib.Claim

@[expose] public section

set_option maxRecDepth 16384

noncomputable section

namespace Cert.AdamIdeal.Val

open Cert.AdamIdeal Cert.AdamIdeal.Gen Cert.Common
open Idealize.ShloMosaic Idealize.ShloMosaic.TcCoe Idealize.SL.Sem
open Idealize.ShloMosaic.Pipeline (Dat)

variable (m : (ℓ : Loc nD τ sig) → Buf (Elt Ideal) ℓ)

/-- A constant of the step, by its float's word. -/
abbrev lit (b : BitVec 32) : EReal := Ideal.ofBits FTy.f32 b

/-- The new first moment. -/
def moment (g mo : EReal) : EReal := lit 0x3F666666#32 * mo + lit 0x3DCCCCCD#32 * g

/-- The new second moment. -/
def moment2 (g vo : EReal) : EReal := lit 0x3F7FBE77#32 * vo + lit 0x3A83126F#32 * (g * g)

/-- The step of a weight. -/
def step (g mo vo w : EReal) : EReal :=
  lit 0xBA83126F#32 * (Ideal.div (Ideal.div (moment g mo) (lit 0x3F26BD02#32))
    (Ideal.sqrt (Ideal.div (moment2 g vo) (lit 0x3C231ACC#32)) + lit 0x322BCC77#32) + lit 0x3C23D70A#32 * w)

/-- The sum of the devices' parts of the gradient. -/
def total (p : FVec Ideal S8x1024x2048 .f32) (r : Fin 1024) (j : Fin 2048) : EReal := ∑ d : Fin 8, p (ix3 d r j)

/-- An array whose layer 0 is `f` and whose other layers are those of `prev`. -/
def layer0 (f : Fin 1024 → Fin 2048 → EReal) (prev : FVec Ideal S4x1024x2048 .f32) : FVec Ideal S4x1024x2048 .f32 :=
  fun i => if (i 0).val = 0 then f (i 1) (i 2) else prev i

/-- The four results. -/
def newG (p : FVec Ideal S8x1024x2048 .f32) (prev : FVec Ideal S4x1024x2048 .f32) : FVec Ideal S4x1024x2048 .f32 :=
  layer0 (total p) prev
def newD (p : FVec Ideal S8x1024x2048 .f32) (w mo vo prev : FVec Ideal S4x1024x2048 .f32) : FVec Ideal S4x1024x2048 .f32 :=
  layer0 (fun r j => step (total p r j) (mo (ix3 0 r j)) (vo (ix3 0 r j)) (w (ix3 0 r j))) prev
def newM (p : FVec Ideal S8x1024x2048 .f32) (mo prev : FVec Ideal S4x1024x2048 .f32) : FVec Ideal S4x1024x2048 .f32 :=
  layer0 (fun r j => moment (total p r j) (mo (ix3 0 r j))) prev
def newV (p : FVec Ideal S8x1024x2048 .f32) (vo prev : FVec Ideal S4x1024x2048 .f32) : FVec Ideal S4x1024x2048 .f32 :=
  layer0 (fun r j => moment2 (total p r j) (vo (ix3 0 r j))) prev

theorem idx_0 : ∀ t : Fin grid0.N, win0_0.index t = ![0, t.val, 0] := by decide +kernel
theorem idx_1 : ∀ t : Fin grid0.N, win0_1.index t = ![0, t.val, 0] := by decide +kernel
theorem idx_2 : ∀ t : Fin grid0.N, win0_2.index t = ![0, t.val, 0] := by decide +kernel
theorem idx_3 : ∀ t : Fin grid0.N, win0_3.index t = ![0, t.val, 0] := by decide +kernel
theorem idx_4 : ∀ t : Fin grid0.N, win0_4.index t = ![0, t.val, 0] := by decide +kernel
theorem idx_5 : ∀ t : Fin grid0.N, win0_5.index t = ![0, t.val, 0] := by decide +kernel
theorem idx_6 : ∀ t : Fin grid0.N, win0_6.index t = ![0, t.val, 0] := by decide +kernel
theorem idx_7 : ∀ t : Fin grid0.N, win0_7.index t = ![0, t.val, 0] := by decide +kernel

/-- Row `r` of a point's block, in the arrays. -/
def rowAt (t : Fin cfg0.N) (r : Fin 256) : Fin 1024 := ⟨t.val * 256 + r.val, by have : t.val < 4 := t.isLt; omega⟩

theorem blk_p (c : Dev nD) (t : Fin cfg0.N) (d : Fin 8) (r : Fin 256) (j : Fin 2048) :
    (iblk m c 0 t : FVec Ideal S8x256x2048 .bf16) (ix3 d r j)
      = (m ((c : Thread nD τ).loc main_arg0) : FVec Ideal S8x1024x2048 .f32) (ix3 d (rowAt t r) j) := by
  blk_point [iblk, V, idx_0 t, rowAt]

theorem blk_w (c : Dev nD) (t : Fin cfg0.N) (r : Fin 256) (j : Fin 2048) :
    (iblk m c 1 t : FVec Ideal S1x256x2048 .f32) (ix3 0 r j)
      = (m ((c : Thread nD τ).loc main_arg1) : FVec Ideal S4x1024x2048 .f32) (ix3 0 (rowAt t r) j) := by
  blk_point [iblk, V, idx_1 t, rowAt]

theorem blk_m (c : Dev nD) (t : Fin cfg0.N) (r : Fin 256) (j : Fin 2048) :
    (iblk m c 2 t : FVec Ideal S1x256x2048 .f32) (ix3 0 r j)
      = (m ((c : Thread nD τ).loc main_arg2) : FVec Ideal S4x1024x2048 .f32) (ix3 0 (rowAt t r) j) := by
  blk_point [iblk, V, idx_2 t, rowAt]

theorem blk_v (c : Dev nD) (t : Fin cfg0.N) (r : Fin 256) (j : Fin 2048) :
    (iblk m c 3 t : FVec Ideal S1x256x2048 .f32) (ix3 0 r j)
      = (m ((c : Thread nD τ).loc main_arg3) : FVec Ideal S4x1024x2048 .f32) (ix3 0 (rowAt t r) j) := by
  blk_point [iblk, V, idx_3 t, rowAt]

theorem pay3 (a0 a1 a2 a3 a4 a5 a6 a7 : FVec Ideal S1x256x2048 .bf16) (r : Fin 256) (j : Fin 2048) :
    k0_pay3 (F := Ideal) a0 a1 a2 a3 a4 a5 a6 a7 (ix2 r j) = a0 (ix3 0 r j) + a1 (ix3 0 r j) + a2 (ix3 0 r j) + a3 (ix3 0 r j)
      + a4 (ix3 0 r j) + a5 (ix3 0 r j) + a6 (ix3 0 r j) + a7 (ix3 0 r j) := by
  pointwise [k0_pay3]

theorem pay4 (g : FVec Ideal S256x2048 .f32) (a : FVec Ideal S1x256x2048 .f32) (r : Fin 256) (j : Fin 2048) :
    k0_pay4 (F := Ideal) g a (ix2 r j) = moment (g (ix2 r j)) (a (ix3 0 r j)) := by
  pointwise [k0_pay4, moment]

theorem pay5 (g : FVec Ideal S256x2048 .f32) (a : FVec Ideal S1x256x2048 .f32) (r : Fin 256) (j : Fin 2048) :
    k0_pay5 (F := Ideal) g a (ix2 r j) = moment2 (g (ix2 r j)) (a (ix3 0 r j)) := by
  pointwise [k0_pay5, moment2]

theorem pay7 (g : FVec Ideal S256x2048 .f32) (a b w : FVec Ideal S1x256x2048 .f32) (z : Fin 1) (r : Fin 256) (j : Fin 2048) :
    k0_pay7 (F := Ideal) g a b w (ix3 z r j) = step (g (ix2 r j)) (a (ix3 0 r j)) (b (ix3 0 r j)) (w (ix3 0 r j)) := by
  unfold step
  rw [← pay4, ← pay5]
  pointwise [k0_pay7]

/-- A layer of a block of parts, read from the block. -/
theorem ld_part (x : Vec Ideal S8x256x2048 .bf16) (d : ℕ) (hd : d < 8) (h) (r : Fin 256) (j : Fin 2048) :
    View.ld x (Rect.unit (s := S8x256x2048) ![d, 0, 0] ![1, 256, 2048] h) (ix3 (0 : Fin 1) r j : S1x256x2048.Idx)
      = x (ix3 ⟨d, hd⟩ r j) := by
  rw [View.ld_apply]
  refine congrArg x ?_
  ext a
  fin_cases a <;> simp [Rect.unit, ix3]

/-- The sum of a block's parts, as the body takes it. -/
def sums (x : Vec Ideal S8x256x2048 .bf16) : FVec Ideal S256x2048 .f32 :=
  k0_pay3 (F := Ideal)
    (View.ld x (Rect.unit ![0, 0, 0] ![1, 256, 2048] inb_S8x256x2048_S1x256x2048_0_0_0))
    (View.ld x (Rect.unit ![1, 0, 0] ![1, 256, 2048] inb_S8x256x2048_S1x256x2048_1_0_0))
    (View.ld x (Rect.unit ![2, 0, 0] ![1, 256, 2048] inb_S8x256x2048_S1x256x2048_2_0_0))
    (View.ld x (Rect.unit ![3, 0, 0] ![1, 256, 2048] inb_S8x256x2048_S1x256x2048_3_0_0))
    (View.ld x (Rect.unit ![4, 0, 0] ![1, 256, 2048] inb_S8x256x2048_S1x256x2048_4_0_0))
    (View.ld x (Rect.unit ![5, 0, 0] ![1, 256, 2048] inb_S8x256x2048_S1x256x2048_5_0_0))
    (View.ld x (Rect.unit ![6, 0, 0] ![1, 256, 2048] inb_S8x256x2048_S1x256x2048_6_0_0))
    (View.ld x (Rect.unit ![7, 0, 0] ![1, 256, 2048] inb_S8x256x2048_S1x256x2048_7_0_0))

theorem sums_block (x : Vec Ideal S8x256x2048 .bf16) (r : Fin 256) (j : Fin 2048) :
    sums x (ix2 r j) = ∑ d : Fin 8, x (ix3 d r j) := by
  refine (pay3 _ _ _ _ _ _ _ _ r j).trans ?_
  rw [Fin.sum_univ_eight]
  have e := fun (d : ℕ) (hd : d < 8) h => ld_part x d hd h r j
  exact congrArg₂ (· + ·) (congrArg₂ (· + ·) (congrArg₂ (· + ·) (congrArg₂ (· + ·) (congrArg₂ (· + ·) (congrArg₂ (· + ·)
    (congrArg₂ (· + ·) (e 0 (by decide) _) (e 1 (by decide) _)) (e 2 (by decide) _)) (e 3 (by decide) _)) (e 4 (by decide) _))
    (e 5 (by decide) _)) (e 6 (by decide) _)) (e 7 (by decide) _)

theorem sums_apply (c : Dev nD) (t : Fin cfg0.N) (r : Fin 256) (j : Fin 2048) :
    sums (iblk m c 0 t) (ix2 r j) = total (m ((c : Thread nD τ).loc main_arg0)) (rowAt t r) j := by
  rw [sums_block]
  exact Finset.sum_congr rfl fun d _ => blk_p m c t d r j

theorem key4 (c : Dev nD) (t : Fin cfg0.N) : (outsAt0 m c t).1 = k0_pay6 (F := Ideal) (sums (iblk m c 0 t)) := by
  unfold outsAt0
  frame_out
  rfl

theorem key5 (c : Dev nD) (t : Fin cfg0.N) :
    (outsAt0 m c t).2.1 = k0_pay7 (F := Ideal) (sums (iblk m c 0 t)) (iblk m c 2 t) (iblk m c 3 t) (iblk m c 1 t) := by
  unfold outsAt0
  frame_out
  rfl

theorem key6 (c : Dev nD) (t : Fin cfg0.N) :
    (outsAt0 m c t).2.2.1 = k0_pay1 (F := Ideal) (k0_pay4 (F := Ideal) (sums (iblk m c 0 t)) (iblk m c 2 t)) := by
  unfold outsAt0
  frame_out
  rfl

theorem key7 (c : Dev nD) (t : Fin cfg0.N) :
    (outsAt0 m c t).2.2.2 = k0_pay2 (F := Ideal) (k0_pay5 (F := Ideal) (sums (iblk m c 0 t)) (iblk m c 3 t)) := by
  unfold outsAt0
  frame_out
  rfl

theorem pay6 (g : FVec Ideal S256x2048 .f32) (z : Fin 1) (r : Fin 256) (j : Fin 2048) :
    k0_pay6 (F := Ideal) g (ix3 z r j) = g (ix2 r j) := by
  pointwise [k0_pay6]

theorem pay1 (g : FVec Ideal S256x2048 .f32) (z : Fin 1) (r : Fin 256) (j : Fin 2048) :
    k0_pay1 (F := Ideal) g (ix3 z r j) = g (ix2 r j) := by
  pointwise [k0_pay1]

theorem pay2 (g : FVec Ideal S256x2048 .f32) (z : Fin 1) (r : Fin 256) (j : Fin 2048) :
    k0_pay2 (F := Ideal) g (ix3 z r j) = g (ix2 r j) := by
  pointwise [k0_pay2]

/-- The gradient after the run. -/
theorem final_newG (c : Dev nD) : (dats m 0 c).arrAt 4 cfg0.N
    = newG (m ((c : Thread nD τ).loc main_arg0)) (m ((c : Thread nD τ).loc main_arg4)) := by
  refine (dats m 0 c).arrAt_eq_of_coversWhere_of_agree 4 _ (fun β => β (0 : Fin 3) = 0) (by decide +kernel) (fun t hf y => ?_)
    (fun i hi => ?_)
  · blk_simp
    rw [after0_4]
    obtain ⟨z, r, j, rfl⟩ : ∃ (z : Fin 1) (r : Fin 256) (j : Fin 2048), y = ix3 z r j :=
      ⟨y 0, y 1, y 2, by ext a; fin_cases a <;> rfl⟩
    refine Eq.trans (b := newG (m ((c : Thread nD τ).loc main_arg0)) (m ((c : Thread nD τ).loc main_arg4)) (ix3 0 (rowAt t r) j)) ?_ ?_
    · rw [key4, pay6, sums_apply]; rfl
    generalize newG _ _ = q
    blk_point [idx_4 t, rowAt]
  · blk_simp [Pipeline.Window.cell_apply] at hi
    unfold newG layer0
    rw [if_neg (by intro h; exact hi ((Nat.div_one _).trans h))]
    rfl

/-- The weights' step after the run. -/
theorem final_newD (c : Dev nD) : (dats m 0 c).arrAt 5 cfg0.N
    = newD (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin 3) = 0) (by decide +kernel) (fun t hf y => ?_)
    (fun i hi => ?_)
  · blk_simp
    rw [after0_5]
    obtain ⟨z, r, j, rfl⟩ : ∃ (z : Fin 1) (r : Fin 256) (j : Fin 2048), y = ix3 z r j :=
      ⟨y 0, y 1, y 2, by ext a; fin_cases a <;> rfl⟩
    refine Eq.trans (b := newD (m ((c : Thread nD τ).loc main_arg0)) (m ((c : Thread nD τ).loc main_arg1)) (m ((c : Thread nD τ).loc main_arg2)) (m ((c : Thread nD τ).loc main_arg3)) (m ((c : Thread nD τ).loc main_arg5)) (ix3 0 (rowAt t r) j)) ?_ ?_
    · rw [key5, pay7, sums_apply, blk_w, blk_m, blk_v]; rfl
    generalize newD _ _ _ _ _ = q
    blk_point [idx_5 t, rowAt]
  · blk_simp [Pipeline.Window.cell_apply] at hi
    unfold newD layer0
    rw [if_neg (by intro h; exact hi ((Nat.div_one _).trans h))]
    rfl

/-- The first moment after the run. -/
theorem final_newM (c : Dev nD) : (dats m 0 c).arrAt 6 cfg0.N
    = newM (m ((c : Thread nD τ).loc main_arg0)) (m ((c : Thread nD τ).loc main_arg2)) (m ((c : Thread nD τ).loc main_arg6)) := by
  refine (dats m 0 c).arrAt_eq_of_coversWhere_of_agree 6 _ (fun β => β (0 : Fin 3) = 0) (by decide +kernel) (fun t hf y => ?_)
    (fun i hi => ?_)
  · blk_simp
    rw [after0_6]
    obtain ⟨z, r, j, rfl⟩ : ∃ (z : Fin 1) (r : Fin 256) (j : Fin 2048), y = ix3 z r j :=
      ⟨y 0, y 1, y 2, by ext a; fin_cases a <;> rfl⟩
    refine Eq.trans (b := newM (m ((c : Thread nD τ).loc main_arg0)) (m ((c : Thread nD τ).loc main_arg2)) (m ((c : Thread nD τ).loc main_arg6)) (ix3 0 (rowAt t r) j)) ?_ ?_
    · rw [key6, pay1, pay4, sums_apply, blk_m]; rfl
    generalize newM _ _ _ = q
    blk_point [idx_6 t, rowAt]
  · blk_simp [Pipeline.Window.cell_apply] at hi
    unfold newM layer0
    rw [if_neg (by intro h; exact hi ((Nat.div_one _).trans h))]
    rfl

/-- The second moment after the run. -/
theorem final_newV (c : Dev nD) : (dats m 0 c).arrAt 7 cfg0.N
    = newV (m ((c : Thread nD τ).loc main_arg0)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_)
    (fun i hi => ?_)
  · blk_simp
    rw [after0_7]
    obtain ⟨z, r, j, rfl⟩ : ∃ (z : Fin 1) (r : Fin 256) (j : Fin 2048), y = ix3 z r j :=
      ⟨y 0, y 1, y 2, by ext a; fin_cases a <;> rfl⟩
    refine Eq.trans (b := newV (m ((c : Thread nD τ).loc main_arg0)) (m ((c : Thread nD τ).loc main_arg3)) (m ((c : Thread nD τ).loc main_arg7)) (ix3 0 (rowAt t r) j)) ?_ ?_
    · rw [key7, pay2, pay5, sums_apply, blk_v]; rfl
    generalize newV _ _ _ = q
    blk_point [idx_7 t, rowAt]
  · blk_simp [Pipeline.Window.cell_apply] at hi
    unfold newV layer0
    rw [if_neg (by intro h; exact hi ((Nat.div_one _).trans h))]
    rfl

end Cert.AdamIdeal.Val

end
-- ==== Proof.Adam.Equation.lean ====
/-
  The optimiser: the reference's results are the kernel's, over the extended reals and at every argument.
-/
module

public import proofs.«01_k».proof.Defs
public import proofs.«01_k».proof.Proof.Adam.Kernel
public import proofs.«01_k».proof.Proof.Gen.Adam.Frame
public import proofs.«01_k».proof.Proof.Gen.AdamRefIdeal.Read

@[expose] public section

set_option maxRecDepth 16384

noncomputable section

namespace Cert.AdamEq

open Cert.Common
open Idealize.ShloMosaic Idealize.ShloMosaic.TcCoe Idealize.SL.Sem
open Cert.AdamIdeal Cert.AdamIdeal.Val Cert.AdamRefIdeal.Read

variable (p : FVec Ideal S8x1024x2048 .f32) (w mo vo prev : FVec Ideal S4x1024x2048 .f32)

/-- The reference's sum of the parts. -/
theorem ref_total (r : Fin 1024) (j : Fin 2048) : val_main_v0 (F := Ideal) p (ix2 r j) = total p r j := by
  rw [val_main_v0_apply, val_main_cst_apply]
  refine Eq.trans (congrArg₂ (· + ·) (Ideal.ofBits_zero_f32) rfl) ((zero_add _).trans ?_)
  exact Finset.sum_congr rfl fun d _ => congrArg p (by ext a; fin_cases a <;> rfl)

/-- The reference's first moment. -/
theorem ref_moment (r : Fin 1024) (j : Fin 2048) :
    val_main_v11 (F := Ideal) p mo (ix2 r j) = moment (total p r j) (mo (ix3 0 r j)) := by
  rw [← ref_total]
  simp only [val_main_v3, val_main_v4, val_main_v7, val_main_v8, val_main_v9, val_main_v10, val_main_v11]
  generalize val_main_v0 (F := Ideal) p = g
  pointwise [moment]
  rfl

/-- The reference's second moment. -/
theorem ref_moment2 (r : Fin 1024) (j : Fin 2048) :
    val_main_v17 (F := Ideal) p vo (ix2 r j) = moment2 (total p r j) (vo (ix3 0 r j)) := by
  rw [← ref_total]
  simp only [val_main_v5, val_main_v6, val_main_v12, val_main_v13, val_main_v14, val_main_v15, val_main_v16, val_main_v17]
  generalize val_main_v0 (F := Ideal) p = g
  pointwise [moment2]
  rfl

/-- The reference's step. -/
theorem ref_step (r : Fin 1024) (j : Fin 2048) : val_main_v30 (F := Ideal) p w mo vo (ix2 r j)
    = step (total p r j) (mo (ix3 0 r j)) (vo (ix3 0 r j)) (w (ix3 0 r j)) := by
  unfold step
  rw [← ref_moment, ← ref_moment2]
  simp only [val_main_v1, val_main_v2, val_main_v18, val_main_v19, val_main_v20, val_main_v21, val_main_v22, val_main_v23, val_main_v24, val_main_v25, val_main_v26, val_main_v27, val_main_v28, val_main_v29, val_main_v30]
  generalize val_main_v11 (F := Ideal) p mo = a
  generalize val_main_v17 (F := Ideal) p vo = b
  pointwise
  rfl

/-- A new layer in front of three old ones. -/
theorem stacked (a : FVec Ideal Cert.AdamRefIdeal.S1x1024x2048 .f32) (b : FVec Ideal Cert.AdamRefIdeal.S3x1024x2048 .f32)
    (f : Fin 1024 → Fin 2048 → EReal) (h)
    (ha : ∀ i, a i = f (i 1) (i 2)) (hb : ∀ i j, (j 0).val = 1 + (i 0).val → (i 1).val = (j 1).val → (i 2).val = (j 2).val → b i = prev j) :
    concatenate S4x1024x2048 0 [⟨Cert.AdamRefIdeal.S1x1024x2048, a⟩, ⟨Cert.AdamRefIdeal.S3x1024x2048, b⟩] h = layer0 f prev := by
  funext i
  obtain ⟨l, r, j, rfl⟩ : ∃ (l : Fin 4) (r : Fin 1024) (j : Fin 2048), i = ix3 l r j :=
    ⟨i 0, i 1, i 2, by ext a; fin_cases a <;> rfl⟩
  unfold layer0
  by_cases hl : l.val = 0
  · rw [if_pos (show (ix3 l r j 0).val = 0 from hl)]
    refine (concatenate_pair_apply_left (t := S4x1024x2048) 0 a b h (ix3 l r j) rfl (ix3 0 r j) ?_).trans (ha _)
    intro c
    match c with
    | ⟨0, _⟩ => exact hl.symm
    | ⟨1, _⟩ => rfl
    | ⟨2, _⟩ => rfl
  · rw [if_neg (show ¬ (ix3 l r j 0).val = 0 from hl)]
    have hlt : l.val < 4 := l.isLt
    refine (concatenate_pair_apply_right (t := S4x1024x2048) 0 a b h (ix3 l r j) rfl rfl (ix3 ⟨l.val - 1, by omega⟩ r j) ?_ ?_).trans
      (hb _ _ ?_ rfl rfl)
    · intro c hc
      match c with
      | ⟨0, _⟩ => exact absurd rfl hc
      | ⟨1, _⟩ => rfl
      | ⟨2, _⟩ => rfl
    · show l.val - 1 + 1 = l.val
      omega
    · show l.val = 1 + (l.val - 1)
      omega

/-- Two places of an array with the same coordinates. -/
theorem at_eq {i j : S4x1024x2048.Idx} (h0 : (i 0).val = (j 0).val) (h1 : (i 1).val = (j 1).val) (h2 : (i 2).val = (j 2).val) :
    prev i = prev j :=
  congrArg prev (by ext a; match a with | ⟨0, _⟩ => exact h0 | ⟨1, _⟩ => exact h1 | ⟨2, _⟩ => exact h2)

/-- A place of a matrix, by its coordinates. -/
theorem at_mat {a : FVec Ideal Cert.AdamRefIdeal.S1024x2048 .f32} {f : Fin 1024 → Fin 2048 → EReal} (h : ∀ r j, a (ix2 r j) = f r j)
    (i : Cert.AdamRefIdeal.S1024x2048.Idx) (r : Fin 1024) (j : Fin 2048) (h0 : (i 0).val = r.val) (h1 : (i 1).val = j.val) : a i = f r j := by
  rw [← h]
  exact congrArg a (by ext c; match c with | ⟨0, _⟩ => exact h0 | ⟨1, _⟩ => exact h1)

theorem ref_newG : val_main_v33 (F := Ideal) p prev = newG p prev := by
  unfold val_main_v33
  refine stacked prev _ _ (total p) _ (fun i => (val_main_v31_apply (F := Ideal) p i).trans (at_mat (ref_total p) _ _ _ rfl rfl))
    (fun i j h0 h1 h2 => (val_main_v32_apply (F := Ideal) prev i).trans (at_eq prev h0.symm h1 h2))

theorem ref_newD : val_main_v36 (F := Ideal) p w mo vo prev = newD p w mo vo prev := by
  unfold val_main_v36
  refine stacked prev _ _ (fun r j => step (total p r j) (mo (ix3 0 r j)) (vo (ix3 0 r j)) (w (ix3 0 r j))) _ (fun i => (val_main_v34_apply (F := Ideal) p w mo vo i).trans
      (at_mat (f := fun r j => step (total p r j) (mo (ix3 0 r j)) (vo (ix3 0 r j)) (w (ix3 0 r j))) (ref_step p w mo vo) _ _ _ rfl rfl))
    (fun i j h0 h1 h2 => (val_main_v35_apply (F := Ideal) prev i).trans (at_eq prev h0.symm h1 h2))

theorem ref_newM : val_main_v39 (F := Ideal) p mo prev = newM p mo prev := by
  unfold val_main_v39
  refine stacked prev _ _ (fun r j => moment (total p r j) (mo (ix3 0 r j))) _ (fun i => (val_main_v37_apply (F := Ideal) p mo i).trans
      (at_mat (f := fun r j => moment (total p r j) (mo (ix3 0 r j))) (ref_moment p mo) _ _ _ rfl rfl))
    (fun i j h0 h1 h2 => (val_main_v38_apply (F := Ideal) prev i).trans (at_eq prev h0.symm h1 h2))

theorem ref_newV : val_main_v42 (F := Ideal) p vo prev = newV p vo prev := by
  unfold val_main_v42
  refine stacked prev _ _ (fun r j => moment2 (total p r j) (vo (ix3 0 r j))) _ (fun i => (val_main_v40_apply (F := Ideal) p vo i).trans
      (at_mat (f := fun r j => moment2 (total p r j) (vo (ix3 0 r j))) (ref_moment2 p vo) _ _ _ rfl rfl))
    (fun i j h0 h1 h2 => (val_main_v41_apply (F := Ideal) prev i).trans (at_eq prev h0.symm h1 h2))

theorem frame_kernel [Cert.Adam.Facts] : Cert.quiescent_Adam := fun m ρ _ => Cert.Adam.Gen.frame m ρ

theorem frame_ideal [Cert.AdamIdeal.Facts] : Cert.quiescent_AdamIdeal := fun m ρ _ => Cert.AdamIdeal.Gen.frame m ρ

theorem frame_ref [Cert.AdamRefIdeal.Facts] : Cert.quiescent_AdamRefIdeal := by
  intro m g _
  exact (θ_run Cert.AdamRefIdeal.defs _ _).mono (fun r h => ⟨fun c => (h c).2.2.2.2, sem_eq_zero_of_no_sems (by decide) r.2⟩)
    (Cert.AdamRefIdeal.Value.run (F := Ideal) m g)

set_option maxHeartbeats 4000000 in
theorem algebraic : Cert.algebraic_AdamIdeal_AdamRefIdeal := by
  pair_intro
  · run_from Cert.AdamIdeal.Gen.run_main m g
  · hlo_run
    · obtain ⟨-, -, -, -, e4, -, -, -⟩ := hagree c
      exact (ref_newG _ _).trans ((congrArg (newG _) e4).trans (final_newG m c).symm)
    · obtain ⟨-, -, -, -, -, e5, -, -⟩ := hagree c
      exact (ref_newD _ _ _ _ _).trans ((congrArg (newD _ _ _ _) e5).trans (final_newD m c).symm)
    · obtain ⟨-, -, e2, -, -, -, e6, -⟩ := hagree c
      exact (ref_newM _ _ _).trans ((congrArg₂ (newM _) e2 e6).trans (final_newM m c).symm)
    · obtain ⟨-, -, -, e3, -, -, -, e7⟩ := hagree c
      exact (ref_newV _ _ _).trans ((congrArg₂ (newV _) e3 e7).trans (final_newV m c).symm)

end Cert.AdamEq

end
-- ==== Proof.lean ====
/-
  The claims of the certificate, put together from the modules under Proof/: for each call the two frames of the kernel,
  the frame of its reference, and the equation between the two.
-/
module

public import proofs.«01_k».proof.Defs
public import proofs.«01_k».proof.Proof.Gen.BranchBwd
public import proofs.«01_k».proof.Proof.Gen.BranchBwd.Skeleton
public import proofs.«01_k».proof.Proof.Gen.BranchBwd.Launch
public import proofs.«01_k».proof.Proof.Gen.BranchBwd.Points
public import proofs.«01_k».proof.Proof.Gen.BranchBwdIdeal
public import proofs.«01_k».proof.Proof.Gen.BranchBwdIdeal.Skeleton
public import proofs.«01_k».proof.Proof.Gen.BranchBwdIdeal.Launch
public import proofs.«01_k».proof.Proof.Gen.BranchBwdIdeal.Points
public import proofs.«01_k».proof.Proof.Gen.BranchBwdRefIdeal
public import proofs.«01_k».proof.Proof.Gen.BranchBwdRefIdeal.Run
public import proofs.«01_k».proof.Proof.Gen.BranchBwdRefIdeal.Read
public import proofs.«01_k».proof.Proof.Branch.Equation
public import proofs.«01_k».proof.Proof.Gen.BranchFwd
public import proofs.«01_k».proof.Proof.Gen.BranchFwd.Skeleton
public import proofs.«01_k».proof.Proof.Gen.BranchFwd.Launch
public import proofs.«01_k».proof.Proof.Gen.BranchFwd.Points
public import proofs.«01_k».proof.Proof.Gen.BranchFwd.Frame
public import proofs.«01_k».proof.Proof.Gen.BranchFwdIdeal
public import proofs.«01_k».proof.Proof.Gen.BranchFwdIdeal.Skeleton
public import proofs.«01_k».proof.Proof.Gen.BranchFwdIdeal.Launch
public import proofs.«01_k».proof.Proof.Gen.BranchFwdIdeal.Points
public import proofs.«01_k».proof.Proof.Gen.BranchFwdIdeal.Frame
public import proofs.«01_k».proof.Proof.Gen.BranchFwdRefIdeal
public import proofs.«01_k».proof.Proof.Gen.BranchFwdRefIdeal.Run
public import proofs.«01_k».proof.Proof.Gen.BranchFwdRefIdeal.Read
public import proofs.«01_k».proof.Proof.BranchFwd.Equation
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Loss.Equation
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Merge.Equation
public import proofs.«01_k».proof.Proof.Gen.MlpDownBwd
public import proofs.«01_k».proof.Proof.Gen.MlpDownBwd.Skeleton
public import proofs.«01_k».proof.Proof.Gen.MlpDownBwd.Launch
public import proofs.«01_k».proof.Proof.Gen.MlpDownBwd.Points
public import proofs.«01_k».proof.Proof.Gen.MlpDownBwd.Frame
public import proofs.«01_k».proof.Proof.Gen.MlpDownBwdIdeal
public import proofs.«01_k».proof.Proof.Gen.MlpDownBwdIdeal.Skeleton
public import proofs.«01_k».proof.Proof.Gen.MlpDownBwdIdeal.Launch
public import proofs.«01_k».proof.Proof.Gen.MlpDownBwdIdeal.Points
public import proofs.«01_k».proof.Proof.Gen.MlpDownBwdIdeal.Frame
public import proofs.«01_k».proof.Proof.Gen.MlpDownBwdRefIdeal
public import proofs.«01_k».proof.Proof.Gen.MlpDownBwdRefIdeal.Run
public import proofs.«01_k».proof.Proof.Gen.MlpDownBwdRefIdeal.Read
public import proofs.«01_k».proof.Proof.Down.Equation
public import proofs.«01_k».proof.Proof.Gen.RmsTop
public import proofs.«01_k».proof.Proof.Gen.RmsTop.Skeleton
public import proofs.«01_k».proof.Proof.Gen.RmsTop.Launch
public import proofs.«01_k».proof.Proof.Gen.RmsTop.Points
public import proofs.«01_k».proof.Proof.Gen.RmsTop.Frame
public import proofs.«01_k».proof.Proof.Gen.RmsTopIdeal
public import proofs.«01_k».proof.Proof.Gen.RmsTopIdeal.Skeleton
public import proofs.«01_k».proof.Proof.Gen.RmsTopIdeal.Launch
public import proofs.«01_k».proof.Proof.Gen.RmsTopIdeal.Points
public import proofs.«01_k».proof.Proof.Gen.RmsTopIdeal.Frame
public import proofs.«01_k».proof.Proof.Gen.RmsTopRefIdeal
public import proofs.«01_k».proof.Proof.Gen.RmsTopRefIdeal.Run
public import proofs.«01_k».proof.Proof.Gen.RmsTopRefIdeal.Read
public import proofs.«01_k».proof.Proof.Rms.Top.Equation
public import proofs.«01_k».proof.Proof.Gen.RmsPre
public import proofs.«01_k».proof.Proof.Gen.RmsPre.Skeleton
public import proofs.«01_k».proof.Proof.Gen.RmsPre.Launch
public import proofs.«01_k».proof.Proof.Gen.RmsPre.Points
public import proofs.«01_k».proof.Proof.Gen.RmsPre.Frame
public import proofs.«01_k».proof.Proof.Gen.RmsPreIdeal
public import proofs.«01_k».proof.Proof.Gen.RmsPreIdeal.Skeleton
public import proofs.«01_k».proof.Proof.Gen.RmsPreIdeal.Launch
public import proofs.«01_k».proof.Proof.Gen.RmsPreIdeal.Points
public import proofs.«01_k».proof.Proof.Gen.RmsPreIdeal.Frame
public import proofs.«01_k».proof.Proof.Gen.RmsPreRefIdeal
public import proofs.«01_k».proof.Proof.Gen.RmsPreRefIdeal.Run
public import proofs.«01_k».proof.Proof.Gen.RmsPreRefIdeal.Read
public import proofs.«01_k».proof.Proof.Rms.Pre.Equation
public import proofs.«01_k».proof.Proof.Gen.RmsMix
public import proofs.«01_k».proof.Proof.Gen.RmsMix.Skeleton
public import proofs.«01_k».proof.Proof.Gen.RmsMix.Launch
public import proofs.«01_k».proof.Proof.Gen.RmsMix.Points
public import proofs.«01_k».proof.Proof.Gen.RmsMix.Frame
public import proofs.«01_k».proof.Proof.Gen.RmsMixIdeal
public import proofs.«01_k».proof.Proof.Gen.RmsMixIdeal.Skeleton
public import proofs.«01_k».proof.Proof.Gen.RmsMixIdeal.Launch
public import proofs.«01_k».proof.Proof.Gen.RmsMixIdeal.Points
public import proofs.«01_k».proof.Proof.Gen.RmsMixIdeal.Frame
public import proofs.«01_k».proof.Proof.Gen.RmsMixRefIdeal
public import proofs.«01_k».proof.Proof.Gen.RmsMixRefIdeal.Run
public import proofs.«01_k».proof.Proof.Gen.RmsMixRefIdeal.Read
public import proofs.«01_k».proof.Proof.Rms.Mix.Equation
public import proofs.«01_k».proof.Proof.Gen.RmsMem
public import proofs.«01_k».proof.Proof.Gen.RmsMem.Skeleton
public import proofs.«01_k».proof.Proof.Gen.RmsMem.Launch
public import proofs.«01_k».proof.Proof.Gen.RmsMem.Points
public import proofs.«01_k».proof.Proof.Gen.RmsMem.Frame
public import proofs.«01_k».proof.Proof.Gen.RmsMemIdeal
public import proofs.«01_k».proof.Proof.Gen.RmsMemIdeal.Skeleton
public import proofs.«01_k».proof.Proof.Gen.RmsMemIdeal.Launch
public import proofs.«01_k».proof.Proof.Gen.RmsMemIdeal.Points
public import proofs.«01_k».proof.Proof.Gen.RmsMemIdeal.Frame
public import proofs.«01_k».proof.Proof.Gen.RmsMemRefIdeal
public import proofs.«01_k».proof.Proof.Gen.RmsMemRefIdeal.Run
public import proofs.«01_k».proof.Proof.Gen.RmsMemRefIdeal.Read
public import proofs.«01_k».proof.Proof.Rms.Mem.Equation
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.MergeFwd.Equation
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.MlpUp.Equation
public import proofs.«01_k».proof.Proof.Gen.RmsNorm
public import proofs.«01_k».proof.Proof.Gen.RmsNorm.Skeleton
public import proofs.«01_k».proof.Proof.Gen.RmsNorm.Launch
public import proofs.«01_k».proof.Proof.Gen.RmsNorm.Points
public import proofs.«01_k».proof.Proof.Gen.RmsNorm.Frame
public import proofs.«01_k».proof.Proof.Gen.RmsNormIdeal
public import proofs.«01_k».proof.Proof.Gen.RmsNormIdeal.Skeleton
public import proofs.«01_k».proof.Proof.Gen.RmsNormIdeal.Launch
public import proofs.«01_k».proof.Proof.Gen.RmsNormIdeal.Points
public import proofs.«01_k».proof.Proof.Gen.RmsNormIdeal.Frame
public import proofs.«01_k».proof.Proof.Gen.RmsNormRefIdeal
public import proofs.«01_k».proof.Proof.Gen.RmsNormRefIdeal.Run
public import proofs.«01_k».proof.Proof.Gen.RmsNormRefIdeal.Read
public import proofs.«01_k».proof.Proof.RmsNorm.Equation
public import proofs.«01_k».proof.Proof.Gen.ResNext
public import proofs.«01_k».proof.Proof.Gen.ResNext.Skeleton
public import proofs.«01_k».proof.Proof.Gen.ResNext.Launch
public import proofs.«01_k».proof.Proof.Gen.ResNext.Points
public import proofs.«01_k».proof.Proof.Gen.ResNext.Frame
public import proofs.«01_k».proof.Proof.Gen.ResNextIdeal
public import proofs.«01_k».proof.Proof.Gen.ResNextIdeal.Skeleton
public import proofs.«01_k».proof.Proof.Gen.ResNextIdeal.Launch
public import proofs.«01_k».proof.Proof.Gen.ResNextIdeal.Points
public import proofs.«01_k».proof.Proof.Gen.ResNextIdeal.Frame
public import proofs.«01_k».proof.Proof.Gen.ResNextRefIdeal
public import proofs.«01_k».proof.Proof.Gen.ResNextRefIdeal.Run
public import proofs.«01_k».proof.Proof.Gen.ResNextRefIdeal.Read
public import proofs.«01_k».proof.Proof.ResNext.Equation
public import proofs.«01_k».proof.Proof.Gen.ResNorm
public import proofs.«01_k».proof.Proof.Gen.ResNorm.Skeleton
public import proofs.«01_k».proof.Proof.Gen.ResNorm.Launch
public import proofs.«01_k».proof.Proof.Gen.ResNorm.Points
public import proofs.«01_k».proof.Proof.Gen.ResNorm.Frame
public import proofs.«01_k».proof.Proof.Gen.ResNormIdeal
public import proofs.«01_k».proof.Proof.Gen.ResNormIdeal.Skeleton
public import proofs.«01_k».proof.Proof.Gen.ResNormIdeal.Launch
public import proofs.«01_k».proof.Proof.Gen.ResNormIdeal.Points
public import proofs.«01_k».proof.Proof.Gen.ResNormIdeal.Frame
public import proofs.«01_k».proof.Proof.Gen.ResNormRefIdeal
public import proofs.«01_k».proof.Proof.Gen.ResNormRefIdeal.Run
public import proofs.«01_k».proof.Proof.Gen.ResNormRefIdeal.Read
public import proofs.«01_k».proof.Proof.ResNorm.Equation
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Proj.Equation
public import proofs.«01_k».proof.Proof.Gen.ProjBwd
public import proofs.«01_k».proof.Proof.Gen.ProjBwd.Skeleton
public import proofs.«01_k».proof.Proof.Gen.ProjBwd.Launch
public import proofs.«01_k».proof.Proof.Gen.ProjBwd.Points
public import proofs.«01_k».proof.Proof.Gen.ProjBwd.Frame
public import proofs.«01_k».proof.Proof.Gen.ProjBwdIdeal
public import proofs.«01_k».proof.Proof.Gen.ProjBwdIdeal.Skeleton
public import proofs.«01_k».proof.Proof.Gen.ProjBwdIdeal.Launch
public import proofs.«01_k».proof.Proof.Gen.ProjBwdIdeal.Points
public import proofs.«01_k».proof.Proof.Gen.ProjBwdIdeal.Frame
public import proofs.«01_k».proof.Proof.Gen.ProjBwdRefIdeal
public import proofs.«01_k».proof.Proof.Gen.ProjBwdRefIdeal.Run
public import proofs.«01_k».proof.Proof.Gen.ProjBwdRefIdeal.Read
public import proofs.«01_k».proof.Proof.ProjBwd.Equation
public import proofs.«01_k».proof.Proof.Gen.GwIn
public import proofs.«01_k».proof.Proof.Gen.GwIn.Skeleton
public import proofs.«01_k».proof.Proof.Gen.GwIn.Launch
public import proofs.«01_k».proof.Proof.Gen.GwIn.Points
public import proofs.«01_k».proof.Proof.Gen.GwIn.Frame
public import proofs.«01_k».proof.Proof.Gen.GwInIdeal
public import proofs.«01_k».proof.Proof.Gen.GwInIdeal.Skeleton
public import proofs.«01_k».proof.Proof.Gen.GwInIdeal.Launch
public import proofs.«01_k».proof.Proof.Gen.GwInIdeal.Points
public import proofs.«01_k».proof.Proof.Gen.GwInIdeal.Frame
public import proofs.«01_k».proof.Proof.Gen.GwInRefIdeal
public import proofs.«01_k».proof.Proof.Gen.GwInRefIdeal.Run
public import proofs.«01_k».proof.Proof.Gen.GwInRefIdeal.Read
public import proofs.«01_k».proof.Proof.GwIn.Equation
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Run
public import proofs.«01_k».proof.Proof.Gen.AdamRefIdeal.Read
public import proofs.«01_k».proof.Proof.Adam.Equation
public import proofs.«01_k».proof.Proof.Gen.Pre_finite_branch
public import proofs.«01_k».proof.Proof.Gen.Pre_finite_rms
public import proofs.«01_k».proof.Proof.Gen.Pre_finite_pre
public import proofs.«01_k».proof.Proof.Gen.Pre_finite_mix
public import proofs.«01_k».proof.Proof.Gen.Pre_finite_mem
public import Idealize.ShloMosaic.Adequacy
public import Idealize.ShloMosaic.Init

@[expose] public section

noncomputable section

namespace Cert.Proof

open Idealize.ShloMosaic Idealize.SL.Sem

theorem claim : Cert.Claim :=
  ⟨Cert.BranchBwd.Gen.facts,
    Cert.BranchBwdIdeal.Gen.facts,
    Cert.BranchBwdRefIdeal.Gen.facts,
    Cert.BranchFwd.Gen.facts,
    Cert.BranchFwdIdeal.Gen.facts,
    Cert.BranchFwdRefIdeal.Gen.facts,
    Cert.LossHead.Gen.facts,
    Cert.LossHeadIdeal.Gen.facts,
    Cert.LossHeadRefIdeal.Gen.facts,
    Cert.MergeBwd.Gen.facts,
    Cert.MergeBwdIdeal.Gen.facts,
    Cert.MergeBwdRefIdeal.Gen.facts,
    Cert.MlpDownBwd.Gen.facts,
    Cert.MlpDownBwdIdeal.Gen.facts,
    Cert.MlpDownBwdRefIdeal.Gen.facts,
    Cert.RmsTop.Gen.facts,
    Cert.RmsTopIdeal.Gen.facts,
    Cert.RmsTopRefIdeal.Gen.facts,
    Cert.RmsPre.Gen.facts,
    Cert.RmsPreIdeal.Gen.facts,
    Cert.RmsPreRefIdeal.Gen.facts,
    Cert.RmsMix.Gen.facts,
    Cert.RmsMixIdeal.Gen.facts,
    Cert.RmsMixRefIdeal.Gen.facts,
    Cert.RmsMem.Gen.facts,
    Cert.RmsMemIdeal.Gen.facts,
    Cert.RmsMemRefIdeal.Gen.facts,
    Cert.MergeFwd.Gen.facts,
    Cert.MergeFwdIdeal.Gen.facts,
    Cert.MergeFwdRefIdeal.Gen.facts,
    Cert.MlpUp.Gen.facts,
    Cert.MlpUpIdeal.Gen.facts,
    Cert.MlpUpRefIdeal.Gen.facts,
    Cert.RmsNorm.Gen.facts,
    Cert.RmsNormIdeal.Gen.facts,
    Cert.RmsNormRefIdeal.Gen.facts,
    Cert.ResNext.Gen.facts,
    Cert.ResNextIdeal.Gen.facts,
    Cert.ResNextRefIdeal.Gen.facts,
    Cert.ResNorm.Gen.facts,
    Cert.ResNormIdeal.Gen.facts,
    Cert.ResNormRefIdeal.Gen.facts,
    Cert.Proj.Gen.facts,
    Cert.ProjIdeal.Gen.facts,
    Cert.ProjRefIdeal.Gen.facts,
    Cert.ProjBwd.Gen.facts,
    Cert.ProjBwdIdeal.Gen.facts,
    Cert.ProjBwdRefIdeal.Gen.facts,
    Cert.GwIn.Gen.facts,
    Cert.GwInIdeal.Gen.facts,
    Cert.GwInRefIdeal.Gen.facts,
    Cert.Adam.Gen.facts,
    Cert.AdamIdeal.Gen.facts,
    Cert.AdamRefIdeal.Gen.facts,
    Cert.Pre_finite_branch.Gen.facts,
    Cert.Pre_finite_rms.Gen.facts,
    Cert.Pre_finite_pre.Gen.facts,
    Cert.Pre_finite_mix.Gen.facts,
    Cert.Pre_finite_mem.Gen.facts,
    Cert.BranchEq.frame_kernel,
    Cert.BranchEq.frame_ideal,
    fun m g _ => Cert.BranchEq.frame_ideal m g trivial,
    Cert.BranchEq.frame_ref,
    fun m g _ => Cert.BranchEq.frame_ref m g trivial,
    Cert.BranchFwdEq.frame_kernel,
    Cert.BranchFwdEq.frame_ideal,
    Cert.BranchFwdEq.frame_ref,
    Cert.Loss.frame_kernel,
    Cert.Loss.frame_ideal,
    Cert.Loss.frame_ref,
    Cert.MergeEq.frame_kernel,
    Cert.MergeEq.frame_ideal,
    Cert.MergeEq.frame_ref,
    Cert.DownEq.frame_kernel,
    Cert.DownEq.frame_ideal,
    Cert.DownEq.frame_ref,
    Cert.RmsTopEq.frame_kernel,
    Cert.RmsTopEq.frame_ideal,
    fun m g _ => Cert.RmsTopEq.frame_ideal m g trivial,
    Cert.RmsTopEq.frame_ref,
    fun m g _ => Cert.RmsTopEq.frame_ref m g trivial,
    Cert.RmsPreEq.frame_kernel,
    Cert.RmsPreEq.frame_ideal,
    fun m g _ => Cert.RmsPreEq.frame_ideal m g trivial,
    Cert.RmsPreEq.frame_ref,
    fun m g _ => Cert.RmsPreEq.frame_ref m g trivial,
    Cert.RmsMixEq.frame_kernel,
    Cert.RmsMixEq.frame_ideal,
    fun m g _ => Cert.RmsMixEq.frame_ideal m g trivial,
    Cert.RmsMixEq.frame_ref,
    fun m g _ => Cert.RmsMixEq.frame_ref m g trivial,
    Cert.RmsMemEq.frame_kernel,
    Cert.RmsMemEq.frame_ideal,
    fun m g _ => Cert.RmsMemEq.frame_ideal m g trivial,
    Cert.RmsMemEq.frame_ref,
    fun m g _ => Cert.RmsMemEq.frame_ref m g trivial,
    Cert.MergeFwdEq.frame_kernel,
    Cert.MergeFwdEq.frame_ideal,
    Cert.MergeFwdEq.frame_ref,
    Cert.MlpUpEq.frame_kernel,
    Cert.MlpUpEq.frame_ideal,
    Cert.MlpUpEq.frame_ref,
    Cert.RmsNormEq.frame_kernel,
    Cert.RmsNormEq.frame_ideal,
    Cert.RmsNormEq.frame_ref,
    Cert.ResNextEq.frame_kernel,
    Cert.ResNextEq.frame_ideal,
    Cert.ResNextEq.frame_ref,
    Cert.ResNormEq.frame_kernel,
    Cert.ResNormEq.frame_ideal,
    Cert.ResNormEq.frame_ref,
    Cert.ProjEq.frame_kernel,
    Cert.ProjEq.frame_ideal,
    Cert.ProjEq.frame_ref,
    Cert.ProjBwdEq.frame_kernel,
    Cert.ProjBwdEq.frame_ideal,
    Cert.ProjBwdEq.frame_ref,
    Cert.GwInEq.frame_kernel,
    Cert.GwInEq.frame_ideal,
    Cert.GwInEq.frame_ref,
    Cert.AdamEq.frame_kernel,
    Cert.AdamEq.frame_ideal,
    Cert.AdamEq.frame_ref,
    trivial,
    Cert.BranchEq.algebraic,
    trivial,
    Cert.BranchFwdEq.algebraic,
    trivial,
    Cert.Loss.algebraic,
    trivial,
    Cert.MergeEq.algebraic,
    trivial,
    Cert.DownEq.algebraic,
    trivial,
    Cert.RmsTopEq.algebraic,
    trivial,
    Cert.RmsPreEq.algebraic,
    trivial,
    Cert.RmsMixEq.algebraic,
    trivial,
    Cert.RmsMemEq.algebraic,
    trivial,
    Cert.MergeFwdEq.algebraic,
    trivial,
    Cert.MlpUpEq.algebraic,
    trivial,
    Cert.RmsNormEq.algebraic,
    trivial,
    Cert.ResNextEq.algebraic,
    trivial,
    Cert.ResNormEq.algebraic,
    trivial,
    Cert.ProjEq.algebraic,
    trivial,
    Cert.ProjBwdEq.algebraic,
    trivial,
    Cert.GwInEq.algebraic,
    trivial,
    Cert.AdamEq.algebraic⟩

end Cert.Proof

end
